-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v77_0)) (v1 : (c : Dev Cert.Kernel3Ideal.nD) → Buf (Elt Ideal) ((c.tc : Thread Cert.Kernel3Ideal.nD Cert.Kernel3Ideal.τ).loc Cert.Kernel3Ideal.main_v77_1)) (v2 : (c : Dev Cert.Kernel3Ideal.nD) → Buf (Elt Ideal) ((c.tc : Thread Cert.Kernel3Ideal.nD Cert.Kernel3Ideal.τ).loc Cert.Kernel3Ideal.main_v77_2)) (v3 : (c : Dev Cert.Kernel3Ideal.nD) → Buf (Elt Ideal) ((c.tc : Thread Cert.Kernel3Ideal.nD Cert.Kernel3Ideal.τ).loc Cert.Kernel3Ideal.main_v77_3)) (v4 : (c : Dev Cert.Kernel3Ideal.nD) → Buf (Elt Ideal) ((c.tc : Thread Cert.Kernel3Ideal.nD Cert.Kernel3Ideal.τ).loc Cert.Kernel3Ideal.main_v77_4)) (v5 : (c : Dev Cert.Kernel3Ideal.nD) → Buf (Elt Ideal) ((c.tc : Thread Cert.Kernel3Ideal.nD Cert.Kernel3Ideal.τ).loc Cert.Kernel3Ideal.main_v77_5)) (v6 : (c : Dev Cert.Kernel3Ideal.nD) → Buf (Elt Ideal) ((c.tc : Thread Cert.Kernel3Ideal.nD Cert.Kernel3Ideal.τ).loc Cert.Kernel3Ideal.main_v77_6)) (v7 : (c : Dev Cert.Kernel3Ideal.nD) → Buf (Elt Ideal) ((c.tc : Thread Cert.Kernel3Ideal.nD Cert.Kernel3Ideal.τ).loc Cert.Kernel3Ideal.main_v77_7)) (v8 : (c : Dev Cert.Kernel3Ideal.nD) → Buf (Elt Ideal) ((c.tc : Thread Cert.Kernel3Ideal.nD Cert.Kernel3Ideal.τ).loc Cert.Kernel3Ideal.main_v77_8)) (v9 : (c : Dev Cert.Kernel3Ideal.nD) → Buf (Elt Ideal) ((c.tc : Thread Cert.Kernel3Ideal.nD Cert.Kernel3Ideal.τ).loc Cert.Kernel3Ideal.main_v77_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v77_0) = v0 c
          ∧ r.2.mem ((c.tc : Thread Cert.Kernel3Ideal.nD Cert.Kernel3Ideal.τ).loc Cert.Kernel3Ideal.main_v77_1) = v1 c
          ∧ r.2.mem ((c.tc : Thread Cert.Kernel3Ideal.nD Cert.Kernel3Ideal.τ).loc Cert.Kernel3Ideal.main_v77_2) = v2 c
          ∧ r.2.mem ((c.tc : Thread Cert.Kernel3Ideal.nD Cert.Kernel3Ideal.τ).loc Cert.Kernel3Ideal.main_v77_3) = v3 c
          ∧ r.2.mem ((c.tc : Thread Cert.Kernel3Ideal.nD Cert.Kernel3Ideal.τ).loc Cert.Kernel3Ideal.main_v77_4) = v4 c
          ∧ r.2.mem ((c.tc : Thread Cert.Kernel3Ideal.nD Cert.Kernel3Ideal.τ).loc Cert.Kernel3Ideal.main_v77_5) = v5 c
          ∧ r.2.mem ((c.tc : Thread Cert.Kernel3Ideal.nD Cert.Kernel3Ideal.τ).loc Cert.Kernel3Ideal.main_v77_6) = v6 c
          ∧ r.2.mem ((c.tc : Thread Cert.Kernel3Ideal.nD Cert.Kernel3Ideal.τ).loc Cert.Kernel3Ideal.main_v77_7) = v7 c
          ∧ r.2.mem ((c.tc : Thread Cert.Kernel3Ideal.nD Cert.Kernel3Ideal.τ).loc Cert.Kernel3Ideal.main_v77_8) = v8 c
          ∧ r.2.mem ((c.tc : Thread Cert.Kernel3Ideal.nD Cert.Kernel3Ideal.τ).loc Cert.Kernel3Ideal.main_v77_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v328) = v0 c
          ∧ r.2.mem ((c.tc : Thread Cert.Reference3Ideal.nD Cert.Reference3Ideal.τ).loc Cert.Reference3Ideal.main_v330) = v1 c
          ∧ r.2.mem ((c.tc : Thread Cert.Reference3Ideal.nD Cert.Reference3Ideal.τ).loc Cert.Reference3Ideal.main_v332) = v2 c
          ∧ r.2.mem ((c.tc : Thread Cert.Reference3Ideal.nD Cert.Reference3Ideal.τ).loc Cert.Reference3Ideal.main_v334) = v3 c
          ∧ r.2.mem ((c.tc : Thread Cert.Reference3Ideal.nD Cert.Reference3Ideal.τ).loc Cert.Reference3Ideal.main_v336) = v4 c
          ∧ r.2.mem ((c.tc : Thread Cert.Reference3Ideal.nD Cert.Reference3Ideal.τ).loc Cert.Reference3Ideal.main_v340) = v5 c
          ∧ r.2.mem ((c.tc : Thread Cert.Reference3Ideal.nD Cert.Reference3Ideal.τ).loc Cert.Reference3Ideal.main_v343) = v6 c
          ∧ r.2.mem ((c.tc : Thread Cert.Reference3Ideal.nD Cert.Reference3Ideal.τ).loc Cert.Reference3Ideal.main_v347) = v7 c
          ∧ r.2.mem ((c.tc : Thread Cert.Reference3Ideal.nD Cert.Reference3Ideal.τ).loc Cert.Reference3Ideal.main_v351) = v8 c
          ∧ r.2.mem ((c.tc : Thread Cert.Reference3Ideal.nD Cert.Reference3Ideal.τ).loc Cert.Reference3Ideal.main_v353) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x16x512x256 : Shape := ⟨4, ![4, 16, 512, 256]⟩
abbrev S4x16x16x256 : Shape := ⟨4, ![4, 16, 16, 256]⟩
abbrev S4x4096x512 : Shape := ⟨3, ![4, 4096, 512]⟩
abbrev S4x4096x64 : Shape := ⟨3, ![4, 4096, 64]⟩
abbrev S1x1x512x256 : Shape := ⟨4, ![1, 1, 512, 256]⟩
abbrev S1x1x16x256 : Shape := ⟨4, ![1, 1, 16, 256]⟩
abbrev S1x4096x512 : Shape := ⟨3, ![1, 4096, 512]⟩
abbrev S1x4096x64 : Shape := ⟨3, ![1, 4096, 64]⟩
abbrev S1x16x512x256 : Shape := ⟨4, ![1, 16, 512, 256]⟩
abbrev S1x256x512 : Shape := ⟨3, ![1, 256, 512]⟩
abbrev S16x256x256 : Shape := ⟨3, ![16, 256, 256]⟩
abbrev S3x16x256x256 : Shape := ⟨4, ![3, 16, 256, 256]⟩
abbrev S64x256x256 : Shape := ⟨3, ![64, 256, 256]⟩
abbrev S512x256 : Shape := ⟨2, ![512, 256]⟩
abbrev S8x256 : Shape := ⟨2, ![8, 256]⟩
abbrev S1x256x64 : Shape := ⟨3, ![1, 256, 64]⟩
abbrev S256x64 : Shape := ⟨2, ![256, 64]⟩
abbrev S256x256 : Shape := ⟨2, ![256, 256]⟩
abbrev S1x1x64x256 : Shape := ⟨4, ![1, 1, 64, 256]⟩
abbrev S64x256 : Shape := ⟨2, ![64, 256]⟩
abbrev S1x1x1x256 : Shape := ⟨4, ![1, 1, 1, 256]⟩
abbrev S1x256 : Shape := ⟨2, ![1, 256]⟩
abbrev S1x256x256 : Shape := ⟨3, ![1, 256, 256]⟩
abbrev S256 : Shape := ⟨1, ![256]⟩
abbrev S1x1x256x256 : Shape := ⟨4, ![1, 1, 256, 256]⟩
abbrev S16x256 : Shape := ⟨2, ![16, 256]⟩
abbrev S1x1x256 : Shape := ⟨3, ![1, 1, 256]⟩
abbrev S1 : Shape := ⟨1, ![1]⟩
abbrev S1x1x1 : Shape := ⟨3, ![1, 1, 1]⟩
abbrev S1x8x256 : Shape := ⟨3, ![1, 8, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256x512 : Shape := ⟨2, ![256, 512]⟩

abbrev nBuf : Space → Nat
  | .hbm => 8
  | .vmem => 21
  | .smem => 0
  | _ => 0

abbrev bufTy : (tb : Table) → Fin (tcTables nBuf tb) → BufTy
  | .hbm, ⟨0, _⟩ => ⟨S4x16x512x256, .bf16⟩
  | .hbm, ⟨1, _⟩ => ⟨S4x16x512x256, .bf16⟩
  | .hbm, ⟨2, _⟩ => ⟨S4x16x16x256, .f32⟩
  | .hbm, ⟨3, _⟩ => ⟨S4x16x512x256, .bf16⟩
  | .hbm, ⟨4, _⟩ => ⟨S4x4096x512, .bf16⟩
  | .hbm, ⟨5, _⟩ => ⟨S4x4096x64, .bf16⟩
  | .hbm, ⟨6, _⟩ => ⟨S4x16x512x256, .bf16⟩
  | .hbm, ⟨7, _⟩ => ⟨S4x4096x512, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x16x256, .f32⟩
  | .local _ .vmem, ⟨5, _⟩ => ⟨S1x1x16x256, .f32⟩
  | .local _ .vmem, ⟨6, _⟩ => ⟨S1x1x512x256, .bf16⟩
  | .local _ .vmem, ⟨7, _⟩ => ⟨S1x1x512x256, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x16x512x256, .bf16⟩
  | .local _ .vmem, ⟨13, _⟩ => ⟨S1x16x512x256, .bf16⟩
  | .local _ .vmem, ⟨14, _⟩ => ⟨S1x256x512, .bf16⟩
  | .local _ .vmem, ⟨15, _⟩ => ⟨S1x256x512, .bf16⟩
  | .local _ .vmem, ⟨16, _⟩ => ⟨S16x256x256, .f32⟩
  | .local _ .vmem, ⟨17, _⟩ => ⟨S16x256x256, .f32⟩
  | .local _ .vmem, ⟨18, _⟩ => ⟨S3x16x256x256, .bf16⟩
  | .local _ .vmem, ⟨19, _⟩ => ⟨S64x256x256, .f32⟩
  | .local _ .vmem, ⟨20, _⟩ => ⟨S512x256, .f32⟩
  | _, _ => ⟨S4x16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_8 : BitVec 32 := 1#32
  ⟨c0_i32_6, v24, c1_i32_8⟩
def k0_mult1 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c0_i32_168 : BitVec 32 := 0#32
  let v290 : BitVec 32 := Scalar.addi v289 c0_i32_168
  let c256_i32_169 : BitVec 32 := 256#32
  let v291 : BitVec 32 := Scalar.muli v290 c256_i32_169
  v291
def k0_off1 (i : grid0.Coords) (k0_t1 : Fin (k0_t1_loop i).trips) (c0_i32_168 : BitVec 32) : Fin 3 → Nat :=
  let c0_170 : Index := 0#32
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let v290 : BitVec 32 := Scalar.addi v289 c0_i32_168
  let c256_i32_169 : BitVec 32 := 256#32
  let v291 : BitVec 32 := Scalar.muli v290 c256_i32_169
  let v292 : BitVec 32 := v291
  let v293 : Index := Scalar.indexCast v292
  let c0_171 : Index := 0#32
  ![0, v293.toNat, 0]
def k0_off2 (i : grid0.Coords) (k0_t1 : Fin (k0_t1_loop i).trips) (c0_i32_168 : BitVec 32) : Fin 3 → Nat :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let v290 : BitVec 32 := Scalar.addi v289 c0_i32_168
  let v435 : Index := Scalar.indexCast v290
  let c0_258 : Index := 0#32
  let c0_259 : Index := 0#32
  ![v435.toNat, 0, 0]
def k0_mult2 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c1_i32_262 : BitVec 32 := 1#32
  let v571 : BitVec 32 := Scalar.addi v289 c1_i32_262
  let c256_i32_263 : BitVec 32 := 256#32
  let v572 : BitVec 32 := Scalar.muli v571 c256_i32_263
  v572
def k0_mult3 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c2_i32_367 : BitVec 32 := 2#32
  let v852 : BitVec 32 := Scalar.addi v289 c2_i32_367
  let c256_i32_368 : BitVec 32 := 256#32
  let v853 : BitVec 32 := Scalar.muli v852 c256_i32_368
  v853
def k0_mult4 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c3_i32 : BitVec 32 := 3#32
  let v1133 : BitVec 32 := Scalar.addi v289 c3_i32
  let c256_i32_472 : BitVec 32 := 256#32
  let v1134 : BitVec 32 := Scalar.muli v1133 c256_i32_472
  v1134
def k0_mult5 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c4_i32_576 : BitVec 32 := 4#32
  let v1414 : BitVec 32 := Scalar.addi v289 c4_i32_576
  let c256_i32_577 : BitVec 32 := 256#32
  let v1415 : BitVec 32 := Scalar.muli v1414 c256_i32_577
  v1415
def k0_mult6 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c5_i32 : BitVec 32 := 5#32
  let v1695 : BitVec 32 := Scalar.addi v289 c5_i32
  let c256_i32_681 : BitVec 32 := 256#32
  let v1696 : BitVec 32 := Scalar.muli v1695 c256_i32_681
  v1696
def k0_mult7 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c6_i32 : BitVec 32 := 6#32
  let v1976 : BitVec 32 := Scalar.addi v289 c6_i32
  let c256_i32_785 : BitVec 32 := 256#32
  let v1977 : BitVec 32 := Scalar.muli v1976 c256_i32_785
  v1977
def k0_mult8 (i : grid0.Coords) (k0_t1 : Fin (k0_t1_loop i).trips) : BitVec 32 :=
  let c8_i32_167 : BitVec 32 := 8#32
  let c0_i32_6 : BitVec 32 := 0#32
  let c1_i32_8 : BitVec 32 := 1#32
  let arg15 : BitVec 32 := Scf.iv c0_i32_6 c1_i32_8 k0_t1
  let v289 : BitVec 32 := Scalar.muli c8_i32_167 arg15
  let c7_i32 : BitVec 32 := 7#32
  let v2257 : BitVec 32 := Scalar.addi v289 c7_i32
  let c256_i32_889 : BitVec 32 := 256#32
  let v2258 : BitVec 32 := Scalar.muli v2257 c256_i32_889
  v2258
@[reducible] def k0_t2_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let v21 : BitVec 32 := Scalar.addi c0_i32_6 v20
  let c1_i32_9 : BitVec 32 := 1#32
  ⟨v24, v21, c1_i32_9⟩
def k0_mult9 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c0_i32_168 : BitVec 32 := 0#32
  let v290 : BitVec 32 := Scalar.addi v289 c0_i32_168
  let c256_i32_169 : BitVec 32 := 256#32
  let v291 : BitVec 32 := Scalar.muli v290 c256_i32_169
  v291
def k0_off3 (i : grid0.Coords) (k0_t2 : Fin (k0_t2_loop i).trips) (c0_i32_168 : BitVec 32) : Fin 3 → Nat :=
  let c0_170 : Index := 0#32
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let v290 : BitVec 32 := Scalar.addi v289 c0_i32_168
  let c256_i32_169 : BitVec 32 := 256#32
  let v291 : BitVec 32 := Scalar.muli v290 c256_i32_169
  let v292 : BitVec 32 := v291
  let v293 : Index := Scalar.indexCast v292
  let c0_171 : Index := 0#32
  ![0, v293.toNat, 0]
def k0_off4 (i : grid0.Coords) (k0_t2 : Fin (k0_t2_loop i).trips) (c0_i32_168 : BitVec 32) : Fin 3 → Nat :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let v290 : BitVec 32 := Scalar.addi v289 c0_i32_168
  let v435 : Index := Scalar.indexCast v290
  let c0_258 : Index := 0#32
  let c0_259 : Index := 0#32
  ![v435.toNat, 0, 0]
def k0_mult10 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c1_i32_262 : BitVec 32 := 1#32
  let v571 : BitVec 32 := Scalar.addi v289 c1_i32_262
  let c256_i32_263 : BitVec 32 := 256#32
  let v572 : BitVec 32 := Scalar.muli v571 c256_i32_263
  v572
def k0_mult11 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c2_i32_367 : BitVec 32 := 2#32
  let v852 : BitVec 32 := Scalar.addi v289 c2_i32_367
  let c256_i32_368 : BitVec 32 := 256#32
  let v853 : BitVec 32 := Scalar.muli v852 c256_i32_368
  v853
def k0_mult12 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c3_i32 : BitVec 32 := 3#32
  let v1133 : BitVec 32 := Scalar.addi v289 c3_i32
  let c256_i32_472 : BitVec 32 := 256#32
  let v1134 : BitVec 32 := Scalar.muli v1133 c256_i32_472
  v1134
def k0_mult13 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c4_i32_576 : BitVec 32 := 4#32
  let v1414 : BitVec 32 := Scalar.addi v289 c4_i32_576
  let c256_i32_577 : BitVec 32 := 256#32
  let v1415 : BitVec 32 := Scalar.muli v1414 c256_i32_577
  v1415
def k0_mult14 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c5_i32 : BitVec 32 := 5#32
  let v1695 : BitVec 32 := Scalar.addi v289 c5_i32
  let c256_i32_681 : BitVec 32 := 256#32
  let v1696 : BitVec 32 := Scalar.muli v1695 c256_i32_681
  v1696
def k0_mult15 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c6_i32 : BitVec 32 := 6#32
  let v1976 : BitVec 32 := Scalar.addi v289 c6_i32
  let c256_i32_785 : BitVec 32 := 256#32
  let v1977 : BitVec 32 := Scalar.muli v1976 c256_i32_785
  v1977
def k0_mult16 (i : grid0.Coords) (k0_t2 : Fin (k0_t2_loop i).trips) : BitVec 32 :=
  let c8_i32_167 : BitVec 32 := 8#32
  let c0_i32_6 : BitVec 32 := 0#32
  let arg1 : BitVec 32 := BitVec.ofNat 32 (i 1).val
  let c1_i32 : BitVec 32 := 1#32
  let v0 : BitVec 32 := Scalar.addi arg1 c1_i32
  let c0_i32 : BitVec 32 := 0#32
  let v4 : BitVec 1 := Scalar.cmpi .sgt v0 c0_i32
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c8_i32 : BitVec 32 := 8#32
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v0 c8_i32
  let c0_i32_4 : BitVec 32 := 0#32
  let v16 : BitVec 1 := Scalar.cmpi .ne v15 c0_i32_4
  let v17 : BitVec 1 := Scalar.andi v14 v16
  let v3 : BitVec 32 := Scalar.divsi v0 c8_i32
  let c1_i32_5 : BitVec 32 := 1#32
  let v18 : BitVec 32 := Scalar.subi v3 c1_i32_5
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg15 : BitVec 32 := Scf.iv v24 c1_i32_9 k0_t2
  let v289 : BitVec 32 := Scalar.muli c8_i32_167 arg15
  let c7_i32 : BitVec 32 := 7#32
  let v2257 : BitVec 32 := Scalar.addi v289 c7_i32
  let c256_i32_889 : BitVec 32 := 256#32
  let v2258 : BitVec 32 := Scalar.muli v2257 c256_i32_889
  v2258
def k0_cond1 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v28 : BitVec 32 := Scalar.andi v0 c4_i32
  let c4_i32_10 : BitVec 32 := 4#32
  let v29 : BitVec 1 := Scalar.cmpi .eq v28 c4_i32_10
  let v30 : BitVec 32 := Scalar.extui v29
  let c0_i32_11 : BitVec 32 := 0#32
  let v31 : BitVec 1 := Scalar.cmpi .ne v30 c0_i32_11
  v31

def k0_mult17 (i : grid0.Coords) : BitVec 32 :=
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let c0_i32_167 : BitVec 32 := 0#32
  let v289 : BitVec 32 := Scalar.addi v27 c0_i32_167
  let c256_i32_168 : BitVec 32 := 256#32
  let v290 : BitVec 32 := Scalar.muli v289 c256_i32_168
  v290
def k0_off5 (i : grid0.Coords) (c0_i32_167 : BitVec 32) : Fin 3 → Nat :=
  let c0_169 : Index := 0#32
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let v289 : BitVec 32 := Scalar.addi v27 c0_i32_167
  let c256_i32_168 : BitVec 32 := 256#32
  let v290 : BitVec 32 := Scalar.muli v289 c256_i32_168
  let v291 : BitVec 32 := v290
  let v292 : Index := Scalar.indexCast v291
  let c0_170 : Index := 0#32
  ![0, v292.toNat, 0]
def k0_off6 (i : grid0.Coords) (c0_i32_167 : BitVec 32) : Fin 3 → Nat :=
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let v289 : BitVec 32 := Scalar.addi v27 c0_i32_167
  let v434 : Index := Scalar.indexCast v289
  let c0_257 : Index := 0#32
  let c0_258 : Index := 0#32
  ![v434.toNat, 0, 0]
def k0_mult18 (i : grid0.Coords) : BitVec 32 :=
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let c1_i32_261 : BitVec 32 := 1#32
  let v570 : BitVec 32 := Scalar.addi v27 c1_i32_261
  let c256_i32_262 : BitVec 32 := 256#32
  let v571 : BitVec 32 := Scalar.muli v570 c256_i32_262
  v571
def k0_mult19 (i : grid0.Coords) : BitVec 32 :=
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let c2_i32_366 : BitVec 32 := 2#32
  let v851 : BitVec 32 := Scalar.addi v27 c2_i32_366
  let c256_i32_367 : BitVec 32 := 256#32
  let v852 : BitVec 32 := Scalar.muli v851 c256_i32_367
  v852
def k0_mult20 (i : grid0.Coords) : BitVec 32 :=
  let arg1 : BitVec 32 := BitVec.ofNat 32 (i 1).val
  let c1_i32 : BitVec 32 := 1#32
  let v0 : BitVec 32 := Scalar.addi arg1 c1_i32
  let c_m8_i32 : BitVec 32 := 4294967288#32
  let v27 : BitVec 32 := Scalar.andi v0 c_m8_i32
  let c3_i32 : BitVec 32 := 3#32
  let v1132 : BitVec 32 := Scalar.addi v27 c3_i32
  let c256_i32_471 : BitVec 32 := 256#32
  let v1133 : BitVec 32 := Scalar.muli v1132 c256_i32_471
  v1133
def k0_cond2 (i : grid0.Coords) : BitVec 1 :=
  let arg1 : BitVec 32 := BitVec.ofNat 32 (i 1).val
  let c1_i32 : BitVec 32 := 1#32
  let v0 : BitVec 32 := Scalar.addi arg1 c1_i32
  let c2_i32 : BitVec 32 := 2#32
  let v34 : BitVec 32 := Scalar.andi v0 c2_i32
  let c2_i32_12 : BitVec 32 := 2#32
  let v35 : BitVec 1 := Scalar.cmpi .eq v34 c2_i32_12
  let v36 : BitVec 32 := Scalar.extui v35
  let c0_i32_13 : BitVec 32 := 0#32
  let v37 : BitVec 1 := Scalar.cmpi .ne v36 c0_i32_13
  v37

def k0_mult21 (i : grid0.Coords) : BitVec 32 :=
  let arg1 : BitVec 32 := BitVec.ofNat 32 (i 1).val
  let c1_i32 : BitVec 32 := 1#32
  let v0 : BitVec 32 := Scalar.addi arg1 c1_i32
  let c_m4_i32 : BitVec 32 := 4294967292#32
  let v33 : BitVec 32 := Scalar.andi v0 c_m4_i32
  let c0_i32_167 : BitVec 32 := 0#32
  let v289 : BitVec 32 := Scalar.addi v33 c0_i32_167
  let c256_i32_168 : BitVec 32 := 256#32
  let v290 : BitVec 32 := Scalar.muli v289 c256_i32_168
  v290
def k0_off7 (i : grid0.Coords) (c0_i32_167 : BitVec 32) : Fin 3 → Nat :=
  let c0_169 : Index := 0#32
  let arg1 : BitVec 32 := BitVec.ofNat 32 (i 1).val
  let c1_i32 : BitVec 32 := 1#32
  let v0 : BitVec 32 := Scalar.addi arg1 c1_i32
  let c_m4_i32 : BitVec 32 := 4294967292#32
  let v33 : BitVec 32 := Scalar.andi v0 c_m4_i32
  let v289 : BitVec 32 := Scalar.addi v33 c0_i32_167
  let c256_i32_168 : BitVec 32 := 256#32
  let v290 : BitVec 32 := Scalar.muli v289 c256_i32_168
  let v291 : BitVec 32 := v290
  let v292 : Index := Scalar.indexCast v291
  let c0_170 : Index := 0#32
  ![0, v292.toNat, 0]
def k0_off8 (i : grid0.Coords) (c0_i32_167 : BitVec 32) : Fin 3 → Nat :=
  let arg1 : BitVec 32 := BitVec.ofNat 32 (i 1).val
  let c1_i32 : BitVec 32 := 1#32
  let v0 : BitVec 32 := Scalar.addi arg1 c1_i32
  let c_m4_i32 : BitVec 32 := 4294967292#32
  let v33 : BitVec 32 := Scalar.andi v0 c_m4_i32
  let v289 : BitVec 32 := Scalar.addi v33 c0_i32_167
  let v434 : Index := Scalar.indexCast v289
  let c0_257 : Index := 0#32
  let c0_258 : Index := 0#32
  ![v434.toNat, 0, 0]
def k0_mult22 (i : grid0.Coords) : BitVec 32 :=
  let arg1 : BitVec 32 := BitVec.ofNat 32 (i 1).val
  let c1_i32 : BitVec 32 := 1#32
  let v0 : BitVec 32 := Scalar.addi arg1 c1_i32
  let c_m4_i32 : BitVec 32 := 4294967292#32
  let v33 : BitVec 32 := Scalar.andi v0 c_m4_i32
  let c1_i32_261 : BitVec 32 := 1#32
  let v570 : BitVec 32 := Scalar.addi v33 c1_i32_261
  let c256_i32_262 : BitVec 32 := 256#32
  let v571 : BitVec 32 := Scalar.muli v570 c256_i32_262
  v571
def k0_cond3 (i : grid0.Coords) : BitVec 1 :=
  let arg1 : BitVec 32 := BitVec.ofNat 32 (i 1).val
  let c1_i32 : BitVec 32 := 1#32
  let v0 : BitVec 32 := Scalar.addi arg1 c1_i32
  let c1_i32_14 : BitVec 32 := 1#32
  let v40 : BitVec 32 := Scalar.andi v0 c1_i32_14
  let c1_i32_15 : BitVec 32 := 1#32
  let v41 : BitVec 1 := Scalar.cmpi .eq v40 c1_i32_15
  let v42 : BitVec 32 := Scalar.extui v41
  let c0_i32_16 : BitVec 32 := 0#32
  let v43 : BitVec 1 := Scalar.cmpi .ne v42 c0_i32_16
  v43

def k0_mult23 (i : grid0.Coords) : BitVec 32 :=
  let arg1 : BitVec 32 := BitVec.ofNat 32 (i 1).val
  let c1_i32 : BitVec 32 := 1#32
  let v0 : BitVec 32 := Scalar.addi arg1 c1_i32
  let c_m2_i32 : BitVec 32 := 4294967294#32
  let v39 : BitVec 32 := Scalar.andi v0 c_m2_i32
  let c0_i32_167 : BitVec 32 := 0#32
  let v289 : BitVec 32 := Scalar.addi v39 c0_i32_167
  let c256_i32_168 : BitVec 32 := 256#32
  let v290 : BitVec 32 := Scalar.muli v289 c256_i32_168
  v290
def k0_off9 (i : grid0.Coords) : Fin 3 → Nat :=
  let c0_169 : Index := 0#32
  let arg1 : BitVec 32 := BitVec.ofNat 32 (i 1).val
  let c1_i32 : BitVec 32 := 1#32
  let v0 : BitVec 32 := Scalar.addi arg1 c1_i32
  let c_m2_i32 : BitVec 32 := 4294967294#32
  let v39 : BitVec 32 := Scalar.andi v0 c_m2_i32
  let c0_i32_167 : BitVec 32 := 0#32
  let v289 : BitVec 32 := Scalar.addi v39 c0_i32_167
  let c256_i32_168 : BitVec 32 := 256#32
  let v290 : BitVec 32 := Scalar.muli v289 c256_i32_168
  let v291 : BitVec 32 := v290
  let v292 : Index := Scalar.indexCast v291
  let c0_170 : Index := 0#32
  ![0, v292.toNat, 0]
def k0_off10 (i : grid0.Coords) : Fin 3 → Nat :=
  let arg1 : BitVec 32 := BitVec.ofNat 32 (i 1).val
  let c1_i32 : BitVec 32 := 1#32
  let v0 : BitVec 32 := Scalar.addi arg1 c1_i32
  let c_m2_i32 : BitVec 32 := 4294967294#32
  let v39 : BitVec 32 := Scalar.andi v0 c_m2_i32
  let c0_i32_167 : BitVec 32 := 0#32
  let v289 : BitVec 32 := Scalar.addi v39 c0_i32_167
  let v434 : Index := Scalar.indexCast v289
  let c0_257 : Index := 0#32
  let c0_258 : Index := 0#32
  ![v434.toNat, 0, 0]
@[reducible] def k0_t3_loop (i : grid0.Coords) : Scf.Loop 32 :=
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_27 : BitVec 32 := 1#32
  ⟨c0_i32_25, v64, c1_i32_27⟩
def k0_off11 (i : grid0.Coords) (k0_t3 : Fin (k0_t3_loop i).trips) : Fin 3 → Nat :=
  let c0_i32_25 : BitVec 32 := 0#32
  let c1_i32_27 : BitVec 32 := 1#32
  let arg15 : BitVec 32 := Scf.iv c0_i32_25 c1_i32_27 k0_t3
  let v289 : Index := Scalar.indexCast arg15
  let c0_167 : Index := 0#32
  let c0_168 : Index := 0#32
  ![v289.toNat, 0, 0]
def k0_off12 (i : grid0.Coords) (k0_t3 : Fin (k0_t3_loop i).trips) : Fin 4 → Nat :=
  let c0_176 : Index := 0#32
  let c0_i32_25 : BitVec 32 := 0#32
  let c1_i32_27 : BitVec 32 := 1#32
  let arg15 : BitVec 32 := Scf.iv c0_i32_25 c1_i32_27 k0_t3
  let v315 : Index := Scalar.indexCast arg15
  let c0_177 : Index := 0#32
  let c0_178 : Index := 0#32
  ![0, v315.toNat, 0, 0]
def k0_off13 (i : grid0.Coords) (k0_t3 : Fin (k0_t3_loop i).trips) : Fin 4 → Nat :=
  let c1 : Index := 1#32
  let c0_i32_25 : BitVec 32 := 0#32
  let c1_i32_27 : BitVec 32 := 1#32
  let arg15 : BitVec 32 := Scf.iv c0_i32_25 c1_i32_27 k0_t3
  let v320 : Index := Scalar.indexCast arg15
  let c0_179 : Index := 0#32
  let c0_180 : Index := 0#32
  ![1, v320.toNat, 0, 0]
def k0_off14 (i : grid0.Coords) (k0_t3 : Fin (k0_t3_loop i).trips) : Fin 4 → Nat :=
  let c2 : Index := 2#32
  let c0_i32_25 : BitVec 32 := 0#32
  let c1_i32_27 : BitVec 32 := 1#32
  let arg15 : BitVec 32 := Scf.iv c0_i32_25 c1_i32_27 k0_t3
  let v328 : Index := Scalar.indexCast arg15
  let c0_182 : Index := 0#32
  let c0_183 : Index := 0#32
  ![2, v328.toNat, 0, 0]
@[reducible] def k0_t4_loop (i : grid0.Coords) : Scf.Loop 32 :=
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let v61 : BitVec 32 := Scalar.addi c0_i32_25 v60
  let c1_i32_28 : BitVec 32 := 1#32
  ⟨v64, v61, c1_i32_28⟩
def k0_off15 (i : grid0.Coords) (k0_t4 : Fin (k0_t4_loop i).trips) : Fin 3 → Nat :=
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg15 : BitVec 32 := Scf.iv v64 c1_i32_28 k0_t4
  let v289 : Index := Scalar.indexCast arg15
  let c0_167 : Index := 0#32
  let c0_168 : Index := 0#32
  ![v289.toNat, 0, 0]
def k0_off16 (i : grid0.Coords) (k0_t4 : Fin (k0_t4_loop i).trips) : Fin 4 → Nat :=
  let c0_176 : Index := 0#32
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg15 : BitVec 32 := Scf.iv v64 c1_i32_28 k0_t4
  let v315 : Index := Scalar.indexCast arg15
  let c0_177 : Index := 0#32
  let c0_178 : Index := 0#32
  ![0, v315.toNat, 0, 0]
def k0_off17 (i : grid0.Coords) (k0_t4 : Fin (k0_t4_loop i).trips) : Fin 4 → Nat :=
  let c1 : Index := 1#32
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg15 : BitVec 32 := Scf.iv v64 c1_i32_28 k0_t4
  let v320 : Index := Scalar.indexCast arg15
  let c0_179 : Index := 0#32
  let c0_180 : Index := 0#32
  ![1, v320.toNat, 0, 0]
def k0_off18 (i : grid0.Coords) (k0_t4 : Fin (k0_t4_loop i).trips) : Fin 4 → Nat :=
  let c2 : Index := 2#32
  let c0_i32_25 : BitVec 32 := 0#32
  let arg1 : BitVec 32 := BitVec.ofNat 32 (i 1).val
  let c1_i32 : BitVec 32 := 1#32
  let v0 : BitVec 32 := Scalar.addi arg1 c1_i32
  let v60 : BitVec 32 := Scalar.subi v0 c0_i32_25
  let c1_i32_26 : BitVec 32 := 1#32
  let v62 : BitVec 32 := Scalar.divsi v60 c1_i32_26
  let v63 : BitVec 32 := Scalar.muli v62 c1_i32_26
  let v64 : BitVec 32 := Scalar.addi c0_i32_25 v63
  let c1_i32_28 : BitVec 32 := 1#32
  let arg15 : BitVec 32 := Scf.iv v64 c1_i32_28 k0_t4
  let v328 : Index := Scalar.indexCast arg15
  let c0_182 : Index := 0#32
  let c0_183 : Index := 0#32
  ![2, v328.toNat, 0, 0]
@[reducible] def k0_t5_loop : Scf.Loop 32 :=
  let c0_i32_41 : BitVec 32 := 0#32
  let c8_i32_42 : BitVec 32 := 8#32
  let v100 : BitVec 32 := Scalar.addi c0_i32_41 c8_i32_42
  let c1_i32_43 : BitVec 32 := 1#32
  ⟨c0_i32_41, v100, c1_i32_43⟩
@[reducible] def k0_t6_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_180 : BitVec 32 := 1#32
  ⟨c0_i32_178, v318, c1_i32_180⟩
def k0_off19 (i : grid0.Coords) (k0_t6 : Fin (k0_t6_loop i).trips) (c0_i32_194 : BitVec 32) : Fin 4 → Nat :=
  let c0_195 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v350 : Index := Scalar.indexCast v349
  let c0_196 : Index := 0#32
  let c0_197 : Index := 0#32
  ![0, v350.toNat, 0, 0]
def k0_off20 (i : grid0.Coords) (k0_t6 : Fin (k0_t6_loop i).trips) (c0_i32_194 : BitVec 32) : Fin 4 → Nat :=
  let c0_198 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v358 : Index := Scalar.indexCast v349
  let c16 : Index := 16#32
  let c0_199 : Index := 0#32
  ![0, v358.toNat, 16, 0]
def k0_off21 (i : grid0.Coords) (k0_t6 : Fin (k0_t6_loop i).trips) (c0_i32_194 : BitVec 32) : Fin 4 → Nat :=
  let c0_200 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v366 : Index := Scalar.indexCast v349
  let c32 : Index := 32#32
  let c0_201 : Index := 0#32
  ![0, v366.toNat, 32, 0]
def k0_off22 (i : grid0.Coords) (k0_t6 : Fin (k0_t6_loop i).trips) (c0_i32_194 : BitVec 32) : Fin 4 → Nat :=
  let c0_202 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v374 : Index := Scalar.indexCast v349
  let c48 : Index := 48#32
  let c0_203 : Index := 0#32
  ![0, v374.toNat, 48, 0]
def k0_off23 (i : grid0.Coords) (k0_t6 : Fin (k0_t6_loop i).trips) (c0_i32_194 : BitVec 32) : Fin 4 → Nat :=
  let c0_204 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v382 : Index := Scalar.indexCast v349
  let c64 : Index := 64#32
  let c0_205 : Index := 0#32
  ![0, v382.toNat, 64, 0]
def k0_off24 (i : grid0.Coords) (k0_t6 : Fin (k0_t6_loop i).trips) (c0_i32_194 : BitVec 32) : Fin 4 → Nat :=
  let c0_206 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v390 : Index := Scalar.indexCast v349
  let c80 : Index := 80#32
  let c0_207 : Index := 0#32
  ![0, v390.toNat, 80, 0]
def k0_off25 (i : grid0.Coords) (k0_t6 : Fin (k0_t6_loop i).trips) (c0_i32_194 : BitVec 32) : Fin 4 → Nat :=
  let c0_208 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v398 : Index := Scalar.indexCast v349
  let c96 : Index := 96#32
  let c0_209 : Index := 0#32
  ![0, v398.toNat, 96, 0]
def k0_off26 (i : grid0.Coords) (k0_t6 : Fin (k0_t6_loop i).trips) (c0_i32_194 : BitVec 32) : Fin 4 → Nat :=
  let c0_210 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v406 : Index := Scalar.indexCast v349
  let c112 : Index := 112#32
  let c0_211 : Index := 0#32
  ![0, v406.toNat, 112, 0]
def k0_off27 (i : grid0.Coords) (k0_t6 : Fin (k0_t6_loop i).trips) (c0_i32_194 : BitVec 32) : Fin 4 → Nat :=
  let c0_212 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v414 : Index := Scalar.indexCast v349
  let c128_213 : Index := 128#32
  let c0_214 : Index := 0#32
  ![0, v414.toNat, 128, 0]
def k0_off28 (i : grid0.Coords) (k0_t6 : Fin (k0_t6_loop i).trips) (c0_i32_194 : BitVec 32) : Fin 4 → Nat :=
  let c0_215 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v422 : Index := Scalar.indexCast v349
  let c144 : Index := 144#32
  let c0_216 : Index := 0#32
  ![0, v422.toNat, 144, 0]
def k0_off29 (i : grid0.Coords) (k0_t6 : Fin (k0_t6_loop i).trips) (c0_i32_194 : BitVec 32) : Fin 4 → Nat :=
  let c0_217 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v430 : Index := Scalar.indexCast v349
  let c160 : Index := 160#32
  let c0_218 : Index := 0#32
  ![0, v430.toNat, 160, 0]
def k0_off30 (i : grid0.Coords) (k0_t6 : Fin (k0_t6_loop i).trips) (c0_i32_194 : BitVec 32) : Fin 4 → Nat :=
  let c0_219 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v438 : Index := Scalar.indexCast v349
  let c176 : Index := 176#32
  let c0_220 : Index := 0#32
  ![0, v438.toNat, 176, 0]
def k0_off31 (i : grid0.Coords) (k0_t6 : Fin (k0_t6_loop i).trips) (c0_i32_194 : BitVec 32) : Fin 4 → Nat :=
  let c0_221 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v446 : Index := Scalar.indexCast v349
  let c192 : Index := 192#32
  let c0_222 : Index := 0#32
  ![0, v446.toNat, 192, 0]
def k0_off32 (i : grid0.Coords) (k0_t6 : Fin (k0_t6_loop i).trips) (c0_i32_194 : BitVec 32) : Fin 4 → Nat :=
  let c0_223 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v454 : Index := Scalar.indexCast v349
  let c208 : Index := 208#32
  let c0_224 : Index := 0#32
  ![0, v454.toNat, 208, 0]
def k0_off33 (i : grid0.Coords) (k0_t6 : Fin (k0_t6_loop i).trips) (c0_i32_194 : BitVec 32) : Fin 4 → Nat :=
  let c0_225 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v462 : Index := Scalar.indexCast v349
  let c224 : Index := 224#32
  let c0_226 : Index := 0#32
  ![0, v462.toNat, 224, 0]
def k0_off34 (i : grid0.Coords) (k0_t6 : Fin (k0_t6_loop i).trips) (c0_i32_194 : BitVec 32) : Fin 4 → Nat :=
  let c0_227 : Index := 0#32
  let c4_i32_193 : BitVec 32 := 4#32
  let c0_i32_178 : BitVec 32 := 0#32
  let c1_i32_180 : BitVec 32 := 1#32
  let arg19 : BitVec 32 := Scf.iv c0_i32_178 c1_i32_180 k0_t6
  let v348 : BitVec 32 := Scalar.muli c4_i32_193 arg19
  let v349 : BitVec 32 := Scalar.addi v348 c0_i32_194
  let v470 : Index := Scalar.indexCast v349
  let c240 : Index := 240#32
  let c0_228 : Index := 0#32
  ![0, v470.toNat, 240, 0]
@[reducible] def k0_t7_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let v315 : BitVec 32 := Scalar.addi c0_i32_178 v314
  let c1_i32_181 : BitVec 32 := 1#32
  ⟨v318, v315, c1_i32_181⟩
def k0_off35 (i : grid0.Coords) (k0_t7 : Fin (k0_t7_loop i).trips) (c0_i32_194 : BitVec 32) : Fin 4 → Nat :=
  let c0_195 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v350 : Index := Scalar.indexCast v349
  let c0_196 : Index := 0#32
  let c0_197 : Index := 0#32
  ![0, v350.toNat, 0, 0]
def k0_off36 (i : grid0.Coords) (k0_t7 : Fin (k0_t7_loop i).trips) (c0_i32_194 : BitVec 32) : Fin 4 → Nat :=
  let c0_198 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v358 : Index := Scalar.indexCast v349
  let c16 : Index := 16#32
  let c0_199 : Index := 0#32
  ![0, v358.toNat, 16, 0]
def k0_off37 (i : grid0.Coords) (k0_t7 : Fin (k0_t7_loop i).trips) (c0_i32_194 : BitVec 32) : Fin 4 → Nat :=
  let c0_200 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v366 : Index := Scalar.indexCast v349
  let c32 : Index := 32#32
  let c0_201 : Index := 0#32
  ![0, v366.toNat, 32, 0]
def k0_off38 (i : grid0.Coords) (k0_t7 : Fin (k0_t7_loop i).trips) (c0_i32_194 : BitVec 32) : Fin 4 → Nat :=
  let c0_202 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v374 : Index := Scalar.indexCast v349
  let c48 : Index := 48#32
  let c0_203 : Index := 0#32
  ![0, v374.toNat, 48, 0]
def k0_off39 (i : grid0.Coords) (k0_t7 : Fin (k0_t7_loop i).trips) (c0_i32_194 : BitVec 32) : Fin 4 → Nat :=
  let c0_204 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v382 : Index := Scalar.indexCast v349
  let c64 : Index := 64#32
  let c0_205 : Index := 0#32
  ![0, v382.toNat, 64, 0]
def k0_off40 (i : grid0.Coords) (k0_t7 : Fin (k0_t7_loop i).trips) (c0_i32_194 : BitVec 32) : Fin 4 → Nat :=
  let c0_206 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v390 : Index := Scalar.indexCast v349
  let c80 : Index := 80#32
  let c0_207 : Index := 0#32
  ![0, v390.toNat, 80, 0]
def k0_off41 (i : grid0.Coords) (k0_t7 : Fin (k0_t7_loop i).trips) (c0_i32_194 : BitVec 32) : Fin 4 → Nat :=
  let c0_208 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v398 : Index := Scalar.indexCast v349
  let c96 : Index := 96#32
  let c0_209 : Index := 0#32
  ![0, v398.toNat, 96, 0]
def k0_off42 (i : grid0.Coords) (k0_t7 : Fin (k0_t7_loop i).trips) (c0_i32_194 : BitVec 32) : Fin 4 → Nat :=
  let c0_210 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v406 : Index := Scalar.indexCast v349
  let c112 : Index := 112#32
  let c0_211 : Index := 0#32
  ![0, v406.toNat, 112, 0]
def k0_off43 (i : grid0.Coords) (k0_t7 : Fin (k0_t7_loop i).trips) (c0_i32_194 : BitVec 32) : Fin 4 → Nat :=
  let c0_212 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v414 : Index := Scalar.indexCast v349
  let c128_213 : Index := 128#32
  let c0_214 : Index := 0#32
  ![0, v414.toNat, 128, 0]
def k0_off44 (i : grid0.Coords) (k0_t7 : Fin (k0_t7_loop i).trips) (c0_i32_194 : BitVec 32) : Fin 4 → Nat :=
  let c0_215 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v422 : Index := Scalar.indexCast v349
  let c144 : Index := 144#32
  let c0_216 : Index := 0#32
  ![0, v422.toNat, 144, 0]
def k0_off45 (i : grid0.Coords) (k0_t7 : Fin (k0_t7_loop i).trips) (c0_i32_194 : BitVec 32) : Fin 4 → Nat :=
  let c0_217 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v430 : Index := Scalar.indexCast v349
  let c160 : Index := 160#32
  let c0_218 : Index := 0#32
  ![0, v430.toNat, 160, 0]
def k0_off46 (i : grid0.Coords) (k0_t7 : Fin (k0_t7_loop i).trips) (c0_i32_194 : BitVec 32) : Fin 4 → Nat :=
  let c0_219 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v438 : Index := Scalar.indexCast v349
  let c176 : Index := 176#32
  let c0_220 : Index := 0#32
  ![0, v438.toNat, 176, 0]
def k0_off47 (i : grid0.Coords) (k0_t7 : Fin (k0_t7_loop i).trips) (c0_i32_194 : BitVec 32) : Fin 4 → Nat :=
  let c0_221 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v446 : Index := Scalar.indexCast v349
  let c192 : Index := 192#32
  let c0_222 : Index := 0#32
  ![0, v446.toNat, 192, 0]
def k0_off48 (i : grid0.Coords) (k0_t7 : Fin (k0_t7_loop i).trips) (c0_i32_194 : BitVec 32) : Fin 4 → Nat :=
  let c0_223 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v454 : Index := Scalar.indexCast v349
  let c208 : Index := 208#32
  let c0_224 : Index := 0#32
  ![0, v454.toNat, 208, 0]
def k0_off49 (i : grid0.Coords) (k0_t7 : Fin (k0_t7_loop i).trips) (c0_i32_194 : BitVec 32) : Fin 4 → Nat :=
  let c0_225 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v462 : Index := Scalar.indexCast v349
  let c224 : Index := 224#32
  let c0_226 : Index := 0#32
  ![0, v462.toNat, 224, 0]
def k0_off50 (i : grid0.Coords) (k0_t7 : Fin (k0_t7_loop i).trips) (c0_i32_194 : BitVec 32) : Fin 4 → Nat :=
  let c0_227 : Index := 0#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t7
  let v348 : BitVec 32 := Scalar.muli c4_i32_193 arg19
  let v349 : BitVec 32 := Scalar.addi v348 c0_i32_194
  let v470 : Index := Scalar.indexCast v349
  let c240 : Index := 240#32
  let c0_228 : Index := 0#32
  ![0, v470.toNat, 240, 0]
def k0_cond4 (i : grid0.Coords) : BitVec 1 :=
  let arg1 : BitVec 32 := BitVec.ofNat 32 (i 1).val
  let c1_i32 : BitVec 32 := 1#32
  let v0 : BitVec 32 := Scalar.addi arg1 c1_i32
  let c2_i32_183 : BitVec 32 := 2#32
  let v322 : BitVec 32 := Scalar.andi v0 c2_i32_183
  let c2_i32_184 : BitVec 32 := 2#32
  let v323 : BitVec 1 := Scalar.cmpi .eq v322 c2_i32_184
  let v324 : BitVec 32 := Scalar.extui v323
  let c0_i32_185 : BitVec 32 := 0#32
  let v325 : BitVec 1 := Scalar.cmpi .ne v324 c0_i32_185
  v325

def k0_off51 (i : grid0.Coords) (c0_i32_193 : BitVec 32) : Fin 4 → Nat :=
  let c0_194 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v349 : Index := Scalar.indexCast v348
  let c0_195 : Index := 0#32
  let c0_196 : Index := 0#32
  ![0, v349.toNat, 0, 0]
def k0_off52 (i : grid0.Coords) (c0_i32_193 : BitVec 32) : Fin 4 → Nat :=
  let c0_197 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v357 : Index := Scalar.indexCast v348
  let c16 : Index := 16#32
  let c0_198 : Index := 0#32
  ![0, v357.toNat, 16, 0]
def k0_off53 (i : grid0.Coords) (c0_i32_193 : BitVec 32) : Fin 4 → Nat :=
  let c0_199 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v365 : Index := Scalar.indexCast v348
  let c32 : Index := 32#32
  let c0_200 : Index := 0#32
  ![0, v365.toNat, 32, 0]
def k0_off54 (i : grid0.Coords) (c0_i32_193 : BitVec 32) : Fin 4 → Nat :=
  let c0_201 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v373 : Index := Scalar.indexCast v348
  let c48 : Index := 48#32
  let c0_202 : Index := 0#32
  ![0, v373.toNat, 48, 0]
def k0_off55 (i : grid0.Coords) (c0_i32_193 : BitVec 32) : Fin 4 → Nat :=
  let c0_203 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v381 : Index := Scalar.indexCast v348
  let c64 : Index := 64#32
  let c0_204 : Index := 0#32
  ![0, v381.toNat, 64, 0]
def k0_off56 (i : grid0.Coords) (c0_i32_193 : BitVec 32) : Fin 4 → Nat :=
  let c0_205 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v389 : Index := Scalar.indexCast v348
  let c80 : Index := 80#32
  let c0_206 : Index := 0#32
  ![0, v389.toNat, 80, 0]
def k0_off57 (i : grid0.Coords) (c0_i32_193 : BitVec 32) : Fin 4 → Nat :=
  let c0_207 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v397 : Index := Scalar.indexCast v348
  let c96 : Index := 96#32
  let c0_208 : Index := 0#32
  ![0, v397.toNat, 96, 0]
def k0_off58 (i : grid0.Coords) (c0_i32_193 : BitVec 32) : Fin 4 → Nat :=
  let c0_209 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v405 : Index := Scalar.indexCast v348
  let c112 : Index := 112#32
  let c0_210 : Index := 0#32
  ![0, v405.toNat, 112, 0]
def k0_off59 (i : grid0.Coords) (c0_i32_193 : BitVec 32) : Fin 4 → Nat :=
  let c0_211 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v413 : Index := Scalar.indexCast v348
  let c128_212 : Index := 128#32
  let c0_213 : Index := 0#32
  ![0, v413.toNat, 128, 0]
def k0_off60 (i : grid0.Coords) (c0_i32_193 : BitVec 32) : Fin 4 → Nat :=
  let c0_214 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v421 : Index := Scalar.indexCast v348
  let c144 : Index := 144#32
  let c0_215 : Index := 0#32
  ![0, v421.toNat, 144, 0]
def k0_off61 (i : grid0.Coords) (c0_i32_193 : BitVec 32) : Fin 4 → Nat :=
  let c0_216 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v429 : Index := Scalar.indexCast v348
  let c160 : Index := 160#32
  let c0_217 : Index := 0#32
  ![0, v429.toNat, 160, 0]
def k0_off62 (i : grid0.Coords) (c0_i32_193 : BitVec 32) : Fin 4 → Nat :=
  let c0_218 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v437 : Index := Scalar.indexCast v348
  let c176 : Index := 176#32
  let c0_219 : Index := 0#32
  ![0, v437.toNat, 176, 0]
def k0_off63 (i : grid0.Coords) (c0_i32_193 : BitVec 32) : Fin 4 → Nat :=
  let c0_220 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v445 : Index := Scalar.indexCast v348
  let c192 : Index := 192#32
  let c0_221 : Index := 0#32
  ![0, v445.toNat, 192, 0]
def k0_off64 (i : grid0.Coords) (c0_i32_193 : BitVec 32) : Fin 4 → Nat :=
  let c0_222 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v453 : Index := Scalar.indexCast v348
  let c208 : Index := 208#32
  let c0_223 : Index := 0#32
  ![0, v453.toNat, 208, 0]
def k0_off65 (i : grid0.Coords) (c0_i32_193 : BitVec 32) : Fin 4 → Nat :=
  let c0_224 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v461 : Index := Scalar.indexCast v348
  let c224 : Index := 224#32
  let c0_225 : Index := 0#32
  ![0, v461.toNat, 224, 0]
def k0_off66 (i : grid0.Coords) (c0_i32_193 : BitVec 32) : Fin 4 → Nat :=
  let c0_226 : Index := 0#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v469 : Index := Scalar.indexCast v348
  let c240 : Index := 240#32
  let c0_227 : Index := 0#32
  ![0, v469.toNat, 240, 0]
def k0_cond5 (i : grid0.Coords) : BitVec 1 :=
  let arg1 : BitVec 32 := BitVec.ofNat 32 (i 1).val
  let c1_i32 : BitVec 32 := 1#32
  let v0 : BitVec 32 := Scalar.addi arg1 c1_i32
  let c1_i32_187 : BitVec 32 := 1#32
  let v328 : BitVec 32 := Scalar.andi v0 c1_i32_187
  let c1_i32_188 : BitVec 32 := 1#32
  let v329 : BitVec 1 := Scalar.cmpi .eq v328 c1_i32_188
  let v330 : BitVec 32 := Scalar.extui v329
  let c0_i32_189 : BitVec 32 := 0#32
  let v331 : BitVec 1 := Scalar.cmpi .ne v330 c0_i32_189
  v331

def k0_off67 (i : grid0.Coords) : Fin 4 → Nat :=
  let c0_194 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v349 : Index := Scalar.indexCast v348
  let c0_195 : Index := 0#32
  let c0_196 : Index := 0#32
  ![0, v349.toNat, 0, 0]
def k0_off68 (i : grid0.Coords) : Fin 4 → Nat :=
  let c0_197 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v357 : Index := Scalar.indexCast v348
  let c16 : Index := 16#32
  let c0_198 : Index := 0#32
  ![0, v357.toNat, 16, 0]
def k0_off69 (i : grid0.Coords) : Fin 4 → Nat :=
  let c0_199 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v365 : Index := Scalar.indexCast v348
  let c32 : Index := 32#32
  let c0_200 : Index := 0#32
  ![0, v365.toNat, 32, 0]
def k0_off70 (i : grid0.Coords) : Fin 4 → Nat :=
  let c0_201 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v373 : Index := Scalar.indexCast v348
  let c48 : Index := 48#32
  let c0_202 : Index := 0#32
  ![0, v373.toNat, 48, 0]
def k0_off71 (i : grid0.Coords) : Fin 4 → Nat :=
  let c0_203 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v381 : Index := Scalar.indexCast v348
  let c64 : Index := 64#32
  let c0_204 : Index := 0#32
  ![0, v381.toNat, 64, 0]
def k0_off72 (i : grid0.Coords) : Fin 4 → Nat :=
  let c0_205 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v389 : Index := Scalar.indexCast v348
  let c80 : Index := 80#32
  let c0_206 : Index := 0#32
  ![0, v389.toNat, 80, 0]
def k0_off73 (i : grid0.Coords) : Fin 4 → Nat :=
  let c0_207 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v397 : Index := Scalar.indexCast v348
  let c96 : Index := 96#32
  let c0_208 : Index := 0#32
  ![0, v397.toNat, 96, 0]
def k0_off74 (i : grid0.Coords) : Fin 4 → Nat :=
  let c0_209 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v405 : Index := Scalar.indexCast v348
  let c112 : Index := 112#32
  let c0_210 : Index := 0#32
  ![0, v405.toNat, 112, 0]
def k0_off75 (i : grid0.Coords) : Fin 4 → Nat :=
  let c0_211 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v413 : Index := Scalar.indexCast v348
  let c128_212 : Index := 128#32
  let c0_213 : Index := 0#32
  ![0, v413.toNat, 128, 0]
def k0_off76 (i : grid0.Coords) : Fin 4 → Nat :=
  let c0_214 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v421 : Index := Scalar.indexCast v348
  let c144 : Index := 144#32
  let c0_215 : Index := 0#32
  ![0, v421.toNat, 144, 0]
def k0_off77 (i : grid0.Coords) : Fin 4 → Nat :=
  let c0_216 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v429 : Index := Scalar.indexCast v348
  let c160 : Index := 160#32
  let c0_217 : Index := 0#32
  ![0, v429.toNat, 160, 0]
def k0_off78 (i : grid0.Coords) : Fin 4 → Nat :=
  let c0_218 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v437 : Index := Scalar.indexCast v348
  let c176 : Index := 176#32
  let c0_219 : Index := 0#32
  ![0, v437.toNat, 176, 0]
def k0_off79 (i : grid0.Coords) : Fin 4 → Nat :=
  let c0_220 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v445 : Index := Scalar.indexCast v348
  let c192 : Index := 192#32
  let c0_221 : Index := 0#32
  ![0, v445.toNat, 192, 0]
def k0_off80 (i : grid0.Coords) : Fin 4 → Nat :=
  let c0_222 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v453 : Index := Scalar.indexCast v348
  let c208 : Index := 208#32
  let c0_223 : Index := 0#32
  ![0, v453.toNat, 208, 0]
def k0_off81 (i : grid0.Coords) : Fin 4 → Nat :=
  let c0_224 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v461 : Index := Scalar.indexCast v348
  let c224 : Index := 224#32
  let c0_225 : Index := 0#32
  ![0, v461.toNat, 224, 0]
def k0_off82 (i : grid0.Coords) : Fin 4 → Nat :=
  let c0_226 : Index := 0#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v469 : Index := Scalar.indexCast v348
  let c240 : Index := 240#32
  let c0_227 : Index := 0#32
  ![0, v469.toNat, 240, 0]
@[reducible] def k0_t8_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let v105 : BitVec 32 := Scalar.subi v0 c0_i32_47
  let c1_i32_48 : BitVec 32 := 1#32
  let v107 : BitVec 32 := Scalar.divsi v105 c1_i32_48
  let v108 : BitVec 32 := Scalar.muli v107 c1_i32_48
  let v109 : BitVec 32 := Scalar.addi c0_i32_47 v108
  let c1_i32_49 : BitVec 32 := 1#32
  ⟨c0_i32_47, v109, c1_i32_49⟩
def k0_off83 (i : grid0.Coords) (k0_t8 : Fin (k0_t8_loop i).trips) : Fin 4 → Nat :=
  let c0_167 : Index := 0#32
  let c0_i32_47 : BitVec 32 := 0#32
  let c1_i32_49 : BitVec 32 := 1#32
  let arg15 : BitVec 32 := Scf.iv c0_i32_47 c1_i32_49 k0_t8
  let v289 : Index := Scalar.indexCast arg15
  let c0_168 : Index := 0#32
  let c0_169 : Index := 0#32
  ![0, v289.toNat, 0, 0]
def k0_off84 (i : grid0.Coords) (k0_t8 : Fin (k0_t8_loop i).trips) : Fin 4 → Nat :=
  let c1 : Index := 1#32
  let c0_i32_47 : BitVec 32 := 0#32
  let c1_i32_49 : BitVec 32 := 1#32
  let arg15 : BitVec 32 := Scf.iv c0_i32_47 c1_i32_49 k0_t8
  let v294 : Index := Scalar.indexCast arg15
  let c0_170 : Index := 0#32
  let c0_171 : Index := 0#32
  ![1, v294.toNat, 0, 0]
@[reducible] def k0_t9_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let v105 : BitVec 32 := Scalar.subi v0 c0_i32_47
  let c1_i32_48 : BitVec 32 := 1#32
  let v107 : BitVec 32 := Scalar.divsi v105 c1_i32_48
  let v108 : BitVec 32 := Scalar.muli v107 c1_i32_48
  let v109 : BitVec 32 := Scalar.addi c0_i32_47 v108
  let v106 : BitVec 32 := Scalar.addi c0_i32_47 v105
  let c1_i32_50 : BitVec 32 := 1#32
  ⟨v109, v106, c1_i32_50⟩
def k0_off85 (i : grid0.Coords) (k0_t9 : Fin (k0_t9_loop i).trips) : Fin 4 → Nat :=
  let c0_167 : Index := 0#32
  let c0_i32_47 : BitVec 32 := 0#32
  let arg1 : BitVec 32 := BitVec.ofNat 32 (i 1).val
  let c1_i32 : BitVec 32 := 1#32
  let v0 : BitVec 32 := Scalar.addi arg1 c1_i32
  let v105 : BitVec 32 := Scalar.subi v0 c0_i32_47
  let c1_i32_48 : BitVec 32 := 1#32
  let v107 : BitVec 32 := Scalar.divsi v105 c1_i32_48
  let v108 : BitVec 32 := Scalar.muli v107 c1_i32_48
  let v109 : BitVec 32 := Scalar.addi c0_i32_47 v108
  let c1_i32_50 : BitVec 32 := 1#32
  let arg15 : BitVec 32 := Scf.iv v109 c1_i32_50 k0_t9
  let v289 : Index := Scalar.indexCast arg15
  let c0_168 : Index := 0#32
  let c0_169 : Index := 0#32
  ![0, v289.toNat, 0, 0]
def k0_off86 (i : grid0.Coords) (k0_t9 : Fin (k0_t9_loop i).trips) : Fin 4 → Nat :=
  let c1 : Index := 1#32
  let c0_i32_47 : BitVec 32 := 0#32
  let arg1 : BitVec 32 := BitVec.ofNat 32 (i 1).val
  let c1_i32 : BitVec 32 := 1#32
  let v0 : BitVec 32 := Scalar.addi arg1 c1_i32
  let v105 : BitVec 32 := Scalar.subi v0 c0_i32_47
  let c1_i32_48 : BitVec 32 := 1#32
  let v107 : BitVec 32 := Scalar.divsi v105 c1_i32_48
  let v108 : BitVec 32 := Scalar.muli v107 c1_i32_48
  let v109 : BitVec 32 := Scalar.addi c0_i32_47 v108
  let c1_i32_50 : BitVec 32 := 1#32
  let arg15 : BitVec 32 := Scf.iv v109 c1_i32_50 k0_t9
  let v294 : Index := Scalar.indexCast arg15
  let c0_170 : Index := 0#32
  let c0_171 : Index := 0#32
  ![1, v294.toNat, 0, 0]
@[reducible] def k0_t10_loop : Scf.Loop 32 :=
  let c0_i32_55 : BitVec 32 := 0#32
  let c8_i32_56 : BitVec 32 := 8#32
  let v112 : BitVec 32 := Scalar.addi c0_i32_55 c8_i32_56
  let c1_i32_57 : BitVec 32 := 1#32
  ⟨c0_i32_55, v112, c1_i32_57⟩
@[reducible] def k0_t11_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_180 : BitVec 32 := 1#32
  ⟨c0_i32_178, v318, c1_i32_180⟩
def k0_off87 (i : grid0.Coords) (k0_t11 : Fin (k0_t11_loop i).trips) (c0_i32_194 : BitVec 32) : Fin 4 → Nat :=
  let c1 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v350 : Index := Scalar.indexCast v349
  let c0_195 : Index := 0#32
  let c0_196 : Index := 0#32
  ![1, v350.toNat, 0, 0]
def k0_off88 (i : grid0.Coords) (k0_t11 : Fin (k0_t11_loop i).trips) (c0_i32_194 : BitVec 32) : Fin 4 → Nat :=
  let c1_197 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v358 : Index := Scalar.indexCast v349
  let c16 : Index := 16#32
  let c0_198 : Index := 0#32
  ![1, v358.toNat, 16, 0]
def k0_off89 (i : grid0.Coords) (k0_t11 : Fin (k0_t11_loop i).trips) (c0_i32_194 : BitVec 32) : Fin 4 → Nat :=
  let c1_199 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v366 : Index := Scalar.indexCast v349
  let c32 : Index := 32#32
  let c0_200 : Index := 0#32
  ![1, v366.toNat, 32, 0]
def k0_off90 (i : grid0.Coords) (k0_t11 : Fin (k0_t11_loop i).trips) (c0_i32_194 : BitVec 32) : Fin 4 → Nat :=
  let c1_201 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v374 : Index := Scalar.indexCast v349
  let c48 : Index := 48#32
  let c0_202 : Index := 0#32
  ![1, v374.toNat, 48, 0]
def k0_off91 (i : grid0.Coords) (k0_t11 : Fin (k0_t11_loop i).trips) (c0_i32_194 : BitVec 32) : Fin 4 → Nat :=
  let c1_203 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v382 : Index := Scalar.indexCast v349
  let c64 : Index := 64#32
  let c0_204 : Index := 0#32
  ![1, v382.toNat, 64, 0]
def k0_off92 (i : grid0.Coords) (k0_t11 : Fin (k0_t11_loop i).trips) (c0_i32_194 : BitVec 32) : Fin 4 → Nat :=
  let c1_205 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v390 : Index := Scalar.indexCast v349
  let c80 : Index := 80#32
  let c0_206 : Index := 0#32
  ![1, v390.toNat, 80, 0]
def k0_off93 (i : grid0.Coords) (k0_t11 : Fin (k0_t11_loop i).trips) (c0_i32_194 : BitVec 32) : Fin 4 → Nat :=
  let c1_207 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v398 : Index := Scalar.indexCast v349
  let c96 : Index := 96#32
  let c0_208 : Index := 0#32
  ![1, v398.toNat, 96, 0]
def k0_off94 (i : grid0.Coords) (k0_t11 : Fin (k0_t11_loop i).trips) (c0_i32_194 : BitVec 32) : Fin 4 → Nat :=
  let c1_209 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v406 : Index := Scalar.indexCast v349
  let c112 : Index := 112#32
  let c0_210 : Index := 0#32
  ![1, v406.toNat, 112, 0]
def k0_off95 (i : grid0.Coords) (k0_t11 : Fin (k0_t11_loop i).trips) (c0_i32_194 : BitVec 32) : Fin 4 → Nat :=
  let c1_211 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v414 : Index := Scalar.indexCast v349
  let c128_212 : Index := 128#32
  let c0_213 : Index := 0#32
  ![1, v414.toNat, 128, 0]
def k0_off96 (i : grid0.Coords) (k0_t11 : Fin (k0_t11_loop i).trips) (c0_i32_194 : BitVec 32) : Fin 4 → Nat :=
  let c1_214 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v422 : Index := Scalar.indexCast v349
  let c144 : Index := 144#32
  let c0_215 : Index := 0#32
  ![1, v422.toNat, 144, 0]
def k0_off97 (i : grid0.Coords) (k0_t11 : Fin (k0_t11_loop i).trips) (c0_i32_194 : BitVec 32) : Fin 4 → Nat :=
  let c1_216 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v430 : Index := Scalar.indexCast v349
  let c160 : Index := 160#32
  let c0_217 : Index := 0#32
  ![1, v430.toNat, 160, 0]
def k0_off98 (i : grid0.Coords) (k0_t11 : Fin (k0_t11_loop i).trips) (c0_i32_194 : BitVec 32) : Fin 4 → Nat :=
  let c1_218 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v438 : Index := Scalar.indexCast v349
  let c176 : Index := 176#32
  let c0_219 : Index := 0#32
  ![1, v438.toNat, 176, 0]
def k0_off99 (i : grid0.Coords) (k0_t11 : Fin (k0_t11_loop i).trips) (c0_i32_194 : BitVec 32) : Fin 4 → Nat :=
  let c1_220 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v446 : Index := Scalar.indexCast v349
  let c192 : Index := 192#32
  let c0_221 : Index := 0#32
  ![1, v446.toNat, 192, 0]
def k0_off100 (i : grid0.Coords) (k0_t11 : Fin (k0_t11_loop i).trips) (c0_i32_194 : BitVec 32) : Fin 4 → Nat :=
  let c1_222 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v454 : Index := Scalar.indexCast v349
  let c208 : Index := 208#32
  let c0_223 : Index := 0#32
  ![1, v454.toNat, 208, 0]
def k0_off101 (i : grid0.Coords) (k0_t11 : Fin (k0_t11_loop i).trips) (c0_i32_194 : BitVec 32) : Fin 4 → Nat :=
  let c1_224 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v462 : Index := Scalar.indexCast v349
  let c224 : Index := 224#32
  let c0_225 : Index := 0#32
  ![1, v462.toNat, 224, 0]
def k0_off102 (i : grid0.Coords) (k0_t11 : Fin (k0_t11_loop i).trips) (c0_i32_194 : BitVec 32) : Fin 4 → Nat :=
  let c1_226 : Index := 1#32
  let c4_i32_193 : BitVec 32 := 4#32
  let c0_i32_178 : BitVec 32 := 0#32
  let c1_i32_180 : BitVec 32 := 1#32
  let arg19 : BitVec 32 := Scf.iv c0_i32_178 c1_i32_180 k0_t11
  let v348 : BitVec 32 := Scalar.muli c4_i32_193 arg19
  let v349 : BitVec 32 := Scalar.addi v348 c0_i32_194
  let v470 : Index := Scalar.indexCast v349
  let c240 : Index := 240#32
  let c0_227 : Index := 0#32
  ![1, v470.toNat, 240, 0]
@[reducible] def k0_t12_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let v315 : BitVec 32 := Scalar.addi c0_i32_178 v314
  let c1_i32_181 : BitVec 32 := 1#32
  ⟨v318, v315, c1_i32_181⟩
def k0_off103 (i : grid0.Coords) (k0_t12 : Fin (k0_t12_loop i).trips) (c0_i32_194 : BitVec 32) : Fin 4 → Nat :=
  let c1 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v350 : Index := Scalar.indexCast v349
  let c0_195 : Index := 0#32
  let c0_196 : Index := 0#32
  ![1, v350.toNat, 0, 0]
def k0_off104 (i : grid0.Coords) (k0_t12 : Fin (k0_t12_loop i).trips) (c0_i32_194 : BitVec 32) : Fin 4 → Nat :=
  let c1_197 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v358 : Index := Scalar.indexCast v349
  let c16 : Index := 16#32
  let c0_198 : Index := 0#32
  ![1, v358.toNat, 16, 0]
def k0_off105 (i : grid0.Coords) (k0_t12 : Fin (k0_t12_loop i).trips) (c0_i32_194 : BitVec 32) : Fin 4 → Nat :=
  let c1_199 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v366 : Index := Scalar.indexCast v349
  let c32 : Index := 32#32
  let c0_200 : Index := 0#32
  ![1, v366.toNat, 32, 0]
def k0_off106 (i : grid0.Coords) (k0_t12 : Fin (k0_t12_loop i).trips) (c0_i32_194 : BitVec 32) : Fin 4 → Nat :=
  let c1_201 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v374 : Index := Scalar.indexCast v349
  let c48 : Index := 48#32
  let c0_202 : Index := 0#32
  ![1, v374.toNat, 48, 0]
def k0_off107 (i : grid0.Coords) (k0_t12 : Fin (k0_t12_loop i).trips) (c0_i32_194 : BitVec 32) : Fin 4 → Nat :=
  let c1_203 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v382 : Index := Scalar.indexCast v349
  let c64 : Index := 64#32
  let c0_204 : Index := 0#32
  ![1, v382.toNat, 64, 0]
def k0_off108 (i : grid0.Coords) (k0_t12 : Fin (k0_t12_loop i).trips) (c0_i32_194 : BitVec 32) : Fin 4 → Nat :=
  let c1_205 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v390 : Index := Scalar.indexCast v349
  let c80 : Index := 80#32
  let c0_206 : Index := 0#32
  ![1, v390.toNat, 80, 0]
def k0_off109 (i : grid0.Coords) (k0_t12 : Fin (k0_t12_loop i).trips) (c0_i32_194 : BitVec 32) : Fin 4 → Nat :=
  let c1_207 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v398 : Index := Scalar.indexCast v349
  let c96 : Index := 96#32
  let c0_208 : Index := 0#32
  ![1, v398.toNat, 96, 0]
def k0_off110 (i : grid0.Coords) (k0_t12 : Fin (k0_t12_loop i).trips) (c0_i32_194 : BitVec 32) : Fin 4 → Nat :=
  let c1_209 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v406 : Index := Scalar.indexCast v349
  let c112 : Index := 112#32
  let c0_210 : Index := 0#32
  ![1, v406.toNat, 112, 0]
def k0_off111 (i : grid0.Coords) (k0_t12 : Fin (k0_t12_loop i).trips) (c0_i32_194 : BitVec 32) : Fin 4 → Nat :=
  let c1_211 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v414 : Index := Scalar.indexCast v349
  let c128_212 : Index := 128#32
  let c0_213 : Index := 0#32
  ![1, v414.toNat, 128, 0]
def k0_off112 (i : grid0.Coords) (k0_t12 : Fin (k0_t12_loop i).trips) (c0_i32_194 : BitVec 32) : Fin 4 → Nat :=
  let c1_214 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v422 : Index := Scalar.indexCast v349
  let c144 : Index := 144#32
  let c0_215 : Index := 0#32
  ![1, v422.toNat, 144, 0]
def k0_off113 (i : grid0.Coords) (k0_t12 : Fin (k0_t12_loop i).trips) (c0_i32_194 : BitVec 32) : Fin 4 → Nat :=
  let c1_216 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v430 : Index := Scalar.indexCast v349
  let c160 : Index := 160#32
  let c0_217 : Index := 0#32
  ![1, v430.toNat, 160, 0]
def k0_off114 (i : grid0.Coords) (k0_t12 : Fin (k0_t12_loop i).trips) (c0_i32_194 : BitVec 32) : Fin 4 → Nat :=
  let c1_218 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v438 : Index := Scalar.indexCast v349
  let c176 : Index := 176#32
  let c0_219 : Index := 0#32
  ![1, v438.toNat, 176, 0]
def k0_off115 (i : grid0.Coords) (k0_t12 : Fin (k0_t12_loop i).trips) (c0_i32_194 : BitVec 32) : Fin 4 → Nat :=
  let c1_220 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v446 : Index := Scalar.indexCast v349
  let c192 : Index := 192#32
  let c0_221 : Index := 0#32
  ![1, v446.toNat, 192, 0]
def k0_off116 (i : grid0.Coords) (k0_t12 : Fin (k0_t12_loop i).trips) (c0_i32_194 : BitVec 32) : Fin 4 → Nat :=
  let c1_222 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v454 : Index := Scalar.indexCast v349
  let c208 : Index := 208#32
  let c0_223 : Index := 0#32
  ![1, v454.toNat, 208, 0]
def k0_off117 (i : grid0.Coords) (k0_t12 : Fin (k0_t12_loop i).trips) (c0_i32_194 : BitVec 32) : Fin 4 → Nat :=
  let c1_224 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v462 : Index := Scalar.indexCast v349
  let c224 : Index := 224#32
  let c0_225 : Index := 0#32
  ![1, v462.toNat, 224, 0]
def k0_off118 (i : grid0.Coords) (k0_t12 : Fin (k0_t12_loop i).trips) (c0_i32_194 : BitVec 32) : Fin 4 → Nat :=
  let c1_226 : Index := 1#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t12
  let v348 : BitVec 32 := Scalar.muli c4_i32_193 arg19
  let v349 : BitVec 32 := Scalar.addi v348 c0_i32_194
  let v470 : Index := Scalar.indexCast v349
  let c240 : Index := 240#32
  let c0_227 : Index := 0#32
  ![1, v470.toNat, 240, 0]
def k0_cond6 (i : grid0.Coords) : BitVec 1 :=
  let arg1 : BitVec 32 := BitVec.ofNat 32 (i 1).val
  let c1_i32 : BitVec 32 := 1#32
  let v0 : BitVec 32 := Scalar.addi arg1 c1_i32
  let c2_i32_183 : BitVec 32 := 2#32
  let v322 : BitVec 32 := Scalar.andi v0 c2_i32_183
  let c2_i32_184 : BitVec 32 := 2#32
  let v323 : BitVec 1 := Scalar.cmpi .eq v322 c2_i32_184
  let v324 : BitVec 32 := Scalar.extui v323
  let c0_i32_185 : BitVec 32 := 0#32
  let v325 : BitVec 1 := Scalar.cmpi .ne v324 c0_i32_185
  v325

def k0_off119 (i : grid0.Coords) (c0_i32_193 : BitVec 32) : Fin 4 → Nat :=
  let c1 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v349 : Index := Scalar.indexCast v348
  let c0_194 : Index := 0#32
  let c0_195 : Index := 0#32
  ![1, v349.toNat, 0, 0]
def k0_off120 (i : grid0.Coords) (c0_i32_193 : BitVec 32) : Fin 4 → Nat :=
  let c1_196 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v357 : Index := Scalar.indexCast v348
  let c16 : Index := 16#32
  let c0_197 : Index := 0#32
  ![1, v357.toNat, 16, 0]
def k0_off121 (i : grid0.Coords) (c0_i32_193 : BitVec 32) : Fin 4 → Nat :=
  let c1_198 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v365 : Index := Scalar.indexCast v348
  let c32 : Index := 32#32
  let c0_199 : Index := 0#32
  ![1, v365.toNat, 32, 0]
def k0_off122 (i : grid0.Coords) (c0_i32_193 : BitVec 32) : Fin 4 → Nat :=
  let c1_200 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v373 : Index := Scalar.indexCast v348
  let c48 : Index := 48#32
  let c0_201 : Index := 0#32
  ![1, v373.toNat, 48, 0]
def k0_off123 (i : grid0.Coords) (c0_i32_193 : BitVec 32) : Fin 4 → Nat :=
  let c1_202 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v381 : Index := Scalar.indexCast v348
  let c64 : Index := 64#32
  let c0_203 : Index := 0#32
  ![1, v381.toNat, 64, 0]
def k0_off124 (i : grid0.Coords) (c0_i32_193 : BitVec 32) : Fin 4 → Nat :=
  let c1_204 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v389 : Index := Scalar.indexCast v348
  let c80 : Index := 80#32
  let c0_205 : Index := 0#32
  ![1, v389.toNat, 80, 0]
def k0_off125 (i : grid0.Coords) (c0_i32_193 : BitVec 32) : Fin 4 → Nat :=
  let c1_206 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v397 : Index := Scalar.indexCast v348
  let c96 : Index := 96#32
  let c0_207 : Index := 0#32
  ![1, v397.toNat, 96, 0]
def k0_off126 (i : grid0.Coords) (c0_i32_193 : BitVec 32) : Fin 4 → Nat :=
  let c1_208 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v405 : Index := Scalar.indexCast v348
  let c112 : Index := 112#32
  let c0_209 : Index := 0#32
  ![1, v405.toNat, 112, 0]
def k0_off127 (i : grid0.Coords) (c0_i32_193 : BitVec 32) : Fin 4 → Nat :=
  let c1_210 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v413 : Index := Scalar.indexCast v348
  let c128_211 : Index := 128#32
  let c0_212 : Index := 0#32
  ![1, v413.toNat, 128, 0]
def k0_off128 (i : grid0.Coords) (c0_i32_193 : BitVec 32) : Fin 4 → Nat :=
  let c1_213 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v421 : Index := Scalar.indexCast v348
  let c144 : Index := 144#32
  let c0_214 : Index := 0#32
  ![1, v421.toNat, 144, 0]
def k0_off129 (i : grid0.Coords) (c0_i32_193 : BitVec 32) : Fin 4 → Nat :=
  let c1_215 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v429 : Index := Scalar.indexCast v348
  let c160 : Index := 160#32
  let c0_216 : Index := 0#32
  ![1, v429.toNat, 160, 0]
def k0_off130 (i : grid0.Coords) (c0_i32_193 : BitVec 32) : Fin 4 → Nat :=
  let c1_217 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v437 : Index := Scalar.indexCast v348
  let c176 : Index := 176#32
  let c0_218 : Index := 0#32
  ![1, v437.toNat, 176, 0]
def k0_off131 (i : grid0.Coords) (c0_i32_193 : BitVec 32) : Fin 4 → Nat :=
  let c1_219 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v445 : Index := Scalar.indexCast v348
  let c192 : Index := 192#32
  let c0_220 : Index := 0#32
  ![1, v445.toNat, 192, 0]
def k0_off132 (i : grid0.Coords) (c0_i32_193 : BitVec 32) : Fin 4 → Nat :=
  let c1_221 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v453 : Index := Scalar.indexCast v348
  let c208 : Index := 208#32
  let c0_222 : Index := 0#32
  ![1, v453.toNat, 208, 0]
def k0_off133 (i : grid0.Coords) (c0_i32_193 : BitVec 32) : Fin 4 → Nat :=
  let c1_223 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v461 : Index := Scalar.indexCast v348
  let c224 : Index := 224#32
  let c0_224 : Index := 0#32
  ![1, v461.toNat, 224, 0]
def k0_off134 (i : grid0.Coords) (c0_i32_193 : BitVec 32) : Fin 4 → Nat :=
  let c1_225 : Index := 1#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v469 : Index := Scalar.indexCast v348
  let c240 : Index := 240#32
  let c0_226 : Index := 0#32
  ![1, v469.toNat, 240, 0]
def k0_cond7 (i : grid0.Coords) : BitVec 1 :=
  let arg1 : BitVec 32 := BitVec.ofNat 32 (i 1).val
  let c1_i32 : BitVec 32 := 1#32
  let v0 : BitVec 32 := Scalar.addi arg1 c1_i32
  let c1_i32_187 : BitVec 32 := 1#32
  let v328 : BitVec 32 := Scalar.andi v0 c1_i32_187
  let c1_i32_188 : BitVec 32 := 1#32
  let v329 : BitVec 1 := Scalar.cmpi .eq v328 c1_i32_188
  let v330 : BitVec 32 := Scalar.extui v329
  let c0_i32_189 : BitVec 32 := 0#32
  let v331 : BitVec 1 := Scalar.cmpi .ne v330 c0_i32_189
  v331

def k0_off135 (i : grid0.Coords) : Fin 4 → Nat :=
  let c1 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v349 : Index := Scalar.indexCast v348
  let c0_194 : Index := 0#32
  let c0_195 : Index := 0#32
  ![1, v349.toNat, 0, 0]
def k0_off136 (i : grid0.Coords) : Fin 4 → Nat :=
  let c1_196 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v357 : Index := Scalar.indexCast v348
  let c16 : Index := 16#32
  let c0_197 : Index := 0#32
  ![1, v357.toNat, 16, 0]
def k0_off137 (i : grid0.Coords) : Fin 4 → Nat :=
  let c1_198 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v365 : Index := Scalar.indexCast v348
  let c32 : Index := 32#32
  let c0_199 : Index := 0#32
  ![1, v365.toNat, 32, 0]
def k0_off138 (i : grid0.Coords) : Fin 4 → Nat :=
  let c1_200 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v373 : Index := Scalar.indexCast v348
  let c48 : Index := 48#32
  let c0_201 : Index := 0#32
  ![1, v373.toNat, 48, 0]
def k0_off139 (i : grid0.Coords) : Fin 4 → Nat :=
  let c1_202 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v381 : Index := Scalar.indexCast v348
  let c64 : Index := 64#32
  let c0_203 : Index := 0#32
  ![1, v381.toNat, 64, 0]
def k0_off140 (i : grid0.Coords) : Fin 4 → Nat :=
  let c1_204 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v389 : Index := Scalar.indexCast v348
  let c80 : Index := 80#32
  let c0_205 : Index := 0#32
  ![1, v389.toNat, 80, 0]
def k0_off141 (i : grid0.Coords) : Fin 4 → Nat :=
  let c1_206 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v397 : Index := Scalar.indexCast v348
  let c96 : Index := 96#32
  let c0_207 : Index := 0#32
  ![1, v397.toNat, 96, 0]
def k0_off142 (i : grid0.Coords) : Fin 4 → Nat :=
  let c1_208 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v405 : Index := Scalar.indexCast v348
  let c112 : Index := 112#32
  let c0_209 : Index := 0#32
  ![1, v405.toNat, 112, 0]
def k0_off143 (i : grid0.Coords) : Fin 4 → Nat :=
  let c1_210 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v413 : Index := Scalar.indexCast v348
  let c128_211 : Index := 128#32
  let c0_212 : Index := 0#32
  ![1, v413.toNat, 128, 0]
def k0_off144 (i : grid0.Coords) : Fin 4 → Nat :=
  let c1_213 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v421 : Index := Scalar.indexCast v348
  let c144 : Index := 144#32
  let c0_214 : Index := 0#32
  ![1, v421.toNat, 144, 0]
def k0_off145 (i : grid0.Coords) : Fin 4 → Nat :=
  let c1_215 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v429 : Index := Scalar.indexCast v348
  let c160 : Index := 160#32
  let c0_216 : Index := 0#32
  ![1, v429.toNat, 160, 0]
def k0_off146 (i : grid0.Coords) : Fin 4 → Nat :=
  let c1_217 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v437 : Index := Scalar.indexCast v348
  let c176 : Index := 176#32
  let c0_218 : Index := 0#32
  ![1, v437.toNat, 176, 0]
def k0_off147 (i : grid0.Coords) : Fin 4 → Nat :=
  let c1_219 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v445 : Index := Scalar.indexCast v348
  let c192 : Index := 192#32
  let c0_220 : Index := 0#32
  ![1, v445.toNat, 192, 0]
def k0_off148 (i : grid0.Coords) : Fin 4 → Nat :=
  let c1_221 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v453 : Index := Scalar.indexCast v348
  let c208 : Index := 208#32
  let c0_222 : Index := 0#32
  ![1, v453.toNat, 208, 0]
def k0_off149 (i : grid0.Coords) : Fin 4 → Nat :=
  let c1_223 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v461 : Index := Scalar.indexCast v348
  let c224 : Index := 224#32
  let c0_224 : Index := 0#32
  ![1, v461.toNat, 224, 0]
def k0_off150 (i : grid0.Coords) : Fin 4 → Nat :=
  let c1_225 : Index := 1#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v469 : Index := Scalar.indexCast v348
  let c240 : Index := 240#32
  let c0_226 : Index := 0#32
  ![1, v469.toNat, 240, 0]
@[reducible] def k0_t13_loop (i : grid0.Coords) : Scf.Loop 32 :=
  let c0_i32_61 : BitVec 32 := 0#32
  let arg1 : BitVec 32 := BitVec.ofNat 32 (i 1).val
  let c1_i32 : BitVec 32 := 1#32
  let v0 : BitVec 32 := Scalar.addi arg1 c1_i32
  let v117 : BitVec 32 := Scalar.subi v0 c0_i32_61
  let c1_i32_62 : BitVec 32 := 1#32
  let v119 : BitVec 32 := Scalar.divsi v117 c1_i32_62
  let v120 : BitVec 32 := Scalar.muli v119 c1_i32_62
  let v121 : BitVec 32 := Scalar.addi c0_i32_61 v120
  let c1_i32_63 : BitVec 32 := 1#32
  ⟨c0_i32_61, v121, c1_i32_63⟩
def k0_off151 (i : grid0.Coords) (k0_t13 : Fin (k0_t13_loop i).trips) : Fin 4 → Nat :=
  let c1 : Index := 1#32
  let c0_i32_61 : BitVec 32 := 0#32
  let c1_i32_63 : BitVec 32 := 1#32
  let arg15 : BitVec 32 := Scf.iv c0_i32_61 c1_i32_63 k0_t13
  let v289 : Index := Scalar.indexCast arg15
  let c0_167 : Index := 0#32
  let c0_168 : Index := 0#32
  ![1, v289.toNat, 0, 0]
def k0_off152 (i : grid0.Coords) (k0_t13 : Fin (k0_t13_loop i).trips) : Fin 4 → Nat :=
  let c2 : Index := 2#32
  let c0_i32_61 : BitVec 32 := 0#32
  let c1_i32_63 : BitVec 32 := 1#32
  let arg15 : BitVec 32 := Scf.iv c0_i32_61 c1_i32_63 k0_t13
  let v294 : Index := Scalar.indexCast arg15
  let c0_169 : Index := 0#32
  let c0_170 : Index := 0#32
  ![2, v294.toNat, 0, 0]
@[reducible] def k0_t14_loop (i : grid0.Coords) : Scf.Loop 32 :=
  let c0_i32_61 : BitVec 32 := 0#32
  let arg1 : BitVec 32 := BitVec.ofNat 32 (i 1).val
  let c1_i32 : BitVec 32 := 1#32
  let v0 : BitVec 32 := Scalar.addi arg1 c1_i32
  let v117 : BitVec 32 := Scalar.subi v0 c0_i32_61
  let c1_i32_62 : BitVec 32 := 1#32
  let v119 : BitVec 32 := Scalar.divsi v117 c1_i32_62
  let v120 : BitVec 32 := Scalar.muli v119 c1_i32_62
  let v121 : BitVec 32 := Scalar.addi c0_i32_61 v120
  let v118 : BitVec 32 := Scalar.addi c0_i32_61 v117
  let c1_i32_64 : BitVec 32 := 1#32
  ⟨v121, v118, c1_i32_64⟩
def k0_off153 (i : grid0.Coords) (k0_t14 : Fin (k0_t14_loop i).trips) : Fin 4 → Nat :=
  let c1 : Index := 1#32
  let c0_i32_61 : BitVec 32 := 0#32
  let arg1 : BitVec 32 := BitVec.ofNat 32 (i 1).val
  let c1_i32 : BitVec 32 := 1#32
  let v0 : BitVec 32 := Scalar.addi arg1 c1_i32
  let v117 : BitVec 32 := Scalar.subi v0 c0_i32_61
  let c1_i32_62 : BitVec 32 := 1#32
  let v119 : BitVec 32 := Scalar.divsi v117 c1_i32_62
  let v120 : BitVec 32 := Scalar.muli v119 c1_i32_62
  let v121 : BitVec 32 := Scalar.addi c0_i32_61 v120
  let c1_i32_64 : BitVec 32 := 1#32
  let arg15 : BitVec 32 := Scf.iv v121 c1_i32_64 k0_t14
  let v289 : Index := Scalar.indexCast arg15
  let c0_167 : Index := 0#32
  let c0_168 : Index := 0#32
  ![1, v289.toNat, 0, 0]
def k0_off154 (i : grid0.Coords) (k0_t14 : Fin (k0_t14_loop i).trips) : Fin 4 → Nat :=
  let c2 : Index := 2#32
  let c0_i32_61 : BitVec 32 := 0#32
  let arg1 : BitVec 32 := BitVec.ofNat 32 (i 1).val
  let c1_i32 : BitVec 32 := 1#32
  let v0 : BitVec 32 := Scalar.addi arg1 c1_i32
  let v117 : BitVec 32 := Scalar.subi v0 c0_i32_61
  let c1_i32_62 : BitVec 32 := 1#32
  let v119 : BitVec 32 := Scalar.divsi v117 c1_i32_62
  let v120 : BitVec 32 := Scalar.muli v119 c1_i32_62
  let v121 : BitVec 32 := Scalar.addi c0_i32_61 v120
  let c1_i32_64 : BitVec 32 := 1#32
  let arg15 : BitVec 32 := Scf.iv v121 c1_i32_64 k0_t14
  let v294 : Index := Scalar.indexCast arg15
  let c0_169 : Index := 0#32
  let c0_170 : Index := 0#32
  ![2, v294.toNat, 0, 0]
@[reducible] def k0_t15_loop : Scf.Loop 32 :=
  let c0_i32_69 : BitVec 32 := 0#32
  let c8_i32_70 : BitVec 32 := 8#32
  let v124 : BitVec 32 := Scalar.addi c0_i32_69 c8_i32_70
  let c1_i32_71 : BitVec 32 := 1#32
  ⟨c0_i32_69, v124, c1_i32_71⟩
@[reducible] def k0_t16_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_180 : BitVec 32 := 1#32
  ⟨c0_i32_178, v318, c1_i32_180⟩
def k0_off155 (i : grid0.Coords) (k0_t16 : Fin (k0_t16_loop i).trips) (c0_i32_194 : BitVec 32) : Fin 4 → Nat :=
  let c2 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v350 : Index := Scalar.indexCast v349
  let c0_195 : Index := 0#32
  let c0_196 : Index := 0#32
  ![2, v350.toNat, 0, 0]
def k0_off156 (i : grid0.Coords) (k0_t16 : Fin (k0_t16_loop i).trips) (c0_i32_194 : BitVec 32) : Fin 4 → Nat :=
  let c2_197 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v358 : Index := Scalar.indexCast v349
  let c16 : Index := 16#32
  let c0_198 : Index := 0#32
  ![2, v358.toNat, 16, 0]
def k0_off157 (i : grid0.Coords) (k0_t16 : Fin (k0_t16_loop i).trips) (c0_i32_194 : BitVec 32) : Fin 4 → Nat :=
  let c2_199 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v366 : Index := Scalar.indexCast v349
  let c32 : Index := 32#32
  let c0_200 : Index := 0#32
  ![2, v366.toNat, 32, 0]
def k0_off158 (i : grid0.Coords) (k0_t16 : Fin (k0_t16_loop i).trips) (c0_i32_194 : BitVec 32) : Fin 4 → Nat :=
  let c2_201 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v374 : Index := Scalar.indexCast v349
  let c48 : Index := 48#32
  let c0_202 : Index := 0#32
  ![2, v374.toNat, 48, 0]
def k0_off159 (i : grid0.Coords) (k0_t16 : Fin (k0_t16_loop i).trips) (c0_i32_194 : BitVec 32) : Fin 4 → Nat :=
  let c2_203 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v382 : Index := Scalar.indexCast v349
  let c64 : Index := 64#32
  let c0_204 : Index := 0#32
  ![2, v382.toNat, 64, 0]
def k0_off160 (i : grid0.Coords) (k0_t16 : Fin (k0_t16_loop i).trips) (c0_i32_194 : BitVec 32) : Fin 4 → Nat :=
  let c2_205 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v390 : Index := Scalar.indexCast v349
  let c80 : Index := 80#32
  let c0_206 : Index := 0#32
  ![2, v390.toNat, 80, 0]
def k0_off161 (i : grid0.Coords) (k0_t16 : Fin (k0_t16_loop i).trips) (c0_i32_194 : BitVec 32) : Fin 4 → Nat :=
  let c2_207 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v398 : Index := Scalar.indexCast v349
  let c96 : Index := 96#32
  let c0_208 : Index := 0#32
  ![2, v398.toNat, 96, 0]
def k0_off162 (i : grid0.Coords) (k0_t16 : Fin (k0_t16_loop i).trips) (c0_i32_194 : BitVec 32) : Fin 4 → Nat :=
  let c2_209 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v406 : Index := Scalar.indexCast v349
  let c112 : Index := 112#32
  let c0_210 : Index := 0#32
  ![2, v406.toNat, 112, 0]
def k0_off163 (i : grid0.Coords) (k0_t16 : Fin (k0_t16_loop i).trips) (c0_i32_194 : BitVec 32) : Fin 4 → Nat :=
  let c2_211 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v414 : Index := Scalar.indexCast v349
  let c128_212 : Index := 128#32
  let c0_213 : Index := 0#32
  ![2, v414.toNat, 128, 0]
def k0_off164 (i : grid0.Coords) (k0_t16 : Fin (k0_t16_loop i).trips) (c0_i32_194 : BitVec 32) : Fin 4 → Nat :=
  let c2_214 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v422 : Index := Scalar.indexCast v349
  let c144 : Index := 144#32
  let c0_215 : Index := 0#32
  ![2, v422.toNat, 144, 0]
def k0_off165 (i : grid0.Coords) (k0_t16 : Fin (k0_t16_loop i).trips) (c0_i32_194 : BitVec 32) : Fin 4 → Nat :=
  let c2_216 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v430 : Index := Scalar.indexCast v349
  let c160 : Index := 160#32
  let c0_217 : Index := 0#32
  ![2, v430.toNat, 160, 0]
def k0_off166 (i : grid0.Coords) (k0_t16 : Fin (k0_t16_loop i).trips) (c0_i32_194 : BitVec 32) : Fin 4 → Nat :=
  let c2_218 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v438 : Index := Scalar.indexCast v349
  let c176 : Index := 176#32
  let c0_219 : Index := 0#32
  ![2, v438.toNat, 176, 0]
def k0_off167 (i : grid0.Coords) (k0_t16 : Fin (k0_t16_loop i).trips) (c0_i32_194 : BitVec 32) : Fin 4 → Nat :=
  let c2_220 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v446 : Index := Scalar.indexCast v349
  let c192 : Index := 192#32
  let c0_221 : Index := 0#32
  ![2, v446.toNat, 192, 0]
def k0_off168 (i : grid0.Coords) (k0_t16 : Fin (k0_t16_loop i).trips) (c0_i32_194 : BitVec 32) : Fin 4 → Nat :=
  let c2_222 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v454 : Index := Scalar.indexCast v349
  let c208 : Index := 208#32
  let c0_223 : Index := 0#32
  ![2, v454.toNat, 208, 0]
def k0_off169 (i : grid0.Coords) (k0_t16 : Fin (k0_t16_loop i).trips) (c0_i32_194 : BitVec 32) : Fin 4 → Nat :=
  let c2_224 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v462 : Index := Scalar.indexCast v349
  let c224 : Index := 224#32
  let c0_225 : Index := 0#32
  ![2, v462.toNat, 224, 0]
def k0_off170 (i : grid0.Coords) (k0_t16 : Fin (k0_t16_loop i).trips) (c0_i32_194 : BitVec 32) : Fin 4 → Nat :=
  let c2_226 : Index := 2#32
  let c4_i32_193 : BitVec 32 := 4#32
  let c0_i32_178 : BitVec 32 := 0#32
  let c1_i32_180 : BitVec 32 := 1#32
  let arg19 : BitVec 32 := Scf.iv c0_i32_178 c1_i32_180 k0_t16
  let v348 : BitVec 32 := Scalar.muli c4_i32_193 arg19
  let v349 : BitVec 32 := Scalar.addi v348 c0_i32_194
  let v470 : Index := Scalar.indexCast v349
  let c240 : Index := 240#32
  let c0_227 : Index := 0#32
  ![2, v470.toNat, 240, 0]
@[reducible] def k0_t17_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let v315 : BitVec 32 := Scalar.addi c0_i32_178 v314
  let c1_i32_181 : BitVec 32 := 1#32
  ⟨v318, v315, c1_i32_181⟩
def k0_off171 (i : grid0.Coords) (k0_t17 : Fin (k0_t17_loop i).trips) (c0_i32_194 : BitVec 32) : Fin 4 → Nat :=
  let c2 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v350 : Index := Scalar.indexCast v349
  let c0_195 : Index := 0#32
  let c0_196 : Index := 0#32
  ![2, v350.toNat, 0, 0]
def k0_off172 (i : grid0.Coords) (k0_t17 : Fin (k0_t17_loop i).trips) (c0_i32_194 : BitVec 32) : Fin 4 → Nat :=
  let c2_197 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v358 : Index := Scalar.indexCast v349
  let c16 : Index := 16#32
  let c0_198 : Index := 0#32
  ![2, v358.toNat, 16, 0]
def k0_off173 (i : grid0.Coords) (k0_t17 : Fin (k0_t17_loop i).trips) (c0_i32_194 : BitVec 32) : Fin 4 → Nat :=
  let c2_199 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v366 : Index := Scalar.indexCast v349
  let c32 : Index := 32#32
  let c0_200 : Index := 0#32
  ![2, v366.toNat, 32, 0]
def k0_off174 (i : grid0.Coords) (k0_t17 : Fin (k0_t17_loop i).trips) (c0_i32_194 : BitVec 32) : Fin 4 → Nat :=
  let c2_201 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v374 : Index := Scalar.indexCast v349
  let c48 : Index := 48#32
  let c0_202 : Index := 0#32
  ![2, v374.toNat, 48, 0]
def k0_off175 (i : grid0.Coords) (k0_t17 : Fin (k0_t17_loop i).trips) (c0_i32_194 : BitVec 32) : Fin 4 → Nat :=
  let c2_203 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v382 : Index := Scalar.indexCast v349
  let c64 : Index := 64#32
  let c0_204 : Index := 0#32
  ![2, v382.toNat, 64, 0]
def k0_off176 (i : grid0.Coords) (k0_t17 : Fin (k0_t17_loop i).trips) (c0_i32_194 : BitVec 32) : Fin 4 → Nat :=
  let c2_205 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v390 : Index := Scalar.indexCast v349
  let c80 : Index := 80#32
  let c0_206 : Index := 0#32
  ![2, v390.toNat, 80, 0]
def k0_off177 (i : grid0.Coords) (k0_t17 : Fin (k0_t17_loop i).trips) (c0_i32_194 : BitVec 32) : Fin 4 → Nat :=
  let c2_207 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v398 : Index := Scalar.indexCast v349
  let c96 : Index := 96#32
  let c0_208 : Index := 0#32
  ![2, v398.toNat, 96, 0]
def k0_off178 (i : grid0.Coords) (k0_t17 : Fin (k0_t17_loop i).trips) (c0_i32_194 : BitVec 32) : Fin 4 → Nat :=
  let c2_209 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v406 : Index := Scalar.indexCast v349
  let c112 : Index := 112#32
  let c0_210 : Index := 0#32
  ![2, v406.toNat, 112, 0]
def k0_off179 (i : grid0.Coords) (k0_t17 : Fin (k0_t17_loop i).trips) (c0_i32_194 : BitVec 32) : Fin 4 → Nat :=
  let c2_211 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v414 : Index := Scalar.indexCast v349
  let c128_212 : Index := 128#32
  let c0_213 : Index := 0#32
  ![2, v414.toNat, 128, 0]
def k0_off180 (i : grid0.Coords) (k0_t17 : Fin (k0_t17_loop i).trips) (c0_i32_194 : BitVec 32) : Fin 4 → Nat :=
  let c2_214 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v422 : Index := Scalar.indexCast v349
  let c144 : Index := 144#32
  let c0_215 : Index := 0#32
  ![2, v422.toNat, 144, 0]
def k0_off181 (i : grid0.Coords) (k0_t17 : Fin (k0_t17_loop i).trips) (c0_i32_194 : BitVec 32) : Fin 4 → Nat :=
  let c2_216 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v430 : Index := Scalar.indexCast v349
  let c160 : Index := 160#32
  let c0_217 : Index := 0#32
  ![2, v430.toNat, 160, 0]
def k0_off182 (i : grid0.Coords) (k0_t17 : Fin (k0_t17_loop i).trips) (c0_i32_194 : BitVec 32) : Fin 4 → Nat :=
  let c2_218 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v438 : Index := Scalar.indexCast v349
  let c176 : Index := 176#32
  let c0_219 : Index := 0#32
  ![2, v438.toNat, 176, 0]
def k0_off183 (i : grid0.Coords) (k0_t17 : Fin (k0_t17_loop i).trips) (c0_i32_194 : BitVec 32) : Fin 4 → Nat :=
  let c2_220 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v446 : Index := Scalar.indexCast v349
  let c192 : Index := 192#32
  let c0_221 : Index := 0#32
  ![2, v446.toNat, 192, 0]
def k0_off184 (i : grid0.Coords) (k0_t17 : Fin (k0_t17_loop i).trips) (c0_i32_194 : BitVec 32) : Fin 4 → Nat :=
  let c2_222 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v454 : Index := Scalar.indexCast v349
  let c208 : Index := 208#32
  let c0_223 : Index := 0#32
  ![2, v454.toNat, 208, 0]
def k0_off185 (i : grid0.Coords) (k0_t17 : Fin (k0_t17_loop i).trips) (c0_i32_194 : BitVec 32) : Fin 4 → Nat :=
  let c2_224 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v462 : Index := Scalar.indexCast v349
  let c224 : Index := 224#32
  let c0_225 : Index := 0#32
  ![2, v462.toNat, 224, 0]
def k0_off186 (i : grid0.Coords) (k0_t17 : Fin (k0_t17_loop i).trips) (c0_i32_194 : BitVec 32) : Fin 4 → Nat :=
  let c2_226 : Index := 2#32
  let c4_i32_193 : BitVec 32 := 4#32
  let c0_i32_178 : BitVec 32 := 0#32
  let arg1 : BitVec 32 := BitVec.ofNat 32 (i 1).val
  let c1_i32 : BitVec 32 := 1#32
  let v0 : BitVec 32 := Scalar.addi arg1 c1_i32
  let c0_i32_172 : BitVec 32 := 0#32
  let v298 : BitVec 1 := Scalar.cmpi .sgt v0 c0_i32_172
  let v299 : BitVec 32 := Scalar.extui v298
  let c0_i32_173 : BitVec 32 := 0#32
  let v300 : BitVec 1 := Scalar.cmpi .slt v0 c0_i32_173
  let v301 : BitVec 32 := Scalar.extui v300
  let v302 : BitVec 32 := Scalar.subi v299 v301
  let c4_i32_171 : BitVec 32 := 4#32
  let c0_i32_174 : BitVec 32 := 0#32
  let v303 : BitVec 1 := Scalar.cmpi .sgt c4_i32_171 c0_i32_174
  let v304 : BitVec 32 := Scalar.extui v303
  let c0_i32_175 : BitVec 32 := 0#32
  let v305 : BitVec 1 := Scalar.cmpi .slt c4_i32_171 c0_i32_175
  let v306 : BitVec 32 := Scalar.extui v305
  let v307 : BitVec 32 := Scalar.subi v304 v306
  let v308 : BitVec 1 := Scalar.cmpi .ne v302 v307
  let v309 : BitVec 32 := Scalar.remsi v0 c4_i32_171
  let c0_i32_176 : BitVec 32 := 0#32
  let v310 : BitVec 1 := Scalar.cmpi .ne v309 c0_i32_176
  let v311 : BitVec 1 := Scalar.andi v308 v310
  let v297 : BitVec 32 := Scalar.divsi v0 c4_i32_171
  let c1_i32_177 : BitVec 32 := 1#32
  let v312 : BitVec 32 := Scalar.subi v297 c1_i32_177
  let v313 : BitVec 32 := Scalar.select v311 v312 v297
  let v314 : BitVec 32 := Scalar.subi v313 c0_i32_178
  let c1_i32_179 : BitVec 32 := 1#32
  let v316 : BitVec 32 := Scalar.divsi v314 c1_i32_179
  let v317 : BitVec 32 := Scalar.muli v316 c1_i32_179
  let v318 : BitVec 32 := Scalar.addi c0_i32_178 v317
  let c1_i32_181 : BitVec 32 := 1#32
  let arg19 : BitVec 32 := Scf.iv v318 c1_i32_181 k0_t17
  let v348 : BitVec 32 := Scalar.muli c4_i32_193 arg19
  let v349 : BitVec 32 := Scalar.addi v348 c0_i32_194
  let v470 : Index := Scalar.indexCast v349
  let c240 : Index := 240#32
  let c0_227 : Index := 0#32
  ![2, v470.toNat, 240, 0]
def k0_cond8 (i : grid0.Coords) : BitVec 1 :=
  let arg1 : BitVec 32 := BitVec.ofNat 32 (i 1).val
  let c1_i32 : BitVec 32 := 1#32
  let v0 : BitVec 32 := Scalar.addi arg1 c1_i32
  let c2_i32_183 : BitVec 32 := 2#32
  let v322 : BitVec 32 := Scalar.andi v0 c2_i32_183
  let c2_i32_184 : BitVec 32 := 2#32
  let v323 : BitVec 1 := Scalar.cmpi .eq v322 c2_i32_184
  let v324 : BitVec 32 := Scalar.extui v323
  let c0_i32_185 : BitVec 32 := 0#32
  let v325 : BitVec 1 := Scalar.cmpi .ne v324 c0_i32_185
  v325

def k0_off187 (i : grid0.Coords) (c0_i32_193 : BitVec 32) : Fin 4 → Nat :=
  let c2 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v349 : Index := Scalar.indexCast v348
  let c0_194 : Index := 0#32
  let c0_195 : Index := 0#32
  ![2, v349.toNat, 0, 0]
def k0_off188 (i : grid0.Coords) (c0_i32_193 : BitVec 32) : Fin 4 → Nat :=
  let c2_196 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v357 : Index := Scalar.indexCast v348
  let c16 : Index := 16#32
  let c0_197 : Index := 0#32
  ![2, v357.toNat, 16, 0]
def k0_off189 (i : grid0.Coords) (c0_i32_193 : BitVec 32) : Fin 4 → Nat :=
  let c2_198 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v365 : Index := Scalar.indexCast v348
  let c32 : Index := 32#32
  let c0_199 : Index := 0#32
  ![2, v365.toNat, 32, 0]
def k0_off190 (i : grid0.Coords) (c0_i32_193 : BitVec 32) : Fin 4 → Nat :=
  let c2_200 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v373 : Index := Scalar.indexCast v348
  let c48 : Index := 48#32
  let c0_201 : Index := 0#32
  ![2, v373.toNat, 48, 0]
def k0_off191 (i : grid0.Coords) (c0_i32_193 : BitVec 32) : Fin 4 → Nat :=
  let c2_202 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v381 : Index := Scalar.indexCast v348
  let c64 : Index := 64#32
  let c0_203 : Index := 0#32
  ![2, v381.toNat, 64, 0]
def k0_off192 (i : grid0.Coords) (c0_i32_193 : BitVec 32) : Fin 4 → Nat :=
  let c2_204 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v389 : Index := Scalar.indexCast v348
  let c80 : Index := 80#32
  let c0_205 : Index := 0#32
  ![2, v389.toNat, 80, 0]
def k0_off193 (i : grid0.Coords) (c0_i32_193 : BitVec 32) : Fin 4 → Nat :=
  let c2_206 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v397 : Index := Scalar.indexCast v348
  let c96 : Index := 96#32
  let c0_207 : Index := 0#32
  ![2, v397.toNat, 96, 0]
def k0_off194 (i : grid0.Coords) (c0_i32_193 : BitVec 32) : Fin 4 → Nat :=
  let c2_208 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v405 : Index := Scalar.indexCast v348
  let c112 : Index := 112#32
  let c0_209 : Index := 0#32
  ![2, v405.toNat, 112, 0]
def k0_off195 (i : grid0.Coords) (c0_i32_193 : BitVec 32) : Fin 4 → Nat :=
  let c2_210 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v413 : Index := Scalar.indexCast v348
  let c128_211 : Index := 128#32
  let c0_212 : Index := 0#32
  ![2, v413.toNat, 128, 0]
def k0_off196 (i : grid0.Coords) (c0_i32_193 : BitVec 32) : Fin 4 → Nat :=
  let c2_213 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v421 : Index := Scalar.indexCast v348
  let c144 : Index := 144#32
  let c0_214 : Index := 0#32
  ![2, v421.toNat, 144, 0]
def k0_off197 (i : grid0.Coords) (c0_i32_193 : BitVec 32) : Fin 4 → Nat :=
  let c2_215 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v429 : Index := Scalar.indexCast v348
  let c160 : Index := 160#32
  let c0_216 : Index := 0#32
  ![2, v429.toNat, 160, 0]
def k0_off198 (i : grid0.Coords) (c0_i32_193 : BitVec 32) : Fin 4 → Nat :=
  let c2_217 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v437 : Index := Scalar.indexCast v348
  let c176 : Index := 176#32
  let c0_218 : Index := 0#32
  ![2, v437.toNat, 176, 0]
def k0_off199 (i : grid0.Coords) (c0_i32_193 : BitVec 32) : Fin 4 → Nat :=
  let c2_219 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v445 : Index := Scalar.indexCast v348
  let c192 : Index := 192#32
  let c0_220 : Index := 0#32
  ![2, v445.toNat, 192, 0]
def k0_off200 (i : grid0.Coords) (c0_i32_193 : BitVec 32) : Fin 4 → Nat :=
  let c2_221 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v453 : Index := Scalar.indexCast v348
  let c208 : Index := 208#32
  let c0_222 : Index := 0#32
  ![2, v453.toNat, 208, 0]
def k0_off201 (i : grid0.Coords) (c0_i32_193 : BitVec 32) : Fin 4 → Nat :=
  let c2_223 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v461 : Index := Scalar.indexCast v348
  let c224 : Index := 224#32
  let c0_224 : Index := 0#32
  ![2, v461.toNat, 224, 0]
def k0_off202 (i : grid0.Coords) (c0_i32_193 : BitVec 32) : Fin 4 → Nat :=
  let c2_225 : Index := 2#32
  let arg1 : BitVec 32 := BitVec.ofNat 32 (i 1).val
  let c1_i32 : BitVec 32 := 1#32
  let v0 : BitVec 32 := Scalar.addi arg1 c1_i32
  let c_m4_i32_182 : BitVec 32 := 4294967292#32
  let v321 : BitVec 32 := Scalar.andi v0 c_m4_i32_182
  let v348 : BitVec 32 := Scalar.addi v321 c0_i32_193
  let v469 : Index := Scalar.indexCast v348
  let c240 : Index := 240#32
  let c0_226 : Index := 0#32
  ![2, v469.toNat, 240, 0]
def k0_cond9 (i : grid0.Coords) : BitVec 1 :=
  let arg1 : BitVec 32 := BitVec.ofNat 32 (i 1).val
  let c1_i32 : BitVec 32 := 1#32
  let v0 : BitVec 32 := Scalar.addi arg1 c1_i32
  let c1_i32_187 : BitVec 32 := 1#32
  let v328 : BitVec 32 := Scalar.andi v0 c1_i32_187
  let c1_i32_188 : BitVec 32 := 1#32
  let v329 : BitVec 1 := Scalar.cmpi .eq v328 c1_i32_188
  let v330 : BitVec 32 := Scalar.extui v329
  let c0_i32_189 : BitVec 32 := 0#32
  let v331 : BitVec 1 := Scalar.cmpi .ne v330 c0_i32_189
  v331

def k0_off203 (i : grid0.Coords) : Fin 4 → Nat :=
  let c2 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v349 : Index := Scalar.indexCast v348
  let c0_194 : Index := 0#32
  let c0_195 : Index := 0#32
  ![2, v349.toNat, 0, 0]
def k0_off204 (i : grid0.Coords) : Fin 4 → Nat :=
  let c2_196 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v357 : Index := Scalar.indexCast v348
  let c16 : Index := 16#32
  let c0_197 : Index := 0#32
  ![2, v357.toNat, 16, 0]
def k0_off205 (i : grid0.Coords) : Fin 4 → Nat :=
  let c2_198 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v365 : Index := Scalar.indexCast v348
  let c32 : Index := 32#32
  let c0_199 : Index := 0#32
  ![2, v365.toNat, 32, 0]
def k0_off206 (i : grid0.Coords) : Fin 4 → Nat :=
  let c2_200 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v373 : Index := Scalar.indexCast v348
  let c48 : Index := 48#32
  let c0_201 : Index := 0#32
  ![2, v373.toNat, 48, 0]
def k0_off207 (i : grid0.Coords) : Fin 4 → Nat :=
  let c2_202 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v381 : Index := Scalar.indexCast v348
  let c64 : Index := 64#32
  let c0_203 : Index := 0#32
  ![2, v381.toNat, 64, 0]
def k0_off208 (i : grid0.Coords) : Fin 4 → Nat :=
  let c2_204 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v389 : Index := Scalar.indexCast v348
  let c80 : Index := 80#32
  let c0_205 : Index := 0#32
  ![2, v389.toNat, 80, 0]
def k0_off209 (i : grid0.Coords) : Fin 4 → Nat :=
  let c2_206 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v397 : Index := Scalar.indexCast v348
  let c96 : Index := 96#32
  let c0_207 : Index := 0#32
  ![2, v397.toNat, 96, 0]
def k0_off210 (i : grid0.Coords) : Fin 4 → Nat :=
  let c2_208 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v405 : Index := Scalar.indexCast v348
  let c112 : Index := 112#32
  let c0_209 : Index := 0#32
  ![2, v405.toNat, 112, 0]
def k0_off211 (i : grid0.Coords) : Fin 4 → Nat :=
  let c2_210 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v413 : Index := Scalar.indexCast v348
  let c128_211 : Index := 128#32
  let c0_212 : Index := 0#32
  ![2, v413.toNat, 128, 0]
def k0_off212 (i : grid0.Coords) : Fin 4 → Nat :=
  let c2_213 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v421 : Index := Scalar.indexCast v348
  let c144 : Index := 144#32
  let c0_214 : Index := 0#32
  ![2, v421.toNat, 144, 0]
def k0_off213 (i : grid0.Coords) : Fin 4 → Nat :=
  let c2_215 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v429 : Index := Scalar.indexCast v348
  let c160 : Index := 160#32
  let c0_216 : Index := 0#32
  ![2, v429.toNat, 160, 0]
def k0_off214 (i : grid0.Coords) : Fin 4 → Nat :=
  let c2_217 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v437 : Index := Scalar.indexCast v348
  let c176 : Index := 176#32
  let c0_218 : Index := 0#32
  ![2, v437.toNat, 176, 0]
def k0_off215 (i : grid0.Coords) : Fin 4 → Nat :=
  let c2_219 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v445 : Index := Scalar.indexCast v348
  let c192 : Index := 192#32
  let c0_220 : Index := 0#32
  ![2, v445.toNat, 192, 0]
def k0_off216 (i : grid0.Coords) : Fin 4 → Nat :=
  let c2_221 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v453 : Index := Scalar.indexCast v348
  let c208 : Index := 208#32
  let c0_222 : Index := 0#32
  ![2, v453.toNat, 208, 0]
def k0_off217 (i : grid0.Coords) : Fin 4 → Nat :=
  let c2_223 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v461 : Index := Scalar.indexCast v348
  let c224 : Index := 224#32
  let c0_224 : Index := 0#32
  ![2, v461.toNat, 224, 0]
def k0_off218 (i : grid0.Coords) : Fin 4 → Nat :=
  let c2_225 : Index := 2#32
  let arg1 : BitVec 32 := BitVec.ofNat 32 (i 1).val
  let c1_i32 : BitVec 32 := 1#32
  let v0 : BitVec 32 := Scalar.addi arg1 c1_i32
  let c_m2_i32_186 : BitVec 32 := 4294967294#32
  let v327 : BitVec 32 := Scalar.andi v0 c_m2_i32_186
  let c0_i32_193 : BitVec 32 := 0#32
  let v348 : BitVec 32 := Scalar.addi v327 c0_i32_193
  let v469 : Index := Scalar.indexCast v348
  let c240 : Index := 240#32
  let c0_226 : Index := 0#32
  ![2, v469.toNat, 240, 0]
@[reducible] def k0_t18_loop : Scf.Loop 32 :=
  let c0_i32_169 : BitVec 32 := 0#32
  let c4096_i32 : BitVec 32 := 4096#32
  let v298 : BitVec 32 := Scalar.addi c0_i32_169 c4096_i32
  let c1_i32_170 : BitVec 32 := 1#32
  ⟨c0_i32_169, v298, c1_i32_170⟩
@[reducible] def k0_t19_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_180 : BitVec 32 := 1#32
  ⟨c0_i32_178, v316, c1_i32_180⟩
def k0_off219 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v334 : Index := Scalar.indexCast arg17
  let c0_188 : Index := 0#32
  let c0_189 : Index := 0#32
  ![v334.toNat, 0, 0]
def k0_off220 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v344 : Index := Scalar.indexCast arg17
  let c8 : Index := 8#32
  let c0_193 : Index := 0#32
  ![v344.toNat, 8, 0]
def k0_off221 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v354 : Index := Scalar.indexCast arg17
  let c16 : Index := 16#32
  let c0_197 : Index := 0#32
  ![v354.toNat, 16, 0]
def k0_off222 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v364 : Index := Scalar.indexCast arg17
  let c24 : Index := 24#32
  let c0_201 : Index := 0#32
  ![v364.toNat, 24, 0]
def k0_off223 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v374 : Index := Scalar.indexCast arg17
  let c32 : Index := 32#32
  let c0_205 : Index := 0#32
  ![v374.toNat, 32, 0]
def k0_off224 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v384 : Index := Scalar.indexCast arg17
  let c40 : Index := 40#32
  let c0_209 : Index := 0#32
  ![v384.toNat, 40, 0]
def k0_off225 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v394 : Index := Scalar.indexCast arg17
  let c48 : Index := 48#32
  let c0_213 : Index := 0#32
  ![v394.toNat, 48, 0]
def k0_off226 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v404 : Index := Scalar.indexCast arg17
  let c56 : Index := 56#32
  let c0_217 : Index := 0#32
  ![v404.toNat, 56, 0]
def k0_off227 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v414 : Index := Scalar.indexCast arg17
  let c64 : Index := 64#32
  let c0_221 : Index := 0#32
  ![v414.toNat, 64, 0]
def k0_off228 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v424 : Index := Scalar.indexCast arg17
  let c72 : Index := 72#32
  let c0_225 : Index := 0#32
  ![v424.toNat, 72, 0]
def k0_off229 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v434 : Index := Scalar.indexCast arg17
  let c80 : Index := 80#32
  let c0_229 : Index := 0#32
  ![v434.toNat, 80, 0]
def k0_off230 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v444 : Index := Scalar.indexCast arg17
  let c88 : Index := 88#32
  let c0_233 : Index := 0#32
  ![v444.toNat, 88, 0]
def k0_off231 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v454 : Index := Scalar.indexCast arg17
  let c96 : Index := 96#32
  let c0_237 : Index := 0#32
  ![v454.toNat, 96, 0]
def k0_off232 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v464 : Index := Scalar.indexCast arg17
  let c104 : Index := 104#32
  let c0_241 : Index := 0#32
  ![v464.toNat, 104, 0]
def k0_off233 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v474 : Index := Scalar.indexCast arg17
  let c112 : Index := 112#32
  let c0_245 : Index := 0#32
  ![v474.toNat, 112, 0]
def k0_off234 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v484 : Index := Scalar.indexCast arg17
  let c120 : Index := 120#32
  let c0_249 : Index := 0#32
  ![v484.toNat, 120, 0]
def k0_off235 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v494 : Index := Scalar.indexCast arg17
  let c128_253 : Index := 128#32
  let c0_254 : Index := 0#32
  ![v494.toNat, 128, 0]
def k0_off236 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v504 : Index := Scalar.indexCast arg17
  let c136 : Index := 136#32
  let c0_258 : Index := 0#32
  ![v504.toNat, 136, 0]
def k0_off237 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v514 : Index := Scalar.indexCast arg17
  let c144 : Index := 144#32
  let c0_262 : Index := 0#32
  ![v514.toNat, 144, 0]
def k0_off238 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v524 : Index := Scalar.indexCast arg17
  let c152 : Index := 152#32
  let c0_266 : Index := 0#32
  ![v524.toNat, 152, 0]
def k0_off239 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v534 : Index := Scalar.indexCast arg17
  let c160 : Index := 160#32
  let c0_270 : Index := 0#32
  ![v534.toNat, 160, 0]
def k0_off240 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v544 : Index := Scalar.indexCast arg17
  let c168 : Index := 168#32
  let c0_274 : Index := 0#32
  ![v544.toNat, 168, 0]
def k0_off241 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v554 : Index := Scalar.indexCast arg17
  let c176 : Index := 176#32
  let c0_278 : Index := 0#32
  ![v554.toNat, 176, 0]
def k0_off242 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v564 : Index := Scalar.indexCast arg17
  let c184 : Index := 184#32
  let c0_282 : Index := 0#32
  ![v564.toNat, 184, 0]
def k0_off243 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v574 : Index := Scalar.indexCast arg17
  let c192 : Index := 192#32
  let c0_286 : Index := 0#32
  ![v574.toNat, 192, 0]
def k0_off244 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v584 : Index := Scalar.indexCast arg17
  let c200 : Index := 200#32
  let c0_290 : Index := 0#32
  ![v584.toNat, 200, 0]
def k0_off245 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v594 : Index := Scalar.indexCast arg17
  let c208 : Index := 208#32
  let c0_294 : Index := 0#32
  ![v594.toNat, 208, 0]
def k0_off246 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v604 : Index := Scalar.indexCast arg17
  let c216 : Index := 216#32
  let c0_298 : Index := 0#32
  ![v604.toNat, 216, 0]
def k0_off247 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v614 : Index := Scalar.indexCast arg17
  let c224 : Index := 224#32
  let c0_302 : Index := 0#32
  ![v614.toNat, 224, 0]
def k0_off248 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v624 : Index := Scalar.indexCast arg17
  let c232 : Index := 232#32
  let c0_306 : Index := 0#32
  ![v624.toNat, 232, 0]
def k0_off249 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v634 : Index := Scalar.indexCast arg17
  let c240 : Index := 240#32
  let c0_310 : Index := 0#32
  ![v634.toNat, 240, 0]
def k0_off250 (i : grid0.Coords) (k0_t19 : Fin (k0_t19_loop i).trips) : Fin 3 → Nat :=
  let c0_i32_178 : BitVec 32 := 0#32
  let c1_i32_180 : BitVec 32 := 1#32
  let arg17 : BitVec 32 := Scf.iv c0_i32_178 c1_i32_180 k0_t19
  let v644 : Index := Scalar.indexCast arg17
  let c248 : Index := 248#32
  let c0_314 : Index := 0#32
  ![v644.toNat, 248, 0]
@[reducible] def k0_t20_loop (i : grid0.Coords) : Scf.Loop 32 :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let v313 : BitVec 32 := Scalar.addi c0_i32_178 v312
  let c1_i32_181 : BitVec 32 := 1#32
  ⟨v316, v313, c1_i32_181⟩
def k0_off251 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v334 : Index := Scalar.indexCast arg17
  let c0_188 : Index := 0#32
  let c0_189 : Index := 0#32
  ![v334.toNat, 0, 0]
def k0_off252 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v344 : Index := Scalar.indexCast arg17
  let c8 : Index := 8#32
  let c0_193 : Index := 0#32
  ![v344.toNat, 8, 0]
def k0_off253 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v354 : Index := Scalar.indexCast arg17
  let c16 : Index := 16#32
  let c0_197 : Index := 0#32
  ![v354.toNat, 16, 0]
def k0_off254 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v364 : Index := Scalar.indexCast arg17
  let c24 : Index := 24#32
  let c0_201 : Index := 0#32
  ![v364.toNat, 24, 0]
def k0_off255 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v374 : Index := Scalar.indexCast arg17
  let c32 : Index := 32#32
  let c0_205 : Index := 0#32
  ![v374.toNat, 32, 0]
def k0_off256 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v384 : Index := Scalar.indexCast arg17
  let c40 : Index := 40#32
  let c0_209 : Index := 0#32
  ![v384.toNat, 40, 0]
def k0_off257 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v394 : Index := Scalar.indexCast arg17
  let c48 : Index := 48#32
  let c0_213 : Index := 0#32
  ![v394.toNat, 48, 0]
def k0_off258 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v404 : Index := Scalar.indexCast arg17
  let c56 : Index := 56#32
  let c0_217 : Index := 0#32
  ![v404.toNat, 56, 0]
def k0_off259 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v414 : Index := Scalar.indexCast arg17
  let c64 : Index := 64#32
  let c0_221 : Index := 0#32
  ![v414.toNat, 64, 0]
def k0_off260 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v424 : Index := Scalar.indexCast arg17
  let c72 : Index := 72#32
  let c0_225 : Index := 0#32
  ![v424.toNat, 72, 0]
def k0_off261 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v434 : Index := Scalar.indexCast arg17
  let c80 : Index := 80#32
  let c0_229 : Index := 0#32
  ![v434.toNat, 80, 0]
def k0_off262 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v444 : Index := Scalar.indexCast arg17
  let c88 : Index := 88#32
  let c0_233 : Index := 0#32
  ![v444.toNat, 88, 0]
def k0_off263 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v454 : Index := Scalar.indexCast arg17
  let c96 : Index := 96#32
  let c0_237 : Index := 0#32
  ![v454.toNat, 96, 0]
def k0_off264 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v464 : Index := Scalar.indexCast arg17
  let c104 : Index := 104#32
  let c0_241 : Index := 0#32
  ![v464.toNat, 104, 0]
def k0_off265 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v474 : Index := Scalar.indexCast arg17
  let c112 : Index := 112#32
  let c0_245 : Index := 0#32
  ![v474.toNat, 112, 0]
def k0_off266 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v484 : Index := Scalar.indexCast arg17
  let c120 : Index := 120#32
  let c0_249 : Index := 0#32
  ![v484.toNat, 120, 0]
def k0_off267 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v494 : Index := Scalar.indexCast arg17
  let c128_253 : Index := 128#32
  let c0_254 : Index := 0#32
  ![v494.toNat, 128, 0]
def k0_off268 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v504 : Index := Scalar.indexCast arg17
  let c136 : Index := 136#32
  let c0_258 : Index := 0#32
  ![v504.toNat, 136, 0]
def k0_off269 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v514 : Index := Scalar.indexCast arg17
  let c144 : Index := 144#32
  let c0_262 : Index := 0#32
  ![v514.toNat, 144, 0]
def k0_off270 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v524 : Index := Scalar.indexCast arg17
  let c152 : Index := 152#32
  let c0_266 : Index := 0#32
  ![v524.toNat, 152, 0]
def k0_off271 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v534 : Index := Scalar.indexCast arg17
  let c160 : Index := 160#32
  let c0_270 : Index := 0#32
  ![v534.toNat, 160, 0]
def k0_off272 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v544 : Index := Scalar.indexCast arg17
  let c168 : Index := 168#32
  let c0_274 : Index := 0#32
  ![v544.toNat, 168, 0]
def k0_off273 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v554 : Index := Scalar.indexCast arg17
  let c176 : Index := 176#32
  let c0_278 : Index := 0#32
  ![v554.toNat, 176, 0]
def k0_off274 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v564 : Index := Scalar.indexCast arg17
  let c184 : Index := 184#32
  let c0_282 : Index := 0#32
  ![v564.toNat, 184, 0]
def k0_off275 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v574 : Index := Scalar.indexCast arg17
  let c192 : Index := 192#32
  let c0_286 : Index := 0#32
  ![v574.toNat, 192, 0]
def k0_off276 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v584 : Index := Scalar.indexCast arg17
  let c200 : Index := 200#32
  let c0_290 : Index := 0#32
  ![v584.toNat, 200, 0]
def k0_off277 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v594 : Index := Scalar.indexCast arg17
  let c208 : Index := 208#32
  let c0_294 : Index := 0#32
  ![v594.toNat, 208, 0]
def k0_off278 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v604 : Index := Scalar.indexCast arg17
  let c216 : Index := 216#32
  let c0_298 : Index := 0#32
  ![v604.toNat, 216, 0]
def k0_off279 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v614 : Index := Scalar.indexCast arg17
  let c224 : Index := 224#32
  let c0_302 : Index := 0#32
  ![v614.toNat, 224, 0]
def k0_off280 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v624 : Index := Scalar.indexCast arg17
  let c232 : Index := 232#32
  let c0_306 : Index := 0#32
  ![v624.toNat, 232, 0]
def k0_off281 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v634 : Index := Scalar.indexCast arg17
  let c240 : Index := 240#32
  let c0_310 : Index := 0#32
  ![v634.toNat, 240, 0]
def k0_off282 (i : grid0.Coords) (k0_t20 : Fin (k0_t20_loop i).trips) : Fin 3 → Nat :=
  let c0_i32_178 : BitVec 32 := 0#32
  let arg1 : BitVec 32 := BitVec.ofNat 32 (i 1).val
  let c1_i32 : BitVec 32 := 1#32
  let v0 : BitVec 32 := Scalar.addi arg1 c1_i32
  let v312 : BitVec 32 := Scalar.subi v0 c0_i32_178
  let c1_i32_179 : BitVec 32 := 1#32
  let v314 : BitVec 32 := Scalar.divsi v312 c1_i32_179
  let v315 : BitVec 32 := Scalar.muli v314 c1_i32_179
  let v316 : BitVec 32 := Scalar.addi c0_i32_178 v315
  let c1_i32_181 : BitVec 32 := 1#32
  let arg17 : BitVec 32 := Scf.iv v316 c1_i32_181 k0_t20
  let v644 : Index := Scalar.indexCast arg17
  let c248 : Index := 248#32
  let c0_314 : Index := 0#32
  ![v644.toNat, 248, 0]
@[reducible] def k0_t21_loop (i : grid0.Coords) : Scf.Loop 32 :=
  let c0_i32_184 : BitVec 32 := 0#32
  let arg1 : BitVec 32 := BitVec.ofNat 32 (i 1).val
  let c1_i32 : BitVec 32 := 1#32
  let v0 : BitVec 32 := Scalar.addi arg1 c1_i32
  let v325 : BitVec 32 := Scalar.subi v0 c0_i32_184
  let c1_i32_185 : BitVec 32 := 1#32
  let v327 : BitVec 32 := Scalar.divsi v325 c1_i32_185
  let v328 : BitVec 32 := Scalar.muli v327 c1_i32_185
  let v329 : BitVec 32 := Scalar.addi c0_i32_184 v328
  let c1_i32_186 : BitVec 32 := 1#32
  ⟨c0_i32_184, v329, c1_i32_186⟩
def k0_off283 (i : grid0.Coords) (k0_t21 : Fin (k0_t21_loop i).trips) : Fin 3 → Nat :=
  let arg1 : BitVec 32 := BitVec.ofNat 32 (i 1).val
  let c1_i32 : BitVec 32 := 1#32
  let v0 : BitVec 32 := Scalar.addi arg1 c1_i32
  let c1_i32_188 : BitVec 32 := 1#32
  let v334 : BitVec 32 := Scalar.subi v0 c1_i32_188
  let c0_i32_184 : BitVec 32 := 0#32
  let c1_i32_186 : BitVec 32 := 1#32
  let arg17 : BitVec 32 := Scf.iv c0_i32_184 c1_i32_186 k0_t21
  let v335 : BitVec 32 := Scalar.subi v334 arg17
  let v336 : Index := Scalar.indexCast v335
  let c0_189 : Index := 0#32
  let c0_190 : Index := 0#32
  ![v336.toNat, 0, 0]
@[reducible] def k0_t22_loop (i : grid0.Coords) : Scf.Loop 32 :=
  let c0_i32_184 : BitVec 32 := 0#32
  let arg1 : BitVec 32 := BitVec.ofNat 32 (i 1).val
  let c1_i32 : BitVec 32 := 1#32
  let v0 : BitVec 32 := Scalar.addi arg1 c1_i32
  let v325 : BitVec 32 := Scalar.subi v0 c0_i32_184
  let c1_i32_185 : BitVec 32 := 1#32
  let v327 : BitVec 32 := Scalar.divsi v325 c1_i32_185
  let v328 : BitVec 32 := Scalar.muli v327 c1_i32_185
  let v329 : BitVec 32 := Scalar.addi c0_i32_184 v328
  let v326 : BitVec 32 := Scalar.addi c0_i32_184 v325
  let c1_i32_187 : BitVec 32 := 1#32
  ⟨v329, v326, c1_i32_187⟩
def k0_off284 (i : grid0.Coords) (k0_t22 : Fin (k0_t22_loop i).trips) : Fin 3 → Nat :=
  let arg1 : BitVec 32 := BitVec.ofNat 32 (i 1).val
  let c1_i32 : BitVec 32 := 1#32
  let v0 : BitVec 32 := Scalar.addi arg1 c1_i32
  let c1_i32_188 : BitVec 32 := 1#32
  let v334 : BitVec 32 := Scalar.subi v0 c1_i32_188
  let c0_i32_184 : BitVec 32 := 0#32
  let v325 : BitVec 32 := Scalar.subi v0 c0_i32_184
  let c1_i32_185 : BitVec 32 := 1#32
  let v327 : BitVec 32 := Scalar.divsi v325 c1_i32_185
  let v328 : BitVec 32 := Scalar.muli v327 c1_i32_185
  let v329 : BitVec 32 := Scalar.addi c0_i32_184 v328
  let c1_i32_187 : BitVec 32 := 1#32
  let arg17 : BitVec 32 := Scf.iv v329 c1_i32_187 k0_t22
  let v335 : BitVec 32 := Scalar.subi v334 arg17
  let v336 : Index := Scalar.indexCast v335
  let c0_189 : Index := 0#32
  let c0_190 : Index := 0#32
  ![v336.toNat, 0, 0]
@[reducible] def k0_t23_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_92 : BitVec 32 := 1#32
  ⟨c0_i32_90, v168, c1_i32_92⟩
def k0_off285 (i : grid0.Coords) (k0_t23 : Fin (k0_t23_loop i).trips) (c0_i32_168 : BitVec 32) : Fin 3 → Nat :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let v291 : Index := Scalar.indexCast v290
  let c0_169 : Index := 0#32
  let c0_170 : Index := 0#32
  ![v291.toNat, 0, 0]
def k0_mult24 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c0_i32_168 : BitVec 32 := 0#32
  let v290 : BitVec 32 := Scalar.addi v289 c0_i32_168
  let c256_i32_171 : BitVec 32 := 256#32
  let v296 : BitVec 32 := Scalar.muli v290 c256_i32_171
  v296
def k0_off286 (i : grid0.Coords) (k0_t23 : Fin (k0_t23_loop i).trips) (c0_i32_168 : BitVec 32) : Fin 3 → Nat :=
  let c0_172 : Index := 0#32
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v298 : Index := Scalar.indexCast v297
  let c0_173 : Index := 0#32
  ![0, v298.toNat, 0]
def k0_off287 (i : grid0.Coords) (k0_t23 : Fin (k0_t23_loop i).trips) (c0_i32_168 : BitVec 32) (c0_i32_181 : BitVec 32) : Fin 3 → Nat :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let c4_i32_180 : BitVec 32 := 4#32
  let v306 : BitVec 32 := Scalar.muli v290 c4_i32_180
  let v307 : BitVec 32 := Scalar.addi v306 c0_i32_181
  let v308 : Index := Scalar.indexCast v307
  let c0_182 : Index := 0#32
  let c0_183 : Index := 0#32
  ![v308.toNat, 0, 0]
def k0_off288 (i : grid0.Coords) (k0_t23 : Fin (k0_t23_loop i).trips) (c0_i32_168 : BitVec 32) : Fin 3 → Nat :=
  let c0_184 : Index := 0#32
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v376 : Index := Scalar.indexCast v297
  let c128_185 : Index := 128#32
  ![0, v376.toNat, 128]
def k0_off289 (i : grid0.Coords) (k0_t23 : Fin (k0_t23_loop i).trips) (c0_i32_168 : BitVec 32) : Fin 3 → Nat :=
  let c0_196 : Index := 0#32
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v454 : Index := Scalar.indexCast v297
  let c256_197 : Index := 256#32
  ![0, v454.toNat, 256]
def k0_off290 (i : grid0.Coords) (k0_t23 : Fin (k0_t23_loop i).trips) (c0_i32_168 : BitVec 32) : Fin 3 → Nat :=
  let c0_208 : Index := 0#32
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v532 : Index := Scalar.indexCast v297
  let c384_209 : Index := 384#32
  ![0, v532.toNat, 384]
def k0_mult25 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c1_i32_219 : BitVec 32 := 1#32
  let v610 : BitVec 32 := Scalar.addi v289 c1_i32_219
  let c256_i32_222 : BitVec 32 := 256#32
  let v616 : BitVec 32 := Scalar.muli v610 c256_i32_222
  v616
def k0_mult26 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c2_i32_271 : BitVec 32 := 2#32
  let v930 : BitVec 32 := Scalar.addi v289 c2_i32_271
  let c256_i32_274 : BitVec 32 := 256#32
  let v936 : BitVec 32 := Scalar.muli v930 c256_i32_274
  v936
def k0_mult27 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c3_i32_323 : BitVec 32 := 3#32
  let v1250 : BitVec 32 := Scalar.addi v289 c3_i32_323
  let c256_i32_326 : BitVec 32 := 256#32
  let v1256 : BitVec 32 := Scalar.muli v1250 c256_i32_326
  v1256
def k0_mult28 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c4_i32_375 : BitVec 32 := 4#32
  let v1570 : BitVec 32 := Scalar.addi v289 c4_i32_375
  let c256_i32_378 : BitVec 32 := 256#32
  let v1576 : BitVec 32 := Scalar.muli v1570 c256_i32_378
  v1576
def k0_mult29 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c5_i32 : BitVec 32 := 5#32
  let v1890 : BitVec 32 := Scalar.addi v289 c5_i32
  let c256_i32_429 : BitVec 32 := 256#32
  let v1896 : BitVec 32 := Scalar.muli v1890 c256_i32_429
  v1896
def k0_mult30 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c6_i32 : BitVec 32 := 6#32
  let v2210 : BitVec 32 := Scalar.addi v289 c6_i32
  let c256_i32_480 : BitVec 32 := 256#32
  let v2216 : BitVec 32 := Scalar.muli v2210 c256_i32_480
  v2216
def k0_mult31 (i : grid0.Coords) (k0_t23 : Fin (k0_t23_loop i).trips) : BitVec 32 :=
  let c8_i32_167 : BitVec 32 := 8#32
  let c0_i32_90 : BitVec 32 := 0#32
  let c1_i32_92 : BitVec 32 := 1#32
  let arg15 : BitVec 32 := Scf.iv c0_i32_90 c1_i32_92 k0_t23
  let v289 : BitVec 32 := Scalar.muli c8_i32_167 arg15
  let c7_i32 : BitVec 32 := 7#32
  let v2530 : BitVec 32 := Scalar.addi v289 c7_i32
  let c256_i32_531 : BitVec 32 := 256#32
  let v2536 : BitVec 32 := Scalar.muli v2530 c256_i32_531
  v2536
@[reducible] def k0_t24_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let v165 : BitVec 32 := Scalar.addi c0_i32_90 v164
  let c1_i32_93 : BitVec 32 := 1#32
  ⟨v168, v165, c1_i32_93⟩
def k0_off291 (i : grid0.Coords) (k0_t24 : Fin (k0_t24_loop i).trips) (c0_i32_168 : BitVec 32) : Fin 3 → Nat :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let v291 : Index := Scalar.indexCast v290
  let c0_169 : Index := 0#32
  let c0_170 : Index := 0#32
  ![v291.toNat, 0, 0]
def k0_mult32 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c0_i32_168 : BitVec 32 := 0#32
  let v290 : BitVec 32 := Scalar.addi v289 c0_i32_168
  let c256_i32_171 : BitVec 32 := 256#32
  let v296 : BitVec 32 := Scalar.muli v290 c256_i32_171
  v296
def k0_off292 (i : grid0.Coords) (k0_t24 : Fin (k0_t24_loop i).trips) (c0_i32_168 : BitVec 32) : Fin 3 → Nat :=
  let c0_172 : Index := 0#32
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v298 : Index := Scalar.indexCast v297
  let c0_173 : Index := 0#32
  ![0, v298.toNat, 0]
def k0_off293 (i : grid0.Coords) (k0_t24 : Fin (k0_t24_loop i).trips) (c0_i32_168 : BitVec 32) (c0_i32_181 : BitVec 32) : Fin 3 → Nat :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let c4_i32_180 : BitVec 32 := 4#32
  let v306 : BitVec 32 := Scalar.muli v290 c4_i32_180
  let v307 : BitVec 32 := Scalar.addi v306 c0_i32_181
  let v308 : Index := Scalar.indexCast v307
  let c0_182 : Index := 0#32
  let c0_183 : Index := 0#32
  ![v308.toNat, 0, 0]
def k0_off294 (i : grid0.Coords) (k0_t24 : Fin (k0_t24_loop i).trips) (c0_i32_168 : BitVec 32) : Fin 3 → Nat :=
  let c0_184 : Index := 0#32
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v376 : Index := Scalar.indexCast v297
  let c128_185 : Index := 128#32
  ![0, v376.toNat, 128]
def k0_off295 (i : grid0.Coords) (k0_t24 : Fin (k0_t24_loop i).trips) (c0_i32_168 : BitVec 32) : Fin 3 → Nat :=
  let c0_196 : Index := 0#32
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v454 : Index := Scalar.indexCast v297
  let c256_197 : Index := 256#32
  ![0, v454.toNat, 256]
def k0_off296 (i : grid0.Coords) (k0_t24 : Fin (k0_t24_loop i).trips) (c0_i32_168 : BitVec 32) : Fin 3 → Nat :=
  let c0_208 : Index := 0#32
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let v290 : BitVec 32 := Scalar.addi v289 c0_i32_168
  let c256_i32_171 : BitVec 32 := 256#32
  let v296 : BitVec 32 := Scalar.muli v290 c256_i32_171
  let v297 : BitVec 32 := v296
  let v532 : Index := Scalar.indexCast v297
  let c384_209 : Index := 384#32
  ![0, v532.toNat, 384]
def k0_mult33 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c1_i32_219 : BitVec 32 := 1#32
  let v610 : BitVec 32 := Scalar.addi v289 c1_i32_219
  let c256_i32_222 : BitVec 32 := 256#32
  let v616 : BitVec 32 := Scalar.muli v610 c256_i32_222
  v616
def k0_mult34 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c2_i32_271 : BitVec 32 := 2#32
  let v930 : BitVec 32 := Scalar.addi v289 c2_i32_271
  let c256_i32_274 : BitVec 32 := 256#32
  let v936 : BitVec 32 := Scalar.muli v930 c256_i32_274
  v936
def k0_mult35 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c3_i32_323 : BitVec 32 := 3#32
  let v1250 : BitVec 32 := Scalar.addi v289 c3_i32_323
  let c256_i32_326 : BitVec 32 := 256#32
  let v1256 : BitVec 32 := Scalar.muli v1250 c256_i32_326
  v1256
def k0_mult36 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c4_i32_375 : BitVec 32 := 4#32
  let v1570 : BitVec 32 := Scalar.addi v289 c4_i32_375
  let c256_i32_378 : BitVec 32 := 256#32
  let v1576 : BitVec 32 := Scalar.muli v1570 c256_i32_378
  v1576
def k0_mult37 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c5_i32 : BitVec 32 := 5#32
  let v1890 : BitVec 32 := Scalar.addi v289 c5_i32
  let c256_i32_429 : BitVec 32 := 256#32
  let v1896 : BitVec 32 := Scalar.muli v1890 c256_i32_429
  v1896
def k0_mult38 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c6_i32 : BitVec 32 := 6#32
  let v2210 : BitVec 32 := Scalar.addi v289 c6_i32
  let c256_i32_480 : BitVec 32 := 256#32
  let v2216 : BitVec 32 := Scalar.muli v2210 c256_i32_480
  v2216
def k0_mult39 (i : grid0.Coords) (k0_t24 : Fin (k0_t24_loop i).trips) : BitVec 32 :=
  let c8_i32_167 : BitVec 32 := 8#32
  let c0_i32_90 : BitVec 32 := 0#32
  let arg1 : BitVec 32 := BitVec.ofNat 32 (i 1).val
  let c1_i32 : BitVec 32 := 1#32
  let v0 : BitVec 32 := Scalar.addi arg1 c1_i32
  let c0_i32_84 : BitVec 32 := 0#32
  let v148 : BitVec 1 := Scalar.cmpi .sgt v0 c0_i32_84
  let v149 : BitVec 32 := Scalar.extui v148
  let c0_i32_85 : BitVec 32 := 0#32
  let v150 : BitVec 1 := Scalar.cmpi .slt v0 c0_i32_85
  let v151 : BitVec 32 := Scalar.extui v150
  let v152 : BitVec 32 := Scalar.subi v149 v151
  let c8_i32_83 : BitVec 32 := 8#32
  let c0_i32_86 : BitVec 32 := 0#32
  let v153 : BitVec 1 := Scalar.cmpi .sgt c8_i32_83 c0_i32_86
  let v154 : BitVec 32 := Scalar.extui v153
  let c0_i32_87 : BitVec 32 := 0#32
  let v155 : BitVec 1 := Scalar.cmpi .slt c8_i32_83 c0_i32_87
  let v156 : BitVec 32 := Scalar.extui v155
  let v157 : BitVec 32 := Scalar.subi v154 v156
  let v158 : BitVec 1 := Scalar.cmpi .ne v152 v157
  let v159 : BitVec 32 := Scalar.remsi v0 c8_i32_83
  let c0_i32_88 : BitVec 32 := 0#32
  let v160 : BitVec 1 := Scalar.cmpi .ne v159 c0_i32_88
  let v161 : BitVec 1 := Scalar.andi v158 v160
  let v147 : BitVec 32 := Scalar.divsi v0 c8_i32_83
  let c1_i32_89 : BitVec 32 := 1#32
  let v162 : BitVec 32 := Scalar.subi v147 c1_i32_89
  let v163 : BitVec 32 := Scalar.select v161 v162 v147
  let v164 : BitVec 32 := Scalar.subi v163 c0_i32_90
  let c1_i32_91 : BitVec 32 := 1#32
  let v166 : BitVec 32 := Scalar.divsi v164 c1_i32_91
  let v167 : BitVec 32 := Scalar.muli v166 c1_i32_91
  let v168 : BitVec 32 := Scalar.addi c0_i32_90 v167
  let c1_i32_93 : BitVec 32 := 1#32
  let arg15 : BitVec 32 := Scf.iv v168 c1_i32_93 k0_t24
  let v289 : BitVec 32 := Scalar.muli c8_i32_167 arg15
  let c7_i32 : BitVec 32 := 7#32
  let v2530 : BitVec 32 := Scalar.addi v289 c7_i32
  let c256_i32_531 : BitVec 32 := 256#32
  let v2536 : BitVec 32 := Scalar.muli v2530 c256_i32_531
  v2536
def k0_cond12 (i : grid0.Coords) : BitVec 1 :=
  let arg1 : BitVec 32 := BitVec.ofNat 32 (i 1).val
  let c1_i32 : BitVec 32 := 1#32
  let v0 : BitVec 32 := Scalar.addi arg1 c1_i32
  let c4_i32_95 : BitVec 32 := 4#32
  let v172 : BitVec 32 := Scalar.andi v0 c4_i32_95
  let c4_i32_96 : BitVec 32 := 4#32
  let v173 : BitVec 1 := Scalar.cmpi .eq v172 c4_i32_96
  let v174 : BitVec 32 := Scalar.extui v173
  let c0_i32_97 : BitVec 32 := 0#32
  let v175 : BitVec 1 := Scalar.cmpi .ne v174 c0_i32_97
  v175

def k0_off297 (i : grid0.Coords) (c0_i32_167 : BitVec 32) : Fin 3 → Nat :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let v290 : Index := Scalar.indexCast v289
  let c0_168 : Index := 0#32
  let c0_169 : Index := 0#32
  ![v290.toNat, 0, 0]
def k0_mult40 (i : grid0.Coords) : BitVec 32 :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let c0_i32_167 : BitVec 32 := 0#32
  let v289 : BitVec 32 := Scalar.addi v171 c0_i32_167
  let c256_i32_170 : BitVec 32 := 256#32
  let v295 : BitVec 32 := Scalar.muli v289 c256_i32_170
  v295
def k0_off298 (i : grid0.Coords) (c0_i32_167 : BitVec 32) : Fin 3 → Nat :=
  let c0_171 : Index := 0#32
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let c256_i32_170 : BitVec 32 := 256#32
  let v295 : BitVec 32 := Scalar.muli v289 c256_i32_170
  let v296 : BitVec 32 := v295
  let v297 : Index := Scalar.indexCast v296
  let c0_172 : Index := 0#32
  ![0, v297.toNat, 0]
def k0_off299 (i : grid0.Coords) (c0_i32_167 : BitVec 32) (c0_i32_180 : BitVec 32) : Fin 3 → Nat :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let c4_i32_179 : BitVec 32 := 4#32
  let v305 : BitVec 32 := Scalar.muli v289 c4_i32_179
  let v306 : BitVec 32 := Scalar.addi v305 c0_i32_180
  let v307 : Index := Scalar.indexCast v306
  let c0_181 : Index := 0#32
  let c0_182 : Index := 0#32
  ![v307.toNat, 0, 0]
def k0_off300 (i : grid0.Coords) (c0_i32_167 : BitVec 32) : Fin 3 → Nat :=
  let c0_183 : Index := 0#32
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let c256_i32_170 : BitVec 32 := 256#32
  let v295 : BitVec 32 := Scalar.muli v289 c256_i32_170
  let v296 : BitVec 32 := v295
  let v375 : Index := Scalar.indexCast v296
  let c128_184 : Index := 128#32
  ![0, v375.toNat, 128]
def k0_off301 (i : grid0.Coords) (c0_i32_167 : BitVec 32) : Fin 3 → Nat :=
  let c0_195 : Index := 0#32
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let c256_i32_170 : BitVec 32 := 256#32
  let v295 : BitVec 32 := Scalar.muli v289 c256_i32_170
  let v296 : BitVec 32 := v295
  let v453 : Index := Scalar.indexCast v296
  let c256_196 : Index := 256#32
  ![0, v453.toNat, 256]
def k0_off302 (i : grid0.Coords) (c0_i32_167 : BitVec 32) : Fin 3 → Nat :=
  let c0_207 : Index := 0#32
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let v289 : BitVec 32 := Scalar.addi v171 c0_i32_167
  let c256_i32_170 : BitVec 32 := 256#32
  let v295 : BitVec 32 := Scalar.muli v289 c256_i32_170
  let v296 : BitVec 32 := v295
  let v531 : Index := Scalar.indexCast v296
  let c384_208 : Index := 384#32
  ![0, v531.toNat, 384]
def k0_mult41 (i : grid0.Coords) : BitVec 32 :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let c1_i32_218 : BitVec 32 := 1#32
  let v609 : BitVec 32 := Scalar.addi v171 c1_i32_218
  let c256_i32_221 : BitVec 32 := 256#32
  let v615 : BitVec 32 := Scalar.muli v609 c256_i32_221
  v615
def k0_mult42 (i : grid0.Coords) : BitVec 32 :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let c2_i32_270 : BitVec 32 := 2#32
  let v929 : BitVec 32 := Scalar.addi v171 c2_i32_270
  let c256_i32_273 : BitVec 32 := 256#32
  let v935 : BitVec 32 := Scalar.muli v929 c256_i32_273
  v935
def k0_mult43 (i : grid0.Coords) : BitVec 32 :=
  let arg1 : BitVec 32 := BitVec.ofNat 32 (i 1).val
  let c1_i32 : BitVec 32 := 1#32
  let v0 : BitVec 32 := Scalar.addi arg1 c1_i32
  let c_m8_i32_94 : BitVec 32 := 4294967288#32
  let v171 : BitVec 32 := Scalar.andi v0 c_m8_i32_94
  let c3_i32_322 : BitVec 32 := 3#32
  let v1249 : BitVec 32 := Scalar.addi v171 c3_i32_322
  let c256_i32_325 : BitVec 32 := 256#32
  let v1255 : BitVec 32 := Scalar.muli v1249 c256_i32_325
  v1255
def k0_cond13 (i : grid0.Coords) : BitVec 1 :=
  let arg1 : BitVec 32 := BitVec.ofNat 32 (i 1).val
  let c1_i32 : BitVec 32 := 1#32
  let v0 : BitVec 32 := Scalar.addi arg1 c1_i32
  let c2_i32_99 : BitVec 32 := 2#32
  let v178 : BitVec 32 := Scalar.andi v0 c2_i32_99
  let c2_i32_100 : BitVec 32 := 2#32
  let v179 : BitVec 1 := Scalar.cmpi .eq v178 c2_i32_100
  let v180 : BitVec 32 := Scalar.extui v179
  let c0_i32_101 : BitVec 32 := 0#32
  let v181 : BitVec 1 := Scalar.cmpi .ne v180 c0_i32_101
  v181

def k0_off303 (i : grid0.Coords) (c0_i32_167 : BitVec 32) : Fin 3 → Nat :=
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let v290 : Index := Scalar.indexCast v289
  let c0_168 : Index := 0#32
  let c0_169 : Index := 0#32
  ![v290.toNat, 0, 0]
def k0_mult44 (i : grid0.Coords) : BitVec 32 :=
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let c0_i32_167 : BitVec 32 := 0#32
  let v289 : BitVec 32 := Scalar.addi v177 c0_i32_167
  let c256_i32_170 : BitVec 32 := 256#32
  let v295 : BitVec 32 := Scalar.muli v289 c256_i32_170
  v295
def k0_off304 (i : grid0.Coords) (c0_i32_167 : BitVec 32) : Fin 3 → Nat :=
  let c0_171 : Index := 0#32
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let c256_i32_170 : BitVec 32 := 256#32
  let v295 : BitVec 32 := Scalar.muli v289 c256_i32_170
  let v296 : BitVec 32 := v295
  let v297 : Index := Scalar.indexCast v296
  let c0_172 : Index := 0#32
  ![0, v297.toNat, 0]
def k0_off305 (i : grid0.Coords) (c0_i32_167 : BitVec 32) (c0_i32_180 : BitVec 32) : Fin 3 → Nat :=
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let c4_i32_179 : BitVec 32 := 4#32
  let v305 : BitVec 32 := Scalar.muli v289 c4_i32_179
  let v306 : BitVec 32 := Scalar.addi v305 c0_i32_180
  let v307 : Index := Scalar.indexCast v306
  let c0_181 : Index := 0#32
  let c0_182 : Index := 0#32
  ![v307.toNat, 0, 0]
def k0_off306 (i : grid0.Coords) (c0_i32_167 : BitVec 32) : Fin 3 → Nat :=
  let c0_183 : Index := 0#32
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let c256_i32_170 : BitVec 32 := 256#32
  let v295 : BitVec 32 := Scalar.muli v289 c256_i32_170
  let v296 : BitVec 32 := v295
  let v375 : Index := Scalar.indexCast v296
  let c128_184 : Index := 128#32
  ![0, v375.toNat, 128]
def k0_off307 (i : grid0.Coords) (c0_i32_167 : BitVec 32) : Fin 3 → Nat :=
  let c0_195 : Index := 0#32
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let c256_i32_170 : BitVec 32 := 256#32
  let v295 : BitVec 32 := Scalar.muli v289 c256_i32_170
  let v296 : BitVec 32 := v295
  let v453 : Index := Scalar.indexCast v296
  let c256_196 : Index := 256#32
  ![0, v453.toNat, 256]
def k0_off308 (i : grid0.Coords) (c0_i32_167 : BitVec 32) : Fin 3 → Nat :=
  let c0_207 : Index := 0#32
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let v289 : BitVec 32 := Scalar.addi v177 c0_i32_167
  let c256_i32_170 : BitVec 32 := 256#32
  let v295 : BitVec 32 := Scalar.muli v289 c256_i32_170
  let v296 : BitVec 32 := v295
  let v531 : Index := Scalar.indexCast v296
  let c384_208 : Index := 384#32
  ![0, v531.toNat, 384]
def k0_mult45 (i : grid0.Coords) : BitVec 32 :=
  let arg1 : BitVec 32 := BitVec.ofNat 32 (i 1).val
  let c1_i32 : BitVec 32 := 1#32
  let v0 : BitVec 32 := Scalar.addi arg1 c1_i32
  let c_m4_i32_98 : BitVec 32 := 4294967292#32
  let v177 : BitVec 32 := Scalar.andi v0 c_m4_i32_98
  let c1_i32_218 : BitVec 32 := 1#32
  let v609 : BitVec 32 := Scalar.addi v177 c1_i32_218
  let c256_i32_221 : BitVec 32 := 256#32
  let v615 : BitVec 32 := Scalar.muli v609 c256_i32_221
  v615
def k0_cond14 (i : grid0.Coords) : BitVec 1 :=
  let arg1 : BitVec 32 := BitVec.ofNat 32 (i 1).val
  let c1_i32 : BitVec 32 := 1#32
  let v0 : BitVec 32 := Scalar.addi arg1 c1_i32
  let c1_i32_103 : BitVec 32 := 1#32
  let v184 : BitVec 32 := Scalar.andi v0 c1_i32_103
  let c1_i32_104 : BitVec 32 := 1#32
  let v185 : BitVec 1 := Scalar.cmpi .eq v184 c1_i32_104
  let v186 : BitVec 32 := Scalar.extui v185
  let c0_i32_105 : BitVec 32 := 0#32
  let v187 : BitVec 1 := Scalar.cmpi .ne v186 c0_i32_105
  v187

def k0_off309 (i : grid0.Coords) : Fin 3 → Nat :=
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let v290 : Index := Scalar.indexCast v289
  let c0_168 : Index := 0#32
  let c0_169 : Index := 0#32
  ![v290.toNat, 0, 0]
def k0_mult46 (i : grid0.Coords) : BitVec 32 :=
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c256_i32_170 : BitVec 32 := 256#32
  let v295 : BitVec 32 := Scalar.muli v289 c256_i32_170
  v295
def k0_off310 (i : grid0.Coords) : Fin 3 → Nat :=
  let c0_171 : Index := 0#32
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c256_i32_170 : BitVec 32 := 256#32
  let v295 : BitVec 32 := Scalar.muli v289 c256_i32_170
  let v296 : BitVec 32 := v295
  let v297 : Index := Scalar.indexCast v296
  let c0_172 : Index := 0#32
  ![0, v297.toNat, 0]
def k0_off311 (i : grid0.Coords) (c0_i32_180 : BitVec 32) : Fin 3 → Nat :=
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c4_i32_179 : BitVec 32 := 4#32
  let v305 : BitVec 32 := Scalar.muli v289 c4_i32_179
  let v306 : BitVec 32 := Scalar.addi v305 c0_i32_180
  let v307 : Index := Scalar.indexCast v306
  let c0_181 : Index := 0#32
  let c0_182 : Index := 0#32
  ![v307.toNat, 0, 0]
def k0_off312 (i : grid0.Coords) : Fin 3 → Nat :=
  let c0_183 : Index := 0#32
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c256_i32_170 : BitVec 32 := 256#32
  let v295 : BitVec 32 := Scalar.muli v289 c256_i32_170
  let v296 : BitVec 32 := v295
  let v375 : Index := Scalar.indexCast v296
  let c128_184 : Index := 128#32
  ![0, v375.toNat, 128]
def k0_off313 (i : grid0.Coords) : Fin 3 → Nat :=
  let c0_195 : Index := 0#32
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c256_i32_170 : BitVec 32 := 256#32
  let v295 : BitVec 32 := Scalar.muli v289 c256_i32_170
  let v296 : BitVec 32 := v295
  let v453 : Index := Scalar.indexCast v296
  let c256_196 : Index := 256#32
  ![0, v453.toNat, 256]
def k0_off314 (i : grid0.Coords) : Fin 3 → Nat :=
  let c0_207 : Index := 0#32
  let arg1 : BitVec 32 := BitVec.ofNat 32 (i 1).val
  let c1_i32 : BitVec 32 := 1#32
  let v0 : BitVec 32 := Scalar.addi arg1 c1_i32
  let c_m2_i32_102 : BitVec 32 := 4294967294#32
  let v183 : BitVec 32 := Scalar.andi v0 c_m2_i32_102
  let c0_i32_167 : BitVec 32 := 0#32
  let v289 : BitVec 32 := Scalar.addi v183 c0_i32_167
  let c256_i32_170 : BitVec 32 := 256#32
  let v295 : BitVec 32 := Scalar.muli v289 c256_i32_170
  let v296 : BitVec 32 := v295
  let v531 : Index := Scalar.indexCast v296
  let c384_208 : Index := 384#32
  ![0, v531.toNat, 384]
@[reducible] def k0_t25_loop (i : grid0.Coords) : Scf.Loop 32 :=
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_125 : BitVec 32 := 1#32
  ⟨c0_i32_123, v226, c1_i32_125⟩
def k0_off315 (i : grid0.Coords) (k0_t25 : Fin (k0_t25_loop i).trips) (c0_i32_168 : BitVec 32) (c0_i32_170 : BitVec 32) : Fin 3 → Nat :=
  let c8_i32_167 : BitVec 32 := 8#32
  let c0_i32_123 : BitVec 32 := 0#32
  let c1_i32_125 : BitVec 32 := 1#32
  let arg15 : BitVec 32 := Scf.iv c0_i32_123 c1_i32_125 k0_t25
  let v289 : BitVec 32 := Scalar.muli c8_i32_167 arg15
  let v290 : BitVec 32 := Scalar.addi v289 c0_i32_168
  let c4_i32_169 : BitVec 32 := 4#32
  let v291 : BitVec 32 := Scalar.muli v290 c4_i32_169
  let v292 : BitVec 32 := Scalar.addi v291 c0_i32_170
  let v293 : Index := Scalar.indexCast v292
  let c0_171 : Index := 0#32
  let c0_172 : Index := 0#32
  ![v293.toNat, 0, 0]
def k0_off316 (i : grid0.Coords) (k0_t25 : Fin (k0_t25_loop i).trips) (c0_i32_168 : BitVec 32) : Fin 4 → Nat :=
  let c0_175 : Index := 0#32
  let c8_i32_167 : BitVec 32 := 8#32
  let c0_i32_123 : BitVec 32 := 0#32
  let c1_i32_125 : BitVec 32 := 1#32
  let arg15 : BitVec 32 := Scf.iv c0_i32_123 c1_i32_125 k0_t25
  let v289 : BitVec 32 := Scalar.muli c8_i32_167 arg15
  let v290 : BitVec 32 := Scalar.addi v289 c0_i32_168
  let v364 : Index := Scalar.indexCast v290
  let c0_176 : Index := 0#32
  let c0_177 : Index := 0#32
  ![0, v364.toNat, 0, 0]
def k0_off317 (i : grid0.Coords) (k0_t25 : Fin (k0_t25_loop i).trips) (c0_i32_168 : BitVec 32) : Fin 4 → Nat :=
  let c0_187 : Index := 0#32
  let c8_i32_167 : BitVec 32 := 8#32
  let c0_i32_123 : BitVec 32 := 0#32
  let c1_i32_125 : BitVec 32 := 1#32
  let arg15 : BitVec 32 := Scf.iv c0_i32_123 c1_i32_125 k0_t25
  let v289 : BitVec 32 := Scalar.muli c8_i32_167 arg15
  let v290 : BitVec 32 := Scalar.addi v289 c0_i32_168
  let v446 : Index := Scalar.indexCast v290
  let c128_188 : Index := 128#32
  let c0_189 : Index := 0#32
  ![0, v446.toNat, 128, 0]
def k0_off318 (i : grid0.Coords) (k0_t25 : Fin (k0_t25_loop i).trips) (c0_i32_168 : BitVec 32) : Fin 4 → Nat :=
  let c0_199 : Index := 0#32
  let c8_i32_167 : BitVec 32 := 8#32
  let c0_i32_123 : BitVec 32 := 0#32
  let c1_i32_125 : BitVec 32 := 1#32
  let arg15 : BitVec 32 := Scf.iv c0_i32_123 c1_i32_125 k0_t25
  let v289 : BitVec 32 := Scalar.muli c8_i32_167 arg15
  let v290 : BitVec 32 := Scalar.addi v289 c0_i32_168
  let v528 : Index := Scalar.indexCast v290
  let c256_200 : Index := 256#32
  let c0_201 : Index := 0#32
  ![0, v528.toNat, 256, 0]
def k0_off319 (i : grid0.Coords) (k0_t25 : Fin (k0_t25_loop i).trips) (c0_i32_168 : BitVec 32) : Fin 4 → Nat :=
  let c0_210 : Index := 0#32
  let c8_i32_167 : BitVec 32 := 8#32
  let c0_i32_123 : BitVec 32 := 0#32
  let c1_i32_125 : BitVec 32 := 1#32
  let arg15 : BitVec 32 := Scf.iv c0_i32_123 c1_i32_125 k0_t25
  let v289 : BitVec 32 := Scalar.muli c8_i32_167 arg15
  let v290 : BitVec 32 := Scalar.addi v289 c0_i32_168
  let v610 : Index := Scalar.indexCast v290
  let c384_211 : Index := 384#32
  let c0_212 : Index := 0#32
  ![0, v610.toNat, 384, 0]
@[reducible] def k0_t26_loop (i : grid0.Coords) : Scf.Loop 32 :=
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let v223 : BitVec 32 := Scalar.addi c0_i32_123 v222
  let c1_i32_126 : BitVec 32 := 1#32
  ⟨v226, v223, c1_i32_126⟩
def k0_off320 (i : grid0.Coords) (k0_t26 : Fin (k0_t26_loop i).trips) (c0_i32_168 : BitVec 32) (c0_i32_170 : BitVec 32) : Fin 3 → Nat :=
  let c8_i32_167 : BitVec 32 := 8#32
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_126 : BitVec 32 := 1#32
  let arg15 : BitVec 32 := Scf.iv v226 c1_i32_126 k0_t26
  let v289 : BitVec 32 := Scalar.muli c8_i32_167 arg15
  let v290 : BitVec 32 := Scalar.addi v289 c0_i32_168
  let c4_i32_169 : BitVec 32 := 4#32
  let v291 : BitVec 32 := Scalar.muli v290 c4_i32_169
  let v292 : BitVec 32 := Scalar.addi v291 c0_i32_170
  let v293 : Index := Scalar.indexCast v292
  let c0_171 : Index := 0#32
  let c0_172 : Index := 0#32
  ![v293.toNat, 0, 0]
def k0_off321 (i : grid0.Coords) (k0_t26 : Fin (k0_t26_loop i).trips) (c0_i32_168 : BitVec 32) : Fin 4 → Nat :=
  let c0_175 : Index := 0#32
  let c8_i32_167 : BitVec 32 := 8#32
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_126 : BitVec 32 := 1#32
  let arg15 : BitVec 32 := Scf.iv v226 c1_i32_126 k0_t26
  let v289 : BitVec 32 := Scalar.muli c8_i32_167 arg15
  let v290 : BitVec 32 := Scalar.addi v289 c0_i32_168
  let v364 : Index := Scalar.indexCast v290
  let c0_176 : Index := 0#32
  let c0_177 : Index := 0#32
  ![0, v364.toNat, 0, 0]
def k0_off322 (i : grid0.Coords) (k0_t26 : Fin (k0_t26_loop i).trips) (c0_i32_168 : BitVec 32) : Fin 4 → Nat :=
  let c0_187 : Index := 0#32
  let c8_i32_167 : BitVec 32 := 8#32
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_126 : BitVec 32 := 1#32
  let arg15 : BitVec 32 := Scf.iv v226 c1_i32_126 k0_t26
  let v289 : BitVec 32 := Scalar.muli c8_i32_167 arg15
  let v290 : BitVec 32 := Scalar.addi v289 c0_i32_168
  let v446 : Index := Scalar.indexCast v290
  let c128_188 : Index := 128#32
  let c0_189 : Index := 0#32
  ![0, v446.toNat, 128, 0]
def k0_off323 (i : grid0.Coords) (k0_t26 : Fin (k0_t26_loop i).trips) (c0_i32_168 : BitVec 32) : Fin 4 → Nat :=
  let c0_199 : Index := 0#32
  let c8_i32_167 : BitVec 32 := 8#32
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_126 : BitVec 32 := 1#32
  let arg15 : BitVec 32 := Scf.iv v226 c1_i32_126 k0_t26
  let v289 : BitVec 32 := Scalar.muli c8_i32_167 arg15
  let v290 : BitVec 32 := Scalar.addi v289 c0_i32_168
  let v528 : Index := Scalar.indexCast v290
  let c256_200 : Index := 256#32
  let c0_201 : Index := 0#32
  ![0, v528.toNat, 256, 0]
def k0_off324 (i : grid0.Coords) (k0_t26 : Fin (k0_t26_loop i).trips) (c0_i32_168 : BitVec 32) : Fin 4 → Nat :=
  let c0_210 : Index := 0#32
  let c8_i32_167 : BitVec 32 := 8#32
  let c0_i32_123 : BitVec 32 := 0#32
  let arg1 : BitVec 32 := BitVec.ofNat 32 (i 1).val
  let c1_i32 : BitVec 32 := 1#32
  let v0 : BitVec 32 := Scalar.addi arg1 c1_i32
  let c0_i32_117 : BitVec 32 := 0#32
  let v206 : BitVec 1 := Scalar.cmpi .sgt v0 c0_i32_117
  let v207 : BitVec 32 := Scalar.extui v206
  let c0_i32_118 : BitVec 32 := 0#32
  let v208 : BitVec 1 := Scalar.cmpi .slt v0 c0_i32_118
  let v209 : BitVec 32 := Scalar.extui v208
  let v210 : BitVec 32 := Scalar.subi v207 v209
  let c8_i32_116 : BitVec 32 := 8#32
  let c0_i32_119 : BitVec 32 := 0#32
  let v211 : BitVec 1 := Scalar.cmpi .sgt c8_i32_116 c0_i32_119
  let v212 : BitVec 32 := Scalar.extui v211
  let c0_i32_120 : BitVec 32 := 0#32
  let v213 : BitVec 1 := Scalar.cmpi .slt c8_i32_116 c0_i32_120
  let v214 : BitVec 32 := Scalar.extui v213
  let v215 : BitVec 32 := Scalar.subi v212 v214
  let v216 : BitVec 1 := Scalar.cmpi .ne v210 v215
  let v217 : BitVec 32 := Scalar.remsi v0 c8_i32_116
  let c0_i32_121 : BitVec 32 := 0#32
  let v218 : BitVec 1 := Scalar.cmpi .ne v217 c0_i32_121
  let v219 : BitVec 1 := Scalar.andi v216 v218
  let v205 : BitVec 32 := Scalar.divsi v0 c8_i32_116
  let c1_i32_122 : BitVec 32 := 1#32
  let v220 : BitVec 32 := Scalar.subi v205 c1_i32_122
  let v221 : BitVec 32 := Scalar.select v219 v220 v205
  let v222 : BitVec 32 := Scalar.subi v221 c0_i32_123
  let c1_i32_124 : BitVec 32 := 1#32
  let v224 : BitVec 32 := Scalar.divsi v222 c1_i32_124
  let v225 : BitVec 32 := Scalar.muli v224 c1_i32_124
  let v226 : BitVec 32 := Scalar.addi c0_i32_123 v225
  let c1_i32_126 : BitVec 32 := 1#32
  let arg15 : BitVec 32 := Scf.iv v226 c1_i32_126 k0_t26
  let v289 : BitVec 32 := Scalar.muli c8_i32_167 arg15
  let v290 : BitVec 32 := Scalar.addi v289 c0_i32_168
  let v610 : Index := Scalar.indexCast v290
  let c384_211 : Index := 384#32
  let c0_212 : Index := 0#32
  ![0, v610.toNat, 384, 0]
def k0_cond15 (i : grid0.Coords) : BitVec 1 :=
  let arg1 : BitVec 32 := BitVec.ofNat 32 (i 1).val
  let c1_i32 : BitVec 32 := 1#32
  let v0 : BitVec 32 := Scalar.addi arg1 c1_i32
  let c4_i32_128 : BitVec 32 := 4#32
  let v230 : BitVec 32 := Scalar.andi v0 c4_i32_128
  let c4_i32_129 : BitVec 32 := 4#32
  let v231 : BitVec 1 := Scalar.cmpi .eq v230 c4_i32_129
  let v232 : BitVec 32 := Scalar.extui v231
  let c0_i32_130 : BitVec 32 := 0#32
  let v233 : BitVec 1 := Scalar.cmpi .ne v232 c0_i32_130
  v233

def k0_off325 (i : grid0.Coords) (c0_i32_167 : BitVec 32) (c0_i32_169 : BitVec 32) : Fin 3 → Nat :=
  let arg1 : BitVec 32 := BitVec.ofNat 32 (i 1).val
  let c1_i32 : BitVec 32 := 1#32
  let v0 : BitVec 32 := Scalar.addi arg1 c1_i32
  let c_m8_i32_127 : BitVec 32 := 4294967288#32
  let v229 : BitVec 32 := Scalar.andi v0 c_m8_i32_127
  let v289 : BitVec 32 := Scalar.addi v229 c0_i32_167
  let c4_i32_168 : BitVec 32 := 4#32
  let v290 : BitVec 32 := Scalar.muli v289 c4_i32_168
  let v291 : BitVec 32 := Scalar.addi v290 c0_i32_169
  let v292 : Index := Scalar.indexCast v291
  let c0_170 : Index := 0#32
  let c0_171 : Index := 0#32
  ![v292.toNat, 0, 0]
def k0_off326 (i : grid0.Coords) (c0_i32_167 : BitVec 32) : Fin 4 → Nat :=
  let c0_174 : Index := 0#32
  let arg1 : BitVec 32 := BitVec.ofNat 32 (i 1).val
  let c1_i32 : BitVec 32 := 1#32
  let v0 : BitVec 32 := Scalar.addi arg1 c1_i32
  let c_m8_i32_127 : BitVec 32 := 4294967288#32
  let v229 : BitVec 32 := Scalar.andi v0 c_m8_i32_127
  let v289 : BitVec 32 := Scalar.addi v229 c0_i32_167
  let v363 : Index := Scalar.indexCast v289
  let c0_175 : Index := 0#32
  let c0_176 : Index := 0#32
  ![0, v363.toNat, 0, 0]
def k0_off327 (i : grid0.Coords) (c0_i32_167 : BitVec 32) : Fin 4 → Nat :=
  let c0_186 : Index := 0#32
  let arg1 : BitVec 32 := BitVec.ofNat 32 (i 1).val
  let c1_i32 : BitVec 32 := 1#32
  let v0 : BitVec 32 := Scalar.addi arg1 c1_i32
  let c_m8_i32_127 : BitVec 32 := 4294967288#32
  let v229 : BitVec 32 := Scalar.andi v0 c_m8_i32_127
  let v289 : BitVec 32 := Scalar.addi v229 c0_i32_167
  let v445 : Index := Scalar.indexCast v289
  let c128_187 : Index := 128#32
  let c0_188 : Index := 0#32
  ![0, v445.toNat, 128, 0]
def k0_off328 (i : grid0.Coords) (c0_i32_167 : BitVec 32) : Fin 4 → Nat :=
  let c0_198 : Index := 0#32
  let arg1 : BitVec 32 := BitVec.ofNat 32 (i 1).val
  let c1_i32 : BitVec 32 := 1#32
  let v0 : BitVec 32 := Scalar.addi arg1 c1_i32
  let c_m8_i32_127 : BitVec 32 := 4294967288#32
  let v229 : BitVec 32 := Scalar.andi v0 c_m8_i32_127
  let v289 : BitVec 32 := Scalar.addi v229 c0_i32_167
  let v527 : Index := Scalar.indexCast v289
  let c256_199 : Index := 256#32
  let c0_200 : Index := 0#32
  ![0, v527.toNat, 256, 0]
def k0_off329 (i : grid0.Coords) (c0_i32_167 : BitVec 32) : Fin 4 → Nat :=
  let c0_209 : Index := 0#32
  let arg1 : BitVec 32 := BitVec.ofNat 32 (i 1).val
  let c1_i32 : BitVec 32 := 1#32
  let v0 : BitVec 32 := Scalar.addi arg1 c1_i32
  let c_m8_i32_127 : BitVec 32 := 4294967288#32
  let v229 : BitVec 32 := Scalar.andi v0 c_m8_i32_127
  let v289 : BitVec 32 := Scalar.addi v229 c0_i32_167
  let v609 : Index := Scalar.indexCast v289
  let c384_210 : Index := 384#32
  let c0_211 : Index := 0#32
  ![0, v609.toNat, 384, 0]
def k0_cond16 (i : grid0.Coords) : BitVec 1 :=
  let arg1 : BitVec 32 := BitVec.ofNat 32 (i 1).val
  let c1_i32 : BitVec 32 := 1#32
  let v0 : BitVec 32 := Scalar.addi arg1 c1_i32
  let c2_i32_132 : BitVec 32 := 2#32
  let v236 : BitVec 32 := Scalar.andi v0 c2_i32_132
  let c2_i32_133 : BitVec 32 := 2#32
  let v237 : BitVec 1 := Scalar.cmpi .eq v236 c2_i32_133
  let v238 : BitVec 32 := Scalar.extui v237
  let c0_i32_134 : BitVec 32 := 0#32
  let v239 : BitVec 1 := Scalar.cmpi .ne v238 c0_i32_134
  v239

def k0_off330 (i : grid0.Coords) (c0_i32_167 : BitVec 32) (c0_i32_169 : BitVec 32) : Fin 3 → Nat :=
  let arg1 : BitVec 32 := BitVec.ofNat 32 (i 1).val
  let c1_i32 : BitVec 32 := 1#32
  let v0 : BitVec 32 := Scalar.addi arg1 c1_i32
  let c_m4_i32_131 : BitVec 32 := 4294967292#32
  let v235 : BitVec 32 := Scalar.andi v0 c_m4_i32_131
  let v289 : BitVec 32 := Scalar.addi v235 c0_i32_167
  let c4_i32_168 : BitVec 32 := 4#32
  let v290 : BitVec 32 := Scalar.muli v289 c4_i32_168
  let v291 : BitVec 32 := Scalar.addi v290 c0_i32_169
  let v292 : Index := Scalar.indexCast v291
  let c0_170 : Index := 0#32
  let c0_171 : Index := 0#32
  ![v292.toNat, 0, 0]
def k0_off331 (i : grid0.Coords) (c0_i32_167 : BitVec 32) : Fin 4 → Nat :=
  let c0_174 : Index := 0#32
  let arg1 : BitVec 32 := BitVec.ofNat 32 (i 1).val
  let c1_i32 : BitVec 32 := 1#32
  let v0 : BitVec 32 := Scalar.addi arg1 c1_i32
  let c_m4_i32_131 : BitVec 32 := 4294967292#32
  let v235 : BitVec 32 := Scalar.andi v0 c_m4_i32_131
  let v289 : BitVec 32 := Scalar.addi v235 c0_i32_167
  let v363 : Index := Scalar.indexCast v289
  let c0_175 : Index := 0#32
  let c0_176 : Index := 0#32
  ![0, v363.toNat, 0, 0]
def k0_off332 (i : grid0.Coords) (c0_i32_167 : BitVec 32) : Fin 4 → Nat :=
  let c0_186 : Index := 0#32
  let arg1 : BitVec 32 := BitVec.ofNat 32 (i 1).val
  let c1_i32 : BitVec 32 := 1#32
  let v0 : BitVec 32 := Scalar.addi arg1 c1_i32
  let c_m4_i32_131 : BitVec 32 := 4294967292#32
  let v235 : BitVec 32 := Scalar.andi v0 c_m4_i32_131
  let v289 : BitVec 32 := Scalar.addi v235 c0_i32_167
  let v445 : Index := Scalar.indexCast v289
  let c128_187 : Index := 128#32
  let c0_188 : Index := 0#32
  ![0, v445.toNat, 128, 0]
def k0_off333 (i : grid0.Coords) (c0_i32_167 : BitVec 32) : Fin 4 → Nat :=
  let c0_198 : Index := 0#32
  let arg1 : BitVec 32 := BitVec.ofNat 32 (i 1).val
  let c1_i32 : BitVec 32 := 1#32
  let v0 : BitVec 32 := Scalar.addi arg1 c1_i32
  let c_m4_i32_131 : BitVec 32 := 4294967292#32
  let v235 : BitVec 32 := Scalar.andi v0 c_m4_i32_131
  let v289 : BitVec 32 := Scalar.addi v235 c0_i32_167
  let v527 : Index := Scalar.indexCast v289
  let c256_199 : Index := 256#32
  let c0_200 : Index := 0#32
  ![0, v527.toNat, 256, 0]
def k0_off334 (i : grid0.Coords) (c0_i32_167 : BitVec 32) : Fin 4 → Nat :=
  let c0_209 : Index := 0#32
  let arg1 : BitVec 32 := BitVec.ofNat 32 (i 1).val
  let c1_i32 : BitVec 32 := 1#32
  let v0 : BitVec 32 := Scalar.addi arg1 c1_i32
  let c_m4_i32_131 : BitVec 32 := 4294967292#32
  let v235 : BitVec 32 := Scalar.andi v0 c_m4_i32_131
  let v289 : BitVec 32 := Scalar.addi v235 c0_i32_167
  let v609 : Index := Scalar.indexCast v289
  let c384_210 : Index := 384#32
  let c0_211 : Index := 0#32
  ![0, v609.toNat, 384, 0]
def k0_cond17 (i : grid0.Coords) : BitVec 1 :=
  let arg1 : BitVec 32 := BitVec.ofNat 32 (i 1).val
  let c1_i32 : BitVec 32 := 1#32
  let v0 : BitVec 32 := Scalar.addi arg1 c1_i32
  let c1_i32_136 : BitVec 32 := 1#32
  let v242 : BitVec 32 := Scalar.andi v0 c1_i32_136
  let c1_i32_137 : BitVec 32 := 1#32
  let v243 : BitVec 1 := Scalar.cmpi .eq v242 c1_i32_137
  let v244 : BitVec 32 := Scalar.extui v243
  let c0_i32_138 : BitVec 32 := 0#32
  let v245 : BitVec 1 := Scalar.cmpi .ne v244 c0_i32_138
  v245

def k0_off335 (i : grid0.Coords) (c0_i32_169 : BitVec 32) : Fin 3 → Nat :=
  let arg1 : BitVec 32 := BitVec.ofNat 32 (i 1).val
  let c1_i32 : BitVec 32 := 1#32
  let v0 : BitVec 32 := Scalar.addi arg1 c1_i32
  let c_m2_i32_135 : BitVec 32 := 4294967294#32
  let v241 : BitVec 32 := Scalar.andi v0 c_m2_i32_135
  let c0_i32_167 : BitVec 32 := 0#32
  let v289 : BitVec 32 := Scalar.addi v241 c0_i32_167
  let c4_i32_168 : BitVec 32 := 4#32
  let v290 : BitVec 32 := Scalar.muli v289 c4_i32_168
  let v291 : BitVec 32 := Scalar.addi v290 c0_i32_169
  let v292 : Index := Scalar.indexCast v291
  let c0_170 : Index := 0#32
  let c0_171 : Index := 0#32
  ![v292.toNat, 0, 0]
def k0_off336 (i : grid0.Coords) : Fin 4 → Nat :=
  let c0_174 : Index := 0#32
  let arg1 : BitVec 32 := BitVec.ofNat 32 (i 1).val
  let c1_i32 : BitVec 32 := 1#32
  let v0 : BitVec 32 := Scalar.addi arg1 c1_i32
  let c_m2_i32_135 : BitVec 32 := 4294967294#32
  let v241 : BitVec 32 := Scalar.andi v0 c_m2_i32_135
  let c0_i32_167 : BitVec 32 := 0#32
  let v289 : BitVec 32 := Scalar.addi v241 c0_i32_167
  let v363 : Index := Scalar.indexCast v289
  let c0_175 : Index := 0#32
  let c0_176 : Index := 0#32
  ![0, v363.toNat, 0, 0]
def k0_off337 (i : grid0.Coords) : Fin 4 → Nat :=
  let c0_186 : Index := 0#32
  let arg1 : BitVec 32 := BitVec.ofNat 32 (i 1).val
  let c1_i32 : BitVec 32 := 1#32
  let v0 : BitVec 32 := Scalar.addi arg1 c1_i32
  let c_m2_i32_135 : BitVec 32 := 4294967294#32
  let v241 : BitVec 32 := Scalar.andi v0 c_m2_i32_135
  let c0_i32_167 : BitVec 32 := 0#32
  let v289 : BitVec 32 := Scalar.addi v241 c0_i32_167
  let v445 : Index := Scalar.indexCast v289
  let c128_187 : Index := 128#32
  let c0_188 : Index := 0#32
  ![0, v445.toNat, 128, 0]
def k0_off338 (i : grid0.Coords) : Fin 4 → Nat :=
  let c0_198 : Index := 0#32
  let arg1 : BitVec 32 := BitVec.ofNat 32 (i 1).val
  let c1_i32 : BitVec 32 := 1#32
  let v0 : BitVec 32 := Scalar.addi arg1 c1_i32
  let c_m2_i32_135 : BitVec 32 := 4294967294#32
  let v241 : BitVec 32 := Scalar.andi v0 c_m2_i32_135
  let c0_i32_167 : BitVec 32 := 0#32
  let v289 : BitVec 32 := Scalar.addi v241 c0_i32_167
  let v527 : Index := Scalar.indexCast v289
  let c256_199 : Index := 256#32
  let c0_200 : Index := 0#32
  ![0, v527.toNat, 256, 0]
def k0_off339 (i : grid0.Coords) : Fin 4 → Nat :=
  let c0_209 : Index := 0#32
  let arg1 : BitVec 32 := BitVec.ofNat 32 (i 1).val
  let c1_i32 : BitVec 32 := 1#32
  let v0 : BitVec 32 := Scalar.addi arg1 c1_i32
  let c_m2_i32_135 : BitVec 32 := 4294967294#32
  let v241 : BitVec 32 := Scalar.andi v0 c_m2_i32_135
  let c0_i32_167 : BitVec 32 := 0#32
  let v289 : BitVec 32 := Scalar.addi v241 c0_i32_167
  let v609 : Index := Scalar.indexCast v289
  let c384_210 : Index := 384#32
  let c0_211 : Index := 0#32
  ![0, v609.toNat, 384, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S4x4096x1024 : Shape := ⟨3, ![4, 4096, 1024]⟩
abbrev S4x4096x512 : Shape := ⟨3, ![4, 4096, 512]⟩
abbrev S4x512x1024 : Shape := ⟨3, ![4, 512, 1024]⟩
abbrev S4x1024x1024 : Shape := ⟨3, ![4, 1024, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x1024, .bf16⟩
  | .hbm, ⟨3, _⟩ => ⟨S4x4096x1024, .bf16⟩
  | .hbm, ⟨4, _⟩ => ⟨S4x512x1024, .f32⟩
  | .hbm, ⟨5, _⟩ => ⟨S4x1024x1024, .f32⟩
  | .hbm, ⟨6, _⟩ => ⟨S16384x1024, .f32⟩
  | .hbm, ⟨7, _⟩ => ⟨S16384x512, .bf16⟩
  | .hbm, ⟨8, _⟩ => ⟨S16384x1024, .bf16⟩
  | .hbm, ⟨9, _⟩ => ⟨S16384x1024, .bf16⟩
  | .hbm, ⟨10, _⟩ => ⟨S4x512x1024, .bf16⟩
  | .hbm, ⟨11, _⟩ => ⟨S4x1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512x1024, .bf16⟩
  | .local _ .vmem, ⟨9, _⟩ => ⟨S1x1024x1024, .bf16⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x1024 : Shape := ⟨3, ![4, 4096, 1024]⟩
abbrev S4x4096x512 : Shape := ⟨3, ![4, 4096, 512]⟩
abbrev S4x512x1024 : Shape := ⟨3, ![4, 512, 1024]⟩
abbrev S4x1024x1024 : Shape := ⟨3, ![4, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x1024, .bf16⟩
  | .hbm, ⟨3, _⟩ => ⟨S4x4096x1024, .bf16⟩
  | .hbm, ⟨4, _⟩ => ⟨S4x512x1024, .f32⟩
  | .hbm, ⟨5, _⟩ => ⟨S4x1024x1024, .f32⟩
  | .hbm, ⟨6, _⟩ => ⟨S4x4096x512, .f32⟩
  | .hbm, ⟨7, _⟩ => ⟨S1x512x1024, .f32⟩
  | .hbm, ⟨8, _⟩ => ⟨S512x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1x1024x1024, .f32⟩
  | .hbm, ⟨15, _⟩ => ⟨S1024x1024, .f32⟩
  | .hbm, ⟨16, _⟩ => ⟨S4x4096x1024, .f32⟩
  | .hbm, ⟨17, _⟩ => ⟨S4x4096x1024, .f32⟩
  | .hbm, ⟨18, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x1024 : Shape := ⟨2, ![4, 1024]⟩
abbrev S4x1024x6216 : Shape := ⟨3, ![4, 1024, 6216]⟩
abbrev S4x2x1024 : Shape := ⟨3, ![4, 2, 1024]⟩
abbrev S4x512 : Shape := ⟨2, ![4, 512]⟩
abbrev S4x4x128x128 : Shape := ⟨4, ![4, 4, 128, 128]⟩
abbrev S4x4x128 : Shape := ⟨3, ![4, 4, 128]⟩
abbrev S4x128 : Shape := ⟨2, ![4, 128]⟩
abbrev S4x512x1024 : Shape := ⟨3, ![4, 512, 1024]⟩
abbrev S4x1024x1024 : Shape := ⟨3, ![4, 1024, 1024]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4096x128 : Shape := ⟨2, ![4096, 128]⟩
abbrev S64x4096 : Shape := ⟨2, ![64, 4096]⟩
abbrev S32x4096 : Shape := ⟨2, ![32, 4096]⟩
abbrev S4x6216x1024 : Shape := ⟨3, ![4, 6216, 1024]⟩
abbrev S4x64x1024 : Shape := ⟨3, ![4, 64, 1024]⟩
abbrev S4x1536x1024 : Shape := ⟨3, ![4, 1536, 1024]⟩
abbrev S4x2048x1024 : Shape := ⟨3, ![4, 2048, 1024]⟩
abbrev S4x4224x1024 : Shape := ⟨3, ![4, 4224, 1024]⟩
abbrev S4x8x1024 : Shape := ⟨3, ![4, 8, 1024]⟩
abbrev S4x16x1024 : Shape := ⟨3, ![4, 16, 1024]⟩
abbrev S4x128x4 : Shape := ⟨3, ![4, 128, 4]⟩
abbrev S4x128x4x128 : Shape := ⟨4, ![4, 128, 4, 128]⟩
abbrev S4x128x512 : Shape := ⟨3, ![4, 128, 512]⟩
abbrev S4x1x128 : Shape := ⟨3, ![4, 1, 128]⟩
abbrev S4x128x1 : Shape := ⟨3, ![4, 128, 1]⟩
abbrev S4x1x1024 : Shape := ⟨3, ![4, 1, 1024]⟩
abbrev S4x1x512 : Shape := ⟨3, ![4, 1, 512]⟩
abbrev S16384x1024 : Shape := ⟨2, ![16384, 1024]⟩
abbrev S16384x512 : Shape := ⟨2, ![16384, 512]⟩
abbrev S16384x64 : Shape := ⟨2, ![16384, 64]⟩
abbrev S4x16x512x256 : Shape := ⟨4, ![4, 16, 512, 256]⟩
abbrev S4x16x16x256 : Shape := ⟨4, ![4, 16, 16, 256]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x4224x1024 : Shape := ⟨3, ![1, 4224, 1024]⟩
abbrev S1x2x1024 : Shape := ⟨3, ![1, 2, 1024]⟩
abbrev S1x1x512 : Shape := ⟨3, ![1, 1, 512]⟩
abbrev S1x4x128x128 : Shape := ⟨4, ![1, 4, 128, 128]⟩
abbrev S1x128x512 : Shape := ⟨3, ![1, 128, 512]⟩
abbrev S1x1x128 : Shape := ⟨3, ![1, 1, 128]⟩
abbrev S512x128 : Shape := ⟨2, ![512, 128]⟩
abbrev S1x2048x1024 : Shape := ⟨3, ![1, 2048, 1024]⟩
abbrev S1x16x1024 : Shape := ⟨3, ![1, 16, 1024]⟩
abbrev S1x128x1 : Shape := ⟨3, ![1, 128, 1]⟩
abbrev S64x512 : Shape := ⟨2, ![64, 512]⟩
abbrev S32x512 : Shape := ⟨2, ![32, 512]⟩
abbrev S512x64 : Shape := ⟨2, ![512, 64]⟩
abbrev S1x2x512x256 : Shape := ⟨4, ![1, 2, 512, 256]⟩
abbrev S1x2x16x256 : Shape := ⟨4, ![1, 2, 16, 256]⟩
abbrev S128x128 : Shape := ⟨2, ![128, 128]⟩
abbrev S1x1x128x128 : Shape := ⟨4, ![1, 1, 128, 128]⟩
abbrev S256x1024 : Shape := ⟨2, ![256, 1024]⟩
abbrev S256x512 : Shape := ⟨2, ![256, 512]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1x512 : Shape := ⟨2, ![1, 512]⟩
abbrev S128x512 : Shape := ⟨2, ![128, 512]⟩
abbrev S256x128 : Shape := ⟨2, ![256, 128]⟩
abbrev S1x128 : Shape := ⟨2, ![1, 128]⟩
abbrev S1x128x1024 : Shape := ⟨3, ![1, 128, 1024]⟩
abbrev S128x1024 : Shape := ⟨2, ![128, 1024]⟩
abbrev S256x64 : Shape := ⟨2, ![256, 64]⟩
abbrev S512x256 : Shape := ⟨2, ![512, 256]⟩
abbrev S128x256 : Shape := ⟨2, ![128, 256]⟩
abbrev S1x256 : Shape := ⟨2, ![1, 256]⟩
abbrev S128x1 : Shape := ⟨2, ![128, 1]⟩
abbrev S64x256 : Shape := ⟨2, ![64, 256]⟩
abbrev S1x1x64x256 : Shape := ⟨4, ![1, 1, 64, 256]⟩
abbrev S1x1x512x256 : Shape := ⟨4, ![1, 1, 512, 256]⟩
abbrev S32x256 : Shape := ⟨2, ![32, 256]⟩
abbrev S1x1x32x256 : Shape := ⟨4, ![1, 1, 32, 256]⟩
abbrev S16x1024 : Shape := ⟨2, ![16, 1024]⟩
abbrev S16x256 : Shape := ⟨2, ![16, 256]⟩
abbrev S1x1x16x256 : Shape := ⟨4, ![1, 1, 16, 256]⟩

abbrev nBuf : Space → Nat
  | .hbm => 112
  | .vmem => 58
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x1024, .bf16⟩
  | .hbm, ⟨3, _⟩ => ⟨S4x4096x1024, .bf16⟩
  | .hbm, ⟨4, _⟩ => ⟨S4x1024, .f32⟩
  | .hbm, ⟨5, _⟩ => ⟨S4x1024x6216, .f32⟩
  | .hbm, ⟨6, _⟩ => ⟨S4x2x1024, .f32⟩
  | .hbm, ⟨7, _⟩ => ⟨S4x512, .f32⟩
  | .hbm, ⟨8, _⟩ => ⟨S4x512, .f32⟩
  | .hbm, ⟨9, _⟩ => ⟨S4x4x128x128, .f32⟩
  | .hbm, ⟨10, _⟩ => ⟨S4x4x128, .f32⟩
  | .hbm, ⟨11, _⟩ => ⟨S4x128, .f32⟩
  | .hbm, ⟨12, _⟩ => ⟨S4x128, .f32⟩
  | .hbm, ⟨13, _⟩ => ⟨S4x512x1024, .f32⟩
  | .hbm, ⟨14, _⟩ => ⟨S4x512x1024, .f32⟩
  | .hbm, ⟨15, _⟩ => ⟨S4x1024x1024, .f32⟩
  | .hbm, ⟨16, _⟩ => ⟨S4096, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S4096x1, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S4096x1, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x128, .f32⟩
  | .hbm, ⟨61, _⟩ => ⟨S4096x64, .f32⟩
  | .hbm, ⟨62, _⟩ => ⟨S4096x128, .f32⟩
  | .hbm, ⟨63, _⟩ => ⟨S4096x128, .f32⟩
  | .hbm, ⟨64, _⟩ => ⟨S4096x32, .f32⟩
  | .hbm, ⟨65, _⟩ => ⟨S4096x32, .f32⟩
  | .hbm, ⟨66, _⟩ => ⟨S4096x128, .f32⟩
  | .hbm, ⟨67, _⟩ => ⟨S64x4096, .f32⟩
  | .hbm, ⟨68, _⟩ => ⟨S64x4096, .f32⟩
  | .hbm, ⟨69, _⟩ => ⟨S32x4096, .f32⟩
  | .hbm, ⟨70, _⟩ => ⟨S32x4096, .f32⟩
  | .hbm, ⟨71, _⟩ => ⟨S4x6216x1024, .f32⟩
  | .hbm, ⟨72, _⟩ => ⟨S4x64x1024, .f32⟩
  | .hbm, ⟨73, _⟩ => ⟨S4x1536x1024, .f32⟩
  | .hbm, ⟨74, _⟩ => ⟨S4x512x1024, .f32⟩
  | .hbm, ⟨75, _⟩ => ⟨S4x2048x1024, .f32⟩
  | .hbm, ⟨76, _⟩ => ⟨S4x4224x1024, .f32⟩
  | .hbm, ⟨77, _⟩ => ⟨S4x4224x1024, .bf16⟩
  | .hbm, ⟨78, _⟩ => ⟨S4x512x1024, .f32⟩
  | .hbm, ⟨79, _⟩ => ⟨S4x1536x1024, .f32⟩
  | .hbm, ⟨80, _⟩ => ⟨S4x2048x1024, .f32⟩
  | .hbm, ⟨81, _⟩ => ⟨S4x2048x1024, .bf16⟩
  | .hbm, ⟨82, _⟩ => ⟨S4x8x1024, .f32⟩
  | .hbm, ⟨83, _⟩ => ⟨S_, .f32⟩
  | .hbm, ⟨84, _⟩ => ⟨S4x8x1024, .f32⟩
  | .hbm, ⟨85, _⟩ => ⟨S4x16x1024, .f32⟩
  | .hbm, ⟨86, _⟩ => ⟨S4x16x1024, .bf16⟩
  | .hbm, ⟨87, _⟩ => ⟨S4x512x1024, .bf16⟩
  | .hbm, ⟨88, _⟩ => ⟨S4x512x1024, .bf16⟩
  | .hbm, ⟨89, _⟩ => ⟨S4x1024x1024, .bf16⟩
  | .hbm, ⟨90, _⟩ => ⟨S4x128x4, .f32⟩
  | .hbm, ⟨91, _⟩ => ⟨S4x128x4x128, .f32⟩
  | .hbm, ⟨92, _⟩ => ⟨S4x128x512, .f32⟩
  | .hbm, ⟨93, _⟩ => ⟨S4x1x128, .f32⟩
  | .hbm, ⟨94, _⟩ => ⟨S4x128x1, .f32⟩
  | .hbm, ⟨95, _⟩ => ⟨S4x1x1024, .f32⟩
  | .hbm, ⟨96, _⟩ => ⟨S4x1x512, .f32⟩
  | .hbm, ⟨97, _⟩ => ⟨S4x1x512, .f32⟩
  | .hbm, ⟨98, _⟩ => ⟨S16384x1024, .f32⟩
  | .hbm, ⟨99, _⟩ => ⟨S16384x512, .bf16⟩
  | .hbm, ⟨100, _⟩ => ⟨S16384x1024, .bf16⟩
  | .hbm, ⟨101, _⟩ => ⟨S16384x1024, .bf16⟩
  | .hbm, ⟨102, _⟩ => ⟨S16384x1024, .f32⟩
  | .hbm, ⟨103, _⟩ => ⟨S16384x1024, .bf16⟩
  | .hbm, ⟨104, _⟩ => ⟨S16384x1024, .bf16⟩
  | .hbm, ⟨105, _⟩ => ⟨S16384x512, .bf16⟩
  | .hbm, ⟨106, _⟩ => ⟨S16384x64, .bf16⟩
  | .hbm, ⟨107, _⟩ => ⟨S4x16x512x256, .bf16⟩
  | .hbm, ⟨108, _⟩ => ⟨S4x16x512x256, .bf16⟩
  | .hbm, ⟨109, _⟩ => ⟨S4x16x512x256, .bf16⟩
  | .hbm, ⟨110, _⟩ => ⟨S4x16x512x256, .bf16⟩
  | .hbm, ⟨111, _⟩ => ⟨S4x16x16x256, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x4224x1024, .bf16⟩
  | .local _ .vmem, ⟨12, _⟩ => ⟨S1x2x1024, .f32⟩
  | .local _ .vmem, ⟨13, _⟩ => ⟨S1x1x512, .f32⟩
  | .local _ .vmem, ⟨14, _⟩ => ⟨S1x1x512, .f32⟩
  | .local _ .vmem, ⟨15, _⟩ => ⟨S1x4x128x128, .f32⟩
  | .local _ .vmem, ⟨16, _⟩ => ⟨S1x128x512, .f32⟩
  | .local _ .vmem, ⟨17, _⟩ => ⟨S1x1x128, .f32⟩
  | .local _ .vmem, ⟨18, _⟩ => ⟨S1x512x1024, .bf16⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S1x2048x1024, .bf16⟩
  | .local _ .vmem, ⟨28, _⟩ => ⟨S1x16x1024, .bf16⟩
  | .local _ .vmem, ⟨29, _⟩ => ⟨S1x128x1, .f32⟩
  | .local _ .vmem, ⟨30, _⟩ => ⟨S64x512, .f32⟩
  | .local _ .vmem, ⟨31, _⟩ => ⟨S64x512, .f32⟩
  | .local _ .vmem, ⟨32, _⟩ => ⟨S64x512, .f32⟩
  | .local _ .vmem, ⟨33, _⟩ => ⟨S64x512, .f32⟩
  | .local _ .vmem, ⟨34, _⟩ => ⟨S32x512, .f32⟩
  | .local _ .vmem, ⟨35, _⟩ => ⟨S32x512, .f32⟩
  | .local _ .vmem, ⟨36, _⟩ => ⟨S32x512, .f32⟩
  | .local _ .vmem, ⟨37, _⟩ => ⟨S32x512, .f32⟩
  | .local _ .vmem, ⟨38, _⟩ => ⟨S512x1024, .f32⟩
  | .local _ .vmem, ⟨39, _⟩ => ⟨S512x1024, .f32⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x512, .bf16⟩
  | .local _ .vmem, ⟨45, _⟩ => ⟨S512x512, .bf16⟩
  | .local _ .vmem, ⟨46, _⟩ => ⟨S512x64, .bf16⟩
  | .local _ .vmem, ⟨47, _⟩ => ⟨S512x64, .bf16⟩
  | .local _ .vmem, ⟨48, _⟩ => ⟨S1x2x512x256, .bf16⟩
  | .local _ .vmem, ⟨49, _⟩ => ⟨S1x2x512x256, .bf16⟩
  | .local _ .vmem, ⟨50, _⟩ => ⟨S1x2x512x256, .bf16⟩
  | .local _ .vmem, ⟨51, _⟩ => ⟨S1x2x512x256, .bf16⟩
  | .local _ .vmem, ⟨52, _⟩ => ⟨S1x2x512x256, .bf16⟩
  | .local _ .vmem, ⟨53, _⟩ => ⟨S1x2x512x256, .bf16⟩
  | .local _ .vmem, ⟨54, _⟩ => ⟨S1x2x512x256, .bf16⟩
  | .local _ .vmem, ⟨55, _⟩ => ⟨S1x2x512x256, .bf16⟩
  | .local _ .vmem, ⟨56, _⟩ => ⟨S1x2x16x256, .f32⟩
  | .local _ .vmem, ⟨57, _⟩ => ⟨S1x2x16x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77_0 : Ref sig .tc := ⟨.hbm, 102, rfl⟩
abbrev main_v77_1 : Ref sig .tc := ⟨.hbm, 103, rfl⟩
abbrev main_v77_2 : Ref sig .tc := ⟨.hbm, 104, rfl⟩
abbrev main_v77_3 : Ref sig .tc := ⟨.hbm, 105, rfl⟩
abbrev main_v77_4 : Ref sig .tc := ⟨.hbm, 106, rfl⟩
abbrev main_v77_5 : Ref sig .tc := ⟨.hbm, 107, rfl⟩
abbrev main_v77_6 : Ref sig .tc := ⟨.hbm, 108, rfl⟩
abbrev main_v77_7 : Ref sig .tc := ⟨.hbm, 109, rfl⟩
abbrev main_v77_8 : Ref sig .tc := ⟨.hbm, 110, rfl⟩
abbrev main_v77_9 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_stg31_0 : Ref sig .tc := ⟨.vmem, 48, rfl⟩
abbrev cc0_stg31_1 : Ref sig .tc := ⟨.vmem, 49, rfl⟩
abbrev cc0_stg32_0 : Ref sig .tc := ⟨.vmem, 50, rfl⟩
abbrev cc0_stg32_1 : Ref sig .tc := ⟨.vmem, 51, rfl⟩
abbrev cc0_stg33_0 : Ref sig .tc := ⟨.vmem, 52, rfl⟩
abbrev cc0_stg33_1 : Ref sig .tc := ⟨.vmem, 53, rfl⟩
abbrev cc0_stg34_0 : Ref sig .tc := ⟨.vmem, 54, rfl⟩
abbrev cc0_stg34_1 : Ref sig .tc := ⟨.vmem, 55, rfl⟩
abbrev cc0_stg35_0 : Ref sig .tc := ⟨.vmem, 56, rfl⟩
abbrev cc0_stg35_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47
abbrev cc0_sem31_0 : DmaSem sig := 48
abbrev cc0_sem31_1 : DmaSem sig := 49
abbrev cc0_sem32_0 : DmaSem sig := 50
abbrev cc0_sem32_1 : DmaSem sig := 51
abbrev cc0_sem33_0 : DmaSem sig := 52
abbrev cc0_sem33_1 : DmaSem sig := 53
abbrev cc0_sem34_0 : DmaSem sig := 54
abbrev cc0_sem34_1 : DmaSem sig := 55
abbrev cc0_sem35_0 : DmaSem sig := 56
abbrev cc0_sem35_1 : DmaSem sig := 57

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_21 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_23 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_24 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_25 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_32 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_33 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_34 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_35 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4224x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x2048x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x16x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S64x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x64 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x2x512x256 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x2x512x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x2x512x256 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x2x512x256 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x2x16x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x1024 : Shape := ⟨2, ![4, 1024]⟩
abbrev S4x1024x6216 : Shape := ⟨3, ![4, 1024, 6216]⟩
abbrev S4x2x1024 : Shape := ⟨3, ![4, 2, 1024]⟩
abbrev S4x512 : Shape := ⟨2, ![4, 512]⟩
abbrev S4x4x128x128 : Shape := ⟨4, ![4, 4, 128, 128]⟩
abbrev S4x4x128 : Shape := ⟨3, ![4, 4, 128]⟩
abbrev S4x128 : Shape := ⟨2, ![4, 128]⟩
abbrev S4x512x1024 : Shape := ⟨3, ![4, 512, 1024]⟩
abbrev S4x1024x1024 : Shape := ⟨3, ![4, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x6216 : Shape := ⟨3, ![1, 1024, 6216]⟩
abbrev S1024x6216 : Shape := ⟨2, ![1024, 6216]⟩
abbrev S1024x512 : Shape := ⟨2, ![1024, 512]⟩
abbrev S1024x64 : Shape := ⟨2, ![1024, 64]⟩
abbrev S4x4096x64 : Shape := ⟨3, ![4, 4096, 64]⟩
abbrev S1024x8 : Shape := ⟨2, ![1024, 8]⟩
abbrev S4x4096x8 : Shape := ⟨3, ![4, 4096, 8]⟩
abbrev S1x512 : Shape := ⟨2, ![1, 512]⟩
abbrev S512 : Shape := ⟨1, ![512]⟩
abbrev S1x1x512 : Shape := ⟨3, ![1, 1, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S1x4x128x128 : Shape := ⟨4, ![1, 4, 128, 128]⟩
abbrev S4x128x128 : Shape := ⟨3, ![4, 128, 128]⟩
abbrev S4x32x128x4x128 : Shape := ⟨5, ![4, 32, 128, 4, 128]⟩
abbrev S4x4x32x128x128 : Shape := ⟨5, ![4, 4, 32, 128, 128]⟩
abbrev S1x4x128 : Shape := ⟨3, ![1, 4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S32 : Shape := ⟨1, ![32]⟩
abbrev S1x32 : Shape := ⟨2, ![1, 32]⟩
abbrev S4096x32 : Shape := ⟨2, ![4096, 32]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x4x64 : Shape := ⟨4, ![4, 4096, 4, 64]⟩
abbrev S4096x1x64 : Shape := ⟨3, ![4096, 1, 64]⟩
abbrev S1x4096x1x64 : Shape := ⟨4, ![1, 4096, 1, 64]⟩
abbrev S4x4096x8x64 : Shape := ⟨4, ![4, 4096, 8, 64]⟩
abbrev S4x4096x8x32 : Shape := ⟨4, ![4, 4096, 8, 32]⟩
abbrev S4096x1x32 : Shape := ⟨3, ![4096, 1, 32]⟩
abbrev S1x4096x1x32 : Shape := ⟨4, ![1, 4096, 1, 32]⟩
abbrev S4x4096x1x64 : Shape := ⟨4, ![4, 4096, 1, 64]⟩
abbrev S4x4096x1x32 : Shape := ⟨4, ![4, 4096, 1, 32]⟩
abbrev S4x4096x16 : Shape := ⟨3, ![4, 4096, 16]⟩
abbrev S16384x1024 : Shape := ⟨2, ![16384, 1024]⟩
abbrev S16384x512 : Shape := ⟨2, ![16384, 512]⟩
abbrev S16384x64 : Shape := ⟨2, ![16384, 64]⟩
abbrev S4x16x256x512 : Shape := ⟨4, ![4, 16, 256, 512]⟩
abbrev S4x16x512x256 : Shape := ⟨4, ![4, 16, 512, 256]⟩
abbrev S4x16x256x16 : Shape := ⟨4, ![4, 16, 256, 16]⟩
abbrev S4x16x16x256 : Shape := ⟨4, ![4, 16, 16, 256]⟩

abbrev nBuf : Space → Nat
  | .hbm => 443
  | .vmem => 0
  | .smem => 0
  | _ => 0

abbrev hbmTy0_0 (i : Nat) : BufTy := match i % 128 with
  | 0 => ⟨S4x4096x1024, .f32⟩
  | 1 => ⟨S4x4096x512, .bf16⟩
  | 2 => ⟨S4x4096x1024, .bf16⟩
  | 3 => ⟨S4x4096x1024, .bf16⟩
  | 4 => ⟨S4x1024, .f32⟩
  | 5 => ⟨S4x1024x6216, .f32⟩
  | 6 => ⟨S4x2x1024, .f32⟩
  | 7 => ⟨S4x512, .f32⟩
  | 8 => ⟨S4x512, .f32⟩
  | 9 => ⟨S4x4x128x128, .f32⟩
  | 10 => ⟨S4x4x128, .f32⟩
  | 11 => ⟨S4x128, .f32⟩
  | 12 => ⟨S4x128, .f32⟩
  | 13 => ⟨S4x512x1024, .f32⟩
  | 14 => ⟨S4x512x1024, .f32⟩
  | 15 => ⟨S4x1024x1024, .f32⟩
  | 16 => ⟨S4x4096x512, .f32⟩
  | 17 => ⟨S1x512x1024, .f32⟩
  | 18 => ⟨S512x1024, .f32⟩
  | 19 => ⟨S4x4096x1024, .f32⟩
  | 20 => ⟨S4x4096x1024, .f32⟩
  | 21 => ⟨S4x4096x1024, .f32⟩
  | 22 => ⟨S4x4096x1024, .f32⟩
  | 23 => ⟨S4x4096x1024, .f32⟩
  | 24 => ⟨S1x1024x1024, .f32⟩
  | 25 => ⟨S1024x1024, .f32⟩
  | 26 => ⟨S4x4096x1024, .f32⟩
  | 27 => ⟨S4x4096x1024, .f32⟩
  | 28 => ⟨S1x1024, .f32⟩
  | 29 => ⟨S1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S1x1024x6216, .f32⟩
  | 47 => ⟨S1024x6216, .f32⟩
  | 48 => ⟨S1024x512, .f32⟩
  | 49 => ⟨S4x4096x512, .f32⟩
  | 50 => ⟨S1x1024x6216, .f32⟩
  | 51 => ⟨S1024x6216, .f32⟩
  | 52 => ⟨S1024x512, .f32⟩
  | 53 => ⟨S4x4096x512, .f32⟩
  | 54 => ⟨S1x1024x6216, .f32⟩
  | 55 => ⟨S1024x6216, .f32⟩
  | 56 => ⟨S1024x512, .f32⟩
  | 57 => ⟨S4x4096x512, .f32⟩
  | 58 => ⟨S1x1024x6216, .f32⟩
  | 59 => ⟨S1024x6216, .f32⟩
  | 60 => ⟨S1024x512, .f32⟩
  | 61 => ⟨S4x4096x512, .f32⟩
  | 62 => ⟨S1x1024x6216, .f32⟩
  | 63 => ⟨S1024x6216, .f32⟩
  | 64 => ⟨S1024x512, .f32⟩
  | 65 => ⟨S4x4096x512, .f32⟩
  | 66 => ⟨S1x1024x6216, .f32⟩
  | 67 => ⟨S1024x6216, .f32⟩
  | 68 => ⟨S1024x512, .f32⟩
  | 69 => ⟨S4x4096x512, .f32⟩
  | 70 => ⟨S1x1024x6216, .f32⟩
  | 71 => ⟨S1024x6216, .f32⟩
  | 72 => ⟨S1024x512, .f32⟩
  | 73 => ⟨S4x4096x512, .f32⟩
  | 74 => ⟨S1x1024x6216, .f32⟩
  | 75 => ⟨S1024x6216, .f32⟩
  | 76 => ⟨S1024x512, .f32⟩
  | 77 => ⟨S4x4096x512, .f32⟩
  | 78 => ⟨S1x1024x6216, .f32⟩
  | 79 => ⟨S1024x6216, .f32⟩
  | 80 => ⟨S1024x64, .f32⟩
  | 81 => ⟨S4x4096x64, .f32⟩
  | 82 => ⟨S1x1024x6216, .f32⟩
  | 83 => ⟨S1024x6216, .f32⟩
  | 84 => ⟨S1024x8, .f32⟩
  | 85 => ⟨S4x4096x8, .f32⟩
  | 86 => ⟨S1x1024x6216, .f32⟩
  | 87 => ⟨S1024x6216, .f32⟩
  | 88 => ⟨S1024x1024, .f32⟩
  | 89 => ⟨S4x4096x1024, .f32⟩
  | 90 => ⟨S1x1024x6216, .f32⟩
  | 91 => ⟨S1024x6216, .f32⟩
  | 92 => ⟨S1024x1024, .f32⟩
  | 93 => ⟨S4x4096x1024, .f32⟩
  | 94 => ⟨S4x4096x512, .f32⟩
  | 95 => ⟨S4x4096x512, .f32⟩
  | 96 => ⟨S_, .f32⟩
  | 97 => ⟨S4x4096x512, .f32⟩
  | 98 => ⟨S4x4096x512, .f32⟩
  | 99 => ⟨S4x4096x512, .f32⟩
  | 100 => ⟨S_, .f32⟩
  | 101 => ⟨S4x4096x512, .f32⟩
  | 102 => ⟨S4x4096x512, .f32⟩
  | 103 => ⟨S4x4096x512, .f32⟩
  | 104 => ⟨S_, .f32⟩
  | 105 => ⟨S4x4096x512, .f32⟩
  | 106 => ⟨S4x4096x512, .f32⟩
  | 107 => ⟨S_, .f32⟩
  | 108 => ⟨S4x4096x512, .f32⟩
  | 109 => ⟨S4x4096x512, .f32⟩
  | 110 => ⟨S4x4096x512, .f32⟩
  | 111 => ⟨S1x512, .f32⟩
  | 112 => ⟨S512, .f32⟩
  | 113 => ⟨S1x512, .f32⟩
  | 114 => ⟨S512, .f32⟩
  | 115 => ⟨S_, .f32⟩
  | 116 => ⟨S4x4096, .f32⟩
  | 117 => ⟨S4x4096x1, .f32⟩
  | 118 => ⟨S_, .f32⟩
  | 119 => ⟨S4x4096x1, .f32⟩
  | 120 => ⟨S4x4096x1, .f32⟩
  | 121 => ⟨S4x4096x512, .f32⟩
  | 122 => ⟨S4x4096x512, .f32⟩
  | 123 => ⟨S4x4096x512, .f32⟩
  | 124 => ⟨S_, .f32⟩
  | 125 => ⟨S4x4096, .f32⟩
  | 126 => ⟨S4x4096x1, .f32⟩
  | 127 => ⟨S_, .f32⟩
  | _ => ⟨S4x4096x1024, .f32⟩

abbrev hbmTy0_1 (i : Nat) : BufTy := match i % 128 with
  | 0 => ⟨S4x4096x1, .f32⟩
  | 1 => ⟨S4x4096x1, .f32⟩
  | 2 => ⟨S_, .f32⟩
  | 3 => ⟨S4x4096x1, .f32⟩
  | 4 => ⟨S4x4096x1, .f32⟩
  | 5 => ⟨S4x4096x1, .f32⟩
  | 6 => ⟨S4x4096x512, .f32⟩
  | 7 => ⟨S4x4096x512, .f32⟩
  | 8 => ⟨S1x1x512, .f32⟩
  | 9 => ⟨S4x4096x512, .f32⟩
  | 10 => ⟨S4x4096x512, .f32⟩
  | 11 => ⟨S1x1x512, .f32⟩
  | 12 => ⟨S4x4096x512, .f32⟩
  | 13 => ⟨S4x4096x512, .f32⟩
  | 14 => ⟨S128, .i32⟩
  | 15 => ⟨S_, .i32⟩
  | 16 => ⟨S_, .i32⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S128, .i32⟩
  | 24 => ⟨S128, .i32⟩
  | 25 => ⟨S_, .i32⟩
  | 26 => ⟨S128, .i32⟩
  | 27 => ⟨S128, .i1⟩
  | 28 => ⟨S128, .i1⟩
  | 29 => ⟨S_, .i32⟩
  | 30 => ⟨S128, .i32⟩
  | 31 => ⟨S128, .i32⟩
  | 32 => ⟨S128, .i32⟩
  | 33 => ⟨S1x128, .i32⟩
  | 34 => ⟨S128x1, .i32⟩
  | 35 => ⟨S128x128, .i32⟩
  | 36 => ⟨S128x128, .i32⟩
  | 37 => ⟨S128x128, .i1⟩
  | 38 => ⟨S1x128x128, .i1⟩
  | 39 => ⟨S1x4x128x128, .f32⟩
  | 40 => ⟨S4x128x128, .f32⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S4x32x128x4x128, .f32⟩
  | 47 => ⟨S4x4x32x128x128, .f32⟩
  | 48 => ⟨S4x32x128x4x128, .f32⟩
  | 49 => ⟨S1x4x128, .f32⟩
  | 50 => ⟨S4x128, .f32⟩
  | 51 => ⟨S128x4, .f32⟩
  | 52 => ⟨S128x4x1, .f32⟩
  | 53 => ⟨S1x1x128x4x1, .f32⟩
  | 54 => ⟨S4x32x128x4x128, .f32⟩
  | 55 => ⟨S4x32x128x4x128, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S4x4096x512, .f32⟩
  | 62 => ⟨S_, .f32⟩
  | 63 => ⟨S4x4096x512, .f32⟩
  | 64 => ⟨S4x4096x512, .f32⟩
  | 65 => ⟨S4x4096x512, .f32⟩
  | 66 => ⟨S_, .f32⟩
  | 67 => ⟨S4x4096x512, .f32⟩
  | 68 => ⟨S4x4096x512, .f32⟩
  | 69 => ⟨S_, .f32⟩
  | 70 => ⟨S4x4096x512, .f32⟩
  | 71 => ⟨S4x4096x512, .f32⟩
  | 72 => ⟨S4x4096x512, .f32⟩
  | 73 => ⟨S4x4096x512, .f32⟩
  | 74 => ⟨S4x4096x512, .f32⟩
  | 75 => ⟨S4x4096x512, .f32⟩
  | 76 => ⟨S4x4096x512, .f32⟩
  | 77 => ⟨S_, .f32⟩
  | 78 => ⟨S4x4096x512, .f32⟩
  | 79 => ⟨S4x4096x512, .f32⟩
  | 80 => ⟨S_, .f32⟩
  | 81 => ⟨S4x4096x512, .f32⟩
  | 82 => ⟨S4x4096x512, .f32⟩
  | 83 => ⟨S4x4096x512, .f32⟩
  | 84 => ⟨S4x4096x512, .f32⟩
  | 85 => ⟨S1x512x1024, .f32⟩
  | 86 => ⟨S512x1024, .f32⟩
  | 87 => ⟨S4x4096x1024, .f32⟩
  | 88 => ⟨S1x1x1024, .f32⟩
  | 89 => ⟨S1024, .f32⟩
  | 90 => ⟨S1x1x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S_, .f32⟩
  | 96 => ⟨S4x4096x1024, .f32⟩
  | 97 => ⟨S4x4096x1024, .f32⟩
  | 98 => ⟨S_, .f32⟩
  | 99 => ⟨S4x4096x1024, .f32⟩
  | 100 => ⟨S4x4096x1024, .f32⟩
  | 101 => ⟨S4x4096x1024, .f32⟩
  | 102 => ⟨S1x1x1024, .f32⟩
  | 103 => ⟨S1024, .f32⟩
  | 104 => ⟨S1x1x1024, .f32⟩
  | 105 => ⟨S4x4096x1024, .f32⟩
  | 106 => ⟨S4x4096x1024, .f32⟩
  | 107 => ⟨S4x4096x1024, .f32⟩
  | 108 => ⟨S4x4096x1024, .f32⟩
  | 109 => ⟨S_, .f32⟩
  | 110 => ⟨S4x4096x1024, .f32⟩
  | 111 => ⟨S4x4096x1024, .f32⟩
  | 112 => ⟨S_, .f32⟩
  | 113 => ⟨S4x4096x1024, .f32⟩
  | 114 => ⟨S4x4096x1024, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S4x4096x1024, .f32⟩

abbrev hbmTy0_2 (i : Nat) : BufTy := match i % 128 with
  | 0 => ⟨S64, .f32⟩
  | 1 => ⟨S4096, .f32⟩
  | 2 => ⟨S4096x1, .f32⟩
  | 3 => ⟨S1x64, .f32⟩
  | 4 => ⟨S4096x64, .f32⟩
  | 5 => ⟨S4096x64, .f32⟩
  | 6 => ⟨S4096x64, .f32⟩
  | 7 => ⟨S4096x64, .f32⟩
  | 8 => ⟨S4096x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S4x4096x4x128, .f32⟩
  | 32 => ⟨S1x128, .f32⟩
  | 33 => ⟨S128, .f32⟩
  | 34 => ⟨S4x4096x4x128, .f32⟩
  | 35 => ⟨S_, .f32⟩
  | 36 => ⟨S4x4096x4, .f32⟩
  | 37 => ⟨S4x4096x4x1, .f32⟩
  | 38 => ⟨S_, .f32⟩
  | 39 => ⟨S4x4096x4x1, .f32⟩
  | 40 => ⟨S4x4096x4x1, .f32⟩
  | 41 => ⟨S_, .f32⟩
  | 42 => ⟨S4x4096x4x1, .f32⟩
  | 43 => ⟨S4x4096x4x1, .f32⟩
  | 44 => ⟨S4x4096x4x1, .f32⟩
  | 45 => ⟨S4x4096x4x128, .f32⟩
  | 46 => ⟨S4x4096x4x128, .f32⟩
  | 47 => ⟨S1x1x1x128, .f32⟩
  | 48 => ⟨S4x4096x4x128, .f32⟩
  | 49 => ⟨S4x4096x4x128, .f32⟩
  | 50 => ⟨S4x4096x4x64, .f32⟩
  | 51 => ⟨S4x4096x4x64, .f32⟩
  | 52 => ⟨S4096x1x64, .f32⟩
  | 53 => ⟨S4096x1x64, .f32⟩
  | 54 => ⟨S1x4096x1x64, .f32⟩
  | 55 => ⟨S4x4096x4x64, .f32⟩
  | 56 => ⟨S4x4096x4x64, .f32⟩
  | 57 => ⟨S1x4096x1x64, .f32⟩
  | 58 => ⟨S4x4096x4x64, .f32⟩
  | 59 => ⟨S4x4096x4x64, .f32⟩
  | 60 => ⟨S4x4096x4x64, .f32⟩
  | 61 => ⟨S1x4096x1x64, .f32⟩
  | 62 => ⟨S4x4096x4x64, .f32⟩
  | 63 => ⟨S4x4096x4x64, .f32⟩
  | 64 => ⟨S1x4096x1x64, .f32⟩
  | 65 => ⟨S4x4096x4x64, .f32⟩
  | 66 => ⟨S4x4096x4x64, .f32⟩
  | 67 => ⟨S4x4096x4x64, .f32⟩
  | 68 => ⟨S4x4096x4x128, .f32⟩
  | 69 => ⟨S_, .f32⟩
  | 70 => ⟨S4x4096x4x128, .f32⟩
  | 71 => ⟨S4x4096x4x128, .f32⟩
  | 72 => ⟨S4x4096x4x128, .f32⟩
  | 73 => ⟨S1x128, .f32⟩
  | 74 => ⟨S128, .f32⟩
  | 75 => ⟨S4x4096x4x128, .f32⟩
  | 76 => ⟨S_, .f32⟩
  | 77 => ⟨S4x4096x4, .f32⟩
  | 78 => ⟨S4x4096x4x1, .f32⟩
  | 79 => ⟨S_, .f32⟩
  | 80 => ⟨S4x4096x4x1, .f32⟩
  | 81 => ⟨S4x4096x4x1, .f32⟩
  | 82 => ⟨S_, .f32⟩
  | 83 => ⟨S4x4096x4x1, .f32⟩
  | 84 => ⟨S4x4096x4x1, .f32⟩
  | 85 => ⟨S4x4096x4x1, .f32⟩
  | 86 => ⟨S4x4096x4x128, .f32⟩
  | 87 => ⟨S4x4096x4x128, .f32⟩
  | 88 => ⟨S1x1x1x128, .f32⟩
  | 89 => ⟨S4x4096x4x128, .f32⟩
  | 90 => ⟨S4x4096x4x128, .f32⟩
  | 91 => ⟨S4x4096x4x64, .f32⟩
  | 92 => ⟨S4x4096x4x64, .f32⟩
  | 93 => ⟨S4096x1x64, .f32⟩
  | 94 => ⟨S4096x1x64, .f32⟩
  | 95 => ⟨S1x4096x1x64, .f32⟩
  | 96 => ⟨S4x4096x4x64, .f32⟩
  | 97 => ⟨S4x4096x4x64, .f32⟩
  | 98 => ⟨S1x4096x1x64, .f32⟩
  | 99 => ⟨S4x4096x4x64, .f32⟩
  | 100 => ⟨S4x4096x4x64, .f32⟩
  | 101 => ⟨S4x4096x4x64, .f32⟩
  | 102 => ⟨S1x4096x1x64, .f32⟩
  | 103 => ⟨S4x4096x4x64, .f32⟩
  | 104 => ⟨S4x4096x4x64, .f32⟩
  | 105 => ⟨S1x4096x1x64, .f32⟩
  | 106 => ⟨S4x4096x4x64, .f32⟩
  | 107 => ⟨S4x4096x4x64, .f32⟩
  | 108 => ⟨S4x4096x4x64, .f32⟩
  | 109 => ⟨S4x4096x4x128, .f32⟩
  | 110 => ⟨S4x4096x8x64, .f32⟩
  | 111 => ⟨S4x4096x8x32, .f32⟩
  | 112 => ⟨S4x4096x8x32, .f32⟩
  | 113 => ⟨S4096x1x32, .f32⟩
  | 114 => ⟨S4096x1x32, .f32⟩
  | 115 => ⟨S1x4096x1x32, .f32⟩
  | 116 => ⟨S4x4096x8x32, .f32⟩
  | 117 => ⟨S4x4096x8x32, .f32⟩
  | 118 => ⟨S1x4096x1x32, .f32⟩
  | 119 => ⟨S4x4096x8x32, .f32⟩
  | 120 => ⟨S4x4096x8x32, .f32⟩
  | 121 => ⟨S4x4096x8x32, .f32⟩
  | 122 => ⟨S1x4096x1x32, .f32⟩
  | 123 => ⟨S4x4096x8x32, .f32⟩
  | 124 => ⟨S4x4096x8x32, .f32⟩
  | 125 => ⟨S1x4096x1x32, .f32⟩
  | 126 => ⟨S4x4096x8x32, .f32⟩
  | 127 => ⟨S4x4096x8x32, .f32⟩
  | _ => ⟨S4x4096x1024, .f32⟩

abbrev hbmTy0_3 (i : Nat) : BufTy := match i % 128 with
  | 0 => ⟨S4x4096x8x32, .f32⟩
  | 1 => ⟨S4x4096x8x64, .f32⟩
  | 2 => ⟨S4x4096x1x64, .f32⟩
  | 3 => ⟨S4x4096x1x32, .f32⟩
  | 4 => ⟨S4x4096x1x32, .f32⟩
  | 5 => ⟨S4096x1x32, .f32⟩
  | 6 => ⟨S4096x1x32, .f32⟩
  | 7 => ⟨S1x4096x1x32, .f32⟩
  | 8 => ⟨S4x4096x1x32, .f32⟩
  | 9 => ⟨S4x4096x1x32, .f32⟩
  | 10 => ⟨S1x4096x1x32, .f32⟩
  | 11 => ⟨S4x4096x1x32, .f32⟩
  | 12 => ⟨S4x4096x1x32, .f32⟩
  | 13 => ⟨S4x4096x1x32, .f32⟩
  | 14 => ⟨S1x4096x1x32, .f32⟩
  | 15 => ⟨S4x4096x1x32, .f32⟩
  | 16 => ⟨S4x4096x1x32, .f32⟩
  | 17 => ⟨S1x4096x1x32, .f32⟩
  | 18 => ⟨S4x4096x1x32, .f32⟩
  | 19 => ⟨S4x4096x1x32, .f32⟩
  | 20 => ⟨S4x4096x1x32, .f32⟩
  | 21 => ⟨S4x4096x1x64, .f32⟩
  | 22 => ⟨S_, .f32⟩
  | 23 => ⟨S4x4096x8, .f32⟩
  | 24 => ⟨S4x4096x16, .f32⟩
  | 25 => ⟨S16384x1024, .f32⟩
  | 26 => ⟨S16384x1024, .f32⟩
  | 27 => ⟨S16384x1024, .bf16⟩
  | 28 => ⟨S16384x1024, .f32⟩
  | 29 => ⟨S16384x1024, .bf16⟩
  | 30 => ⟨S16384x512, .f32⟩
  | 31 => ⟨S16384x512, .bf16⟩
  | 32 => ⟨S16384x64, .f32⟩
  | 33 => ⟨S16384x64, .bf16⟩
  | 34 => ⟨S4x4096x512, .f32⟩
  | 35 => ⟨S4x16x256x512, .f32⟩
  | 36 => ⟨S4x16x512x256, .f32⟩
  | 37 => ⟨S4x16x512x256, .bf16⟩
  | 38 => ⟨S4x16x256x512, .f32⟩
  | 39 => ⟨S4x16x512x256, .f32⟩
  | 40 => ⟨S4x16x512x256, .bf16⟩
  | 41 => ⟨S4x4096x512, .f32⟩
  | 42 => ⟨S4x4096x512, .f32⟩
  | 43 => ⟨S_, .f32⟩
  | 44 => ⟨S4x4096x512, .f32⟩
  | 45 => ⟨S4x4096x512, .f32⟩
  | 46 => ⟨S_, .f32⟩
  | 47 => ⟨S4x4096x512, .f32⟩
  | 48 => ⟨S4x4096x512, .f32⟩
  | 49 => ⟨S4x4096x512, .f32⟩
  | 50 => ⟨S4x16x256x512, .f32⟩
  | 51 => ⟨S4x16x512x256, .f32⟩
  | 52 => ⟨S4x16x512x256, .bf16⟩
  | 53 => ⟨S4x4096x512, .f32⟩
  | 54 => ⟨S4x16x256x512, .f32⟩
  | 55 => ⟨S4x16x512x256, .f32⟩
  | 56 => ⟨S4x16x512x256, .bf16⟩
  | 57 => ⟨S4x16x256x16, .f32⟩
  | 58 => ⟨S4x16x16x256, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_2 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_3 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_4 : Ref sig .tc := ⟨.hbm, 104, rfl⟩
abbrev main_v83 : Ref sig .tc := ⟨.hbm, 105, rfl⟩
abbrev main_v84 : Ref sig .tc := ⟨.hbm, 106, rfl⟩
abbrev main_cst_5 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_6 : Ref sig .tc := ⟨.hbm, 115, rfl⟩
abbrev main_v92 : Ref sig .tc := ⟨.hbm, 116, rfl⟩
abbrev main_v93 : Ref sig .tc := ⟨.hbm, 117, rfl⟩
abbrev main_cst_7 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_8 : Ref sig .tc := ⟨.hbm, 124, rfl⟩
abbrev main_v99 : Ref sig .tc := ⟨.hbm, 125, rfl⟩
abbrev main_v100 : Ref sig .tc := ⟨.hbm, 126, rfl⟩
abbrev main_cst_9 : Ref sig .tc := ⟨.hbm, 127, rfl⟩
abbrev main_v101 : Ref sig .tc := ⟨.hbm, 128, rfl⟩
abbrev main_v102 : Ref sig .tc := ⟨.hbm, 129, rfl⟩
abbrev main_cst_10 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_c : Ref sig .tc := ⟨.hbm, 143, rfl⟩
abbrev main_call0_v0 : Ref sig .tc := ⟨.hbm, 144, rfl⟩
abbrev main_call0_v1 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_v6 : Ref sig .tc := ⟨.hbm, 150, rfl⟩
abbrev main_call0_v7 : Ref sig .tc := ⟨.hbm, 151, rfl⟩
abbrev main_call0_v8 : Ref sig .tc := ⟨.hbm, 152, rfl⟩
abbrev main_call0_c : Ref sig .tc := ⟨.hbm, 153, rfl⟩
abbrev main_call0_v9 : Ref sig .tc := ⟨.hbm, 154, rfl⟩
abbrev main_call0_v10 : Ref sig .tc := ⟨.hbm, 155, rfl⟩
abbrev main_call0_v11 : Ref sig .tc := ⟨.hbm, 156, rfl⟩
abbrev main_call0_c_0 : Ref sig .tc := ⟨.hbm, 157, rfl⟩
abbrev main_call0_v12 : Ref sig .tc := ⟨.hbm, 158, rfl⟩
abbrev main_call0_v13 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_11 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_12 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_13 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_14 : Ref sig .tc := ⟨.hbm, 194, rfl⟩
abbrev main_v143 : Ref sig .tc := ⟨.hbm, 195, rfl⟩
abbrev main_v144 : Ref sig .tc := ⟨.hbm, 196, rfl⟩
abbrev main_cst_15 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call2_v0 : Ref sig .tc := ⟨.hbm, 203, rfl⟩
abbrev main_call2_v1 : Ref sig .tc := ⟨.hbm, 204, rfl⟩
abbrev main_call2_cst : Ref sig .tc := ⟨.hbm, 205, rfl⟩
abbrev main_call2_v2 : Ref sig .tc := ⟨.hbm, 206, rfl⟩
abbrev main_call2_v3 : Ref sig .tc := ⟨.hbm, 207, rfl⟩
abbrev main_call2_cst_0 : Ref sig .tc := ⟨.hbm, 208, rfl⟩
abbrev main_call2_v4 : Ref sig .tc := ⟨.hbm, 209, rfl⟩
abbrev main_call2_v5 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_16 : Ref sig .tc := ⟨.hbm, 223, rfl⟩
abbrev main_v162 : Ref sig .tc := ⟨.hbm, 224, rfl⟩
abbrev main_v163 : Ref sig .tc := ⟨.hbm, 225, rfl⟩
abbrev main_cst_17 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_18 : Ref sig .tc := ⟨.hbm, 237, rfl⟩
abbrev main_v174 : Ref sig .tc := ⟨.hbm, 238, rfl⟩
abbrev main_v175 : Ref sig .tc := ⟨.hbm, 239, rfl⟩
abbrev main_cst_19 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_cst_20 : Ref sig .tc := ⟨.hbm, 244, rfl⟩
abbrev main_v179 : Ref sig .tc := ⟨.hbm, 245, rfl⟩
abbrev main_v180 : Ref sig .tc := ⟨.hbm, 246, rfl⟩
abbrev main_cst_21 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_22 : Ref sig .tc := ⟨.hbm, 251, rfl⟩
abbrev main_v184 : Ref sig .tc := ⟨.hbm, 252, rfl⟩
abbrev main_v185 : Ref sig .tc := ⟨.hbm, 253, rfl⟩
abbrev main_cst_23 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_cst_24 : Ref sig .tc := ⟨.hbm, 266, rfl⟩
abbrev main_v197 : Ref sig .tc := ⟨.hbm, 267, rfl⟩
abbrev main_v198 : Ref sig .tc := ⟨.hbm, 268, rfl⟩
abbrev main_cst_25 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_26 : Ref sig .tc := ⟨.hbm, 273, rfl⟩
abbrev main_v202 : Ref sig .tc := ⟨.hbm, 274, rfl⟩
abbrev main_v203 : Ref sig .tc := ⟨.hbm, 275, rfl⟩
abbrev main_cst_27 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_cst_28 : Ref sig .tc := ⟨.hbm, 291, rfl⟩
abbrev main_v218 : Ref sig .tc := ⟨.hbm, 292, rfl⟩
abbrev main_v219 : Ref sig .tc := ⟨.hbm, 293, rfl⟩
abbrev main_cst_29 : Ref sig .tc := ⟨.hbm, 294, rfl⟩
abbrev main_v220 : Ref sig .tc := ⟨.hbm, 295, rfl⟩
abbrev main_v221 : Ref sig .tc := ⟨.hbm, 296, rfl⟩
abbrev main_cst_30 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_cst_31 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_cst_32 : Ref sig .tc := ⟨.hbm, 332, rfl⟩
abbrev main_v255 : Ref sig .tc := ⟨.hbm, 333, rfl⟩
abbrev main_v256 : Ref sig .tc := ⟨.hbm, 334, rfl⟩
abbrev main_cst_33 : Ref sig .tc := ⟨.hbm, 335, rfl⟩
abbrev main_v257 : Ref sig .tc := ⟨.hbm, 336, rfl⟩
abbrev main_v258 : Ref sig .tc := ⟨.hbm, 337, rfl⟩
abbrev main_cst_34 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_cst_35 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_call3_v0 : Ref sig .tc := ⟨.hbm, 425, rfl⟩
abbrev main_call3_v1 : Ref sig .tc := ⟨.hbm, 426, rfl⟩
abbrev main_call3_cst : Ref sig .tc := ⟨.hbm, 427, rfl⟩
abbrev main_call3_v2 : Ref sig .tc := ⟨.hbm, 428, rfl⟩
abbrev main_call3_v3 : Ref sig .tc := ⟨.hbm, 429, rfl⟩
abbrev main_call3_cst_0 : Ref sig .tc := ⟨.hbm, 430, rfl⟩
abbrev main_call3_v4 : Ref sig .tc := ⟨.hbm, 431, rfl⟩
abbrev main_call3_v5 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩

abbrev nD : Nat := 1
abbrev τ : Topo := Topo.v7x

variable {F : FTy → Type} [FloatOps F]
-- ==== Proof.Keep.Logic.lean ====
/- The programs that KEEP a resource: run from `R`, they end with `R` again, whatever values they compute. The notion is closed under
   sequencing, conditionals and counted loops, and a load or a store has it as soon as `R` lends the buffer; so a body of any size has it
   by going through its text once, with no value named. -/
module

public import Idealize.ShloMosaic.Lib.Scf
public import Idealize.ShloMosaic.Lib.Tactic
public import Idealize.ShloMosaic.Lib.Pipeline.Kit

@[expose] public section

noncomputable section

namespace Cert.Proof.Keep

open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- The program `p`, run on core `c`, keeps the resource `R`. -/
structure Safe (defs : Defs nD τ sig Val Λ) (c : Dev nD) (R : sProp 𝕄) {α : Type} (p : Prog (TpuEff nD τ sig Val Λ .tc) α) : Prop where
  run : R ⊢ wp frame (wpE defs Variants.none (c : Thread nD τ) none) Set.univ p (fun _ => R)

/-- `R` lends the memref's buffer and takes it back as it was. -/
class Reads (c : Dev nD) (R : sProp 𝕄) {sp : Space} {s : Shape} {e : EltTy} (m : Memref sig .tc sp s e) : Prop where
  lend : R ⊢ iprop(∃ f : Buf Val (m.view.loc (c : Thread nD τ)), (m.view.loc (c : Thread nD τ) ↦{fullShare} f)
    ∗ ((m.view.loc (c : Thread nD τ) ↦{fullShare} f) -∗ R))

/-- `R` lends the memref's buffer and takes it back at any contents. -/
class Writes (c : Dev nD) (R : sProp 𝕄) {sp : Space} {s : Shape} {e : EltTy} (m : Memref sig .tc sp s e) : Prop where
  lend : R ⊢ iprop(∃ f : Buf Val (m.view.loc (c : Thread nD τ)), (m.view.loc (c : Thread nD τ) ↦{fullShare} f)
    ∗ (∀ g : Buf Val (m.view.loc (c : Thread nD τ)), (m.view.loc (c : Thread nD τ) ↦{fullShare} g) -∗ R))

variable {defs : Defs nD τ sig Val Λ} {c : Dev nD} {α β : Type}
variable {R : sProp (MT nD τ sig Unit Val ℕ (UR sig nD τ) ℕ)}

/-- A buffer taken back at any contents is taken back as it was. -/
instance Writes.reads {sp : Space} {s : Shape} {e : EltTy} {m : Memref sig .tc sp s e} [h : Writes c R m] : Reads c R m := by
  constructor; refine Entails.trans h.lend ?_
  iintro ⟨%f, H, Hk⟩
  iexists f
  isplitl [H]; · iexact H
  iintro H; iapply Hk; iexact H

/-- Returning a value keeps everything. -/
theorem safe_pure (a : α) : Safe defs c R (pure a) := by
  constructor; rw [wp_pure]; iintro H; imodintro; iexact H

/-- A program followed by another: each keeps `R`. -/
theorem safe_bind {p : Prog (TpuEff nD τ sig Val Λ .tc) β} {k : β → Prog (TpuEff nD τ sig Val Λ .tc) α}
    (hp : Safe defs c R p) (hk : ∀ b, Safe defs c R (k b)) : Safe defs c R (p >>= k) := by
  constructor; rw [wp_bind]
  refine Entails.trans hp.run ?_
  iintro H
  iapply (wp_wand_r _ _ _)
  isplitl [H]; · iexact H
  iintro %b H
  iapply (hk b).run; iexact H

/-- A conditional keeps what both its branches keep. -/
theorem safe_ite {P : Prop} [Decidable P] {p q : Prog (TpuEff nD τ sig Val Λ .tc) α} (hp : Safe defs c R p) (hq : Safe defs c R q) :
    Safe defs c R (if P then p else q) := by
  split <;> assumption

/-- The same for branches that take the condition's proof. -/
theorem safe_dite {P : Prop} [Decidable P] {p : P → Prog (TpuEff nD τ sig Val Λ .tc) α} {q : ¬P → Prog (TpuEff nD τ sig Val Λ .tc) α}
    (hp : ∀ h, Safe defs c R (p h)) (hq : ∀ h, Safe defs c R (q h)) :
    Safe defs c R (if h : P then p h else q h) := by
  split
  · exact hp _
  · exact hq _

/-- A counted loop keeps what each of its trips keeps, whatever it carries. -/
theorem safe_for {w : Nat} (lb ub st : BitVec w) (hok : Scf.OK lb ub st) (init : α)
    (body : Fin (Scf.trips lb ub st) → α → Prog (TpuEff nD τ sig Val Λ .tc) α) (h : ∀ k a, Safe defs c R (body k a)) :
    Safe defs c R (Scf.for lb ub st hok init body) := by
  constructor
  refine .trans ?_ (Scf.wp_for _ _ _ lb ub st hok init body (fun _ _ => R) (fun k a => (h k a).run))
  iintro H
  isplitl [H]; · iexact H
  iintro %a H; iexact H

/-- A load of a buffer `R` lends. -/
theorem safe_load {cs : CoreSpace} {s : Shape} {e : EltTy} {m : Memref sig .tc cs s e} {r : LoadRect s} {hl : m.view.LoadsAt r}
    [hm : Reads c R m] : Safe defs c R (Prog.lift (.load m r hl)) := by
  constructor
  refine Entails.trans hm.lend ?_
  iintro ⟨%f, H, Hk⟩
  iapply (wp_load (S := Finset.univ) Variants.none (c : Thread nD τ) none Set.univ (Finset.subset_univ _)) $$ [H]
  · iexact H
  iintro H
  rw [wp_ret]; imodintro
  iapply Hk; iexact H

/-- A store into a buffer `R` takes back at any contents. -/
theorem safe_store {cs : CoreSpace} {s : Shape} {e : EltTy} {m : Memref sig .tc cs s e} {r : Rect s} {w : r.shape.Idx → Val e} {Mk : Finset r.shape.Idx}
    {hx : (m.access r).Stores Mk} {hm : Mk = Finset.univ ∨ ∀ a, r.stride a = 1}
    [hw : Writes c R m] : Safe defs c R (Prog.lift (.store m r w Mk hx hm)) := by
  constructor
  refine Entails.trans hw.lend ?_
  iintro ⟨%f, H, Hk⟩
  iapply (wp_store (S := Finset.univ) Variants.none (c : Thread nD τ) none Set.univ (Finset.subset_univ _)) $$ [H]
  · iexact H
  iintro H
  rw [wp_ret]; imodintro
  iapply Hk; iexact H

end Cert.Proof.Keep

end
-- ==== Proof.Keep.Straight1.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part1 (x0 x1 x2) : Safe defs c R (k0_part1 i a2 h2 a3 h3 a4 h4 a5 h5 a6 h6 a7 h7 a8 h8 a9 h9 a10 h10 a11 h11 a12 h12 a13 h13 a14 h14 x0 x1 x2) := by
  unfold k0_part1; with_reducible repeat' first | intro _ | apply safe_bind | exact safe_pure _ | exact safe_load | exact safe_store

theorem part2 (x0 x1 x2) : Safe defs c R (k0_part2 i a2 h2 a3 h3 a4 h4 a5 h5 a6 h6 a7 h7 a8 h8 a9 h9 a10 h10 a11 h11 a12 h12 a13 h13 a14 h14 x0 x1 x2) := by
  unfold k0_part2; with_reducible repeat' first | intro _ | apply safe_bind | exact safe_pure _ | exact safe_load | exact safe_store

theorem part3 (x0 x1 x2) : Safe defs c R (k0_part3 i a2 h2 a3 h3 a4 h4 a5 h5 a6 h6 a7 h7 a8 h8 a9 h9 a10 h10 a11 h11 a12 h12 a13 h13 a14 h14 x0 x1 x2) := by
  unfold k0_part3; with_reducible repeat' first | intro _ | apply safe_bind | exact safe_pure _ | exact safe_load | exact safe_store

theorem part4 (x0 x1) : Safe defs c R (k0_part4 i a2 h2 a3 h3 a4 h4 a5 h5 a6 h6 a7 h7 a8 h8 a9 h9 a10 h10 a11 h11 a12 h12 a13 h13 a14 h14 x0 x1) := by
  unfold k0_part4; with_reducible repeat' first | intro _ | apply safe_bind | exact safe_pure _ | exact safe_load | exact safe_store

theorem part5 (x0 x1 x2 x3 x4 x5 x6 x7) : Safe defs c R (k0_part5 i a2 h2 a3 h3 a4 h4 a5 h5 a6 h6 a7 h7 a8 h8 a9 h9 a10 h10 a11 h11 a12 h12 a13 h13 a14 h14 x0 x1 x2 x3 x4 x5 x6 x7) := by
  unfold k0_part5; with_reducible repeat' first | intro _ | apply safe_bind | exact safe_pure _ | exact safe_load | exact safe_store

theorem part6 (x0 x1 x2 x3 x4 x5 x6 x7 x8 x9 x10 x11 x12 x13 x14 x15 x16 x17 x18 x19 x20 x21 x22 x23 x24 x25) : Safe defs c R (k0_part6 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part6; with_reducible repeat' first | intro _ | apply safe_bind | exact safe_pure _ | exact safe_load | exact safe_store

theorem part7 (x0 x1 x2 x3 x4 x5 x6 x7 x8 x9 x10 x11 x12 x13 x14 x15 x16 x17 x18 x19 x20 x21 x22 x23 x24 x25 x26 x27 x28 x29 x30 x31 x32) : Safe defs c R (k0_part7 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part7; with_reducible repeat' first | intro _ | apply safe_bind | exact safe_pure _ | exact safe_load | exact safe_store

theorem part8 (x0 x1 x2 x3) : Safe defs c R (k0_part8 i a2 h2 a3 h3 a4 h4 a5 h5 a6 h6 a7 h7 a8 h8 a9 h9 a10 h10 a11 h11 a12 h12 a13 h13 a14 h14 x0 x1 x2 x3) := by
  unfold k0_part8; with_reducible repeat' first | intro _ | apply safe_bind | exact safe_pure _ | exact safe_load | exact safe_store

theorem part9 (x0 x1 x2 x3) : Safe defs c R (k0_part9 i a2 h2 a3 h3 a4 h4 a5 h5 a6 h6 a7 h7 a8 h8 a9 h9 a10 h10 a11 h11 a12 h12 a13 h13 a14 h14 x0 x1 x2 x3) := by
  unfold k0_part9; with_reducible repeat' first | intro _ | apply safe_bind | exact safe_pure _ | exact safe_load | exact safe_store

theorem part10 (x0 x1 x2 x3) : Safe defs c R (k0_part10 i a2 h2 a3 h3 a4 h4 a5 h5 a6 h6 a7 h7 a8 h8 a9 h9 a10 h10 a11 h11 a12 h12 a13 h13 a14 h14 x0 x1 x2 x3) := by
  unfold k0_part10; with_reducible repeat' first | intro _ | apply safe_bind | exact safe_pure _ | exact safe_load | exact safe_store

theorem part11 (x0 x1 x2 x3 x4 x5 x6 x7) : Safe defs c R (k0_part11 i a2 h2 a3 h3 a4 h4 a5 h5 a6 h6 a7 h7 a8 h8 a9 h9 a10 h10 a11 h11 a12 h12 a13 h13 a14 h14 x0 x1 x2 x3 x4 x5 x6 x7) := by
  unfold k0_part11; with_reducible repeat' first | intro _ | apply safe_bind | exact safe_pure _ | exact safe_load | exact safe_store

theorem part12 (x0 x1 x2 x3 x4 x5 x6 x7 x8 x9 x10 x11 x12 x13 x14 x15 x16 x17) : Safe defs c R (k0_part12 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part12; with_reducible repeat' first | intro _ | apply safe_bind | exact safe_pure _ | exact safe_load | exact safe_store

theorem part13 (x0 x1 x2 x3 x4 x5 x6 x7 x8 x9) : Safe defs c R (k0_part13 i a2 h2 a3 h3 a4 h4 a5 h5 a6 h6 a7 h7 a8 h8 a9 h9 a10 h10 a11 h11 a12 h12 a13 h13 a14 h14 x0 x1 x2 x3 x4 x5 x6 x7 x8 x9) := by
  unfold k0_part13; with_reducible repeat' first | intro _ | apply safe_bind | exact safe_pure _ | exact safe_load | exact safe_store

theorem part14 (x0 x1 x2) : Safe defs c R (k0_part14 i a2 h2 a3 h3 a4 h4 a5 h5 a6 h6 a7 h7 a8 h8 a9 h9 a10 h10 a11 h11 a12 h12 a13 h13 a14 h14 x0 x1 x2) := by
  unfold k0_part14; with_reducible repeat' first | intro _ | apply safe_bind | exact safe_pure _ | exact safe_load | exact safe_store

theorem part15 (x0 x1 x2) : Safe defs c R (k0_part15 i a2 h2 a3 h3 a4 h4 a5 h5 a6 h6 a7 h7 a8 h8 a9 h9 a10 h10 a11 h11 a12 h12 a13 h13 a14 h14 x0 x1 x2) := by
  unfold k0_part15; with_reducible repeat' first | intro _ | apply safe_bind | exact safe_pure _ | exact safe_load | exact safe_store

theorem part16 (x0 x1 x2) : Safe defs c R (k0_part16 i a2 h2 a3 h3 a4 h4 a5 h5 a6 h6 a7 h7 a8 h8 a9 h9 a10 h10 a11 h11 a12 h12 a13 h13 a14 h14 x0 x1 x2) := by
  unfold k0_part16; with_reducible repeat' first | intro _ | apply safe_bind | exact safe_pure _ | exact safe_load | exact safe_store

theorem part17 (x0 x1 x2 x3 x4 x5) : Safe defs c R (k0_part17 i a2 h2 a3 h3 a4 h4 a5 h5 a6 h6 a7 h7 a8 h8 a9 h9 a10 h10 a11 h11 a12 h12 a13 h13 a14 h14 x0 x1 x2 x3 x4 x5) := by
  unfold k0_part17; with_reducible repeat' first | intro _ | apply safe_bind | exact safe_pure _ | exact safe_load | exact safe_store

theorem part18 (x0 x1 x2 x3) : Safe defs c R (k0_part18 i a2 h2 a3 h3 a4 h4 a5 h5 a6 h6 a7 h7 a8 h8 a9 h9 a10 h10 a11 h11 a12 h12 a13 h13 a14 h14 x0 x1 x2 x3) := by
  unfold k0_part18; with_reducible repeat' first | intro _ | apply safe_bind | exact safe_pure _ | exact safe_load | exact safe_store

theorem part19 (x0 x1 x2 x3 x4 x5 x6 x7 x8 x9 x10 x11 x12 x13 x14 x15 x16 x17 x18 x19) : Safe defs c R (k0_part19 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part19; with_reducible repeat' first | intro _ | apply safe_bind | exact safe_pure _ | exact safe_load | exact safe_store

theorem part20 (x0 x1 x2 x3 x4 x5 x6 x7 x8 x9 x10 x11 x12 x13 x14 x15 x16 x17 x18 x19 x20 x21 x22 x23 x24 x25 x26) : Safe defs c R (k0_part20 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part20; with_reducible repeat' first | intro _ | apply safe_bind | exact safe_pure _ | exact safe_load | exact safe_store

theorem part21 (x0 x1) : Safe defs c R (k0_part21 i a2 h2 a3 h3 a4 h4 a5 h5 a6 h6 a7 h7 a8 h8 a9 h9 a10 h10 a11 h11 a12 h12 a13 h13 a14 h14 x0 x1) := by
  unfold k0_part21; with_reducible repeat' first | intro _ | apply safe_bind | exact safe_pure _ | exact safe_load | exact safe_store

theorem part22 (x0 x1) : Safe defs c R (k0_part22 i a2 h2 a3 h3 a4 h4 a5 h5 a6 h6 a7 h7 a8 h8 a9 h9 a10 h10 a11 h11 a12 h12 a13 h13 a14 h14 x0 x1) := by
  unfold k0_part22; with_reducible repeat' first | intro _ | apply safe_bind | exact safe_pure _ | exact safe_load | exact safe_store

theorem part23 (x0 x1) : Safe defs c R (k0_part23 i a2 h2 a3 h3 a4 h4 a5 h5 a6 h6 a7 h7 a8 h8 a9 h9 a10 h10 a11 h11 a12 h12 a13 h13 a14 h14 x0 x1) := by
  unfold k0_part23; with_reducible repeat' first | intro _ | apply safe_bind | exact safe_pure _ | exact safe_load | exact safe_store

theorem part24 (x0 x1 x2 x3 x4 x5 x6 x7 x8 x9) : Safe defs c R (k0_part24 i a2 h2 a3 h3 a4 h4 a5 h5 a6 h6 a7 h7 a8 h8 a9 h9 a10 h10 a11 h11 a12 h12 a13 h13 a14 h14 x0 x1 x2 x3 x4 x5 x6 x7 x8 x9) := by
  unfold k0_part24; with_reducible repeat' first | intro _ | apply safe_bind | exact safe_pure _ | exact safe_load | exact safe_store

theorem part25 (x0 x1 x2 x3 x4 x5 x6 x7 x8 x9 x10 x11 x12 x13 x14 x15 x16 x17 x18 x19 x20 x21 x22 x23) : Safe defs c R (k0_part25 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23) := by
  unfold k0_part25; with_reducible repeat' first | intro _ | apply safe_bind | exact safe_pure _ | exact safe_load | exact safe_store

theorem part26 (x0 x1 x2 x3 x4 x5 x6 x7 x8 x9 x10 x11 x12 x13 x14 x15 x16) : Safe defs c R (k0_part26 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part26; with_reducible repeat' first | intro _ | apply safe_bind | exact safe_pure _ | exact safe_load | exact safe_store

theorem part27 (x0) : Safe defs c R (k0_part27 i a2 h2 a3 h3 a4 h4 a5 h5 a6 h6 a7 h7 a8 h8 a9 h9 a10 h10 a11 h11 a12 h12 a13 h13 a14 h14 x0) := by
  unfold k0_part27; with_reducible repeat' first | intro _ | apply safe_bind | exact safe_pure _ | exact safe_load | exact safe_store

theorem part28 (x0 x1 x2 x3) : Safe defs c R (k0_part28 i a2 h2 a3 h3 a4 h4 a5 h5 a6 h6 a7 h7 a8 h8 a9 h9 a10 h10 a11 h11 a12 h12 a13 h13 a14 h14 x0 x1 x2 x3) := by
  unfold k0_part28; with_reducible repeat' first | intro _ | apply safe_bind | exact safe_pure _ | exact safe_load | exact safe_store

theorem part29 (x0 x1 x2 x3) : Safe defs c R (k0_part29 i a2 h2 a3 h3 a4 h4 a5 h5 a6 h6 a7 h7 a8 h8 a9 h9 a10 h10 a11 h11 a12 h12 a13 h13 a14 h14 x0 x1 x2 x3) := by
  unfold k0_part29; with_reducible repeat' first | intro _ | apply safe_bind | exact safe_pure _ | exact safe_load | exact safe_store

theorem part30 (x0 x1 x2 x3 x4 x5 x6 x7) : Safe defs c R (k0_part30 i a2 h2 a3 h3 a4 h4 a5 h5 a6 h6 a7 h7 a8 h8 a9 h9 a10 h10 a11 h11 a12 h12 a13 h13 a14 h14 x0 x1 x2 x3 x4 x5 x6 x7) := by
  unfold k0_part30; with_reducible repeat' first | intro _ | apply safe_bind | exact safe_pure _ | exact safe_load | exact safe_store

theorem part31 (x0 x1 x2 x3) : Safe defs c R (k0_part31 i a2 h2 a3 h3 a4 h4 a5 h5 a6 h6 a7 h7 a8 h8 a9 h9 a10 h10 a11 h11 a12 h12 a13 h13 a14 h14 x0 x1 x2 x3) := by
  unfold k0_part31; with_reducible repeat' first | intro _ | apply safe_bind | exact safe_pure _ | exact safe_load | exact safe_store

theorem part32 (x0 x1 x2 x3 x4 x5 x6 x7 x8 x9 x10 x11 x12 x13) : Safe defs c R (k0_part32 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part32; with_reducible repeat' first | intro _ | apply safe_bind | exact safe_pure _ | exact safe_load | exact safe_store

theorem part33 (x0 x1 x2 x3 x4 x5 x6 x7 x8 x9 x10 x11 x12 x13 x14 x15 x16 x17 x18 x19 x20) : Safe defs c R (k0_part33 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part33; with_reducible repeat' first | intro _ | apply safe_bind | exact safe_pure _ | exact safe_load | exact safe_store

theorem part34 (x0 x1 x2) : Safe defs c R (k0_part34 i a2 h2 a3 h3 a4 h4 a5 h5 a6 h6 a7 h7 a8 h8 a9 h9 a10 h10 a11 h11 a12 h12 a13 h13 a14 h14 x0 x1 x2) := by
  unfold k0_part34; with_reducible repeat' first | intro _ | apply safe_bind | exact safe_pure _ | exact safe_load | exact safe_store

theorem part35 (x0 x1 x2) : Safe defs c R (k0_part35 i a2 h2 a3 h3 a4 h4 a5 h5 a6 h6 a7 h7 a8 h8 a9 h9 a10 h10 a11 h11 a12 h12 a13 h13 a14 h14 x0 x1 x2) := by
  unfold k0_part35; with_reducible repeat' first | intro _ | apply safe_bind | exact safe_pure _ | exact safe_load | exact safe_store

theorem part36 (x0 x1) : Safe defs c R (k0_part36 i a2 h2 a3 h3 a4 h4 a5 h5 a6 h6 a7 h7 a8 h8 a9 h9 a10 h10 a11 h11 a12 h12 a13 h13 a14 h14 x0 x1) := by
  unfold k0_part36; with_reducible repeat' first | intro _ | apply safe_bind | exact safe_pure _ | exact safe_load | exact safe_store

theorem part37 (x0 x1 x2 x3 x4 x5 x6 x7 x8 x9) : Safe defs c R (k0_part37 i a2 h2 a3 h3 a4 h4 a5 h5 a6 h6 a7 h7 a8 h8 a9 h9 a10 h10 a11 h11 a12 h12 a13 h13 a14 h14 x0 x1 x2 x3 x4 x5 x6 x7 x8 x9) := by
  unfold k0_part37; with_reducible repeat' first | intro _ | apply safe_bind | exact safe_pure _ | exact safe_load | exact safe_store

theorem part38 (x0 x1 x2 x3 x4 x5 x6 x7 x8 x9 x10 x11 x12 x13 x14 x15 x16 x17 x18 x19 x20 x21 x22 x23 x24 x25 x26 x27 x28 x29) : Safe defs c R (k0_part38 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part38; with_reducible repeat' first | intro _ | apply safe_bind | exact safe_pure _ | exact safe_load | exact safe_store

theorem part39 (x0 x1 x2 x3 x4 x5 x6 x7 x8 x9 x10 x11 x12 x13 x14 x15 x16 x17 x18 x19 x20 x21 x22) : Safe defs c R (k0_part39 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part39; with_reducible repeat' first | intro _ | apply safe_bind | exact safe_pure _ | exact safe_load | exact safe_store

theorem part40 (x0 x1) : Safe defs c R (k0_part40 i a2 h2 a3 h3 a4 h4 a5 h5 a6 h6 a7 h7 a8 h8 a9 h9 a10 h10 a11 h11 a12 h12 a13 h13 a14 h14 x0 x1) := by
  unfold k0_part40; with_reducible repeat' first | intro _ | apply safe_bind | exact safe_pure _ | exact safe_load | exact safe_store

theorem part41 (x0 x1) : Safe defs c R (k0_part41 i a2 h2 a3 h3 a4 h4 a5 h5 a6 h6 a7 h7 a8 h8 a9 h9 a10 h10 a11 h11 a12 h12 a13 h13 a14 h14 x0 x1) := by
  unfold k0_part41; with_reducible repeat' first | intro _ | apply safe_bind | exact safe_pure _ | exact safe_load | exact safe_store

theorem part42 (x0 x1) : Safe defs c R (k0_part42 i a2 h2 a3 h3 a4 h4 a5 h5 a6 h6 a7 h7 a8 h8 a9 h9 a10 h10 a11 h11 a12 h12 a13 h13 a14 h14 x0 x1) := by
  unfold k0_part42; with_reducible repeat' first | intro _ | apply safe_bind | exact safe_pure _ | exact safe_load | exact safe_store

theorem part43 (x0 x1 x2 x3 x4 x5 x6 x7 x8) : Safe defs c R (k0_part43 i a2 h2 a3 h3 a4 h4 a5 h5 a6 h6 a7 h7 a8 h8 a9 h9 a10 h10 a11 h11 a12 h12 a13 h13 a14 h14 x0 x1 x2 x3 x4 x5 x6 x7 x8) := by
  unfold k0_part43; with_reducible repeat' first | intro _ | apply safe_bind | exact safe_pure _ | exact safe_load | exact safe_store

theorem part44 (x0 x1 x2) : Safe defs c R (k0_part44 i a2 h2 a3 h3 a4 h4 a5 h5 a6 h6 a7 h7 a8 h8 a9 h9 a10 h10 a11 h11 a12 h12 a13 h13 a14 h14 x0 x1 x2) := by
  unfold k0_part44; with_reducible repeat' first | intro _ | apply safe_bind | exact safe_pure _ | exact safe_load | exact safe_store

theorem part45 (x0 x1 x2 x3 x4 x5 x6 x7) : Safe defs c R (k0_part45 i a2 h2 a3 h3 a4 h4 a5 h5 a6 h6 a7 h7 a8 h8 a9 h9 a10 h10 a11 h11 a12 h12 a13 h13 a14 h14 x0 x1 x2 x3 x4 x5 x6 x7) := by
  unfold k0_part45; with_reducible repeat' first | intro _ | apply safe_bind | exact safe_pure _ | exact safe_load | exact safe_store

theorem part46 (x0 x1 x2 x3 x4 x5 x6 x7 x8 x9 x10 x11 x12 x13 x14) : Safe defs c R (k0_part46 i a2 h2 a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part46; with_reducible repeat' first | intro _ | apply safe_bind | exact safe_pure _ | exact safe_load | exact safe_store

theorem part47 (x0 x1 x2 x3 x4) : Safe defs c R (k0_part47 i a2 h2 a3 h3 a4 h4 a5 h5 a6 h6 a7 h7 a8 h8 a9 h9 a10 h10 a11 h11 a12 h12 a13 h13 a14 h14 x0 x1 x2 x3 x4) := by
  unfold k0_part47; with_reducible repeat' first | intro _ | apply safe_bind | exact safe_pure _ | exact safe_load | exact safe_store

theorem part48 (x0 x1 x2 x3 x4) : Safe defs c R (k0_part48 i a2 h2 a3 h3 a4 h4 a5 h5 a6 h6 a7 h7 a8 h8 a9 h9 a10 h10 a11 h11 a12 h12 a13 h13 a14 h14 x0 x1 x2 x3 x4) := by
  unfold k0_part48; with_reducible repeat' first | intro _ | apply safe_bind | exact safe_pure _ | exact safe_load | exact safe_store

theorem part49 (x0 x1 x2 x3) : Safe defs c R (k0_part49 i a2 h2 a3 h3 a4 h4 a5 h5 a6 h6 a7 h7 a8 h8 a9 h9 a10 h10 a11 h11 a12 h12 a13 h13 a14 h14 x0 x1 x2 x3) := by
  unfold k0_part49; with_reducible repeat' first | intro _ | apply safe_bind | exact safe_pure _ | exact safe_load | exact safe_store

theorem part50 (x0 x1 x2 x3 x4 x5 x6 x7 x8 x9) : Safe defs c R (k0_part50 i a2 h2 a3 h3 a4 h4 a5 h5 a6 h6 a7 h7 a8 h8 a9 h9 a10 h10 a11 h11 a12 h12 a13 h13 a14 h14 x0 x1 x2 x3 x4 x5 x6 x7 x8 x9) := by
  unfold k0_part50; with_reducible repeat' first | intro _ | apply safe_bind | exact safe_pure _ | exact safe_load | exact safe_store

theorem part51 (x0 x1 x2 x3 x4 x5 x6 x7 x8 x9 x10 x11 x12 x13 x14 x15 x16 x17 x18 x19 x20 x21 x22 x23 x24 x25 x26 x27 x28 x29 x30 x31 x32 x33 x34) : Safe defs c R (k0_part51 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part51; with_reducible repeat' first | intro _ | apply safe_bind | exact safe_pure _ | exact safe_load | exact safe_store

theorem part53 (x0 x1 x2) : Safe defs c R (k0_part53 i a2 h2 a3 h3 a4 h4 a5 h5 a6 h6 a7 h7 a8 h8 a9 h9 a10 h10 a11 h11 a12 h12 a13 h13 a14 h14 x0 x1 x2) := by
  unfold k0_part53; with_reducible repeat' first | intro _ | apply safe_bind | exact safe_pure _ | exact safe_load | exact safe_store

theorem part54 (x0 x1 x2) : Safe defs c R (k0_part54 i a2 h2 a3 h3 a4 h4 a5 h5 a6 h6 a7 h7 a8 h8 a9 h9 a10 h10 a11 h11 a12 h12 a13 h13 a14 h14 x0 x1 x2) := by
  unfold k0_part54; with_reducible repeat' first | intro _ | apply safe_bind | exact safe_pure _ | exact safe_load | exact safe_store

theorem part55 (x0 x1 x2) : Safe defs c R (k0_part55 i a2 h2 a3 h3 a4 h4 a5 h5 a6 h6 a7 h7 a8 h8 a9 h9 a10 h10 a11 h11 a12 h12 a13 h13 a14 h14 x0 x1 x2) := by
  unfold k0_part55; with_reducible repeat' first | intro _ | apply safe_bind | exact safe_pure _ | exact safe_load | exact safe_store

theorem part56 (x0 x1) : Safe defs c R (k0_part56 i a2 h2 a3 h3 a4 h4 a5 h5 a6 h6 a7 h7 a8 h8 a9 h9 a10 h10 a11 h11 a12 h12 a13 h13 a14 h14 x0 x1) := by
  unfold k0_part56; with_reducible repeat' first | intro _ | apply safe_bind | exact safe_pure _ | exact safe_load | exact safe_store

theorem part57 (x0 x1 x2 x3 x4 x5 x6 x7) : Safe defs c R (k0_part57 i a2 h2 a3 h3 a4 h4 a5 h5 a6 h6 a7 h7 a8 h8 a9 h9 a10 h10 a11 h11 a12 h12 a13 h13 a14 h14 x0 x1 x2 x3 x4 x5 x6 x7) := by
  unfold k0_part57; with_reducible repeat' first | intro _ | apply safe_bind | exact safe_pure _ | exact safe_load | exact safe_store

theorem part58 (x0 x1 x2 x3 x4 x5 x6 x7 x8 x9 x10 x11 x12 x13 x14 x15 x16 x17 x18 x19 x20 x21 x22 x23 x24 x25) : Safe defs c R (k0_part58 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part58; with_reducible repeat' first | intro _ | apply safe_bind | exact safe_pure _ | exact safe_load | exact safe_store

theorem part59 (x0 x1 x2 x3 x4 x5 x6 x7 x8 x9 x10 x11 x12 x13 x14 x15 x16 x17 x18 x19 x20 x21 x22 x23 x24 x25 x26 x27 x28 x29 x30 x31 x32) : Safe defs c R (k0_part59 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part59; with_reducible repeat' first | intro _ | apply safe_bind | exact safe_pure _ | exact safe_load | exact safe_store

theorem part60 (x0 x1 x2 x3) : Safe defs c R (k0_part60 i a2 h2 a3 h3 a4 h4 a5 h5 a6 h6 a7 h7 a8 h8 a9 h9 a10 h10 a11 h11 a12 h12 a13 h13 a14 h14 x0 x1 x2 x3) := by
  unfold k0_part60; with_reducible repeat' first | intro _ | apply safe_bind | exact safe_pure _ | exact safe_load | exact safe_store

theorem part61 (x0 x1 x2 x3) : Safe defs c R (k0_part61 i a2 h2 a3 h3 a4 h4 a5 h5 a6 h6 a7 h7 a8 h8 a9 h9 a10 h10 a11 h11 a12 h12 a13 h13 a14 h14 x0 x1 x2 x3) := by
  unfold k0_part61; with_reducible repeat' first | intro _ | apply safe_bind | exact safe_pure _ | exact safe_load | exact safe_store

theorem part62 (x0 x1 x2 x3) : Safe defs c R (k0_part62 i a2 h2 a3 h3 a4 h4 a5 h5 a6 h6 a7 h7 a8 h8 a9 h9 a10 h10 a11 h11 a12 h12 a13 h13 a14 h14 x0 x1 x2 x3) := by
  unfold k0_part62; with_reducible repeat' first | intro _ | apply safe_bind | exact safe_pure _ | exact safe_load | exact safe_store

theorem part63 (x0 x1 x2 x3 x4 x5 x6 x7) : Safe defs c R (k0_part63 i a2 h2 a3 h3 a4 h4 a5 h5 a6 h6 a7 h7 a8 h8 a9 h9 a10 h10 a11 h11 a12 h12 a13 h13 a14 h14 x0 x1 x2 x3 x4 x5 x6 x7) := by
  unfold k0_part63; with_reducible repeat' first | intro _ | apply safe_bind | exact safe_pure _ | exact safe_load | exact safe_store

theorem part64 (x0 x1 x2 x3 x4 x5 x6 x7 x8 x9 x10 x11 x12 x13 x14 x15 x16 x17) : Safe defs c R (k0_part64 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part64; with_reducible repeat' first | intro _ | apply safe_bind | exact safe_pure _ | exact safe_load | exact safe_store

theorem part65 (x0 x1 x2 x3 x4 x5 x6 x7 x8 x9) : Safe defs c R (k0_part65 i a2 h2 a3 h3 a4 h4 a5 h5 a6 h6 a7 h7 a8 h8 a9 h9 a10 h10 a11 h11 a12 h12 a13 h13 a14 h14 x0 x1 x2 x3 x4 x5 x6 x7 x8 x9) := by
  unfold k0_part65; with_reducible repeat' first | intro _ | apply safe_bind | exact safe_pure _ | exact safe_load | exact safe_store

theorem part66 (x0 x1 x2) : Safe defs c R (k0_part66 i a2 h2 a3 h3 a4 h4 a5 h5 a6 h6 a7 h7 a8 h8 a9 h9 a10 h10 a11 h11 a12 h12 a13 h13 a14 h14 x0 x1 x2) := by
  unfold k0_part66; with_reducible repeat' first | intro _ | apply safe_bind | exact safe_pure _ | exact safe_load | exact safe_store

theorem part67 (x0 x1 x2) : Safe defs c R (k0_part67 i a2 h2 a3 h3 a4 h4 a5 h5 a6 h6 a7 h7 a8 h8 a9 h9 a10 h10 a11 h11 a12 h12 a13 h13 a14 h14 x0 x1 x2) := by
  unfold k0_part67; with_reducible repeat' first | intro _ | apply safe_bind | exact safe_pure _ | exact safe_load | exact safe_store

theorem part68 (x0 x1 x2) : Safe defs c R (k0_part68 i a2 h2 a3 h3 a4 h4 a5 h5 a6 h6 a7 h7 a8 h8 a9 h9 a10 h10 a11 h11 a12 h12 a13 h13 a14 h14 x0 x1 x2) := by
  unfold k0_part68; with_reducible repeat' first | intro _ | apply safe_bind | exact safe_pure _ | exact safe_load | exact safe_store

theorem part69 (x0 x1 x2 x3 x4 x5) : Safe defs c R (k0_part69 i a2 h2 a3 h3 a4 h4 a5 h5 a6 h6 a7 h7 a8 h8 a9 h9 a10 h10 a11 h11 a12 h12 a13 h13 a14 h14 x0 x1 x2 x3 x4 x5) := by
  unfold k0_part69; with_reducible repeat' first | intro _ | apply safe_bind | exact safe_pure _ | exact safe_load | exact safe_store

end Cert.Proof.Keep

end
-- ==== Proof.Keep.Straight2.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part70 (x0 x1 x2 x3) : Safe defs c R (k0_part70 i a2 h2 a3 h3 a4 h4 a5 h5 a6 h6 a7 h7 a8 h8 a9 h9 a10 h10 a11 h11 a12 h12 a13 h13 a14 h14 x0 x1 x2 x3) := by
  unfold k0_part70; with_reducible repeat' first | intro _ | apply safe_bind | exact safe_pure _ | exact safe_load | exact safe_store

theorem part71 (x0 x1 x2 x3 x4 x5 x6 x7 x8 x9 x10 x11 x12 x13 x14 x15 x16 x17 x18 x19) : Safe defs c R (k0_part71 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part71; with_reducible repeat' first | intro _ | apply safe_bind | exact safe_pure _ | exact safe_load | exact safe_store

theorem part72 (x0 x1 x2 x3 x4 x5 x6 x7 x8 x9 x10 x11 x12 x13 x14 x15 x16 x17 x18 x19 x20 x21 x22 x23 x24 x25 x26) : Safe defs c R (k0_part72 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part72; with_reducible repeat' first | intro _ | apply safe_bind | exact safe_pure _ | exact safe_load | exact safe_store

theorem part73 (x0 x1) : Safe defs c R (k0_part73 i a2 h2 a3 h3 a4 h4 a5 h5 a6 h6 a7 h7 a8 h8 a9 h9 a10 h10 a11 h11 a12 h12 a13 h13 a14 h14 x0 x1) := by
  unfold k0_part73; with_reducible repeat' first | intro _ | apply safe_bind | exact safe_pure _ | exact safe_load | exact safe_store

theorem part74 (x0 x1) : Safe defs c R (k0_part74 i a2 h2 a3 h3 a4 h4 a5 h5 a6 h6 a7 h7 a8 h8 a9 h9 a10 h10 a11 h11 a12 h12 a13 h13 a14 h14 x0 x1) := by
  unfold k0_part74; with_reducible repeat' first | intro _ | apply safe_bind | exact safe_pure _ | exact safe_load | exact safe_store

theorem part75 (x0 x1) : Safe defs c R (k0_part75 i a2 h2 a3 h3 a4 h4 a5 h5 a6 h6 a7 h7 a8 h8 a9 h9 a10 h10 a11 h11 a12 h12 a13 h13 a14 h14 x0 x1) := by
  unfold k0_part75; with_reducible repeat' first | intro _ | apply safe_bind | exact safe_pure _ | exact safe_load | exact safe_store

theorem part76 (x0 x1 x2 x3 x4 x5 x6 x7 x8 x9) : Safe defs c R (k0_part76 i a2 h2 a3 h3 a4 h4 a5 h5 a6 h6 a7 h7 a8 h8 a9 h9 a10 h10 a11 h11 a12 h12 a13 h13 a14 h14 x0 x1 x2 x3 x4 x5 x6 x7 x8 x9) := by
  unfold k0_part76; with_reducible repeat' first | intro _ | apply safe_bind | exact safe_pure _ | exact safe_load | exact safe_store

theorem part77 (x0 x1 x2 x3 x4 x5 x6 x7 x8 x9 x10 x11 x12 x13 x14 x15 x16 x17 x18 x19 x20 x21 x22 x23) : Safe defs c R (k0_part77 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23) := by
  unfold k0_part77; with_reducible repeat' first | intro _ | apply safe_bind | exact safe_pure _ | exact safe_load | exact safe_store

theorem part78 (x0 x1 x2 x3 x4 x5 x6 x7 x8 x9 x10 x11 x12 x13 x14 x15 x16) : Safe defs c R (k0_part78 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part78; with_reducible repeat' first | intro _ | apply safe_bind | exact safe_pure _ | exact safe_load | exact safe_store

theorem part79 (x0) : Safe defs c R (k0_part79 i a2 h2 a3 h3 a4 h4 a5 h5 a6 h6 a7 h7 a8 h8 a9 h9 a10 h10 a11 h11 a12 h12 a13 h13 a14 h14 x0) := by
  unfold k0_part79; with_reducible repeat' first | intro _ | apply safe_bind | exact safe_pure _ | exact safe_load | exact safe_store

theorem part80 (x0 x1 x2 x3) : Safe defs c R (k0_part80 i a2 h2 a3 h3 a4 h4 a5 h5 a6 h6 a7 h7 a8 h8 a9 h9 a10 h10 a11 h11 a12 h12 a13 h13 a14 h14 x0 x1 x2 x3) := by
  unfold k0_part80; with_reducible repeat' first | intro _ | apply safe_bind | exact safe_pure _ | exact safe_load | exact safe_store

theorem part81 (x0 x1 x2 x3) : Safe defs c R (k0_part81 i a2 h2 a3 h3 a4 h4 a5 h5 a6 h6 a7 h7 a8 h8 a9 h9 a10 h10 a11 h11 a12 h12 a13 h13 a14 h14 x0 x1 x2 x3) := by
  unfold k0_part81; with_reducible repeat' first | intro _ | apply safe_bind | exact safe_pure _ | exact safe_load | exact safe_store

theorem part82 (x0 x1 x2 x3 x4 x5 x6 x7) : Safe defs c R (k0_part82 i a2 h2 a3 h3 a4 h4 a5 h5 a6 h6 a7 h7 a8 h8 a9 h9 a10 h10 a11 h11 a12 h12 a13 h13 a14 h14 x0 x1 x2 x3 x4 x5 x6 x7) := by
  unfold k0_part82; with_reducible repeat' first | intro _ | apply safe_bind | exact safe_pure _ | exact safe_load | exact safe_store

theorem part83 (x0 x1 x2 x3) : Safe defs c R (k0_part83 i a2 h2 a3 h3 a4 h4 a5 h5 a6 h6 a7 h7 a8 h8 a9 h9 a10 h10 a11 h11 a12 h12 a13 h13 a14 h14 x0 x1 x2 x3) := by
  unfold k0_part83; with_reducible repeat' first | intro _ | apply safe_bind | exact safe_pure _ | exact safe_load | exact safe_store

theorem part84 (x0 x1 x2 x3 x4 x5 x6 x7 x8 x9 x10 x11 x12 x13) : Safe defs c R (k0_part84 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part84; with_reducible repeat' first | intro _ | apply safe_bind | exact safe_pure _ | exact safe_load | exact safe_store

theorem part85 (x0 x1 x2 x3 x4 x5 x6 x7 x8 x9 x10 x11 x12 x13 x14 x15 x16 x17 x18 x19 x20) : Safe defs c R (k0_part85 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part85; with_reducible repeat' first | intro _ | apply safe_bind | exact safe_pure _ | exact safe_load | exact safe_store

theorem part86 (x0 x1 x2) : Safe defs c R (k0_part86 i a2 h2 a3 h3 a4 h4 a5 h5 a6 h6 a7 h7 a8 h8 a9 h9 a10 h10 a11 h11 a12 h12 a13 h13 a14 h14 x0 x1 x2) := by
  unfold k0_part86; with_reducible repeat' first | intro _ | apply safe_bind | exact safe_pure _ | exact safe_load | exact safe_store

theorem part87 (x0 x1 x2) : Safe defs c R (k0_part87 i a2 h2 a3 h3 a4 h4 a5 h5 a6 h6 a7 h7 a8 h8 a9 h9 a10 h10 a11 h11 a12 h12 a13 h13 a14 h14 x0 x1 x2) := by
  unfold k0_part87; with_reducible repeat' first | intro _ | apply safe_bind | exact safe_pure _ | exact safe_load | exact safe_store

theorem part88 (x0 x1) : Safe defs c R (k0_part88 i a2 h2 a3 h3 a4 h4 a5 h5 a6 h6 a7 h7 a8 h8 a9 h9 a10 h10 a11 h11 a12 h12 a13 h13 a14 h14 x0 x1) := by
  unfold k0_part88; with_reducible repeat' first | intro _ | apply safe_bind | exact safe_pure _ | exact safe_load | exact safe_store

theorem part89 (x0 x1 x2 x3 x4 x5 x6 x7 x8 x9) : Safe defs c R (k0_part89 i a2 h2 a3 h3 a4 h4 a5 h5 a6 h6 a7 h7 a8 h8 a9 h9 a10 h10 a11 h11 a12 h12 a13 h13 a14 h14 x0 x1 x2 x3 x4 x5 x6 x7 x8 x9) := by
  unfold k0_part89; with_reducible repeat' first | intro _ | apply safe_bind | exact safe_pure _ | exact safe_load | exact safe_store

theorem part90 (x0 x1 x2 x3 x4 x5 x6 x7 x8 x9 x10 x11 x12 x13 x14 x15 x16 x17 x18 x19 x20 x21 x22 x23 x24 x25 x26 x27 x28 x29) : Safe defs c R (k0_part90 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part90; with_reducible repeat' first | intro _ | apply safe_bind | exact safe_pure _ | exact safe_load | exact safe_store

theorem part91 (x0 x1 x2 x3 x4 x5 x6 x7 x8 x9 x10 x11 x12 x13 x14 x15 x16 x17 x18 x19 x20 x21 x22) : Safe defs c R (k0_part91 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part91; with_reducible repeat' first | intro _ | apply safe_bind | exact safe_pure _ | exact safe_load | exact safe_store

theorem part92 (x0 x1) : Safe defs c R (k0_part92 i a2 h2 a3 h3 a4 h4 a5 h5 a6 h6 a7 h7 a8 h8 a9 h9 a10 h10 a11 h11 a12 h12 a13 h13 a14 h14 x0 x1) := by
  unfold k0_part92; with_reducible repeat' first | intro _ | apply safe_bind | exact safe_pure _ | exact safe_load | exact safe_store

theorem part93 (x0 x1) : Safe defs c R (k0_part93 i a2 h2 a3 h3 a4 h4 a5 h5 a6 h6 a7 h7 a8 h8 a9 h9 a10 h10 a11 h11 a12 h12 a13 h13 a14 h14 x0 x1) := by
  unfold k0_part93; with_reducible repeat' first | intro _ | apply safe_bind | exact safe_pure _ | exact safe_load | exact safe_store

theorem part94 (x0 x1) : Safe defs c R (k0_part94 i a2 h2 a3 h3 a4 h4 a5 h5 a6 h6 a7 h7 a8 h8 a9 h9 a10 h10 a11 h11 a12 h12 a13 h13 a14 h14 x0 x1) := by
  unfold k0_part94; with_reducible repeat' first | intro _ | apply safe_bind | exact safe_pure _ | exact safe_load | exact safe_store

theorem part95 (x0 x1 x2 x3 x4 x5 x6 x7 x8) : Safe defs c R (k0_part95 i a2 h2 a3 h3 a4 h4 a5 h5 a6 h6 a7 h7 a8 h8 a9 h9 a10 h10 a11 h11 a12 h12 a13 h13 a14 h14 x0 x1 x2 x3 x4 x5 x6 x7 x8) := by
  unfold k0_part95; with_reducible repeat' first | intro _ | apply safe_bind | exact safe_pure _ | exact safe_load | exact safe_store

theorem part96 (x0 x1 x2) : Safe defs c R (k0_part96 i a2 h2 a3 h3 a4 h4 a5 h5 a6 h6 a7 h7 a8 h8 a9 h9 a10 h10 a11 h11 a12 h12 a13 h13 a14 h14 x0 x1 x2) := by
  unfold k0_part96; with_reducible repeat' first | intro _ | apply safe_bind | exact safe_pure _ | exact safe_load | exact safe_store

theorem part97 (x0 x1 x2 x3 x4 x5 x6 x7) : Safe defs c R (k0_part97 i a2 h2 a3 h3 a4 h4 a5 h5 a6 h6 a7 h7 a8 h8 a9 h9 a10 h10 a11 h11 a12 h12 a13 h13 a14 h14 x0 x1 x2 x3 x4 x5 x6 x7) := by
  unfold k0_part97; with_reducible repeat' first | intro _ | apply safe_bind | exact safe_pure _ | exact safe_load | exact safe_store

theorem part98 (x0 x1 x2 x3 x4 x5 x6 x7 x8 x9 x10 x11 x12 x13 x14) : Safe defs c R (k0_part98 i a2 h2 a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part98; with_reducible repeat' first | intro _ | apply safe_bind | exact safe_pure _ | exact safe_load | exact safe_store

theorem part99 (x0 x1 x2 x3 x4) : Safe defs c R (k0_part99 i a2 h2 a3 h3 a4 h4 a5 h5 a6 h6 a7 h7 a8 h8 a9 h9 a10 h10 a11 h11 a12 h12 a13 h13 a14 h14 x0 x1 x2 x3 x4) := by
  unfold k0_part99; with_reducible repeat' first | intro _ | apply safe_bind | exact safe_pure _ | exact safe_load | exact safe_store

theorem part100 (x0 x1 x2 x3 x4) : Safe defs c R (k0_part100 i a2 h2 a3 h3 a4 h4 a5 h5 a6 h6 a7 h7 a8 h8 a9 h9 a10 h10 a11 h11 a12 h12 a13 h13 a14 h14 x0 x1 x2 x3 x4) := by
  unfold k0_part100; with_reducible repeat' first | intro _ | apply safe_bind | exact safe_pure _ | exact safe_load | exact safe_store

theorem part101 (x0 x1 x2 x3) : Safe defs c R (k0_part101 i a2 h2 a3 h3 a4 h4 a5 h5 a6 h6 a7 h7 a8 h8 a9 h9 a10 h10 a11 h11 a12 h12 a13 h13 a14 h14 x0 x1 x2 x3) := by
  unfold k0_part101; with_reducible repeat' first | intro _ | apply safe_bind | exact safe_pure _ | exact safe_load | exact safe_store

theorem part102 (x0 x1 x2 x3 x4 x5 x6 x7 x8 x9) : Safe defs c R (k0_part102 i a2 h2 a3 h3 a4 h4 a5 h5 a6 h6 a7 h7 a8 h8 a9 h9 a10 h10 a11 h11 a12 h12 a13 h13 a14 h14 x0 x1 x2 x3 x4 x5 x6 x7 x8 x9) := by
  unfold k0_part102; with_reducible repeat' first | intro _ | apply safe_bind | exact safe_pure _ | exact safe_load | exact safe_store

theorem part103 (x0 x1 x2 x3 x4 x5 x6 x7 x8 x9 x10 x11 x12 x13 x14 x15 x16 x17 x18 x19 x20 x21 x22 x23 x24 x25 x26 x27 x28 x29 x30 x31 x32 x33 x34) : Safe defs c R (k0_part103 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part103; with_reducible repeat' first | intro _ | apply safe_bind | exact safe_pure _ | exact safe_load | exact safe_store

theorem part105 (x0 x1) : Safe defs c R (k0_part105 i a2 h2 a3 h3 a4 h4 a5 h5 a6 h6 a7 h7 a8 h8 a9 h9 a10 h10 a11 h11 a12 h12 a13 h13 a14 h14 x0 x1) := by
  unfold k0_part105; with_reducible repeat' first | intro _ | apply safe_bind | exact safe_pure _ | exact safe_load | exact safe_store

theorem part106 (x0 x1 x2) : Safe defs c R (k0_part106 i a2 h2 a3 h3 a4 h4 a5 h5 a6 h6 a7 h7 a8 h8 a9 h9 a10 h10 a11 h11 a12 h12 a13 h13 a14 h14 x0 x1 x2) := by
  unfold k0_part106; with_reducible repeat' first | intro _ | apply safe_bind | exact safe_pure _ | exact safe_load | exact safe_store

theorem part107 (x0 x1 x2) : Safe defs c R (k0_part107 i a2 h2 a3 h3 a4 h4 a5 h5 a6 h6 a7 h7 a8 h8 a9 h9 a10 h10 a11 h11 a12 h12 a13 h13 a14 h14 x0 x1 x2) := by
  unfold k0_part107; with_reducible repeat' first | intro _ | apply safe_bind | exact safe_pure _ | exact safe_load | exact safe_store

theorem part108 (x0 x1 x2 x3) : Safe defs c R (k0_part108 i a2 h2 a3 h3 a4 h4 a5 h5 a6 h6 a7 h7 a8 h8 a9 h9 a10 h10 a11 h11 a12 h12 a13 h13 a14 h14 x0 x1 x2 x3) := by
  unfold k0_part108; with_reducible repeat' first | intro _ | apply safe_bind | exact safe_pure _ | exact safe_load | exact safe_store

theorem part109 (x0 x1 x2 x3 x4) : Safe defs c R (k0_part109 i a2 h2 a3 h3 a4 h4 a5 h5 a6 h6 a7 h7 a8 h8 a9 h9 a10 h10 a11 h11 a12 h12 a13 h13 a14 h14 x0 x1 x2 x3 x4) := by
  unfold k0_part109; with_reducible repeat' first | intro _ | apply safe_bind | exact safe_pure _ | exact safe_load | exact safe_store

theorem part110 (x0 x1 x2 x3 x4 x5 x6 x7 x8 x9 x10 x11 x12 x13 x14 x15 x16 x17 x18 x19 x20 x21 x22) : Safe defs c R (k0_part110 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part110; with_reducible repeat' first | intro _ | apply safe_bind | exact safe_pure _ | exact safe_load | exact safe_store

theorem part111 (x0 x1 x2 x3 x4 x5 x6 x7 x8 x9 x10 x11 x12 x13 x14 x15 x16 x17 x18 x19 x20 x21 x22 x23 x24 x25 x26 x27 x28 x29) : Safe defs c R (k0_part111 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part111; with_reducible repeat' first | intro _ | apply safe_bind | exact safe_pure _ | exact safe_load | exact safe_store

theorem part112 (x0 x1) : Safe defs c R (k0_part112 i a2 h2 a3 h3 a4 h4 a5 h5 a6 h6 a7 h7 a8 h8 a9 h9 a10 h10 a11 h11 a12 h12 a13 h13 a14 h14 x0 x1) := by
  unfold k0_part112; with_reducible repeat' first | intro _ | apply safe_bind | exact safe_pure _ | exact safe_load | exact safe_store

theorem part113 (x0 x1) : Safe defs c R (k0_part113 i a2 h2 a3 h3 a4 h4 a5 h5 a6 h6 a7 h7 a8 h8 a9 h9 a10 h10 a11 h11 a12 h12 a13 h13 a14 h14 x0 x1) := by
  unfold k0_part113; with_reducible repeat' first | intro _ | apply safe_bind | exact safe_pure _ | exact safe_load | exact safe_store

theorem part114 (x0 x1) : Safe defs c R (k0_part114 i a2 h2 a3 h3 a4 h4 a5 h5 a6 h6 a7 h7 a8 h8 a9 h9 a10 h10 a11 h11 a12 h12 a13 h13 a14 h14 x0 x1) := by
  unfold k0_part114; with_reducible repeat' first | intro _ | apply safe_bind | exact safe_pure _ | exact safe_load | exact safe_store

theorem part115 (x0 x1 x2 x3 x4 x5 x6 x7 x8) : Safe defs c R (k0_part115 i a2 h2 a3 h3 a4 h4 a5 h5 a6 h6 a7 h7 a8 h8 a9 h9 a10 h10 a11 h11 a12 h12 a13 h13 a14 h14 x0 x1 x2 x3 x4 x5 x6 x7 x8) := by
  unfold k0_part115; with_reducible repeat' first | intro _ | apply safe_bind | exact safe_pure _ | exact safe_load | exact safe_store

theorem part116 (x0 x1 x2 x3 x4 x5 x6 x7 x8 x9 x10 x11 x12 x13 x14 x15 x16 x17 x18 x19 x20) : Safe defs c R (k0_part116 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part116; with_reducible repeat' first | intro _ | apply safe_bind | exact safe_pure _ | exact safe_load | exact safe_store

theorem part117 (x0 x1 x2 x3 x4 x5 x6 x7 x8 x9 x10 x11 x12) : Safe defs c R (k0_part117 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part117; with_reducible repeat' first | intro _ | apply safe_bind | exact safe_pure _ | exact safe_load | exact safe_store

theorem part118 (x0 x1) : Safe defs c R (k0_part118 i a2 h2 a3 h3 a4 h4 a5 h5 a6 h6 a7 h7 a8 h8 a9 h9 a10 h10 a11 h11 a12 h12 a13 h13 a14 h14 x0 x1) := by
  unfold k0_part118; with_reducible repeat' first | intro _ | apply safe_bind | exact safe_pure _ | exact safe_load | exact safe_store

theorem part119 (x0 x1 x2 x3) : Safe defs c R (k0_part119 i a2 h2 a3 h3 a4 h4 a5 h5 a6 h6 a7 h7 a8 h8 a9 h9 a10 h10 a11 h11 a12 h12 a13 h13 a14 h14 x0 x1 x2 x3) := by
  unfold k0_part119; with_reducible repeat' first | intro _ | apply safe_bind | exact safe_pure _ | exact safe_load | exact safe_store

theorem part120 (x0 x1 x2 x3) : Safe defs c R (k0_part120 i a2 h2 a3 h3 a4 h4 a5 h5 a6 h6 a7 h7 a8 h8 a9 h9 a10 h10 a11 h11 a12 h12 a13 h13 a14 h14 x0 x1 x2 x3) := by
  unfold k0_part120; with_reducible repeat' first | intro _ | apply safe_bind | exact safe_pure _ | exact safe_load | exact safe_store

theorem part121 (x0 x1 x2 x3 x4 x5 x6 x7) : Safe defs c R (k0_part121 i a2 h2 a3 h3 a4 h4 a5 h5 a6 h6 a7 h7 a8 h8 a9 h9 a10 h10 a11 h11 a12 h12 a13 h13 a14 h14 x0 x1 x2 x3 x4 x5 x6 x7) := by
  unfold k0_part121; with_reducible repeat' first | intro _ | apply safe_bind | exact safe_pure _ | exact safe_load | exact safe_store

theorem part122 (x0 x1 x2 x3 x4) : Safe defs c R (k0_part122 i a2 h2 a3 h3 a4 h4 a5 h5 a6 h6 a7 h7 a8 h8 a9 h9 a10 h10 a11 h11 a12 h12 a13 h13 a14 h14 x0 x1 x2 x3 x4) := by
  unfold k0_part122; with_reducible repeat' first | intro _ | apply safe_bind | exact safe_pure _ | exact safe_load | exact safe_store

theorem part123 (x0 x1 x2 x3 x4 x5 x6 x7 x8 x9 x10 x11 x12 x13 x14 x15 x16) : Safe defs c R (k0_part123 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part123; with_reducible repeat' first | intro _ | apply safe_bind | exact safe_pure _ | exact safe_load | exact safe_store

theorem part124 (x0 x1 x2 x3 x4 x5 x6 x7 x8 x9 x10 x11 x12 x13 x14 x15 x16 x17 x18 x19 x20 x21 x22 x23) : Safe defs c R (k0_part124 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23) := by
  unfold k0_part124; with_reducible repeat' first | intro _ | apply safe_bind | exact safe_pure _ | exact safe_load | exact safe_store

theorem part125 (x0 x1 x2 x3) : Safe defs c R (k0_part125 i a2 h2 a3 h3 a4 h4 a5 h5 a6 h6 a7 h7 a8 h8 a9 h9 a10 h10 a11 h11 a12 h12 a13 h13 a14 h14 x0 x1 x2 x3) := by
  unfold k0_part125; with_reducible repeat' first | intro _ | apply safe_bind | exact safe_pure _ | exact safe_load | exact safe_store

theorem part126 (x0 x1 x2 x3) : Safe defs c R (k0_part126 i a2 h2 a3 h3 a4 h4 a5 h5 a6 h6 a7 h7 a8 h8 a9 h9 a10 h10 a11 h11 a12 h12 a13 h13 a14 h14 x0 x1 x2 x3) := by
  unfold k0_part126; with_reducible repeat' first | intro _ | apply safe_bind | exact safe_pure _ | exact safe_load | exact safe_store

theorem part127 (x0 x1 x2 x3) : Safe defs c R (k0_part127 i a2 h2 a3 h3 a4 h4 a5 h5 a6 h6 a7 h7 a8 h8 a9 h9 a10 h10 a11 h11 a12 h12 a13 h13 a14 h14 x0 x1 x2 x3) := by
  unfold k0_part127; with_reducible repeat' first | intro _ | apply safe_bind | exact safe_pure _ | exact safe_load | exact safe_store

theorem part128 (x0 x1 x2 x3 x4 x5 x6 x7 x8 x9) : Safe defs c R (k0_part128 i a2 h2 a3 h3 a4 h4 a5 h5 a6 h6 a7 h7 a8 h8 a9 h9 a10 h10 a11 h11 a12 h12 a13 h13 a14 h14 x0 x1 x2 x3 x4 x5 x6 x7 x8 x9) := by
  unfold k0_part128; with_reducible repeat' first | intro _ | apply safe_bind | exact safe_pure _ | exact safe_load | exact safe_store

theorem part129 (x0 x1 x2 x3 x4 x5 x6 x7 x8 x9 x10 x11 x12 x13 x14 x15 x16 x17 x18 x19 x20 x21 x22 x23 x24 x25 x26) : Safe defs c R (k0_part129 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part129; with_reducible repeat' first | intro _ | apply safe_bind | exact safe_pure _ | exact safe_load | exact safe_store

theorem part131 (x0 x1) : Safe defs c R (k0_part131 i a2 h2 a3 h3 a4 h4 a5 h5 a6 h6 a7 h7 a8 h8 a9 h9 a10 h10 a11 h11 a12 h12 a13 h13 a14 h14 x0 x1) := by
  unfold k0_part131; with_reducible repeat' first | intro _ | apply safe_bind | exact safe_pure _ | exact safe_load | exact safe_store

theorem part132 (x0 x1 x2) : Safe defs c R (k0_part132 i a2 h2 a3 h3 a4 h4 a5 h5 a6 h6 a7 h7 a8 h8 a9 h9 a10 h10 a11 h11 a12 h12 a13 h13 a14 h14 x0 x1 x2) := by
  unfold k0_part132; with_reducible repeat' first | intro _ | apply safe_bind | exact safe_pure _ | exact safe_load | exact safe_store

theorem part133 (x0 x1 x2) : Safe defs c R (k0_part133 i a2 h2 a3 h3 a4 h4 a5 h5 a6 h6 a7 h7 a8 h8 a9 h9 a10 h10 a11 h11 a12 h12 a13 h13 a14 h14 x0 x1 x2) := by
  unfold k0_part133; with_reducible repeat' first | intro _ | apply safe_bind | exact safe_pure _ | exact safe_load | exact safe_store

theorem part134 (x0 x1 x2 x3) : Safe defs c R (k0_part134 i a2 h2 a3 h3 a4 h4 a5 h5 a6 h6 a7 h7 a8 h8 a9 h9 a10 h10 a11 h11 a12 h12 a13 h13 a14 h14 x0 x1 x2 x3) := by
  unfold k0_part134; with_reducible repeat' first | intro _ | apply safe_bind | exact safe_pure _ | exact safe_load | exact safe_store

theorem part135 (x0 x1 x2 x3 x4) : Safe defs c R (k0_part135 i a2 h2 a3 h3 a4 h4 a5 h5 a6 h6 a7 h7 a8 h8 a9 h9 a10 h10 a11 h11 a12 h12 a13 h13 a14 h14 x0 x1 x2 x3 x4) := by
  unfold k0_part135; with_reducible repeat' first | intro _ | apply safe_bind | exact safe_pure _ | exact safe_load | exact safe_store

theorem part136 (x0 x1 x2 x3 x4 x5 x6 x7 x8 x9 x10 x11 x12 x13 x14 x15 x16 x17 x18 x19 x20 x21 x22) : Safe defs c R (k0_part136 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part136; with_reducible repeat' first | intro _ | apply safe_bind | exact safe_pure _ | exact safe_load | exact safe_store

theorem part137 (x0 x1 x2 x3 x4 x5 x6 x7 x8 x9 x10 x11 x12 x13 x14 x15 x16 x17 x18 x19 x20 x21 x22 x23 x24 x25 x26 x27 x28 x29) : Safe defs c R (k0_part137 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part137; with_reducible repeat' first | intro _ | apply safe_bind | exact safe_pure _ | exact safe_load | exact safe_store

theorem part138 (x0 x1) : Safe defs c R (k0_part138 i a2 h2 a3 h3 a4 h4 a5 h5 a6 h6 a7 h7 a8 h8 a9 h9 a10 h10 a11 h11 a12 h12 a13 h13 a14 h14 x0 x1) := by
  unfold k0_part138; with_reducible repeat' first | intro _ | apply safe_bind | exact safe_pure _ | exact safe_load | exact safe_store

theorem part139 (x0 x1) : Safe defs c R (k0_part139 i a2 h2 a3 h3 a4 h4 a5 h5 a6 h6 a7 h7 a8 h8 a9 h9 a10 h10 a11 h11 a12 h12 a13 h13 a14 h14 x0 x1) := by
  unfold k0_part139; with_reducible repeat' first | intro _ | apply safe_bind | exact safe_pure _ | exact safe_load | exact safe_store

end Cert.Proof.Keep

end
-- ==== Proof.Keep.Straight3.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part140 (x0 x1) : Safe defs c R (k0_part140 i a2 h2 a3 h3 a4 h4 a5 h5 a6 h6 a7 h7 a8 h8 a9 h9 a10 h10 a11 h11 a12 h12 a13 h13 a14 h14 x0 x1) := by
  unfold k0_part140; with_reducible repeat' first | intro _ | apply safe_bind | exact safe_pure _ | exact safe_load | exact safe_store

theorem part141 (x0 x1 x2 x3 x4 x5 x6 x7 x8) : Safe defs c R (k0_part141 i a2 h2 a3 h3 a4 h4 a5 h5 a6 h6 a7 h7 a8 h8 a9 h9 a10 h10 a11 h11 a12 h12 a13 h13 a14 h14 x0 x1 x2 x3 x4 x5 x6 x7 x8) := by
  unfold k0_part141; with_reducible repeat' first | intro _ | apply safe_bind | exact safe_pure _ | exact safe_load | exact safe_store

theorem part142 (x0 x1 x2 x3 x4 x5 x6 x7 x8 x9 x10 x11 x12 x13 x14 x15 x16 x17 x18 x19 x20) : Safe defs c R (k0_part142 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part142; with_reducible repeat' first | intro _ | apply safe_bind | exact safe_pure _ | exact safe_load | exact safe_store

theorem part144 (x0 x1) : Safe defs c R (k0_part144 i a2 h2 a3 h3 a4 h4 a5 h5 a6 h6 a7 h7 a8 h8 a9 h9 a10 h10 a11 h11 a12 h12 a13 h13 a14 h14 x0 x1) := by
  unfold k0_part144; with_reducible repeat' first | intro _ | apply safe_bind | exact safe_pure _ | exact safe_load | exact safe_store

theorem part145 (x0 x1 x2) : Safe defs c R (k0_part145 i a2 h2 a3 h3 a4 h4 a5 h5 a6 h6 a7 h7 a8 h8 a9 h9 a10 h10 a11 h11 a12 h12 a13 h13 a14 h14 x0 x1 x2) := by
  unfold k0_part145; with_reducible repeat' first | intro _ | apply safe_bind | exact safe_pure _ | exact safe_load | exact safe_store

theorem part146 (x0 x1 x2) : Safe defs c R (k0_part146 i a2 h2 a3 h3 a4 h4 a5 h5 a6 h6 a7 h7 a8 h8 a9 h9 a10 h10 a11 h11 a12 h12 a13 h13 a14 h14 x0 x1 x2) := by
  unfold k0_part146; with_reducible repeat' first | intro _ | apply safe_bind | exact safe_pure _ | exact safe_load | exact safe_store

theorem part147 (x0 x1 x2 x3) : Safe defs c R (k0_part147 i a2 h2 a3 h3 a4 h4 a5 h5 a6 h6 a7 h7 a8 h8 a9 h9 a10 h10 a11 h11 a12 h12 a13 h13 a14 h14 x0 x1 x2 x3) := by
  unfold k0_part147; with_reducible repeat' first | intro _ | apply safe_bind | exact safe_pure _ | exact safe_load | exact safe_store

theorem part148 (x0 x1 x2 x3 x4) : Safe defs c R (k0_part148 i a2 h2 a3 h3 a4 h4 a5 h5 a6 h6 a7 h7 a8 h8 a9 h9 a10 h10 a11 h11 a12 h12 a13 h13 a14 h14 x0 x1 x2 x3 x4) := by
  unfold k0_part148; with_reducible repeat' first | intro _ | apply safe_bind | exact safe_pure _ | exact safe_load | exact safe_store

theorem part149 (x0 x1 x2 x3 x4 x5 x6 x7 x8 x9 x10 x11 x12 x13 x14 x15 x16 x17 x18 x19 x20 x21 x22) : Safe defs c R (k0_part149 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part149; with_reducible repeat' first | intro _ | apply safe_bind | exact safe_pure _ | exact safe_load | exact safe_store

theorem part150 (x0 x1 x2 x3 x4) : Safe defs c R (k0_part150 i a2 h2 a3 h3 a4 h4 a5 h5 a6 h6 a7 h7 a8 h8 a9 h9 a10 h10 a11 h11 a12 h12 a13 h13 a14 h14 x0 x1 x2 x3 x4) := by
  unfold k0_part150; with_reducible repeat' first | intro _ | apply safe_bind | exact safe_pure _ | exact safe_load | exact safe_store

theorem part151 (x0 x1 x2 x3 x4) : Safe defs c R (k0_part151 i a2 h2 a3 h3 a4 h4 a5 h5 a6 h6 a7 h7 a8 h8 a9 h9 a10 h10 a11 h11 a12 h12 a13 h13 a14 h14 x0 x1 x2 x3 x4) := by
  unfold k0_part151; with_reducible repeat' first | intro _ | apply safe_bind | exact safe_pure _ | exact safe_load | exact safe_store

theorem part152 (x0 x1 x2 x3 x4 x5 x6 x7 x8 x9) : Safe defs c R (k0_part152 i a2 h2 a3 h3 a4 h4 a5 h5 a6 h6 a7 h7 a8 h8 a9 h9 a10 h10 a11 h11 a12 h12 a13 h13 a14 h14 x0 x1 x2 x3 x4 x5 x6 x7 x8 x9) := by
  unfold k0_part152; with_reducible repeat' first | intro _ | apply safe_bind | exact safe_pure _ | exact safe_load | exact safe_store

theorem part153 (x0 x1 x2 x3 x4 x5 x6 x7 x8) : Safe defs c R (k0_part153 i a2 h2 a3 h3 a4 h4 a5 h5 a6 h6 a7 h7 a8 h8 a9 h9 a10 h10 a11 h11 a12 h12 a13 h13 a14 h14 x0 x1 x2 x3 x4 x5 x6 x7 x8) := by
  unfold k0_part153; with_reducible repeat' first | intro _ | apply safe_bind | exact safe_pure _ | exact safe_load | exact safe_store

theorem part154 (x0 x1 x2 x3 x4 x5 x6 x7 x8 x9) : Safe defs c R (k0_part154 i a2 h2 a3 h3 a4 h4 a5 h5 a6 h6 a7 h7 a8 h8 a9 h9 a10 h10 a11 h11 a12 h12 a13 h13 a14 h14 x0 x1 x2 x3 x4 x5 x6 x7 x8 x9) := by
  unfold k0_part154; with_reducible repeat' first | intro _ | apply safe_bind | exact safe_pure _ | exact safe_load | exact safe_store

theorem part155 (x0 x1 x2 x3 x4 x5 x6 x7 x8 x9) : Safe defs c R (k0_part155 i a2 h2 a3 h3 a4 h4 a5 h5 a6 h6 a7 h7 a8 h8 a9 h9 a10 h10 a11 h11 a12 h12 a13 h13 a14 h14 x0 x1 x2 x3 x4 x5 x6 x7 x8 x9) := by
  unfold k0_part155; with_reducible repeat' first | intro _ | apply safe_bind | exact safe_pure _ | exact safe_load | exact safe_store

theorem part156 (x0 x1 x2 x3 x4 x5 x6 x7 x8) : Safe defs c R (k0_part156 i a2 h2 a3 h3 a4 h4 a5 h5 a6 h6 a7 h7 a8 h8 a9 h9 a10 h10 a11 h11 a12 h12 a13 h13 a14 h14 x0 x1 x2 x3 x4 x5 x6 x7 x8) := by
  unfold k0_part156; with_reducible repeat' first | intro _ | apply safe_bind | exact safe_pure _ | exact safe_load | exact safe_store

theorem part157 (x0 x1 x2 x3 x4 x5 x6 x7 x8 x9) : Safe defs c R (k0_part157 i a2 h2 a3 h3 a4 h4 a5 h5 a6 h6 a7 h7 a8 h8 a9 h9 a10 h10 a11 h11 a12 h12 a13 h13 a14 h14 x0 x1 x2 x3 x4 x5 x6 x7 x8 x9) := by
  unfold k0_part157; with_reducible repeat' first | intro _ | apply safe_bind | exact safe_pure _ | exact safe_load | exact safe_store

theorem part158 (x0 x1 x2 x3 x4 x5 x6 x7 x8 x9) : Safe defs c R (k0_part158 i a2 h2 a3 h3 a4 h4 a5 h5 a6 h6 a7 h7 a8 h8 a9 h9 a10 h10 a11 h11 a12 h12 a13 h13 a14 h14 x0 x1 x2 x3 x4 x5 x6 x7 x8 x9) := by
  unfold k0_part158; with_reducible repeat' first | intro _ | apply safe_bind | exact safe_pure _ | exact safe_load | exact safe_store

theorem part159 (x0 x1 x2 x3 x4 x5 x6 x7 x8) : Safe defs c R (k0_part159 i a2 h2 a3 h3 a4 h4 a5 h5 a6 h6 a7 h7 a8 h8 a9 h9 a10 h10 a11 h11 a12 h12 a13 h13 a14 h14 x0 x1 x2 x3 x4 x5 x6 x7 x8) := by
  unfold k0_part159; with_reducible repeat' first | intro _ | apply safe_bind | exact safe_pure _ | exact safe_load | exact safe_store

theorem part160 (x0 x1 x2 x3 x4 x5 x6 x7 x8 x9 x10 x11 x12) : Safe defs c R (k0_part160 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part160; with_reducible repeat' first | intro _ | apply safe_bind | exact safe_pure _ | exact safe_load | exact safe_store

theorem part161 (x0 x1 x2 x3 x4 x5 x6 x7 x8) : Safe defs c R (k0_part161 i a2 h2 a3 h3 a4 h4 a5 h5 a6 h6 a7 h7 a8 h8 a9 h9 a10 h10 a11 h11 a12 h12 a13 h13 a14 h14 x0 x1 x2 x3 x4 x5 x6 x7 x8) := by
  unfold k0_part161; with_reducible repeat' first | intro _ | apply safe_bind | exact safe_pure _ | exact safe_load | exact safe_store

theorem part162 (x0 x1 x2 x3 x4 x5 x6 x7 x8 x9) : Safe defs c R (k0_part162 i a2 h2 a3 h3 a4 h4 a5 h5 a6 h6 a7 h7 a8 h8 a9 h9 a10 h10 a11 h11 a12 h12 a13 h13 a14 h14 x0 x1 x2 x3 x4 x5 x6 x7 x8 x9) := by
  unfold k0_part162; with_reducible repeat' first | intro _ | apply safe_bind | exact safe_pure _ | exact safe_load | exact safe_store

theorem part164 (x0 x1 x2 x3 x4 x5 x6 x7 x8 x9) : Safe defs c R (k0_part164 i a2 h2 a3 h3 a4 h4 a5 h5 a6 h6 a7 h7 a8 h8 a9 h9 a10 h10 a11 h11 a12 h12 a13 h13 a14 h14 x0 x1 x2 x3 x4 x5 x6 x7 x8 x9) := by
  unfold k0_part164; with_reducible repeat' first | intro _ | apply safe_bind | exact safe_pure _ | exact safe_load | exact safe_store

theorem part165 (x0 x1 x2 x3 x4 x5 x6 x7 x8) : Safe defs c R (k0_part165 i a2 h2 a3 h3 a4 h4 a5 h5 a6 h6 a7 h7 a8 h8 a9 h9 a10 h10 a11 h11 a12 h12 a13 h13 a14 h14 x0 x1 x2 x3 x4 x5 x6 x7 x8) := by
  unfold k0_part165; with_reducible repeat' first | intro _ | apply safe_bind | exact safe_pure _ | exact safe_load | exact safe_store

theorem part166 (x0 x1 x2 x3 x4 x5 x6 x7 x8 x9) : Safe defs c R (k0_part166 i a2 h2 a3 h3 a4 h4 a5 h5 a6 h6 a7 h7 a8 h8 a9 h9 a10 h10 a11 h11 a12 h12 a13 h13 a14 h14 x0 x1 x2 x3 x4 x5 x6 x7 x8 x9) := by
  unfold k0_part166; with_reducible repeat' first | intro _ | apply safe_bind | exact safe_pure _ | exact safe_load | exact safe_store

theorem part167 (x0 x1 x2 x3 x4 x5 x6 x7 x8 x9) : Safe defs c R (k0_part167 i a2 h2 a3 h3 a4 h4 a5 h5 a6 h6 a7 h7 a8 h8 a9 h9 a10 h10 a11 h11 a12 h12 a13 h13 a14 h14 x0 x1 x2 x3 x4 x5 x6 x7 x8 x9) := by
  unfold k0_part167; with_reducible repeat' first | intro _ | apply safe_bind | exact safe_pure _ | exact safe_load | exact safe_store

theorem part168 (x0 x1 x2 x3 x4 x5 x6 x7 x8) : Safe defs c R (k0_part168 i a2 h2 a3 h3 a4 h4 a5 h5 a6 h6 a7 h7 a8 h8 a9 h9 a10 h10 a11 h11 a12 h12 a13 h13 a14 h14 x0 x1 x2 x3 x4 x5 x6 x7 x8) := by
  unfold k0_part168; with_reducible repeat' first | intro _ | apply safe_bind | exact safe_pure _ | exact safe_load | exact safe_store

theorem part169 (x0 x1 x2 x3 x4 x5 x6 x7 x8 x9) : Safe defs c R (k0_part169 i a2 h2 a3 h3 a4 h4 a5 h5 a6 h6 a7 h7 a8 h8 a9 h9 a10 h10 a11 h11 a12 h12 a13 h13 a14 h14 x0 x1 x2 x3 x4 x5 x6 x7 x8 x9) := by
  unfold k0_part169; with_reducible repeat' first | intro _ | apply safe_bind | exact safe_pure _ | exact safe_load | exact safe_store

theorem part170 (x0 x1 x2 x3 x4 x5 x6 x7 x8 x9) : Safe defs c R (k0_part170 i a2 h2 a3 h3 a4 h4 a5 h5 a6 h6 a7 h7 a8 h8 a9 h9 a10 h10 a11 h11 a12 h12 a13 h13 a14 h14 x0 x1 x2 x3 x4 x5 x6 x7 x8 x9) := by
  unfold k0_part170; with_reducible repeat' first | intro _ | apply safe_bind | exact safe_pure _ | exact safe_load | exact safe_store

theorem part171 (x0 x1 x2 x3 x4 x5 x6 x7 x8) : Safe defs c R (k0_part171 i a2 h2 a3 h3 a4 h4 a5 h5 a6 h6 a7 h7 a8 h8 a9 h9 a10 h10 a11 h11 a12 h12 a13 h13 a14 h14 x0 x1 x2 x3 x4 x5 x6 x7 x8) := by
  unfold k0_part171; with_reducible repeat' first | intro _ | apply safe_bind | exact safe_pure _ | exact safe_load | exact safe_store

theorem part172 (x0 x1 x2 x3 x4 x5 x6 x7 x8 x9 x10 x11 x12) : Safe defs c R (k0_part172 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part172; with_reducible repeat' first | intro _ | apply safe_bind | exact safe_pure _ | exact safe_load | exact safe_store

theorem part173 (x0 x1 x2 x3 x4 x5 x6 x7 x8) : Safe defs c R (k0_part173 i a2 h2 a3 h3 a4 h4 a5 h5 a6 h6 a7 h7 a8 h8 a9 h9 a10 h10 a11 h11 a12 h12 a13 h13 a14 h14 x0 x1 x2 x3 x4 x5 x6 x7 x8) := by
  unfold k0_part173; with_reducible repeat' first | intro _ | apply safe_bind | exact safe_pure _ | exact safe_load | exact safe_store

theorem part174 (x0 x1 x2 x3 x4 x5 x6 x7 x8 x9) : Safe defs c R (k0_part174 i a2 h2 a3 h3 a4 h4 a5 h5 a6 h6 a7 h7 a8 h8 a9 h9 a10 h10 a11 h11 a12 h12 a13 h13 a14 h14 x0 x1 x2 x3 x4 x5 x6 x7 x8 x9) := by
  unfold k0_part174; with_reducible repeat' first | intro _ | apply safe_bind | exact safe_pure _ | exact safe_load | exact safe_store

theorem part176 (x0 x1 x2 x3 x4 x5 x6 x7 x8) : Safe defs c R (k0_part176 i a2 h2 a3 h3 a4 h4 a5 h5 a6 h6 a7 h7 a8 h8 a9 h9 a10 h10 a11 h11 a12 h12 a13 h13 a14 h14 x0 x1 x2 x3 x4 x5 x6 x7 x8) := by
  unfold k0_part176; with_reducible repeat' first | intro _ | apply safe_bind | exact safe_pure _ | exact safe_load | exact safe_store

theorem part177 (x0 x1 x2 x3 x4 x5 x6 x7 x8) : Safe defs c R (k0_part177 i a2 h2 a3 h3 a4 h4 a5 h5 a6 h6 a7 h7 a8 h8 a9 h9 a10 h10 a11 h11 a12 h12 a13 h13 a14 h14 x0 x1 x2 x3 x4 x5 x6 x7 x8) := by
  unfold k0_part177; with_reducible repeat' first | intro _ | apply safe_bind | exact safe_pure _ | exact safe_load | exact safe_store

theorem part178 (x0 x1 x2 x3 x4 x5 x6 x7 x8 x9 x10 x11) : Safe defs c R (k0_part178 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part178; with_reducible repeat' first | intro _ | apply safe_bind | exact safe_pure _ | exact safe_load | exact safe_store

theorem part179 (x0 x1 x2 x3 x4 x5 x6 x7 x8) : Safe defs c R (k0_part179 i a2 h2 a3 h3 a4 h4 a5 h5 a6 h6 a7 h7 a8 h8 a9 h9 a10 h10 a11 h11 a12 h12 a13 h13 a14 h14 x0 x1 x2 x3 x4 x5 x6 x7 x8) := by
  unfold k0_part179; with_reducible repeat' first | intro _ | apply safe_bind | exact safe_pure _ | exact safe_load | exact safe_store

theorem part180 (x0 x1 x2 x3 x4 x5 x6 x7 x8 x9) : Safe defs c R (k0_part180 i a2 h2 a3 h3 a4 h4 a5 h5 a6 h6 a7 h7 a8 h8 a9 h9 a10 h10 a11 h11 a12 h12 a13 h13 a14 h14 x0 x1 x2 x3 x4 x5 x6 x7 x8 x9) := by
  unfold k0_part180; with_reducible repeat' first | intro _ | apply safe_bind | exact safe_pure _ | exact safe_load | exact safe_store

theorem part182 (x0 x1 x2 x3 x4 x5 x6 x7 x8) : Safe defs c R (k0_part182 i a2 h2 a3 h3 a4 h4 a5 h5 a6 h6 a7 h7 a8 h8 a9 h9 a10 h10 a11 h11 a12 h12 a13 h13 a14 h14 x0 x1 x2 x3 x4 x5 x6 x7 x8) := by
  unfold k0_part182; with_reducible repeat' first | intro _ | apply safe_bind | exact safe_pure _ | exact safe_load | exact safe_store

theorem part183 (x0 x1 x2 x3 x4 x5 x6 x7 x8) : Safe defs c R (k0_part183 i a2 h2 a3 h3 a4 h4 a5 h5 a6 h6 a7 h7 a8 h8 a9 h9 a10 h10 a11 h11 a12 h12 a13 h13 a14 h14 x0 x1 x2 x3 x4 x5 x6 x7 x8) := by
  unfold k0_part183; with_reducible repeat' first | intro _ | apply safe_bind | exact safe_pure _ | exact safe_load | exact safe_store

theorem part186 (x0 x1 x2 x3 x4 x5 x6 x7 x8 x9) : Safe defs c R (k0_part186 i a2 h2 a3 h3 a4 h4 a5 h5 a6 h6 a7 h7 a8 h8 a9 h9 a10 h10 a11 h11 a12 h12 a13 h13 a14 h14 x0 x1 x2 x3 x4 x5 x6 x7 x8 x9) := by
  unfold k0_part186; with_reducible repeat' first | intro _ | apply safe_bind | exact safe_pure _ | exact safe_load | exact safe_store

theorem part187 (x0 x1 x2 x3 x4 x5 x6 x7 x8) : Safe defs c R (k0_part187 i a2 h2 a3 h3 a4 h4 a5 h5 a6 h6 a7 h7 a8 h8 a9 h9 a10 h10 a11 h11 a12 h12 a13 h13 a14 h14 x0 x1 x2 x3 x4 x5 x6 x7 x8) := by
  unfold k0_part187; with_reducible repeat' first | intro _ | apply safe_bind | exact safe_pure _ | exact safe_load | exact safe_store

theorem part188 (x0 x1 x2 x3 x4 x5 x6 x7 x8 x9) : Safe defs c R (k0_part188 i a2 h2 a3 h3 a4 h4 a5 h5 a6 h6 a7 h7 a8 h8 a9 h9 a10 h10 a11 h11 a12 h12 a13 h13 a14 h14 x0 x1 x2 x3 x4 x5 x6 x7 x8 x9) := by
  unfold k0_part188; with_reducible repeat' first | intro _ | apply safe_bind | exact safe_pure _ | exact safe_load | exact safe_store

theorem part189 (x0 x1 x2 x3 x4 x5 x6 x7 x8 x9) : Safe defs c R (k0_part189 i a2 h2 a3 h3 a4 h4 a5 h5 a6 h6 a7 h7 a8 h8 a9 h9 a10 h10 a11 h11 a12 h12 a13 h13 a14 h14 x0 x1 x2 x3 x4 x5 x6 x7 x8 x9) := by
  unfold k0_part189; with_reducible repeat' first | intro _ | apply safe_bind | exact safe_pure _ | exact safe_load | exact safe_store

theorem part190 (x0 x1 x2 x3 x4 x5 x6 x7 x8) : Safe defs c R (k0_part190 i a2 h2 a3 h3 a4 h4 a5 h5 a6 h6 a7 h7 a8 h8 a9 h9 a10 h10 a11 h11 a12 h12 a13 h13 a14 h14 x0 x1 x2 x3 x4 x5 x6 x7 x8) := by
  unfold k0_part190; with_reducible repeat' first | intro _ | apply safe_bind | exact safe_pure _ | exact safe_load | exact safe_store

theorem part191 (x0 x1 x2 x3 x4 x5 x6 x7 x8 x9) : Safe defs c R (k0_part191 i a2 h2 a3 h3 a4 h4 a5 h5 a6 h6 a7 h7 a8 h8 a9 h9 a10 h10 a11 h11 a12 h12 a13 h13 a14 h14 x0 x1 x2 x3 x4 x5 x6 x7 x8 x9) := by
  unfold k0_part191; with_reducible repeat' first | intro _ | apply safe_bind | exact safe_pure _ | exact safe_load | exact safe_store

theorem part192 (x0 x1 x2 x3 x4 x5 x6 x7 x8 x9) : Safe defs c R (k0_part192 i a2 h2 a3 h3 a4 h4 a5 h5 a6 h6 a7 h7 a8 h8 a9 h9 a10 h10 a11 h11 a12 h12 a13 h13 a14 h14 x0 x1 x2 x3 x4 x5 x6 x7 x8 x9) := by
  unfold k0_part192; with_reducible repeat' first | intro _ | apply safe_bind | exact safe_pure _ | exact safe_load | exact safe_store

theorem part193 (x0 x1 x2 x3 x4 x5 x6 x7 x8) : Safe defs c R (k0_part193 i a2 h2 a3 h3 a4 h4 a5 h5 a6 h6 a7 h7 a8 h8 a9 h9 a10 h10 a11 h11 a12 h12 a13 h13 a14 h14 x0 x1 x2 x3 x4 x5 x6 x7 x8) := by
  unfold k0_part193; with_reducible repeat' first | intro _ | apply safe_bind | exact safe_pure _ | exact safe_load | exact safe_store

theorem part194 (x0 x1 x2 x3 x4 x5 x6 x7 x8 x9 x10 x11 x12) : Safe defs c R (k0_part194 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part194; with_reducible repeat' first | intro _ | apply safe_bind | exact safe_pure _ | exact safe_load | exact safe_store

theorem part195 (x0 x1 x2 x3 x4 x5 x6 x7 x8) : Safe defs c R (k0_part195 i a2 h2 a3 h3 a4 h4 a5 h5 a6 h6 a7 h7 a8 h8 a9 h9 a10 h10 a11 h11 a12 h12 a13 h13 a14 h14 x0 x1 x2 x3 x4 x5 x6 x7 x8) := by
  unfold k0_part195; with_reducible repeat' first | intro _ | apply safe_bind | exact safe_pure _ | exact safe_load | exact safe_store

theorem part196 (x0 x1 x2 x3 x4 x5 x6 x7 x8 x9) : Safe defs c R (k0_part196 i a2 h2 a3 h3 a4 h4 a5 h5 a6 h6 a7 h7 a8 h8 a9 h9 a10 h10 a11 h11 a12 h12 a13 h13 a14 h14 x0 x1 x2 x3 x4 x5 x6 x7 x8 x9) := by
  unfold k0_part196; with_reducible repeat' first | intro _ | apply safe_bind | exact safe_pure _ | exact safe_load | exact safe_store

theorem part198 (x0 x1 x2 x3 x4 x5 x6 x7 x8 x9) : Safe defs c R (k0_part198 i a2 h2 a3 h3 a4 h4 a5 h5 a6 h6 a7 h7 a8 h8 a9 h9 a10 h10 a11 h11 a12 h12 a13 h13 a14 h14 x0 x1 x2 x3 x4 x5 x6 x7 x8 x9) := by
  unfold k0_part198; with_reducible repeat' first | intro _ | apply safe_bind | exact safe_pure _ | exact safe_load | exact safe_store

theorem part199 (x0 x1 x2 x3 x4 x5 x6 x7 x8) : Safe defs c R (k0_part199 i a2 h2 a3 h3 a4 h4 a5 h5 a6 h6 a7 h7 a8 h8 a9 h9 a10 h10 a11 h11 a12 h12 a13 h13 a14 h14 x0 x1 x2 x3 x4 x5 x6 x7 x8) := by
  unfold k0_part199; with_reducible repeat' first | intro _ | apply safe_bind | exact safe_pure _ | exact safe_load | exact safe_store

theorem part200 (x0 x1 x2 x3 x4 x5 x6 x7 x8 x9) : Safe defs c R (k0_part200 i a2 h2 a3 h3 a4 h4 a5 h5 a6 h6 a7 h7 a8 h8 a9 h9 a10 h10 a11 h11 a12 h12 a13 h13 a14 h14 x0 x1 x2 x3 x4 x5 x6 x7 x8 x9) := by
  unfold k0_part200; with_reducible repeat' first | intro _ | apply safe_bind | exact safe_pure _ | exact safe_load | exact safe_store

theorem part201 (x0 x1 x2 x3 x4 x5 x6 x7 x8 x9) : Safe defs c R (k0_part201 i a2 h2 a3 h3 a4 h4 a5 h5 a6 h6 a7 h7 a8 h8 a9 h9 a10 h10 a11 h11 a12 h12 a13 h13 a14 h14 x0 x1 x2 x3 x4 x5 x6 x7 x8 x9) := by
  unfold k0_part201; with_reducible repeat' first | intro _ | apply safe_bind | exact safe_pure _ | exact safe_load | exact safe_store

theorem part202 (x0 x1 x2 x3 x4 x5 x6 x7 x8) : Safe defs c R (k0_part202 i a2 h2 a3 h3 a4 h4 a5 h5 a6 h6 a7 h7 a8 h8 a9 h9 a10 h10 a11 h11 a12 h12 a13 h13 a14 h14 x0 x1 x2 x3 x4 x5 x6 x7 x8) := by
  unfold k0_part202; with_reducible repeat' first | intro _ | apply safe_bind | exact safe_pure _ | exact safe_load | exact safe_store

theorem part203 (x0 x1 x2 x3 x4 x5 x6 x7 x8 x9) : Safe defs c R (k0_part203 i a2 h2 a3 h3 a4 h4 a5 h5 a6 h6 a7 h7 a8 h8 a9 h9 a10 h10 a11 h11 a12 h12 a13 h13 a14 h14 x0 x1 x2 x3 x4 x5 x6 x7 x8 x9) := by
  unfold k0_part203; with_reducible repeat' first | intro _ | apply safe_bind | exact safe_pure _ | exact safe_load | exact safe_store

theorem part204 (x0 x1 x2 x3 x4 x5 x6 x7 x8 x9) : Safe defs c R (k0_part204 i a2 h2 a3 h3 a4 h4 a5 h5 a6 h6 a7 h7 a8 h8 a9 h9 a10 h10 a11 h11 a12 h12 a13 h13 a14 h14 x0 x1 x2 x3 x4 x5 x6 x7 x8 x9) := by
  unfold k0_part204; with_reducible repeat' first | intro _ | apply safe_bind | exact safe_pure _ | exact safe_load | exact safe_store

theorem part205 (x0 x1 x2 x3 x4 x5 x6 x7 x8) : Safe defs c R (k0_part205 i a2 h2 a3 h3 a4 h4 a5 h5 a6 h6 a7 h7 a8 h8 a9 h9 a10 h10 a11 h11 a12 h12 a13 h13 a14 h14 x0 x1 x2 x3 x4 x5 x6 x7 x8) := by
  unfold k0_part205; with_reducible repeat' first | intro _ | apply safe_bind | exact safe_pure _ | exact safe_load | exact safe_store

theorem part206 (x0 x1 x2 x3 x4 x5 x6 x7 x8 x9 x10 x11 x12) : Safe defs c R (k0_part206 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part206; with_reducible repeat' first | intro _ | apply safe_bind | exact safe_pure _ | exact safe_load | exact safe_store

theorem part207 (x0 x1 x2 x3 x4 x5 x6 x7 x8) : Safe defs c R (k0_part207 i a2 h2 a3 h3 a4 h4 a5 h5 a6 h6 a7 h7 a8 h8 a9 h9 a10 h10 a11 h11 a12 h12 a13 h13 a14 h14 x0 x1 x2 x3 x4 x5 x6 x7 x8) := by
  unfold k0_part207; with_reducible repeat' first | intro _ | apply safe_bind | exact safe_pure _ | exact safe_load | exact safe_store

theorem part208 (x0 x1 x2 x3 x4 x5 x6 x7 x8 x9) : Safe defs c R (k0_part208 i a2 h2 a3 h3 a4 h4 a5 h5 a6 h6 a7 h7 a8 h8 a9 h9 a10 h10 a11 h11 a12 h12 a13 h13 a14 h14 x0 x1 x2 x3 x4 x5 x6 x7 x8 x9) := by
  unfold k0_part208; with_reducible repeat' first | intro _ | apply safe_bind | exact safe_pure _ | exact safe_load | exact safe_store

theorem part210 (x0 x1 x2 x3 x4 x5 x6 x7 x8) : Safe defs c R (k0_part210 i a2 h2 a3 h3 a4 h4 a5 h5 a6 h6 a7 h7 a8 h8 a9 h9 a10 h10 a11 h11 a12 h12 a13 h13 a14 h14 x0 x1 x2 x3 x4 x5 x6 x7 x8) := by
  unfold k0_part210; with_reducible repeat' first | intro _ | apply safe_bind | exact safe_pure _ | exact safe_load | exact safe_store

theorem part211 (x0 x1 x2 x3 x4 x5 x6 x7 x8) : Safe defs c R (k0_part211 i a2 h2 a3 h3 a4 h4 a5 h5 a6 h6 a7 h7 a8 h8 a9 h9 a10 h10 a11 h11 a12 h12 a13 h13 a14 h14 x0 x1 x2 x3 x4 x5 x6 x7 x8) := by
  unfold k0_part211; with_reducible repeat' first | intro _ | apply safe_bind | exact safe_pure _ | exact safe_load | exact safe_store

theorem part212 (x0 x1 x2 x3 x4 x5 x6 x7 x8 x9 x10 x11) : Safe defs c R (k0_part212 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part212; with_reducible repeat' first | intro _ | apply safe_bind | exact safe_pure _ | exact safe_load | exact safe_store

theorem part213 (x0 x1 x2 x3 x4 x5 x6 x7 x8) : Safe defs c R (k0_part213 i a2 h2 a3 h3 a4 h4 a5 h5 a6 h6 a7 h7 a8 h8 a9 h9 a10 h10 a11 h11 a12 h12 a13 h13 a14 h14 x0 x1 x2 x3 x4 x5 x6 x7 x8) := by
  unfold k0_part213; with_reducible repeat' first | intro _ | apply safe_bind | exact safe_pure _ | exact safe_load | exact safe_store

theorem part214 (x0 x1 x2 x3 x4 x5 x6 x7 x8 x9) : Safe defs c R (k0_part214 i a2 h2 a3 h3 a4 h4 a5 h5 a6 h6 a7 h7 a8 h8 a9 h9 a10 h10 a11 h11 a12 h12 a13 h13 a14 h14 x0 x1 x2 x3 x4 x5 x6 x7 x8 x9) := by
  unfold k0_part214; with_reducible repeat' first | intro _ | apply safe_bind | exact safe_pure _ | exact safe_load | exact safe_store

theorem part216 (x0 x1 x2 x3 x4 x5 x6 x7 x8) : Safe defs c R (k0_part216 i a2 h2 a3 h3 a4 h4 a5 h5 a6 h6 a7 h7 a8 h8 a9 h9 a10 h10 a11 h11 a12 h12 a13 h13 a14 h14 x0 x1 x2 x3 x4 x5 x6 x7 x8) := by
  unfold k0_part216; with_reducible repeat' first | intro _ | apply safe_bind | exact safe_pure _ | exact safe_load | exact safe_store

end Cert.Proof.Keep

end
-- ==== Proof.Keep.Straight4.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part217 (x0 x1 x2 x3 x4 x5 x6 x7 x8) : Safe defs c R (k0_part217 i a2 h2 a3 h3 a4 h4 a5 h5 a6 h6 a7 h7 a8 h8 a9 h9 a10 h10 a11 h11 a12 h12 a13 h13 a14 h14 x0 x1 x2 x3 x4 x5 x6 x7 x8) := by
  unfold k0_part217; with_reducible repeat' first | intro _ | apply safe_bind | exact safe_pure _ | exact safe_load | exact safe_store

theorem part220 (x0 x1 x2 x3 x4 x5 x6 x7 x8 x9) : Safe defs c R (k0_part220 i a2 h2 a3 h3 a4 h4 a5 h5 a6 h6 a7 h7 a8 h8 a9 h9 a10 h10 a11 h11 a12 h12 a13 h13 a14 h14 x0 x1 x2 x3 x4 x5 x6 x7 x8 x9) := by
  unfold k0_part220; with_reducible repeat' first | intro _ | apply safe_bind | exact safe_pure _ | exact safe_load | exact safe_store

theorem part221 (x0 x1 x2 x3 x4 x5 x6 x7 x8) : Safe defs c R (k0_part221 i a2 h2 a3 h3 a4 h4 a5 h5 a6 h6 a7 h7 a8 h8 a9 h9 a10 h10 a11 h11 a12 h12 a13 h13 a14 h14 x0 x1 x2 x3 x4 x5 x6 x7 x8) := by
  unfold k0_part221; with_reducible repeat' first | intro _ | apply safe_bind | exact safe_pure _ | exact safe_load | exact safe_store

theorem part222 (x0 x1 x2 x3 x4 x5 x6 x7 x8 x9) : Safe defs c R (k0_part222 i a2 h2 a3 h3 a4 h4 a5 h5 a6 h6 a7 h7 a8 h8 a9 h9 a10 h10 a11 h11 a12 h12 a13 h13 a14 h14 x0 x1 x2 x3 x4 x5 x6 x7 x8 x9) := by
  unfold k0_part222; with_reducible repeat' first | intro _ | apply safe_bind | exact safe_pure _ | exact safe_load | exact safe_store

theorem part223 (x0 x1 x2 x3 x4 x5 x6 x7 x8 x9) : Safe defs c R (k0_part223 i a2 h2 a3 h3 a4 h4 a5 h5 a6 h6 a7 h7 a8 h8 a9 h9 a10 h10 a11 h11 a12 h12 a13 h13 a14 h14 x0 x1 x2 x3 x4 x5 x6 x7 x8 x9) := by
  unfold k0_part223; with_reducible repeat' first | intro _ | apply safe_bind | exact safe_pure _ | exact safe_load | exact safe_store

theorem part224 (x0 x1 x2 x3 x4 x5 x6 x7 x8) : Safe defs c R (k0_part224 i a2 h2 a3 h3 a4 h4 a5 h5 a6 h6 a7 h7 a8 h8 a9 h9 a10 h10 a11 h11 a12 h12 a13 h13 a14 h14 x0 x1 x2 x3 x4 x5 x6 x7 x8) := by
  unfold k0_part224; with_reducible repeat' first | intro _ | apply safe_bind | exact safe_pure _ | exact safe_load | exact safe_store

theorem part225 (x0 x1 x2 x3 x4 x5 x6 x7 x8 x9) : Safe defs c R (k0_part225 i a2 h2 a3 h3 a4 h4 a5 h5 a6 h6 a7 h7 a8 h8 a9 h9 a10 h10 a11 h11 a12 h12 a13 h13 a14 h14 x0 x1 x2 x3 x4 x5 x6 x7 x8 x9) := by
  unfold k0_part225; with_reducible repeat' first | intro _ | apply safe_bind | exact safe_pure _ | exact safe_load | exact safe_store

theorem part226 (x0 x1 x2 x3 x4 x5 x6 x7 x8 x9) : Safe defs c R (k0_part226 i a2 h2 a3 h3 a4 h4 a5 h5 a6 h6 a7 h7 a8 h8 a9 h9 a10 h10 a11 h11 a12 h12 a13 h13 a14 h14 x0 x1 x2 x3 x4 x5 x6 x7 x8 x9) := by
  unfold k0_part226; with_reducible repeat' first | intro _ | apply safe_bind | exact safe_pure _ | exact safe_load | exact safe_store

theorem part227 (x0 x1 x2 x3 x4 x5 x6 x7 x8) : Safe defs c R (k0_part227 i a2 h2 a3 h3 a4 h4 a5 h5 a6 h6 a7 h7 a8 h8 a9 h9 a10 h10 a11 h11 a12 h12 a13 h13 a14 h14 x0 x1 x2 x3 x4 x5 x6 x7 x8) := by
  unfold k0_part227; with_reducible repeat' first | intro _ | apply safe_bind | exact safe_pure _ | exact safe_load | exact safe_store

theorem part228 (x0 x1 x2 x3 x4 x5 x6 x7 x8 x9 x10 x11 x12) : Safe defs c R (k0_part228 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part228; with_reducible repeat' first | intro _ | apply safe_bind | exact safe_pure _ | exact safe_load | exact safe_store

theorem part229 (x0 x1 x2 x3 x4 x5 x6 x7 x8) : Safe defs c R (k0_part229 i a2 h2 a3 h3 a4 h4 a5 h5 a6 h6 a7 h7 a8 h8 a9 h9 a10 h10 a11 h11 a12 h12 a13 h13 a14 h14 x0 x1 x2 x3 x4 x5 x6 x7 x8) := by
  unfold k0_part229; with_reducible repeat' first | intro _ | apply safe_bind | exact safe_pure _ | exact safe_load | exact safe_store

theorem part230 (x0 x1 x2 x3 x4 x5 x6 x7 x8 x9) : Safe defs c R (k0_part230 i a2 h2 a3 h3 a4 h4 a5 h5 a6 h6 a7 h7 a8 h8 a9 h9 a10 h10 a11 h11 a12 h12 a13 h13 a14 h14 x0 x1 x2 x3 x4 x5 x6 x7 x8 x9) := by
  unfold k0_part230; with_reducible repeat' first | intro _ | apply safe_bind | exact safe_pure _ | exact safe_load | exact safe_store

theorem part232 (x0 x1 x2 x3 x4 x5 x6 x7 x8 x9) : Safe defs c R (k0_part232 i a2 h2 a3 h3 a4 h4 a5 h5 a6 h6 a7 h7 a8 h8 a9 h9 a10 h10 a11 h11 a12 h12 a13 h13 a14 h14 x0 x1 x2 x3 x4 x5 x6 x7 x8 x9) := by
  unfold k0_part232; with_reducible repeat' first | intro _ | apply safe_bind | exact safe_pure _ | exact safe_load | exact safe_store

theorem part233 (x0 x1 x2 x3 x4 x5 x6 x7 x8) : Safe defs c R (k0_part233 i a2 h2 a3 h3 a4 h4 a5 h5 a6 h6 a7 h7 a8 h8 a9 h9 a10 h10 a11 h11 a12 h12 a13 h13 a14 h14 x0 x1 x2 x3 x4 x5 x6 x7 x8) := by
  unfold k0_part233; with_reducible repeat' first | intro _ | apply safe_bind | exact safe_pure _ | exact safe_load | exact safe_store

theorem part234 (x0 x1 x2 x3 x4 x5 x6 x7 x8 x9) : Safe defs c R (k0_part234 i a2 h2 a3 h3 a4 h4 a5 h5 a6 h6 a7 h7 a8 h8 a9 h9 a10 h10 a11 h11 a12 h12 a13 h13 a14 h14 x0 x1 x2 x3 x4 x5 x6 x7 x8 x9) := by
  unfold k0_part234; with_reducible repeat' first | intro _ | apply safe_bind | exact safe_pure _ | exact safe_load | exact safe_store

theorem part235 (x0 x1 x2 x3 x4 x5 x6 x7 x8 x9) : Safe defs c R (k0_part235 i a2 h2 a3 h3 a4 h4 a5 h5 a6 h6 a7 h7 a8 h8 a9 h9 a10 h10 a11 h11 a12 h12 a13 h13 a14 h14 x0 x1 x2 x3 x4 x5 x6 x7 x8 x9) := by
  unfold k0_part235; with_reducible repeat' first | intro _ | apply safe_bind | exact safe_pure _ | exact safe_load | exact safe_store

theorem part236 (x0 x1 x2 x3 x4 x5 x6 x7 x8) : Safe defs c R (k0_part236 i a2 h2 a3 h3 a4 h4 a5 h5 a6 h6 a7 h7 a8 h8 a9 h9 a10 h10 a11 h11 a12 h12 a13 h13 a14 h14 x0 x1 x2 x3 x4 x5 x6 x7 x8) := by
  unfold k0_part236; with_reducible repeat' first | intro _ | apply safe_bind | exact safe_pure _ | exact safe_load | exact safe_store

theorem part237 (x0 x1 x2 x3 x4 x5 x6 x7 x8 x9) : Safe defs c R (k0_part237 i a2 h2 a3 h3 a4 h4 a5 h5 a6 h6 a7 h7 a8 h8 a9 h9 a10 h10 a11 h11 a12 h12 a13 h13 a14 h14 x0 x1 x2 x3 x4 x5 x6 x7 x8 x9) := by
  unfold k0_part237; with_reducible repeat' first | intro _ | apply safe_bind | exact safe_pure _ | exact safe_load | exact safe_store

theorem part238 (x0 x1 x2 x3 x4 x5 x6 x7 x8 x9) : Safe defs c R (k0_part238 i a2 h2 a3 h3 a4 h4 a5 h5 a6 h6 a7 h7 a8 h8 a9 h9 a10 h10 a11 h11 a12 h12 a13 h13 a14 h14 x0 x1 x2 x3 x4 x5 x6 x7 x8 x9) := by
  unfold k0_part238; with_reducible repeat' first | intro _ | apply safe_bind | exact safe_pure _ | exact safe_load | exact safe_store

theorem part239 (x0 x1 x2 x3 x4 x5 x6 x7 x8) : Safe defs c R (k0_part239 i a2 h2 a3 h3 a4 h4 a5 h5 a6 h6 a7 h7 a8 h8 a9 h9 a10 h10 a11 h11 a12 h12 a13 h13 a14 h14 x0 x1 x2 x3 x4 x5 x6 x7 x8) := by
  unfold k0_part239; with_reducible repeat' first | intro _ | apply safe_bind | exact safe_pure _ | exact safe_load | exact safe_store

theorem part240 (x0 x1 x2 x3 x4 x5 x6 x7 x8 x9 x10 x11 x12) : Safe defs c R (k0_part240 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part240; with_reducible repeat' first | intro _ | apply safe_bind | exact safe_pure _ | exact safe_load | exact safe_store

theorem part241 (x0 x1 x2 x3 x4 x5 x6 x7 x8) : Safe defs c R (k0_part241 i a2 h2 a3 h3 a4 h4 a5 h5 a6 h6 a7 h7 a8 h8 a9 h9 a10 h10 a11 h11 a12 h12 a13 h13 a14 h14 x0 x1 x2 x3 x4 x5 x6 x7 x8) := by
  unfold k0_part241; with_reducible repeat' first | intro _ | apply safe_bind | exact safe_pure _ | exact safe_load | exact safe_store

theorem part242 (x0 x1 x2 x3 x4 x5 x6 x7 x8 x9) : Safe defs c R (k0_part242 i a2 h2 a3 h3 a4 h4 a5 h5 a6 h6 a7 h7 a8 h8 a9 h9 a10 h10 a11 h11 a12 h12 a13 h13 a14 h14 x0 x1 x2 x3 x4 x5 x6 x7 x8 x9) := by
  unfold k0_part242; with_reducible repeat' first | intro _ | apply safe_bind | exact safe_pure _ | exact safe_load | exact safe_store

theorem part244 (x0 x1 x2 x3 x4 x5 x6 x7 x8) : Safe defs c R (k0_part244 i a2 h2 a3 h3 a4 h4 a5 h5 a6 h6 a7 h7 a8 h8 a9 h9 a10 h10 a11 h11 a12 h12 a13 h13 a14 h14 x0 x1 x2 x3 x4 x5 x6 x7 x8) := by
  unfold k0_part244; with_reducible repeat' first | intro _ | apply safe_bind | exact safe_pure _ | exact safe_load | exact safe_store

theorem part245 (x0 x1 x2 x3 x4 x5 x6 x7 x8) : Safe defs c R (k0_part245 i a2 h2 a3 h3 a4 h4 a5 h5 a6 h6 a7 h7 a8 h8 a9 h9 a10 h10 a11 h11 a12 h12 a13 h13 a14 h14 x0 x1 x2 x3 x4 x5 x6 x7 x8) := by
  unfold k0_part245; with_reducible repeat' first | intro _ | apply safe_bind | exact safe_pure _ | exact safe_load | exact safe_store

theorem part246 (x0 x1 x2 x3 x4 x5 x6 x7 x8 x9 x10 x11) : Safe defs c R (k0_part246 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part246; with_reducible repeat' first | intro _ | apply safe_bind | exact safe_pure _ | exact safe_load | exact safe_store

theorem part247 (x0 x1 x2 x3 x4 x5 x6 x7 x8) : Safe defs c R (k0_part247 i a2 h2 a3 h3 a4 h4 a5 h5 a6 h6 a7 h7 a8 h8 a9 h9 a10 h10 a11 h11 a12 h12 a13 h13 a14 h14 x0 x1 x2 x3 x4 x5 x6 x7 x8) := by
  unfold k0_part247; with_reducible repeat' first | intro _ | apply safe_bind | exact safe_pure _ | exact safe_load | exact safe_store

theorem part248 (x0 x1 x2 x3 x4 x5 x6 x7 x8 x9) : Safe defs c R (k0_part248 i a2 h2 a3 h3 a4 h4 a5 h5 a6 h6 a7 h7 a8 h8 a9 h9 a10 h10 a11 h11 a12 h12 a13 h13 a14 h14 x0 x1 x2 x3 x4 x5 x6 x7 x8 x9) := by
  unfold k0_part248; with_reducible repeat' first | intro _ | apply safe_bind | exact safe_pure _ | exact safe_load | exact safe_store

theorem part250 (x0 x1 x2 x3 x4 x5 x6 x7 x8) : Safe defs c R (k0_part250 i a2 h2 a3 h3 a4 h4 a5 h5 a6 h6 a7 h7 a8 h8 a9 h9 a10 h10 a11 h11 a12 h12 a13 h13 a14 h14 x0 x1 x2 x3 x4 x5 x6 x7 x8) := by
  unfold k0_part250; with_reducible repeat' first | intro _ | apply safe_bind | exact safe_pure _ | exact safe_load | exact safe_store

theorem part251 (x0 x1 x2 x3 x4 x5 x6 x7 x8) : Safe defs c R (k0_part251 i a2 h2 a3 h3 a4 h4 a5 h5 a6 h6 a7 h7 a8 h8 a9 h9 a10 h10 a11 h11 a12 h12 a13 h13 a14 h14 x0 x1 x2 x3 x4 x5 x6 x7 x8) := by
  unfold k0_part251; with_reducible repeat' first | intro _ | apply safe_bind | exact safe_pure _ | exact safe_load | exact safe_store

theorem part254 (x0 x1 x2 x3 x4 x5 x6) : Safe defs c R (k0_part254 i a2 h2 a3 h3 a4 h4 a5 h5 a6 h6 a7 h7 a8 h8 a9 h9 a10 h10 a11 h11 a12 h12 a13 h13 a14 h14 x0 x1 x2 x3 x4 x5 x6) := by
  unfold k0_part254; with_reducible repeat' first | intro _ | apply safe_bind | exact safe_pure _ | exact safe_load | exact safe_store

theorem part255 (x0 x1 x2 x3 x4 x5 x6 x7) : Safe defs c R (k0_part255 i a2 h2 a3 h3 a4 h4 a5 h5 a6 h6 a7 h7 a8 h8 a9 h9 a10 h10 a11 h11 a12 h12 a13 h13 a14 h14 x0 x1 x2 x3 x4 x5 x6 x7) := by
  unfold k0_part255; with_reducible repeat' first | intro _ | apply safe_bind | exact safe_pure _ | exact safe_load | exact safe_store

theorem part256 (x0 x1 x2 x3 x4 x5 x6 x7) : Safe defs c R (k0_part256 i a2 h2 a3 h3 a4 h4 a5 h5 a6 h6 a7 h7 a8 h8 a9 h9 a10 h10 a11 h11 a12 h12 a13 h13 a14 h14 x0 x1 x2 x3 x4 x5 x6 x7) := by
  unfold k0_part256; with_reducible repeat' first | intro _ | apply safe_bind | exact safe_pure _ | exact safe_load | exact safe_store

theorem part257 (x0 x1 x2 x3 x4 x5 x6 x7) : Safe defs c R (k0_part257 i a2 h2 a3 h3 a4 h4 a5 h5 a6 h6 a7 h7 a8 h8 a9 h9 a10 h10 a11 h11 a12 h12 a13 h13 a14 h14 x0 x1 x2 x3 x4 x5 x6 x7) := by
  unfold k0_part257; with_reducible repeat' first | intro _ | apply safe_bind | exact safe_pure _ | exact safe_load | exact safe_store

theorem part258 (x0 x1 x2 x3 x4 x5 x6 x7) : Safe defs c R (k0_part258 i a2 h2 a3 h3 a4 h4 a5 h5 a6 h6 a7 h7 a8 h8 a9 h9 a10 h10 a11 h11 a12 h12 a13 h13 a14 h14 x0 x1 x2 x3 x4 x5 x6 x7) := by
  unfold k0_part258; with_reducible repeat' first | intro _ | apply safe_bind | exact safe_pure _ | exact safe_load | exact safe_store

theorem part259 (x0 x1 x2 x3 x4 x5 x6 x7) : Safe defs c R (k0_part259 i a2 h2 a3 h3 a4 h4 a5 h5 a6 h6 a7 h7 a8 h8 a9 h9 a10 h10 a11 h11 a12 h12 a13 h13 a14 h14 x0 x1 x2 x3 x4 x5 x6 x7) := by
  unfold k0_part259; with_reducible repeat' first | intro _ | apply safe_bind | exact safe_pure _ | exact safe_load | exact safe_store

theorem part260 (x0 x1 x2 x3 x4 x5 x6 x7) : Safe defs c R (k0_part260 i a2 h2 a3 h3 a4 h4 a5 h5 a6 h6 a7 h7 a8 h8 a9 h9 a10 h10 a11 h11 a12 h12 a13 h13 a14 h14 x0 x1 x2 x3 x4 x5 x6 x7) := by
  unfold k0_part260; with_reducible repeat' first | intro _ | apply safe_bind | exact safe_pure _ | exact safe_load | exact safe_store

theorem part261 (x0 x1 x2 x3 x4 x5 x6 x7) : Safe defs c R (k0_part261 i a2 h2 a3 h3 a4 h4 a5 h5 a6 h6 a7 h7 a8 h8 a9 h9 a10 h10 a11 h11 a12 h12 a13 h13 a14 h14 x0 x1 x2 x3 x4 x5 x6 x7) := by
  unfold k0_part261; with_reducible repeat' first | intro _ | apply safe_bind | exact safe_pure _ | exact safe_load | exact safe_store

theorem part262 (x0 x1 x2 x3 x4 x5 x6) : Safe defs c R (k0_part262 i a2 h2 a3 h3 a4 h4 a5 h5 a6 h6 a7 h7 a8 h8 a9 h9 a10 h10 a11 h11 a12 h12 a13 h13 a14 h14 x0 x1 x2 x3 x4 x5 x6) := by
  unfold k0_part262; with_reducible repeat' first | intro _ | apply safe_bind | exact safe_pure _ | exact safe_load | exact safe_store

theorem part263 (x0 x1 x2 x3 x4 x5 x6 x7) : Safe defs c R (k0_part263 i a2 h2 a3 h3 a4 h4 a5 h5 a6 h6 a7 h7 a8 h8 a9 h9 a10 h10 a11 h11 a12 h12 a13 h13 a14 h14 x0 x1 x2 x3 x4 x5 x6 x7) := by
  unfold k0_part263; with_reducible repeat' first | intro _ | apply safe_bind | exact safe_pure _ | exact safe_load | exact safe_store

theorem part264 (x0 x1 x2 x3 x4 x5 x6 x7) : Safe defs c R (k0_part264 i a2 h2 a3 h3 a4 h4 a5 h5 a6 h6 a7 h7 a8 h8 a9 h9 a10 h10 a11 h11 a12 h12 a13 h13 a14 h14 x0 x1 x2 x3 x4 x5 x6 x7) := by
  unfold k0_part264; with_reducible repeat' first | intro _ | apply safe_bind | exact safe_pure _ | exact safe_load | exact safe_store

theorem part265 (x0 x1 x2 x3 x4 x5 x6 x7) : Safe defs c R (k0_part265 i a2 h2 a3 h3 a4 h4 a5 h5 a6 h6 a7 h7 a8 h8 a9 h9 a10 h10 a11 h11 a12 h12 a13 h13 a14 h14 x0 x1 x2 x3 x4 x5 x6 x7) := by
  unfold k0_part265; with_reducible repeat' first | intro _ | apply safe_bind | exact safe_pure _ | exact safe_load | exact safe_store

theorem part266 (x0 x1 x2 x3 x4 x5 x6 x7) : Safe defs c R (k0_part266 i a2 h2 a3 h3 a4 h4 a5 h5 a6 h6 a7 h7 a8 h8 a9 h9 a10 h10 a11 h11 a12 h12 a13 h13 a14 h14 x0 x1 x2 x3 x4 x5 x6 x7) := by
  unfold k0_part266; with_reducible repeat' first | intro _ | apply safe_bind | exact safe_pure _ | exact safe_load | exact safe_store

theorem part267 (x0 x1 x2 x3 x4 x5 x6 x7) : Safe defs c R (k0_part267 i a2 h2 a3 h3 a4 h4 a5 h5 a6 h6 a7 h7 a8 h8 a9 h9 a10 h10 a11 h11 a12 h12 a13 h13 a14 h14 x0 x1 x2 x3 x4 x5 x6 x7) := by
  unfold k0_part267; with_reducible repeat' first | intro _ | apply safe_bind | exact safe_pure _ | exact safe_load | exact safe_store

theorem part268 (x0 x1 x2 x3 x4 x5 x6 x7) : Safe defs c R (k0_part268 i a2 h2 a3 h3 a4 h4 a5 h5 a6 h6 a7 h7 a8 h8 a9 h9 a10 h10 a11 h11 a12 h12 a13 h13 a14 h14 x0 x1 x2 x3 x4 x5 x6 x7) := by
  unfold k0_part268; with_reducible repeat' first | intro _ | apply safe_bind | exact safe_pure _ | exact safe_load | exact safe_store

theorem part269 (x0 x1 x2 x3 x4 x5 x6 x7) : Safe defs c R (k0_part269 i a2 h2 a3 h3 a4 h4 a5 h5 a6 h6 a7 h7 a8 h8 a9 h9 a10 h10 a11 h11 a12 h12 a13 h13 a14 h14 x0 x1 x2 x3 x4 x5 x6 x7) := by
  unfold k0_part269; with_reducible repeat' first | intro _ | apply safe_bind | exact safe_pure _ | exact safe_load | exact safe_store

theorem part270 (x0 x1 x2 x3) : Safe defs c R (k0_part270 i a2 h2 a3 h3 a4 h4 a5 h5 a6 h6 a7 h7 a8 h8 a9 h9 a10 h10 a11 h11 a12 h12 a13 h13 a14 h14 x0 x1 x2 x3) := by
  unfold k0_part270; with_reducible repeat' first | intro _ | apply safe_bind | exact safe_pure _ | exact safe_load | exact safe_store

theorem part271 (x0 x1 x2 x3 x4 x5 x6 x7 x8 x9 x10 x11 x12 x13 x14 x15 x16 x17 x18 x19 x20 x21) : Safe defs c R (k0_part271 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part271; with_reducible repeat' first | intro _ | apply safe_bind | exact safe_pure _ | exact safe_load | exact safe_store

theorem part272 (x0 x1 x2 x3 x4) : Safe defs c R (k0_part272 i a2 h2 a3 h3 a4 h4 a5 h5 a6 h6 a7 h7 a8 h8 a9 h9 a10 h10 a11 h11 a12 h12 a13 h13 a14 h14 x0 x1 x2 x3 x4) := by
  unfold k0_part272; with_reducible repeat' first | intro _ | apply safe_bind | exact safe_pure _ | exact safe_load | exact safe_store

theorem part273 (x0 x1 x2 x3 x4 x5 x6 x7 x8 x9 x10 x11 x12 x13 x14 x15 x16 x17 x18 x19 x20 x21) : Safe defs c R (k0_part273 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part273; with_reducible repeat' first | intro _ | apply safe_bind | exact safe_pure _ | exact safe_load | exact safe_store

theorem part274 (x0 x1 x2 x3 x4 x5 x6 x7 x8 x9 x10 x11 x12 x13 x14 x15 x16 x17 x18 x19) : Safe defs c R (k0_part274 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part274; with_reducible repeat' first | intro _ | apply safe_bind | exact safe_pure _ | exact safe_load | exact safe_store

theorem part275 (x0 x1 x2 x3 x4 x5) : Safe defs c R (k0_part275 i a2 h2 a3 h3 a4 h4 a5 h5 a6 h6 a7 h7 a8 h8 a9 h9 a10 h10 a11 h11 a12 h12 a13 h13 a14 h14 x0 x1 x2 x3 x4 x5) := by
  unfold k0_part275; with_reducible repeat' first | intro _ | apply safe_bind | exact safe_pure _ | exact safe_load | exact safe_store

theorem part276 (x0 x1 x2 x3 x4 x5 x6 x7 x8 x9 x10 x11 x12 x13 x14 x15 x16 x17 x18 x19 x20 x21 x22) : Safe defs c R (k0_part276 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part276; with_reducible repeat' first | intro _ | apply safe_bind | exact safe_pure _ | exact safe_load | exact safe_store

theorem part277 (x0 x1 x2) : Safe defs c R (k0_part277 i a2 h2 a3 h3 a4 h4 a5 h5 a6 h6 a7 h7 a8 h8 a9 h9 a10 h10 a11 h11 a12 h12 a13 h13 a14 h14 x0 x1 x2) := by
  unfold k0_part277; with_reducible repeat' first | intro _ | apply safe_bind | exact safe_pure _ | exact safe_load | exact safe_store

theorem part278 (x0 x1 x2 x3 x4 x5 x6) : Safe defs c R (k0_part278 i a2 h2 a3 h3 a4 h4 a5 h5 a6 h6 a7 h7 a8 h8 a9 h9 a10 h10 a11 h11 a12 h12 a13 h13 a14 h14 x0 x1 x2 x3 x4 x5 x6) := by
  unfold k0_part278; with_reducible repeat' first | intro _ | apply safe_bind | exact safe_pure _ | exact safe_load | exact safe_store

theorem part279 (x0 x1 x2 x3 x4 x5 x6 x7 x8 x9 x10 x11 x12 x13 x14 x15 x16 x17 x18 x19 x20 x21 x22 x23 x24 x25 x26 x27 x28 x29 x30 x31 x32 x33 x34 x35 x36) : Safe defs c R (k0_part279 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35 x36) := by
  unfold k0_part279; with_reducible repeat' first | intro _ | apply safe_bind | exact safe_pure _ | exact safe_load | exact safe_store

theorem part280 (x0) : Safe defs c R (k0_part280 i a2 h2 a3 h3 a4 h4 a5 h5 a6 h6 a7 h7 a8 h8 a9 h9 a10 h10 a11 h11 a12 h12 a13 h13 a14 h14 x0) := by
  unfold k0_part280; with_reducible repeat' first | intro _ | apply safe_bind | exact safe_pure _ | exact safe_load | exact safe_store

theorem part281 (x0 x1 x2 x3 x4 x5 x6 x7 x8) : Safe defs c R (k0_part281 i a2 h2 a3 h3 a4 h4 a5 h5 a6 h6 a7 h7 a8 h8 a9 h9 a10 h10 a11 h11 a12 h12 a13 h13 a14 h14 x0 x1 x2 x3 x4 x5 x6 x7 x8) := by
  unfold k0_part281; with_reducible repeat' first | intro _ | apply safe_bind | exact safe_pure _ | exact safe_load | exact safe_store

theorem part282 (x0 x1 x2 x3 x4 x5 x6 x7 x8 x9 x10 x11 x12 x13 x14 x15 x16 x17 x18 x19 x20 x21 x22 x23 x24 x25 x26 x27 x28 x29 x30 x31 x32 x33) : Safe defs c R (k0_part282 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part282; with_reducible repeat' first | intro _ | apply safe_bind | exact safe_pure _ | exact safe_load | exact safe_store

theorem part283 (x0 x1 x2 x3) : Safe defs c R (k0_part283 i a2 h2 a3 h3 a4 h4 a5 h5 a6 h6 a7 h7 a8 h8 a9 h9 a10 h10 a11 h11 a12 h12 a13 h13 a14 h14 x0 x1 x2 x3) := by
  unfold k0_part283; with_reducible repeat' first | intro _ | apply safe_bind | exact safe_pure _ | exact safe_load | exact safe_store

theorem part284 (x0 x1 x2 x3 x4 x5 x6 x7 x8 x9 x10 x11 x12 x13 x14 x15 x16 x17 x18 x19 x20 x21 x22) : Safe defs c R (k0_part284 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part284; with_reducible repeat' first | intro _ | apply safe_bind | exact safe_pure _ | exact safe_load | exact safe_store

theorem part285 (x0 x1 x2 x3 x4 x5 x6 x7 x8 x9 x10 x11 x12 x13 x14 x15 x16 x17 x18) : Safe defs c R (k0_part285 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part285; with_reducible repeat' first | intro _ | apply safe_bind | exact safe_pure _ | exact safe_load | exact safe_store

theorem part286 (x0 x1 x2 x3 x4) : Safe defs c R (k0_part286 i a2 h2 a3 h3 a4 h4 a5 h5 a6 h6 a7 h7 a8 h8 a9 h9 a10 h10 a11 h11 a12 h12 a13 h13 a14 h14 x0 x1 x2 x3 x4) := by
  unfold k0_part286; with_reducible repeat' first | intro _ | apply safe_bind | exact safe_pure _ | exact safe_load | exact safe_store

theorem part287 (x0 x1 x2 x3 x4 x5 x6 x7 x8 x9 x10 x11 x12 x13 x14 x15 x16 x17 x18 x19 x20 x21 x22 x23 x24) : Safe defs c R (k0_part287 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part287; with_reducible repeat' first | intro _ | apply safe_bind | exact safe_pure _ | exact safe_load | exact safe_store

theorem part288 (x0 x1 x2 x3 x4 x5 x6 x7 x8 x9 x10 x11 x12 x13 x14 x15 x16 x17) : Safe defs c R (k0_part288 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part288; with_reducible repeat' first | intro _ | apply safe_bind | exact safe_pure _ | exact safe_load | exact safe_store

theorem part289 (x0 x1 x2) : Safe defs c R (k0_part289 i a2 h2 a3 h3 a4 h4 a5 h5 a6 h6 a7 h7 a8 h8 a9 h9 a10 h10 a11 h11 a12 h12 a13 h13 a14 h14 x0 x1 x2) := by
  unfold k0_part289; with_reducible repeat' first | intro _ | apply safe_bind | exact safe_pure _ | exact safe_load | exact safe_store

theorem part290 (x0 x1 x2 x3 x4 x5 x6 x7 x8 x9 x10 x11 x12 x13 x14 x15 x16 x17 x18 x19 x20 x21 x22 x23 x24 x25 x26 x27 x28 x29 x30 x31 x32 x33 x34 x35) : Safe defs c R (k0_part290 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part290; with_reducible repeat' first | intro _ | apply safe_bind | exact safe_pure _ | exact safe_load | exact safe_store

theorem part291 (x0 x1 x2) : Safe defs c R (k0_part291 i a2 h2 a3 h3 a4 h4 a5 h5 a6 h6 a7 h7 a8 h8 a9 h9 a10 h10 a11 h11 a12 h12 a13 h13 a14 h14 x0 x1 x2) := by
  unfold k0_part291; with_reducible repeat' first | intro _ | apply safe_bind | exact safe_pure _ | exact safe_load | exact safe_store

end Cert.Proof.Keep

end
-- ==== Proof.Keep.Straight5.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part292 (x0 x1 x2 x3 x4 x5 x6 x7 x8 x9) : Safe defs c R (k0_part292 i a2 h2 a3 h3 a4 h4 a5 h5 a6 h6 a7 h7 a8 h8 a9 h9 a10 h10 a11 h11 a12 h12 a13 h13 a14 h14 x0 x1 x2 x3 x4 x5 x6 x7 x8 x9) := by
  unfold k0_part292; with_reducible repeat' first | intro _ | apply safe_bind | exact safe_pure _ | exact safe_load | exact safe_store

theorem part293 (x0 x1 x2 x3 x4 x5 x6 x7 x8 x9 x10 x11 x12 x13 x14 x15 x16 x17 x18 x19 x20 x21 x22 x23 x24 x25 x26 x27 x28 x29 x30 x31 x32 x33) : Safe defs c R (k0_part293 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part293; with_reducible repeat' first | intro _ | apply safe_bind | exact safe_pure _ | exact safe_load | exact safe_store

theorem part294 (x0 x1 x2) : Safe defs c R (k0_part294 i a2 h2 a3 h3 a4 h4 a5 h5 a6 h6 a7 h7 a8 h8 a9 h9 a10 h10 a11 h11 a12 h12 a13 h13 a14 h14 x0 x1 x2) := by
  unfold k0_part294; with_reducible repeat' first | intro _ | apply safe_bind | exact safe_pure _ | exact safe_load | exact safe_store

theorem part295 (x0 x1 x2 x3 x4 x5 x6 x7 x8 x9 x10) : Safe defs c R (k0_part295 i a2 h2 a3 h3 a4 h4 a5 h5 a6 h6 a7 h7 a8 h8 a9 h9 a10 h10 a11 h11 a12 h12 a13 h13 a14 h14 x0 x1 x2 x3 x4 x5 x6 x7 x8 x9 x10) := by
  unfold k0_part295; with_reducible repeat' first | intro _ | apply safe_bind | exact safe_pure _ | exact safe_load | exact safe_store

theorem part296 (x0 x1 x2 x3 x4 x5 x6 x7 x8 x9 x10 x11 x12 x13 x14 x15 x16 x17) : Safe defs c R (k0_part296 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part296; with_reducible repeat' first | intro _ | apply safe_bind | exact safe_pure _ | exact safe_load | exact safe_store

theorem part297 (x0 x1 x2 x3 x4) : Safe defs c R (k0_part297 i a2 h2 a3 h3 a4 h4 a5 h5 a6 h6 a7 h7 a8 h8 a9 h9 a10 h10 a11 h11 a12 h12 a13 h13 a14 h14 x0 x1 x2 x3 x4) := by
  unfold k0_part297; with_reducible repeat' first | intro _ | apply safe_bind | exact safe_pure _ | exact safe_load | exact safe_store

theorem part298 (x0 x1 x2 x3 x4 x5 x6 x7 x8 x9 x10 x11 x12 x13 x14 x15 x16 x17 x18 x19 x20 x21 x22 x23 x24 x25) : Safe defs c R (k0_part298 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part298; with_reducible repeat' first | intro _ | apply safe_bind | exact safe_pure _ | exact safe_load | exact safe_store

theorem part299 (x0 x1 x2 x3 x4 x5 x6 x7 x8 x9 x10 x11 x12 x13 x14 x15) : Safe defs c R (k0_part299 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15) := by
  unfold k0_part299; with_reducible repeat' first | intro _ | apply safe_bind | exact safe_pure _ | exact safe_load | exact safe_store

theorem part300 (x0 x1 x2 x3) : Safe defs c R (k0_part300 i a2 h2 a3 h3 a4 h4 a5 h5 a6 h6 a7 h7 a8 h8 a9 h9 a10 h10 a11 h11 a12 h12 a13 h13 a14 h14 x0 x1 x2 x3) := by
  unfold k0_part300; with_reducible repeat' first | intro _ | apply safe_bind | exact safe_pure _ | exact safe_load | exact safe_store

theorem part301 (x0 x1 x2 x3 x4 x5 x6 x7 x8 x9 x10 x11 x12 x13 x14 x15 x16 x17 x18 x19 x20 x21 x22 x23 x24 x25 x26) : Safe defs c R (k0_part301 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part301; with_reducible repeat' first | intro _ | apply safe_bind | exact safe_pure _ | exact safe_load | exact safe_store

theorem part302 (x0 x1) : Safe defs c R (k0_part302 i a2 h2 a3 h3 a4 h4 a5 h5 a6 h6 a7 h7 a8 h8 a9 h9 a10 h10 a11 h11 a12 h12 a13 h13 a14 h14 x0 x1) := by
  unfold k0_part302; with_reducible repeat' first | intro _ | apply safe_bind | exact safe_pure _ | exact safe_load | exact safe_store

theorem part303 (x0 x1 x2 x3 x4 x5 x6 x7 x8 x9 x10) : Safe defs c R (k0_part303 i a2 h2 a3 h3 a4 h4 a5 h5 a6 h6 a7 h7 a8 h8 a9 h9 a10 h10 a11 h11 a12 h12 a13 h13 a14 h14 x0 x1 x2 x3 x4 x5 x6 x7 x8 x9 x10) := by
  unfold k0_part303; with_reducible repeat' first | intro _ | apply safe_bind | exact safe_pure _ | exact safe_load | exact safe_store

theorem part304 (x0 x1 x2 x3 x4 x5 x6 x7 x8 x9 x10 x11 x12 x13 x14 x15 x16 x17 x18 x19 x20 x21 x22 x23 x24 x25 x26 x27 x28 x29 x30 x31 x32) : Safe defs c R (k0_part304 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part304; with_reducible repeat' first | intro _ | apply safe_bind | exact safe_pure _ | exact safe_load | exact safe_store

theorem part305 (x0 x1) : Safe defs c R (k0_part305 i a2 h2 a3 h3 a4 h4 a5 h5 a6 h6 a7 h7 a8 h8 a9 h9 a10 h10 a11 h11 a12 h12 a13 h13 a14 h14 x0 x1) := by
  unfold k0_part305; with_reducible repeat' first | intro _ | apply safe_bind | exact safe_pure _ | exact safe_load | exact safe_store

theorem part306 (x0 x1 x2 x3 x4 x5 x6 x7 x8 x9 x10 x11 x12) : Safe defs c R (k0_part306 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part306; with_reducible repeat' first | intro _ | apply safe_bind | exact safe_pure _ | exact safe_load | exact safe_store

theorem part307 (x0 x1 x2 x3 x4 x5 x6 x7 x8 x9 x10 x11 x12 x13 x14 x15 x16 x17 x18 x19 x20 x21 x22 x23 x24 x25 x26 x27 x28 x29) : Safe defs c R (k0_part307 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part307; with_reducible repeat' first | intro _ | apply safe_bind | exact safe_pure _ | exact safe_load | exact safe_store

theorem part308 (x0 x1 x2 x3) : Safe defs c R (k0_part308 i a2 h2 a3 h3 a4 h4 a5 h5 a6 h6 a7 h7 a8 h8 a9 h9 a10 h10 a11 h11 a12 h12 a13 h13 a14 h14 x0 x1 x2 x3) := by
  unfold k0_part308; with_reducible repeat' first | intro _ | apply safe_bind | exact safe_pure _ | exact safe_load | exact safe_store

theorem part309 (x0 x1 x2 x3 x4 x5 x6 x7 x8 x9 x10 x11 x12 x13 x14 x15 x16 x17 x18 x19 x20 x21 x22 x23 x24 x25 x26) : Safe defs c R (k0_part309 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part309; with_reducible repeat' first | intro _ | apply safe_bind | exact safe_pure _ | exact safe_load | exact safe_store

theorem part310 (x0 x1 x2 x3 x4 x5 x6 x7 x8 x9 x10 x11 x12 x13 x14) : Safe defs c R (k0_part310 i a2 h2 a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part310; with_reducible repeat' first | intro _ | apply safe_bind | exact safe_pure _ | exact safe_load | exact safe_store

theorem part311 (x0 x1 x2 x3) : Safe defs c R (k0_part311 i a2 h2 a3 h3 a4 h4 a5 h5 a6 h6 a7 h7 a8 h8 a9 h9 a10 h10 a11 h11 a12 h12 a13 h13 a14 h14 x0 x1 x2 x3) := by
  unfold k0_part311; with_reducible repeat' first | intro _ | apply safe_bind | exact safe_pure _ | exact safe_load | exact safe_store

theorem part312 (x0 x1 x2 x3 x4 x5 x6 x7 x8 x9 x10 x11 x12 x13 x14 x15 x16 x17 x18 x19 x20 x21 x22 x23 x24 x25 x26 x27 x28) : Safe defs c R (k0_part312 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28) := by
  unfold k0_part312; with_reducible repeat' first | intro _ | apply safe_bind | exact safe_pure _ | exact safe_load | exact safe_store

theorem part313 (x0 x1 x2 x3 x4 x5 x6 x7 x8 x9 x10 x11) : Safe defs c R (k0_part313 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part313; with_reducible repeat' first | intro _ | apply safe_bind | exact safe_pure _ | exact safe_load | exact safe_store

theorem part314 (x0 x1 x2) : Safe defs c R (k0_part314 i a2 h2 a3 h3 a4 h4 a5 h5 a6 h6 a7 h7 a8 h8 a9 h9 a10 h10 a11 h11 a12 h12 a13 h13 a14 h14 x0 x1 x2) := by
  unfold k0_part314; with_reducible repeat' first | intro _ | apply safe_bind | exact safe_pure _ | exact safe_load | exact safe_store

theorem part315 (x0 x1 x2 x3 x4 x5 x6 x7 x8 x9 x10 x11 x12 x13 x14 x15 x16 x17 x18 x19 x20 x21 x22 x23 x24 x25 x26 x27 x28 x29 x30 x31) : Safe defs c R (k0_part315 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31) := by
  unfold k0_part315; with_reducible repeat' first | intro _ | apply safe_bind | exact safe_pure _ | exact safe_load | exact safe_store

theorem part316 (x0 x1) : Safe defs c R (k0_part316 i a2 h2 a3 h3 a4 h4 a5 h5 a6 h6 a7 h7 a8 h8 a9 h9 a10 h10 a11 h11 a12 h12 a13 h13 a14 h14 x0 x1) := by
  unfold k0_part316; with_reducible repeat' first | intro _ | apply safe_bind | exact safe_pure _ | exact safe_load | exact safe_store

theorem part317 (x0 x1 x2 x3 x4 x5 x6 x7 x8 x9 x10 x11 x12 x13) : Safe defs c R (k0_part317 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part317; with_reducible repeat' first | intro _ | apply safe_bind | exact safe_pure _ | exact safe_load | exact safe_store

theorem part318 (x0 x1 x2 x3 x4 x5 x6 x7 x8 x9 x10 x11 x12 x13 x14 x15 x16 x17 x18 x19 x20 x21 x22 x23 x24 x25 x26 x27 x28 x29) : Safe defs c R (k0_part318 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part318; with_reducible repeat' first | intro _ | apply safe_bind | exact safe_pure _ | exact safe_load | exact safe_store

theorem part319 (x0 x1 x2) : Safe defs c R (k0_part319 i a2 h2 a3 h3 a4 h4 a5 h5 a6 h6 a7 h7 a8 h8 a9 h9 a10 h10 a11 h11 a12 h12 a13 h13 a14 h14 x0 x1 x2) := by
  unfold k0_part319; with_reducible repeat' first | intro _ | apply safe_bind | exact safe_pure _ | exact safe_load | exact safe_store

theorem part321 (x0 x1 x2 x3) : Safe defs c R (k0_part321 i a2 h2 a3 h3 a4 h4 a5 h5 a6 h6 a7 h7 a8 h8 a9 h9 a10 h10 a11 h11 a12 h12 a13 h13 a14 h14 x0 x1 x2 x3) := by
  unfold k0_part321; with_reducible repeat' first | intro _ | apply safe_bind | exact safe_pure _ | exact safe_load | exact safe_store

theorem part322 (x0 x1 x2 x3 x4 x5 x6 x7 x8 x9 x10 x11 x12 x13 x14 x15 x16 x17 x18 x19 x20 x21) : Safe defs c R (k0_part322 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part322; with_reducible repeat' first | intro _ | apply safe_bind | exact safe_pure _ | exact safe_load | exact safe_store

theorem part323 (x0 x1 x2 x3 x4) : Safe defs c R (k0_part323 i a2 h2 a3 h3 a4 h4 a5 h5 a6 h6 a7 h7 a8 h8 a9 h9 a10 h10 a11 h11 a12 h12 a13 h13 a14 h14 x0 x1 x2 x3 x4) := by
  unfold k0_part323; with_reducible repeat' first | intro _ | apply safe_bind | exact safe_pure _ | exact safe_load | exact safe_store

theorem part324 (x0 x1 x2 x3 x4 x5 x6 x7 x8 x9 x10 x11 x12 x13 x14 x15 x16 x17 x18 x19 x20 x21) : Safe defs c R (k0_part324 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part324; with_reducible repeat' first | intro _ | apply safe_bind | exact safe_pure _ | exact safe_load | exact safe_store

theorem part325 (x0 x1 x2 x3 x4 x5 x6 x7 x8 x9 x10 x11 x12 x13 x14 x15 x16 x17 x18 x19) : Safe defs c R (k0_part325 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part325; with_reducible repeat' first | intro _ | apply safe_bind | exact safe_pure _ | exact safe_load | exact safe_store

theorem part326 (x0 x1 x2 x3 x4 x5) : Safe defs c R (k0_part326 i a2 h2 a3 h3 a4 h4 a5 h5 a6 h6 a7 h7 a8 h8 a9 h9 a10 h10 a11 h11 a12 h12 a13 h13 a14 h14 x0 x1 x2 x3 x4 x5) := by
  unfold k0_part326; with_reducible repeat' first | intro _ | apply safe_bind | exact safe_pure _ | exact safe_load | exact safe_store

theorem part327 (x0 x1 x2 x3 x4 x5 x6 x7 x8 x9 x10 x11 x12 x13 x14 x15 x16 x17 x18 x19 x20 x21 x22) : Safe defs c R (k0_part327 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part327; with_reducible repeat' first | intro _ | apply safe_bind | exact safe_pure _ | exact safe_load | exact safe_store

theorem part328 (x0 x1 x2) : Safe defs c R (k0_part328 i a2 h2 a3 h3 a4 h4 a5 h5 a6 h6 a7 h7 a8 h8 a9 h9 a10 h10 a11 h11 a12 h12 a13 h13 a14 h14 x0 x1 x2) := by
  unfold k0_part328; with_reducible repeat' first | intro _ | apply safe_bind | exact safe_pure _ | exact safe_load | exact safe_store

theorem part329 (x0 x1 x2 x3 x4 x5 x6) : Safe defs c R (k0_part329 i a2 h2 a3 h3 a4 h4 a5 h5 a6 h6 a7 h7 a8 h8 a9 h9 a10 h10 a11 h11 a12 h12 a13 h13 a14 h14 x0 x1 x2 x3 x4 x5 x6) := by
  unfold k0_part329; with_reducible repeat' first | intro _ | apply safe_bind | exact safe_pure _ | exact safe_load | exact safe_store

theorem part330 (x0 x1 x2 x3 x4 x5 x6 x7 x8 x9 x10 x11 x12 x13 x14 x15 x16 x17 x18 x19 x20 x21 x22 x23 x24 x25 x26 x27 x28 x29 x30 x31 x32 x33 x34 x35 x36) : Safe defs c R (k0_part330 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35 x36) := by
  unfold k0_part330; with_reducible repeat' first | intro _ | apply safe_bind | exact safe_pure _ | exact safe_load | exact safe_store

theorem part331 (x0) : Safe defs c R (k0_part331 i a2 h2 a3 h3 a4 h4 a5 h5 a6 h6 a7 h7 a8 h8 a9 h9 a10 h10 a11 h11 a12 h12 a13 h13 a14 h14 x0) := by
  unfold k0_part331; with_reducible repeat' first | intro _ | apply safe_bind | exact safe_pure _ | exact safe_load | exact safe_store

theorem part332 (x0 x1 x2 x3 x4 x5 x6 x7 x8) : Safe defs c R (k0_part332 i a2 h2 a3 h3 a4 h4 a5 h5 a6 h6 a7 h7 a8 h8 a9 h9 a10 h10 a11 h11 a12 h12 a13 h13 a14 h14 x0 x1 x2 x3 x4 x5 x6 x7 x8) := by
  unfold k0_part332; with_reducible repeat' first | intro _ | apply safe_bind | exact safe_pure _ | exact safe_load | exact safe_store

theorem part333 (x0 x1 x2 x3 x4 x5 x6 x7 x8 x9 x10 x11 x12 x13 x14 x15 x16 x17 x18 x19 x20 x21 x22 x23 x24 x25 x26 x27 x28 x29 x30 x31 x32 x33) : Safe defs c R (k0_part333 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part333; with_reducible repeat' first | intro _ | apply safe_bind | exact safe_pure _ | exact safe_load | exact safe_store

theorem part334 (x0 x1 x2 x3) : Safe defs c R (k0_part334 i a2 h2 a3 h3 a4 h4 a5 h5 a6 h6 a7 h7 a8 h8 a9 h9 a10 h10 a11 h11 a12 h12 a13 h13 a14 h14 x0 x1 x2 x3) := by
  unfold k0_part334; with_reducible repeat' first | intro _ | apply safe_bind | exact safe_pure _ | exact safe_load | exact safe_store

theorem part335 (x0 x1 x2 x3 x4 x5 x6 x7 x8 x9 x10 x11 x12 x13 x14 x15 x16 x17 x18 x19 x20 x21 x22) : Safe defs c R (k0_part335 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part335; with_reducible repeat' first | intro _ | apply safe_bind | exact safe_pure _ | exact safe_load | exact safe_store

theorem part336 (x0 x1 x2 x3 x4 x5 x6 x7 x8 x9 x10 x11 x12 x13 x14 x15 x16 x17 x18) : Safe defs c R (k0_part336 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part336; with_reducible repeat' first | intro _ | apply safe_bind | exact safe_pure _ | exact safe_load | exact safe_store

theorem part337 (x0 x1 x2 x3 x4) : Safe defs c R (k0_part337 i a2 h2 a3 h3 a4 h4 a5 h5 a6 h6 a7 h7 a8 h8 a9 h9 a10 h10 a11 h11 a12 h12 a13 h13 a14 h14 x0 x1 x2 x3 x4) := by
  unfold k0_part337; with_reducible repeat' first | intro _ | apply safe_bind | exact safe_pure _ | exact safe_load | exact safe_store

theorem part338 (x0 x1 x2 x3 x4 x5 x6 x7 x8 x9 x10 x11 x12 x13 x14 x15 x16 x17 x18 x19 x20 x21 x22 x23 x24) : Safe defs c R (k0_part338 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part338; with_reducible repeat' first | intro _ | apply safe_bind | exact safe_pure _ | exact safe_load | exact safe_store

theorem part339 (x0 x1 x2 x3 x4 x5 x6 x7 x8 x9 x10 x11 x12 x13 x14 x15 x16 x17) : Safe defs c R (k0_part339 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part339; with_reducible repeat' first | intro _ | apply safe_bind | exact safe_pure _ | exact safe_load | exact safe_store

theorem part340 (x0 x1 x2) : Safe defs c R (k0_part340 i a2 h2 a3 h3 a4 h4 a5 h5 a6 h6 a7 h7 a8 h8 a9 h9 a10 h10 a11 h11 a12 h12 a13 h13 a14 h14 x0 x1 x2) := by
  unfold k0_part340; with_reducible repeat' first | intro _ | apply safe_bind | exact safe_pure _ | exact safe_load | exact safe_store

theorem part341 (x0 x1 x2 x3 x4 x5 x6 x7 x8 x9 x10 x11 x12 x13 x14 x15 x16 x17 x18 x19 x20 x21 x22 x23 x24 x25 x26 x27 x28 x29 x30 x31 x32 x33 x34 x35) : Safe defs c R (k0_part341 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part341; with_reducible repeat' first | intro _ | apply safe_bind | exact safe_pure _ | exact safe_load | exact safe_store

theorem part342 (x0 x1 x2) : Safe defs c R (k0_part342 i a2 h2 a3 h3 a4 h4 a5 h5 a6 h6 a7 h7 a8 h8 a9 h9 a10 h10 a11 h11 a12 h12 a13 h13 a14 h14 x0 x1 x2) := by
  unfold k0_part342; with_reducible repeat' first | intro _ | apply safe_bind | exact safe_pure _ | exact safe_load | exact safe_store

theorem part343 (x0 x1 x2 x3 x4 x5 x6 x7 x8 x9) : Safe defs c R (k0_part343 i a2 h2 a3 h3 a4 h4 a5 h5 a6 h6 a7 h7 a8 h8 a9 h9 a10 h10 a11 h11 a12 h12 a13 h13 a14 h14 x0 x1 x2 x3 x4 x5 x6 x7 x8 x9) := by
  unfold k0_part343; with_reducible repeat' first | intro _ | apply safe_bind | exact safe_pure _ | exact safe_load | exact safe_store

theorem part344 (x0 x1 x2 x3 x4 x5 x6 x7 x8 x9 x10 x11 x12 x13 x14 x15 x16 x17 x18 x19 x20 x21 x22 x23 x24 x25 x26 x27 x28 x29 x30 x31 x32 x33) : Safe defs c R (k0_part344 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part344; with_reducible repeat' first | intro _ | apply safe_bind | exact safe_pure _ | exact safe_load | exact safe_store

theorem part345 (x0 x1 x2) : Safe defs c R (k0_part345 i a2 h2 a3 h3 a4 h4 a5 h5 a6 h6 a7 h7 a8 h8 a9 h9 a10 h10 a11 h11 a12 h12 a13 h13 a14 h14 x0 x1 x2) := by
  unfold k0_part345; with_reducible repeat' first | intro _ | apply safe_bind | exact safe_pure _ | exact safe_load | exact safe_store

theorem part346 (x0 x1 x2 x3 x4 x5 x6 x7 x8 x9 x10) : Safe defs c R (k0_part346 i a2 h2 a3 h3 a4 h4 a5 h5 a6 h6 a7 h7 a8 h8 a9 h9 a10 h10 a11 h11 a12 h12 a13 h13 a14 h14 x0 x1 x2 x3 x4 x5 x6 x7 x8 x9 x10) := by
  unfold k0_part346; with_reducible repeat' first | intro _ | apply safe_bind | exact safe_pure _ | exact safe_load | exact safe_store

theorem part347 (x0 x1 x2 x3 x4 x5 x6 x7 x8 x9 x10 x11 x12 x13 x14 x15 x16 x17) : Safe defs c R (k0_part347 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part347; with_reducible repeat' first | intro _ | apply safe_bind | exact safe_pure _ | exact safe_load | exact safe_store

theorem part348 (x0 x1 x2 x3 x4) : Safe defs c R (k0_part348 i a2 h2 a3 h3 a4 h4 a5 h5 a6 h6 a7 h7 a8 h8 a9 h9 a10 h10 a11 h11 a12 h12 a13 h13 a14 h14 x0 x1 x2 x3 x4) := by
  unfold k0_part348; with_reducible repeat' first | intro _ | apply safe_bind | exact safe_pure _ | exact safe_load | exact safe_store

theorem part349 (x0 x1 x2 x3 x4 x5 x6 x7 x8 x9 x10 x11 x12 x13 x14 x15 x16 x17 x18 x19 x20 x21 x22 x23 x24 x25) : Safe defs c R (k0_part349 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part349; with_reducible repeat' first | intro _ | apply safe_bind | exact safe_pure _ | exact safe_load | exact safe_store

theorem part350 (x0 x1 x2 x3 x4 x5 x6 x7 x8 x9 x10 x11 x12 x13 x14 x15) : Safe defs c R (k0_part350 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15) := by
  unfold k0_part350; with_reducible repeat' first | intro _ | apply safe_bind | exact safe_pure _ | exact safe_load | exact safe_store

theorem part351 (x0 x1 x2 x3) : Safe defs c R (k0_part351 i a2 h2 a3 h3 a4 h4 a5 h5 a6 h6 a7 h7 a8 h8 a9 h9 a10 h10 a11 h11 a12 h12 a13 h13 a14 h14 x0 x1 x2 x3) := by
  unfold k0_part351; with_reducible repeat' first | intro _ | apply safe_bind | exact safe_pure _ | exact safe_load | exact safe_store

theorem part352 (x0 x1 x2 x3 x4 x5 x6 x7 x8 x9 x10 x11 x12 x13 x14 x15 x16 x17 x18 x19 x20 x21 x22 x23 x24 x25 x26) : Safe defs c R (k0_part352 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part352; with_reducible repeat' first | intro _ | apply safe_bind | exact safe_pure _ | exact safe_load | exact safe_store

theorem part353 (x0 x1) : Safe defs c R (k0_part353 i a2 h2 a3 h3 a4 h4 a5 h5 a6 h6 a7 h7 a8 h8 a9 h9 a10 h10 a11 h11 a12 h12 a13 h13 a14 h14 x0 x1) := by
  unfold k0_part353; with_reducible repeat' first | intro _ | apply safe_bind | exact safe_pure _ | exact safe_load | exact safe_store

theorem part354 (x0 x1 x2 x3 x4 x5 x6 x7 x8 x9 x10) : Safe defs c R (k0_part354 i a2 h2 a3 h3 a4 h4 a5 h5 a6 h6 a7 h7 a8 h8 a9 h9 a10 h10 a11 h11 a12 h12 a13 h13 a14 h14 x0 x1 x2 x3 x4 x5 x6 x7 x8 x9 x10) := by
  unfold k0_part354; with_reducible repeat' first | intro _ | apply safe_bind | exact safe_pure _ | exact safe_load | exact safe_store

theorem part355 (x0 x1 x2 x3 x4 x5 x6 x7 x8 x9 x10 x11 x12 x13 x14 x15 x16 x17 x18 x19 x20 x21 x22 x23 x24 x25 x26 x27 x28 x29 x30 x31 x32) : Safe defs c R (k0_part355 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part355; with_reducible repeat' first | intro _ | apply safe_bind | exact safe_pure _ | exact safe_load | exact safe_store

theorem part356 (x0 x1) : Safe defs c R (k0_part356 i a2 h2 a3 h3 a4 h4 a5 h5 a6 h6 a7 h7 a8 h8 a9 h9 a10 h10 a11 h11 a12 h12 a13 h13 a14 h14 x0 x1) := by
  unfold k0_part356; with_reducible repeat' first | intro _ | apply safe_bind | exact safe_pure _ | exact safe_load | exact safe_store

theorem part357 (x0 x1 x2 x3 x4 x5 x6 x7 x8 x9 x10 x11 x12) : Safe defs c R (k0_part357 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part357; with_reducible repeat' first | intro _ | apply safe_bind | exact safe_pure _ | exact safe_load | exact safe_store

theorem part358 (x0 x1 x2 x3 x4 x5 x6 x7 x8 x9 x10 x11 x12 x13 x14 x15 x16 x17 x18 x19 x20 x21 x22 x23 x24 x25 x26 x27 x28 x29) : Safe defs c R (k0_part358 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part358; with_reducible repeat' first | intro _ | apply safe_bind | exact safe_pure _ | exact safe_load | exact safe_store

theorem part359 (x0 x1 x2 x3) : Safe defs c R (k0_part359 i a2 h2 a3 h3 a4 h4 a5 h5 a6 h6 a7 h7 a8 h8 a9 h9 a10 h10 a11 h11 a12 h12 a13 h13 a14 h14 x0 x1 x2 x3) := by
  unfold k0_part359; with_reducible repeat' first | intro _ | apply safe_bind | exact safe_pure _ | exact safe_load | exact safe_store

theorem part360 (x0 x1 x2 x3 x4 x5 x6 x7 x8 x9 x10 x11 x12 x13 x14 x15 x16 x17 x18 x19 x20 x21 x22 x23 x24 x25 x26) : Safe defs c R (k0_part360 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26) := by
  unfold k0_part360; with_reducible repeat' first | intro _ | apply safe_bind | exact safe_pure _ | exact safe_load | exact safe_store

end Cert.Proof.Keep

end
-- ==== Proof.Keep.Straight6.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part361 (x0 x1 x2 x3 x4 x5 x6 x7 x8 x9 x10 x11 x12 x13 x14) : Safe defs c R (k0_part361 i a2 h2 a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part361; with_reducible repeat' first | intro _ | apply safe_bind | exact safe_pure _ | exact safe_load | exact safe_store

theorem part362 (x0 x1 x2 x3) : Safe defs c R (k0_part362 i a2 h2 a3 h3 a4 h4 a5 h5 a6 h6 a7 h7 a8 h8 a9 h9 a10 h10 a11 h11 a12 h12 a13 h13 a14 h14 x0 x1 x2 x3) := by
  unfold k0_part362; with_reducible repeat' first | intro _ | apply safe_bind | exact safe_pure _ | exact safe_load | exact safe_store

theorem part363 (x0 x1 x2 x3 x4 x5 x6 x7 x8 x9 x10 x11 x12 x13 x14 x15 x16 x17 x18 x19 x20 x21 x22 x23 x24 x25 x26 x27 x28) : Safe defs c R (k0_part363 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28) := by
  unfold k0_part363; with_reducible repeat' first | intro _ | apply safe_bind | exact safe_pure _ | exact safe_load | exact safe_store

theorem part364 (x0 x1 x2 x3 x4 x5 x6 x7 x8 x9 x10 x11) : Safe defs c R (k0_part364 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part364; with_reducible repeat' first | intro _ | apply safe_bind | exact safe_pure _ | exact safe_load | exact safe_store

theorem part365 (x0 x1 x2) : Safe defs c R (k0_part365 i a2 h2 a3 h3 a4 h4 a5 h5 a6 h6 a7 h7 a8 h8 a9 h9 a10 h10 a11 h11 a12 h12 a13 h13 a14 h14 x0 x1 x2) := by
  unfold k0_part365; with_reducible repeat' first | intro _ | apply safe_bind | exact safe_pure _ | exact safe_load | exact safe_store

theorem part366 (x0 x1 x2 x3 x4 x5 x6 x7 x8 x9 x10 x11 x12 x13 x14 x15 x16 x17 x18 x19 x20 x21 x22 x23 x24 x25 x26 x27 x28 x29 x30 x31) : Safe defs c R (k0_part366 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31) := by
  unfold k0_part366; with_reducible repeat' first | intro _ | apply safe_bind | exact safe_pure _ | exact safe_load | exact safe_store

theorem part367 (x0 x1) : Safe defs c R (k0_part367 i a2 h2 a3 h3 a4 h4 a5 h5 a6 h6 a7 h7 a8 h8 a9 h9 a10 h10 a11 h11 a12 h12 a13 h13 a14 h14 x0 x1) := by
  unfold k0_part367; with_reducible repeat' first | intro _ | apply safe_bind | exact safe_pure _ | exact safe_load | exact safe_store

theorem part368 (x0 x1 x2 x3 x4 x5 x6 x7 x8 x9 x10 x11 x12 x13) : Safe defs c R (k0_part368 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part368; with_reducible repeat' first | intro _ | apply safe_bind | exact safe_pure _ | exact safe_load | exact safe_store

theorem part369 (x0 x1 x2 x3 x4 x5 x6 x7 x8 x9 x10 x11 x12 x13 x14 x15 x16 x17 x18 x19 x20 x21 x22 x23 x24 x25 x26 x27 x28 x29) : Safe defs c R (k0_part369 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29) := by
  unfold k0_part369; with_reducible repeat' first | intro _ | apply safe_bind | exact safe_pure _ | exact safe_load | exact safe_store

theorem part370 (x0 x1 x2) : Safe defs c R (k0_part370 i a2 h2 a3 h3 a4 h4 a5 h5 a6 h6 a7 h7 a8 h8 a9 h9 a10 h10 a11 h11 a12 h12 a13 h13 a14 h14 x0 x1 x2) := by
  unfold k0_part370; with_reducible repeat' first | intro _ | apply safe_bind | exact safe_pure _ | exact safe_load | exact safe_store

theorem part372 (x0 x1 x2) : Safe defs c R (k0_part372 i a2 h2 a3 h3 a4 h4 a5 h5 a6 h6 a7 h7 a8 h8 a9 h9 a10 h10 a11 h11 a12 h12 a13 h13 a14 h14 x0 x1 x2) := by
  unfold k0_part372; with_reducible repeat' first | intro _ | apply safe_bind | exact safe_pure _ | exact safe_load | exact safe_store

theorem part373 (x0 x1 x2 x3 x4 x5 x6 x7 x8 x9 x10 x11 x12 x13 x14 x15 x16 x17 x18 x19 x20 x21 x22 x23 x24 x25) : Safe defs c R (k0_part373 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part373; with_reducible repeat' first | intro _ | apply safe_bind | exact safe_pure _ | exact safe_load | exact safe_store

theorem part374 (x0 x1 x2 x3) : Safe defs c R (k0_part374 i a2 h2 a3 h3 a4 h4 a5 h5 a6 h6 a7 h7 a8 h8 a9 h9 a10 h10 a11 h11 a12 h12 a13 h13 a14 h14 x0 x1 x2 x3) := by
  unfold k0_part374; with_reducible repeat' first | intro _ | apply safe_bind | exact safe_pure _ | exact safe_load | exact safe_store

theorem part375 (x0 x1 x2 x3 x4 x5 x6 x7 x8 x9 x10 x11 x12 x13 x14 x15 x16 x17 x18) : Safe defs c R (k0_part375 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part375; with_reducible repeat' first | intro _ | apply safe_bind | exact safe_pure _ | exact safe_load | exact safe_store

theorem part376 (x0 x1 x2 x3 x4 x5 x6 x7 x8 x9 x10 x11 x12 x13 x14 x15 x16 x17 x18 x19 x20 x21 x22) : Safe defs c R (k0_part376 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part376; with_reducible repeat' first | intro _ | apply safe_bind | exact safe_pure _ | exact safe_load | exact safe_store

theorem part377 (x0 x1 x2 x3 x4) : Safe defs c R (k0_part377 i a2 h2 a3 h3 a4 h4 a5 h5 a6 h6 a7 h7 a8 h8 a9 h9 a10 h10 a11 h11 a12 h12 a13 h13 a14 h14 x0 x1 x2 x3 x4) := by
  unfold k0_part377; with_reducible repeat' first | intro _ | apply safe_bind | exact safe_pure _ | exact safe_load | exact safe_store

theorem part378 (x0 x1 x2 x3 x4 x5 x6 x7 x8 x9 x10 x11 x12 x13 x14 x15 x16 x17 x18 x19) : Safe defs c R (k0_part378 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part378; with_reducible repeat' first | intro _ | apply safe_bind | exact safe_pure _ | exact safe_load | exact safe_store

theorem part379 (x0 x1 x2 x3 x4 x5 x6) : Safe defs c R (k0_part379 i a2 h2 a3 h3 a4 h4 a5 h5 a6 h6 a7 h7 a8 h8 a9 h9 a10 h10 a11 h11 a12 h12 a13 h13 a14 h14 x0 x1 x2 x3 x4 x5 x6) := by
  unfold k0_part379; with_reducible repeat' first | intro _ | apply safe_bind | exact safe_pure _ | exact safe_load | exact safe_store

theorem part380 (x0 x1 x2 x3) : Safe defs c R (k0_part380 i a2 h2 a3 h3 a4 h4 a5 h5 a6 h6 a7 h7 a8 h8 a9 h9 a10 h10 a11 h11 a12 h12 a13 h13 a14 h14 x0 x1 x2 x3) := by
  unfold k0_part380; with_reducible repeat' first | intro _ | apply safe_bind | exact safe_pure _ | exact safe_load | exact safe_store

theorem part381 (x0 x1 x2 x3 x4 x5 x6 x7 x8 x9 x10 x11 x12 x13 x14 x15 x16 x17 x18 x19 x20 x21 x22 x23 x24 x25 x26 x27 x28 x29 x30 x31 x32 x33 x34) : Safe defs c R (k0_part381 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part381; with_reducible repeat' first | intro _ | apply safe_bind | exact safe_pure _ | exact safe_load | exact safe_store

theorem part382 (x0 x1 x2 x3) : Safe defs c R (k0_part382 i a2 h2 a3 h3 a4 h4 a5 h5 a6 h6 a7 h7 a8 h8 a9 h9 a10 h10 a11 h11 a12 h12 a13 h13 a14 h14 x0 x1 x2 x3) := by
  unfold k0_part382; with_reducible repeat' first | intro _ | apply safe_bind | exact safe_pure _ | exact safe_load | exact safe_store

theorem part383 (x0 x1 x2 x3 x4 x5) : Safe defs c R (k0_part383 i a2 h2 a3 h3 a4 h4 a5 h5 a6 h6 a7 h7 a8 h8 a9 h9 a10 h10 a11 h11 a12 h12 a13 h13 a14 h14 x0 x1 x2 x3 x4 x5) := by
  unfold k0_part383; with_reducible repeat' first | intro _ | apply safe_bind | exact safe_pure _ | exact safe_load | exact safe_store

theorem part384 (x0 x1 x2 x3 x4 x5 x6 x7 x8 x9 x10 x11 x12 x13 x14 x15 x16 x17 x18 x19 x20 x21 x22 x23 x24 x25 x26 x27 x28 x29 x30 x31 x32 x33 x34 x35) : Safe defs c R (k0_part384 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part384; with_reducible repeat' first | intro _ | apply safe_bind | exact safe_pure _ | exact safe_load | exact safe_store

theorem part385 (x0 x1 x2) : Safe defs c R (k0_part385 i a2 h2 a3 h3 a4 h4 a5 h5 a6 h6 a7 h7 a8 h8 a9 h9 a10 h10 a11 h11 a12 h12 a13 h13 a14 h14 x0 x1 x2) := by
  unfold k0_part385; with_reducible repeat' first | intro _ | apply safe_bind | exact safe_pure _ | exact safe_load | exact safe_store

theorem part386 (x0 x1 x2 x3 x4 x5 x6 x7 x8 x9 x10 x11 x12 x13 x14 x15 x16 x17 x18 x19) : Safe defs c R (k0_part386 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part386; with_reducible repeat' first | intro _ | apply safe_bind | exact safe_pure _ | exact safe_load | exact safe_store

theorem part387 (x0 x1 x2 x3 x4 x5 x6 x7 x8 x9 x10 x11 x12 x13 x14 x15 x16 x17 x18 x19 x20 x21) : Safe defs c R (k0_part387 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part387; with_reducible repeat' first | intro _ | apply safe_bind | exact safe_pure _ | exact safe_load | exact safe_store

theorem part388 (x0 x1 x2 x3 x4) : Safe defs c R (k0_part388 i a2 h2 a3 h3 a4 h4 a5 h5 a6 h6 a7 h7 a8 h8 a9 h9 a10 h10 a11 h11 a12 h12 a13 h13 a14 h14 x0 x1 x2 x3 x4) := by
  unfold k0_part388; with_reducible repeat' first | intro _ | apply safe_bind | exact safe_pure _ | exact safe_load | exact safe_store

theorem part389 (x0 x1 x2 x3 x4 x5 x6 x7 x8 x9 x10 x11 x12 x13 x14 x15 x16 x17 x18 x19 x20 x21) : Safe defs c R (k0_part389 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part389; with_reducible repeat' first | intro _ | apply safe_bind | exact safe_pure _ | exact safe_load | exact safe_store

theorem part390 (x0 x1 x2 x3 x4 x5 x6 x7 x8 x9 x10 x11 x12 x13 x14 x15 x16 x17 x18 x19 x20) : Safe defs c R (k0_part390 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part390; with_reducible repeat' first | intro _ | apply safe_bind | exact safe_pure _ | exact safe_load | exact safe_store

theorem part391 (x0 x1 x2 x3) : Safe defs c R (k0_part391 i a2 h2 a3 h3 a4 h4 a5 h5 a6 h6 a7 h7 a8 h8 a9 h9 a10 h10 a11 h11 a12 h12 a13 h13 a14 h14 x0 x1 x2 x3) := by
  unfold k0_part391; with_reducible repeat' first | intro _ | apply safe_bind | exact safe_pure _ | exact safe_load | exact safe_store

theorem part392 (x0 x1 x2 x3 x4 x5 x6 x7 x8 x9 x10 x11 x12 x13 x14 x15 x16 x17 x18 x19 x20 x21 x22 x23 x24 x25 x26 x27 x28 x29 x30 x31 x32 x33 x34 x35) : Safe defs c R (k0_part392 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part392; with_reducible repeat' first | intro _ | apply safe_bind | exact safe_pure _ | exact safe_load | exact safe_store

theorem part393 (x0 x1 x2) : Safe defs c R (k0_part393 i a2 h2 a3 h3 a4 h4 a5 h5 a6 h6 a7 h7 a8 h8 a9 h9 a10 h10 a11 h11 a12 h12 a13 h13 a14 h14 x0 x1 x2) := by
  unfold k0_part393; with_reducible repeat' first | intro _ | apply safe_bind | exact safe_pure _ | exact safe_load | exact safe_store

theorem part394 (x0 x1 x2 x3 x4 x5 x6) : Safe defs c R (k0_part394 i a2 h2 a3 h3 a4 h4 a5 h5 a6 h6 a7 h7 a8 h8 a9 h9 a10 h10 a11 h11 a12 h12 a13 h13 a14 h14 x0 x1 x2 x3 x4 x5 x6) := by
  unfold k0_part394; with_reducible repeat' first | intro _ | apply safe_bind | exact safe_pure _ | exact safe_load | exact safe_store

theorem part395 (x0 x1 x2 x3 x4 x5 x6 x7 x8 x9 x10 x11 x12 x13 x14 x15 x16 x17 x18 x19 x20 x21 x22 x23 x24 x25 x26 x27 x28 x29 x30 x31 x32 x33 x34 x35 x36) : Safe defs c R (k0_part395 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35 x36) := by
  unfold k0_part395; with_reducible repeat' first | intro _ | apply safe_bind | exact safe_pure _ | exact safe_load | exact safe_store

theorem part396 (x0) : Safe defs c R (k0_part396 i a2 h2 a3 h3 a4 h4 a5 h5 a6 h6 a7 h7 a8 h8 a9 h9 a10 h10 a11 h11 a12 h12 a13 h13 a14 h14 x0) := by
  unfold k0_part396; with_reducible repeat' first | intro _ | apply safe_bind | exact safe_pure _ | exact safe_load | exact safe_store

theorem part397 (x0 x1 x2) : Safe defs c R (k0_part397 i a2 h2 a3 h3 a4 h4 a5 h5 a6 h6 a7 h7 a8 h8 a9 h9 a10 h10 a11 h11 a12 h12 a13 h13 a14 h14 x0 x1 x2) := by
  unfold k0_part397; with_reducible repeat' first | intro _ | apply safe_bind | exact safe_pure _ | exact safe_load | exact safe_store

theorem part398 (x0 x1 x2 x3 x4 x5 x6 x7 x8 x9 x10 x11 x12 x13 x14 x15 x16 x17 x18 x19 x20 x21 x22 x23 x24 x25) : Safe defs c R (k0_part398 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part398; with_reducible repeat' first | intro _ | apply safe_bind | exact safe_pure _ | exact safe_load | exact safe_store

theorem part399 (x0 x1 x2 x3) : Safe defs c R (k0_part399 i a2 h2 a3 h3 a4 h4 a5 h5 a6 h6 a7 h7 a8 h8 a9 h9 a10 h10 a11 h11 a12 h12 a13 h13 a14 h14 x0 x1 x2 x3) := by
  unfold k0_part399; with_reducible repeat' first | intro _ | apply safe_bind | exact safe_pure _ | exact safe_load | exact safe_store

theorem part400 (x0 x1 x2 x3 x4 x5 x6 x7 x8 x9 x10 x11 x12 x13 x14 x15 x16 x17 x18) : Safe defs c R (k0_part400 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part400; with_reducible repeat' first | intro _ | apply safe_bind | exact safe_pure _ | exact safe_load | exact safe_store

theorem part401 (x0 x1 x2 x3 x4 x5 x6 x7 x8 x9 x10 x11 x12 x13 x14 x15 x16 x17 x18 x19 x20 x21 x22) : Safe defs c R (k0_part401 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part401; with_reducible repeat' first | intro _ | apply safe_bind | exact safe_pure _ | exact safe_load | exact safe_store

theorem part402 (x0 x1 x2 x3 x4) : Safe defs c R (k0_part402 i a2 h2 a3 h3 a4 h4 a5 h5 a6 h6 a7 h7 a8 h8 a9 h9 a10 h10 a11 h11 a12 h12 a13 h13 a14 h14 x0 x1 x2 x3 x4) := by
  unfold k0_part402; with_reducible repeat' first | intro _ | apply safe_bind | exact safe_pure _ | exact safe_load | exact safe_store

theorem part403 (x0 x1 x2 x3 x4 x5 x6 x7 x8 x9 x10 x11 x12 x13 x14 x15 x16 x17 x18 x19) : Safe defs c R (k0_part403 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part403; with_reducible repeat' first | intro _ | apply safe_bind | exact safe_pure _ | exact safe_load | exact safe_store

theorem part404 (x0 x1 x2 x3 x4 x5 x6) : Safe defs c R (k0_part404 i a2 h2 a3 h3 a4 h4 a5 h5 a6 h6 a7 h7 a8 h8 a9 h9 a10 h10 a11 h11 a12 h12 a13 h13 a14 h14 x0 x1 x2 x3 x4 x5 x6) := by
  unfold k0_part404; with_reducible repeat' first | intro _ | apply safe_bind | exact safe_pure _ | exact safe_load | exact safe_store

theorem part405 (x0 x1 x2 x3) : Safe defs c R (k0_part405 i a2 h2 a3 h3 a4 h4 a5 h5 a6 h6 a7 h7 a8 h8 a9 h9 a10 h10 a11 h11 a12 h12 a13 h13 a14 h14 x0 x1 x2 x3) := by
  unfold k0_part405; with_reducible repeat' first | intro _ | apply safe_bind | exact safe_pure _ | exact safe_load | exact safe_store

theorem part406 (x0 x1 x2 x3 x4 x5 x6 x7 x8 x9 x10 x11 x12 x13 x14 x15 x16 x17 x18 x19 x20 x21 x22 x23 x24 x25 x26 x27 x28 x29 x30 x31 x32 x33 x34) : Safe defs c R (k0_part406 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part406; with_reducible repeat' first | intro _ | apply safe_bind | exact safe_pure _ | exact safe_load | exact safe_store

theorem part407 (x0 x1 x2 x3) : Safe defs c R (k0_part407 i a2 h2 a3 h3 a4 h4 a5 h5 a6 h6 a7 h7 a8 h8 a9 h9 a10 h10 a11 h11 a12 h12 a13 h13 a14 h14 x0 x1 x2 x3) := by
  unfold k0_part407; with_reducible repeat' first | intro _ | apply safe_bind | exact safe_pure _ | exact safe_load | exact safe_store

theorem part408 (x0 x1 x2 x3 x4 x5) : Safe defs c R (k0_part408 i a2 h2 a3 h3 a4 h4 a5 h5 a6 h6 a7 h7 a8 h8 a9 h9 a10 h10 a11 h11 a12 h12 a13 h13 a14 h14 x0 x1 x2 x3 x4 x5) := by
  unfold k0_part408; with_reducible repeat' first | intro _ | apply safe_bind | exact safe_pure _ | exact safe_load | exact safe_store

theorem part409 (x0 x1 x2) : Safe defs c R (k0_part409 i a2 h2 a3 h3 a4 h4 a5 h5 a6 h6 a7 h7 a8 h8 a9 h9 a10 h10 a11 h11 a12 h12 a13 h13 a14 h14 x0 x1 x2) := by
  unfold k0_part409; with_reducible repeat' first | intro _ | apply safe_bind | exact safe_pure _ | exact safe_load | exact safe_store

theorem part410 (x0 x1 x2 x3 x4 x5 x6 x7 x8 x9 x10 x11 x12 x13 x14 x15 x16 x17 x18 x19 x20 x21 x22 x23 x24 x25) : Safe defs c R (k0_part410 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part410; with_reducible repeat' first | intro _ | apply safe_bind | exact safe_pure _ | exact safe_load | exact safe_store

theorem part411 (x0 x1 x2 x3) : Safe defs c R (k0_part411 i a2 h2 a3 h3 a4 h4 a5 h5 a6 h6 a7 h7 a8 h8 a9 h9 a10 h10 a11 h11 a12 h12 a13 h13 a14 h14 x0 x1 x2 x3) := by
  unfold k0_part411; with_reducible repeat' first | intro _ | apply safe_bind | exact safe_pure _ | exact safe_load | exact safe_store

theorem part412 (x0 x1 x2 x3 x4 x5 x6 x7 x8 x9 x10 x11 x12 x13 x14 x15 x16 x17 x18) : Safe defs c R (k0_part412 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part412; with_reducible repeat' first | intro _ | apply safe_bind | exact safe_pure _ | exact safe_load | exact safe_store

theorem part413 (x0 x1 x2 x3 x4 x5 x6 x7 x8 x9 x10 x11 x12 x13 x14 x15 x16 x17 x18 x19 x20 x21 x22) : Safe defs c R (k0_part413 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part413; with_reducible repeat' first | intro _ | apply safe_bind | exact safe_pure _ | exact safe_load | exact safe_store

theorem part414 (x0 x1 x2 x3 x4) : Safe defs c R (k0_part414 i a2 h2 a3 h3 a4 h4 a5 h5 a6 h6 a7 h7 a8 h8 a9 h9 a10 h10 a11 h11 a12 h12 a13 h13 a14 h14 x0 x1 x2 x3 x4) := by
  unfold k0_part414; with_reducible repeat' first | intro _ | apply safe_bind | exact safe_pure _ | exact safe_load | exact safe_store

theorem part415 (x0 x1 x2 x3) : Safe defs c R (k0_part415 i a2 h2 a3 h3 a4 h4 a5 h5 a6 h6 a7 h7 a8 h8 a9 h9 a10 h10 a11 h11 a12 h12 a13 h13 a14 h14 x0 x1 x2 x3) := by
  unfold k0_part415; with_reducible repeat' first | intro _ | apply safe_bind | exact safe_pure _ | exact safe_load | exact safe_store

theorem part416 (x0 x1 x2 x3 x4 x5 x6 x7 x8 x9 x10 x11 x12 x13 x14 x15 x16 x17 x18 x19 x20 x21 x22 x23 x24 x25) : Safe defs c R (k0_part416 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part416; with_reducible repeat' first | intro _ | apply safe_bind | exact safe_pure _ | exact safe_load | exact safe_store

theorem part417 (x0 x1 x2 x3 x4 x5 x6 x7 x8 x9) : Safe defs c R (k0_part417 i a2 h2 a3 h3 a4 h4 a5 h5 a6 h6 a7 h7 a8 h8 a9 h9 a10 h10 a11 h11 a12 h12 a13 h13 a14 h14 x0 x1 x2 x3 x4 x5 x6 x7 x8 x9) := by
  unfold k0_part417; with_reducible repeat' first | intro _ | apply safe_bind | exact safe_pure _ | exact safe_load | exact safe_store

theorem part418 (x0 x1 x2 x3 x4) : Safe defs c R (k0_part418 i a2 h2 a3 h3 a4 h4 a5 h5 a6 h6 a7 h7 a8 h8 a9 h9 a10 h10 a11 h11 a12 h12 a13 h13 a14 h14 x0 x1 x2 x3 x4) := by
  unfold k0_part418; with_reducible repeat' first | intro _ | apply safe_bind | exact safe_pure _ | exact safe_load | exact safe_store

theorem part419 (x0 x1 x2 x3 x4 x5 x6 x7 x8 x9 x10 x11 x12 x13 x14 x15 x16 x17 x18 x19 x20 x21 x22 x23 x24 x25 x26 x27 x28 x29 x30 x31 x32 x33 x34 x35) : Safe defs c R (k0_part419 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part419; with_reducible repeat' first | intro _ | apply safe_bind | exact safe_pure _ | exact safe_load | exact safe_store

theorem part420 (x0 x1) : Safe defs c R (k0_part420 i a2 h2 a3 h3 a4 h4 a5 h5 a6 h6 a7 h7 a8 h8 a9 h9 a10 h10 a11 h11 a12 h12 a13 h13 a14 h14 x0 x1) := by
  unfold k0_part420; with_reducible repeat' first | intro _ | apply safe_bind | exact safe_pure _ | exact safe_load | exact safe_store

theorem part421 (x0 x1 x2 x3 x4 x5 x6 x7 x8 x9 x10 x11) : Safe defs c R (k0_part421 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part421; with_reducible repeat' first | intro _ | apply safe_bind | exact safe_pure _ | exact safe_load | exact safe_store

theorem part422 (x0 x1 x2 x3 x4 x5 x6 x7 x8 x9 x10 x11 x12 x13 x14 x15 x16 x17 x18 x19 x20 x21 x22 x23 x24) : Safe defs c R (k0_part422 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part422; with_reducible repeat' first | intro _ | apply safe_bind | exact safe_pure _ | exact safe_load | exact safe_store

theorem part423 (x0 x1 x2 x3) : Safe defs c R (k0_part423 i a2 h2 a3 h3 a4 h4 a5 h5 a6 h6 a7 h7 a8 h8 a9 h9 a10 h10 a11 h11 a12 h12 a13 h13 a14 h14 x0 x1 x2 x3) := by
  unfold k0_part423; with_reducible repeat' first | intro _ | apply safe_bind | exact safe_pure _ | exact safe_load | exact safe_store

theorem part424 (x0 x1 x2 x3 x4 x5 x6 x7 x8 x9 x10 x11 x12 x13 x14 x15 x16 x17 x18 x19 x20 x21 x22) : Safe defs c R (k0_part424 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part424; with_reducible repeat' first | intro _ | apply safe_bind | exact safe_pure _ | exact safe_load | exact safe_store

theorem part425 (x0 x1 x2 x3 x4 x5 x6 x7 x8 x9 x10 x11 x12 x13) : Safe defs c R (k0_part425 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part425; with_reducible repeat' first | intro _ | apply safe_bind | exact safe_pure _ | exact safe_load | exact safe_store

theorem part426 (x0 x1 x2 x3 x4) : Safe defs c R (k0_part426 i a2 h2 a3 h3 a4 h4 a5 h5 a6 h6 a7 h7 a8 h8 a9 h9 a10 h10 a11 h11 a12 h12 a13 h13 a14 h14 x0 x1 x2 x3 x4) := by
  unfold k0_part426; with_reducible repeat' first | intro _ | apply safe_bind | exact safe_pure _ | exact safe_load | exact safe_store

theorem part427 (x0 x1 x2 x3 x4 x5 x6 x7 x8 x9 x10 x11 x12 x13 x14 x15 x16 x17 x18 x19 x20 x21 x22 x23 x24 x25 x26 x27 x28 x29 x30 x31 x32 x33) : Safe defs c R (k0_part427 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part427; with_reducible repeat' first | intro _ | apply safe_bind | exact safe_pure _ | exact safe_load | exact safe_store

theorem part428 (x0) : Safe defs c R (k0_part428 i a2 h2 a3 h3 a4 h4 a5 h5 a6 h6 a7 h7 a8 h8 a9 h9 a10 h10 a11 h11 a12 h12 a13 h13 a14 h14 x0) := by
  unfold k0_part428; with_reducible repeat' first | intro _ | apply safe_bind | exact safe_pure _ | exact safe_load | exact safe_store

theorem part429 (x0 x1 x2 x3 x4 x5 x6 x7 x8 x9) : Safe defs c R (k0_part429 i a2 h2 a3 h3 a4 h4 a5 h5 a6 h6 a7 h7 a8 h8 a9 h9 a10 h10 a11 h11 a12 h12 a13 h13 a14 h14 x0 x1 x2 x3 x4 x5 x6 x7 x8 x9) := by
  unfold k0_part429; with_reducible repeat' first | intro _ | apply safe_bind | exact safe_pure _ | exact safe_load | exact safe_store

end Cert.Proof.Keep

end
-- ==== Proof.Keep.Straight7.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part430 (x0 x1 x2 x3 x4 x5 x6 x7 x8 x9 x10 x11 x12 x13 x14 x15 x16 x17 x18 x19 x20 x21 x22 x23 x24 x25 x26 x27) : Safe defs c R (k0_part430 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27) := by
  unfold k0_part430; with_reducible repeat' first | intro _ | apply safe_bind | exact safe_pure _ | exact safe_load | exact safe_store

theorem part431 (x0 x1 x2 x3) : Safe defs c R (k0_part431 i a2 h2 a3 h3 a4 h4 a5 h5 a6 h6 a7 h7 a8 h8 a9 h9 a10 h10 a11 h11 a12 h12 a13 h13 a14 h14 x0 x1 x2 x3) := by
  unfold k0_part431; with_reducible repeat' first | intro _ | apply safe_bind | exact safe_pure _ | exact safe_load | exact safe_store

theorem part432 (x0 x1 x2 x3 x4 x5 x6 x7 x8 x9 x10 x11 x12 x13 x14 x15 x16 x17 x18 x19) : Safe defs c R (k0_part432 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part432; with_reducible repeat' first | intro _ | apply safe_bind | exact safe_pure _ | exact safe_load | exact safe_store

theorem part433 (x0 x1 x2 x3 x4 x5 x6 x7 x8 x9 x10 x11 x12 x13 x14 x15 x16 x17) : Safe defs c R (k0_part433 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part433; with_reducible repeat' first | intro _ | apply safe_bind | exact safe_pure _ | exact safe_load | exact safe_store

theorem part434 (x0 x1 x2 x3 x4 x5) : Safe defs c R (k0_part434 i a2 h2 a3 h3 a4 h4 a5 h5 a6 h6 a7 h7 a8 h8 a9 h9 a10 h10 a11 h11 a12 h12 a13 h13 a14 h14 x0 x1 x2 x3 x4 x5) := by
  unfold k0_part434; with_reducible repeat' first | intro _ | apply safe_bind | exact safe_pure _ | exact safe_load | exact safe_store

theorem part435 (x0 x1 x2 x3 x4 x5 x6 x7 x8 x9 x10 x11 x12 x13 x14 x15 x16 x17 x18 x19 x20 x21 x22 x23 x24 x25 x26 x27 x28 x29 x30 x31) : Safe defs c R (k0_part435 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31) := by
  unfold k0_part435; with_reducible repeat' first | intro _ | apply safe_bind | exact safe_pure _ | exact safe_load | exact safe_store

theorem part436 (x0 x1 x2) : Safe defs c R (k0_part436 i a2 h2 a3 h3 a4 h4 a5 h5 a6 h6 a7 h7 a8 h8 a9 h9 a10 h10 a11 h11 a12 h12 a13 h13 a14 h14 x0 x1 x2) := by
  unfold k0_part436; with_reducible repeat' first | intro _ | apply safe_bind | exact safe_pure _ | exact safe_load | exact safe_store

theorem part437 (x0 x1 x2 x3 x4 x5 x6) : Safe defs c R (k0_part437 i a2 h2 a3 h3 a4 h4 a5 h5 a6 h6 a7 h7 a8 h8 a9 h9 a10 h10 a11 h11 a12 h12 a13 h13 a14 h14 x0 x1 x2 x3 x4 x5 x6) := by
  unfold k0_part437; with_reducible repeat' first | intro _ | apply safe_bind | exact safe_pure _ | exact safe_load | exact safe_store

theorem part438 (x0 x1 x2 x3 x4 x5 x6 x7 x8 x9 x10 x11 x12 x13 x14 x15 x16 x17 x18 x19 x20 x21 x22 x23 x24 x25 x26 x27 x28 x29 x30) : Safe defs c R (k0_part438 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30) := by
  unfold k0_part438; with_reducible repeat' first | intro _ | apply safe_bind | exact safe_pure _ | exact safe_load | exact safe_store

theorem part439 (x0 x1 x2) : Safe defs c R (k0_part439 i a2 h2 a3 h3 a4 h4 a5 h5 a6 h6 a7 h7 a8 h8 a9 h9 a10 h10 a11 h11 a12 h12 a13 h13 a14 h14 x0 x1 x2) := by
  unfold k0_part439; with_reducible repeat' first | intro _ | apply safe_bind | exact safe_pure _ | exact safe_load | exact safe_store

theorem part440 (x0 x1 x2 x3 x4 x5 x6 x7 x8 x9 x10 x11 x12 x13 x14 x15 x16 x17) : Safe defs c R (k0_part440 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part440; with_reducible repeat' first | intro _ | apply safe_bind | exact safe_pure _ | exact safe_load | exact safe_store

theorem part441 (x0 x1 x2 x3 x4 x5 x6 x7 x8 x9 x10 x11 x12 x13 x14 x15 x16 x17 x18) : Safe defs c R (k0_part441 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part441; with_reducible repeat' first | intro _ | apply safe_bind | exact safe_pure _ | exact safe_load | exact safe_store

theorem part442 (x0 x1 x2 x3 x4 x5 x6) : Safe defs c R (k0_part442 i a2 h2 a3 h3 a4 h4 a5 h5 a6 h6 a7 h7 a8 h8 a9 h9 a10 h10 a11 h11 a12 h12 a13 h13 a14 h14 x0 x1 x2 x3 x4 x5 x6) := by
  unfold k0_part442; with_reducible repeat' first | intro _ | apply safe_bind | exact safe_pure _ | exact safe_load | exact safe_store

theorem part443 (x0 x1 x2 x3 x4 x5 x6 x7 x8 x9 x10 x11 x12 x13 x14 x15 x16 x17 x18 x19 x20 x21 x22 x23 x24 x25 x26 x27 x28) : Safe defs c R (k0_part443 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28) := by
  unfold k0_part443; with_reducible repeat' first | intro _ | apply safe_bind | exact safe_pure _ | exact safe_load | exact safe_store

theorem part444 (x0 x1 x2 x3 x4 x5 x6) : Safe defs c R (k0_part444 i a2 h2 a3 h3 a4 h4 a5 h5 a6 h6 a7 h7 a8 h8 a9 h9 a10 h10 a11 h11 a12 h12 a13 h13 a14 h14 x0 x1 x2 x3 x4 x5 x6) := by
  unfold k0_part444; with_reducible repeat' first | intro _ | apply safe_bind | exact safe_pure _ | exact safe_load | exact safe_store

theorem part445 (x0 x1 x2 x3) : Safe defs c R (k0_part445 i a2 h2 a3 h3 a4 h4 a5 h5 a6 h6 a7 h7 a8 h8 a9 h9 a10 h10 a11 h11 a12 h12 a13 h13 a14 h14 x0 x1 x2 x3) := by
  unfold k0_part445; with_reducible repeat' first | intro _ | apply safe_bind | exact safe_pure _ | exact safe_load | exact safe_store

theorem part446 (x0 x1 x2 x3 x4 x5 x6 x7 x8 x9 x10 x11 x12 x13 x14 x15 x16 x17 x18 x19 x20 x21 x22 x23 x24 x25 x26 x27 x28 x29 x30 x31 x32 x33 x34) : Safe defs c R (k0_part446 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part446; with_reducible repeat' first | intro _ | apply safe_bind | exact safe_pure _ | exact safe_load | exact safe_store

theorem part447 (x0 x1) : Safe defs c R (k0_part447 i a2 h2 a3 h3 a4 h4 a5 h5 a6 h6 a7 h7 a8 h8 a9 h9 a10 h10 a11 h11 a12 h12 a13 h13 a14 h14 x0 x1) := by
  unfold k0_part447; with_reducible repeat' first | intro _ | apply safe_bind | exact safe_pure _ | exact safe_load | exact safe_store

theorem part448 (x0 x1 x2 x3 x4 x5 x6 x7 x8 x9 x10 x11 x12 x13 x14 x15) : Safe defs c R (k0_part448 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15) := by
  unfold k0_part448; with_reducible repeat' first | intro _ | apply safe_bind | exact safe_pure _ | exact safe_load | exact safe_store

theorem part449 (x0 x1 x2 x3 x4 x5 x6 x7 x8 x9 x10 x11 x12 x13 x14 x15 x16 x17 x18 x19 x20 x21) : Safe defs c R (k0_part449 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part449; with_reducible repeat' first | intro _ | apply safe_bind | exact safe_pure _ | exact safe_load | exact safe_store

theorem part450 (x0 x1 x2 x3) : Safe defs c R (k0_part450 i a2 h2 a3 h3 a4 h4 a5 h5 a6 h6 a7 h7 a8 h8 a9 h9 a10 h10 a11 h11 a12 h12 a13 h13 a14 h14 x0 x1 x2 x3) := by
  unfold k0_part450; with_reducible repeat' first | intro _ | apply safe_bind | exact safe_pure _ | exact safe_load | exact safe_store

theorem part451 (x0 x1 x2 x3 x4 x5 x6 x7 x8 x9 x10 x11 x12 x13 x14 x15 x16 x17 x18 x19 x20 x21 x22 x23 x24 x25) : Safe defs c R (k0_part451 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part451; with_reducible repeat' first | intro _ | apply safe_bind | exact safe_pure _ | exact safe_load | exact safe_store

theorem part452 (x0 x1 x2 x3 x4 x5 x6 x7 x8 x9) : Safe defs c R (k0_part452 i a2 h2 a3 h3 a4 h4 a5 h5 a6 h6 a7 h7 a8 h8 a9 h9 a10 h10 a11 h11 a12 h12 a13 h13 a14 h14 x0 x1 x2 x3 x4 x5 x6 x7 x8 x9) := by
  unfold k0_part452; with_reducible repeat' first | intro _ | apply safe_bind | exact safe_pure _ | exact safe_load | exact safe_store

theorem part453 (x0 x1 x2 x3 x4 x5) : Safe defs c R (k0_part453 i a2 h2 a3 h3 a4 h4 a5 h5 a6 h6 a7 h7 a8 h8 a9 h9 a10 h10 a11 h11 a12 h12 a13 h13 a14 h14 x0 x1 x2 x3 x4 x5) := by
  unfold k0_part453; with_reducible repeat' first | intro _ | apply safe_bind | exact safe_pure _ | exact safe_load | exact safe_store

theorem part454 (x0 x1 x2 x3 x4 x5 x6 x7 x8 x9 x10 x11 x12 x13 x14 x15 x16 x17 x18 x19 x20 x21 x22 x23 x24 x25 x26 x27 x28 x29 x30 x31 x32 x33 x34) : Safe defs c R (k0_part454 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part454; with_reducible repeat' first | intro _ | apply safe_bind | exact safe_pure _ | exact safe_load | exact safe_store

theorem part455 (x0 x1) : Safe defs c R (k0_part455 i a2 h2 a3 h3 a4 h4 a5 h5 a6 h6 a7 h7 a8 h8 a9 h9 a10 h10 a11 h11 a12 h12 a13 h13 a14 h14 x0 x1) := by
  unfold k0_part455; with_reducible repeat' first | intro _ | apply safe_bind | exact safe_pure _ | exact safe_load | exact safe_store

theorem part456 (x0 x1 x2 x3 x4 x5 x6 x7 x8 x9 x10 x11 x12) : Safe defs c R (k0_part456 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part456; with_reducible repeat' first | intro _ | apply safe_bind | exact safe_pure _ | exact safe_load | exact safe_store

theorem part457 (x0 x1 x2 x3 x4 x5 x6 x7 x8 x9 x10 x11 x12 x13 x14 x15 x16 x17 x18 x19 x20 x21 x22 x23 x24) : Safe defs c R (k0_part457 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part457; with_reducible repeat' first | intro _ | apply safe_bind | exact safe_pure _ | exact safe_load | exact safe_store

theorem part458 (x0 x1 x2 x3) : Safe defs c R (k0_part458 i a2 h2 a3 h3 a4 h4 a5 h5 a6 h6 a7 h7 a8 h8 a9 h9 a10 h10 a11 h11 a12 h12 a13 h13 a14 h14 x0 x1 x2 x3) := by
  unfold k0_part458; with_reducible repeat' first | intro _ | apply safe_bind | exact safe_pure _ | exact safe_load | exact safe_store

theorem part459 (x0 x1 x2 x3 x4 x5 x6 x7 x8 x9 x10 x11 x12 x13 x14 x15 x16 x17 x18 x19 x20 x21 x22 x23) : Safe defs c R (k0_part459 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23) := by
  unfold k0_part459; with_reducible repeat' first | intro _ | apply safe_bind | exact safe_pure _ | exact safe_load | exact safe_store

theorem part460 (x0 x1 x2 x3 x4 x5 x6 x7 x8 x9 x10 x11) : Safe defs c R (k0_part460 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part460; with_reducible repeat' first | intro _ | apply safe_bind | exact safe_pure _ | exact safe_load | exact safe_store

theorem part461 (x0 x1 x2 x3 x4) : Safe defs c R (k0_part461 i a2 h2 a3 h3 a4 h4 a5 h5 a6 h6 a7 h7 a8 h8 a9 h9 a10 h10 a11 h11 a12 h12 a13 h13 a14 h14 x0 x1 x2 x3 x4) := by
  unfold k0_part461; with_reducible repeat' first | intro _ | apply safe_bind | exact safe_pure _ | exact safe_load | exact safe_store

theorem part462 (x0 x1 x2 x3 x4 x5 x6 x7 x8 x9 x10 x11 x12 x13 x14 x15 x16 x17 x18 x19 x20 x21 x22 x23 x24 x25 x26 x27 x28 x29 x30 x31 x32 x33 x34) : Safe defs c R (k0_part462 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part462; with_reducible repeat' first | intro _ | apply safe_bind | exact safe_pure _ | exact safe_load | exact safe_store

theorem part463 (x0) : Safe defs c R (k0_part463 i a2 h2 a3 h3 a4 h4 a5 h5 a6 h6 a7 h7 a8 h8 a9 h9 a10 h10 a11 h11 a12 h12 a13 h13 a14 h14 x0) := by
  unfold k0_part463; with_reducible repeat' first | intro _ | apply safe_bind | exact safe_pure _ | exact safe_load | exact safe_store

theorem part464 (x0 x1 x2 x3 x4 x5 x6 x7 x8 x9) : Safe defs c R (k0_part464 i a2 h2 a3 h3 a4 h4 a5 h5 a6 h6 a7 h7 a8 h8 a9 h9 a10 h10 a11 h11 a12 h12 a13 h13 a14 h14 x0 x1 x2 x3 x4 x5 x6 x7 x8 x9) := by
  unfold k0_part464; with_reducible repeat' first | intro _ | apply safe_bind | exact safe_pure _ | exact safe_load | exact safe_store

theorem part466 (x0 x1 x2 x3) : Safe defs c R (k0_part466 i a2 h2 a3 h3 a4 h4 a5 h5 a6 h6 a7 h7 a8 h8 a9 h9 a10 h10 a11 h11 a12 h12 a13 h13 a14 h14 x0 x1 x2 x3) := by
  unfold k0_part466; with_reducible repeat' first | intro _ | apply safe_bind | exact safe_pure _ | exact safe_load | exact safe_store

theorem part467 (x0 x1 x2 x3 x4 x5 x6 x7 x8 x9 x10 x11 x12 x13 x14 x15 x16 x17 x18 x19 x20 x21 x22 x23 x24 x25) : Safe defs c R (k0_part467 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part467; with_reducible repeat' first | intro _ | apply safe_bind | exact safe_pure _ | exact safe_load | exact safe_store

theorem part468 (x0 x1 x2 x3 x4 x5 x6 x7 x8 x9) : Safe defs c R (k0_part468 i a2 h2 a3 h3 a4 h4 a5 h5 a6 h6 a7 h7 a8 h8 a9 h9 a10 h10 a11 h11 a12 h12 a13 h13 a14 h14 x0 x1 x2 x3 x4 x5 x6 x7 x8 x9) := by
  unfold k0_part468; with_reducible repeat' first | intro _ | apply safe_bind | exact safe_pure _ | exact safe_load | exact safe_store

theorem part469 (x0 x1 x2 x3 x4) : Safe defs c R (k0_part469 i a2 h2 a3 h3 a4 h4 a5 h5 a6 h6 a7 h7 a8 h8 a9 h9 a10 h10 a11 h11 a12 h12 a13 h13 a14 h14 x0 x1 x2 x3 x4) := by
  unfold k0_part469; with_reducible repeat' first | intro _ | apply safe_bind | exact safe_pure _ | exact safe_load | exact safe_store

theorem part470 (x0 x1 x2 x3 x4 x5 x6 x7 x8 x9 x10 x11 x12 x13 x14 x15 x16 x17 x18 x19 x20 x21 x22 x23 x24 x25 x26 x27 x28 x29 x30 x31 x32 x33 x34 x35) : Safe defs c R (k0_part470 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34 x35) := by
  unfold k0_part470; with_reducible repeat' first | intro _ | apply safe_bind | exact safe_pure _ | exact safe_load | exact safe_store

theorem part471 (x0 x1) : Safe defs c R (k0_part471 i a2 h2 a3 h3 a4 h4 a5 h5 a6 h6 a7 h7 a8 h8 a9 h9 a10 h10 a11 h11 a12 h12 a13 h13 a14 h14 x0 x1) := by
  unfold k0_part471; with_reducible repeat' first | intro _ | apply safe_bind | exact safe_pure _ | exact safe_load | exact safe_store

theorem part472 (x0 x1 x2 x3 x4 x5 x6 x7 x8 x9 x10 x11) : Safe defs c R (k0_part472 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part472; with_reducible repeat' first | intro _ | apply safe_bind | exact safe_pure _ | exact safe_load | exact safe_store

theorem part473 (x0 x1 x2 x3 x4 x5 x6 x7 x8 x9 x10 x11 x12 x13 x14 x15 x16 x17 x18 x19 x20 x21 x22 x23 x24) : Safe defs c R (k0_part473 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part473; with_reducible repeat' first | intro _ | apply safe_bind | exact safe_pure _ | exact safe_load | exact safe_store

theorem part474 (x0 x1 x2 x3) : Safe defs c R (k0_part474 i a2 h2 a3 h3 a4 h4 a5 h5 a6 h6 a7 h7 a8 h8 a9 h9 a10 h10 a11 h11 a12 h12 a13 h13 a14 h14 x0 x1 x2 x3) := by
  unfold k0_part474; with_reducible repeat' first | intro _ | apply safe_bind | exact safe_pure _ | exact safe_load | exact safe_store

theorem part475 (x0 x1 x2 x3 x4 x5 x6 x7 x8 x9 x10 x11 x12 x13 x14 x15 x16 x17 x18 x19 x20 x21 x22) : Safe defs c R (k0_part475 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part475; with_reducible repeat' first | intro _ | apply safe_bind | exact safe_pure _ | exact safe_load | exact safe_store

theorem part476 (x0 x1 x2 x3 x4 x5 x6 x7 x8 x9 x10 x11 x12 x13) : Safe defs c R (k0_part476 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part476; with_reducible repeat' first | intro _ | apply safe_bind | exact safe_pure _ | exact safe_load | exact safe_store

theorem part477 (x0 x1 x2 x3 x4) : Safe defs c R (k0_part477 i a2 h2 a3 h3 a4 h4 a5 h5 a6 h6 a7 h7 a8 h8 a9 h9 a10 h10 a11 h11 a12 h12 a13 h13 a14 h14 x0 x1 x2 x3 x4) := by
  unfold k0_part477; with_reducible repeat' first | intro _ | apply safe_bind | exact safe_pure _ | exact safe_load | exact safe_store

theorem part478 (x0 x1 x2 x3 x4 x5 x6 x7 x8 x9 x10 x11 x12 x13 x14 x15 x16 x17 x18 x19 x20 x21 x22 x23 x24 x25 x26 x27 x28 x29 x30 x31 x32 x33) : Safe defs c R (k0_part478 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part478; with_reducible repeat' first | intro _ | apply safe_bind | exact safe_pure _ | exact safe_load | exact safe_store

theorem part479 (x0) : Safe defs c R (k0_part479 i a2 h2 a3 h3 a4 h4 a5 h5 a6 h6 a7 h7 a8 h8 a9 h9 a10 h10 a11 h11 a12 h12 a13 h13 a14 h14 x0) := by
  unfold k0_part479; with_reducible repeat' first | intro _ | apply safe_bind | exact safe_pure _ | exact safe_load | exact safe_store

theorem part480 (x0 x1 x2 x3 x4 x5 x6 x7 x8 x9) : Safe defs c R (k0_part480 i a2 h2 a3 h3 a4 h4 a5 h5 a6 h6 a7 h7 a8 h8 a9 h9 a10 h10 a11 h11 a12 h12 a13 h13 a14 h14 x0 x1 x2 x3 x4 x5 x6 x7 x8 x9) := by
  unfold k0_part480; with_reducible repeat' first | intro _ | apply safe_bind | exact safe_pure _ | exact safe_load | exact safe_store

theorem part481 (x0 x1 x2 x3 x4 x5 x6 x7 x8 x9 x10 x11 x12 x13 x14 x15 x16 x17 x18 x19 x20 x21 x22 x23 x24 x25 x26 x27) : Safe defs c R (k0_part481 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27) := by
  unfold k0_part481; with_reducible repeat' first | intro _ | apply safe_bind | exact safe_pure _ | exact safe_load | exact safe_store

theorem part482 (x0 x1 x2 x3) : Safe defs c R (k0_part482 i a2 h2 a3 h3 a4 h4 a5 h5 a6 h6 a7 h7 a8 h8 a9 h9 a10 h10 a11 h11 a12 h12 a13 h13 a14 h14 x0 x1 x2 x3) := by
  unfold k0_part482; with_reducible repeat' first | intro _ | apply safe_bind | exact safe_pure _ | exact safe_load | exact safe_store

theorem part483 (x0 x1 x2 x3 x4 x5 x6 x7 x8 x9 x10 x11 x12 x13 x14 x15 x16 x17 x18 x19) : Safe defs c R (k0_part483 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part483; with_reducible repeat' first | intro _ | apply safe_bind | exact safe_pure _ | exact safe_load | exact safe_store

theorem part484 (x0 x1 x2 x3 x4 x5 x6 x7 x8 x9 x10 x11 x12 x13 x14 x15 x16 x17) : Safe defs c R (k0_part484 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part484; with_reducible repeat' first | intro _ | apply safe_bind | exact safe_pure _ | exact safe_load | exact safe_store

theorem part485 (x0 x1 x2 x3 x4 x5) : Safe defs c R (k0_part485 i a2 h2 a3 h3 a4 h4 a5 h5 a6 h6 a7 h7 a8 h8 a9 h9 a10 h10 a11 h11 a12 h12 a13 h13 a14 h14 x0 x1 x2 x3 x4 x5) := by
  unfold k0_part485; with_reducible repeat' first | intro _ | apply safe_bind | exact safe_pure _ | exact safe_load | exact safe_store

theorem part486 (x0 x1 x2 x3 x4 x5 x6 x7 x8 x9 x10 x11 x12 x13 x14 x15 x16 x17 x18 x19 x20 x21 x22 x23 x24 x25 x26 x27 x28 x29 x30 x31) : Safe defs c R (k0_part486 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31) := by
  unfold k0_part486; with_reducible repeat' first | intro _ | apply safe_bind | exact safe_pure _ | exact safe_load | exact safe_store

theorem part487 (x0 x1 x2) : Safe defs c R (k0_part487 i a2 h2 a3 h3 a4 h4 a5 h5 a6 h6 a7 h7 a8 h8 a9 h9 a10 h10 a11 h11 a12 h12 a13 h13 a14 h14 x0 x1 x2) := by
  unfold k0_part487; with_reducible repeat' first | intro _ | apply safe_bind | exact safe_pure _ | exact safe_load | exact safe_store

theorem part488 (x0 x1 x2 x3 x4 x5 x6) : Safe defs c R (k0_part488 i a2 h2 a3 h3 a4 h4 a5 h5 a6 h6 a7 h7 a8 h8 a9 h9 a10 h10 a11 h11 a12 h12 a13 h13 a14 h14 x0 x1 x2 x3 x4 x5 x6) := by
  unfold k0_part488; with_reducible repeat' first | intro _ | apply safe_bind | exact safe_pure _ | exact safe_load | exact safe_store

theorem part489 (x0 x1 x2 x3 x4 x5 x6 x7 x8 x9 x10 x11 x12 x13 x14 x15 x16 x17 x18 x19 x20 x21 x22 x23 x24 x25 x26 x27 x28 x29 x30) : Safe defs c R (k0_part489 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30) := by
  unfold k0_part489; with_reducible repeat' first | intro _ | apply safe_bind | exact safe_pure _ | exact safe_load | exact safe_store

theorem part490 (x0 x1 x2) : Safe defs c R (k0_part490 i a2 h2 a3 h3 a4 h4 a5 h5 a6 h6 a7 h7 a8 h8 a9 h9 a10 h10 a11 h11 a12 h12 a13 h13 a14 h14 x0 x1 x2) := by
  unfold k0_part490; with_reducible repeat' first | intro _ | apply safe_bind | exact safe_pure _ | exact safe_load | exact safe_store

theorem part491 (x0 x1 x2 x3 x4 x5 x6 x7 x8 x9 x10 x11 x12 x13 x14 x15 x16 x17) : Safe defs c R (k0_part491 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part491; with_reducible repeat' first | intro _ | apply safe_bind | exact safe_pure _ | exact safe_load | exact safe_store

theorem part492 (x0 x1 x2 x3 x4 x5 x6 x7 x8 x9 x10 x11 x12 x13 x14 x15 x16 x17 x18) : Safe defs c R (k0_part492 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18) := by
  unfold k0_part492; with_reducible repeat' first | intro _ | apply safe_bind | exact safe_pure _ | exact safe_load | exact safe_store

theorem part493 (x0 x1 x2 x3 x4 x5 x6) : Safe defs c R (k0_part493 i a2 h2 a3 h3 a4 h4 a5 h5 a6 h6 a7 h7 a8 h8 a9 h9 a10 h10 a11 h11 a12 h12 a13 h13 a14 h14 x0 x1 x2 x3 x4 x5 x6) := by
  unfold k0_part493; with_reducible repeat' first | intro _ | apply safe_bind | exact safe_pure _ | exact safe_load | exact safe_store

theorem part494 (x0 x1 x2 x3 x4 x5 x6 x7 x8 x9 x10 x11 x12 x13 x14 x15 x16 x17 x18 x19 x20 x21 x22 x23 x24 x25 x26 x27 x28) : Safe defs c R (k0_part494 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28) := by
  unfold k0_part494; with_reducible repeat' first | intro _ | apply safe_bind | exact safe_pure _ | exact safe_load | exact safe_store

theorem part495 (x0 x1 x2 x3 x4 x5 x6) : Safe defs c R (k0_part495 i a2 h2 a3 h3 a4 h4 a5 h5 a6 h6 a7 h7 a8 h8 a9 h9 a10 h10 a11 h11 a12 h12 a13 h13 a14 h14 x0 x1 x2 x3 x4 x5 x6) := by
  unfold k0_part495; with_reducible repeat' first | intro _ | apply safe_bind | exact safe_pure _ | exact safe_load | exact safe_store

theorem part496 (x0 x1 x2 x3) : Safe defs c R (k0_part496 i a2 h2 a3 h3 a4 h4 a5 h5 a6 h6 a7 h7 a8 h8 a9 h9 a10 h10 a11 h11 a12 h12 a13 h13 a14 h14 x0 x1 x2 x3) := by
  unfold k0_part496; with_reducible repeat' first | intro _ | apply safe_bind | exact safe_pure _ | exact safe_load | exact safe_store

theorem part497 (x0 x1 x2 x3 x4 x5 x6 x7 x8 x9 x10 x11 x12 x13 x14 x15 x16 x17 x18 x19 x20 x21 x22 x23 x24 x25 x26 x27 x28 x29 x30 x31 x32 x33 x34) : Safe defs c R (k0_part497 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part497; with_reducible repeat' first | intro _ | apply safe_bind | exact safe_pure _ | exact safe_load | exact safe_store

theorem part498 (x0 x1) : Safe defs c R (k0_part498 i a2 h2 a3 h3 a4 h4 a5 h5 a6 h6 a7 h7 a8 h8 a9 h9 a10 h10 a11 h11 a12 h12 a13 h13 a14 h14 x0 x1) := by
  unfold k0_part498; with_reducible repeat' first | intro _ | apply safe_bind | exact safe_pure _ | exact safe_load | exact safe_store

end Cert.Proof.Keep

end
-- ==== Proof.Keep.Straight8.lean ====
/- Windows of the kernel's body that load, compute and store in a straight line: each keeps every buffer it is lent (`Safe`). -/
module

public import proofs.«01_k».proof.KernelIdeal
public import proofs.«01_k».proof.Proof.Keep.Logic

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {a2 : Memref sig .tc .vmem S1x1x512x256 .bf16} {h2 : a2.IsWhole}
  {a3 : Memref sig .tc .vmem S1x1x512x256 .bf16} {h3 : a3.IsWhole}
  {a4 : Memref sig .tc .vmem S1x1x16x256 .f32} {h4 : a4.IsWhole}
  {a5 : Memref sig .tc .vmem S1x1x512x256 .bf16} {h5 : a5.IsWhole}
  {a6 : Memref sig .tc .vmem S1x4096x512 .bf16} {h6 : a6.IsWhole}
  {a7 : Memref sig .tc .vmem S1x4096x64 .bf16} {h7 : a7.IsWhole}
  {a8 : Memref sig .tc .vmem S1x16x512x256 .bf16} {h8 : a8.IsWhole}
  {a9 : Memref sig .tc .vmem S1x256x512 .bf16} {h9 : a9.IsWhole}
  {a10 : Memref sig .tc .vmem S16x256x256 .f32} {h10 : a10.IsWhole}
  {a11 : Memref sig .tc .vmem S16x256x256 .f32} {h11 : a11.IsWhole}
  {a12 : Memref sig .tc .vmem S3x16x256x256 .bf16} {h12 : a12.IsWhole}
  {a13 : Memref sig .tc .vmem S64x256x256 .f32} {h13 : a13.IsWhole}
  {a14 : Memref sig .tc .vmem S512x256 .f32} {h14 : a14.IsWhole}
variable [Reads c R a2] [Reads c R a3] [Reads c R a4] [Reads c R a5] [Reads c R a6] [Reads c R a7] [Reads c R a8] [Writes c R a9] [Writes c R a10] [Writes c R a11] [Writes c R a12] [Writes c R a13] [Writes c R a14]

theorem part499 (x0 x1 x2 x3 x4 x5 x6 x7 x8 x9 x10 x11 x12 x13 x14 x15) : Safe defs c R (k0_part499 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15) := by
  unfold k0_part499; with_reducible repeat' first | intro _ | apply safe_bind | exact safe_pure _ | exact safe_load | exact safe_store

theorem part500 (x0 x1 x2 x3 x4 x5 x6 x7 x8 x9 x10 x11 x12 x13 x14 x15 x16 x17 x18 x19 x20 x21) : Safe defs c R (k0_part500 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21) := by
  unfold k0_part500; with_reducible repeat' first | intro _ | apply safe_bind | exact safe_pure _ | exact safe_load | exact safe_store

theorem part501 (x0 x1 x2 x3) : Safe defs c R (k0_part501 i a2 h2 a3 h3 a4 h4 a5 h5 a6 h6 a7 h7 a8 h8 a9 h9 a10 h10 a11 h11 a12 h12 a13 h13 a14 h14 x0 x1 x2 x3) := by
  unfold k0_part501; with_reducible repeat' first | intro _ | apply safe_bind | exact safe_pure _ | exact safe_load | exact safe_store

theorem part502 (x0 x1 x2 x3 x4 x5 x6 x7 x8 x9 x10 x11 x12 x13 x14 x15 x16 x17 x18 x19 x20 x21 x22 x23 x24 x25) : Safe defs c R (k0_part502 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25) := by
  unfold k0_part502; with_reducible repeat' first | intro _ | apply safe_bind | exact safe_pure _ | exact safe_load | exact safe_store

theorem part503 (x0 x1 x2 x3 x4 x5 x6 x7 x8 x9) : Safe defs c R (k0_part503 i a2 h2 a3 h3 a4 h4 a5 h5 a6 h6 a7 h7 a8 h8 a9 h9 a10 h10 a11 h11 a12 h12 a13 h13 a14 h14 x0 x1 x2 x3 x4 x5 x6 x7 x8 x9) := by
  unfold k0_part503; with_reducible repeat' first | intro _ | apply safe_bind | exact safe_pure _ | exact safe_load | exact safe_store

theorem part504 (x0 x1 x2 x3 x4 x5) : Safe defs c R (k0_part504 i a2 h2 a3 h3 a4 h4 a5 h5 a6 h6 a7 h7 a8 h8 a9 h9 a10 h10 a11 h11 a12 h12 a13 h13 a14 h14 x0 x1 x2 x3 x4 x5) := by
  unfold k0_part504; with_reducible repeat' first | intro _ | apply safe_bind | exact safe_pure _ | exact safe_load | exact safe_store

theorem part505 (x0 x1 x2 x3 x4 x5 x6 x7 x8 x9 x10 x11 x12 x13 x14 x15 x16 x17 x18 x19 x20 x21 x22 x23 x24 x25 x26 x27 x28 x29 x30 x31 x32 x33 x34) : Safe defs c R (k0_part505 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part505; with_reducible repeat' first | intro _ | apply safe_bind | exact safe_pure _ | exact safe_load | exact safe_store

theorem part506 (x0 x1) : Safe defs c R (k0_part506 i a2 h2 a3 h3 a4 h4 a5 h5 a6 h6 a7 h7 a8 h8 a9 h9 a10 h10 a11 h11 a12 h12 a13 h13 a14 h14 x0 x1) := by
  unfold k0_part506; with_reducible repeat' first | intro _ | apply safe_bind | exact safe_pure _ | exact safe_load | exact safe_store

theorem part507 (x0 x1 x2 x3 x4 x5 x6 x7 x8 x9 x10 x11 x12) : Safe defs c R (k0_part507 i a2 h2 a3 h3 a4 h4 a5 h5 a6 h6 a7 h7 a8 h8 a9 h9 a10 h10 a11 h11 a12 h12 a13 h13 a14 h14 x0 x1 x2 x3 x4 x5 x6 x7 x8 x9 x10 x11 x12) := by
  unfold k0_part507; with_reducible repeat' first | intro _ | apply safe_bind | exact safe_pure _ | exact safe_load | exact safe_store

theorem part508 (x0 x1 x2 x3 x4 x5 x6 x7 x8 x9 x10 x11 x12 x13 x14 x15 x16 x17 x18 x19 x20 x21 x22 x23 x24) : Safe defs c R (k0_part508 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24) := by
  unfold k0_part508; with_reducible repeat' first | intro _ | apply safe_bind | exact safe_pure _ | exact safe_load | exact safe_store

theorem part509 (x0 x1 x2 x3) : Safe defs c R (k0_part509 i a2 h2 a3 h3 a4 h4 a5 h5 a6 h6 a7 h7 a8 h8 a9 h9 a10 h10 a11 h11 a12 h12 a13 h13 a14 h14 x0 x1 x2 x3) := by
  unfold k0_part509; with_reducible repeat' first | intro _ | apply safe_bind | exact safe_pure _ | exact safe_load | exact safe_store

theorem part510 (x0 x1 x2 x3 x4 x5 x6 x7 x8 x9 x10 x11 x12 x13 x14 x15 x16 x17 x18 x19 x20 x21 x22 x23) : Safe defs c R (k0_part510 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23) := by
  unfold k0_part510; with_reducible repeat' first | intro _ | apply safe_bind | exact safe_pure _ | exact safe_load | exact safe_store

theorem part511 (x0 x1 x2 x3 x4 x5 x6 x7 x8 x9 x10 x11) : Safe defs c R (k0_part511 i a2 h2 a3 h3 a4 h4 a5 h5 a6 h6 a7 h7 a8 h8 a9 h9 a10 h10 a11 h11 a12 h12 a13 h13 a14 h14 x0 x1 x2 x3 x4 x5 x6 x7 x8 x9 x10 x11) := by
  unfold k0_part511; with_reducible repeat' first | intro _ | apply safe_bind | exact safe_pure _ | exact safe_load | exact safe_store

theorem part512 (x0 x1 x2 x3 x4) : Safe defs c R (k0_part512 i a2 h2 a3 h3 a4 h4 a5 h5 a6 h6 a7 h7 a8 h8 a9 h9 a10 h10 a11 h11 a12 h12 a13 h13 a14 h14 x0 x1 x2 x3 x4) := by
  unfold k0_part512; with_reducible repeat' first | intro _ | apply safe_bind | exact safe_pure _ | exact safe_load | exact safe_store

theorem part513 (x0 x1 x2 x3 x4 x5 x6 x7 x8 x9 x10 x11 x12 x13 x14 x15 x16 x17 x18 x19 x20 x21 x22 x23 x24 x25 x26 x27 x28 x29 x30 x31 x32 x33 x34) : Safe defs c R (k0_part513 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33 x34) := by
  unfold k0_part513; with_reducible repeat' first | intro _ | apply safe_bind | exact safe_pure _ | exact safe_load | exact safe_store

theorem part514 (x0) : Safe defs c R (k0_part514 i a2 h2 a3 h3 a4 h4 a5 h5 a6 h6 a7 h7 a8 h8 a9 h9 a10 h10 a11 h11 a12 h12 a13 h13 a14 h14 x0) := by
  unfold k0_part514; with_reducible repeat' first | intro _ | apply safe_bind | exact safe_pure _ | exact safe_load | exact safe_store

theorem part515 (x0 x1 x2 x3 x4 x5 x6 x7 x8 x9) : Safe defs c R (k0_part515 i a2 h2 a3 h3 a4 h4 a5 h5 a6 h6 a7 h7 a8 h8 a9 h9 a10 h10 a11 h11 a12 h12 a13 h13 a14 h14 x0 x1 x2 x3 x4 x5 x6 x7 x8 x9) := by
  unfold k0_part515; with_reducible repeat' first | intro _ | apply safe_bind | exact safe_pure _ | exact safe_load | exact safe_store

theorem part517 (x0 x1 x2) : Safe defs c R (k0_part517 i a2 h2 a3 h3 a4 h4 a5 h5 a6 h6 a7 h7 a8 h8 a9 h9 a10 h10 a11 h11 a12 h12 a13 h13 a14 h14 x0 x1 x2) := by
  unfold k0_part517; with_reducible repeat' first | intro _ | apply safe_bind | exact safe_pure _ | exact safe_load | exact safe_store

theorem part518 (x0 x1 x2 x3 x4 x5 x6 x7 x8 x9 x10 x11 x12 x13 x14 x15 x16 x17 x18 x19 x20 x21 x22) : Safe defs c R (k0_part518 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part518; with_reducible repeat' first | intro _ | apply safe_bind | exact safe_pure _ | exact safe_load | exact safe_store

theorem part519 (x0 x1 x2 x3 x4 x5 x6 x7 x8 x9 x10 x11 x12 x13) : Safe defs c R (k0_part519 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part519; with_reducible repeat' first | intro _ | apply safe_bind | exact safe_pure _ | exact safe_load | exact safe_store

theorem part520 (x0 x1 x2 x3 x4) : Safe defs c R (k0_part520 i a2 h2 a3 h3 a4 h4 a5 h5 a6 h6 a7 h7 a8 h8 a9 h9 a10 h10 a11 h11 a12 h12 a13 h13 a14 h14 x0 x1 x2 x3 x4) := by
  unfold k0_part520; with_reducible repeat' first | intro _ | apply safe_bind | exact safe_pure _ | exact safe_load | exact safe_store

theorem part521 (x0 x1 x2 x3 x4 x5 x6 x7 x8 x9 x10 x11 x12 x13 x14 x15 x16 x17 x18 x19 x20 x21 x22 x23 x24 x25 x26 x27 x28 x29 x30 x31 x32) : Safe defs c R (k0_part521 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part521; with_reducible repeat' first | intro _ | apply safe_bind | exact safe_pure _ | exact safe_load | exact safe_store

theorem part522 (x0 x1) : Safe defs c R (k0_part522 i a2 h2 a3 h3 a4 h4 a5 h5 a6 h6 a7 h7 a8 h8 a9 h9 a10 h10 a11 h11 a12 h12 a13 h13 a14 h14 x0 x1) := by
  unfold k0_part522; with_reducible repeat' first | intro _ | apply safe_bind | exact safe_pure _ | exact safe_load | exact safe_store

theorem part523 (x0 x1 x2 x3 x4 x5 x6 x7 x8) : Safe defs c R (k0_part523 i a2 h2 a3 h3 a4 h4 a5 h5 a6 h6 a7 h7 a8 h8 a9 h9 a10 h10 a11 h11 a12 h12 a13 h13 a14 h14 x0 x1 x2 x3 x4 x5 x6 x7 x8) := by
  unfold k0_part523; with_reducible repeat' first | intro _ | apply safe_bind | exact safe_pure _ | exact safe_load | exact safe_store

theorem part524 (x0 x1 x2 x3 x4 x5 x6 x7 x8 x9 x10 x11 x12 x13 x14 x15 x16 x17 x18 x19 x20 x21 x22 x23 x24 x25 x26 x27) : Safe defs c R (k0_part524 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27) := by
  unfold k0_part524; with_reducible repeat' first | intro _ | apply safe_bind | exact safe_pure _ | exact safe_load | exact safe_store

theorem part525 (x0 x1 x2 x3) : Safe defs c R (k0_part525 i a2 h2 a3 h3 a4 h4 a5 h5 a6 h6 a7 h7 a8 h8 a9 h9 a10 h10 a11 h11 a12 h12 a13 h13 a14 h14 x0 x1 x2 x3) := by
  unfold k0_part525; with_reducible repeat' first | intro _ | apply safe_bind | exact safe_pure _ | exact safe_load | exact safe_store

theorem part526 (x0 x1 x2 x3 x4 x5 x6 x7 x8 x9 x10 x11 x12 x13 x14 x15 x16 x17 x18 x19) : Safe defs c R (k0_part526 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part526; with_reducible repeat' first | intro _ | apply safe_bind | exact safe_pure _ | exact safe_load | exact safe_store

theorem part527 (x0 x1 x2 x3 x4 x5 x6 x7 x8 x9 x10 x11 x12 x13 x14 x15 x16 x17) : Safe defs c R (k0_part527 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part527; with_reducible repeat' first | intro _ | apply safe_bind | exact safe_pure _ | exact safe_load | exact safe_store

theorem part528 (x0 x1 x2 x3 x4 x5) : Safe defs c R (k0_part528 i a2 h2 a3 h3 a4 h4 a5 h5 a6 h6 a7 h7 a8 h8 a9 h9 a10 h10 a11 h11 a12 h12 a13 h13 a14 h14 x0 x1 x2 x3 x4 x5) := by
  unfold k0_part528; with_reducible repeat' first | intro _ | apply safe_bind | exact safe_pure _ | exact safe_load | exact safe_store

theorem part529 (x0 x1 x2 x3 x4 x5 x6 x7 x8 x9 x10 x11 x12 x13 x14 x15 x16 x17 x18 x19 x20 x21 x22 x23 x24 x25 x26 x27 x28 x29 x30) : Safe defs c R (k0_part529 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30) := by
  unfold k0_part529; with_reducible repeat' first | intro _ | apply safe_bind | exact safe_pure _ | exact safe_load | exact safe_store

theorem part530 (x0 x1 x2) : Safe defs c R (k0_part530 i a2 h2 a3 h3 a4 h4 a5 h5 a6 h6 a7 h7 a8 h8 a9 h9 a10 h10 a11 h11 a12 h12 a13 h13 a14 h14 x0 x1 x2) := by
  unfold k0_part530; with_reducible repeat' first | intro _ | apply safe_bind | exact safe_pure _ | exact safe_load | exact safe_store

theorem part531 (x0 x1 x2 x3 x4 x5 x6) : Safe defs c R (k0_part531 i a2 h2 a3 h3 a4 h4 a5 h5 a6 h6 a7 h7 a8 h8 a9 h9 a10 h10 a11 h11 a12 h12 a13 h13 a14 h14 x0 x1 x2 x3 x4 x5 x6) := by
  unfold k0_part531; with_reducible repeat' first | intro _ | apply safe_bind | exact safe_pure _ | exact safe_load | exact safe_store

theorem part532 (x0 x1 x2 x3 x4 x5 x6 x7 x8 x9 x10 x11 x12 x13 x14 x15 x16 x17 x18 x19 x20 x21 x22 x23 x24 x25 x26 x27 x28 x29 x30) : Safe defs c R (k0_part532 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30) := by
  unfold k0_part532; with_reducible repeat' first | intro _ | apply safe_bind | exact safe_pure _ | exact safe_load | exact safe_store

theorem part533 (x0 x1 x2) : Safe defs c R (k0_part533 i a2 h2 a3 h3 a4 h4 a5 h5 a6 h6 a7 h7 a8 h8 a9 h9 a10 h10 a11 h11 a12 h12 a13 h13 a14 h14 x0 x1 x2) := by
  unfold k0_part533; with_reducible repeat' first | intro _ | apply safe_bind | exact safe_pure _ | exact safe_load | exact safe_store

theorem part534 (x0 x1 x2 x3 x4 x5 x6 x7 x8 x9 x10 x11 x12 x13 x14 x15 x16) : Safe defs c R (k0_part534 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part534; with_reducible repeat' first | intro _ | apply safe_bind | exact safe_pure _ | exact safe_load | exact safe_store

theorem part535 (x0 x1 x2 x3 x4 x5 x6 x7 x8 x9 x10 x11 x12 x13 x14 x15 x16 x17 x18 x19 x20) : Safe defs c R (k0_part535 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20) := by
  unfold k0_part535; with_reducible repeat' first | intro _ | apply safe_bind | exact safe_pure _ | exact safe_load | exact safe_store

theorem part536 (x0 x1 x2 x3) : Safe defs c R (k0_part536 i a2 h2 a3 h3 a4 h4 a5 h5 a6 h6 a7 h7 a8 h8 a9 h9 a10 h10 a11 h11 a12 h12 a13 h13 a14 h14 x0 x1 x2 x3) := by
  unfold k0_part536; with_reducible repeat' first | intro _ | apply safe_bind | exact safe_pure _ | exact safe_load | exact safe_store

theorem part537 (x0 x1 x2 x3 x4 x5 x6 x7 x8 x9 x10 x11 x12 x13 x14 x15 x16 x17 x18 x19 x20 x21 x22 x23 x24 x25 x26 x27 x28) : Safe defs c R (k0_part537 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28) := by
  unfold k0_part537; with_reducible repeat' first | intro _ | apply safe_bind | exact safe_pure _ | exact safe_load | exact safe_store

theorem part538 (x0 x1 x2 x3 x4 x5 x6) : Safe defs c R (k0_part538 i a2 h2 a3 h3 a4 h4 a5 h5 a6 h6 a7 h7 a8 h8 a9 h9 a10 h10 a11 h11 a12 h12 a13 h13 a14 h14 x0 x1 x2 x3 x4 x5 x6) := by
  unfold k0_part538; with_reducible repeat' first | intro _ | apply safe_bind | exact safe_pure _ | exact safe_load | exact safe_store

theorem part539 (x0 x1 x2 x3) : Safe defs c R (k0_part539 i a2 h2 a3 h3 a4 h4 a5 h5 a6 h6 a7 h7 a8 h8 a9 h9 a10 h10 a11 h11 a12 h12 a13 h13 a14 h14 x0 x1 x2 x3) := by
  unfold k0_part539; with_reducible repeat' first | intro _ | apply safe_bind | exact safe_pure _ | exact safe_load | exact safe_store

theorem part540 (x0 x1 x2 x3 x4 x5 x6 x7 x8 x9 x10 x11 x12 x13 x14 x15 x16 x17 x18 x19 x20 x21 x22 x23 x24 x25 x26 x27 x28 x29 x30 x31 x32 x33) : Safe defs c R (k0_part540 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32 x33) := by
  unfold k0_part540; with_reducible repeat' first | intro _ | apply safe_bind | exact safe_pure _ | exact safe_load | exact safe_store

theorem part541 (x0 x1) : Safe defs c R (k0_part541 i a2 h2 a3 h3 a4 h4 a5 h5 a6 h6 a7 h7 a8 h8 a9 h9 a10 h10 a11 h11 a12 h12 a13 h13 a14 h14 x0 x1) := by
  unfold k0_part541; with_reducible repeat' first | intro _ | apply safe_bind | exact safe_pure _ | exact safe_load | exact safe_store

theorem part542 (x0 x1 x2) : Safe defs c R (k0_part542 i a2 h2 a3 h3 a4 h4 a5 h5 a6 h6 a7 h7 a8 h8 a9 h9 a10 h10 a11 h11 a12 h12 a13 h13 a14 h14 x0 x1 x2) := by
  unfold k0_part542; with_reducible repeat' first | intro _ | apply safe_bind | exact safe_pure _ | exact safe_load | exact safe_store

theorem part543 (x0 x1 x2 x3 x4 x5 x6 x7 x8 x9 x10 x11 x12 x13 x14 x15 x16 x17 x18 x19 x20 x21 x22) : Safe defs c R (k0_part543 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part543; with_reducible repeat' first | intro _ | apply safe_bind | exact safe_pure _ | exact safe_load | exact safe_store

theorem part544 (x0 x1 x2 x3 x4 x5 x6 x7 x8 x9 x10 x11 x12 x13) : Safe defs c R (k0_part544 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part544; with_reducible repeat' first | intro _ | apply safe_bind | exact safe_pure _ | exact safe_load | exact safe_store

theorem part545 (x0 x1 x2 x3 x4) : Safe defs c R (k0_part545 i a2 h2 a3 h3 a4 h4 a5 h5 a6 h6 a7 h7 a8 h8 a9 h9 a10 h10 a11 h11 a12 h12 a13 h13 a14 h14 x0 x1 x2 x3 x4) := by
  unfold k0_part545; with_reducible repeat' first | intro _ | apply safe_bind | exact safe_pure _ | exact safe_load | exact safe_store

theorem part546 (x0 x1 x2 x3 x4 x5 x6 x7 x8 x9 x10 x11 x12 x13 x14 x15 x16 x17 x18 x19 x20 x21 x22 x23 x24 x25 x26 x27 x28 x29 x30 x31 x32) : Safe defs c R (k0_part546 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part546; with_reducible repeat' first | intro _ | apply safe_bind | exact safe_pure _ | exact safe_load | exact safe_store

theorem part547 (x0 x1) : Safe defs c R (k0_part547 i a2 h2 a3 h3 a4 h4 a5 h5 a6 h6 a7 h7 a8 h8 a9 h9 a10 h10 a11 h11 a12 h12 a13 h13 a14 h14 x0 x1) := by
  unfold k0_part547; with_reducible repeat' first | intro _ | apply safe_bind | exact safe_pure _ | exact safe_load | exact safe_store

theorem part548 (x0 x1 x2 x3 x4 x5 x6 x7 x8) : Safe defs c R (k0_part548 i a2 h2 a3 h3 a4 h4 a5 h5 a6 h6 a7 h7 a8 h8 a9 h9 a10 h10 a11 h11 a12 h12 a13 h13 a14 h14 x0 x1 x2 x3 x4 x5 x6 x7 x8) := by
  unfold k0_part548; with_reducible repeat' first | intro _ | apply safe_bind | exact safe_pure _ | exact safe_load | exact safe_store

theorem part549 (x0 x1 x2 x3 x4 x5 x6 x7 x8 x9 x10 x11 x12 x13 x14 x15 x16 x17 x18 x19 x20 x21 x22 x23 x24 x25 x26 x27) : Safe defs c R (k0_part549 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27) := by
  unfold k0_part549; with_reducible repeat' first | intro _ | apply safe_bind | exact safe_pure _ | exact safe_load | exact safe_store

theorem part550 (x0 x1 x2 x3) : Safe defs c R (k0_part550 i a2 h2 a3 h3 a4 h4 a5 h5 a6 h6 a7 h7 a8 h8 a9 h9 a10 h10 a11 h11 a12 h12 a13 h13 a14 h14 x0 x1 x2 x3) := by
  unfold k0_part550; with_reducible repeat' first | intro _ | apply safe_bind | exact safe_pure _ | exact safe_load | exact safe_store

theorem part551 (x0 x1 x2 x3 x4 x5 x6 x7 x8 x9 x10 x11 x12 x13 x14 x15 x16 x17 x18 x19) : Safe defs c R (k0_part551 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19) := by
  unfold k0_part551; with_reducible repeat' first | intro _ | apply safe_bind | exact safe_pure _ | exact safe_load | exact safe_store

theorem part552 (x0 x1 x2 x3 x4 x5 x6 x7 x8 x9 x10 x11 x12 x13 x14 x15 x16 x17) : Safe defs c R (k0_part552 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17) := by
  unfold k0_part552; with_reducible repeat' first | intro _ | apply safe_bind | exact safe_pure _ | exact safe_load | exact safe_store

theorem part553 (x0 x1 x2 x3 x4 x5) : Safe defs c R (k0_part553 i a2 h2 a3 h3 a4 h4 a5 h5 a6 h6 a7 h7 a8 h8 a9 h9 a10 h10 a11 h11 a12 h12 a13 h13 a14 h14 x0 x1 x2 x3 x4 x5) := by
  unfold k0_part553; with_reducible repeat' first | intro _ | apply safe_bind | exact safe_pure _ | exact safe_load | exact safe_store

theorem part554 (x0 x1 x2) : Safe defs c R (k0_part554 i a2 h2 a3 h3 a4 h4 a5 h5 a6 h6 a7 h7 a8 h8 a9 h9 a10 h10 a11 h11 a12 h12 a13 h13 a14 h14 x0 x1 x2) := by
  unfold k0_part554; with_reducible repeat' first | intro _ | apply safe_bind | exact safe_pure _ | exact safe_load | exact safe_store

theorem part555 (x0 x1 x2 x3 x4 x5 x6 x7 x8 x9 x10 x11 x12 x13 x14 x15 x16 x17 x18 x19 x20 x21 x22) : Safe defs c R (k0_part555 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22) := by
  unfold k0_part555; with_reducible repeat' first | intro _ | apply safe_bind | exact safe_pure _ | exact safe_load | exact safe_store

theorem part556 (x0 x1 x2 x3 x4 x5 x6 x7 x8 x9 x10 x11 x12 x13) : Safe defs c R (k0_part556 i a2 h2 a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part556; with_reducible repeat' first | intro _ | apply safe_bind | exact safe_pure _ | exact safe_load | exact safe_store

theorem part557 (x0 x1 x2 x3 x4) : Safe defs c R (k0_part557 i a2 h2 a3 h3 a4 h4 a5 h5 a6 h6 a7 h7 a8 h8 a9 h9 a10 h10 a11 h11 a12 h12 a13 h13 a14 h14 x0 x1 x2 x3 x4) := by
  unfold k0_part557; with_reducible repeat' first | intro _ | apply safe_bind | exact safe_pure _ | exact safe_load | exact safe_store

theorem part558 (x0 x1 x2 x3 x4 x5 x6 x7 x8 x9 x10 x11 x12 x13 x14 x15 x16 x17 x18 x19 x20 x21 x22 x23 x24 x25 x26 x27 x28 x29 x30 x31 x32) : Safe defs c R (k0_part558 i a2 h2 a3 h3 a4 h4 a5 h5 a6 h6 a7 h7 a8 h8 a9 h9 a10 h10 a11 h11 a12 h12 a13 h13 a14 h14 x0 x1 x2 x3 x4 x5 x6 x7 x8 x9 x10 x11 x12 x13 x14 x15 x16 x17 x18 x19 x20 x21 x22 x23 x24 x25 x26 x27 x28 x29 x30 x31 x32) := by
  unfold k0_part558; with_reducible repeat' first | intro _ | apply safe_bind | exact safe_pure _ | exact safe_load | exact safe_store

theorem part559 (x0 x1) : Safe defs c R (k0_part559 i a2 h2 a3 h3 a4 h4 a5 h5 a6 h6 a7 h7 a8 h8 a9 h9 a10 h10 a11 h11 a12 h12 a13 h13 a14 h14 x0 x1) := by
  unfold k0_part559; with_reducible repeat' first | intro _ | apply safe_bind | exact safe_pure _ | exact safe_load | exact safe_store

theorem part567 (x0 x1 x2 x3) : Safe defs c R (k0_part567 i a2 h2 a3 h3 a4 h4 a5 h5 a6 h6 a7 h7 a8 h8 a9 h9 a10 h10 a11 h11 a12 h12 a13 h13 a14 h14 x0 x1 x2 x3) := by
  unfold k0_part567; with_reducible repeat' first | intro _ | apply safe_bind | exact safe_pure _ | exact safe_load | exact safe_store

end Cert.Proof.Keep

end
-- ==== Proof.Keep.Control.lean ====
/- The windows of the kernel's body that hold a loop, a conditional or a call of another window, and the body itself: each keeps every buffer it is lent (`Safe`). -/
module

public import proofs.«01_k».proof.Proof.Keep.Straight1
public import proofs.«01_k».proof.Proof.Keep.Straight2
public import proofs.«01_k».proof.Proof.Keep.Straight3
public import proofs.«01_k».proof.Proof.Keep.Straight4
public import proofs.«01_k».proof.Proof.Keep.Straight5
public import proofs.«01_k».proof.Proof.Keep.Straight6
public import proofs.«01_k».proof.Proof.Keep.Straight7
public import proofs.«01_k».proof.Proof.Keep.Straight8

@[expose] public section

noncomputable section

namespace Cert.Proof.Keep

open Cert.KernelIdeal
open Idealize.ShloMosaic Idealize.ShloMosaic.TcCoe
open Idealize.SL Idealize.SL.RA
open Idealize.SL.BI (sProp)
open Idealize.SL.Sem
open Idealize.ShloMosaic.Rounds

variable {F : FTy → Type} [FloatOps F] [Facts]
variable {defs : Defs nD τ sig (Elt F) Λ₀} {c : Dev nD} {R : sProp (MT nD τ sig Unit (Elt F) ℕ (UR sig nD τ) ℕ)}
variable {i : Cert.KernelIdeal.grid0.Coords}
  {arg2 : Memref sig .tc .vmem S1x1x512x256 .bf16} {harg2 : arg2.IsWhole}
  {arg3 : Memref sig .tc .vmem S1x1x512x256 .bf16} {harg3 : arg3.IsWhole}
  {arg4 : Memref sig .tc .vmem S1x1x16x256 .f32} {harg4 : arg4.IsWhole}
  {arg5 : Memref sig .tc .vmem S1x1x512x256 .bf16} {harg5 : arg5.IsWhole}
  {arg6 : Memref sig .tc .vmem S1x4096x512 .bf16} {harg6 : arg6.IsWhole}
  {arg7 : Memref sig .tc .vmem S1x4096x64 .bf16} {harg7 : arg7.IsWhole}
  {arg8 : Memref sig .tc .vmem S1x16x512x256 .bf16} {harg8 : arg8.IsWhole}
  {arg9 : Memref sig .tc .vmem S1x256x512 .bf16} {harg9 : arg9.IsWhole}
  {arg10 : Memref sig .tc .vmem S16x256x256 .f32} {harg10 : arg10.IsWhole}
  {arg11 : Memref sig .tc .vmem S16x256x256 .f32} {harg11 : arg11.IsWhole}
  {arg12 : Memref sig .tc .vmem S3x16x256x256 .bf16} {harg12 : arg12.IsWhole}
  {arg13 : Memref sig .tc .vmem S64x256x256 .f32} {harg13 : arg13.IsWhole}
  {arg14 : Memref sig .tc .vmem S512x256 .f32} {harg14 : arg14.IsWhole}
variable [Reads c R arg2] [Reads c R arg3] [Reads c R arg4] [Reads c R arg5] [Reads c R arg6] [Reads c R arg7] [Reads c R arg8] [Writes c R arg9] [Writes c R arg10] [Writes c R arg11] [Writes c R arg12] [Writes c R arg13] [Writes c R arg14]

theorem part52 (x0 x1 x2 x3 x4 x5) :
    Safe defs c R (k0_part52 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5) := by
  unfold k0_part52; with_reducible repeat' first | intro _ | refine safe_bind ?_ ?_ | exact safe_pure _ | exact safe_load | exact safe_store | apply part1 | apply part2 | apply part3 | apply part4 | apply part5 | apply part6 | apply part7 | apply part8 | apply part9 | apply part10 | apply part11 | apply part12 | apply part13 | apply part14 | apply part15 | apply part16 | apply part17 | apply part18 | apply part19 | apply part20 | apply part21 | apply part22 | apply part23 | apply part24 | apply part25 | apply part26 | apply part27 | apply part28 | apply part29 | apply part30 | apply part31 | apply part32 | apply part33 | apply part34 | apply part35 | apply part36 | apply part37 | apply part38 | apply part39 | apply part40 | apply part41 | apply part42 | apply part43 | apply part44 | apply part45 | apply part46 | apply part47 | apply part48 | apply part49 | apply part50 | apply part51

theorem part104 (x0 x1 x2 x3 x4 x5) :
    Safe defs c R (k0_part104 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5) := by
  unfold k0_part104; with_reducible repeat' first | intro _ | refine safe_bind ?_ ?_ | exact safe_pure _ | exact safe_load | exact safe_store | apply part53 | apply part54 | apply part55 | apply part56 | apply part57 | apply part58 | apply part59 | apply part60 | apply part61 | apply part62 | apply part63 | apply part64 | apply part65 | apply part66 | apply part67 | apply part68 | apply part69 | apply part70 | apply part71 | apply part72 | apply part73 | apply part74 | apply part75 | apply part76 | apply part77 | apply part78 | apply part79 | apply part80 | apply part81 | apply part82 | apply part83 | apply part84 | apply part85 | apply part86 | apply part87 | apply part88 | apply part89 | apply part90 | apply part91 | apply part92 | apply part93 | apply part94 | apply part95 | apply part96 | apply part97 | apply part98 | apply part99 | apply part100 | apply part101 | apply part102 | apply part103

theorem part130 (x0 x1 x2 x3 x4) :
    Safe defs c R (k0_part130 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4) := by
  unfold k0_part130; with_reducible repeat' first | intro _ | refine safe_bind ?_ ?_ | exact safe_pure _ | exact safe_load | exact safe_store | apply part105 | apply part106 | apply part107 | apply part108 | apply part109 | apply part110 | apply part111 | apply part112 | apply part113 | apply part114 | apply part115 | apply part116 | apply part117 | apply part118 | apply part119 | apply part120 | apply part121 | apply part122 | apply part123 | apply part124 | apply part125 | apply part126 | apply part127 | apply part128 | apply part129

theorem part143 (x0 x1 x2 x3 x4) :
    Safe defs c R (k0_part143 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4) := by
  unfold k0_part143; with_reducible repeat' first | intro _ | refine safe_bind ?_ ?_ | exact safe_pure _ | exact safe_load | exact safe_store | apply part131 | apply part132 | apply part133 | apply part134 | apply part135 | apply part136 | apply part137 | apply part138 | apply part139 | apply part140 | apply part141 | apply part142

theorem part163 (x0 x1 x2 x3 x4 x5 x6 x7 x8 x9) :
    Safe defs c R (k0_part163 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part163; with_reducible repeat' first | intro _ | refine safe_bind ?_ ?_ | exact safe_pure _ | exact safe_load | exact safe_store | apply part152 | apply part153 | apply part154 | apply part155 | apply part156 | apply part157 | apply part158 | apply part159 | apply part160 | apply part161 | apply part162

theorem part175 (x0 x1 x2 x3 x4 x5 x6 x7 x8 x9) :
    Safe defs c R (k0_part175 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part175; with_reducible repeat' first | intro _ | refine safe_bind ?_ ?_ | exact safe_pure _ | exact safe_load | exact safe_store | apply part164 | apply part165 | apply part166 | apply part167 | apply part168 | apply part169 | apply part170 | apply part171 | apply part172 | apply part173 | apply part174

theorem part181 (x0 x1 x2 x3 x4 x5 x6 x7 x8) :
    Safe defs c R (k0_part181 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part181; with_reducible repeat' first | intro _ | refine safe_bind ?_ ?_ | exact safe_pure _ | exact safe_load | exact safe_store | apply part176 | apply part177 | apply part178 | apply part179 | apply part180

theorem part184 (x0 x1 x2 x3 x4 x5 x6 x7 x8) :
    Safe defs c R (k0_part184 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part184; with_reducible repeat' first | intro _ | refine safe_bind ?_ ?_ | exact safe_pure _ | exact safe_load | exact safe_store | apply part182 | apply part183

theorem part185 (x0 x1 x2 x3 x4 x5 x6 x7) :
    Safe defs c R (k0_part185 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  unfold k0_part185; with_reducible repeat' first | intro _ | refine safe_bind ?_ ?_ | exact safe_pure _ | exact safe_load | exact safe_store | refine safe_for _ _ _ _ _ _ ?_ | refine safe_dite ?_ ?_ | apply part163 | apply part175 | apply part181

theorem part197 (x0 x1 x2 x3 x4 x5 x6 x7 x8 x9) :
    Safe defs c R (k0_part197 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part197; with_reducible repeat' first | intro _ | refine safe_bind ?_ ?_ | exact safe_pure _ | exact safe_load | exact safe_store | apply part186 | apply part187 | apply part188 | apply part189 | apply part190 | apply part191 | apply part192 | apply part193 | apply part194 | apply part195 | apply part196

theorem part209 (x0 x1 x2 x3 x4 x5 x6 x7 x8 x9) :
    Safe defs c R (k0_part209 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part209; with_reducible repeat' first | intro _ | refine safe_bind ?_ ?_ | exact safe_pure _ | exact safe_load | exact safe_store | apply part198 | apply part199 | apply part200 | apply part201 | apply part202 | apply part203 | apply part204 | apply part205 | apply part206 | apply part207 | apply part208

theorem part215 (x0 x1 x2 x3 x4 x5 x6 x7 x8) :
    Safe defs c R (k0_part215 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part215; with_reducible repeat' first | intro _ | refine safe_bind ?_ ?_ | exact safe_pure _ | exact safe_load | exact safe_store | apply part210 | apply part211 | apply part212 | apply part213 | apply part214

theorem part218 (x0 x1 x2 x3 x4 x5 x6 x7 x8) :
    Safe defs c R (k0_part218 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part218; with_reducible repeat' first | intro _ | refine safe_bind ?_ ?_ | exact safe_pure _ | exact safe_load | exact safe_store | apply part216 | apply part217

theorem part219 (x0 x1 x2 x3 x4 x5 x6 x7) :
    Safe defs c R (k0_part219 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  unfold k0_part219; with_reducible repeat' first | intro _ | refine safe_bind ?_ ?_ | exact safe_pure _ | exact safe_load | exact safe_store | refine safe_for _ _ _ _ _ _ ?_ | refine safe_dite ?_ ?_ | apply part197 | apply part209 | apply part215

theorem part231 (x0 x1 x2 x3 x4 x5 x6 x7 x8 x9) :
    Safe defs c R (k0_part231 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part231; with_reducible repeat' first | intro _ | refine safe_bind ?_ ?_ | exact safe_pure _ | exact safe_load | exact safe_store | apply part220 | apply part221 | apply part222 | apply part223 | apply part224 | apply part225 | apply part226 | apply part227 | apply part228 | apply part229 | apply part230

theorem part243 (x0 x1 x2 x3 x4 x5 x6 x7 x8 x9) :
    Safe defs c R (k0_part243 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9) := by
  unfold k0_part243; with_reducible repeat' first | intro _ | refine safe_bind ?_ ?_ | exact safe_pure _ | exact safe_load | exact safe_store | apply part232 | apply part233 | apply part234 | apply part235 | apply part236 | apply part237 | apply part238 | apply part239 | apply part240 | apply part241 | apply part242

theorem part249 (x0 x1 x2 x3 x4 x5 x6 x7 x8) :
    Safe defs c R (k0_part249 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part249; with_reducible repeat' first | intro _ | refine safe_bind ?_ ?_ | exact safe_pure _ | exact safe_load | exact safe_store | apply part244 | apply part245 | apply part246 | apply part247 | apply part248

theorem part252 (x0 x1 x2 x3 x4 x5 x6 x7 x8) :
    Safe defs c R (k0_part252 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part252; with_reducible repeat' first | intro _ | refine safe_bind ?_ ?_ | exact safe_pure _ | exact safe_load | exact safe_store | apply part250 | apply part251

theorem part253 (x0 x1 x2 x3 x4 x5 x6 x7) :
    Safe defs c R (k0_part253 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  unfold k0_part253; with_reducible repeat' first | intro _ | refine safe_bind ?_ ?_ | exact safe_pure _ | exact safe_load | exact safe_store | refine safe_for _ _ _ _ _ _ ?_ | refine safe_dite ?_ ?_ | apply part231 | apply part243 | apply part249

theorem part320 (x0 x1 x2 x3 x4 x5 x6 x7) :
    Safe defs c R (k0_part320 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  unfold k0_part320; with_reducible repeat' first | intro _ | refine safe_bind ?_ ?_ | exact safe_pure _ | exact safe_load | exact safe_store | apply part270 | apply part271 | apply part272 | apply part273 | apply part274 | apply part275 | apply part276 | apply part277 | apply part278 | apply part279 | apply part280 | apply part281 | apply part282 | apply part283 | apply part284 | apply part285 | apply part286 | apply part287 | apply part288 | apply part289 | apply part290 | apply part291 | apply part292 | apply part293 | apply part294 | apply part295 | apply part296 | apply part297 | apply part298 | apply part299 | apply part300 | apply part301 | apply part302 | apply part303 | apply part304 | apply part305 | apply part306 | apply part307 | apply part308 | apply part309 | apply part310 | apply part311 | apply part312 | apply part313 | apply part314 | apply part315 | apply part316 | apply part317 | apply part318 | apply part319

theorem part371 (x0 x1 x2 x3 x4 x5 x6 x7) :
    Safe defs c R (k0_part371 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) := by
  unfold k0_part371; with_reducible repeat' first | intro _ | refine safe_bind ?_ ?_ | exact safe_pure _ | exact safe_load | exact safe_store | apply part321 | apply part322 | apply part323 | apply part324 | apply part325 | apply part326 | apply part327 | apply part328 | apply part329 | apply part330 | apply part331 | apply part332 | apply part333 | apply part334 | apply part335 | apply part336 | apply part337 | apply part338 | apply part339 | apply part340 | apply part341 | apply part342 | apply part343 | apply part344 | apply part345 | apply part346 | apply part347 | apply part348 | apply part349 | apply part350 | apply part351 | apply part352 | apply part353 | apply part354 | apply part355 | apply part356 | apply part357 | apply part358 | apply part359 | apply part360 | apply part361 | apply part362 | apply part363 | apply part364 | apply part365 | apply part366 | apply part367 | apply part368 | apply part369 | apply part370

theorem part465 (x0 x1 x2 x3 x4 x5 x6 x7 x8 x9 x10) :
    Safe defs c R (k0_part465 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) := by
  unfold k0_part465; with_reducible repeat' first | intro _ | refine safe_bind ?_ ?_ | exact safe_pure _ | exact safe_load | exact safe_store | apply part415 | apply part416 | apply part417 | apply part418 | apply part419 | apply part420 | apply part421 | apply part422 | apply part423 | apply part424 | apply part425 | apply part426 | apply part427 | apply part428 | apply part429 | apply part430 | apply part431 | apply part432 | apply part433 | apply part434 | apply part435 | apply part436 | apply part437 | apply part438 | apply part439 | apply part440 | apply part441 | apply part442 | apply part443 | apply part444 | apply part445 | apply part446 | apply part447 | apply part448 | apply part449 | apply part450 | apply part451 | apply part452 | apply part453 | apply part454 | apply part455 | apply part456 | apply part457 | apply part458 | apply part459 | apply part460 | apply part461 | apply part462 | apply part463 | apply part464

theorem part516 (x0 x1 x2 x3 x4 x5 x6 x7 x8 x9 x10) :
    Safe defs c R (k0_part516 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10) := by
  unfold k0_part516; with_reducible repeat' first | intro _ | refine safe_bind ?_ ?_ | exact safe_pure _ | exact safe_load | exact safe_store | apply part466 | apply part467 | apply part468 | apply part469 | apply part470 | apply part471 | apply part472 | apply part473 | apply part474 | apply part475 | apply part476 | apply part477 | apply part478 | apply part479 | apply part480 | apply part481 | apply part482 | apply part483 | apply part484 | apply part485 | apply part486 | apply part487 | apply part488 | apply part489 | apply part490 | apply part491 | apply part492 | apply part493 | apply part494 | apply part495 | apply part496 | apply part497 | apply part498 | apply part499 | apply part500 | apply part501 | apply part502 | apply part503 | apply part504 | apply part505 | apply part506 | apply part507 | apply part508 | apply part509 | apply part510 | apply part511 | apply part512 | apply part513 | apply part514 | apply part515

theorem part560 :
    Safe defs c R (k0_part560 (F := F) i arg2 harg2 arg3 harg3 arg4 harg4 arg5 harg5 arg6 harg6 arg7 harg7 arg8 harg8 arg9 harg9 arg10 harg10 arg11 harg11 arg12 harg12 arg13 harg13 arg14 harg14 ) := by
  unfold k0_part560; with_reducible repeat' first | intro _ | refine safe_bind ?_ ?_ | exact safe_pure _ | exact safe_load | exact safe_store | refine safe_for _ _ _ _ _ _ ?_ | refine safe_dite ?_ ?_ | apply part52 | apply part104 | apply part130

theorem part561 (x0 x1 x2 x3 x4 x5) :
    Safe defs c R (k0_part561 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5) := by
  unfold k0_part561; with_reducible repeat' first | intro _ | refine safe_bind ?_ ?_ | exact safe_pure _ | exact safe_load | exact safe_store | refine safe_for _ _ _ _ _ _ ?_ | refine safe_dite ?_ ?_ | apply part143 | apply part144 | apply part145 | apply part146 | apply part147 | apply part148 | apply part149 | apply part150 | apply part151

theorem part562 (x0 x1 x2 x3 x4 x5) :
    Safe defs c R (k0_part562 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5) := by
  unfold k0_part562; with_reducible repeat' first | intro _ | refine safe_bind ?_ ?_ | exact safe_pure _ | exact safe_load | exact safe_store | refine safe_for _ _ _ _ _ _ ?_ | refine safe_dite ?_ ?_ | apply part184 | apply part185

theorem part563 (x0 x1 x2 x3) :
    Safe defs c R (k0_part563 (F := F) i arg2 harg2 arg3 harg3 arg4 harg4 arg5 harg5 arg6 harg6 arg7 harg7 arg8 harg8 arg9 harg9 arg10 harg10 arg11 harg11 arg12 harg12 arg13 harg13 arg14 harg14 x0 x1 x2 x3) := by
  unfold k0_part563; with_reducible repeat' first | intro _ | refine safe_bind ?_ ?_ | exact safe_pure _ | exact safe_load | exact safe_store | refine safe_for _ _ _ _ _ _ ?_ | refine safe_dite ?_ ?_ | apply part218 | apply part219 | apply part252 | apply part253

theorem part564 (x0 x1 x2 x3 x4) :
    Safe defs c R (k0_part564 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4) := by
  unfold k0_part564; with_reducible repeat' first | intro _ | refine safe_bind ?_ ?_ | exact safe_pure _ | exact safe_load | exact safe_store | refine safe_for _ _ _ _ _ _ ?_ | refine safe_dite ?_ ?_ | refine safe_ite ?_ ?_ | apply part254 | apply part255 | apply part256 | apply part257 | apply part258 | apply part259 | apply part260 | apply part261 | apply part262 | apply part263 | apply part264 | apply part265 | apply part266 | apply part267 | apply part268 | apply part269 | apply part320 | apply part371 | apply part372 | apply part373 | apply part374 | apply part375 | apply part376 | apply part377 | apply part378 | apply part379 | apply part380 | apply part381 | apply part382 | apply part383 | apply part384 | apply part385 | apply part386 | apply part387 | apply part388 | apply part389 | apply part390 | apply part391 | apply part392 | apply part393 | apply part394 | apply part395 | apply part396

theorem part565 (x0 x1 x2 x3 x4 x5 x6 x7 x8) :
    Safe defs c R (k0_part565 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) := by
  unfold k0_part565; with_reducible repeat' first | intro _ | refine safe_bind ?_ ?_ | exact safe_pure _ | exact safe_load | exact safe_store | refine safe_dite ?_ ?_ | apply part397 | apply part398 | apply part399 | apply part400 | apply part401 | apply part402 | apply part403 | apply part404 | apply part405 | apply part406 | apply part407 | apply part408 | apply part409 | apply part410 | apply part411 | apply part412 | apply part413 | apply part414

theorem part566 (x0 x1 x2 x3 x4 x5 x6 x7 x8 x9 x10 x11) :
    Safe defs c R (k0_part566 (F := F) i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) := by
  unfold k0_part566; with_reducible repeat' first | intro _ | refine safe_bind ?_ ?_ | exact safe_pure _ | exact safe_load | exact safe_store | refine safe_for _ _ _ _ _ _ ?_ | refine safe_dite ?_ ?_ | apply part465 | apply part516 | apply part517 | apply part518 | apply part519 | apply part520 | apply part521 | apply part522 | apply part523 | apply part524 | apply part525 | apply part526 | apply part527 | apply part528 | apply part529 | apply part530 | apply part531 | apply part532 | apply part533 | apply part534 | apply part535 | apply part536 | apply part537 | apply part538 | apply part539 | apply part540 | apply part541 | apply part542 | apply part543 | apply part544 | apply part545 | apply part546 | apply part547 | apply part548 | apply part549 | apply part550 | apply part551 | apply part552 | apply part553 | apply part554 | apply part555 | apply part556 | apply part557 | apply part558 | apply part559

theorem attn :
    Safe defs c R (cc0_attn (F := F) i arg2 harg2 arg3 harg3 arg4 harg4 arg5 harg5 arg6 harg6 arg7 harg7 arg8 harg8 arg9 harg9 arg10 harg10 arg11 harg11 arg12 harg12 arg13 harg13 arg14 harg14 ) := by
  unfold cc0_attn; with_reducible repeat' first | intro _ | refine safe_bind ?_ ?_ | exact safe_pure _ | exact safe_load | exact safe_store | apply part560 | apply part561 | apply part562 | apply part563 | apply part564 | apply part565 | apply part566 | apply part567

end Cert.Proof.Keep

end
-- ==== Proof.Keep.Own.lean ====
/- The resources a kernel's body is given, and what they lend: each buffer it reads held at named contents, each buffer it writes at some
   contents, all side by side. -/
module

public import proofs.«01_k».proof.Proof.Keep.Logic

@[expose] public section

noncomputable section

namespace Cert.Proof.Keep

open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The memref held whole on core `c` at contents `X`. -/
def held (c : Dev nD) {sp : Space} {s : Shape} {e : EltTy} (m : Memref sig .tc sp s e) (X : s.Idx → Val e) :
    sProp (MT nD τ sig Unit Val ℕ (UR sig nD τ) ℕ) := owns (c : Thread nD τ) m fullShare X

/-- The memref held whole on core `c` at some contents. -/
def some (c : Dev nD) {sp : Space} {s : Shape} {e : EltTy} (m : Memref sig .tc sp s e) :
    sProp (MT nD τ sig Unit Val ℕ (UR sig nD τ) ℕ) := iprop(∃ X, owns (c : Thread nD τ) m fullShare X)

/-- A memref that is a whole buffer, as a fact to be found. -/
class Whole {sp : Space} {s : Shape} {e : EltTy} (m : Memref sig .tc sp s e) : Prop where
  whole : m.IsWhole

variable {c : Dev nD} {sp : Space} {s : Shape} {e : EltTy} {m : Memref sig .tc sp s e}

/-- What is held at contents is lent for reading. -/
instance held_reads [hm : Whole m] {X : s.Idx → Val e} : Reads c (held (τ := τ) c m X) m := by
  constructor
  unfold held owns
  rw [hm.whole.set_eq_univ]
  iintro ⟨%f, %hf, H⟩
  iexists f
  isplitl [H]; · iexact H
  iintro H
  iexists f
  isplitr; · ipureintro; exact hf
  iexact H

/-- What is held at some contents is lent for writing. -/
instance some_writes [hm : Whole m] : Writes c (some (τ := τ) (Val := Val) c m) m := by
  constructor
  unfold some owns
  rw [hm.whole.set_eq_univ]
  iintro ⟨%X, %f, %hf, H⟩
  iexists f
  isplitl [H]; · iexact H
  iintro %g H
  iexists m.view.read Val g, g
  isplitr; · ipureintro; rfl
  iexact H

variable {P Q : sProp (MT nD τ sig Unit Val ℕ (UR sig nD τ) ℕ)}

/-- The left of two resources lends what it lends. -/
theorem reads_left (h : Reads c P m) : Reads c iprop(P ∗ Q) m := by
  constructor
  refine Entails.trans (sep_mono h.lend .rfl) ?_
  iintro ⟨⟨%f, H, Hk⟩, HQ⟩
  iexists f
  isplitl [H]; · iexact H
  iintro H
  isplitl [H Hk]; · iapply Hk; iexact H
  iexact HQ

/-- The right of two resources lends what it lends. -/
theorem reads_right (h : Reads c Q m) : Reads c iprop(P ∗ Q) m := by
  constructor
  refine Entails.trans (sep_mono .rfl h.lend) ?_
  iintro ⟨HP, ⟨%f, H, Hk⟩⟩
  iexists f
  isplitl [H]; · iexact H
  iintro H
  isplitl [HP]; · iexact HP
  iapply Hk; iexact H

/-- The left of two resources lends for writing what it lends for writing. -/
theorem writes_left (h : Writes c P m) : Writes c iprop(P ∗ Q) m := by
  constructor
  refine Entails.trans (sep_mono h.lend .rfl) ?_
  iintro ⟨⟨%f, H, Hk⟩, HQ⟩
  iexists f
  isplitl [H]; · iexact H
  iintro %g H
  isplitl [H Hk]; · iapply Hk; iexact H
  iexact HQ

/-- The right of two resources lends for writing what it lends for writing. -/
theorem writes_right (h : Writes c Q m) : Writes c iprop(P ∗ Q) m := by
  constructor
  refine Entails.trans (sep_mono .rfl h.lend) ?_
  iintro ⟨HP, ⟨%f, H, Hk⟩⟩
  iexists f
  isplitl [H]; · iexact H
  iintro %g H
  isplitl [HP]; · iexact HP
  iapply Hk; iexact H

end Cert.Proof.Keep

end
-- ==== Proof.Keep.Frame.lean ====
/- The frame of the attention kernel: at every point of its grid the body keeps its windows and scratch buffers (`Keep.attn`), so the
   pipeline runs to its end, with the input arrays as they were launched and every semaphore counter at zero. Nothing is said of the
   contents of the output. Stated once, over any float values. -/
module

public import proofs.«01_k».proof.Proof.Keep.Control
public import proofs.«01_k».proof.Proof.Keep.Own
public import proofs.«01_k».proof.Proof.Gen.KernelIdeal.Frame
public import Idealize.ShloMosaic.Lib.Pipeline.Frame

@[expose] public section

noncomputable section

namespace Cert.Proof.Keep

open Cert.KernelIdeal Cert.KernelIdeal.Gen
open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig Unit (Elt F) ℕ (UR sig nD τ) ℕ

/-! ## The body on its own buffers -/

variable {dd : Defs nD τ sig (Elt F) Λ₀} {c : Dev nD} {i : Cert.KernelIdeal.grid0.Coords}
  {arg2 : Memref sig .tc .vmem S1x1x512x256 .bf16} {harg2 : arg2.IsWhole}
  {arg3 : Memref sig .tc .vmem S1x1x512x256 .bf16} {harg3 : arg3.IsWhole}
  {arg4 : Memref sig .tc .vmem S1x1x16x256 .f32} {harg4 : arg4.IsWhole}
  {arg5 : Memref sig .tc .vmem S1x1x512x256 .bf16} {harg5 : arg5.IsWhole}
  {arg6 : Memref sig .tc .vmem S1x4096x512 .bf16} {harg6 : arg6.IsWhole}
  {arg7 : Memref sig .tc .vmem S1x4096x64 .bf16} {harg7 : arg7.IsWhole}
  {arg8 : Memref sig .tc .vmem S1x16x512x256 .bf16} {harg8 : arg8.IsWhole}
  {arg9 : Memref sig .tc .vmem S1x256x512 .bf16} {harg9 : arg9.IsWhole}
  {arg10 : Memref sig .tc .vmem S16x256x256 .f32} {harg10 : arg10.IsWhole}
  {arg11 : Memref sig .tc .vmem S16x256x256 .f32} {harg11 : arg11.IsWhole}
  {arg12 : Memref sig .tc .vmem S3x16x256x256 .bf16} {harg12 : arg12.IsWhole}
  {arg13 : Memref sig .tc .vmem S64x256x256 .f32} {harg13 : arg13.IsWhole}
  {arg14 : Memref sig .tc .vmem S512x256 .f32} {harg14 : arg14.IsWhole}

omit [∀ e, Nonempty (Elt F e)] in
/-- The body keeps the seven inputs' buffers as it found them, and the output's buffer and the five scratches at some contents. -/
theorem attn_keeps (X2) (X3) (X4) (X5) (X6) (X7) (X8) :
    Safe dd c iprop(held c arg2 X2 ∗ held c arg3 X3 ∗ held c arg4 X4 ∗ held c arg5 X5 ∗ held c arg6 X6 ∗ held c arg7 X7 ∗ held c arg8 X8 ∗ some c arg9 ∗ some c arg10 ∗ some c arg11 ∗ some c arg12 ∗ some c arg13 ∗ some c arg14)
      (cc0_attn (F := F) i arg2 harg2 arg3 harg3 arg4 harg4 arg5 harg5 arg6 harg6 arg7 harg7 arg8 harg8 arg9 harg9 arg10 harg10 arg11 harg11 arg12 harg12 arg13 harg13 arg14 harg14) := by
  generalize hR : iprop(held c arg2 X2 ∗ held c arg3 X3 ∗ held c arg4 X4 ∗ held c arg5 X5 ∗ held c arg6 X6 ∗ held c arg7 X7 ∗ held c arg8 X8 ∗ some c arg9 ∗ some c arg10 ∗ some c arg11 ∗ some c arg12 ∗ some c arg13 ∗ some c arg14) = R
  haveI : Whole arg2 := ⟨harg2⟩
  haveI : Whole arg3 := ⟨harg3⟩
  haveI : Whole arg4 := ⟨harg4⟩
  haveI : Whole arg5 := ⟨harg5⟩
  haveI : Whole arg6 := ⟨harg6⟩
  haveI : Whole arg7 := ⟨harg7⟩
  haveI : Whole arg8 := ⟨harg8⟩
  haveI : Whole arg9 := ⟨harg9⟩
  haveI : Whole arg10 := ⟨harg10⟩
  haveI : Whole arg11 := ⟨harg11⟩
  haveI : Whole arg12 := ⟨harg12⟩
  haveI : Whole arg13 := ⟨harg13⟩
  haveI : Whole arg14 := ⟨harg14⟩
  haveI : Reads c R arg2 := by rw [← hR]; exact (reads_left held_reads)
  haveI : Reads c R arg3 := by rw [← hR]; exact (reads_right (reads_left held_reads))
  haveI : Reads c R arg4 := by rw [← hR]; exact (reads_right (reads_right (reads_left held_reads)))
  haveI : Reads c R arg5 := by rw [← hR]; exact (reads_right (reads_right (reads_right (reads_left held_reads))))
  haveI : Reads c R arg6 := by rw [← hR]; exact (reads_right (reads_right (reads_right (reads_right (reads_left held_reads)))))
  haveI : Reads c R arg7 := by rw [← hR]; exact (reads_right (reads_right (reads_right (reads_right (reads_right (reads_left held_reads))))))
  haveI : Reads c R arg8 := by rw [← hR]; exact (reads_right (reads_right (reads_right (reads_right (reads_right (reads_right (reads_left held_reads)))))))
  haveI : Writes c R arg9 := by rw [← hR]; exact (writes_right (writes_right (writes_right (writes_right (writes_right (writes_right (writes_right (writes_left some_writes))))))))
  haveI : Writes c R arg10 := by rw [← hR]; exact (writes_right (writes_right (writes_right (writes_right (writes_right (writes_right (writes_right (writes_right (writes_left some_writes)))))))))
  haveI : Writes c R arg11 := by rw [← hR]; exact (writes_right (writes_right (writes_right (writes_right (writes_right (writes_right (writes_right (writes_right (writes_right (writes_left some_writes))))))))))
  haveI : Writes c R arg12 := by rw [← hR]; exact (writes_right (writes_right (writes_right (writes_right (writes_right (writes_right (writes_right (writes_right (writes_right (writes_right (writes_left some_writes)))))))))))
  haveI : Writes c R arg13 := by rw [← hR]; exact (writes_right (writes_right (writes_right (writes_right (writes_right (writes_right (writes_right (writes_right (writes_right (writes_right (writes_right (writes_left some_writes))))))))))))
  haveI : Writes c R arg14 := by rw [← hR]; exact (writes_right (writes_right (writes_right (writes_right (writes_right (writes_right (writes_right (writes_right (writes_right (writes_right (writes_right (writes_right some_writes))))))))))))
  exact attn

/-! ## The proof data and the body obligation -/

variable (m : (ℓ : Loc nD τ sig) → Buf (Elt F) ℓ) (ρ : Dev nD → PrngReg)

/-- The proof data on core `c`: the arrays as the region finds them; the body leaves each input's buffer as it found it, and anything in the
    output's; between the points the scratches and the generator's register are at some contents; nothing is owed. -/
def rdat (c : Dev nD) : RDat τ (Elt F) Unit ℕ (UR sig nD τ) ℕ cfg0 c where
  A w := V m c (Pipeline.arrRef spec0 w)
  after w _ Y X := (spec0 w).isOut = false → X = Y
  Φ _ := Pipeline.ΦA spec0 c
  q _ := fullShare
  owed _ := 0

/-- What the body is called with at point `t`, and what it returns. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X))

/-- The scratches and the generator's register, each at some contents, conjunct by conjunct. -/
theorem scratch_eq (c : Dev nD) :
    (Pipeline.ΦA spec0 c : sProp 𝕄) = iprop((some c (Memref.whole cc0_scratch0) ∗ some c (Memref.whole cc0_scratch1) ∗ some c (Memref.whole cc0_scratch2) ∗ some c (Memref.whole cc0_scratch3) ∗ some c (Memref.whole cc0_scratch4)) ∗ ∃ r, prngReg c r) := by
  unfold Pipeline.ΦA some; rw [scopedRest0_eq]; simp only [owns_whole]

/-- The body at the point. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, scratch_eq]
  iintro ⟨⟨⟨S0, S1, S2, S3, S4⟩, Hg⟩, HO, H0, H1, H2, H3, H4, H5, H6, H7⟩
  iapply (wp_wand_r _ _ _)
  isplitl [S0 S1 S2 S3 S4 H0 H1 H2 H3 H4 H5 H6 H7]
  · iapply (attn_keeps (dd := defs₀ (F := F)) (c := c) (Y 0) (Y 1) (Y 2) (Y 3) (Y 4) (Y 5) (Y 6)).run
    isplitl [H0]; · unfold held; iexact H0
    isplitl [H1]; · unfold held; iexact H1
    isplitl [H2]; · unfold held; iexact H2
    isplitl [H3]; · unfold held; iexact H3
    isplitl [H4]; · unfold held; iexact H4
    isplitl [H5]; · unfold held; iexact H5
    isplitl [H6]; · unfold held; iexact H6
    isplitl [H7]; · unfold some; iexists _; iexact H7
    isplitl [S0]; · iexact S0
    isplitl [S1]; · iexact S1
    isplitl [S2]; · iexact S2
    isplitl [S3]; · iexact S3
    iexact S4
  iintro %_ ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [H0]
  · iexists _; isplitr; swap; · unfold held; iexact H0
    ipureintro; exact fun _ => rfl
  isplitl [H1]
  · iexists _; isplitr; swap; · unfold held; iexact H1
    ipureintro; exact fun _ => rfl
  isplitl [H2]
  · iexists _; isplitr; swap; · unfold held; iexact H2
    ipureintro; exact fun _ => rfl
  isplitl [H3]
  · iexists _; isplitr; swap; · unfold held; iexact H3
    ipureintro; exact fun _ => rfl
  isplitl [H4]
  · iexists _; isplitr; swap; · unfold held; iexact H4
    ipureintro; exact fun _ => rfl
  isplitl [H5]
  · iexists _; isplitr; swap; · unfold held; iexact H5
    ipureintro; exact fun _ => rfl
  isplitl [H6]
  · iexists _; isplitr; swap; · unfold held; iexact H6
    ipureintro; exact fun _ => rfl
  unfold some
  icases H7 with ⟨%X, H7⟩
  iexists X
  isplitr; · ipureintro; exact fun h => absurd h (by decide)
  iexact H7

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y _ => by
  rw [bigSep_W0, bigSep_W0, defs₀_row]
  exact sound_body m c t Y

/-! ## The launch -/

set_option backward.isDefEq.respectTransparency.types false in
/-- From any memory with zero counters every weakly fair execution of @main terminates, with the arguments as launched and every semaphore
    counter at zero. -/
theorem run_main : θ_run defs (onTc (τ := τ) (main (F := F))) (s₀ m ρ)
    (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := body_obligation m) (hshare := fun c w => by unfold RDat.share; split <;> rfl)
    (howed := fun _ _ => rfl) (V := V m) (hmain := hmain m Variants.none) (hA := fun _ _ => rfl)
    (hin := fun _ => .rfl) (hout := fun _ => .rfl)

/-- An input's array ends as it was launched. -/
theorem final_arg {r : PUnit × MemSt nD τ sig (Elt F)} (h : RDat.FramePost (cfgs 0) (fun c => rdat (F := F) m c) (V m) r) (c : Dev nD)
    (w : Fin cfg0.W) (hw : (cfg0.win w).isOut = false) :
    r.2.mem ((cfg0.spec w).arr.view.loc (c.tc : Thread nD τ)) = V m c (Pipeline.arrRef spec0 w) := by
  have := (h c).1 w
  rw [(rdat m c).ArrAt_in w hw] at this
  exact this

/-- The frame, at any float values: the kernel runs, its arguments end unchanged, and its counters end at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨final_arg m h.1 c 0 rfl, final_arg m h.1 c 1 rfl, final_arg m h.1 c 2 rfl, final_arg m h.1 c 3 rfl, final_arg m h.1 c 4 rfl, final_arg m h.1 c 5 rfl, final_arg m h.1 c 6 rfl⟩, h.2⟩) (run_main m ρ)

end Cert.Proof.Keep

end
-- ==== Proof.Keep.Same.lean ====
/- The two printed texts of the sparse attention are one program: at the bit-exact values, the body table of the kernel is the
   body table of its idealization. -/
module

public import proofs.«01_k».proof.Defs
public import proofs.«01_k».proof.Proof.Gen.Kernel
public import proofs.«01_k».proof.Proof.Keep.Frame

@[expose] public section

noncomputable section
namespace Cert.Proof.Keep
open Idealize.ShloMosaic Idealize.SL.Sem

/-- The two bodies unfold to the same operations. -/
theorem body_eq : Cert.Kernel.cc0_attn (F := Bits) = Cert.KernelIdeal.cc0_attn (F := Bits) := rfl
/-- So the body tables agree at the one label there is. -/
theorem table_eq : Cert.Kernel.defs₀ (F := Bits) = Cert.KernelIdeal.defs₀ (F := Bits) := by
  funext κ l a
  cases κ with
  | scScalar _ => rfl
  | scVector _ _ => rfl
  | tc =>
    obtain ⟨l, hl⟩ := l
    match l, hl with
    | 0, _ =>
      obtain ⟨t, s⟩ := a
      unfold Cert.Kernel.defs₀ Cert.KernelIdeal.defs₀
      simp only [Defs.onTc_tc]
      show Cert.Kernel.cc0_attn _ _ _ _ _ _ _ _ _ _ _ _ _ _ _ _ _ _ _ _ _ _ _ _ _ _ _ = _
      rw [body_eq]
      rfl
/-- And so do the tables with the pipeline's labels added. -/
theorem defs_eq : Cert.Kernel.defs (F := Bits) = Cert.KernelIdeal.defs (F := Bits) := congrArg (Pipeline.defs Cert.KernelIdeal.pcfgs) table_eq
end Cert.Proof.Keep
end
-- ==== Proof.Project.Out.lean ====
/- What the call that closes the last layer computes: each block of 512 rows it writes is the reference's result at
   those rows. -/
module

public import proofs.«01_k».proof.Proof.Gen.Kernel2Ideal.Value
public import proofs.«01_k».proof.Proof.Gen.Reference2Ideal.Run
public import Idealize.ShloMosaic.Lib.Pointwise

@[expose] public section

noncomputable section

namespace Cert.Proof.Out

section
open Cert.Reference2Ideal Cert.Reference2Ideal.Gen Idealize.ShloMosaic

/-- The reference's result as a function of its six arguments. -/
def G (a0 : FVec Ideal S4x4096x1024 .f32) (a1 : FVec Ideal S4x4096x512 .bf16) (a2 a3 : FVec Ideal S4x4096x1024 .bf16)
    (a4 : FVec Ideal S4x512x1024 .f32) (a5 : FVec Ideal S4x1024x1024 .f32) : FVec Ideal S16384x1024 .f32 :=
  shapeCast _ (addf (F := Ideal) a0 (Host.dotGeneral dot_S4x4096x1024_S1024x1024_S4x4096x1024_2_0_01_1_n_n (φ₂ := .f32) none (addf (extf .f32 a2 bitsLt_bf16_f32) (mulf (extf .f32 a3 bitsLt_bf16_f32) (Host.dotGeneral dot_S4x4096x512_S512x1024_S4x4096x1024_2_0_01_1_n_n (φ₂ := .f32) none (extf .f32 a1 bitsLt_bf16_f32) (shapeCast _ (extractStridedSlice S1x512x1024 ![3, 0, 0] a4 slices_S4x512x1024_S1x512x1024_3_0_0) shapeCasts_S1x512x1024_S512x1024)))) (shapeCast _ (extractStridedSlice S1x1024x1024 ![3, 0, 0] a5 slices_S4x1024x1024_S1x1024x1024_3_0_0) shapeCasts_S1x1024x1024_S1024x1024))) shapeCasts_S4x4096x1024_S16384x1024

/-- The reference's result at row `r` and column `j`: the residual, and the sum of the closing product over the merged
    branches. -/
theorem G_apply (a0 : FVec Ideal S4x4096x1024 .f32) (a1 : FVec Ideal S4x4096x512 .bf16)
    (a2 a3 : FVec Ideal S4x4096x1024 .bf16) (a4 : FVec Ideal S4x512x1024 .f32) (a5 : FVec Ideal S4x1024x1024 .f32)
    (r : Fin 16384) (j : Fin 1024) (hb : r.val / 4096 < 4) (hs : r.val % 4096 < 4096) : G a0 a1 a2 a3 a4 a5 (ix2 r j)
      = a0 (ix3 ⟨r.val / 4096, hb⟩ ⟨r.val % 4096, hs⟩ j)
        + ∑ x : Fin 1024, (a2 (ix3 ⟨r.val / 4096, hb⟩ ⟨r.val % 4096, hs⟩ x)
          + a3 (ix3 ⟨r.val / 4096, hb⟩ ⟨r.val % 4096, hs⟩ x)
            * ∑ k : Fin 512, a1 (ix3 ⟨r.val / 4096, hb⟩ ⟨r.val % 4096, hs⟩ k) * a4 (ix3 3 k x)) * a5 (ix3 3 x j) := by
  pointwise [G]

end

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := by
  funext a; match a with
  | ⟨0, _⟩ => rfl
  | ⟨1, _⟩ => rfl

/-- What the body writes at row `r` and column `j` of its block, from its input blocks. -/
theorem out_apply (x0 : Vec Ideal S512x1024 .f32) (x1 : Vec Ideal S512x512 .bf16) (x2 x3 : Vec Ideal S512x1024 .bf16)
    (x4 : Vec Ideal S1x512x1024 .bf16) (x5 : Vec Ideal S1x1024x1024 .bf16) (r : Fin 512) (j : Fin 1024) :
    out0_6 (F := Ideal) x0 x1 x2 x3 x4 x5 (ix2 r j)
      = x0 (ix2 r j) + ∑ x : Fin 1024, (x2 (ix2 r x) + x3 (ix2 r x) * ∑ k : Fin 512, x1 (ix2 r k) * x4 (ix3 0 k x))
          * x5 (ix3 0 x j) := by
  rw [out0_6, View.canon_unit_zero zero2]
  unfold_payloads
  pointwise

/-! The block indices of the windows: the arrays of rows are cut at the grid's point, the weights at the last layer. -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx4 : ∀ t : Fin cfg0.N, win0_4.index t (0 : Fin 3) = 3 ∧ win0_4.index t (1 : Fin 3) = 0 ∧ win0_4.index t (2 : Fin 3) = 0 := (by decide +kernel : ∀ t : Fin grid0.N, _)
theorem idx5 : ∀ t : Fin cfg0.N, win0_5.index t (0 : Fin 3) = 3 ∧ win0_5.index t (1 : Fin 3) = 0 ∧ win0_5.index t (2 : Fin 3) = 0 := (by decide +kernel : ∀ t : Fin grid0.N, _)

theorem steps : cfg0.N = 32 := by decide +kernel

/-- The row of the whole array at row `r` of block `t`. -/
def row (t : Fin cfg0.N) (r : Fin 512) : Fin 16384 := ⟨t.val * 512 + r.val, by
  have h : t.val < 32 := lt_of_lt_of_eq t.isLt steps
  omega⟩

theorem row_batch (t : Fin cfg0.N) (r : Fin 512) : (row t r).val / 4096 < 4 := by have := (row t r).isLt; omega

theorem row_pos (t : Fin cfg0.N) (r : Fin 512) : (row t r).val % 4096 < 4096 := by omega

/-! Where a block's index lies in its array. -/

theorem emb0 (t : Fin cfg0.N) (r : Fin 512) (j : Fin 1024) :
    ((cfg0.win 0).blk t).view.emb (ix2 r j : S512x1024.Idx) = (ix2 (row t r) j : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem emb1 (t : Fin cfg0.N) (r : Fin 512) (j : Fin 512) :
    ((cfg0.win 1).blk t).view.emb (ix2 r j : S512x512.Idx) = (ix2 (row t r) j : S16384x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * j.val = j.val; omega

theorem emb2 (t : Fin cfg0.N) (r : Fin 512) (j : Fin 1024) :
    ((cfg0.win 2).blk t).view.emb (ix2 r j : S512x1024.Idx) = (ix2 (row t r) j : S16384x1024.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 1024 + 1 * j.val = j.val; omega

theorem emb3 (t : Fin cfg0.N) (r : Fin 512) (j : Fin 1024) :
    ((cfg0.win 3).blk t).view.emb (ix2 r j : S512x1024.Idx) = (ix2 (row t r) j : S16384x1024.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * j.val = j.val; omega

theorem emb6 (t : Fin cfg0.N) (r : Fin 512) (j : Fin 1024) :
    ((cfg0.win 6).blk t).view.emb (ix2 r j : S512x1024.Idx) = (ix2 (row t r) j : S16384x1024.Idx) := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 1024 + 1 * j.val = j.val; omega

theorem emb4 (t : Fin cfg0.N) (k : Fin 512) (j : Fin 1024) :
    ((cfg0.win 4).blk t).view.emb (ix3 0 k j : S1x512x1024.Idx) = (ix3 3 k j : S4x512x1024.Idx) := by
  obtain ⟨e0, e1, e2⟩ := idx4 t
  funext a; apply Fin.ext
  match a with
  | ⟨0, _⟩ => show win0_4.index t (0 : Fin 3) * 1 + 1 * 0 = 3; omega
  | ⟨1, _⟩ => show win0_4.index t (1 : Fin 3) * 512 + 1 * k.val = k.val; omega
  | ⟨2, _⟩ => show win0_4.index t (2 : Fin 3) * 1024 + 1 * j.val = j.val; omega

theorem emb5 (t : Fin cfg0.N) (k : Fin 1024) (j : Fin 1024) :
    ((cfg0.win 5).blk t).view.emb (ix3 0 k j : S1x1024x1024.Idx) = (ix3 3 k j : S4x1024x1024.Idx) := by
  obtain ⟨e0, e1, e2⟩ := idx5 t
  funext a; apply Fin.ext
  match a with
  | ⟨0, _⟩ => show win0_5.index t (0 : Fin 3) * 1 + 1 * 0 = 3; omega
  | ⟨1, _⟩ => show win0_5.index t (1 : Fin 3) * 1024 + 1 * k.val = k.val; omega
  | ⟨2, _⟩ => show win0_5.index t (2 : Fin 3) * 1024 + 1 * j.val = j.val; omega

/-! The arrays that the region finds: the arguments with their rows in one axis, and the weights cast. -/

theorem rows_1024 (a : FVec Ideal S4x4096x1024 .f32) (r : Fin 16384) (j : Fin 1024) (hb : r.val / 4096 < 4) (hs : r.val % 4096 < 4096) :
    (shapeCast S16384x1024 a shapeCasts_S4x4096x1024_S16384x1024 : FVec Ideal S16384x1024 .f32) (ix2 r j)
      = a (ix3 ⟨r.val / 4096, hb⟩ ⟨r.val % 4096, hs⟩ j) := by
  pointwise

theorem rows_512h (a : FVec Ideal S4x4096x512 .bf16) (r : Fin 16384) (j : Fin 512) (hb : r.val / 4096 < 4) (hs : r.val % 4096 < 4096) :
    (shapeCast S16384x512 a shapeCasts_S4x4096x512_S16384x512 : FVec Ideal S16384x512 .bf16) (ix2 r j)
      = a (ix3 ⟨r.val / 4096, hb⟩ ⟨r.val % 4096, hs⟩ j) := by
  pointwise

theorem rows_1024h (a : FVec Ideal S4x4096x1024 .bf16) (r : Fin 16384) (j : Fin 1024) (hb : r.val / 4096 < 4) (hs : r.val % 4096 < 4096) :
    (shapeCast S16384x1024 a shapeCasts_S4x4096x1024_S16384x1024 : FVec Ideal S16384x1024 .bf16) (ix2 r j)
      = a (ix3 ⟨r.val / 4096, hb⟩ ⟨r.val % 4096, hs⟩ j) := by
  pointwise

theorem entry0 (c : Dev nD) (r : Fin 16384) (j : Fin 1024) (hb : r.val / 4096 < 4) (hs : r.val % 4096 < 4096) :
    V m c main_v0 (ix2 r j : S16384x1024.Idx)
      = m ((c : Thread nD τ).loc main_arg0) (ix3 ⟨r.val / 4096, hb⟩ ⟨r.val % 4096, hs⟩ j : S4x4096x1024.Idx) := by
  have h : V m c main_v0 = (shapeCast S16384x1024 (m ((c : Thread nD τ).loc main_arg0) : FVec Ideal S4x4096x1024 .f32)
      shapeCasts_S4x4096x1024_S16384x1024 : FVec Ideal S16384x1024 .f32) := by
    show StableHlo.after hostOps0 _ _ = _
    after_results
    rfl
  rw [h]
  exact rows_1024 _ r j hb hs

theorem entry1 (c : Dev nD) (r : Fin 16384) (j : Fin 512) (hb : r.val / 4096 < 4) (hs : r.val % 4096 < 4096) :
    V m c main_v1 (ix2 r j : S16384x512.Idx)
      = m ((c : Thread nD τ).loc main_arg1) (ix3 ⟨r.val / 4096, hb⟩ ⟨r.val % 4096, hs⟩ j : S4x4096x512.Idx) := by
  have h : V m c main_v1 = (shapeCast S16384x512 (m ((c : Thread nD τ).loc main_arg1) : FVec Ideal S4x4096x512 .bf16)
      shapeCasts_S4x4096x512_S16384x512 : FVec Ideal S16384x512 .bf16) := by
    show StableHlo.after hostOps0 _ _ = _
    after_results
    rfl
  rw [h]
  exact rows_512h _ r j hb hs

theorem entry2 (c : Dev nD) (r : Fin 16384) (j : Fin 1024) (hb : r.val / 4096 < 4) (hs : r.val % 4096 < 4096) :
    V m c main_v2 (ix2 r j : S16384x1024.Idx)
      = m ((c : Thread nD τ).loc main_arg2) (ix3 ⟨r.val / 4096, hb⟩ ⟨r.val % 4096, hs⟩ j : S4x4096x1024.Idx) := by
  have h : V m c main_v2 = (shapeCast S16384x1024 (m ((c : Thread nD τ).loc main_arg2) : FVec Ideal S4x4096x1024 .bf16)
      shapeCasts_S4x4096x1024_S16384x1024 : FVec Ideal S16384x1024 .bf16) := by
    show StableHlo.after hostOps0 _ _ = _
    after_results
    rfl
  rw [h]
  exact rows_1024h _ r j hb hs

theorem entry3 (c : Dev nD) (r : Fin 16384) (j : Fin 1024) (hb : r.val / 4096 < 4) (hs : r.val % 4096 < 4096) :
    V m c main_v3 (ix2 r j : S16384x1024.Idx)
      = m ((c : Thread nD τ).loc main_arg3) (ix3 ⟨r.val / 4096, hb⟩ ⟨r.val % 4096, hs⟩ j : S4x4096x1024.Idx) := by
  have h : V m c main_v3 = (shapeCast S16384x1024 (m ((c : Thread nD τ).loc main_arg3) : FVec Ideal S4x4096x1024 .bf16)
      shapeCasts_S4x4096x1024_S16384x1024 : FVec Ideal S16384x1024 .bf16) := by
    show StableHlo.after hostOps0 _ _ = _
    after_results
    rfl
  rw [h]
  exact rows_1024h _ r j hb hs

theorem entry4 (c : Dev nD) : V m c main_v4 = m ((c : Thread nD τ).loc main_arg4) := by
  show StableHlo.after hostOps0 _ _ = _
  after_results
  rfl

theorem entry5 (c : Dev nD) : V m c main_v5 = m ((c : Thread nD τ).loc main_arg5) := by
  show StableHlo.after hostOps0 _ _ = _
  after_results
  rfl

theorem iblk0 (c : Dev nD) (t : Fin cfg0.N) (r : Fin 512) (j : Fin 1024) : iblk m c 0 t (ix2 r j : S512x1024.Idx)
      = m ((c : Thread nD τ).loc main_arg0)
          (ix3 ⟨(row t r).val / 4096, row_batch t r⟩ ⟨(row t r).val % 4096, row_pos t r⟩ j : S4x4096x1024.Idx) := by
  show V m c main_v0 (((cfg0.win 0).blk t).view.emb (ix2 r j : S512x1024.Idx)) = _
  rw [emb0, entry0]

theorem iblk1 (c : Dev nD) (t : Fin cfg0.N) (r : Fin 512) (j : Fin 512) : iblk m c 1 t (ix2 r j : S512x512.Idx)
      = m ((c : Thread nD τ).loc main_arg1)
          (ix3 ⟨(row t r).val / 4096, row_batch t r⟩ ⟨(row t r).val % 4096, row_pos t r⟩ j : S4x4096x512.Idx) := by
  show V m c main_v1 (((cfg0.win 1).blk t).view.emb (ix2 r j : S512x512.Idx)) = _
  rw [emb1, entry1]

theorem iblk2 (c : Dev nD) (t : Fin cfg0.N) (r : Fin 512) (j : Fin 1024) : iblk m c 2 t (ix2 r j : S512x1024.Idx)
      = m ((c : Thread nD τ).loc main_arg2)
          (ix3 ⟨(row t r).val / 4096, row_batch t r⟩ ⟨(row t r).val % 4096, row_pos t r⟩ j : S4x4096x1024.Idx) := by
  show V m c main_v2 (((cfg0.win 2).blk t).view.emb (ix2 r j : S512x1024.Idx)) = _
  rw [emb2, entry2]

theorem iblk3 (c : Dev nD) (t : Fin cfg0.N) (r : Fin 512) (j : Fin 1024) : iblk m c 3 t (ix2 r j : S512x1024.Idx)
      = m ((c : Thread nD τ).loc main_arg3)
          (ix3 ⟨(row t r).val / 4096, row_batch t r⟩ ⟨(row t r).val % 4096, row_pos t r⟩ j : S4x4096x1024.Idx) := by
  show V m c main_v3 (((cfg0.win 3).blk t).view.emb (ix2 r j : S512x1024.Idx)) = _
  rw [emb3, entry3]

theorem iblk4 (c : Dev nD) (t : Fin cfg0.N) (k : Fin 512) (j : Fin 1024) : iblk m c 4 t (ix3 0 k j : S1x512x1024.Idx)
      = m ((c : Thread nD τ).loc main_arg4) (ix3 3 k j : S4x512x1024.Idx) := by
  show V m c main_v4 (((cfg0.win 4).blk t).view.emb (ix3 0 k j : S1x512x1024.Idx)) = _
  rw [emb4, entry4]

theorem iblk5 (c : Dev nD) (t : Fin cfg0.N) (k : Fin 1024) (j : Fin 1024) : iblk m c 5 t (ix3 0 k j : S1x1024x1024.Idx)
      = m ((c : Thread nD τ).loc main_arg5) (ix3 3 k j : S4x1024x1024.Idx) := by
  show V m c main_v5 (((cfg0.win 5).blk t).view.emb (ix3 0 k j : S1x1024x1024.Idx)) = _
  rw [emb5, entry5]

/-- What a grid point writes back is its block of the reference's result. -/
theorem flushed_eq (c : Dev nD) (t : Fin cfg0.N) : (dats m 0 c).flushed 6 t
      = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed6]
  funext (i : S512x1024.Idx)
  obtain ⟨r, j, rfl⟩ : ∃ (r : Fin 512) (j : Fin 1024), i = ix2 r j :=
    ⟨i 0, i 1, by funext a; match a with
      | ⟨0, _⟩ => rfl
      | ⟨1, _⟩ => rfl⟩
  show out0_6 (F := Ideal) _ _ _ _ _ _ (ix2 r j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 r j : S512x1024.Idx))
  rw [emb6, out_apply, G_apply _ _ _ _ _ _ _ _ (row_batch t r) (row_pos t r), iblk0]
  simp only [iblk1, iblk2, iblk3, iblk4, iblk5]

/-- Every row of the result is in the block of its point. -/
theorem covered (i : S16384x1024.Idx) : ∃ t : Fin cfg0.N, (cfg0.win 6).flush t = true ∧ i ∈ ((cfg0.win 6).blk t).view.set := by
  have hi : (i 0).val < 16384 := (i 0).isLt
  have ht : (i 0).val / 512 < cfg0.N := by rw [steps]; omega
  refine ⟨⟨(i 0).val / 512, ht⟩, flush0_6 _, ?_⟩
  have h := ((cfg0.win 6).blk ⟨(i 0).val / 512, ht⟩).view.emb_mem_set
    (ix2 (⟨(i 0).val % 512, by omega⟩ : Fin 512) (i 1 : Fin 1024) : S512x1024.Idx)
  have e : ((cfg0.win 6).blk ⟨(i 0).val / 512, ht⟩).view.emb
      (ix2 (⟨(i 0).val % 512, by omega⟩ : Fin 512) (i 1 : Fin 1024) : S512x1024.Idx) = i := by
    refine (emb6 _ _ _).trans ?_
    funext a; match a with
    | ⟨0, _⟩ => apply Fin.ext; show (i 0).val / 512 * 512 + (i 0).val % 512 = (i 0).val; omega
    | ⟨1, _⟩ => rfl
  rwa [e] at h

/-- The result after the run is the reference's. -/
theorem final (c : Dev nD) : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) covered

/-- The run of the kernel with its result at the reference's value. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Proof.Out

end
-- ==== Proof.Proj.Same.lean ====
/- The two printed texts of the call that closes a layer and projects the next one are one program: at the bit-exact values, the body
   table of the kernel is the body table of its idealization. -/
module

public import proofs.«01_k».proof.Defs
public import proofs.«01_k».proof.Proof.Gen.Kernel3
public import proofs.«01_k».proof.Proof.Gen.Kernel3Ideal

@[expose] public section

set_option maxRecDepth 16384

noncomputable section

namespace Cert.Proof.Proj

open Idealize.ShloMosaic Idealize.SL.Sem

set_option maxHeartbeats 20000000 in
/-- The two bodies unfold to the same operations. -/
theorem body_same : Cert.Kernel3.cc0_out_proj_then_proj (F := Bits) = Cert.Kernel3Ideal.cc0_out_proj_then_proj (F := Bits) := rfl

set_option maxHeartbeats 20000000 in
/-- So the body tables agree at the one label there is. -/
theorem table_same : Cert.Kernel3.defs₀ (F := Bits) = Cert.Kernel3Ideal.defs₀ (F := Bits) := by
  funext κ l a
  cases κ with
  | scScalar _ => rfl
  | scVector _ _ => rfl
  | tc =>
    obtain ⟨l, hl⟩ := l
    match l, hl with
    | 0, _ =>
      obtain ⟨t, s⟩ := a
      unfold Cert.Kernel3.defs₀ Cert.Kernel3Ideal.defs₀
      simp only [Defs.onTc_tc]
      show Cert.Kernel3.cc0_out_proj_then_proj _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = _
      rw [body_same]
      rfl

set_option maxHeartbeats 20000000 in
/-- And so do the tables with the pipeline's labels added. -/
theorem defs_same : Cert.Kernel3.defs (F := Bits) = Cert.Kernel3Ideal.defs (F := Bits) := congrArg (Pipeline.defs Cert.Kernel3Ideal.pcfgs) table_same

end Cert.Proof.Proj

end
-- ==== Proof.Proj.Ref.lean ====
/- The reference as functions of its sixteen arguments: its ten results, and the arrays they share. -/
module

public import proofs.«01_k».proof.Proof.Gen.Reference3Ideal.Run
public import Idealize.ShloMosaic.Lib.Pointwise

@[expose] public section

set_option maxRecDepth 16384

noncomputable section

namespace Cert.Proof.Proj

open Cert.Reference3Ideal Cert.Reference3Ideal.Gen Idealize.ShloMosaic Idealize.ShloMosaic.TcCoe

/-- The arguments' contents. -/
structure Args where
  a0 : FVec Ideal S4x4096x1024 .f32
  a1 : FVec Ideal S4x4096x512 .bf16
  a2 : FVec Ideal S4x4096x1024 .bf16
  a3 : FVec Ideal S4x4096x1024 .bf16
  a4 : FVec Ideal S4x1024 .f32
  a5 : FVec Ideal S4x1024x6216 .f32
  a6 : FVec Ideal S4x2x1024 .f32
  a7 : FVec Ideal S4x512 .f32
  a8 : FVec Ideal S4x512 .f32
  a9 : FVec Ideal S4x4x128x128 .f32
  a10 : FVec Ideal S4x4x128 .f32
  a11 : FVec Ideal S4x128 .f32
  a12 : FVec Ideal S4x128 .f32
  a13 : FVec Ideal S4x512x1024 .f32
  a14 : FVec Ideal S4x512x1024 .f32
  a15 : FVec Ideal S4x1024x1024 .f32

namespace Ref

variable (A : Args)

def residual : FVec Ideal S4x4096x1024 .f32 :=
  addf A.a0 (Host.dotGeneral dot_S4x4096x1024_S1024x1024_S4x4096x1024_2_0_01_1_n_n none (addf (extf .f32 A.a2 bitsLt_bf16_f32) (mulf (extf .f32 A.a3 bitsLt_bf16_f32) (Host.dotGeneral dot_S4x4096x512_S512x1024_S4x4096x1024_2_0_01_1_n_n none (extf .f32 A.a1 bitsLt_bf16_f32) (shapeCast _ (extractStridedSlice S1x512x1024 ![0, 0, 0] A.a14 slices_S4x512x1024_S1x512x1024_0_0_0) shapeCasts_S1x512x1024_S512x1024)))) (shapeCast _ (extractStridedSlice S1x1024x1024 ![0, 0, 0] A.a15 slices_S4x1024x1024_S1x1024x1024_0_0_0) shapeCasts_S1x1024x1024_S1024x1024))
def normed : FVec Ideal S4x4096x1024 .f32 :=
  mulf (mulf (residual A) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (residual A) (residual A)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![1, 0] A.a4 slices_S4x1024_S1x1024_1_0) shapeCasts_S1x1024_S1024)))
def auPart : FVec Ideal S4x4096x512 .f32 :=
  Host.dotGeneral dot_S4x4096x1024_S1024x512_S4x4096x512_2_0_01_1_n_n none (normed A) (extractStridedSlice S1024x512 ![0, 0] (shapeCast _ (extractStridedSlice S1x1024x6216 ![1, 0, 0] A.a5 slices_S4x1024x6216_S1x1024x6216_1_0_0) shapeCasts_S1x1024x6216_S1024x6216) slices_S1024x6216_S1024x512_0_0)
def avPart : FVec Ideal S4x4096x512 .f32 :=
  Host.dotGeneral dot_S4x4096x1024_S1024x512_S4x4096x512_2_0_01_1_n_n none (normed A) (extractStridedSlice S1024x512 ![0, 512] (shapeCast _ (extractStridedSlice S1x1024x6216 ![1, 0, 0] A.a5 slices_S4x1024x6216_S1x1024x6216_1_0_0) shapeCasts_S1x1024x6216_S1024x6216) slices_S1024x6216_S1024x512_0_512)
def azPart : FVec Ideal S4x4096x512 .f32 :=
  Host.dotGeneral dot_S4x4096x1024_S1024x512_S4x4096x512_2_0_01_1_n_n none (normed A) (extractStridedSlice S1024x512 ![0, 1024] (shapeCast _ (extractStridedSlice S1x1024x6216 ![1, 0, 0] A.a5 slices_S4x1024x6216_S1x1024x6216_1_0_0) shapeCasts_S1x1024x6216_S1024x6216) slices_S1024x6216_S1024x512_0_1024)
def bzPart : FVec Ideal S4x4096x512 .f32 :=
  Host.dotGeneral dot_S4x4096x1024_S1024x512_S4x4096x512_2_0_01_1_n_n none (normed A) (extractStridedSlice S1024x512 ![0, 3072] (shapeCast _ (extractStridedSlice S1x1024x6216 ![1, 0, 0] A.a5 slices_S4x1024x6216_S1x1024x6216_1_0_0) shapeCasts_S1x1024x6216_S1024x6216) slices_S1024x6216_S1024x512_0_3072)
def avGelu : FVec Ideal S4x4096x512 .f32 :=
  mulf (avPart A) (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf (avPart A) (mulf (broadcastInDim S4x4096x512 ![] bcast_S_S4x4096x512 (constant S_ .f32 0x3D372713#32)) (mulf (mulf (avPart A) (avPart A)) (avPart A))))))))
def avCentred : FVec Ideal S4x4096x512 .f32 :=
  subf (avGelu A) (broadcastInDim S4x4096x512 ![0, 1, 2] bcast_S4x4096x1_S4x4096x512_0_1_2 (Host.divf (broadcastInDim S4x4096x1 ![0, 1] bcast_S4x4096_S4x4096x1_0_1 (Host.reduceAdd (avGelu A) (constant S_ .f32 0x00000000#32) reducesTo_S4x4096x512_S4x4096_d2 h_S_)) (broadcastInDim S4x4096x1 ![] bcast_S_S4x4096x1 (constant S_ .f32 0x44000000#32))))
def chunkIota : IVec S128 32 :=
  iotaInDim S128 32 0
def chunkSize : IVec S_ 32 :=
  id (constantI S_ 32 64#32)
def chunkQuot : IVec S128 32 :=
  Host.divsi chunkIota (broadcastInDim S128 ![] bcast_S_S128 chunkSize)
def chunkOf : IVec S128 32 :=
  select (andi (cmpi .ne (signi chunkIota) (broadcastInDim S128 ![] bcast_S_S128 (signi chunkSize))) (cmpi .ne (Host.remsi chunkIota (broadcastInDim S128 ![] bcast_S_S128 chunkSize)) (broadcastInDim S128 ![] bcast_S_S128 (constantI S_ 32 0#32)))) (subi chunkQuot (broadcastInDim S128 ![] bcast_S_S128 (constantI S_ 32 1#32))) chunkQuot
def branchA : FVec Ideal S4x4096x1024 .f32 :=
  mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (addf (Host.dotGeneral dot_S4x4096x1024_S1024x1024_S4x4096x1024_2_0_01_1_n_n none (normed A) (extractStridedSlice S1024x1024 ![0, 4168] (shapeCast _ (extractStridedSlice S1x1024x6216 ![1, 0, 0] A.a5 slices_S4x1024x6216_S1x1024x6216_1_0_0) shapeCasts_S1x1024x6216_S1024x6216) slices_S1024x6216_S1024x1024_0_4168)) (broadcastInDim S4x4096x1024 ![0, 1, 2] bcast_S1x1x1024_S4x4096x1024_0_1_2 (broadcastInDim S1x1x1024 ![2] bcast_S1024_S1x1x1024_2 (shapeCast _ (extractStridedSlice S1x1x1024 ![1, 0, 0] A.a6 slices_S4x2x1024_S1x1x1024_1_0_0) shapeCasts_S1x1x1024_S1024)))))))) (Host.dotGeneral dot_S4x4096x512_S512x1024_S4x4096x1024_2_0_01_1_n_n none (mulf (mulf (mulf (auPart A) (mulf (broadcastInDim S4x4096x512 ![] bcast_S_S4x4096x512 (constant S_ .f32 0x3F000000#32)) (addf (broadcastInDim S4x4096x512 ![] bcast_S_S4x4096x512 (constant S_ .f32 0x3F800000#32)) (Host.tanh (mulf (broadcastInDim S4x4096x512 ![] bcast_S_S4x4096x512 (constant S_ .f32 0x3F4C422A#32)) (addf (auPart A) (mulf (broadcastInDim S4x4096x512 ![] bcast_S_S4x4096x512 (constant S_ .f32 0x3D372713#32)) (mulf (mulf (auPart A) (auPart A)) (auPart A))))))))) (shapeCast _ (addf (transpose S4x32x128x4x128 [1, 2, 4, 0, 3] (Host.dotGeneral dot_S4x32x128x4x128_S4x128x128_S4x4x32x128x128_2_2_014_1_3_0 none (shapeCast _ (addf (mulf (mulf (avCentred A) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (avCentred A) (avCentred A)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ (extractStridedSlice S1x512 ![1, 0] A.a7 slices_S4x512_S1x512_1_0) shapeCasts_S1x512_S512)))) (broadcastInDim S4x4096x512 ![0, 1, 2] bcast_S1x1x512_S4x4096x512_0_1_2 (broadcastInDim S1x1x512 ![2] bcast_S512_S1x1x512_2 (shapeCast _ (extractStridedSlice S1x512 ![1, 0] A.a8 slices_S4x512_S1x512_1_0) shapeCasts_S1x512_S512)))) shapeCasts_S4x4096x512_S4x32x128x4x128) (select (broadcastInDim S4x128x128 ![0, 1, 2] bcast_S1x128x128_S4x128x128_0_1_2 (broadcastInDim S1x128x128 ![1, 2] bcast_S128x128_S1x128x128_1_2 (cmpi .sle (broadcastInDim S128x128 ![0, 1] bcast_S1x128_S128x128_0_1 (broadcastInDim S1x128 ![1] bcast_S128_S1x128_1 chunkOf)) (broadcastInDim S128x128 ![0, 1] bcast_S128x1_S128x128_0_1 (broadcastInDim S128x1 ![0] bcast_S128_S128x1_0 chunkOf))))) (shapeCast _ (extractStridedSlice S1x4x128x128 ![1, 0, 0, 0] A.a9 slices_S4x4x128x128_S1x4x128x128_1_0_0_0) shapeCasts_S1x4x128x128_S4x128x128) (broadcastInDim S4x128x128 ![] bcast_S_S4x128x128 (id (constant S_ .f32 0x00000000#32))))) transposes_S4x4x32x128x128_S4x32x128x4x128_1_2_4_0_3) (broadcastInDim S4x32x128x4x128 ![0, 1, 2, 3, 4] bcast_S1x1x128x4x1_S4x32x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] (shapeCast _ (extractStridedSlice S1x4x128 ![1, 0, 0] A.a10 slices_S4x4x128_S1x4x128_1_0_0) shapeCasts_S1x4x128_S4x128) transposes_S4x128_S128x4_1_0))))) shapeCasts_S4x32x128x4x128_S4x4096x512)) (mulf (azPart A) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (azPart A))))))) (shapeCast _ (extractStridedSlice S1x512x1024 ![1, 0, 0] A.a13 slices_S4x512x1024_S1x512x1024_1_0_0) shapeCasts_S1x512x1024_S512x1024))
def angle : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32))))))
def cosQ : FVec Ideal S4096x64 .f32 :=
  Host.cos angle
def sinQ : FVec Ideal S4096x64 .f32 :=
  Host.sin angle
def angleI : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
def cosI : FVec Ideal S4096x32 .f32 :=
  Host.cos angleI
def sinI : FVec Ideal S4096x32 .f32 :=
  Host.sin angleI
def qPart : FVec Ideal S4x4096x4x128 .f32 :=
  shapeCast _ (Host.dotGeneral dot_S4x4096x1024_S1024x512_S4x4096x512_2_0_01_1_n_n none (normed A) (extractStridedSlice S1024x512 ![0, 1536] (shapeCast _ (extractStridedSlice S1x1024x6216 ![1, 0, 0] A.a5 slices_S4x1024x6216_S1x1024x6216_1_0_0) shapeCasts_S1x1024x6216_S1024x6216) slices_S1024x6216_S1024x512_0_1536)) shapeCasts_S4x4096x512_S4x4096x4x128
def qNormed : FVec Ideal S4x4096x4x128 .f32 :=
  mulf (mulf (qPart A) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (qPart A) (qPart A)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ (extractStridedSlice S1x128 ![1, 0] A.a11 slices_S4x128_S1x128_1_0) shapeCasts_S1x128_S128)))
def qLo : FVec Ideal S4x4096x4x64 .f32 :=
  extractStridedSlice S4x4096x4x64 ![0, 0, 0, 0] (qNormed A) slices_S4x4096x4x128_S4x4096x4x64_0_0_0_0
def qHi : FVec Ideal S4x4096x4x64 .f32 :=
  extractStridedSlice S4x4096x4x64 ![0, 0, 0, 64] (qNormed A) slices_S4x4096x4x128_S4x4096x4x64_0_0_0_64
def cosQ3 : FVec Ideal S4096x1x64 .f32 :=
  broadcastInDim S4096x1x64 ![0, 2] bcast_S4096x64_S4096x1x64_0_2 cosQ
def sinQ3 : FVec Ideal S4096x1x64 .f32 :=
  broadcastInDim S4096x1x64 ![0, 2] bcast_S4096x64_S4096x1x64_0_2 sinQ
def kPart : FVec Ideal S4x4096x4x128 .f32 :=
  shapeCast _ (Host.dotGeneral dot_S4x4096x1024_S1024x512_S4x4096x512_2_0_01_1_n_n none (normed A) (extractStridedSlice S1024x512 ![0, 2048] (shapeCast _ (extractStridedSlice S1x1024x6216 ![1, 0, 0] A.a5 slices_S4x1024x6216_S1x1024x6216_1_0_0) shapeCasts_S1x1024x6216_S1024x6216) slices_S1024x6216_S1024x512_0_2048)) shapeCasts_S4x4096x512_S4x4096x4x128
def kNormed : FVec Ideal S4x4096x4x128 .f32 :=
  mulf (mulf (kPart A) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (kPart A) (kPart A)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 (shapeCast _ (extractStridedSlice S1x128 ![1, 0] A.a12 slices_S4x128_S1x128_1_0) shapeCasts_S1x128_S128)))
def kLo : FVec Ideal S4x4096x4x64 .f32 :=
  extractStridedSlice S4x4096x4x64 ![0, 0, 0, 0] (kNormed A) slices_S4x4096x4x128_S4x4096x4x64_0_0_0_0
def kHi : FVec Ideal S4x4096x4x64 .f32 :=
  extractStridedSlice S4x4096x4x64 ![0, 0, 0, 64] (kNormed A) slices_S4x4096x4x128_S4x4096x4x64_0_0_0_64
def cosK3 : FVec Ideal S4096x1x64 .f32 :=
  broadcastInDim S4096x1x64 ![0, 2] bcast_S4096x64_S4096x1x64_0_2 cosQ
def sinK3 : FVec Ideal S4096x1x64 .f32 :=
  broadcastInDim S4096x1x64 ![0, 2] bcast_S4096x64_S4096x1x64_0_2 sinQ
def iqPart : FVec Ideal S4x4096x8x64 .f32 :=
  shapeCast _ (Host.dotGeneral dot_S4x4096x1024_S1024x512_S4x4096x512_2_0_01_1_n_n none (normed A) (extractStridedSlice S1024x512 ![0, 3584] (shapeCast _ (extractStridedSlice S1x1024x6216 ![1, 0, 0] A.a5 slices_S4x1024x6216_S1x1024x6216_1_0_0) shapeCasts_S1x1024x6216_S1024x6216) slices_S1024x6216_S1024x512_0_3584)) shapeCasts_S4x4096x512_S4x4096x8x64
def iqLo : FVec Ideal S4x4096x8x32 .f32 :=
  extractStridedSlice S4x4096x8x32 ![0, 0, 0, 0] (iqPart A) slices_S4x4096x8x64_S4x4096x8x32_0_0_0_0
def iqHi : FVec Ideal S4x4096x8x32 .f32 :=
  extractStridedSlice S4x4096x8x32 ![0, 0, 0, 32] (iqPart A) slices_S4x4096x8x64_S4x4096x8x32_0_0_0_32
def cosR3 : FVec Ideal S4096x1x32 .f32 :=
  broadcastInDim S4096x1x32 ![0, 2] bcast_S4096x32_S4096x1x32_0_2 cosI
def sinR3 : FVec Ideal S4096x1x32 .f32 :=
  broadcastInDim S4096x1x32 ![0, 2] bcast_S4096x32_S4096x1x32_0_2 sinI
def ikPart : FVec Ideal S4x4096x1x64 .f32 :=
  shapeCast _ (Host.dotGeneral dot_S4x4096x1024_S1024x64_S4x4096x64_2_0_01_1_n_n none (normed A) (extractStridedSlice S1024x64 ![0, 4096] (shapeCast _ (extractStridedSlice S1x1024x6216 ![1, 0, 0] A.a5 slices_S4x1024x6216_S1x1024x6216_1_0_0) shapeCasts_S1x1024x6216_S1024x6216) slices_S1024x6216_S1024x64_0_4096)) shapeCasts_S4x4096x64_S4x4096x1x64
def ikLo : FVec Ideal S4x4096x1x32 .f32 :=
  extractStridedSlice S4x4096x1x32 ![0, 0, 0, 0] (ikPart A) slices_S4x4096x1x64_S4x4096x1x32_0_0_0_0
def ikHi : FVec Ideal S4x4096x1x32 .f32 :=
  extractStridedSlice S4x4096x1x32 ![0, 0, 0, 32] (ikPart A) slices_S4x4096x1x64_S4x4096x1x32_0_0_0_32
def cosI3 : FVec Ideal S4096x1x32 .f32 :=
  broadcastInDim S4096x1x32 ![0, 2] bcast_S4096x32_S4096x1x32_0_2 cosI
def sinI3 : FVec Ideal S4096x1x32 .f32 :=
  broadcastInDim S4096x1x32 ![0, 2] bcast_S4096x32_S4096x1x32_0_2 sinI

/-! The ten results. -/

def gX : FVec Ideal S16384x1024 .f32 :=
  shapeCast _ (residual A) shapeCasts_S4x4096x1024_S16384x1024
def gM : FVec Ideal S16384x1024 .bf16 :=
  truncf .bf16 (shapeCast _ (branchA A) shapeCasts_S4x4096x1024_S16384x1024) bitsLt_bf16_f32
def gS : FVec Ideal S16384x1024 .bf16 :=
  truncf .bf16 (shapeCast _ (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (addf (Host.dotGeneral dot_S4x4096x1024_S1024x1024_S4x4096x1024_2_0_01_1_n_n none (normed A) (extractStridedSlice S1024x1024 ![0, 5192] (shapeCast _ (extractStridedSlice S1x1024x6216 ![1, 0, 0] A.a5 slices_S4x1024x6216_S1x1024x6216_1_0_0) shapeCasts_S1x1024x6216_S1024x6216) slices_S1024x6216_S1024x1024_0_5192)) (broadcastInDim S4x4096x1024 ![0, 1, 2] bcast_S1x1x1024_S4x4096x1024_0_1_2 (broadcastInDim S1x1x1024 ![2] bcast_S1024_S1x1x1024_2 (shapeCast _ (extractStridedSlice S1x1x1024 ![1, 1, 0] A.a6 slices_S4x2x1024_S1x1x1024_1_1_0) shapeCasts_S1x1x1024_S1024)))))))) shapeCasts_S4x4096x1024_S16384x1024) bitsLt_bf16_f32
def gK : FVec Ideal S16384x512 .bf16 :=
  truncf .bf16 (shapeCast _ (concatenate S4x4096x4x128 3 [⟨S4x4096x4x64, (subf (mulf (kLo A) (broadcastInDim S4x4096x4x64 ![0, 1, 2, 3] bcast_S1x4096x1x64_S4x4096x4x64_0_1_2_3 (broadcastInDim S1x4096x1x64 ![1, 2, 3] bcast_S4096x1x64_S1x4096x1x64_1_2_3 cosK3))) (mulf (kHi A) (broadcastInDim S4x4096x4x64 ![0, 1, 2, 3] bcast_S1x4096x1x64_S4x4096x4x64_0_1_2_3 (broadcastInDim S1x4096x1x64 ![1, 2, 3] bcast_S4096x1x64_S1x4096x1x64_1_2_3 sinK3))))⟩, ⟨S4x4096x4x64, (addf (mulf (kLo A) (broadcastInDim S4x4096x4x64 ![0, 1, 2, 3] bcast_S1x4096x1x64_S4x4096x4x64_0_1_2_3 (broadcastInDim S1x4096x1x64 ![1, 2, 3] bcast_S4096x1x64_S1x4096x1x64_1_2_3 sinK3))) (mulf (kHi A) (broadcastInDim S4x4096x4x64 ![0, 1, 2, 3] bcast_S1x4096x1x64_S4x4096x4x64_0_1_2_3 (broadcastInDim S1x4096x1x64 ![1, 2, 3] bcast_S4096x1x64_S1x4096x1x64_1_2_3 cosK3))))⟩] concatenates_S4x4096x4x64_S4x4096x4x64_S4x4096x4x128_d3) shapeCasts_S4x4096x4x128_S16384x512) bitsLt_bf16_f32
def gI : FVec Ideal S16384x64 .bf16 :=
  truncf .bf16 (shapeCast _ (concatenate S4x4096x1x64 3 [⟨S4x4096x1x32, (subf (mulf (ikLo A) (broadcastInDim S4x4096x1x32 ![0, 1, 2, 3] bcast_S1x4096x1x32_S4x4096x1x32_0_1_2_3 (broadcastInDim S1x4096x1x32 ![1, 2, 3] bcast_S4096x1x32_S1x4096x1x32_1_2_3 cosI3))) (mulf (ikHi A) (broadcastInDim S4x4096x1x32 ![0, 1, 2, 3] bcast_S1x4096x1x32_S4x4096x1x32_0_1_2_3 (broadcastInDim S1x4096x1x32 ![1, 2, 3] bcast_S4096x1x32_S1x4096x1x32_1_2_3 sinI3))))⟩, ⟨S4x4096x1x32, (addf (mulf (ikLo A) (broadcastInDim S4x4096x1x32 ![0, 1, 2, 3] bcast_S1x4096x1x32_S4x4096x1x32_0_1_2_3 (broadcastInDim S1x4096x1x32 ![1, 2, 3] bcast_S4096x1x32_S1x4096x1x32_1_2_3 sinI3))) (mulf (ikHi A) (broadcastInDim S4x4096x1x32 ![0, 1, 2, 3] bcast_S1x4096x1x32_S4x4096x1x32_0_1_2_3 (broadcastInDim S1x4096x1x32 ![1, 2, 3] bcast_S4096x1x32_S1x4096x1x32_1_2_3 cosI3))))⟩] concatenates_S4x4096x1x32_S4x4096x1x32_S4x4096x1x64_d3) shapeCasts_S4x4096x1x64_S16384x64) bitsLt_bf16_f32
def gQ : FVec Ideal S4x16x512x256 .bf16 :=
  truncf .bf16 (transpose S4x16x512x256 [0, 1, 3, 2] (shapeCast _ (shapeCast _ (mulf (concatenate S4x4096x4x128 3 [⟨S4x4096x4x64, (subf (mulf (qLo A) (broadcastInDim S4x4096x4x64 ![0, 1, 2, 3] bcast_S1x4096x1x64_S4x4096x4x64_0_1_2_3 (broadcastInDim S1x4096x1x64 ![1, 2, 3] bcast_S4096x1x64_S1x4096x1x64_1_2_3 cosQ3))) (mulf (qHi A) (broadcastInDim S4x4096x4x64 ![0, 1, 2, 3] bcast_S1x4096x1x64_S4x4096x4x64_0_1_2_3 (broadcastInDim S1x4096x1x64 ![1, 2, 3] bcast_S4096x1x64_S1x4096x1x64_1_2_3 sinQ3))))⟩, ⟨S4x4096x4x64, (addf (mulf (qLo A) (broadcastInDim S4x4096x4x64 ![0, 1, 2, 3] bcast_S1x4096x1x64_S4x4096x4x64_0_1_2_3 (broadcastInDim S1x4096x1x64 ![1, 2, 3] bcast_S4096x1x64_S1x4096x1x64_1_2_3 sinQ3))) (mulf (qHi A) (broadcastInDim S4x4096x4x64 ![0, 1, 2, 3] bcast_S1x4096x1x64_S4x4096x4x64_0_1_2_3 (broadcastInDim S1x4096x1x64 ![1, 2, 3] bcast_S4096x1x64_S1x4096x1x64_1_2_3 cosQ3))))⟩] concatenates_S4x4096x4x64_S4x4096x4x64_S4x4096x4x128_d3) (broadcastInDim S4x4096x4x128 ![] bcast_S_S4x4096x4x128 (constant S_ .f32 0x3DB504F3#32))) shapeCasts_S4x4096x4x128_S4x4096x512) shapeCasts_S4x4096x512_S4x16x256x512) transposes_S4x16x256x512_S4x16x512x256_0_1_3_2) bitsLt_bf16_f32
def gV : FVec Ideal S4x16x512x256 .bf16 :=
  truncf .bf16 (transpose S4x16x512x256 [0, 1, 3, 2] (shapeCast _ (Host.dotGeneral dot_S4x4096x1024_S1024x512_S4x4096x512_2_0_01_1_n_n none (normed A) (extractStridedSlice S1024x512 ![0, 2560] (shapeCast _ (extractStridedSlice S1x1024x6216 ![1, 0, 0] A.a5 slices_S4x1024x6216_S1x1024x6216_1_0_0) shapeCasts_S1x1024x6216_S1024x6216) slices_S1024x6216_S1024x512_0_2560)) shapeCasts_S4x4096x512_S4x16x256x512) transposes_S4x16x256x512_S4x16x512x256_0_1_3_2) bitsLt_bf16_f32
def gZ : FVec Ideal S4x16x512x256 .bf16 :=
  truncf .bf16 (transpose S4x16x512x256 [0, 1, 3, 2] (shapeCast _ (mulf (bzPart A) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (bzPart A)))))) shapeCasts_S4x4096x512_S4x16x256x512) transposes_S4x16x256x512_S4x16x512x256_0_1_3_2) bitsLt_bf16_f32
def gR : FVec Ideal S4x16x512x256 .bf16 :=
  truncf .bf16 (transpose S4x16x512x256 [0, 1, 3, 2] (shapeCast _ (shapeCast _ (concatenate S4x4096x8x64 3 [⟨S4x4096x8x32, (subf (mulf (iqLo A) (broadcastInDim S4x4096x8x32 ![0, 1, 2, 3] bcast_S1x4096x1x32_S4x4096x8x32_0_1_2_3 (broadcastInDim S1x4096x1x32 ![1, 2, 3] bcast_S4096x1x32_S1x4096x1x32_1_2_3 cosR3))) (mulf (iqHi A) (broadcastInDim S4x4096x8x32 ![0, 1, 2, 3] bcast_S1x4096x1x32_S4x4096x8x32_0_1_2_3 (broadcastInDim S1x4096x1x32 ![1, 2, 3] bcast_S4096x1x32_S1x4096x1x32_1_2_3 sinR3))))⟩, ⟨S4x4096x8x32, (addf (mulf (iqLo A) (broadcastInDim S4x4096x8x32 ![0, 1, 2, 3] bcast_S1x4096x1x32_S4x4096x8x32_0_1_2_3 (broadcastInDim S1x4096x1x32 ![1, 2, 3] bcast_S4096x1x32_S1x4096x1x32_1_2_3 sinR3))) (mulf (iqHi A) (broadcastInDim S4x4096x8x32 ![0, 1, 2, 3] bcast_S1x4096x1x32_S4x4096x8x32_0_1_2_3 (broadcastInDim S1x4096x1x32 ![1, 2, 3] bcast_S4096x1x32_S1x4096x1x32_1_2_3 cosR3))))⟩] concatenates_S4x4096x8x32_S4x4096x8x32_S4x4096x8x64_d3) shapeCasts_S4x4096x8x64_S4x4096x512) shapeCasts_S4x4096x512_S4x16x256x512) transposes_S4x16x256x512_S4x16x512x256_0_1_3_2) bitsLt_bf16_f32
def gW : FVec Ideal S4x16x16x256 .f32 :=
  transpose S4x16x16x256 [0, 1, 3, 2] (shapeCast _ (concatenate S4x4096x16 2 [⟨S4x4096x8, (Host.dotGeneral dot_S4x4096x1024_S1024x8_S4x4096x8_2_0_01_1_n_n none (normed A) (extractStridedSlice S1024x8 ![0, 4160] (shapeCast _ (extractStridedSlice S1x1024x6216 ![1, 0, 0] A.a5 slices_S4x1024x6216_S1x1024x6216_1_0_0) shapeCasts_S1x1024x6216_S1024x6216) slices_S1024x6216_S1024x8_0_4160))⟩, ⟨S4x4096x8, (broadcastInDim S4x4096x8 ![] bcast_S_S4x4096x8 (constant S_ .f32 0x00000000#32))⟩] concatenates_S4x4096x8_S4x4096x8_S4x4096x16_d2) shapeCasts_S4x4096x16_S4x16x256x16) transposes_S4x16x256x16_S4x16x16x256_0_1_3_2

end Ref

end Cert.Proof.Proj

end
-- ==== Proof.Proj.RefAt.lean ====
/- The reference read at an index: the ten results, and what they share, as formulas over the normalized rows. -/
module

public import proofs.«01_k».proof.Proof.Proj.Ref

@[expose] public section

set_option maxRecDepth 16384

noncomputable section

namespace Cert.Proof.Proj

open Cert.Reference3Ideal Cert.Reference3Ideal.Gen Idealize.ShloMosaic

variable (A : Args)

/-- Column `n` of the input projection's weight, at row `x`. -/
def wcol (x : Fin 1024) (n : ℕ) : EReal := if h : n < 6216 then A.a5 (ix3 1 x ⟨n, h⟩) else 0

/-- Column `n` of the input projection of the normalized row at batch `b` and position `s`. -/
def P (b : Fin 4) (s : Fin 4096) (n : ℕ) : EReal := ∑ x : Fin 1024, Ref.normed A (ix3 b s x) * wcol A x n

theorem wcol_eq (x : Fin 1024) (n : ℕ) (h : n < 6216) : wcol A x n = A.a5 (ix3 1 x ⟨n, h⟩) := dif_pos h

theorem P_eq (b : Fin 4) (s : Fin 4096) (n : ℕ) (h : n < 6216) :
    P A b s n = ∑ x : Fin 1024, Ref.normed A (ix3 b s x) * A.a5 (ix3 1 x ⟨n, h⟩) := by
  unfold P; simp only [wcol_eq A _ n h]

/-- The activation, by its tanh. -/
def gelu (x : EReal) : EReal :=
  x * (Ideal.ofBits .f32 1056964608#32 * (1 + Ideal.tanh (Ideal.ofBits .f32 1061962282#32
    * (x + Ideal.ofBits .f32 1027024659#32 * (x * x * x)))))

/-- One over the root of a mean square. -/
def rr (n : BitVec 32) (x : EReal) : EReal := Ideal.rsqrt (Ideal.div x (Ideal.ofBits .f32 n) + Ideal.ofBits .f32 897988541#32)

/-- Branch A's gating input, activated and centred, from the projected row `p`. -/
def vc (p : ℕ → EReal) (j : Fin 512) : EReal :=
  gelu (p (512 + j)) - Ideal.div (∑ k : Fin 512, gelu (p (512 + k))) (Ideal.ofBits .f32 1140850688#32)

/-- The same with its layer norm done. -/
def vn (p : ℕ → EReal) (c d : Fin 512 → EReal) (j : Fin 512) : EReal :=
  vc p j * rr 1140850688#32 (∑ k : Fin 512, vc p k * vc p k) * c j + d j

/-- Whether position `x` of a block of 128 lies in no later chunk than position `i`. -/
def sees (i x : Fin 128) : BitVec 1 := IntOp.cmpi .sle (Ref.chunkOf (ix1 x)) (Ref.chunkOf (ix1 i))

/-- The mixing weight `w` from position `x` to position `i`, where `i` sees it. -/
def mixw (w : EReal) (i x : Fin 128) : EReal := Scalar.select (sees i x) w (Ideal.ofBits .f32 0#32)

/-- Branch A's product before its closing projection, at column `j` of the projected row `p` in its block of rows `blk`. -/
def ya (p : ℕ → EReal) (blk : Fin 128 → ℕ → EReal) (c d : Fin 512 → EReal) (mix : Fin 4 → Fin 128 → EReal) (bias : Fin 4 → EReal)
    (j : Fin 512) : EReal :=
  gelu (p j) * (∑ x : Fin 128, vn (blk x) c d j * mix ⟨j.val / 128, by omega⟩ x + bias ⟨j.val / 128, by omega⟩)
    * (p (1024 + j) * Ideal.logistic (p (1024 + j)))

/-- Branch A, gated. -/
def ma (b : Fin 4) (s : Fin 4096) (j : Fin 1024) : EReal :=
  Ideal.logistic (P A b s (4168 + j) + A.a6 (ix3 1 0 j))
    * ∑ x : Fin 512, ya (P A b s) (fun i => P A b ⟨s.val / 128 * 128 + i.val, by omega⟩) (fun k => A.a7 (ix2 1 k)) (fun k => A.a8 (ix2 1 k))
        (fun g i => mixw (A.a9 (ix4 1 g ⟨s.val % 128, by omega⟩ i)) ⟨s.val % 128, by omega⟩ i)
        (fun g => A.a10 (ix3 1 g ⟨s.val % 128, by omega⟩)) x * A.a13 (ix3 1 x j)

/-- The rotation tables at a position, and by a natural number of the half. -/
def cq (s : Fin 4096) (d : ℕ) : EReal := if h : d < 64 then Ref.cosQ (ix2 s ⟨d, h⟩) else 0
def sq (s : Fin 4096) (d : ℕ) : EReal := if h : d < 64 then Ref.sinQ (ix2 s ⟨d, h⟩) else 0
def ci (s : Fin 4096) (d : ℕ) : EReal := if h : d < 32 then Ref.cosI (ix2 s ⟨d, h⟩) else 0
def si (s : Fin 4096) (d : ℕ) : EReal := if h : d < 32 then Ref.sinI (ix2 s ⟨d, h⟩) else 0

/-- The norms' weights of the queries and of the keys. -/
def gq (d : ℕ) : EReal := if h : d < 128 then A.a11 (ix2 1 ⟨d, h⟩) else 0
def gk (d : ℕ) : EReal := if h : d < 128 then A.a12 (ix2 1 ⟨d, h⟩) else 0

/-- A head's row, its 128 numbers starting at `o`, normalized, at place `d`. -/
def headNorm (p g : ℕ → EReal) (o d : ℕ) : EReal := p (o + d) * rr 1124073472#32 (∑ x : Fin 128, p (o + x) * p (o + x)) * g d

/-- A rotation at place `d` of a row of `n` twice: below `n` and above. -/
def rot (n : ℕ) (p c s : ℕ → EReal) (d : ℕ) : EReal := if d < n then p d * c d - p (n + d) * s d else p (d - n) * s (d - n) + p (n + (d - n)) * c (d - n)

namespace Ref

theorem auPart_at (b : Fin 4) (s : Fin 4096) (j : Fin 512) : auPart A (ix3 b s j) = P A b s j := by
  rw [P_eq A b s j (by omega)]; pointwise [auPart]

theorem avPart_at (b : Fin 4) (s : Fin 4096) (j : Fin 512) : avPart A (ix3 b s j) = P A b s (512 + j) := by
  rw [P_eq A b s (512 + j) (by omega)]; pointwise [avPart]

theorem azPart_at (b : Fin 4) (s : Fin 4096) (j : Fin 512) : azPart A (ix3 b s j) = P A b s (1024 + j) := by
  rw [P_eq A b s (1024 + j) (by omega)]; pointwise [azPart]

theorem bzPart_at (b : Fin 4) (s : Fin 4096) (j : Fin 512) : bzPart A (ix3 b s j) = P A b s (3072 + j) := by
  rw [P_eq A b s (3072 + j) (by omega)]; pointwise [bzPart]

theorem qPart_at (b : Fin 4) (s : Fin 4096) (h : Fin 4) (j : Fin 128) : qPart A (ix4 b s h j) = P A b s (1536 + (h.val * 128 + j)) := by
  rw [P_eq A b s (1536 + (h.val * 128 + j)) (by omega)]; pointwise [qPart]

theorem kPart_at (b : Fin 4) (s : Fin 4096) (h : Fin 4) (j : Fin 128) : kPart A (ix4 b s h j) = P A b s (2048 + (h.val * 128 + j)) := by
  rw [P_eq A b s (2048 + (h.val * 128 + j)) (by omega)]; pointwise [kPart]

theorem iqPart_at (b : Fin 4) (s : Fin 4096) (h : Fin 8) (j : Fin 64) : iqPart A (ix4 b s h j) = P A b s (3584 + (h.val * 64 + j)) := by
  rw [P_eq A b s (3584 + (h.val * 64 + j)) (by omega)]; pointwise [iqPart]

theorem ikPart_at (b : Fin 4) (s : Fin 4096) (j : Fin 64) : ikPart A (ix4 b s 0 j) = P A b s (4096 + j) := by
  rw [P_eq A b s (4096 + j) (by omega)]; pointwise [ikPart]

theorem avGelu_at (b : Fin 4) (s : Fin 4096) (j : Fin 512) : avGelu A (ix3 b s j) = gelu (P A b s (512 + j)) := by
  rw [← avPart_at, gelu]; pointwise [avGelu]

theorem avCentred_at (b : Fin 4) (s : Fin 4096) (j : Fin 512) : avCentred A (ix3 b s j) = vc (P A b s) j := by
  rw [vc]; simp only [← avGelu_at]; pointwise [avCentred]

theorem qNormed_at (b : Fin 4) (s : Fin 4096) (h : Fin 4) (j : Fin 128) :
    qNormed A (ix4 b s h j) = headNorm (fun n => P A b s (1536 + n)) (gq A) (h.val * 128) j := by
  rw [headNorm, rr, gq, dif_pos j.isLt]; simp only [← qPart_at]; pointwise [qNormed]

theorem kNormed_at (b : Fin 4) (s : Fin 4096) (h : Fin 4) (j : Fin 128) :
    kNormed A (ix4 b s h j) = headNorm (fun n => P A b s (2048 + n)) (gk A) (h.val * 128) j := by
  rw [headNorm, rr, gk, dif_pos j.isLt]; simp only [← kPart_at]; pointwise [kNormed]

theorem cq_eq (s : Fin 4096) (d : ℕ) (h : d < 64) : cosQ (ix2 s ⟨d, h⟩) = cq s d := by rw [cq, dif_pos h]
theorem sq_eq (s : Fin 4096) (d : ℕ) (h : d < 64) : sinQ (ix2 s ⟨d, h⟩) = sq s d := by rw [sq, dif_pos h]
theorem ci_eq (s : Fin 4096) (d : ℕ) (h : d < 32) : cosI (ix2 s ⟨d, h⟩) = ci s d := by rw [ci, dif_pos h]
theorem si_eq (s : Fin 4096) (d : ℕ) (h : d < 32) : sinI (ix2 s ⟨d, h⟩) = si s d := by rw [si, dif_pos h]

theorem dite_eq_rot (n : ℕ) (p c s : ℕ → EReal) (d : ℕ) :
    (if h : d < n then p d * c d - p (n + d) * s d else p (d - n) * s (d - n) + p (n + (d - n)) * c (d - n)) = rot n p c s d := by
  rw [rot]; split <;> rfl

theorem gK_at (r : Fin 16384) (j : Fin 512) : gK A (ix2 r j)
    = rot 64 (headNorm (fun n => P A ⟨r.val / 4096, by omega⟩ ⟨r.val % 4096, by omega⟩ (2048 + n)) (gk A) (j.val / 128 * 128))
        (cq ⟨r.val % 4096, by omega⟩) (sq ⟨r.val % 4096, by omega⟩) (j.val % 128) := by
  rw [← dite_eq_rot]
  pointwise [gK, kLo, kHi, cosK3, sinK3]
  simp only [kNormed_at, cq_eq, sq_eq]

theorem gI_at (r : Fin 16384) (j : Fin 64) : gI A (ix2 r j)
    = rot 32 (fun n => P A ⟨r.val / 4096, by omega⟩ ⟨r.val % 4096, by omega⟩ (4096 + n))
        (ci ⟨r.val % 4096, by omega⟩) (si ⟨r.val % 4096, by omega⟩) j := by
  rw [← dite_eq_rot]
  pointwise [gI, ikLo, ikHi, cosI3, sinI3]
  simp only [ikPart_at, ci_eq, si_eq]

theorem gQ_at (b : Fin 4) (n : Fin 16) (e : Fin 512) (p : Fin 256) : gQ A (ix4 b n e p)
    = rot 64 (headNorm (fun k => P A b ⟨n.val * 256 + p.val, by omega⟩ (1536 + k)) (gq A) (e.val / 128 * 128))
        (cq ⟨n.val * 256 + p.val, by omega⟩) (sq ⟨n.val * 256 + p.val, by omega⟩) (e.val % 128) * Ideal.ofBits .f32 1035273459#32 := by
  rw [← dite_eq_rot]
  pointwise [gQ, qLo, qHi, cosQ3, sinQ3]
  simp only [qNormed_at, cq_eq, sq_eq]

theorem iqLo_at (b : Fin 4) (s : Fin 4096) (h : Fin 8) (j : Fin 32) : iqLo A (ix4 b s h j) = P A b s (3584 + (h.val * 64 + j)) := by
  rw [P_eq A b s (3584 + (h.val * 64 + j)) (by omega)]; pointwise [iqLo, iqPart]

theorem iqHi_at (b : Fin 4) (s : Fin 4096) (h : Fin 8) (j : Fin 32) : iqHi A (ix4 b s h j) = P A b s (3584 + (h.val * 64 + (32 + j))) := by
  rw [P_eq A b s (3584 + (h.val * 64 + (32 + j))) (by omega)]; pointwise [iqHi, iqPart]

theorem gV_at (b : Fin 4) (n : Fin 16) (e : Fin 512) (p : Fin 256) : gV A (ix4 b n e p) = P A b ⟨n.val * 256 + p.val, by omega⟩ (2560 + e) := by
  rw [P_eq A b _ (2560 + e) (by omega)]; pointwise [gV]

theorem gZ_at (b : Fin 4) (n : Fin 16) (e : Fin 512) (p : Fin 256) : gZ A (ix4 b n e p)
    = P A b ⟨n.val * 256 + p.val, by omega⟩ (3072 + e) * Ideal.logistic (P A b ⟨n.val * 256 + p.val, by omega⟩ (3072 + e)) := by
  rw [← bzPart_at, Ideal.logistic]; pointwise [gZ]

theorem gW_at (b : Fin 4) (n e : Fin 16) (p : Fin 256) : gW A (ix4 b n e p)
    = if e.val < 8 then P A b ⟨n.val * 256 + p.val, by omega⟩ (4160 + e) else 0 := by
  pointwise [gW]
  split
  · rw [P_eq A b _ (4160 + e) (by omega)]
  · rfl

theorem gS_at (r : Fin 16384) (j : Fin 1024) : gS A (ix2 r j)
    = Ideal.logistic (P A ⟨r.val / 4096, by omega⟩ ⟨r.val % 4096, by omega⟩ (5192 + j) + A.a6 (ix3 1 1 j)) := by
  rw [P_eq A _ _ (5192 + j) (by omega), Ideal.logistic]; pointwise [gS]

theorem gX_at (r : Fin 16384) (j : Fin 1024) : gX A (ix2 r j) = residual A (ix3 ⟨r.val / 4096, by omega⟩ ⟨r.val % 4096, by omega⟩ j) := by
  pointwise [gX]

theorem residual_at (b : Fin 4) (s : Fin 4096) (j : Fin 1024) : residual A (ix3 b s j)
    = A.a0 (ix3 b s j) + ∑ x : Fin 1024, (A.a2 (ix3 b s x) + A.a3 (ix3 b s x) * ∑ k : Fin 512, A.a1 (ix3 b s k) * A.a14 (ix3 0 k x))
        * A.a15 (ix3 0 x j) := by
  pointwise [residual]

theorem normed_at (b : Fin 4) (s : Fin 4096) (j : Fin 1024) : normed A (ix3 b s j)
    = residual A (ix3 b s j) * rr 1149239296#32 (∑ k : Fin 1024, residual A (ix3 b s k) * residual A (ix3 b s k)) * A.a4 (ix2 1 j) := by
  rw [rr]; pointwise [normed]

end Ref

end Cert.Proof.Proj

end
-- ==== Proof.Proj.Body.lean ====
/- One block of 512 rows of the call that closes a layer and projects the next one: what its body leaves in each of its ten result
   buffers, as functions of its 26 input blocks, and that it leaves just that. Over any float values. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the input buffers at one point of the grid. -/
structure Blocks (F : FTy → Type) where
  x0 : Vec F S512x1024 .f32
  x1 : Vec F S512x512 .bf16
  x2 : Vec F S512x1024 .bf16
  x3 : Vec F S512x1024 .bf16
  x4 : Vec F S1x512x1024 .bf16
  x5 : Vec F S1x1024x1024 .bf16
  x6 : Vec F S1x1x1024 .f32
  x7 : Vec F S1x4224x1024 .bf16
  x8 : Vec F S1x2x1024 .f32
  x9 : Vec F S1x1x512 .f32
  x10 : Vec F S1x1x512 .f32
  x11 : Vec F S1x4x128x128 .f32
  x12 : Vec F S1x128x512 .f32
  x13 : Vec F S1x1x128 .f32
  x14 : Vec F S1x512x1024 .bf16
  x15 : Vec F S512x128 .f32
  x16 : Vec F S512x128 .f32
  x17 : Vec F S512x128 .f32
  x18 : Vec F S512x128 .f32
  x19 : Vec F S1x2048x1024 .bf16
  x20 : Vec F S1x16x1024 .bf16
  x21 : Vec F S1x128x1 .f32
  x22 : Vec F S64x512 .f32
  x23 : Vec F S64x512 .f32
  x24 : Vec F S32x512 .f32
  x25 : Vec F S32x512 .f32

/-! The parts of the buffers that the body loads and stores. -/

abbrev r0 : Rect S1x4x128x128 := Rect.unit (s := S1x4x128x128) ![0, 0, 0, 0] S1x1x128x128.size inb_S1x4x128x128_S1x1x128x128_0_0_0_0
abbrev r1 : Rect S1x4x128x128 := Rect.unit (s := S1x4x128x128) ![0, 1, 0, 0] S1x1x128x128.size inb_S1x4x128x128_S1x1x128x128_0_1_0_0
abbrev r2 : Rect S1x4x128x128 := Rect.unit (s := S1x4x128x128) ![0, 2, 0, 0] S1x1x128x128.size inb_S1x4x128x128_S1x1x128x128_0_2_0_0
abbrev r3 : Rect S1x4x128x128 := Rect.unit (s := S1x4x128x128) ![0, 3, 0, 0] S1x1x128x128.size inb_S1x4x128x128_S1x1x128x128_0_3_0_0
abbrev r4 : Rect S512x1024 := Rect.unit (s := S512x1024) ![0, 0] S256x1024.size inb_S512x1024_S256x1024_0_0
abbrev r5 : Rect S512x512 := Rect.unit (s := S512x512) ![0, 0] S256x512.size inb_S512x512_S256x512_0_0
abbrev r6 : Rect S1x512x1024 := Rect.unit (s := S1x512x1024) ![0, 0, 0] S1x512x1024.size inb_S1x512x1024_S1x512x1024_0_0_0
abbrev r7 : Rect S1x1024x1024 := Rect.unit (s := S1x1024x1024) ![0, 0, 0] S1x1024x1024.size inb_S1x1024x1024_S1x1024x1024_0_0_0
abbrev r8 : Rect S1x1x1024 := Rect.unit (s := S1x1x1024) ![0, 0, 0] S1x1x1024.size inb_S1x1x1024_S1x1x1024_0_0_0
abbrev r9 : Rect S1x4224x1024 := Rect.unit (s := S1x4224x1024) ![0, 512, 0] S1x512x1024.size inb_S1x4224x1024_S1x512x1024_0_512_0
abbrev r10 : Rect S1x1x512 := Rect.unit (s := S1x1x512) ![0, 0, 0] S1x1x512.size inb_S1x1x512_S1x1x512_0_0_0
abbrev r11 : Rect S1x128x512 := Rect.unit (s := S1x128x512) ![0, 0, 0] S1x128x512.size inb_S1x128x512_S1x128x512_0_0_0
abbrev r12 : Rect S1x4224x1024 := Rect.unit (s := S1x4224x1024) ![0, 0, 0] S1x512x1024.size inb_S1x4224x1024_S1x512x1024_0_0_0
abbrev r13 : Rect S1x4224x1024 := Rect.unit (s := S1x4224x1024) ![0, 1024, 0] S1x512x1024.size inb_S1x4224x1024_S1x512x1024_0_1024_0
abbrev r14 : Rect S1x4224x1024 := Rect.unit (s := S1x4224x1024) ![0, 2176, 0] S1x1024x1024.size inb_S1x4224x1024_S1x1024x1024_0_2176_0
abbrev r15 : Rect S1x2x1024 := Rect.unit (s := S1x2x1024) ![0, 0, 0] S1x1x1024.size inb_S1x2x1024_S1x1x1024_0_0_0
abbrev r16 : Rect S1x4224x1024 := Rect.unit (s := S1x4224x1024) ![0, 3200, 0] S1x1024x1024.size inb_S1x4224x1024_S1x1024x1024_0_3200_0
abbrev r17 : Rect S1x2x1024 := Rect.unit (s := S1x2x1024) ![0, 1, 0] S1x1x1024.size inb_S1x2x1024_S1x1x1024_0_1_0
abbrev r18 : Rect S1x4224x1024 := Rect.unit (s := S1x4224x1024) ![0, 1536, 0] S1x512x1024.size inb_S1x4224x1024_S1x512x1024_0_1536_0
abbrev r19 : Rect S1x1x128 := Rect.unit (s := S1x1x128) ![0, 0, 0] S1x1x128.size inb_S1x1x128_S1x1x128_0_0_0
abbrev r20 : Rect S512x128 := Rect.unit (s := S512x128) ![0, 0] S256x128.size inb_S512x128_S256x128_0_0
abbrev r21 : Rect S512x512 := Rect.unit (s := S512x512) ![0, 0] S256x128.size inb_S512x512_S256x128_0_0
abbrev r22 : Rect S512x512 := Rect.unit (s := S512x512) ![0, 128] S256x128.size inb_S512x512_S256x128_0_128
abbrev r23 : Rect S512x512 := Rect.unit (s := S512x512) ![0, 256] S256x128.size inb_S512x512_S256x128_0_256
abbrev r24 : Rect S512x512 := Rect.unit (s := S512x512) ![0, 384] S256x128.size inb_S512x512_S256x128_0_384
abbrev r25 : Rect S1x4224x1024 := Rect.unit (s := S1x4224x1024) ![0, 2048, 0] S1x128x1024.size inb_S1x4224x1024_S1x128x1024_0_2048_0
abbrev r26 : Rect S512x64 := Rect.unit (s := S512x64) ![0, 0] S256x64.size inb_S512x64_S256x64_0_0
abbrev r27 : Rect S1x2048x1024 := Rect.unit (s := S1x2048x1024) ![0, 0, 0] S1x512x1024.size inb_S1x2048x1024_S1x512x1024_0_0_0
abbrev r28 : Rect S1x128x1 := Rect.unit (s := S1x128x1) ![0, 0, 0] S1x128x1.size inb_S1x128x1_S1x128x1_0_0_0
abbrev r29 : Rect S64x512 := Rect.unit (s := S64x512) ![0, 0] S64x256.size inb_S64x512_S64x256_0_0
abbrev r30 : Rect S1x2x512x256 := Rect.unit (s := S1x2x512x256) ![0, 0, 0, 0] S1x1x64x256.size inb_S1x2x512x256_S1x1x64x256_0_0_0_0
abbrev r31 : Rect S1x2x512x256 := Rect.unit (s := S1x2x512x256) ![0, 0, 64, 0] S1x1x64x256.size inb_S1x2x512x256_S1x1x64x256_0_0_64_0
abbrev r32 : Rect S1x2x512x256 := Rect.unit (s := S1x2x512x256) ![0, 0, 128, 0] S1x1x64x256.size inb_S1x2x512x256_S1x1x64x256_0_0_128_0
abbrev r33 : Rect S1x2x512x256 := Rect.unit (s := S1x2x512x256) ![0, 0, 192, 0] S1x1x64x256.size inb_S1x2x512x256_S1x1x64x256_0_0_192_0
abbrev r34 : Rect S1x2x512x256 := Rect.unit (s := S1x2x512x256) ![0, 0, 256, 0] S1x1x64x256.size inb_S1x2x512x256_S1x1x64x256_0_0_256_0
abbrev r35 : Rect S1x2x512x256 := Rect.unit (s := S1x2x512x256) ![0, 0, 320, 0] S1x1x64x256.size inb_S1x2x512x256_S1x1x64x256_0_0_320_0
abbrev r36 : Rect S1x2x512x256 := Rect.unit (s := S1x2x512x256) ![0, 0, 384, 0] S1x1x64x256.size inb_S1x2x512x256_S1x1x64x256_0_0_384_0
abbrev r37 : Rect S1x2x512x256 := Rect.unit (s := S1x2x512x256) ![0, 0, 448, 0] S1x1x64x256.size inb_S1x2x512x256_S1x1x64x256_0_0_448_0
abbrev r38 : Rect S1x2048x1024 := Rect.unit (s := S1x2048x1024) ![0, 512, 0] S1x512x1024.size inb_S1x2048x1024_S1x512x1024_0_512_0
abbrev r39 : Rect S1x2x512x256 := Rect.unit (s := S1x2x512x256) ![0, 0, 0, 0] S1x1x512x256.size inb_S1x2x512x256_S1x1x512x256_0_0_0_0
abbrev r40 : Rect S1x2048x1024 := Rect.unit (s := S1x2048x1024) ![0, 1024, 0] S1x512x1024.size inb_S1x2048x1024_S1x512x1024_0_1024_0
abbrev r41 : Rect S1x2048x1024 := Rect.unit (s := S1x2048x1024) ![0, 1536, 0] S1x512x1024.size inb_S1x2048x1024_S1x512x1024_0_1536_0
abbrev r42 : Rect S32x512 := Rect.unit (s := S32x512) ![0, 0] S32x256.size inb_S32x512_S32x256_0_0
abbrev r43 : Rect S1x2x512x256 := Rect.unit (s := S1x2x512x256) ![0, 0, 0, 0] S1x1x32x256.size inb_S1x2x512x256_S1x1x32x256_0_0_0_0
abbrev r44 : Rect S1x2x512x256 := Rect.unit (s := S1x2x512x256) ![0, 0, 32, 0] S1x1x32x256.size inb_S1x2x512x256_S1x1x32x256_0_0_32_0
abbrev r45 : Rect S1x2x512x256 := Rect.unit (s := S1x2x512x256) ![0, 0, 64, 0] S1x1x32x256.size inb_S1x2x512x256_S1x1x32x256_0_0_64_0
abbrev r46 : Rect S1x2x512x256 := Rect.unit (s := S1x2x512x256) ![0, 0, 96, 0] S1x1x32x256.size inb_S1x2x512x256_S1x1x32x256_0_0_96_0
abbrev r47 : Rect S1x2x512x256 := Rect.unit (s := S1x2x512x256) ![0, 0, 128, 0] S1x1x32x256.size inb_S1x2x512x256_S1x1x32x256_0_0_128_0
abbrev r48 : Rect S1x2x512x256 := Rect.unit (s := S1x2x512x256) ![0, 0, 160, 0] S1x1x32x256.size inb_S1x2x512x256_S1x1x32x256_0_0_160_0
abbrev r49 : Rect S1x2x512x256 := Rect.unit (s := S1x2x512x256) ![0, 0, 192, 0] S1x1x32x256.size inb_S1x2x512x256_S1x1x32x256_0_0_192_0
abbrev r50 : Rect S1x2x512x256 := Rect.unit (s := S1x2x512x256) ![0, 0, 224, 0] S1x1x32x256.size inb_S1x2x512x256_S1x1x32x256_0_0_224_0
abbrev r51 : Rect S1x2x512x256 := Rect.unit (s := S1x2x512x256) ![0, 0, 256, 0] S1x1x32x256.size inb_S1x2x512x256_S1x1x32x256_0_0_256_0
abbrev r52 : Rect S1x2x512x256 := Rect.unit (s := S1x2x512x256) ![0, 0, 288, 0] S1x1x32x256.size inb_S1x2x512x256_S1x1x32x256_0_0_288_0
abbrev r53 : Rect S1x2x512x256 := Rect.unit (s := S1x2x512x256) ![0, 0, 320, 0] S1x1x32x256.size inb_S1x2x512x256_S1x1x32x256_0_0_320_0
abbrev r54 : Rect S1x2x512x256 := Rect.unit (s := S1x2x512x256) ![0, 0, 352, 0] S1x1x32x256.size inb_S1x2x512x256_S1x1x32x256_0_0_352_0
abbrev r55 : Rect S1x2x512x256 := Rect.unit (s := S1x2x512x256) ![0, 0, 384, 0] S1x1x32x256.size inb_S1x2x512x256_S1x1x32x256_0_0_384_0
abbrev r56 : Rect S1x2x512x256 := Rect.unit (s := S1x2x512x256) ![0, 0, 416, 0] S1x1x32x256.size inb_S1x2x512x256_S1x1x32x256_0_0_416_0
abbrev r57 : Rect S1x2x512x256 := Rect.unit (s := S1x2x512x256) ![0, 0, 448, 0] S1x1x32x256.size inb_S1x2x512x256_S1x1x32x256_0_0_448_0
abbrev r58 : Rect S1x2x512x256 := Rect.unit (s := S1x2x512x256) ![0, 0, 480, 0] S1x1x32x256.size inb_S1x2x512x256_S1x1x32x256_0_0_480_0
abbrev r59 : Rect S1x16x1024 := Rect.unit (s := S1x16x1024) ![0, 0, 0] S1x16x1024.size inb_S1x16x1024_S1x16x1024_0_0_0
abbrev r60 : Rect S1x2x16x256 := Rect.unit (s := S1x2x16x256) ![0, 0, 0, 0] S1x1x16x256.size inb_S1x2x16x256_S1x1x16x256_0_0_0_0
abbrev r61 : Rect S512x1024 := Rect.unit (s := S512x1024) ![256, 0] S256x1024.size inb_S512x1024_S256x1024_256_0
abbrev r62 : Rect S512x512 := Rect.unit (s := S512x512) ![256, 0] S256x512.size inb_S512x512_S256x512_256_0
abbrev r63 : Rect S512x128 := Rect.unit (s := S512x128) ![256, 0] S256x128.size inb_S512x128_S256x128_256_0
abbrev r64 : Rect S512x512 := Rect.unit (s := S512x512) ![256, 0] S256x128.size inb_S512x512_S256x128_256_0
abbrev r65 : Rect S512x512 := Rect.unit (s := S512x512) ![256, 128] S256x128.size inb_S512x512_S256x128_256_128
abbrev r66 : Rect S512x512 := Rect.unit (s := S512x512) ![256, 256] S256x128.size inb_S512x512_S256x128_256_256
abbrev r67 : Rect S512x512 := Rect.unit (s := S512x512) ![256, 384] S256x128.size inb_S512x512_S256x128_256_384
abbrev r68 : Rect S512x64 := Rect.unit (s := S512x64) ![256, 0] S256x64.size inb_S512x64_S256x64_256_0
abbrev r69 : Rect S64x512 := Rect.unit (s := S64x512) ![0, 256] S64x256.size inb_S64x512_S64x256_0_256
abbrev r70 : Rect S1x2x512x256 := Rect.unit (s := S1x2x512x256) ![0, 1, 0, 0] S1x1x64x256.size inb_S1x2x512x256_S1x1x64x256_0_1_0_0
abbrev r71 : Rect S1x2x512x256 := Rect.unit (s := S1x2x512x256) ![0, 1, 64, 0] S1x1x64x256.size inb_S1x2x512x256_S1x1x64x256_0_1_64_0
abbrev r72 : Rect S1x2x512x256 := Rect.unit (s := S1x2x512x256) ![0, 1, 128, 0] S1x1x64x256.size inb_S1x2x512x256_S1x1x64x256_0_1_128_0
abbrev r73 : Rect S1x2x512x256 := Rect.unit (s := S1x2x512x256) ![0, 1, 192, 0] S1x1x64x256.size inb_S1x2x512x256_S1x1x64x256_0_1_192_0
abbrev r74 : Rect S1x2x512x256 := Rect.unit (s := S1x2x512x256) ![0, 1, 256, 0] S1x1x64x256.size inb_S1x2x512x256_S1x1x64x256_0_1_256_0
abbrev r75 : Rect S1x2x512x256 := Rect.unit (s := S1x2x512x256) ![0, 1, 320, 0] S1x1x64x256.size inb_S1x2x512x256_S1x1x64x256_0_1_320_0
abbrev r76 : Rect S1x2x512x256 := Rect.unit (s := S1x2x512x256) ![0, 1, 384, 0] S1x1x64x256.size inb_S1x2x512x256_S1x1x64x256_0_1_384_0
abbrev r77 : Rect S1x2x512x256 := Rect.unit (s := S1x2x512x256) ![0, 1, 448, 0] S1x1x64x256.size inb_S1x2x512x256_S1x1x64x256_0_1_448_0
abbrev r78 : Rect S1x2x512x256 := Rect.unit (s := S1x2x512x256) ![0, 1, 0, 0] S1x1x512x256.size inb_S1x2x512x256_S1x1x512x256_0_1_0_0
abbrev r79 : Rect S32x512 := Rect.unit (s := S32x512) ![0, 256] S32x256.size inb_S32x512_S32x256_0_256
abbrev r80 : Rect S1x2x512x256 := Rect.unit (s := S1x2x512x256) ![0, 1, 0, 0] S1x1x32x256.size inb_S1x2x512x256_S1x1x32x256_0_1_0_0
abbrev r81 : Rect S1x2x512x256 := Rect.unit (s := S1x2x512x256) ![0, 1, 32, 0] S1x1x32x256.size inb_S1x2x512x256_S1x1x32x256_0_1_32_0
abbrev r82 : Rect S1x2x512x256 := Rect.unit (s := S1x2x512x256) ![0, 1, 64, 0] S1x1x32x256.size inb_S1x2x512x256_S1x1x32x256_0_1_64_0
abbrev r83 : Rect S1x2x512x256 := Rect.unit (s := S1x2x512x256) ![0, 1, 96, 0] S1x1x32x256.size inb_S1x2x512x256_S1x1x32x256_0_1_96_0
abbrev r84 : Rect S1x2x512x256 := Rect.unit (s := S1x2x512x256) ![0, 1, 128, 0] S1x1x32x256.size inb_S1x2x512x256_S1x1x32x256_0_1_128_0
abbrev r85 : Rect S1x2x512x256 := Rect.unit (s := S1x2x512x256) ![0, 1, 160, 0] S1x1x32x256.size inb_S1x2x512x256_S1x1x32x256_0_1_160_0
abbrev r86 : Rect S1x2x512x256 := Rect.unit (s := S1x2x512x256) ![0, 1, 192, 0] S1x1x32x256.size inb_S1x2x512x256_S1x1x32x256_0_1_192_0
abbrev r87 : Rect S1x2x512x256 := Rect.unit (s := S1x2x512x256) ![0, 1, 224, 0] S1x1x32x256.size inb_S1x2x512x256_S1x1x32x256_0_1_224_0
abbrev r88 : Rect S1x2x512x256 := Rect.unit (s := S1x2x512x256) ![0, 1, 256, 0] S1x1x32x256.size inb_S1x2x512x256_S1x1x32x256_0_1_256_0
abbrev r89 : Rect S1x2x512x256 := Rect.unit (s := S1x2x512x256) ![0, 1, 288, 0] S1x1x32x256.size inb_S1x2x512x256_S1x1x32x256_0_1_288_0
abbrev r90 : Rect S1x2x512x256 := Rect.unit (s := S1x2x512x256) ![0, 1, 320, 0] S1x1x32x256.size inb_S1x2x512x256_S1x1x32x256_0_1_320_0
abbrev r91 : Rect S1x2x512x256 := Rect.unit (s := S1x2x512x256) ![0, 1, 352, 0] S1x1x32x256.size inb_S1x2x512x256_S1x1x32x256_0_1_352_0
abbrev r92 : Rect S1x2x512x256 := Rect.unit (s := S1x2x512x256) ![0, 1, 384, 0] S1x1x32x256.size inb_S1x2x512x256_S1x1x32x256_0_1_384_0
abbrev r93 : Rect S1x2x512x256 := Rect.unit (s := S1x2x512x256) ![0, 1, 416, 0] S1x1x32x256.size inb_S1x2x512x256_S1x1x32x256_0_1_416_0
abbrev r94 : Rect S1x2x512x256 := Rect.unit (s := S1x2x512x256) ![0, 1, 448, 0] S1x1x32x256.size inb_S1x2x512x256_S1x1x32x256_0_1_448_0
abbrev r95 : Rect S1x2x512x256 := Rect.unit (s := S1x2x512x256) ![0, 1, 480, 0] S1x1x32x256.size inb_S1x2x512x256_S1x1x32x256_0_1_480_0
abbrev r96 : Rect S1x2x16x256 := Rect.unit (s := S1x2x16x256) ![0, 1, 0, 0] S1x1x16x256.size inb_S1x2x16x256_S1x1x16x256_0_1_0_0

/-! The values that several stores share: those of the first 256 rows end in 0, of the second in 1. -/

/-- The masked mixing weights of the first group. -/
def wm0 (X : Blocks F) : FVec F S128x128 .bf16 :=
  k0_pay8 k0_pay3 k0_pay4 k0_pay5 k0_pay6 (View.ld X.x11 r0)
/-- Of the second. -/
def wm1 (X : Blocks F) : FVec F S128x128 .bf16 :=
  k0_pay9 k0_pay3 k0_pay4 k0_pay5 k0_pay6 (View.ld X.x11 r1)
/-- Of the third. -/
def wm2 (X : Blocks F) : FVec F S128x128 .bf16 :=
  k0_pay10 k0_pay3 k0_pay4 k0_pay5 k0_pay6 (View.ld X.x11 r2)
/-- Of the fourth. -/
def wm3 (X : Blocks F) : FVec F S128x128 .bf16 :=
  k0_pay11 k0_pay3 k0_pay4 k0_pay5 k0_pay6 (View.ld X.x11 r3)
/-- The rows of the residual stream. -/
def xs0 (X : Blocks F) : FVec F S256x1024 .f32 :=
  k0_pay12 (View.ld X.x0 r4)
/-- Of the attention's output. -/
def ys0 (X : Blocks F) : FVec F S256x512 .bf16 :=
  k0_pay13 (View.ld X.x1 r5)
/-- Of the previous gated branch. -/
def ms0 (X : Blocks F) : FVec F S256x1024 .bf16 :=
  k0_pay14 (View.ld X.x2 r4)
/-- The normalized rows. -/
def h0 (X : Blocks F) : FVec F S256x1024 .bf16 :=
  k0_pay16 (xs0 X) (ys0 X) (ms0 X) (View.ld X.x3 r4) (View.ld X.x4 r6) (View.ld X.x5 r7) (View.ld X.x6 r8)
/-- The gating input of branch A. -/
def av0 (X : Blocks F) : FVec F S256x512 .f32 :=
  k0_pay17 (xs0 X) (ys0 X) (ms0 X) (View.ld X.x3 r4) (View.ld X.x4 r6) (View.ld X.x5 r7) (View.ld X.x6 r8) (View.ld X.x7 r9)
/-- The argument of its activation. -/
def gi0 (X : Blocks F) : FVec F S256x512 .f32 :=
  k0_pay18 (xs0 X) (ys0 X) (ms0 X) (View.ld X.x3 r4) (View.ld X.x4 r6) (View.ld X.x5 r7) (View.ld X.x6 r8) (View.ld X.x7 r9)
/-- The keys before their norm. -/
def bk0 (X : Blocks F) : FVec F S256x512 .f32 :=
  k0_pay25 (h0 X) (View.ld X.x7 r18)
/-- The queries, by columns. -/
def qt0 (X : Blocks F) : FVec F S512x256 .f32 :=
  k0_pay35 (h0 X) (View.ld X.x19 r27)
/-- The indexer's queries, by columns. -/
def qi0 (X : Blocks F) : FVec F S512x256 .f32 :=
  k0_pay71 (h0 X) (View.ld X.x19 r41)
/-- Two halves of the indexer's first head. -/
def qa0 (X : Blocks F) : FVec F S32x256 .f32 :=
  k0_pay73 (h0 X) (View.ld X.x19 r41)
/-- (the second). -/
def qb0 (X : Blocks F) : FVec F S32x256 .f32 :=
  k0_pay74 (h0 X) (View.ld X.x19 r41)
/-- Its cosines. -/
def ca0 (X : Blocks F) : FVec F S32x256 .f32 :=
  k0_pay75 (View.ld X.x24 r42)
/-- Two halves of its last head. -/
def qc0 (X : Blocks F) : FVec F S32x256 .f32 :=
  k0_pay124 (qi0 X)
/-- (the second). -/
def qd0 (X : Blocks F) : FVec F S32x256 .f32 :=
  k0_pay125 (qi0 X)
/-- The rows of the residual stream. -/
def xs1 (X : Blocks F) : FVec F S256x1024 .f32 :=
  k0_pay131 (View.ld X.x0 r61)
/-- Of the attention's output. -/
def ys1 (X : Blocks F) : FVec F S256x512 .bf16 :=
  k0_pay132 (View.ld X.x1 r62)
/-- Of the previous gated branch. -/
def ms1 (X : Blocks F) : FVec F S256x1024 .bf16 :=
  k0_pay133 (View.ld X.x2 r61)
/-- The normalized rows. -/
def h1 (X : Blocks F) : FVec F S256x1024 .bf16 :=
  k0_pay135 (xs1 X) (ys1 X) (ms1 X) (View.ld X.x3 r61) (View.ld X.x4 r6) (View.ld X.x5 r7) (View.ld X.x6 r8)
/-- The gating input of branch A. -/
def av1 (X : Blocks F) : FVec F S256x512 .f32 :=
  k0_pay136 (xs1 X) (ys1 X) (ms1 X) (View.ld X.x3 r61) (View.ld X.x4 r6) (View.ld X.x5 r7) (View.ld X.x6 r8) (View.ld X.x7 r9)
/-- The argument of its activation. -/
def gi1 (X : Blocks F) : FVec F S256x512 .f32 :=
  k0_pay137 (xs1 X) (ys1 X) (ms1 X) (View.ld X.x3 r61) (View.ld X.x4 r6) (View.ld X.x5 r7) (View.ld X.x6 r8) (View.ld X.x7 r9)
/-- The keys before their norm. -/
def bk1 (X : Blocks F) : FVec F S256x512 .f32 :=
  k0_pay144 (h1 X) (View.ld X.x7 r18)
/-- The queries, by columns. -/
def qt1 (X : Blocks F) : FVec F S512x256 .f32 :=
  k0_pay154 (h1 X) (View.ld X.x19 r27)
/-- The indexer's queries, by columns. -/
def qi1 (X : Blocks F) : FVec F S512x256 .f32 :=
  k0_pay190 (h1 X) (View.ld X.x19 r41)
/-- Two halves of the indexer's first head. -/
def qa1 (X : Blocks F) : FVec F S32x256 .f32 :=
  k0_pay192 (h1 X) (View.ld X.x19 r41)
/-- (the second). -/
def qb1 (X : Blocks F) : FVec F S32x256 .f32 :=
  k0_pay193 (h1 X) (View.ld X.x19 r41)
/-- Its cosines. -/
def ca1 (X : Blocks F) : FVec F S32x256 .f32 :=
  k0_pay194 (View.ld X.x24 r79)
/-- Two halves of its last head. -/
def qc1 (X : Blocks F) : FVec F S32x256 .f32 :=
  k0_pay243 (qi1 X)
/-- (the second). -/
def qd1 (X : Blocks F) : FVec F S32x256 .f32 :=
  k0_pay244 (qi1 X)

/-! The ten result buffers after the body: the stores into each, the last first. -/

def outX (X : Blocks F) : Vec F S512x1024 .f32 :=
  View.canon [⟨r61, k0_pay134 (xs1 X) (ys1 X) (ms1 X) (View.ld X.x3 r61) (View.ld X.x4 r6) (View.ld X.x5 r7)⟩,
    ⟨r4, k0_pay15 (xs0 X) (ys0 X) (ms0 X) (View.ld X.x3 r4) (View.ld X.x4 r6) (View.ld X.x5 r7)⟩]
def outM (X : Blocks F) : Vec F S512x1024 .bf16 :=
  View.canon [⟨r61, k0_pay142 (h1 X) (k0_pay140 (wm0 X) (wm1 X) (wm2 X) (wm3 X) (h1 X) (k0_pay138 (av1 X) (gi1 X) (View.ld X.x9 r10) (View.ld X.x10 r10)) (k0_pay139 (wm0 X) (wm1 X) (wm2 X) (wm3 X) (av1 X) (gi1 X) (View.ld X.x9 r10) (View.ld X.x10 r10)) (View.ld X.x12 r11) (View.ld X.x12 r11) (View.ld X.x7 r12)) (k0_pay141 (h1 X) (View.ld X.x7 r13)) (View.ld X.x14 r6) (View.ld X.x7 r14) (View.ld X.x8 r15)⟩,
    ⟨r4, k0_pay23 (h0 X) (k0_pay21 (wm0 X) (wm1 X) (wm2 X) (wm3 X) (h0 X) (k0_pay19 (av0 X) (gi0 X) (View.ld X.x9 r10) (View.ld X.x10 r10)) (k0_pay20 (wm0 X) (wm1 X) (wm2 X) (wm3 X) (av0 X) (gi0 X) (View.ld X.x9 r10) (View.ld X.x10 r10)) (View.ld X.x12 r11) (View.ld X.x12 r11) (View.ld X.x7 r12)) (k0_pay22 (h0 X) (View.ld X.x7 r13)) (View.ld X.x14 r6) (View.ld X.x7 r14) (View.ld X.x8 r15)⟩]
def outS (X : Blocks F) : Vec F S512x1024 .bf16 :=
  View.canon [⟨r61, k0_pay143 (h1 X) (View.ld X.x7 r16) (View.ld X.x8 r17)⟩,
    ⟨r4, k0_pay24 (h0 X) (View.ld X.x7 r16) (View.ld X.x8 r17)⟩]
def outK (X : Blocks F) : Vec F S512x512 .bf16 :=
  View.canon [⟨r67, k0_pay152 (k0_pay150 (bk1 X)) (k0_pay151 (View.ld X.x13 r19)) (View.ld X.x15 r63) (View.ld X.x16 r63)⟩,
    ⟨r66, k0_pay149 (bk1 X) (View.ld X.x13 r19) (View.ld X.x15 r63) (View.ld X.x16 r63)⟩,
    ⟨r65, k0_pay148 (k0_pay147 (bk1 X) (View.ld X.x13 r19)) (View.ld X.x15 r63) (View.ld X.x16 r63)⟩,
    ⟨r64, k0_pay146 (k0_pay145 (h1 X) (View.ld X.x7 r18)) (View.ld X.x13 r19) (View.ld X.x15 r63) (View.ld X.x16 r63)⟩,
    ⟨r24, k0_pay33 (k0_pay31 (bk0 X)) (k0_pay32 (View.ld X.x13 r19)) (View.ld X.x15 r20) (View.ld X.x16 r20)⟩,
    ⟨r23, k0_pay30 (bk0 X) (View.ld X.x13 r19) (View.ld X.x15 r20) (View.ld X.x16 r20)⟩,
    ⟨r22, k0_pay29 (k0_pay28 (bk0 X) (View.ld X.x13 r19)) (View.ld X.x15 r20) (View.ld X.x16 r20)⟩,
    ⟨r21, k0_pay27 (k0_pay26 (h0 X) (View.ld X.x7 r18)) (View.ld X.x13 r19) (View.ld X.x15 r20) (View.ld X.x16 r20)⟩]
def outI (X : Blocks F) : Vec F S512x64 .bf16 :=
  View.canon [⟨r68, k0_pay153 (h1 X) (View.ld X.x7 r25) (View.ld X.x17 r63) (View.ld X.x18 r63)⟩,
    ⟨r26, k0_pay34 (h0 X) (View.ld X.x7 r25) (View.ld X.x17 r20) (View.ld X.x18 r20)⟩]
def outQ (X : Blocks F) : Vec F S1x2x512x256 .bf16 :=
  View.canon [⟨r77, k0_pay187 (k0_pay185 (qt1 X) (View.ld X.x21 r28) (View.ld X.x22 r69) (View.ld X.x23 r69)) (k0_pay186 (F := F))⟩,
    ⟨r76, k0_pay184 (qt1 X) (View.ld X.x21 r28) (View.ld X.x22 r69) (View.ld X.x23 r69)⟩,
    ⟨r75, k0_pay178 (k0_pay177 (qt1 X) (View.ld X.x21 r28) (View.ld X.x22 r69) (View.ld X.x23 r69))⟩,
    ⟨r74, k0_pay176 (qt1 X) (View.ld X.x21 r28) (View.ld X.x22 r69) (View.ld X.x23 r69)⟩,
    ⟨r73, k0_pay170 (k0_pay169 (qt1 X) (View.ld X.x21 r28) (View.ld X.x22 r69) (View.ld X.x23 r69))⟩,
    ⟨r72, k0_pay168 (qt1 X) (View.ld X.x21 r28) (View.ld X.x22 r69) (View.ld X.x23 r69)⟩,
    ⟨r71, k0_pay162 (k0_pay161 (h1 X) (View.ld X.x19 r27) (View.ld X.x21 r28) (View.ld X.x22 r69) (View.ld X.x23 r69))⟩,
    ⟨r70, k0_pay160 (h1 X) (View.ld X.x19 r27) (View.ld X.x21 r28) (View.ld X.x22 r69) (View.ld X.x23 r69)⟩,
    ⟨r37, k0_pay68 (k0_pay66 (qt0 X) (View.ld X.x21 r28) (View.ld X.x22 r29) (View.ld X.x23 r29)) (k0_pay67 (F := F))⟩,
    ⟨r36, k0_pay65 (qt0 X) (View.ld X.x21 r28) (View.ld X.x22 r29) (View.ld X.x23 r29)⟩,
    ⟨r35, k0_pay59 (k0_pay58 (qt0 X) (View.ld X.x21 r28) (View.ld X.x22 r29) (View.ld X.x23 r29))⟩,
    ⟨r34, k0_pay57 (qt0 X) (View.ld X.x21 r28) (View.ld X.x22 r29) (View.ld X.x23 r29)⟩,
    ⟨r33, k0_pay51 (k0_pay50 (qt0 X) (View.ld X.x21 r28) (View.ld X.x22 r29) (View.ld X.x23 r29))⟩,
    ⟨r32, k0_pay49 (qt0 X) (View.ld X.x21 r28) (View.ld X.x22 r29) (View.ld X.x23 r29)⟩,
    ⟨r31, k0_pay43 (k0_pay42 (h0 X) (View.ld X.x19 r27) (View.ld X.x21 r28) (View.ld X.x22 r29) (View.ld X.x23 r29))⟩,
    ⟨r30, k0_pay41 (h0 X) (View.ld X.x19 r27) (View.ld X.x21 r28) (View.ld X.x22 r29) (View.ld X.x23 r29)⟩]
def outV (X : Blocks F) : Vec F S1x2x512x256 .bf16 :=
  View.canon [⟨r78, k0_pay188 (h1 X) (View.ld X.x19 r38)⟩,
    ⟨r39, k0_pay69 (h0 X) (View.ld X.x19 r38)⟩]
def outZ (X : Blocks F) : Vec F S1x2x512x256 .bf16 :=
  View.canon [⟨r78, k0_pay189 (h1 X) (View.ld X.x19 r40)⟩,
    ⟨r39, k0_pay70 (h0 X) (View.ld X.x19 r40)⟩]
def outR (X : Blocks F) : Vec F S1x2x512x256 .bf16 :=
  View.canon [⟨r95, k0_pay1 (k0_pay248 (qc1 X) (qd1 X) (View.ld X.x24 r79) (View.ld X.x25 r79))⟩,
    ⟨r94, k0_pay247 (qc1 X) (qd1 X) (View.ld X.x24 r79) (View.ld X.x25 r79)⟩,
    ⟨r93, k0_pay241 (qi1 X) (View.ld X.x24 r79) (View.ld X.x25 r79)⟩,
    ⟨r92, k0_pay240 (qi1 X) (View.ld X.x24 r79) (View.ld X.x25 r79)⟩,
    ⟨r91, k0_pay234 (k0_pay228 (qi1 X)) (k0_pay229 (qi1 X)) (k0_pay230 (View.ld X.x24 r79)) (k0_pay231 (View.ld X.x25 r79))⟩,
    ⟨r90, k0_pay233 (k0_pay232 (qi1 X) (View.ld X.x24 r79) (View.ld X.x25 r79))⟩,
    ⟨r89, k0_pay226 (qi1 X) (View.ld X.x24 r79) (View.ld X.x25 r79)⟩,
    ⟨r88, k0_pay225 (qi1 X) (View.ld X.x24 r79) (View.ld X.x25 r79)⟩,
    ⟨r87, k0_pay219 (k0_pay214 (qi1 X)) (k0_pay215 (View.ld X.x24 r79)) (k0_pay218 (qi1 X) (View.ld X.x25 r79))⟩,
    ⟨r86, k0_pay217 (qi1 X) (View.ld X.x24 r79) (View.ld X.x25 r79)⟩,
    ⟨r85, k0_pay211 (qi1 X) (View.ld X.x24 r79) (View.ld X.x25 r79)⟩,
    ⟨r84, k0_pay210 (qi1 X) (View.ld X.x24 r79) (View.ld X.x25 r79)⟩,
    ⟨r83, k0_pay204 (qi1 X) (View.ld X.x24 r79) (View.ld X.x25 r79)⟩,
    ⟨r82, k0_pay203 (qi1 X) (View.ld X.x24 r79) (View.ld X.x25 r79)⟩,
    ⟨r81, k0_pay197 (qa1 X) (qb1 X) (ca1 X) (View.ld X.x25 r79)⟩,
    ⟨r80, k0_pay196 (qa1 X) (qb1 X) (ca1 X) (View.ld X.x25 r79)⟩,
    ⟨r58, k0_pay129 (qc0 X) (qd0 X) (View.ld X.x24 r42) (View.ld X.x25 r42)⟩,
    ⟨r57, k0_pay128 (qc0 X) (qd0 X) (View.ld X.x24 r42) (View.ld X.x25 r42)⟩,
    ⟨r56, k0_pay122 (qi0 X) (View.ld X.x24 r42) (View.ld X.x25 r42)⟩,
    ⟨r55, k0_pay121 (qi0 X) (View.ld X.x24 r42) (View.ld X.x25 r42)⟩,
    ⟨r54, k0_pay115 (k0_pay109 (qi0 X)) (k0_pay110 (qi0 X)) (k0_pay111 (View.ld X.x24 r42)) (k0_pay112 (View.ld X.x25 r42))⟩,
    ⟨r53, k0_pay114 (k0_pay113 (qi0 X) (View.ld X.x24 r42) (View.ld X.x25 r42))⟩,
    ⟨r52, k0_pay107 (qi0 X) (View.ld X.x24 r42) (View.ld X.x25 r42)⟩,
    ⟨r51, k0_pay106 (qi0 X) (View.ld X.x24 r42) (View.ld X.x25 r42)⟩,
    ⟨r50, k0_pay100 (k0_pay95 (qi0 X)) (k0_pay96 (View.ld X.x24 r42)) (k0_pay99 (qi0 X) (View.ld X.x25 r42))⟩,
    ⟨r49, k0_pay98 (qi0 X) (View.ld X.x24 r42) (View.ld X.x25 r42)⟩,
    ⟨r48, k0_pay92 (qi0 X) (View.ld X.x24 r42) (View.ld X.x25 r42)⟩,
    ⟨r47, k0_pay91 (qi0 X) (View.ld X.x24 r42) (View.ld X.x25 r42)⟩,
    ⟨r46, k0_pay85 (qi0 X) (View.ld X.x24 r42) (View.ld X.x25 r42)⟩,
    ⟨r45, k0_pay84 (qi0 X) (View.ld X.x24 r42) (View.ld X.x25 r42)⟩,
    ⟨r44, k0_pay78 (qa0 X) (qb0 X) (ca0 X) (View.ld X.x25 r42)⟩,
    ⟨r43, k0_pay77 (qa0 X) (qb0 X) (ca0 X) (View.ld X.x25 r42)⟩]
def outW (X : Blocks F) : Vec F S1x2x16x256 .f32 :=
  View.canon [⟨r96, k0_pay2 (h1 X) (View.ld X.x20 r59)⟩,
    ⟨r60, k0_pay130 (h0 X) (View.ld X.x20 r59)⟩]

/-! The stores into a buffer fill it. -/

theorem fill_outX (p0 p1 : Vec F S256x1024 .f32) (y : S512x1024.Idx) :
    ∃ pc ∈ ([⟨r61, p0⟩, ⟨r4, p1⟩] : List (View.Piece (Elt F) S512x1024 .f32)), y ∈ pc.1.set :=
  View.cover_of_tiled [⟨r61, p0⟩, ⟨r4, p1⟩] S256x1024.size (by rfl) y
theorem fill_outM (p0 p1 : Vec F S256x1024 .bf16) (y : S512x1024.Idx) :
    ∃ pc ∈ ([⟨r61, p0⟩, ⟨r4, p1⟩] : List (View.Piece (Elt F) S512x1024 .bf16)), y ∈ pc.1.set :=
  View.cover_of_tiled [⟨r61, p0⟩, ⟨r4, p1⟩] S256x1024.size (by rfl) y
theorem fill_outS (p0 p1 : Vec F S256x1024 .bf16) (y : S512x1024.Idx) :
    ∃ pc ∈ ([⟨r61, p0⟩, ⟨r4, p1⟩] : List (View.Piece (Elt F) S512x1024 .bf16)), y ∈ pc.1.set :=
  View.cover_of_tiled [⟨r61, p0⟩, ⟨r4, p1⟩] S256x1024.size (by rfl) y
theorem fill_outK (p0 p1 p2 p3 p4 p5 p6 p7 : Vec F S256x128 .bf16) (y : S512x512.Idx) :
    ∃ pc ∈ ([⟨r67, p0⟩, ⟨r66, p1⟩, ⟨r65, p2⟩, ⟨r64, p3⟩, ⟨r24, p4⟩, ⟨r23, p5⟩, ⟨r22, p6⟩, ⟨r21, p7⟩] : List (View.Piece (Elt F) S512x512 .bf16)), y ∈ pc.1.set :=
  View.cover_of_tiled [⟨r67, p0⟩, ⟨r66, p1⟩, ⟨r65, p2⟩, ⟨r64, p3⟩, ⟨r24, p4⟩, ⟨r23, p5⟩, ⟨r22, p6⟩, ⟨r21, p7⟩] S256x128.size (by rfl) y
theorem fill_outI (p0 p1 : Vec F S256x64 .bf16) (y : S512x64.Idx) :
    ∃ pc ∈ ([⟨r68, p0⟩, ⟨r26, p1⟩] : List (View.Piece (Elt F) S512x64 .bf16)), y ∈ pc.1.set :=
  View.cover_of_tiled [⟨r68, p0⟩, ⟨r26, p1⟩] S256x64.size (by rfl) y
theorem fill_outQ (p0 p1 p2 p3 p4 p5 p6 p7 p8 p9 p10 p11 p12 p13 p14 p15 : Vec F S1x1x64x256 .bf16) (y : S1x2x512x256.Idx) :
    ∃ pc ∈ ([⟨r77, p0⟩, ⟨r76, p1⟩, ⟨r75, p2⟩, ⟨r74, p3⟩, ⟨r73, p4⟩, ⟨r72, p5⟩, ⟨r71, p6⟩, ⟨r70, p7⟩, ⟨r37, p8⟩, ⟨r36, p9⟩, ⟨r35, p10⟩, ⟨r34, p11⟩, ⟨r33, p12⟩, ⟨r32, p13⟩, ⟨r31, p14⟩, ⟨r30, p15⟩] : List (View.Piece (Elt F) S1x2x512x256 .bf16)), y ∈ pc.1.set :=
  View.cover_of_tiled [⟨r77, p0⟩, ⟨r76, p1⟩, ⟨r75, p2⟩, ⟨r74, p3⟩, ⟨r73, p4⟩, ⟨r72, p5⟩, ⟨r71, p6⟩, ⟨r70, p7⟩, ⟨r37, p8⟩, ⟨r36, p9⟩, ⟨r35, p10⟩, ⟨r34, p11⟩, ⟨r33, p12⟩, ⟨r32, p13⟩, ⟨r31, p14⟩, ⟨r30, p15⟩] S1x1x64x256.size (by rfl) y
theorem fill_outV (p0 p1 : Vec F S1x1x512x256 .bf16) (y : S1x2x512x256.Idx) :
    ∃ pc ∈ ([⟨r78, p0⟩, ⟨r39, p1⟩] : List (View.Piece (Elt F) S1x2x512x256 .bf16)), y ∈ pc.1.set :=
  View.cover_of_tiled [⟨r78, p0⟩, ⟨r39, p1⟩] S1x1x512x256.size (by rfl) y
theorem fill_outZ (p0 p1 : Vec F S1x1x512x256 .bf16) (y : S1x2x512x256.Idx) :
    ∃ pc ∈ ([⟨r78, p0⟩, ⟨r39, p1⟩] : List (View.Piece (Elt F) S1x2x512x256 .bf16)), y ∈ pc.1.set :=
  View.cover_of_tiled [⟨r78, p0⟩, ⟨r39, p1⟩] S1x1x512x256.size (by rfl) y
theorem fill_outR (p0 p1 p2 p3 p4 p5 p6 p7 p8 p9 p10 p11 p12 p13 p14 p15 p16 p17 p18 p19 p20 p21 p22 p23 p24 p25 p26 p27 p28 p29 p30 p31 : Vec F S1x1x32x256 .bf16) (y : S1x2x512x256.Idx) :
    ∃ pc ∈ ([⟨r95, p0⟩, ⟨r94, p1⟩, ⟨r93, p2⟩, ⟨r92, p3⟩, ⟨r91, p4⟩, ⟨r90, p5⟩, ⟨r89, p6⟩, ⟨r88, p7⟩, ⟨r87, p8⟩, ⟨r86, p9⟩, ⟨r85, p10⟩, ⟨r84, p11⟩, ⟨r83, p12⟩, ⟨r82, p13⟩, ⟨r81, p14⟩, ⟨r80, p15⟩, ⟨r58, p16⟩, ⟨r57, p17⟩, ⟨r56, p18⟩, ⟨r55, p19⟩, ⟨r54, p20⟩, ⟨r53, p21⟩, ⟨r52, p22⟩, ⟨r51, p23⟩, ⟨r50, p24⟩, ⟨r49, p25⟩, ⟨r48, p26⟩, ⟨r47, p27⟩, ⟨r46, p28⟩, ⟨r45, p29⟩, ⟨r44, p30⟩, ⟨r43, p31⟩] : List (View.Piece (Elt F) S1x2x512x256 .bf16)), y ∈ pc.1.set :=
  View.cover_of_tiled [⟨r95, p0⟩, ⟨r94, p1⟩, ⟨r93, p2⟩, ⟨r92, p3⟩, ⟨r91, p4⟩, ⟨r90, p5⟩, ⟨r89, p6⟩, ⟨r88, p7⟩, ⟨r87, p8⟩, ⟨r86, p9⟩, ⟨r85, p10⟩, ⟨r84, p11⟩, ⟨r83, p12⟩, ⟨r82, p13⟩, ⟨r81, p14⟩, ⟨r80, p15⟩, ⟨r58, p16⟩, ⟨r57, p17⟩, ⟨r56, p18⟩, ⟨r55, p19⟩, ⟨r54, p20⟩, ⟨r53, p21⟩, ⟨r52, p22⟩, ⟨r51, p23⟩, ⟨r50, p24⟩, ⟨r49, p25⟩, ⟨r48, p26⟩, ⟨r47, p27⟩, ⟨r46, p28⟩, ⟨r45, p29⟩, ⟨r44, p30⟩, ⟨r43, p31⟩] S1x1x32x256.size (by rfl) y
theorem fill_outW (p0 p1 : Vec F S1x1x16x256 .f32) (y : S1x2x16x256.Idx) :
    ∃ pc ∈ ([⟨r96, p0⟩, ⟨r60, p1⟩] : List (View.Piece (Elt F) S1x2x16x256 .f32)), y ∈ pc.1.set :=
  View.cover_of_tiled [⟨r96, p0⟩, ⟨r60, p1⟩] S1x1x16x256.size (by rfl) y

end Cert.Proof.Proj

end
-- ==== Proof.Proj.Reads.lean ====
/- The input blocks of a point of the grid, each number named by the reference's; and what the body's loads of them read. -/
module

public import proofs.«01_k».proof.Proof.Proj.RefAt
public import proofs.«01_k».proof.Proof.Proj.Body
public import Idealize.ShloMosaic.Lib.Pipeline.ValueKit.Tiles

@[expose] public section

set_option maxRecDepth 16384

noncomputable section

namespace Cert.Proof.Proj

open Cert.Kernel3Ideal Cert.Kernel3Ideal.Gen Idealize.ShloMosaic

/-- Position `r` of the 512 that point `n` of a sequence holds. -/
def pos (n : Fin 8) (r : Fin 512) : Fin 4096 := ⟨n.val * 512 + r.val, by omega⟩

/-- The column of the projection's weight that row `i` of the keys', gates' and branch A's weight is. -/
def col7 (i : ℕ) : ℕ := if i < 1536 then i else if i < 2048 then 512 + i else if i < 2176 then 4096 + (i - 2048) % 64 else 1992 + i

/-- And that row `i` of the queries', values' and indexer's is. -/
def col19 (i : ℕ) : ℕ := if i < 512 then 1536 + i else 2048 + i

/-- The input blocks `X` of the point that holds the positions `pos n` of batch `b`. -/
structure Reads (A : Args) (X : Blocks Ideal) (b : Fin 4) (n : Fin 8) : Prop where
  x0 : ∀ (r : Fin 512) (j : Fin 1024), X.x0 (ix2 r j) = A.a0 (ix3 b (pos n r) j)
  x1 : ∀ (r : Fin 512) (j : Fin 512), X.x1 (ix2 r j) = A.a1 (ix3 b (pos n r) j)
  x2 : ∀ (r : Fin 512) (j : Fin 1024), X.x2 (ix2 r j) = A.a2 (ix3 b (pos n r) j)
  x3 : ∀ (r : Fin 512) (j : Fin 1024), X.x3 (ix2 r j) = A.a3 (ix3 b (pos n r) j)
  x4 : ∀ (k : Fin 512) (j : Fin 1024), X.x4 (ix3 0 k j) = A.a14 (ix3 0 k j)
  x5 : ∀ (k : Fin 1024) (j : Fin 1024), X.x5 (ix3 0 k j) = A.a15 (ix3 0 k j)
  x6 : ∀ (j : Fin 1024), X.x6 (ix3 0 0 j) = A.a4 (ix2 1 j)
  x7 : ∀ (i : Fin 4224) (x : Fin 1024), X.x7 (ix3 0 i x) = wcol A x (col7 i)
  x8 : ∀ (i : Fin 2) (j : Fin 1024), X.x8 (ix3 0 i j) = A.a6 (ix3 1 i j)
  x9 : ∀ (j : Fin 512), X.x9 (ix3 0 0 j) = A.a7 (ix2 1 j)
  x10 : ∀ (j : Fin 512), X.x10 (ix3 0 0 j) = A.a8 (ix2 1 j)
  x11 : ∀ (g : Fin 4) (i x : Fin 128), X.x11 (ix4 0 g i x) = A.a9 (ix4 1 g i x)
  x12 : ∀ (i : Fin 128) (j : Fin 512), X.x12 (ix3 0 i j) = A.a10 (ix3 1 ⟨j.val / 128, by omega⟩ i)
  x13 : ∀ (j : Fin 128), X.x13 (ix3 0 0 j) = gk A j
  x14 : ∀ (k : Fin 512) (j : Fin 1024), X.x14 (ix3 0 k j) = A.a13 (ix3 1 k j)
  x15 : ∀ (r : Fin 512) (j : Fin 128), X.x15 (ix2 r j) = if j.val < 64 then cq (pos n r) j.val else cq (pos n r) (j.val - 64)
  x16 : ∀ (r : Fin 512) (j : Fin 128), X.x16 (ix2 r j) = if j.val < 64 then -sq (pos n r) j.val else sq (pos n r) (j.val - 64)
  x17 : ∀ (r : Fin 512) (j : Fin 128), j.val < 64 → X.x17 (ix2 r j) = if j.val < 32 then ci (pos n r) j.val else ci (pos n r) (j.val - 32)
  x18 : ∀ (r : Fin 512) (j : Fin 128), j.val < 64 → X.x18 (ix2 r j) = if j.val < 32 then -si (pos n r) j.val else si (pos n r) (j.val - 32)
  x19 : ∀ (i : Fin 2048) (x : Fin 1024), X.x19 (ix3 0 i x) = wcol A x (col19 i)
  x20 : ∀ (i : Fin 16) (x : Fin 1024), X.x20 (ix3 0 i x) = if i.val < 8 then wcol A x (4160 + i) else 0
  x21 : ∀ (j : Fin 128), X.x21 (ix3 0 j 0) = gq A j
  x22 : ∀ (j : Fin 64) (r : Fin 512), X.x22 (ix2 j r) = cq (pos n r) j
  x23 : ∀ (j : Fin 64) (r : Fin 512), X.x23 (ix2 j r) = sq (pos n r) j
  x24 : ∀ (j : Fin 32) (r : Fin 512), X.x24 (ix2 j r) = ci (pos n r) j
  x25 : ∀ (j : Fin 32) (r : Fin 512), X.x25 (ix2 j r) = si (pos n r) j

/-- A load through a rectangle of unit stride, at an index of two places. -/
theorem ld2 {e : EltTy} {n0 n1 k0 k1 : ℕ} (X : (⟨2, ![n0, n1]⟩ : Shape).Idx → Elt Ideal e) (o0 o1 : ℕ) (inb) (i : Fin k0) (j : Fin k1)
    (hi : o0 + i.val < n0) (hj : o1 + j.val < n1) :
    View.ld X (Rect.unit (s := ⟨2, ![n0, n1]⟩) ![o0, o1] ![k0, k1] inb) (ix2 i j) = X (ix2 ⟨o0 + i.val, hi⟩ ⟨o1 + j.val, hj⟩) :=
  View.ld_unit_apply_of _ _ _ _ _ _ fun a => by
    match a with
    | ⟨0, _⟩ => rfl
    | ⟨1, _⟩ => rfl

/-- Of three. -/
theorem ld3 {e : EltTy} {n0 n1 n2 k0 k1 k2 : ℕ} (X : (⟨3, ![n0, n1, n2]⟩ : Shape).Idx → Elt Ideal e) (o0 o1 o2 : ℕ) (inb) (i : Fin k0) (j : Fin k1)
    (k : Fin k2) (hi : o0 + i.val < n0) (hj : o1 + j.val < n1) (hk : o2 + k.val < n2) :
    View.ld X (Rect.unit (s := ⟨3, ![n0, n1, n2]⟩) ![o0, o1, o2] ![k0, k1, k2] inb) (ix3 i j k)
      = X (ix3 ⟨o0 + i.val, hi⟩ ⟨o1 + j.val, hj⟩ ⟨o2 + k.val, hk⟩) :=
  View.ld_unit_apply_of _ _ _ _ _ _ fun a => by
    match a with
    | ⟨0, _⟩ => rfl
    | ⟨1, _⟩ => rfl
    | ⟨2, _⟩ => rfl

/-- Of four. -/
theorem ld4 {e : EltTy} {n0 n1 n2 n3 k0 k1 k2 k3 : ℕ} (X : (⟨4, ![n0, n1, n2, n3]⟩ : Shape).Idx → Elt Ideal e) (o0 o1 o2 o3 : ℕ) (inb) (i : Fin k0)
    (j : Fin k1) (k : Fin k2) (l : Fin k3) (hi : o0 + i.val < n0) (hj : o1 + j.val < n1) (hk : o2 + k.val < n2) (hl : o3 + l.val < n3) :
    View.ld X (Rect.unit (s := ⟨4, ![n0, n1, n2, n3]⟩) ![o0, o1, o2, o3] ![k0, k1, k2, k3] inb) (ix4 i j k l)
      = X (ix4 ⟨o0 + i.val, hi⟩ ⟨o1 + j.val, hj⟩ ⟨o2 + k.val, hk⟩ ⟨o3 + l.val, hl⟩) :=
  View.ld_unit_apply_of _ _ _ _ _ _ fun a => by
    match a with
    | ⟨0, _⟩ => rfl
    | ⟨1, _⟩ => rfl
    | ⟨2, _⟩ => rfl
    | ⟨3, _⟩ => rfl

/-! The positions of the first and of the second 256 rows. -/

def s0 (n : Fin 8) (r : Fin 256) : Fin 4096 := pos n ⟨r.val, by omega⟩
def s1 (n : Fin 8) (r : Fin 256) : Fin 4096 := pos n ⟨256 + r.val, by omega⟩

section Loads
variable {A : Args} {X : Blocks Ideal} {b : Fin 4} {n : Fin 8} (hX : Reads A X b n)
include hX

theorem lx0_0 (r : Fin 256) (j : Fin 1024) : View.ld X.x0 r4 (ix2 r j) = A.a0 (ix3 b (s0 n r) j) := by
  refine (ld2 _ 0 0 _ r j (by omega) (by omega)).trans ?_
  simp only [Nat.zero_add]
  exact hX.x0 ⟨r.val, by omega⟩ j

theorem lx1_0 (r : Fin 256) (j : Fin 512) : View.ld X.x1 r5 (ix2 r j) = A.a1 (ix3 b (s0 n r) j) := by
  refine (ld2 _ 0 0 _ r j (by omega) (by omega)).trans ?_
  simp only [Nat.zero_add]
  exact hX.x1 ⟨r.val, by omega⟩ j

theorem lx2_0 (r : Fin 256) (j : Fin 1024) : View.ld X.x2 r4 (ix2 r j) = A.a2 (ix3 b (s0 n r) j) := by
  refine (ld2 _ 0 0 _ r j (by omega) (by omega)).trans ?_
  simp only [Nat.zero_add]
  exact hX.x2 ⟨r.val, by omega⟩ j

theorem lx3_0 (r : Fin 256) (j : Fin 1024) : View.ld X.x3 r4 (ix2 r j) = A.a3 (ix3 b (s0 n r) j) := by
  refine (ld2 _ 0 0 _ r j (by omega) (by omega)).trans ?_
  simp only [Nat.zero_add]
  exact hX.x3 ⟨r.val, by omega⟩ j

theorem lx15_0 (r : Fin 256) (j : Fin 128) : View.ld X.x15 r20 (ix2 r j) = if j.val < 64 then cq (s0 n r) j.val else cq (s0 n r) (j.val - 64) := by
  refine (ld2 _ 0 0 _ r j (by omega) (by omega)).trans ?_
  simp only [Nat.zero_add]
  exact hX.x15 ⟨r.val, by omega⟩ j

theorem lx16_0 (r : Fin 256) (j : Fin 128) : View.ld X.x16 r20 (ix2 r j) = if j.val < 64 then -sq (s0 n r) j.val else sq (s0 n r) (j.val - 64) := by
  refine (ld2 _ 0 0 _ r j (by omega) (by omega)).trans ?_
  simp only [Nat.zero_add]
  exact hX.x16 ⟨r.val, by omega⟩ j

theorem lx17_0 (r : Fin 256) (j : Fin 128) (hj : j.val < 64) : View.ld X.x17 r20 (ix2 r j) = if j.val < 32 then ci (s0 n r) j.val else ci (s0 n r) (j.val - 32) := by
  refine (ld2 _ 0 0 _ r j (by omega) (by omega)).trans ?_
  simp only [Nat.zero_add]
  exact hX.x17 ⟨r.val, by omega⟩ j hj

theorem lx18_0 (r : Fin 256) (j : Fin 128) (hj : j.val < 64) : View.ld X.x18 r20 (ix2 r j) = if j.val < 32 then -si (s0 n r) j.val else si (s0 n r) (j.val - 32) := by
  refine (ld2 _ 0 0 _ r j (by omega) (by omega)).trans ?_
  simp only [Nat.zero_add]
  exact hX.x18 ⟨r.val, by omega⟩ j hj

theorem lx22_0 (j : Fin 64) (r : Fin 256) : View.ld X.x22 r29 (ix2 j r) = cq (s0 n r) j.val := by
  refine (ld2 _ 0 0 _ j r (by omega) (by omega)).trans ?_
  simp only [Nat.zero_add]
  exact hX.x22 j ⟨r.val, by omega⟩

theorem lx23_0 (j : Fin 64) (r : Fin 256) : View.ld X.x23 r29 (ix2 j r) = sq (s0 n r) j.val := by
  refine (ld2 _ 0 0 _ j r (by omega) (by omega)).trans ?_
  simp only [Nat.zero_add]
  exact hX.x23 j ⟨r.val, by omega⟩

theorem lx24_0 (j : Fin 32) (r : Fin 256) : View.ld X.x24 r42 (ix2 j r) = ci (s0 n r) j.val := by
  refine (ld2 _ 0 0 _ j r (by omega) (by omega)).trans ?_
  simp only [Nat.zero_add]
  exact hX.x24 j ⟨r.val, by omega⟩

theorem lx25_0 (j : Fin 32) (r : Fin 256) : View.ld X.x25 r42 (ix2 j r) = si (s0 n r) j.val := by
  refine (ld2 _ 0 0 _ j r (by omega) (by omega)).trans ?_
  simp only [Nat.zero_add]
  exact hX.x25 j ⟨r.val, by omega⟩

theorem lx0_1 (r : Fin 256) (j : Fin 1024) : View.ld X.x0 r61 (ix2 r j) = A.a0 (ix3 b (s1 n r) j) := by
  refine (ld2 _ 256 0 _ r j (by omega) (by omega)).trans ?_
  simp only [Nat.zero_add]
  exact hX.x0 ⟨256 + r.val, by omega⟩ j

theorem lx1_1 (r : Fin 256) (j : Fin 512) : View.ld X.x1 r62 (ix2 r j) = A.a1 (ix3 b (s1 n r) j) := by
  refine (ld2 _ 256 0 _ r j (by omega) (by omega)).trans ?_
  simp only [Nat.zero_add]
  exact hX.x1 ⟨256 + r.val, by omega⟩ j

theorem lx2_1 (r : Fin 256) (j : Fin 1024) : View.ld X.x2 r61 (ix2 r j) = A.a2 (ix3 b (s1 n r) j) := by
  refine (ld2 _ 256 0 _ r j (by omega) (by omega)).trans ?_
  simp only [Nat.zero_add]
  exact hX.x2 ⟨256 + r.val, by omega⟩ j

theorem lx3_1 (r : Fin 256) (j : Fin 1024) : View.ld X.x3 r61 (ix2 r j) = A.a3 (ix3 b (s1 n r) j) := by
  refine (ld2 _ 256 0 _ r j (by omega) (by omega)).trans ?_
  simp only [Nat.zero_add]
  exact hX.x3 ⟨256 + r.val, by omega⟩ j

theorem lx15_1 (r : Fin 256) (j : Fin 128) : View.ld X.x15 r63 (ix2 r j) = if j.val < 64 then cq (s1 n r) j.val else cq (s1 n r) (j.val - 64) := by
  refine (ld2 _ 256 0 _ r j (by omega) (by omega)).trans ?_
  simp only [Nat.zero_add]
  exact hX.x15 ⟨256 + r.val, by omega⟩ j

theorem lx16_1 (r : Fin 256) (j : Fin 128) : View.ld X.x16 r63 (ix2 r j) = if j.val < 64 then -sq (s1 n r) j.val else sq (s1 n r) (j.val - 64) := by
  refine (ld2 _ 256 0 _ r j (by omega) (by omega)).trans ?_
  simp only [Nat.zero_add]
  exact hX.x16 ⟨256 + r.val, by omega⟩ j

theorem lx17_1 (r : Fin 256) (j : Fin 128) (hj : j.val < 64) : View.ld X.x17 r63 (ix2 r j) = if j.val < 32 then ci (s1 n r) j.val else ci (s1 n r) (j.val - 32) := by
  refine (ld2 _ 256 0 _ r j (by omega) (by omega)).trans ?_
  simp only [Nat.zero_add]
  exact hX.x17 ⟨256 + r.val, by omega⟩ j hj

theorem lx18_1 (r : Fin 256) (j : Fin 128) (hj : j.val < 64) : View.ld X.x18 r63 (ix2 r j) = if j.val < 32 then -si (s1 n r) j.val else si (s1 n r) (j.val - 32) := by
  refine (ld2 _ 256 0 _ r j (by omega) (by omega)).trans ?_
  simp only [Nat.zero_add]
  exact hX.x18 ⟨256 + r.val, by omega⟩ j hj

theorem lx22_1 (j : Fin 64) (r : Fin 256) : View.ld X.x22 r69 (ix2 j r) = cq (s1 n r) j.val := by
  refine (ld2 _ 0 256 _ j r (by omega) (by omega)).trans ?_
  simp only [Nat.zero_add]
  exact hX.x22 j ⟨256 + r.val, by omega⟩

theorem lx23_1 (j : Fin 64) (r : Fin 256) : View.ld X.x23 r69 (ix2 j r) = sq (s1 n r) j.val := by
  refine (ld2 _ 0 256 _ j r (by omega) (by omega)).trans ?_
  simp only [Nat.zero_add]
  exact hX.x23 j ⟨256 + r.val, by omega⟩

theorem lx24_1 (j : Fin 32) (r : Fin 256) : View.ld X.x24 r79 (ix2 j r) = ci (s1 n r) j.val := by
  refine (ld2 _ 0 256 _ j r (by omega) (by omega)).trans ?_
  simp only [Nat.zero_add]
  exact hX.x24 j ⟨256 + r.val, by omega⟩

theorem lx25_1 (j : Fin 32) (r : Fin 256) : View.ld X.x25 r79 (ix2 j r) = si (s1 n r) j.val := by
  refine (ld2 _ 0 256 _ j r (by omega) (by omega)).trans ?_
  simp only [Nat.zero_add]
  exact hX.x25 j ⟨256 + r.val, by omega⟩

theorem lx4 (k : Fin 512) (j : Fin 1024) : View.ld X.x4 r6 (ix3 0 k j) = A.a14 (ix3 0 k j) := by
  refine (ld3 _ 0 0 0 _ 0 k j (by omega) (by omega) (by omega)).trans ?_
  simp only [Nat.zero_add]
  exact hX.x4 k j

theorem lx5 (k : Fin 1024) (j : Fin 1024) : View.ld X.x5 r7 (ix3 0 k j) = A.a15 (ix3 0 k j) := by
  refine (ld3 _ 0 0 0 _ 0 k j (by omega) (by omega) (by omega)).trans ?_
  simp only [Nat.zero_add]
  exact hX.x5 k j

theorem lx14 (k : Fin 512) (j : Fin 1024) : View.ld X.x14 r6 (ix3 0 k j) = A.a13 (ix3 1 k j) := by
  refine (ld3 _ 0 0 0 _ 0 k j (by omega) (by omega) (by omega)).trans ?_
  simp only [Nat.zero_add]
  exact hX.x14 k j

theorem lx6 (j : Fin 1024) : View.ld X.x6 r8 (ix3 0 0 j) = A.a4 (ix2 1 j) := by
  refine (ld3 _ 0 0 0 _ 0 0 j (by omega) (by omega) (by omega)).trans ?_
  simp only [Nat.zero_add]
  exact hX.x6 j

theorem lx9 (j : Fin 512) : View.ld X.x9 r10 (ix3 0 0 j) = A.a7 (ix2 1 j) := by
  refine (ld3 _ 0 0 0 _ 0 0 j (by omega) (by omega) (by omega)).trans ?_
  simp only [Nat.zero_add]
  exact hX.x9 j

theorem lx10 (j : Fin 512) : View.ld X.x10 r10 (ix3 0 0 j) = A.a8 (ix2 1 j) := by
  refine (ld3 _ 0 0 0 _ 0 0 j (by omega) (by omega) (by omega)).trans ?_
  simp only [Nat.zero_add]
  exact hX.x10 j

theorem lx13 (j : Fin 128) : View.ld X.x13 r19 (ix3 0 0 j) = gk A j := by
  refine (ld3 _ 0 0 0 _ 0 0 j (by omega) (by omega) (by omega)).trans ?_
  simp only [Nat.zero_add]
  exact hX.x13 j

theorem lx21 (j : Fin 128) : View.ld X.x21 r28 (ix3 0 j 0) = gq A j := by
  refine (ld3 _ 0 0 0 _ 0 j 0 (by omega) (by omega) (by omega)).trans ?_
  simp only [Nat.zero_add]
  exact hX.x21 j

theorem lx8_0 (j : Fin 1024) : View.ld X.x8 r15 (ix3 0 0 j) = A.a6 (ix3 1 0 j) := by
  refine (ld3 _ 0 0 0 _ 0 0 j (by omega) (by omega) (by omega)).trans ?_
  simp only [Nat.zero_add]
  exact hX.x8 0 j

theorem lx8_1 (j : Fin 1024) : View.ld X.x8 r17 (ix3 0 0 j) = A.a6 (ix3 1 1 j) := by
  refine (ld3 _ 0 1 0 _ 0 0 j (by omega) (by omega) (by omega)).trans ?_
  simp only [Nat.zero_add]
  exact hX.x8 1 j

theorem lx12 (i : Fin 128) (j : Fin 512) : View.ld X.x12 r11 (ix3 0 i j) = A.a10 (ix3 1 ⟨j.val / 128, by omega⟩ i) := by
  refine (ld3 _ 0 0 0 _ 0 i j (by omega) (by omega) (by omega)).trans ?_
  simp only [Nat.zero_add]
  exact hX.x12 i j

theorem lx11_0 (i x : Fin 128) : View.ld X.x11 r0 (ix4 0 0 i x) = A.a9 (ix4 1 0 i x) := by
  refine (ld4 _ 0 0 0 0 _ 0 0 i x (by omega) (by omega) (by omega) (by omega)).trans ?_
  simp only [Nat.zero_add]
  exact hX.x11 0 i x

theorem lx11_1 (i x : Fin 128) : View.ld X.x11 r1 (ix4 0 0 i x) = A.a9 (ix4 1 1 i x) := by
  refine (ld4 _ 0 1 0 0 _ 0 0 i x (by omega) (by omega) (by omega) (by omega)).trans ?_
  simp only [Nat.zero_add]
  exact hX.x11 1 i x

theorem lx11_2 (i x : Fin 128) : View.ld X.x11 r2 (ix4 0 0 i x) = A.a9 (ix4 1 2 i x) := by
  refine (ld4 _ 0 2 0 0 _ 0 0 i x (by omega) (by omega) (by omega) (by omega)).trans ?_
  simp only [Nat.zero_add]
  exact hX.x11 2 i x

theorem lx11_3 (i x : Fin 128) : View.ld X.x11 r3 (ix4 0 0 i x) = A.a9 (ix4 1 3 i x) := by
  refine (ld4 _ 0 3 0 0 _ 0 0 i x (by omega) (by omega) (by omega) (by omega)).trans ?_
  simp only [Nat.zero_add]
  exact hX.x11 3 i x

theorem lx20 (i : Fin 16) (x : Fin 1024) : View.ld X.x20 r59 (ix3 0 i x) = if i.val < 8 then wcol A x (4160 + i) else 0 := by
  refine (ld3 _ 0 0 0 _ 0 i x (by omega) (by omega) (by omega)).trans ?_
  simp only [Nat.zero_add]
  exact hX.x20 i x

theorem wAV (i : Fin 512) (x : Fin 1024) : View.ld X.x7 r9 (ix3 0 i x) = wcol A x (512 + i.val) := by
  refine (ld3 _ 0 512 0 _ 0 i x (by omega) (by omega) (by omega)).trans ?_
  simp only [Nat.zero_add]
  refine (hX.x7 ⟨512 + i.val, by omega⟩ x).trans (congrArg (wcol A x) ?_)
  have hi := i.isLt
  show col7 (512 + i.val) = _
  unfold col7
  split_ifs <;> omega

theorem wAU (i : Fin 512) (x : Fin 1024) : View.ld X.x7 r12 (ix3 0 i x) = wcol A x (i.val) := by
  refine (ld3 _ 0 0 0 _ 0 i x (by omega) (by omega) (by omega)).trans ?_
  simp only [Nat.zero_add]
  refine (hX.x7 ⟨i.val, by omega⟩ x).trans (congrArg (wcol A x) ?_)
  have hi := i.isLt
  show col7 (i.val) = _
  unfold col7
  split_ifs <;> omega

theorem wAZ (i : Fin 512) (x : Fin 1024) : View.ld X.x7 r13 (ix3 0 i x) = wcol A x (1024 + i.val) := by
  refine (ld3 _ 0 1024 0 _ 0 i x (by omega) (by omega) (by omega)).trans ?_
  simp only [Nat.zero_add]
  refine (hX.x7 ⟨1024 + i.val, by omega⟩ x).trans (congrArg (wcol A x) ?_)
  have hi := i.isLt
  show col7 (1024 + i.val) = _
  unfold col7
  split_ifs <;> omega

theorem wGA (i : Fin 1024) (x : Fin 1024) : View.ld X.x7 r14 (ix3 0 i x) = wcol A x (4168 + i.val) := by
  refine (ld3 _ 0 2176 0 _ 0 i x (by omega) (by omega) (by omega)).trans ?_
  simp only [Nat.zero_add]
  refine (hX.x7 ⟨2176 + i.val, by omega⟩ x).trans (congrArg (wcol A x) ?_)
  have hi := i.isLt
  show col7 (2176 + i.val) = _
  unfold col7
  split_ifs <;> omega

theorem wGB (i : Fin 1024) (x : Fin 1024) : View.ld X.x7 r16 (ix3 0 i x) = wcol A x (5192 + i.val) := by
  refine (ld3 _ 0 3200 0 _ 0 i x (by omega) (by omega) (by omega)).trans ?_
  simp only [Nat.zero_add]
  refine (hX.x7 ⟨3200 + i.val, by omega⟩ x).trans (congrArg (wcol A x) ?_)
  have hi := i.isLt
  show col7 (3200 + i.val) = _
  unfold col7
  split_ifs <;> omega

theorem wBK (i : Fin 512) (x : Fin 1024) : View.ld X.x7 r18 (ix3 0 i x) = wcol A x (2048 + i.val) := by
  refine (ld3 _ 0 1536 0 _ 0 i x (by omega) (by omega) (by omega)).trans ?_
  simp only [Nat.zero_add]
  refine (hX.x7 ⟨1536 + i.val, by omega⟩ x).trans (congrArg (wcol A x) ?_)
  have hi := i.isLt
  show col7 (1536 + i.val) = _
  unfold col7
  split_ifs <;> omega

theorem wIK (i : Fin 128) (x : Fin 1024) : View.ld X.x7 r25 (ix3 0 i x) = wcol A x (4096 + i.val % 64) := by
  refine (ld3 _ 0 2048 0 _ 0 i x (by omega) (by omega) (by omega)).trans ?_
  simp only [Nat.zero_add]
  refine (hX.x7 ⟨2048 + i.val, by omega⟩ x).trans (congrArg (wcol A x) ?_)
  have hi := i.isLt
  show col7 (2048 + i.val) = _
  unfold col7
  split_ifs <;> omega

theorem wBQ (i : Fin 512) (x : Fin 1024) : View.ld X.x19 r27 (ix3 0 i x) = wcol A x (1536 + i.val) := by
  refine (ld3 _ 0 0 0 _ 0 i x (by omega) (by omega) (by omega)).trans ?_
  simp only [Nat.zero_add]
  refine (hX.x19 ⟨i.val, by omega⟩ x).trans (congrArg (wcol A x) ?_)
  have hi := i.isLt
  show col19 (i.val) = _
  unfold col19
  split_ifs <;> omega

theorem wBV (i : Fin 512) (x : Fin 1024) : View.ld X.x19 r38 (ix3 0 i x) = wcol A x (2560 + i.val) := by
  refine (ld3 _ 0 512 0 _ 0 i x (by omega) (by omega) (by omega)).trans ?_
  simp only [Nat.zero_add]
  refine (hX.x19 ⟨512 + i.val, by omega⟩ x).trans (congrArg (wcol A x) ?_)
  have hi := i.isLt
  show col19 (512 + i.val) = _
  unfold col19
  split_ifs <;> omega

theorem wBZ (i : Fin 512) (x : Fin 1024) : View.ld X.x19 r40 (ix3 0 i x) = wcol A x (3072 + i.val) := by
  refine (ld3 _ 0 1024 0 _ 0 i x (by omega) (by omega) (by omega)).trans ?_
  simp only [Nat.zero_add]
  refine (hX.x19 ⟨1024 + i.val, by omega⟩ x).trans (congrArg (wcol A x) ?_)
  have hi := i.isLt
  show col19 (1024 + i.val) = _
  unfold col19
  split_ifs <;> omega

theorem wIQ (i : Fin 512) (x : Fin 1024) : View.ld X.x19 r41 (ix3 0 i x) = wcol A x (3584 + i.val) := by
  refine (ld3 _ 0 1536 0 _ 0 i x (by omega) (by omega) (by omega)).trans ?_
  simp only [Nat.zero_add]
  refine (hX.x19 ⟨1536 + i.val, by omega⟩ x).trans (congrArg (wcol A x) ?_)
  have hi := i.isLt
  show col19 (1536 + i.val) = _
  unfold col19
  split_ifs <;> omega

/-! Rows of the projection: of normalized rows `h` at the positions `s`. -/

section Projections
variable (h : FVec Ideal S256x1024 .bf16) (s : Fin 256 → Fin 4096) (hn : ∀ r k, h (ix2 r k) = Ref.normed A (ix3 b (s r) k))
include hn

theorem pAV (r : Fin 256) (i : Fin 512) : ∑ x : Fin 1024, h (ix2 r x) * View.ld X.x7 r9 (ix3 0 i x) = P A b (s r) (512 + i.val) := by
  rw [P]; exact Finset.sum_congr rfl fun x _ => by rw [hn, wAV hX]

theorem pAU (r : Fin 256) (i : Fin 512) : ∑ x : Fin 1024, h (ix2 r x) * View.ld X.x7 r12 (ix3 0 i x) = P A b (s r) (i.val) := by
  rw [P]; exact Finset.sum_congr rfl fun x _ => by rw [hn, wAU hX]

theorem pAZ (r : Fin 256) (i : Fin 512) : ∑ x : Fin 1024, h (ix2 r x) * View.ld X.x7 r13 (ix3 0 i x) = P A b (s r) (1024 + i.val) := by
  rw [P]; exact Finset.sum_congr rfl fun x _ => by rw [hn, wAZ hX]

theorem pGA (r : Fin 256) (i : Fin 1024) : ∑ x : Fin 1024, h (ix2 r x) * View.ld X.x7 r14 (ix3 0 i x) = P A b (s r) (4168 + i.val) := by
  rw [P]; exact Finset.sum_congr rfl fun x _ => by rw [hn, wGA hX]

theorem pGB (r : Fin 256) (i : Fin 1024) : ∑ x : Fin 1024, h (ix2 r x) * View.ld X.x7 r16 (ix3 0 i x) = P A b (s r) (5192 + i.val) := by
  rw [P]; exact Finset.sum_congr rfl fun x _ => by rw [hn, wGB hX]

theorem pBK (r : Fin 256) (i : Fin 512) : ∑ x : Fin 1024, h (ix2 r x) * View.ld X.x7 r18 (ix3 0 i x) = P A b (s r) (2048 + i.val) := by
  rw [P]; exact Finset.sum_congr rfl fun x _ => by rw [hn, wBK hX]

theorem pIK (r : Fin 256) (i : Fin 128) : ∑ x : Fin 1024, h (ix2 r x) * View.ld X.x7 r25 (ix3 0 i x) = P A b (s r) (4096 + i.val % 64) := by
  rw [P]; exact Finset.sum_congr rfl fun x _ => by rw [hn, wIK hX]

theorem pBQ (r : Fin 256) (i : Fin 512) : ∑ x : Fin 1024, h (ix2 r x) * View.ld X.x19 r27 (ix3 0 i x) = P A b (s r) (1536 + i.val) := by
  rw [P]; exact Finset.sum_congr rfl fun x _ => by rw [hn, wBQ hX]

theorem pBV (r : Fin 256) (i : Fin 512) : ∑ x : Fin 1024, h (ix2 r x) * View.ld X.x19 r38 (ix3 0 i x) = P A b (s r) (2560 + i.val) := by
  rw [P]; exact Finset.sum_congr rfl fun x _ => by rw [hn, wBV hX]

theorem pBZ (r : Fin 256) (i : Fin 512) : ∑ x : Fin 1024, h (ix2 r x) * View.ld X.x19 r40 (ix3 0 i x) = P A b (s r) (3072 + i.val) := by
  rw [P]; exact Finset.sum_congr rfl fun x _ => by rw [hn, wBZ hX]

theorem pIQ (r : Fin 256) (i : Fin 512) : ∑ x : Fin 1024, h (ix2 r x) * View.ld X.x19 r41 (ix3 0 i x) = P A b (s r) (3584 + i.val) := by
  rw [P]; exact Finset.sum_congr rfl fun x _ => by rw [hn, wIQ hX]

end Projections
end Loads

end Cert.Proof.Proj

end
-- ==== Proof.Proj.Inputs.lean ====
/- What the call that closes a layer and projects the next one finds in its input buffers at a point of its grid. Over any float values. -/
module

public import proofs.«01_k».proof.Proof.Proj.Body

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- What the core's buffers hold when the pipeline starts: the host has prepared the windows' arrays. -/
abbrev V (c : Dev nD) (b : Ref sig .tc) : Buf (Elt F) ((c : Thread nD τ).loc b) := StableHlo.after hostOps0 (fun b => m (c, b)) b

/-- A window's block at a point of the grid. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input blocks at a point. -/
def blocks (c : Dev nD) (t : Fin cfg0.N) : Blocks F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t⟩

end Cert.Proof.Proj

end
-- ==== Proof.Proj.Prep.lean ====
/- The arrays that the host prepares for the call that closes a layer and projects the next one, at an index, in the reference's terms. -/
module

public import proofs.«01_k».proof.Proof.Proj.Reads
public import proofs.«01_k».proof.Proof.Proj.Inputs
public import Idealize.ShloMosaic.Lib.Pointwise

@[expose] public section

set_option maxRecDepth 16384

noncomputable section

namespace Cert.Proof.Proj

open Cert.Kernel3Ideal Cert.Kernel3Ideal.Gen Idealize.ShloMosaic Idealize.ShloMosaic.TcCoe Idealize.SL

/-! Rearrangements of one array. -/

theorem rows32 (a : FVec Ideal S4x4096x1024 .f32) (r : Fin 16384) (j : Fin 1024) (hb : r.val / 4096 < 4) (hs : r.val % 4096 < 4096) :
    (shapeCast S16384x1024 a shapeCasts_S4x4096x1024_S16384x1024 : FVec Ideal S16384x1024 .f32) (ix2 r j) = a (ix3 ⟨r.val / 4096, hb⟩ ⟨r.val % 4096, hs⟩ j) := by
  pointwise

theorem rows16 (a : FVec Ideal S4x4096x1024 .bf16) (r : Fin 16384) (j : Fin 1024) (hb : r.val / 4096 < 4) (hs : r.val % 4096 < 4096) :
    (shapeCast S16384x1024 a shapeCasts_S4x4096x1024_S16384x1024 : FVec Ideal S16384x1024 .bf16) (ix2 r j) = a (ix3 ⟨r.val / 4096, hb⟩ ⟨r.val % 4096, hs⟩ j) := by
  pointwise

theorem rows16_512 (a : FVec Ideal S4x4096x512 .bf16) (r : Fin 16384) (j : Fin 512) (hb : r.val / 4096 < 4) (hs : r.val % 4096 < 4096) :
    (shapeCast S16384x512 a shapeCasts_S4x4096x512_S16384x512 : FVec Ideal S16384x512 .bf16) (ix2 r j) = a (ix3 ⟨r.val / 4096, hb⟩ ⟨r.val % 4096, hs⟩ j) := by
  pointwise

theorem row1024 (a : FVec Ideal S4x1024 .f32) (j : Fin 1024) : (shapeCast S4x1x1024 a shapeCasts_S4x1024_S4x1x1024 : FVec Ideal S4x1x1024 .f32) (ix3 1 0 j) = a (ix2 1 j) := by
  pointwise

theorem row512 (a : FVec Ideal S4x512 .f32) (j : Fin 512) : (shapeCast S4x1x512 a shapeCasts_S4x512_S4x1x512 : FVec Ideal S4x1x512 .f32) (ix3 1 0 j) = a (ix2 1 j) := by
  pointwise

theorem row128 (a : FVec Ideal S4x128 .f32) (j : Fin 128) : (shapeCast S4x1x128 a shapeCasts_S4x128_S4x1x128 : FVec Ideal S4x1x128 .f32) (ix3 1 0 j) = a (ix2 1 j) := by
  pointwise

theorem col128 (a : FVec Ideal S4x128 .f32) (j : Fin 128) : (shapeCast S4x128x1 a shapeCasts_S4x128_S4x128x1 : FVec Ideal S4x128x1 .f32) (ix3 1 j 0) = a (ix2 1 j) := by
  pointwise

theorem biases (a : FVec Ideal S4x4x128 .f32) (i : Fin 128) (j : Fin 512) :
    (shapeCast S4x128x512 (broadcastInDim S4x128x4x128 ![0, 1, 2] bcast_S4x128x4_S4x128x4x128_0_1_2
      (transpose S4x128x4 [0, 2, 1] a transposes_S4x4x128_S4x128x4_0_2_1)) shapeCasts_S4x128x4x128_S4x128x512 : FVec Ideal S4x128x512 .f32) (ix3 1 i j)
      = a (ix3 1 ⟨j.val / 128, by omega⟩ i) := by
  pointwise

theorem twice (a b : FVec Ideal S4096x64 .f32) (r : Fin 4096) (j : Fin 128) :
    (concatenate S4096x128 1 [⟨S4096x64, a⟩, ⟨S4096x64, b⟩] concatenates_S4096x64_S4096x64_S4096x128_d1 : FVec Ideal S4096x128 .f32) (ix2 r j)
      = if h : j.val < 64 then a (ix2 r ⟨j.val, h⟩) else b (ix2 r ⟨j.val - 64, by omega⟩) := by
  pointwise

theorem twice_twice (a b c d : FVec Ideal S4096x32 .f32) (r : Fin 4096) (j : Fin 128) (hj : j.val < 64) :
    (concatenate S4096x128 1 [⟨S4096x32, a⟩, ⟨S4096x32, b⟩, ⟨S4096x32, c⟩, ⟨S4096x32, d⟩] concatenates_S4096x32_S4096x32_S4096x32_S4096x32_S4096x128_d1 : FVec Ideal S4096x128 .f32) (ix2 r j)
      = if h : j.val < 32 then a (ix2 r ⟨j.val, h⟩) else b (ix2 r ⟨j.val - 32, by omega⟩) := by
  pointwise
  split
  · rfl
  · rw [dif_pos (by omega)]

theorem neg64 (a : FVec Ideal S4096x64 .f32) (r : Fin 4096) (j : Fin 64) : Host.negf a (ix2 r j) = -a (ix2 r j) := by
  pointwise

theorem neg32 (a : FVec Ideal S4096x32 .f32) (r : Fin 4096) (j : Fin 32) : Host.negf a (ix2 r j) = -a (ix2 r j) := by
  pointwise

theorem turn64 (a : FVec Ideal S4096x64 .f32) (r : Fin 4096) (j : Fin 64) :
    (transpose S64x4096 [1, 0] a transposes_S4096x64_S64x4096_1_0 : FVec Ideal S64x4096 .f32) (ix2 j r) = a (ix2 r j) := by
  pointwise

theorem turn32 (a : FVec Ideal S4096x32 .f32) (r : Fin 4096) (j : Fin 32) :
    (transpose S32x4096 [1, 0] a transposes_S4096x32_S32x4096_1_0 : FVec Ideal S32x4096 .f32) (ix2 j r) = a (ix2 r j) := by
  pointwise

/-- The projection's weight by columns. -/
abbrev turned (a : FVec Ideal S4x1024x6216 .f32) : FVec Ideal S4x6216x1024 .f32 := transpose S4x6216x1024 [0, 2, 1] a transposes_S4x1024x6216_S4x6216x1024_0_2_1

theorem turned_at (A : Args) (i : Fin 6216) (x : Fin 1024) (n : ℕ) (hn : i.val = n) : turned A.a5 (ix3 1 i x) = wcol A x n := by
  subst hn
  rw [wcol_eq A x _ i.isLt]
  pointwise

theorem weights7 (A : Args) (i : Fin 4224) (x : Fin 1024) :
    (truncf .bf16 (concatenate S4x4224x1024 1
      [⟨S4x1536x1024, extractStridedSlice S4x1536x1024 ![0, 0, 0] (turned A.a5) slices_S4x6216x1024_S4x1536x1024_0_0_0⟩,
        ⟨S4x512x1024, extractStridedSlice S4x512x1024 ![0, 2048, 0] (turned A.a5) slices_S4x6216x1024_S4x512x1024_0_2048_0⟩,
        ⟨S4x64x1024, extractStridedSlice S4x64x1024 ![0, 4096, 0] (turned A.a5) slices_S4x6216x1024_S4x64x1024_0_4096_0⟩,
        ⟨S4x64x1024, extractStridedSlice S4x64x1024 ![0, 4096, 0] (turned A.a5) slices_S4x6216x1024_S4x64x1024_0_4096_0⟩,
        ⟨S4x2048x1024, extractStridedSlice S4x2048x1024 ![0, 4168, 0] (turned A.a5) slices_S4x6216x1024_S4x2048x1024_0_4168_0⟩]
      concatenates_S4x1536x1024_S4x512x1024_S4x64x1024_S4x64x1024_S4x2048x1024_S4x4224x1024_d1) bitsLt_bf16_f32 : FVec Ideal S4x4224x1024 .bf16) (ix3 1 i x)
      = wcol A x (col7 i) := by
  have ht := fun i n hn => turned_at A i x n hn
  generalize turned A.a5 = w at ht ⊢
  pointwise
  have hi := i.isLt
  split_ifs <;> (refine ht _ _ ?_; unfold col7; dsimp only; split_ifs <;> omega)

theorem weights19 (A : Args) (i : Fin 2048) (x : Fin 1024) :
    (truncf .bf16 (concatenate S4x2048x1024 1
      [⟨S4x512x1024, extractStridedSlice S4x512x1024 ![0, 1536, 0] (turned A.a5) slices_S4x6216x1024_S4x512x1024_0_1536_0⟩,
        ⟨S4x1536x1024, extractStridedSlice S4x1536x1024 ![0, 2560, 0] (turned A.a5) slices_S4x6216x1024_S4x1536x1024_0_2560_0⟩]
      concatenates_S4x512x1024_S4x1536x1024_S4x2048x1024_d1) bitsLt_bf16_f32 : FVec Ideal S4x2048x1024 .bf16) (ix3 1 i x)
      = wcol A x (col19 i) := by
  have ht := fun i n hn => turned_at A i x n hn
  generalize turned A.a5 = w at ht ⊢
  pointwise
  have hi := i.isLt
  split_ifs <;> (refine ht _ _ ?_; unfold col19; dsimp only; split_ifs <;> omega)

theorem weights20 (A : Args) (i : Fin 16) (x : Fin 1024) :
    (truncf .bf16 (concatenate S4x16x1024 1
      [⟨S4x8x1024, extractStridedSlice S4x8x1024 ![0, 4160, 0] (turned A.a5) slices_S4x6216x1024_S4x8x1024_0_4160_0⟩,
        ⟨S4x8x1024, broadcastInDim S4x8x1024 ![] bcast_S_S4x8x1024 (constant S_ .f32 0x00000000#32)⟩]
      concatenates_S4x8x1024_S4x8x1024_S4x16x1024_d1) bitsLt_bf16_f32 : FVec Ideal S4x16x1024 .bf16) (ix3 1 i x)
      = if i.val < 8 then wcol A x (4160 + i) else 0 := by
  have ht := fun i n hn => turned_at A i x n hn
  generalize turned A.a5 = w at ht ⊢
  pointwise
  split_ifs
  · exact ht _ _ rfl
  · rfl

/-! The arrays themselves. -/

variable (m : (ℓ : Loc nD τ sig) → Buf (Elt Ideal) ℓ)

/-- The arguments. -/
def args (c : Dev nD) : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

set_option maxHeartbeats 1600000 in
theorem array0 (c : Dev nD) : V m c main_v73 = (shapeCast S16384x1024 (args m c).a0 shapeCasts_S4x4096x1024_S16384x1024 : FVec Ideal S16384x1024 .f32) := by
  show StableHlo.after hostOps0 _ _ = _
  after_results
  rfl

theorem entry0 (c : Dev nD) (r : Fin 16384) (j : Fin 1024) (hb : r.val / 4096 < 4) (hs : r.val % 4096 < 4096) : V m c main_v73 (ix2 r j : S16384x1024.Idx) = (args m c).a0 (ix3 ⟨r.val / 4096, hb⟩ ⟨r.val % 4096, hs⟩ j) := by
  rw [array0]
  exact rows32 _ r j hb hs

set_option maxHeartbeats 1600000 in
theorem array1 (c : Dev nD) : V m c main_v74 = (shapeCast S16384x512 (args m c).a1 shapeCasts_S4x4096x512_S16384x512 : FVec Ideal S16384x512 .bf16) := by
  show StableHlo.after hostOps0 _ _ = _
  after_results
  rfl

theorem entry1 (c : Dev nD) (r : Fin 16384) (j : Fin 512) (hb : r.val / 4096 < 4) (hs : r.val % 4096 < 4096) : V m c main_v74 (ix2 r j : S16384x512.Idx) = (args m c).a1 (ix3 ⟨r.val / 4096, hb⟩ ⟨r.val % 4096, hs⟩ j) := by
  rw [array1]
  exact rows16_512 _ r j hb hs

set_option maxHeartbeats 1600000 in
theorem array2 (c : Dev nD) : V m c main_v75 = (shapeCast S16384x1024 (args m c).a2 shapeCasts_S4x4096x1024_S16384x1024 : FVec Ideal S16384x1024 .bf16) := by
  show StableHlo.after hostOps0 _ _ = _
  after_results
  rfl

theorem entry2 (c : Dev nD) (r : Fin 16384) (j : Fin 1024) (hb : r.val / 4096 < 4) (hs : r.val % 4096 < 4096) : V m c main_v75 (ix2 r j : S16384x1024.Idx) = (args m c).a2 (ix3 ⟨r.val / 4096, hb⟩ ⟨r.val % 4096, hs⟩ j) := by
  rw [array2]
  exact rows16 _ r j hb hs

set_option maxHeartbeats 1600000 in
theorem array3 (c : Dev nD) : V m c main_v76 = (shapeCast S16384x1024 (args m c).a3 shapeCasts_S4x4096x1024_S16384x1024 : FVec Ideal S16384x1024 .bf16) := by
  show StableHlo.after hostOps0 _ _ = _
  after_results
  rfl

theorem entry3 (c : Dev nD) (r : Fin 16384) (j : Fin 1024) (hb : r.val / 4096 < 4) (hs : r.val % 4096 < 4096) : V m c main_v76 (ix2 r j : S16384x1024.Idx) = (args m c).a3 (ix3 ⟨r.val / 4096, hb⟩ ⟨r.val % 4096, hs⟩ j) := by
  rw [array3]
  exact rows16 _ r j hb hs

set_option maxHeartbeats 1600000 in
theorem array4 (c : Dev nD) : V m c main_v63 = (truncf .bf16 (args m c).a14 bitsLt_bf16_f32 : FVec Ideal S4x512x1024 .bf16) := by
  show StableHlo.after hostOps0 _ _ = _
  after_results
  rfl

theorem entry4 (c : Dev nD) (i : Fin 512) (j : Fin 1024) : V m c main_v63 (ix3 0 i j : S4x512x1024.Idx) = (args m c).a14 (ix3 0 i j) := by
  rw [array4]
  rfl

set_option maxHeartbeats 1600000 in
theorem array5 (c : Dev nD) : V m c main_v64 = (truncf .bf16 (args m c).a15 bitsLt_bf16_f32 : FVec Ideal S4x1024x1024 .bf16) := by
  show StableHlo.after hostOps0 _ _ = _
  after_results
  rfl

theorem entry5 (c : Dev nD) (i : Fin 1024) (j : Fin 1024) : V m c main_v64 (ix3 0 i j : S4x1024x1024.Idx) = (args m c).a15 (ix3 0 i j) := by
  rw [array5]
  rfl

set_option maxHeartbeats 1600000 in
theorem array6 (c : Dev nD) : V m c main_v70 = (shapeCast S4x1x1024 (args m c).a4 shapeCasts_S4x1024_S4x1x1024 : FVec Ideal S4x1x1024 .f32) := by
  show StableHlo.after hostOps0 _ _ = _
  after_results
  rfl

theorem entry6 (c : Dev nD) (j : Fin 1024) : V m c main_v70 (ix3 1 0 j : S4x1x1024.Idx) = (args m c).a4 (ix2 1 j) := by
  rw [array6]
  exact row1024 _ j

set_option maxHeartbeats 1600000 in
theorem array7 (c : Dev nD) : V m c main_v53 = (truncf .bf16 (concatenate S4x4224x1024 1 [⟨S4x1536x1024, extractStridedSlice S4x1536x1024 ![0, 0, 0] (turned (args m c).a5) slices_S4x6216x1024_S4x1536x1024_0_0_0⟩,
    ⟨S4x512x1024, extractStridedSlice S4x512x1024 ![0, 2048, 0] (turned (args m c).a5) slices_S4x6216x1024_S4x512x1024_0_2048_0⟩, ⟨S4x64x1024, extractStridedSlice S4x64x1024 ![0, 4096, 0] (turned (args m c).a5) slices_S4x6216x1024_S4x64x1024_0_4096_0⟩,
    ⟨S4x64x1024, extractStridedSlice S4x64x1024 ![0, 4096, 0] (turned (args m c).a5) slices_S4x6216x1024_S4x64x1024_0_4096_0⟩, ⟨S4x2048x1024, extractStridedSlice S4x2048x1024 ![0, 4168, 0] (turned (args m c).a5) slices_S4x6216x1024_S4x2048x1024_0_4168_0⟩]
    concatenates_S4x1536x1024_S4x512x1024_S4x64x1024_S4x64x1024_S4x2048x1024_S4x4224x1024_d1) bitsLt_bf16_f32 : FVec Ideal S4x4224x1024 .bf16) := by
  show StableHlo.after hostOps0 _ _ = _
  after_results
  rfl

theorem entry7 (c : Dev nD) (i : Fin 4224) (x : Fin 1024) : V m c main_v53 (ix3 1 i x : S4x4224x1024.Idx) = wcol (args m c) x (col7 i) := by
  rw [array7]
  exact weights7 _ i x

set_option maxHeartbeats 1600000 in
theorem array9 (c : Dev nD) : V m c main_v71 = (shapeCast S4x1x512 (args m c).a7 shapeCasts_S4x512_S4x1x512 : FVec Ideal S4x1x512 .f32) := by
  show StableHlo.after hostOps0 _ _ = _
  after_results
  rfl

theorem entry9 (c : Dev nD) (j : Fin 512) : V m c main_v71 (ix3 1 0 j : S4x1x512.Idx) = (args m c).a7 (ix2 1 j) := by
  rw [array9]
  exact row512 _ j

set_option maxHeartbeats 1600000 in
theorem array10 (c : Dev nD) : V m c main_v72 = (shapeCast S4x1x512 (args m c).a8 shapeCasts_S4x512_S4x1x512 : FVec Ideal S4x1x512 .f32) := by
  show StableHlo.after hostOps0 _ _ = _
  after_results
  rfl

theorem entry10 (c : Dev nD) (j : Fin 512) : V m c main_v72 (ix3 1 0 j : S4x1x512.Idx) = (args m c).a8 (ix2 1 j) := by
  rw [array10]
  exact row512 _ j

set_option maxHeartbeats 1600000 in
theorem array12 (c : Dev nD) : V m c main_v67 = (shapeCast S4x128x512 (broadcastInDim S4x128x4x128 ![0, 1, 2] bcast_S4x128x4_S4x128x4x128_0_1_2
    (transpose S4x128x4 [0, 2, 1] (args m c).a10 transposes_S4x4x128_S4x128x4_0_2_1)) shapeCasts_S4x128x4x128_S4x128x512 : FVec Ideal S4x128x512 .f32) := by
  show StableHlo.after hostOps0 _ _ = _
  after_results
  rfl

theorem entry12 (c : Dev nD) (i : Fin 128) (j : Fin 512) : V m c main_v67 (ix3 1 i j : S4x128x512.Idx) = (args m c).a10 (ix3 1 ⟨j.val / 128, by omega⟩ i) := by
  rw [array12]
  exact biases _ i j

set_option maxHeartbeats 1600000 in
theorem array13 (c : Dev nD) : V m c main_v68 = (shapeCast S4x1x128 (args m c).a12 shapeCasts_S4x128_S4x1x128 : FVec Ideal S4x1x128 .f32) := by
  show StableHlo.after hostOps0 _ _ = _
  after_results
  rfl

theorem entry13 (c : Dev nD) (j : Fin 128) : V m c main_v68 (ix3 1 0 j : S4x1x128.Idx) = gk (args m c) j := by
  rw [array13]
  rw [gk, dif_pos j.isLt]
  exact row128 _ j

set_option maxHeartbeats 1600000 in
theorem array14 (c : Dev nD) : V m c main_v62 = (truncf .bf16 (args m c).a13 bitsLt_bf16_f32 : FVec Ideal S4x512x1024 .bf16) := by
  show StableHlo.after hostOps0 _ _ = _
  after_results
  rfl

theorem entry14 (c : Dev nD) (i : Fin 512) (j : Fin 1024) : V m c main_v62 (ix3 1 i j : S4x512x1024.Idx) = (args m c).a13 (ix3 1 i j) := by
  rw [array14]
  rfl

set_option maxHeartbeats 1600000 in
theorem array15 (c : Dev nD) : V m c main_v36 = (concatenate S4096x128 1 [⟨S4096x64, Ref.cosQ⟩, ⟨S4096x64, Ref.cosQ⟩] concatenates_S4096x64_S4096x64_S4096x128_d1 : FVec Ideal S4096x128 .f32) := by
  show StableHlo.after hostOps0 _ _ = _
  after_results
  rfl

theorem entry15 (c : Dev nD) (r : Fin 4096) (j : Fin 128) : V m c main_v36 (ix2 r j : S4096x128.Idx) = if j.val < 64 then cq r j.val else cq r (j.val - 64) := by
  rw [array15]
  refine (twice _ _ r j).trans ?_
  simp only [Ref.cq_eq]
  split <;> rfl

set_option maxHeartbeats 1600000 in
theorem array16 (c : Dev nD) : V m c main_v38 = (concatenate S4096x128 1 [⟨S4096x64, Host.negf Ref.sinQ⟩, ⟨S4096x64, Ref.sinQ⟩] concatenates_S4096x64_S4096x64_S4096x128_d1 : FVec Ideal S4096x128 .f32) := by
  show StableHlo.after hostOps0 _ _ = _
  after_results
  rfl

theorem entry16 (c : Dev nD) (r : Fin 4096) (j : Fin 128) : V m c main_v38 (ix2 r j : S4096x128.Idx) = if j.val < 64 then -sq r j.val else sq r (j.val - 64) := by
  rw [array16]
  refine (twice _ _ r j).trans ?_
  simp only [neg64, Ref.sq_eq]
  split <;> rfl

set_option maxHeartbeats 1600000 in
theorem array17 (c : Dev nD) : V m c main_v39 = (concatenate S4096x128 1 [⟨S4096x32, Ref.cosI⟩, ⟨S4096x32, Ref.cosI⟩, ⟨S4096x32, Ref.cosI⟩, ⟨S4096x32, Ref.cosI⟩] concatenates_S4096x32_S4096x32_S4096x32_S4096x32_S4096x128_d1 : FVec Ideal S4096x128 .f32) := by
  show StableHlo.after hostOps0 _ _ = _
  after_results
  rfl

theorem entry17 (c : Dev nD) (r : Fin 4096) (j : Fin 128) (hj : j.val < 64) : V m c main_v39 (ix2 r j : S4096x128.Idx) = if j.val < 32 then ci r j.val else ci r (j.val - 32) := by
  rw [array17]
  refine (twice_twice _ _ _ _ r j hj).trans ?_
  simp only [Ref.ci_eq]
  split <;> rfl

set_option maxHeartbeats 1600000 in
theorem array18 (c : Dev nD) : V m c main_v42 = (concatenate S4096x128 1 [⟨S4096x32, Host.negf Ref.sinI⟩, ⟨S4096x32, Ref.sinI⟩, ⟨S4096x32, Host.negf Ref.sinI⟩, ⟨S4096x32, Ref.sinI⟩] concatenates_S4096x32_S4096x32_S4096x32_S4096x32_S4096x128_d1 : FVec Ideal S4096x128 .f32) := by
  show StableHlo.after hostOps0 _ _ = _
  after_results
  rfl

theorem entry18 (c : Dev nD) (r : Fin 4096) (j : Fin 128) (hj : j.val < 64) : V m c main_v42 (ix2 r j : S4096x128.Idx) = if j.val < 32 then -si r j.val else si r (j.val - 32) := by
  rw [array18]
  refine (twice_twice _ _ _ _ r j hj).trans ?_
  simp only [neg32, Ref.si_eq]
  split <;> rfl

set_option maxHeartbeats 1600000 in
theorem array19 (c : Dev nD) : V m c main_v57 = (truncf .bf16 (concatenate S4x2048x1024 1 [⟨S4x512x1024, extractStridedSlice S4x512x1024 ![0, 1536, 0] (turned (args m c).a5) slices_S4x6216x1024_S4x512x1024_0_1536_0⟩,
    ⟨S4x1536x1024, extractStridedSlice S4x1536x1024 ![0, 2560, 0] (turned (args m c).a5) slices_S4x6216x1024_S4x1536x1024_0_2560_0⟩] concatenates_S4x512x1024_S4x1536x1024_S4x2048x1024_d1) bitsLt_bf16_f32 : FVec Ideal S4x2048x1024 .bf16) := by
  show StableHlo.after hostOps0 _ _ = _
  after_results
  rfl

theorem entry19 (c : Dev nD) (i : Fin 2048) (x : Fin 1024) : V m c main_v57 (ix3 1 i x : S4x2048x1024.Idx) = wcol (args m c) x (col19 i) := by
  rw [array19]
  exact weights19 _ i x

set_option maxHeartbeats 1600000 in
theorem array20 (c : Dev nD) : V m c main_v61 = (truncf .bf16 (concatenate S4x16x1024 1 [⟨S4x8x1024, extractStridedSlice S4x8x1024 ![0, 4160, 0] (turned (args m c).a5) slices_S4x6216x1024_S4x8x1024_0_4160_0⟩,
    ⟨S4x8x1024, broadcastInDim S4x8x1024 ![] bcast_S_S4x8x1024 (constant S_ .f32 0x00000000#32)⟩] concatenates_S4x8x1024_S4x8x1024_S4x16x1024_d1) bitsLt_bf16_f32 : FVec Ideal S4x16x1024 .bf16) := by
  show StableHlo.after hostOps0 _ _ = _
  after_results
  rfl

theorem entry20 (c : Dev nD) (i : Fin 16) (x : Fin 1024) : V m c main_v61 (ix3 1 i x : S4x16x1024.Idx) = if i.val < 8 then wcol (args m c) x (4160 + i) else 0 := by
  rw [array20]
  exact weights20 _ i x

set_option maxHeartbeats 1600000 in
theorem array21 (c : Dev nD) : V m c main_v69 = (shapeCast S4x128x1 (args m c).a11 shapeCasts_S4x128_S4x128x1 : FVec Ideal S4x128x1 .f32) := by
  show StableHlo.after hostOps0 _ _ = _
  after_results
  rfl

theorem entry21 (c : Dev nD) (j : Fin 128) : V m c main_v69 (ix3 1 j 0 : S4x128x1.Idx) = gq (args m c) j := by
  rw [array21]
  rw [gq, dif_pos j.isLt]
  exact col128 _ j

set_option maxHeartbeats 1600000 in
theorem array22 (c : Dev nD) : V m c main_v43 = (transpose S64x4096 [1, 0] Ref.cosQ transposes_S4096x64_S64x4096_1_0 : FVec Ideal S64x4096 .f32) := by
  show StableHlo.after hostOps0 _ _ = _
  after_results
  rfl

theorem entry22 (c : Dev nD) (j : Fin 64) (r : Fin 4096) : V m c main_v43 (ix2 j r : S64x4096.Idx) = cq r j := by
  rw [array22]
  exact (turn64 _ r j).trans (Ref.cq_eq r _ j.isLt)

set_option maxHeartbeats 1600000 in
theorem array23 (c : Dev nD) : V m c main_v44 = (transpose S64x4096 [1, 0] Ref.sinQ transposes_S4096x64_S64x4096_1_0 : FVec Ideal S64x4096 .f32) := by
  show StableHlo.after hostOps0 _ _ = _
  after_results
  rfl

theorem entry23 (c : Dev nD) (j : Fin 64) (r : Fin 4096) : V m c main_v44 (ix2 j r : S64x4096.Idx) = sq r j := by
  rw [array23]
  exact (turn64 _ r j).trans (Ref.sq_eq r _ j.isLt)

set_option maxHeartbeats 1600000 in
theorem array24 (c : Dev nD) : V m c main_v45 = (transpose S32x4096 [1, 0] Ref.cosI transposes_S4096x32_S32x4096_1_0 : FVec Ideal S32x4096 .f32) := by
  show StableHlo.after hostOps0 _ _ = _
  after_results
  rfl

theorem entry24 (c : Dev nD) (j : Fin 32) (r : Fin 4096) : V m c main_v45 (ix2 j r : S32x4096.Idx) = ci r j := by
  rw [array24]
  exact (turn32 _ r j).trans (Ref.ci_eq r _ j.isLt)

set_option maxHeartbeats 1600000 in
theorem array25 (c : Dev nD) : V m c main_v46 = (transpose S32x4096 [1, 0] Ref.sinI transposes_S4096x32_S32x4096_1_0 : FVec Ideal S32x4096 .f32) := by
  show StableHlo.after hostOps0 _ _ = _
  after_results
  rfl

theorem entry25 (c : Dev nD) (j : Fin 32) (r : Fin 4096) : V m c main_v46 (ix2 j r : S32x4096.Idx) = si r j := by
  rw [array25]
  exact (turn32 _ r j).trans (Ref.si_eq r _ j.isLt)

set_option maxHeartbeats 1600000 in
theorem entry8 (c : Dev nD) (i : Fin 2) (j : Fin 1024) : V m c main_arg6 (ix3 1 i j : S4x2x1024.Idx) = (args m c).a6 (ix3 1 i j : S4x2x1024.Idx) := by
  have h : V m c main_arg6 = m ((c : Thread nD τ).loc main_arg6) := by
    show StableHlo.after hostOps0 _ _ = _
    after_results
  rw [h]
  rfl

set_option maxHeartbeats 1600000 in
theorem entry11 (c : Dev nD) (g : Fin 4) (i x : Fin 128) : V m c main_arg9 (ix4 1 g i x : S4x4x128x128.Idx) = (args m c).a9 (ix4 1 g i x : S4x4x128x128.Idx) := by
  have h : V m c main_arg9 = m ((c : Thread nD τ).loc main_arg9) := by
    show StableHlo.after hostOps0 _ _ = _
    after_results
  rw [h]
  rfl

end Cert.Proof.Proj

end
-- ==== Proof.Proj.Windows.lean ====
/- Where the windows of the call that closes a layer and projects the next one cut their arrays, and so what its input blocks hold. -/
module

public import proofs.«01_k».proof.Proof.Proj.Prep

@[expose] public section

set_option maxRecDepth 16384

noncomputable section

namespace Cert.Proof.Proj

open Cert.Kernel3Ideal Cert.Kernel3Ideal.Gen Idealize.ShloMosaic Idealize.ShloMosaic.TcCoe Idealize.SL

theorem steps : cfg0.N = 32 := by decide +kernel

/-- The row of a whole array at row `r` of block `t`. -/
def row (t : Fin cfg0.N) (r : Fin 512) : Fin 16384 := ⟨t.val * 512 + r.val, by
  have h : t.val < 32 := lt_of_lt_of_eq t.isLt steps
  omega⟩

/-- The sequence of block `t`, and the block's place in it. -/
def bt (t : Fin cfg0.N) : Fin 4 := ⟨t.val / 8, by
  have h : t.val < 32 := lt_of_lt_of_eq t.isLt steps
  omega⟩
def nt (t : Fin cfg0.N) : Fin 8 := ⟨t.val % 8, by omega⟩

/-- The piece of 256 positions that piece `q` of block `t` is in its sequence. -/
def piece (t : Fin cfg0.N) (q : Fin 2) : Fin 16 := ⟨t.val % 8 * 2 + q.val, by omega⟩

theorem row_batch (t : Fin cfg0.N) (r : Fin 512) (h : (row t r).val / 4096 < 4) : (⟨(row t r).val / 4096, h⟩ : Fin 4) = bt t :=
  Fin.ext (by show (t.val * 512 + r.val) / 4096 = t.val / 8; omega)

theorem row_pos (t : Fin cfg0.N) (r : Fin 512) (h : (row t r).val % 4096 < 4096) : (⟨(row t r).val % 4096, h⟩ : Fin 4096) = pos (nt t) r :=
  Fin.ext (by show (t.val * 512 + r.val) % 4096 = t.val % 8 * 512 + r.val; omega)

theorem piece_pos (t : Fin cfg0.N) (q : Fin 2) (p : Fin 256) (h) (h') : (⟨(piece t q).val * 256 + p.val, h⟩ : Fin 4096) = pos (nt t) ⟨q.val * 256 + p.val, h'⟩ :=
  Fin.ext (by show (t.val % 8 * 2 + q.val) * 256 + p.val = t.val % 8 * 512 + (q.val * 256 + p.val); omega)

/-! The block of each window at a point. -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx6 : ∀ t : Fin cfg0.N, win0_6.index t (0 : Fin 3) = 1 ∧ win0_6.index t (1 : Fin 3) = 0 ∧ win0_6.index t (2 : Fin 3) = 0 := (by decide +kernel : ∀ t : Fin grid0.N, _)
theorem idx7 : ∀ t : Fin cfg0.N, win0_7.index t (0 : Fin 3) = 1 ∧ win0_7.index t (1 : Fin 3) = 0 ∧ win0_7.index t (2 : Fin 3) = 0 := (by decide +kernel : ∀ t : Fin grid0.N, _)
theorem idx8 : ∀ t : Fin cfg0.N, win0_8.index t (0 : Fin 3) = 1 ∧ win0_8.index t (1 : Fin 3) = 0 ∧ win0_8.index t (2 : Fin 3) = 0 := (by decide +kernel : ∀ t : Fin grid0.N, _)
theorem idx9 : ∀ t : Fin cfg0.N, win0_9.index t (0 : Fin 3) = 1 ∧ win0_9.index t (1 : Fin 3) = 0 ∧ win0_9.index t (2 : Fin 3) = 0 := (by decide +kernel : ∀ t : Fin grid0.N, _)
theorem idx10 : ∀ t : Fin cfg0.N, win0_10.index t (0 : Fin 3) = 1 ∧ win0_10.index t (1 : Fin 3) = 0 ∧ win0_10.index t (2 : Fin 3) = 0 := (by decide +kernel : ∀ t : Fin grid0.N, _)
theorem idx11 : ∀ t : Fin cfg0.N, win0_11.index t (0 : Fin 4) = 1 ∧ win0_11.index t (1 : Fin 4) = 0 ∧ win0_11.index t (2 : Fin 4) = 0 ∧ win0_11.index t (3 : Fin 4) = 0 := (by decide +kernel : ∀ t : Fin grid0.N, _)
theorem idx12 : ∀ t : Fin cfg0.N, win0_12.index t (0 : Fin 3) = 1 ∧ win0_12.index t (1 : Fin 3) = 0 ∧ win0_12.index t (2 : Fin 3) = 0 := (by decide +kernel : ∀ t : Fin grid0.N, _)
theorem idx13 : ∀ t : Fin cfg0.N, win0_13.index t (0 : Fin 3) = 1 ∧ win0_13.index t (1 : Fin 3) = 0 ∧ win0_13.index t (2 : Fin 3) = 0 := (by decide +kernel : ∀ t : Fin grid0.N, _)
theorem idx14 : ∀ t : Fin cfg0.N, win0_14.index t (0 : Fin 3) = 1 ∧ win0_14.index t (1 : Fin 3) = 0 ∧ win0_14.index t (2 : Fin 3) = 0 := (by decide +kernel : ∀ t : Fin grid0.N, _)
theorem idx15 : ∀ t : Fin cfg0.N, win0_15.index t (0 : Fin 2) = t.val % 8 ∧ win0_15.index t (1 : Fin 2) = 0 := (by decide +kernel : ∀ t : Fin grid0.N, _)
theorem idx16 : ∀ t : Fin cfg0.N, win0_16.index t (0 : Fin 2) = t.val % 8 ∧ win0_16.index t (1 : Fin 2) = 0 := (by decide +kernel : ∀ t : Fin grid0.N, _)
theorem idx17 : ∀ t : Fin cfg0.N, win0_17.index t (0 : Fin 2) = t.val % 8 ∧ win0_17.index t (1 : Fin 2) = 0 := (by decide +kernel : ∀ t : Fin grid0.N, _)
theorem idx18 : ∀ t : Fin cfg0.N, win0_18.index t (0 : Fin 2) = t.val % 8 ∧ win0_18.index t (1 : Fin 2) = 0 := (by decide +kernel : ∀ t : Fin grid0.N, _)
theorem idx19 : ∀ t : Fin cfg0.N, win0_19.index t (0 : Fin 3) = 1 ∧ win0_19.index t (1 : Fin 3) = 0 ∧ win0_19.index t (2 : Fin 3) = 0 := (by decide +kernel : ∀ t : Fin grid0.N, _)
theorem idx20 : ∀ t : Fin cfg0.N, win0_20.index t (0 : Fin 3) = 1 ∧ win0_20.index t (1 : Fin 3) = 0 ∧ win0_20.index t (2 : Fin 3) = 0 := (by decide +kernel : ∀ t : Fin grid0.N, _)
theorem idx21 : ∀ t : Fin cfg0.N, win0_21.index t (0 : Fin 3) = 1 ∧ win0_21.index t (1 : Fin 3) = 0 ∧ win0_21.index t (2 : Fin 3) = 0 := (by decide +kernel : ∀ t : Fin grid0.N, _)
theorem idx22 : ∀ t : Fin cfg0.N, win0_22.index t (0 : Fin 2) = 0 ∧ win0_22.index t (1 : Fin 2) = t.val % 8 := (by decide +kernel : ∀ t : Fin grid0.N, _)
theorem idx23 : ∀ t : Fin cfg0.N, win0_23.index t (0 : Fin 2) = 0 ∧ win0_23.index t (1 : Fin 2) = t.val % 8 := (by decide +kernel : ∀ t : Fin grid0.N, _)
theorem idx24 : ∀ t : Fin cfg0.N, win0_24.index t (0 : Fin 2) = 0 ∧ win0_24.index t (1 : Fin 2) = t.val % 8 := (by decide +kernel : ∀ t : Fin grid0.N, _)
theorem idx25 : ∀ t : Fin cfg0.N, win0_25.index t (0 : Fin 2) = 0 ∧ win0_25.index t (1 : Fin 2) = t.val % 8 := (by decide +kernel : ∀ t : Fin grid0.N, _)
theorem idx26 : ∀ t : Fin cfg0.N, win0_26.index t (0 : Fin 2) = t.val ∧ win0_26.index t (1 : Fin 2) = 0 := (by decide +kernel : ∀ t : Fin grid0.N, _)
theorem idx27 : ∀ t : Fin cfg0.N, win0_27.index t (0 : Fin 2) = t.val ∧ win0_27.index t (1 : Fin 2) = 0 := (by decide +kernel : ∀ t : Fin grid0.N, _)
theorem idx28 : ∀ t : Fin cfg0.N, win0_28.index t (0 : Fin 2) = t.val ∧ win0_28.index t (1 : Fin 2) = 0 := (by decide +kernel : ∀ t : Fin grid0.N, _)
theorem idx29 : ∀ t : Fin cfg0.N, win0_29.index t (0 : Fin 2) = t.val ∧ win0_29.index t (1 : Fin 2) = 0 := (by decide +kernel : ∀ t : Fin grid0.N, _)
theorem idx30 : ∀ t : Fin cfg0.N, win0_30.index t (0 : Fin 2) = t.val ∧ win0_30.index t (1 : Fin 2) = 0 := (by decide +kernel : ∀ t : Fin grid0.N, _)
theorem idx31 : ∀ t : Fin cfg0.N, win0_31.index t (0 : Fin 4) = t.val / 8 ∧ win0_31.index t (1 : Fin 4) = t.val % 8 ∧ win0_31.index t (2 : Fin 4) = 0 ∧ win0_31.index t (3 : Fin 4) = 0 := (by decide +kernel : ∀ t : Fin grid0.N, _)
theorem idx32 : ∀ t : Fin cfg0.N, win0_32.index t (0 : Fin 4) = t.val / 8 ∧ win0_32.index t (1 : Fin 4) = t.val % 8 ∧ win0_32.index t (2 : Fin 4) = 0 ∧ win0_32.index t (3 : Fin 4) = 0 := (by decide +kernel : ∀ t : Fin grid0.N, _)
theorem idx33 : ∀ t : Fin cfg0.N, win0_33.index t (0 : Fin 4) = t.val / 8 ∧ win0_33.index t (1 : Fin 4) = t.val % 8 ∧ win0_33.index t (2 : Fin 4) = 0 ∧ win0_33.index t (3 : Fin 4) = 0 := (by decide +kernel : ∀ t : Fin grid0.N, _)
theorem idx34 : ∀ t : Fin cfg0.N, win0_34.index t (0 : Fin 4) = t.val / 8 ∧ win0_34.index t (1 : Fin 4) = t.val % 8 ∧ win0_34.index t (2 : Fin 4) = 0 ∧ win0_34.index t (3 : Fin 4) = 0 := (by decide +kernel : ∀ t : Fin grid0.N, _)
theorem idx35 : ∀ t : Fin cfg0.N, win0_35.index t (0 : Fin 4) = t.val / 8 ∧ win0_35.index t (1 : Fin 4) = t.val % 8 ∧ win0_35.index t (2 : Fin 4) = 0 ∧ win0_35.index t (3 : Fin 4) = 0 := (by decide +kernel : ∀ t : Fin grid0.N, _)

theorem emb0 (t : Fin cfg0.N) (r : Fin 512) (j : Fin 1024) : ((cfg0.win 0).blk t).view.emb (ix2 r j : S512x1024.Idx) = (ix2 (row t r) j : S16384x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * j.val = j.val; omega

theorem emb1 (t : Fin cfg0.N) (r : Fin 512) (j : Fin 512) : ((cfg0.win 1).blk t).view.emb (ix2 r j : S512x512.Idx) = (ix2 (row t r) j : S16384x512.Idx) := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * j.val = j.val; omega

theorem emb2 (t : Fin cfg0.N) (r : Fin 512) (j : Fin 1024) : ((cfg0.win 2).blk t).view.emb (ix2 r j : S512x1024.Idx) = (ix2 (row t r) j : S16384x1024.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 1024 + 1 * j.val = j.val; omega

theorem emb3 (t : Fin cfg0.N) (r : Fin 512) (j : Fin 1024) : ((cfg0.win 3).blk t).view.emb (ix2 r j : S512x1024.Idx) = (ix2 (row t r) j : S16384x1024.Idx) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * j.val = j.val; omega

theorem emb4 (t : Fin cfg0.N) (i : Fin 512) (j : Fin 1024) : ((cfg0.win 4).blk t).view.emb (ix3 0 i j : S1x512x1024.Idx) = (ix3 0 i j : S4x512x1024.Idx) := by
  obtain ⟨e0, e1, e2⟩ := idx4 t
  funext a; apply Fin.ext
  match a with
  | ⟨0, _⟩ => show win0_4.index t (0 : Fin 3) * 1 + 1 * 0 = 0; omega
  | ⟨1, _⟩ => show win0_4.index t (1 : Fin 3) * 512 + 1 * i.val = i.val; omega
  | ⟨2, _⟩ => show win0_4.index t (2 : Fin 3) * 1024 + 1 * j.val = j.val; omega

theorem emb5 (t : Fin cfg0.N) (i : Fin 1024) (j : Fin 1024) : ((cfg0.win 5).blk t).view.emb (ix3 0 i j : S1x1024x1024.Idx) = (ix3 0 i j : S4x1024x1024.Idx) := by
  obtain ⟨e0, e1, e2⟩ := idx5 t
  funext a; apply Fin.ext
  match a with
  | ⟨0, _⟩ => show win0_5.index t (0 : Fin 3) * 1 + 1 * 0 = 0; omega
  | ⟨1, _⟩ => show win0_5.index t (1 : Fin 3) * 1024 + 1 * i.val = i.val; omega
  | ⟨2, _⟩ => show win0_5.index t (2 : Fin 3) * 1024 + 1 * j.val = j.val; omega

theorem emb6 (t : Fin cfg0.N) (i : Fin 1) (j : Fin 1024) : ((cfg0.win 6).blk t).view.emb (ix3 0 i j : S1x1x1024.Idx) = (ix3 1 i j : S4x1x1024.Idx) := by
  obtain ⟨e0, e1, e2⟩ := idx6 t
  funext a; apply Fin.ext
  match a with
  | ⟨0, _⟩ => show win0_6.index t (0 : Fin 3) * 1 + 1 * 0 = 1; omega
  | ⟨1, _⟩ => show win0_6.index t (1 : Fin 3) * 1 + 1 * i.val = i.val; omega
  | ⟨2, _⟩ => show win0_6.index t (2 : Fin 3) * 1024 + 1 * j.val = j.val; omega

theorem emb7 (t : Fin cfg0.N) (i : Fin 4224) (j : Fin 1024) : ((cfg0.win 7).blk t).view.emb (ix3 0 i j : S1x4224x1024.Idx) = (ix3 1 i j : S4x4224x1024.Idx) := by
  obtain ⟨e0, e1, e2⟩ := idx7 t
  funext a; apply Fin.ext
  match a with
  | ⟨0, _⟩ => show win0_7.index t (0 : Fin 3) * 1 + 1 * 0 = 1; omega
  | ⟨1, _⟩ => show win0_7.index t (1 : Fin 3) * 4224 + 1 * i.val = i.val; omega
  | ⟨2, _⟩ => show win0_7.index t (2 : Fin 3) * 1024 + 1 * j.val = j.val; omega

theorem emb8 (t : Fin cfg0.N) (i : Fin 2) (j : Fin 1024) : ((cfg0.win 8).blk t).view.emb (ix3 0 i j : S1x2x1024.Idx) = (ix3 1 i j : S4x2x1024.Idx) := by
  obtain ⟨e0, e1, e2⟩ := idx8 t
  funext a; apply Fin.ext
  match a with
  | ⟨0, _⟩ => show win0_8.index t (0 : Fin 3) * 1 + 1 * 0 = 1; omega
  | ⟨1, _⟩ => show win0_8.index t (1 : Fin 3) * 2 + 1 * i.val = i.val; omega
  | ⟨2, _⟩ => show win0_8.index t (2 : Fin 3) * 1024 + 1 * j.val = j.val; omega

theorem emb9 (t : Fin cfg0.N) (i : Fin 1) (j : Fin 512) : ((cfg0.win 9).blk t).view.emb (ix3 0 i j : S1x1x512.Idx) = (ix3 1 i j : S4x1x512.Idx) := by
  obtain ⟨e0, e1, e2⟩ := idx9 t
  funext a; apply Fin.ext
  match a with
  | ⟨0, _⟩ => show win0_9.index t (0 : Fin 3) * 1 + 1 * 0 = 1; omega
  | ⟨1, _⟩ => show win0_9.index t (1 : Fin 3) * 1 + 1 * i.val = i.val; omega
  | ⟨2, _⟩ => show win0_9.index t (2 : Fin 3) * 512 + 1 * j.val = j.val; omega

theorem emb10 (t : Fin cfg0.N) (i : Fin 1) (j : Fin 512) : ((cfg0.win 10).blk t).view.emb (ix3 0 i j : S1x1x512.Idx) = (ix3 1 i j : S4x1x512.Idx) := by
  obtain ⟨e0, e1, e2⟩ := idx10 t
  funext a; apply Fin.ext
  match a with
  | ⟨0, _⟩ => show win0_10.index t (0 : Fin 3) * 1 + 1 * 0 = 1; omega
  | ⟨1, _⟩ => show win0_10.index t (1 : Fin 3) * 1 + 1 * i.val = i.val; omega
  | ⟨2, _⟩ => show win0_10.index t (2 : Fin 3) * 512 + 1 * j.val = j.val; omega

theorem emb11 (t : Fin cfg0.N) (g : Fin 4) (i : Fin 128) (x : Fin 128) : ((cfg0.win 11).blk t).view.emb (ix4 0 g i x : S1x4x128x128.Idx) = (ix4 1 g i x : S4x4x128x128.Idx) := by
  obtain ⟨e0, e1, e2, e3⟩ := idx11 t
  funext a; apply Fin.ext
  match a with
  | ⟨0, _⟩ => show win0_11.index t (0 : Fin 4) * 1 + 1 * 0 = 1; omega
  | ⟨1, _⟩ => show win0_11.index t (1 : Fin 4) * 4 + 1 * g.val = g.val; omega
  | ⟨2, _⟩ => show win0_11.index t (2 : Fin 4) * 128 + 1 * i.val = i.val; omega
  | ⟨3, _⟩ => show win0_11.index t (3 : Fin 4) * 128 + 1 * x.val = x.val; omega

theorem emb12 (t : Fin cfg0.N) (i : Fin 128) (j : Fin 512) : ((cfg0.win 12).blk t).view.emb (ix3 0 i j : S1x128x512.Idx) = (ix3 1 i j : S4x128x512.Idx) := by
  obtain ⟨e0, e1, e2⟩ := idx12 t
  funext a; apply Fin.ext
  match a with
  | ⟨0, _⟩ => show win0_12.index t (0 : Fin 3) * 1 + 1 * 0 = 1; omega
  | ⟨1, _⟩ => show win0_12.index t (1 : Fin 3) * 128 + 1 * i.val = i.val; omega
  | ⟨2, _⟩ => show win0_12.index t (2 : Fin 3) * 512 + 1 * j.val = j.val; omega

theorem emb13 (t : Fin cfg0.N) (i : Fin 1) (j : Fin 128) : ((cfg0.win 13).blk t).view.emb (ix3 0 i j : S1x1x128.Idx) = (ix3 1 i j : S4x1x128.Idx) := by
  obtain ⟨e0, e1, e2⟩ := idx13 t
  funext a; apply Fin.ext
  match a with
  | ⟨0, _⟩ => show win0_13.index t (0 : Fin 3) * 1 + 1 * 0 = 1; omega
  | ⟨1, _⟩ => show win0_13.index t (1 : Fin 3) * 1 + 1 * i.val = i.val; omega
  | ⟨2, _⟩ => show win0_13.index t (2 : Fin 3) * 128 + 1 * j.val = j.val; omega

theorem emb14 (t : Fin cfg0.N) (i : Fin 512) (j : Fin 1024) : ((cfg0.win 14).blk t).view.emb (ix3 0 i j : S1x512x1024.Idx) = (ix3 1 i j : S4x512x1024.Idx) := by
  obtain ⟨e0, e1, e2⟩ := idx14 t
  funext a; apply Fin.ext
  match a with
  | ⟨0, _⟩ => show win0_14.index t (0 : Fin 3) * 1 + 1 * 0 = 1; omega
  | ⟨1, _⟩ => show win0_14.index t (1 : Fin 3) * 512 + 1 * i.val = i.val; omega
  | ⟨2, _⟩ => show win0_14.index t (2 : Fin 3) * 1024 + 1 * j.val = j.val; omega

theorem emb15 (t : Fin cfg0.N) (r : Fin 512) (j : Fin 128) : ((cfg0.win 15).blk t).view.emb (ix2 r j : S512x128.Idx) = (ix2 (pos (nt t) r) j : S4096x128.Idx) := by
  obtain ⟨e0, e1⟩ := idx15 t
  funext a; apply Fin.ext
  match a with
  | ⟨0, _⟩ => show win0_15.index t (0 : Fin 2) * 512 + 1 * r.val = t.val % 8 * 512 + r.val; omega
  | ⟨1, _⟩ => show win0_15.index t (1 : Fin 2) * 128 + 1 * j.val = j.val; omega

theorem emb16 (t : Fin cfg0.N) (r : Fin 512) (j : Fin 128) : ((cfg0.win 16).blk t).view.emb (ix2 r j : S512x128.Idx) = (ix2 (pos (nt t) r) j : S4096x128.Idx) := by
  obtain ⟨e0, e1⟩ := idx16 t
  funext a; apply Fin.ext
  match a with
  | ⟨0, _⟩ => show win0_16.index t (0 : Fin 2) * 512 + 1 * r.val = t.val % 8 * 512 + r.val; omega
  | ⟨1, _⟩ => show win0_16.index t (1 : Fin 2) * 128 + 1 * j.val = j.val; omega

theorem emb17 (t : Fin cfg0.N) (r : Fin 512) (j : Fin 128) : ((cfg0.win 17).blk t).view.emb (ix2 r j : S512x128.Idx) = (ix2 (pos (nt t) r) j : S4096x128.Idx) := by
  obtain ⟨e0, e1⟩ := idx17 t
  funext a; apply Fin.ext
  match a with
  | ⟨0, _⟩ => show win0_17.index t (0 : Fin 2) * 512 + 1 * r.val = t.val % 8 * 512 + r.val; omega
  | ⟨1, _⟩ => show win0_17.index t (1 : Fin 2) * 128 + 1 * j.val = j.val; omega

theorem emb18 (t : Fin cfg0.N) (r : Fin 512) (j : Fin 128) : ((cfg0.win 18).blk t).view.emb (ix2 r j : S512x128.Idx) = (ix2 (pos (nt t) r) j : S4096x128.Idx) := by
  obtain ⟨e0, e1⟩ := idx18 t
  funext a; apply Fin.ext
  match a with
  | ⟨0, _⟩ => show win0_18.index t (0 : Fin 2) * 512 + 1 * r.val = t.val % 8 * 512 + r.val; omega
  | ⟨1, _⟩ => show win0_18.index t (1 : Fin 2) * 128 + 1 * j.val = j.val; omega

theorem emb19 (t : Fin cfg0.N) (i : Fin 2048) (j : Fin 1024) : ((cfg0.win 19).blk t).view.emb (ix3 0 i j : S1x2048x1024.Idx) = (ix3 1 i j : S4x2048x1024.Idx) := by
  obtain ⟨e0, e1, e2⟩ := idx19 t
  funext a; apply Fin.ext
  match a with
  | ⟨0, _⟩ => show win0_19.index t (0 : Fin 3) * 1 + 1 * 0 = 1; omega
  | ⟨1, _⟩ => show win0_19.index t (1 : Fin 3) * 2048 + 1 * i.val = i.val; omega
  | ⟨2, _⟩ => show win0_19.index t (2 : Fin 3) * 1024 + 1 * j.val = j.val; omega

theorem emb20 (t : Fin cfg0.N) (i : Fin 16) (j : Fin 1024) : ((cfg0.win 20).blk t).view.emb (ix3 0 i j : S1x16x1024.Idx) = (ix3 1 i j : S4x16x1024.Idx) := by
  obtain ⟨e0, e1, e2⟩ := idx20 t
  funext a; apply Fin.ext
  match a with
  | ⟨0, _⟩ => show win0_20.index t (0 : Fin 3) * 1 + 1 * 0 = 1; omega
  | ⟨1, _⟩ => show win0_20.index t (1 : Fin 3) * 16 + 1 * i.val = i.val; omega
  | ⟨2, _⟩ => show win0_20.index t (2 : Fin 3) * 1024 + 1 * j.val = j.val; omega

theorem emb21 (t : Fin cfg0.N) (i : Fin 128) (j : Fin 1) : ((cfg0.win 21).blk t).view.emb (ix3 0 i j : S1x128x1.Idx) = (ix3 1 i j : S4x128x1.Idx) := by
  obtain ⟨e0, e1, e2⟩ := idx21 t
  funext a; apply Fin.ext
  match a with
  | ⟨0, _⟩ => show win0_21.index t (0 : Fin 3) * 1 + 1 * 0 = 1; omega
  | ⟨1, _⟩ => show win0_21.index t (1 : Fin 3) * 128 + 1 * i.val = i.val; omega
  | ⟨2, _⟩ => show win0_21.index t (2 : Fin 3) * 1 + 1 * j.val = j.val; omega

theorem emb22 (t : Fin cfg0.N) (j : Fin 64) (r : Fin 512) : ((cfg0.win 22).blk t).view.emb (ix2 j r : S64x512.Idx) = (ix2 j (pos (nt t) r) : S64x4096.Idx) := by
  obtain ⟨e0, e1⟩ := idx22 t
  funext a; apply Fin.ext
  match a with
  | ⟨0, _⟩ => show win0_22.index t (0 : Fin 2) * 64 + 1 * j.val = j.val; omega
  | ⟨1, _⟩ => show win0_22.index t (1 : Fin 2) * 512 + 1 * r.val = t.val % 8 * 512 + r.val; omega

theorem emb23 (t : Fin cfg0.N) (j : Fin 64) (r : Fin 512) : ((cfg0.win 23).blk t).view.emb (ix2 j r : S64x512.Idx) = (ix2 j (pos (nt t) r) : S64x4096.Idx) := by
  obtain ⟨e0, e1⟩ := idx23 t
  funext a; apply Fin.ext
  match a with
  | ⟨0, _⟩ => show win0_23.index t (0 : Fin 2) * 64 + 1 * j.val = j.val; omega
  | ⟨1, _⟩ => show win0_23.index t (1 : Fin 2) * 512 + 1 * r.val = t.val % 8 * 512 + r.val; omega

theorem emb24 (t : Fin cfg0.N) (j : Fin 32) (r : Fin 512) : ((cfg0.win 24).blk t).view.emb (ix2 j r : S32x512.Idx) = (ix2 j (pos (nt t) r) : S32x4096.Idx) := by
  obtain ⟨e0, e1⟩ := idx24 t
  funext a; apply Fin.ext
  match a with
  | ⟨0, _⟩ => show win0_24.index t (0 : Fin 2) * 32 + 1 * j.val = j.val; omega
  | ⟨1, _⟩ => show win0_24.index t (1 : Fin 2) * 512 + 1 * r.val = t.val % 8 * 512 + r.val; omega

theorem emb25 (t : Fin cfg0.N) (j : Fin 32) (r : Fin 512) : ((cfg0.win 25).blk t).view.emb (ix2 j r : S32x512.Idx) = (ix2 j (pos (nt t) r) : S32x4096.Idx) := by
  obtain ⟨e0, e1⟩ := idx25 t
  funext a; apply Fin.ext
  match a with
  | ⟨0, _⟩ => show win0_25.index t (0 : Fin 2) * 32 + 1 * j.val = j.val; omega
  | ⟨1, _⟩ => show win0_25.index t (1 : Fin 2) * 512 + 1 * r.val = t.val % 8 * 512 + r.val; omega

theorem emb26 (t : Fin cfg0.N) (r : Fin 512) (j : Fin 1024) : ((cfg0.win 26).blk t).view.emb (ix2 r j : S512x1024.Idx) = (ix2 (row t r) j : S16384x1024.Idx) := by
  obtain ⟨e0, e1⟩ := idx26 t
  funext a; apply Fin.ext
  match a with
  | ⟨0, _⟩ => show win0_26.index t (0 : Fin 2) * 512 + 1 * r.val = t.val * 512 + r.val; omega
  | ⟨1, _⟩ => show win0_26.index t (1 : Fin 2) * 1024 + 1 * j.val = j.val; omega

theorem emb27 (t : Fin cfg0.N) (r : Fin 512) (j : Fin 1024) : ((cfg0.win 27).blk t).view.emb (ix2 r j : S512x1024.Idx) = (ix2 (row t r) j : S16384x1024.Idx) := by
  obtain ⟨e0, e1⟩ := idx27 t
  funext a; apply Fin.ext
  match a with
  | ⟨0, _⟩ => show win0_27.index t (0 : Fin 2) * 512 + 1 * r.val = t.val * 512 + r.val; omega
  | ⟨1, _⟩ => show win0_27.index t (1 : Fin 2) * 1024 + 1 * j.val = j.val; omega

theorem emb28 (t : Fin cfg0.N) (r : Fin 512) (j : Fin 1024) : ((cfg0.win 28).blk t).view.emb (ix2 r j : S512x1024.Idx) = (ix2 (row t r) j : S16384x1024.Idx) := by
  obtain ⟨e0, e1⟩ := idx28 t
  funext a; apply Fin.ext
  match a with
  | ⟨0, _⟩ => show win0_28.index t (0 : Fin 2) * 512 + 1 * r.val = t.val * 512 + r.val; omega
  | ⟨1, _⟩ => show win0_28.index t (1 : Fin 2) * 1024 + 1 * j.val = j.val; omega

theorem emb29 (t : Fin cfg0.N) (r : Fin 512) (j : Fin 512) : ((cfg0.win 29).blk t).view.emb (ix2 r j : S512x512.Idx) = (ix2 (row t r) j : S16384x512.Idx) := by
  obtain ⟨e0, e1⟩ := idx29 t
  funext a; apply Fin.ext
  match a with
  | ⟨0, _⟩ => show win0_29.index t (0 : Fin 2) * 512 + 1 * r.val = t.val * 512 + r.val; omega
  | ⟨1, _⟩ => show win0_29.index t (1 : Fin 2) * 512 + 1 * j.val = j.val; omega

theorem emb30 (t : Fin cfg0.N) (r : Fin 512) (j : Fin 64) : ((cfg0.win 30).blk t).view.emb (ix2 r j : S512x64.Idx) = (ix2 (row t r) j : S16384x64.Idx) := by
  obtain ⟨e0, e1⟩ := idx30 t
  funext a; apply Fin.ext
  match a with
  | ⟨0, _⟩ => show win0_30.index t (0 : Fin 2) * 512 + 1 * r.val = t.val * 512 + r.val; omega
  | ⟨1, _⟩ => show win0_30.index t (1 : Fin 2) * 64 + 1 * j.val = j.val; omega

theorem emb31 (t : Fin cfg0.N) (q : Fin 2) (e : Fin 512) (p : Fin 256) : ((cfg0.win 31).blk t).view.emb (ix4 0 q e p : S1x2x512x256.Idx) = (ix4 (bt t) (piece t q) e p : S4x16x512x256.Idx) := by
  obtain ⟨e0, e1, e2, e3⟩ := idx31 t
  funext a; apply Fin.ext
  match a with
  | ⟨0, _⟩ => show win0_31.index t (0 : Fin 4) * 1 + 1 * 0 = t.val / 8; omega
  | ⟨1, _⟩ => show win0_31.index t (1 : Fin 4) * 2 + 1 * q.val = t.val % 8 * 2 + q.val; omega
  | ⟨2, _⟩ => show win0_31.index t (2 : Fin 4) * 512 + 1 * e.val = e.val; omega
  | ⟨3, _⟩ => show win0_31.index t (3 : Fin 4) * 256 + 1 * p.val = p.val; omega

theorem emb32 (t : Fin cfg0.N) (q : Fin 2) (e : Fin 512) (p : Fin 256) : ((cfg0.win 32).blk t).view.emb (ix4 0 q e p : S1x2x512x256.Idx) = (ix4 (bt t) (piece t q) e p : S4x16x512x256.Idx) := by
  obtain ⟨e0, e1, e2, e3⟩ := idx32 t
  funext a; apply Fin.ext
  match a with
  | ⟨0, _⟩ => show win0_32.index t (0 : Fin 4) * 1 + 1 * 0 = t.val / 8; omega
  | ⟨1, _⟩ => show win0_32.index t (1 : Fin 4) * 2 + 1 * q.val = t.val % 8 * 2 + q.val; omega
  | ⟨2, _⟩ => show win0_32.index t (2 : Fin 4) * 512 + 1 * e.val = e.val; omega
  | ⟨3, _⟩ => show win0_32.index t (3 : Fin 4) * 256 + 1 * p.val = p.val; omega

theorem emb33 (t : Fin cfg0.N) (q : Fin 2) (e : Fin 512) (p : Fin 256) : ((cfg0.win 33).blk t).view.emb (ix4 0 q e p : S1x2x512x256.Idx) = (ix4 (bt t) (piece t q) e p : S4x16x512x256.Idx) := by
  obtain ⟨e0, e1, e2, e3⟩ := idx33 t
  funext a; apply Fin.ext
  match a with
  | ⟨0, _⟩ => show win0_33.index t (0 : Fin 4) * 1 + 1 * 0 = t.val / 8; omega
  | ⟨1, _⟩ => show win0_33.index t (1 : Fin 4) * 2 + 1 * q.val = t.val % 8 * 2 + q.val; omega
  | ⟨2, _⟩ => show win0_33.index t (2 : Fin 4) * 512 + 1 * e.val = e.val; omega
  | ⟨3, _⟩ => show win0_33.index t (3 : Fin 4) * 256 + 1 * p.val = p.val; omega

theorem emb34 (t : Fin cfg0.N) (q : Fin 2) (e : Fin 512) (p : Fin 256) : ((cfg0.win 34).blk t).view.emb (ix4 0 q e p : S1x2x512x256.Idx) = (ix4 (bt t) (piece t q) e p : S4x16x512x256.Idx) := by
  obtain ⟨e0, e1, e2, e3⟩ := idx34 t
  funext a; apply Fin.ext
  match a with
  | ⟨0, _⟩ => show win0_34.index t (0 : Fin 4) * 1 + 1 * 0 = t.val / 8; omega
  | ⟨1, _⟩ => show win0_34.index t (1 : Fin 4) * 2 + 1 * q.val = t.val % 8 * 2 + q.val; omega
  | ⟨2, _⟩ => show win0_34.index t (2 : Fin 4) * 512 + 1 * e.val = e.val; omega
  | ⟨3, _⟩ => show win0_34.index t (3 : Fin 4) * 256 + 1 * p.val = p.val; omega

theorem emb35 (t : Fin cfg0.N) (q : Fin 2) (e : Fin 16) (p : Fin 256) : ((cfg0.win 35).blk t).view.emb (ix4 0 q e p : S1x2x16x256.Idx) = (ix4 (bt t) (piece t q) e p : S4x16x16x256.Idx) := by
  obtain ⟨e0, e1, e2, e3⟩ := idx35 t
  funext a; apply Fin.ext
  match a with
  | ⟨0, _⟩ => show win0_35.index t (0 : Fin 4) * 1 + 1 * 0 = t.val / 8; omega
  | ⟨1, _⟩ => show win0_35.index t (1 : Fin 4) * 2 + 1 * q.val = t.val % 8 * 2 + q.val; omega
  | ⟨2, _⟩ => show win0_35.index t (2 : Fin 4) * 16 + 1 * e.val = e.val; omega
  | ⟨3, _⟩ => show win0_35.index t (3 : Fin 4) * 256 + 1 * p.val = p.val; omega

/-! The input blocks. -/

variable (m : (ℓ : Loc nD τ sig) → Buf (Elt Ideal) ℓ)

theorem blk0 (c : Dev nD) (t : Fin cfg0.N) (r : Fin 512) (j : Fin 1024) : (blocks m c t).x0 (ix2 r j) = (args m c).a0 (ix3 (bt t) (pos (nt t) r) j) := by
  show V m c main_v73 (((cfg0.win 0).blk t).view.emb (ix2 r j : S512x1024.Idx)) = _
  rw [emb0, entry0 m c _ _ (by show (t.val * 512 + r.val) / 4096 < 4; have h : t.val < 32 := lt_of_lt_of_eq t.isLt steps; omega) (by omega), row_batch, row_pos]

theorem blk1 (c : Dev nD) (t : Fin cfg0.N) (r : Fin 512) (j : Fin 512) : (blocks m c t).x1 (ix2 r j) = (args m c).a1 (ix3 (bt t) (pos (nt t) r) j) := by
  show V m c main_v74 (((cfg0.win 1).blk t).view.emb (ix2 r j : S512x512.Idx)) = _
  rw [emb1, entry1 m c _ _ (by show (t.val * 512 + r.val) / 4096 < 4; have h : t.val < 32 := lt_of_lt_of_eq t.isLt steps; omega) (by omega), row_batch, row_pos]

theorem blk2 (c : Dev nD) (t : Fin cfg0.N) (r : Fin 512) (j : Fin 1024) : (blocks m c t).x2 (ix2 r j) = (args m c).a2 (ix3 (bt t) (pos (nt t) r) j) := by
  show V m c main_v75 (((cfg0.win 2).blk t).view.emb (ix2 r j : S512x1024.Idx)) = _
  rw [emb2, entry2 m c _ _ (by show (t.val * 512 + r.val) / 4096 < 4; have h : t.val < 32 := lt_of_lt_of_eq t.isLt steps; omega) (by omega), row_batch, row_pos]

theorem blk3 (c : Dev nD) (t : Fin cfg0.N) (r : Fin 512) (j : Fin 1024) : (blocks m c t).x3 (ix2 r j) = (args m c).a3 (ix3 (bt t) (pos (nt t) r) j) := by
  show V m c main_v76 (((cfg0.win 3).blk t).view.emb (ix2 r j : S512x1024.Idx)) = _
  rw [emb3, entry3 m c _ _ (by show (t.val * 512 + r.val) / 4096 < 4; have h : t.val < 32 := lt_of_lt_of_eq t.isLt steps; omega) (by omega), row_batch, row_pos]

theorem blk4 (c : Dev nD) (t : Fin cfg0.N) (k : Fin 512) (j : Fin 1024) : (blocks m c t).x4 (ix3 0 k j) = (args m c).a14 (ix3 0 k j) := by
  show V m c main_v63 (((cfg0.win 4).blk t).view.emb (ix3 0 k j : S1x512x1024.Idx)) = _
  rw [emb4, entry4]

theorem blk5 (c : Dev nD) (t : Fin cfg0.N) (k : Fin 1024) (j : Fin 1024) : (blocks m c t).x5 (ix3 0 k j) = (args m c).a15 (ix3 0 k j) := by
  show V m c main_v64 (((cfg0.win 5).blk t).view.emb (ix3 0 k j : S1x1024x1024.Idx)) = _
  rw [emb5, entry5]

theorem blk6 (c : Dev nD) (t : Fin cfg0.N) (j : Fin 1024) : (blocks m c t).x6 (ix3 0 0 j) = (args m c).a4 (ix2 1 j) := by
  show V m c main_v70 (((cfg0.win 6).blk t).view.emb (ix3 0 0 j : S1x1x1024.Idx)) = _
  rw [emb6, entry6]

theorem blk7 (c : Dev nD) (t : Fin cfg0.N) (i : Fin 4224) (x : Fin 1024) : (blocks m c t).x7 (ix3 0 i x) = wcol (args m c) x (col7 i) := by
  show V m c main_v53 (((cfg0.win 7).blk t).view.emb (ix3 0 i x : S1x4224x1024.Idx)) = _
  rw [emb7, entry7]

theorem blk8 (c : Dev nD) (t : Fin cfg0.N) (i : Fin 2) (j : Fin 1024) : (blocks m c t).x8 (ix3 0 i j) = (args m c).a6 (ix3 1 i j) := by
  show V m c main_arg6 (((cfg0.win 8).blk t).view.emb (ix3 0 i j : S1x2x1024.Idx)) = _
  rw [emb8, entry8]

theorem blk9 (c : Dev nD) (t : Fin cfg0.N) (j : Fin 512) : (blocks m c t).x9 (ix3 0 0 j) = (args m c).a7 (ix2 1 j) := by
  show V m c main_v71 (((cfg0.win 9).blk t).view.emb (ix3 0 0 j : S1x1x512.Idx)) = _
  rw [emb9, entry9]

theorem blk10 (c : Dev nD) (t : Fin cfg0.N) (j : Fin 512) : (blocks m c t).x10 (ix3 0 0 j) = (args m c).a8 (ix2 1 j) := by
  show V m c main_v72 (((cfg0.win 10).blk t).view.emb (ix3 0 0 j : S1x1x512.Idx)) = _
  rw [emb10, entry10]

theorem blk11 (c : Dev nD) (t : Fin cfg0.N) (g : Fin 4) (i x : Fin 128) : (blocks m c t).x11 (ix4 0 g i x) = (args m c).a9 (ix4 1 g i x) := by
  show V m c main_arg9 (((cfg0.win 11).blk t).view.emb (ix4 0 g i x : S1x4x128x128.Idx)) = _
  rw [emb11, entry11]

theorem blk12 (c : Dev nD) (t : Fin cfg0.N) (i : Fin 128) (j : Fin 512) : (blocks m c t).x12 (ix3 0 i j) = (args m c).a10 (ix3 1 ⟨j.val / 128, by omega⟩ i) := by
  show V m c main_v67 (((cfg0.win 12).blk t).view.emb (ix3 0 i j : S1x128x512.Idx)) = _
  rw [emb12, entry12]

theorem blk13 (c : Dev nD) (t : Fin cfg0.N) (j : Fin 128) : (blocks m c t).x13 (ix3 0 0 j) = gk (args m c) j := by
  show V m c main_v68 (((cfg0.win 13).blk t).view.emb (ix3 0 0 j : S1x1x128.Idx)) = _
  rw [emb13, entry13]

theorem blk14 (c : Dev nD) (t : Fin cfg0.N) (k : Fin 512) (j : Fin 1024) : (blocks m c t).x14 (ix3 0 k j) = (args m c).a13 (ix3 1 k j) := by
  show V m c main_v62 (((cfg0.win 14).blk t).view.emb (ix3 0 k j : S1x512x1024.Idx)) = _
  rw [emb14, entry14]

theorem blk15 (c : Dev nD) (t : Fin cfg0.N) (r : Fin 512) (j : Fin 128) : (blocks m c t).x15 (ix2 r j) = if j.val < 64 then cq (pos (nt t) r) j.val else cq (pos (nt t) r) (j.val - 64) := by
  show V m c main_v36 (((cfg0.win 15).blk t).view.emb (ix2 r j : S512x128.Idx)) = _
  rw [emb15, entry15]

theorem blk16 (c : Dev nD) (t : Fin cfg0.N) (r : Fin 512) (j : Fin 128) : (blocks m c t).x16 (ix2 r j) = if j.val < 64 then -sq (pos (nt t) r) j.val else sq (pos (nt t) r) (j.val - 64) := by
  show V m c main_v38 (((cfg0.win 16).blk t).view.emb (ix2 r j : S512x128.Idx)) = _
  rw [emb16, entry16]

theorem blk17 (c : Dev nD) (t : Fin cfg0.N) (r : Fin 512) (j : Fin 128) (hj : j.val < 64) : (blocks m c t).x17 (ix2 r j) = if j.val < 32 then ci (pos (nt t) r) j.val else ci (pos (nt t) r) (j.val - 32) := by
  show V m c main_v39 (((cfg0.win 17).blk t).view.emb (ix2 r j : S512x128.Idx)) = _
  rw [emb17, entry17 m c _ _ hj]

theorem blk18 (c : Dev nD) (t : Fin cfg0.N) (r : Fin 512) (j : Fin 128) (hj : j.val < 64) : (blocks m c t).x18 (ix2 r j) = if j.val < 32 then -si (pos (nt t) r) j.val else si (pos (nt t) r) (j.val - 32) := by
  show V m c main_v42 (((cfg0.win 18).blk t).view.emb (ix2 r j : S512x128.Idx)) = _
  rw [emb18, entry18 m c _ _ hj]

theorem blk19 (c : Dev nD) (t : Fin cfg0.N) (i : Fin 2048) (x : Fin 1024) : (blocks m c t).x19 (ix3 0 i x) = wcol (args m c) x (col19 i) := by
  show V m c main_v57 (((cfg0.win 19).blk t).view.emb (ix3 0 i x : S1x2048x1024.Idx)) = _
  rw [emb19, entry19]

theorem blk20 (c : Dev nD) (t : Fin cfg0.N) (i : Fin 16) (x : Fin 1024) : (blocks m c t).x20 (ix3 0 i x) = if i.val < 8 then wcol (args m c) x (4160 + i) else 0 := by
  show V m c main_v61 (((cfg0.win 20).blk t).view.emb (ix3 0 i x : S1x16x1024.Idx)) = _
  rw [emb20, entry20]

theorem blk21 (c : Dev nD) (t : Fin cfg0.N) (j : Fin 128) : (blocks m c t).x21 (ix3 0 j 0) = gq (args m c) j := by
  show V m c main_v69 (((cfg0.win 21).blk t).view.emb (ix3 0 j 0 : S1x128x1.Idx)) = _
  rw [emb21, entry21]

theorem blk22 (c : Dev nD) (t : Fin cfg0.N) (j : Fin 64) (r : Fin 512) : (blocks m c t).x22 (ix2 j r) = cq (pos (nt t) r) j := by
  show V m c main_v43 (((cfg0.win 22).blk t).view.emb (ix2 j r : S64x512.Idx)) = _
  rw [emb22, entry22]

theorem blk23 (c : Dev nD) (t : Fin cfg0.N) (j : Fin 64) (r : Fin 512) : (blocks m c t).x23 (ix2 j r) = sq (pos (nt t) r) j := by
  show V m c main_v44 (((cfg0.win 23).blk t).view.emb (ix2 j r : S64x512.Idx)) = _
  rw [emb23, entry23]

theorem blk24 (c : Dev nD) (t : Fin cfg0.N) (j : Fin 32) (r : Fin 512) : (blocks m c t).x24 (ix2 j r) = ci (pos (nt t) r) j := by
  show V m c main_v45 (((cfg0.win 24).blk t).view.emb (ix2 j r : S32x512.Idx)) = _
  rw [emb24, entry24]

theorem blk25 (c : Dev nD) (t : Fin cfg0.N) (j : Fin 32) (r : Fin 512) : (blocks m c t).x25 (ix2 j r) = si (pos (nt t) r) j := by
  show V m c main_v46 (((cfg0.win 25).blk t).view.emb (ix2 j r : S32x512.Idx)) = _
  rw [emb25, entry25]

end Cert.Proof.Proj

end
-- ==== Proof.Proj.Give.lean ====
/- How the result windows of the call that closes a layer and projects the next one cut their arrays: a block that agrees with an array at its own places is that array's block, and the blocks cover the arrays. -/
module

public import proofs.«01_k».proof.Proof.Proj.Windows

@[expose] public section

set_option maxRecDepth 16384

noncomputable section

namespace Cert.Proof.Proj

open Cert.Kernel3Ideal Cert.Kernel3Ideal.Gen Idealize.ShloMosaic Idealize.ShloMosaic.TcCoe Idealize.ShloMosaic.Tactic
open Idealize.SL Idealize.SL.Sem
open Idealize.ShloMosaic.Pipeline (Dat Cfg Window)

theorem split2 {n0 n1 : ℕ} (i : (⟨2, ![n0, n1]⟩ : Shape).Idx) : ∃ (r : Fin n0) (j : Fin n1), i = ix2 r j := ⟨i 0, i 1, by
  funext a; match a with
  | ⟨0, _⟩ => rfl
  | ⟨1, _⟩ => rfl⟩

theorem split4 {n0 n1 n2 n3 : ℕ} (i : (⟨4, ![n0, n1, n2, n3]⟩ : Shape).Idx) : ∃ (b : Fin n0) (q : Fin n1) (e : Fin n2) (p : Fin n3), i = ix4 b q e p := ⟨i 0, i 1, i 2, i 3, by
  funext a; match a with
  | ⟨0, _⟩ => rfl
  | ⟨1, _⟩ => rfl
  | ⟨2, _⟩ => rfl
  | ⟨3, _⟩ => rfl⟩

/-- The block a row is in. -/
theorem row_of (r : Fin 16384) : ∃ (t : Fin cfg0.N) (p : Fin 512), row t p = r :=
  ⟨⟨r.val / 512, by rw [steps]; omega⟩, ⟨r.val % 512, by omega⟩, Fin.ext (by show r.val / 512 * 512 + r.val % 512 = r.val; omega)⟩

/-- The block a piece of a sequence is in. -/
theorem piece_of (b : Fin 4) (n : Fin 16) : ∃ (t : Fin cfg0.N) (q : Fin 2), bt t = b ∧ piece t q = n :=
  ⟨⟨b.val * 8 + n.val / 2, by rw [steps]; omega⟩, ⟨n.val % 2, by omega⟩,
    Fin.ext (by show (b.val * 8 + n.val / 2) / 8 = b.val; omega),
    Fin.ext (by show (b.val * 8 + n.val / 2) % 8 * 2 + n.val % 2 = n.val; omega)⟩

theorem cut26 (t : Fin cfg0.N) (o : FVec Ideal S512x1024 .f32) (a : FVec Ideal S16384x1024 .f32) (h : ∀ (r : Fin 512) (j : Fin 1024), o (ix2 r j) = a (ix2 (row t r) j)) :
    (cfg0.win 26).cut (grid0.coords t) o = ((cfg0.win 26).blk t).view.read (Elt Ideal) a := by
  funext (i : S512x1024.Idx)
  obtain ⟨r, j, rfl⟩ := split2 i
  show o (ix2 r j) = a (((cfg0.win 26).blk t).view.emb (ix2 r j : S512x1024.Idx))
  rw [emb26, h]

theorem covered26 (i : S16384x1024.Idx) : ∃ t : Fin cfg0.N, (cfg0.win 26).flush t = true ∧ i ∈ ((cfg0.win 26).blk t).view.set := by
  obtain ⟨r, j, rfl⟩ := split2 i
  obtain ⟨t, p, rfl⟩ := row_of r
  refine ⟨t, flush0_26 _, ?_⟩
  have h := ((cfg0.win 26).blk t).view.emb_mem_set (ix2 p j : S512x1024.Idx)
  rwa [emb26] at h

theorem cut27 (t : Fin cfg0.N) (o : FVec Ideal S512x1024 .bf16) (a : FVec Ideal S16384x1024 .bf16) (h : ∀ (r : Fin 512) (j : Fin 1024), o (ix2 r j) = a (ix2 (row t r) j)) :
    (cfg0.win 27).cut (grid0.coords t) o = ((cfg0.win 27).blk t).view.read (Elt Ideal) a := by
  funext (i : S512x1024.Idx)
  obtain ⟨r, j, rfl⟩ := split2 i
  show o (ix2 r j) = a (((cfg0.win 27).blk t).view.emb (ix2 r j : S512x1024.Idx))
  rw [emb27, h]

theorem covered27 (i : S16384x1024.Idx) : ∃ t : Fin cfg0.N, (cfg0.win 27).flush t = true ∧ i ∈ ((cfg0.win 27).blk t).view.set := by
  obtain ⟨r, j, rfl⟩ := split2 i
  obtain ⟨t, p, rfl⟩ := row_of r
  refine ⟨t, flush0_27 _, ?_⟩
  have h := ((cfg0.win 27).blk t).view.emb_mem_set (ix2 p j : S512x1024.Idx)
  rwa [emb27] at h

theorem cut28 (t : Fin cfg0.N) (o : FVec Ideal S512x1024 .bf16) (a : FVec Ideal S16384x1024 .bf16) (h : ∀ (r : Fin 512) (j : Fin 1024), o (ix2 r j) = a (ix2 (row t r) j)) :
    (cfg0.win 28).cut (grid0.coords t) o = ((cfg0.win 28).blk t).view.read (Elt Ideal) a := by
  funext (i : S512x1024.Idx)
  obtain ⟨r, j, rfl⟩ := split2 i
  show o (ix2 r j) = a (((cfg0.win 28).blk t).view.emb (ix2 r j : S512x1024.Idx))
  rw [emb28, h]

theorem covered28 (i : S16384x1024.Idx) : ∃ t : Fin cfg0.N, (cfg0.win 28).flush t = true ∧ i ∈ ((cfg0.win 28).blk t).view.set := by
  obtain ⟨r, j, rfl⟩ := split2 i
  obtain ⟨t, p, rfl⟩ := row_of r
  refine ⟨t, flush0_28 _, ?_⟩
  have h := ((cfg0.win 28).blk t).view.emb_mem_set (ix2 p j : S512x1024.Idx)
  rwa [emb28] at h

theorem cut29 (t : Fin cfg0.N) (o : FVec Ideal S512x512 .bf16) (a : FVec Ideal S16384x512 .bf16) (h : ∀ (r : Fin 512) (j : Fin 512), o (ix2 r j) = a (ix2 (row t r) j)) :
    (cfg0.win 29).cut (grid0.coords t) o = ((cfg0.win 29).blk t).view.read (Elt Ideal) a := by
  funext (i : S512x512.Idx)
  obtain ⟨r, j, rfl⟩ := split2 i
  show o (ix2 r j) = a (((cfg0.win 29).blk t).view.emb (ix2 r j : S512x512.Idx))
  rw [emb29, h]

theorem covered29 (i : S16384x512.Idx) : ∃ t : Fin cfg0.N, (cfg0.win 29).flush t = true ∧ i ∈ ((cfg0.win 29).blk t).view.set := by
  obtain ⟨r, j, rfl⟩ := split2 i
  obtain ⟨t, p, rfl⟩ := row_of r
  refine ⟨t, flush0_29 _, ?_⟩
  have h := ((cfg0.win 29).blk t).view.emb_mem_set (ix2 p j : S512x512.Idx)
  rwa [emb29] at h

theorem cut30 (t : Fin cfg0.N) (o : FVec Ideal S512x64 .bf16) (a : FVec Ideal S16384x64 .bf16) (h : ∀ (r : Fin 512) (j : Fin 64), o (ix2 r j) = a (ix2 (row t r) j)) :
    (cfg0.win 30).cut (grid0.coords t) o = ((cfg0.win 30).blk t).view.read (Elt Ideal) a := by
  funext (i : S512x64.Idx)
  obtain ⟨r, j, rfl⟩ := split2 i
  show o (ix2 r j) = a (((cfg0.win 30).blk t).view.emb (ix2 r j : S512x64.Idx))
  rw [emb30, h]

theorem covered30 (i : S16384x64.Idx) : ∃ t : Fin cfg0.N, (cfg0.win 30).flush t = true ∧ i ∈ ((cfg0.win 30).blk t).view.set := by
  obtain ⟨r, j, rfl⟩ := split2 i
  obtain ⟨t, p, rfl⟩ := row_of r
  refine ⟨t, flush0_30 _, ?_⟩
  have h := ((cfg0.win 30).blk t).view.emb_mem_set (ix2 p j : S512x64.Idx)
  rwa [emb30] at h

theorem cut31 (t : Fin cfg0.N) (o : FVec Ideal S1x2x512x256 .bf16) (a : FVec Ideal S4x16x512x256 .bf16) (h : ∀ (q : Fin 2) (e : Fin 512) (p : Fin 256), o (ix4 0 q e p) = a (ix4 (bt t) (piece t q) e p)) :
    (cfg0.win 31).cut (grid0.coords t) o = ((cfg0.win 31).blk t).view.read (Elt Ideal) a := by
  funext (i : S1x2x512x256.Idx)
  obtain ⟨b, q, e, p, rfl⟩ := split4 i
  obtain rfl : b = 0 := Subsingleton.elim _ _
  show o (ix4 0 q e p) = a (((cfg0.win 31).blk t).view.emb (ix4 0 q e p : S1x2x512x256.Idx))
  rw [emb31, h]

theorem covered31 (i : S4x16x512x256.Idx) : ∃ t : Fin cfg0.N, (cfg0.win 31).flush t = true ∧ i ∈ ((cfg0.win 31).blk t).view.set := by
  obtain ⟨b, n, e, p, rfl⟩ := split4 i
  obtain ⟨t, q, rfl, rfl⟩ := piece_of b n
  refine ⟨t, flush0_31 _, ?_⟩
  have h := ((cfg0.win 31).blk t).view.emb_mem_set (ix4 0 q e p : S1x2x512x256.Idx)
  rwa [emb31] at h

theorem cut32 (t : Fin cfg0.N) (o : FVec Ideal S1x2x512x256 .bf16) (a : FVec Ideal S4x16x512x256 .bf16) (h : ∀ (q : Fin 2) (e : Fin 512) (p : Fin 256), o (ix4 0 q e p) = a (ix4 (bt t) (piece t q) e p)) :
    (cfg0.win 32).cut (grid0.coords t) o = ((cfg0.win 32).blk t).view.read (Elt Ideal) a := by
  funext (i : S1x2x512x256.Idx)
  obtain ⟨b, q, e, p, rfl⟩ := split4 i
  obtain rfl : b = 0 := Subsingleton.elim _ _
  show o (ix4 0 q e p) = a (((cfg0.win 32).blk t).view.emb (ix4 0 q e p : S1x2x512x256.Idx))
  rw [emb32, h]

theorem covered32 (i : S4x16x512x256.Idx) : ∃ t : Fin cfg0.N, (cfg0.win 32).flush t = true ∧ i ∈ ((cfg0.win 32).blk t).view.set := by
  obtain ⟨b, n, e, p, rfl⟩ := split4 i
  obtain ⟨t, q, rfl, rfl⟩ := piece_of b n
  refine ⟨t, flush0_32 _, ?_⟩
  have h := ((cfg0.win 32).blk t).view.emb_mem_set (ix4 0 q e p : S1x2x512x256.Idx)
  rwa [emb32] at h

theorem cut33 (t : Fin cfg0.N) (o : FVec Ideal S1x2x512x256 .bf16) (a : FVec Ideal S4x16x512x256 .bf16) (h : ∀ (q : Fin 2) (e : Fin 512) (p : Fin 256), o (ix4 0 q e p) = a (ix4 (bt t) (piece t q) e p)) :
    (cfg0.win 33).cut (grid0.coords t) o = ((cfg0.win 33).blk t).view.read (Elt Ideal) a := by
  funext (i : S1x2x512x256.Idx)
  obtain ⟨b, q, e, p, rfl⟩ := split4 i
  obtain rfl : b = 0 := Subsingleton.elim _ _
  show o (ix4 0 q e p) = a (((cfg0.win 33).blk t).view.emb (ix4 0 q e p : S1x2x512x256.Idx))
  rw [emb33, h]

theorem covered33 (i : S4x16x512x256.Idx) : ∃ t : Fin cfg0.N, (cfg0.win 33).flush t = true ∧ i ∈ ((cfg0.win 33).blk t).view.set := by
  obtain ⟨b, n, e, p, rfl⟩ := split4 i
  obtain ⟨t, q, rfl, rfl⟩ := piece_of b n
  refine ⟨t, flush0_33 _, ?_⟩
  have h := ((cfg0.win 33).blk t).view.emb_mem_set (ix4 0 q e p : S1x2x512x256.Idx)
  rwa [emb33] at h

theorem cut34 (t : Fin cfg0.N) (o : FVec Ideal S1x2x512x256 .bf16) (a : FVec Ideal S4x16x512x256 .bf16) (h : ∀ (q : Fin 2) (e : Fin 512) (p : Fin 256), o (ix4 0 q e p) = a (ix4 (bt t) (piece t q) e p)) :
    (cfg0.win 34).cut (grid0.coords t) o = ((cfg0.win 34).blk t).view.read (Elt Ideal) a := by
  funext (i : S1x2x512x256.Idx)
  obtain ⟨b, q, e, p, rfl⟩ := split4 i
  obtain rfl : b = 0 := Subsingleton.elim _ _
  show o (ix4 0 q e p) = a (((cfg0.win 34).blk t).view.emb (ix4 0 q e p : S1x2x512x256.Idx))
  rw [emb34, h]

theorem covered34 (i : S4x16x512x256.Idx) : ∃ t : Fin cfg0.N, (cfg0.win 34).flush t = true ∧ i ∈ ((cfg0.win 34).blk t).view.set := by
  obtain ⟨b, n, e, p, rfl⟩ := split4 i
  obtain ⟨t, q, rfl, rfl⟩ := piece_of b n
  refine ⟨t, flush0_34 _, ?_⟩
  have h := ((cfg0.win 34).blk t).view.emb_mem_set (ix4 0 q e p : S1x2x512x256.Idx)
  rwa [emb34] at h

theorem cut35 (t : Fin cfg0.N) (o : FVec Ideal S1x2x16x256 .f32) (a : FVec Ideal S4x16x16x256 .f32) (h : ∀ (q : Fin 2) (e : Fin 16) (p : Fin 256), o (ix4 0 q e p) = a (ix4 (bt t) (piece t q) e p)) :
    (cfg0.win 35).cut (grid0.coords t) o = ((cfg0.win 35).blk t).view.read (Elt Ideal) a := by
  funext (i : S1x2x16x256.Idx)
  obtain ⟨b, q, e, p, rfl⟩ := split4 i
  obtain rfl : b = 0 := Subsingleton.elim _ _
  show o (ix4 0 q e p) = a (((cfg0.win 35).blk t).view.emb (ix4 0 q e p : S1x2x16x256.Idx))
  rw [emb35, h]

theorem covered35 (i : S4x16x16x256.Idx) : ∃ t : Fin cfg0.N, (cfg0.win 35).flush t = true ∧ i ∈ ((cfg0.win 35).blk t).view.set := by
  obtain ⟨b, n, e, p, rfl⟩ := split4 i
  obtain ⟨t, q, rfl, rfl⟩ := piece_of b n
  refine ⟨t, flush0_35 _, ?_⟩
  have h := ((cfg0.win 35).blk t).view.emb_mem_set (ix4 0 q e p : S1x2x16x256.Idx)
  rwa [emb35] at h

end Cert.Proof.Proj

end
-- ==== Proof.Proj.Holds.lean ====
/- What the input blocks of each point hold. -/
module

public import proofs.«01_k».proof.Proof.Proj.Windows

@[expose] public section

set_option maxRecDepth 16384

noncomputable section

namespace Cert.Proof.Proj

open Cert.Kernel3Ideal Cert.Kernel3Ideal.Gen Idealize.ShloMosaic Idealize.ShloMosaic.TcCoe Idealize.SL

variable (m : (ℓ : Loc nD τ sig) → Buf (Elt Ideal) ℓ)

/-- What the blocks of a point hold. -/
theorem reads (c : Dev nD) (t : Fin cfg0.N) : Reads (args m c) (blocks m c t) (bt t) (nt t) := by
  constructor
  case x0 => exact blk0 m c t
  case x1 => exact blk1 m c t
  case x2 => exact blk2 m c t
  case x3 => exact blk3 m c t
  case x4 => exact blk4 m c t
  case x5 => exact blk5 m c t
  case x6 => exact blk6 m c t
  case x7 => exact blk7 m c t
  case x8 => exact blk8 m c t
  case x9 => exact blk9 m c t
  case x10 => exact blk10 m c t
  case x11 => exact blk11 m c t
  case x12 => exact blk12 m c t
  case x13 => exact blk13 m c t
  case x14 => exact blk14 m c t
  case x15 => exact blk15 m c t
  case x16 => exact blk16 m c t
  case x17 => exact blk17 m c t
  case x18 => exact blk18 m c t
  case x19 => exact blk19 m c t
  case x20 => exact blk20 m c t
  case x21 => exact blk21 m c t
  case x22 => exact blk22 m c t
  case x23 => exact blk23 m c t
  case x24 => exact blk24 m c t
  case x25 => exact blk25 m c t

end Cert.Proof.Proj

end
-- ==== Proof.Proj.Again.lean ====
/- The second 256 rows of a block go through the operations that the first do. -/
module

public import proofs.«01_k».proof.Proof.Gen.Kernel3Ideal.Skeleton

@[expose] public section

set_option maxRecDepth 16384

noncomputable section

namespace Cert.Proof.Proj

open Cert.Kernel3Ideal Cert.Kernel3Ideal.Gen Idealize.ShloMosaic

variable {F : FTy → Type} [FloatOps F]

theorem again131 : k0_pay131 (F := F) = k0_pay12 := rfl
theorem again132 : k0_pay132 (F := F) = k0_pay13 := rfl
theorem again133 : k0_pay133 (F := F) = k0_pay14 := rfl
theorem again134 : k0_pay134 (F := F) = k0_pay15 := rfl
theorem again135 : k0_pay135 (F := F) = k0_pay16 := rfl
theorem again136 : k0_pay136 (F := F) = k0_pay17 := rfl
theorem again137 : k0_pay137 (F := F) = k0_pay18 := rfl
theorem again138 : k0_pay138 (F := F) = k0_pay19 := rfl
theorem again139 : k0_pay139 (F := F) = k0_pay20 := rfl
theorem again140 : k0_pay140 (F := F) = k0_pay21 := rfl
theorem again141 : k0_pay141 (F := F) = k0_pay22 := rfl
theorem again142 : k0_pay142 (F := F) = k0_pay23 := rfl
theorem again143 : k0_pay143 (F := F) = k0_pay24 := rfl
theorem again144 : k0_pay144 (F := F) = k0_pay25 := rfl
theorem again145 : k0_pay145 (F := F) = k0_pay26 := rfl
theorem again146 : k0_pay146 (F := F) = k0_pay27 := rfl
theorem again147 : k0_pay147 (F := F) = k0_pay28 := rfl
theorem again148 : k0_pay148 (F := F) = k0_pay29 := rfl
theorem again149 : k0_pay149 (F := F) = k0_pay30 := rfl
theorem again150 : k0_pay150 (F := F) = k0_pay31 := rfl
theorem again151 : k0_pay151 (F := F) = k0_pay32 := rfl
theorem again152 : k0_pay152 (F := F) = k0_pay33 := rfl
theorem again153 : k0_pay153 (F := F) = k0_pay34 := rfl
theorem again154 : k0_pay154 (F := F) = k0_pay35 := rfl
theorem again160 : k0_pay160 (F := F) = k0_pay41 := rfl
theorem again161 : k0_pay161 (F := F) = k0_pay42 := rfl
theorem again162 : k0_pay162 (F := F) = k0_pay43 := rfl
theorem again168 : k0_pay168 (F := F) = k0_pay49 := rfl
theorem again169 : k0_pay169 (F := F) = k0_pay50 := rfl
theorem again170 : k0_pay170 (F := F) = k0_pay51 := rfl
theorem again176 : k0_pay176 (F := F) = k0_pay57 := rfl
theorem again177 : k0_pay177 (F := F) = k0_pay58 := rfl
theorem again178 : k0_pay178 (F := F) = k0_pay59 := rfl
theorem again184 : k0_pay184 (F := F) = k0_pay65 := rfl
theorem again185 : k0_pay185 (F := F) = k0_pay66 := rfl
theorem again186 : k0_pay186 (F := F) = k0_pay67 := rfl
theorem again187 : k0_pay187 (F := F) = k0_pay68 := rfl
theorem again188 : k0_pay188 (F := F) = k0_pay69 := rfl
theorem again189 : k0_pay189 (F := F) = k0_pay70 := rfl
theorem again190 : k0_pay190 (F := F) = k0_pay71 := rfl
theorem again192 : k0_pay192 (F := F) = k0_pay73 := rfl
theorem again193 : k0_pay193 (F := F) = k0_pay74 := rfl
theorem again194 : k0_pay194 (F := F) = k0_pay75 := rfl
theorem again196 : k0_pay196 (F := F) = k0_pay77 := rfl
theorem again197 : k0_pay197 (F := F) = k0_pay78 := rfl
theorem again203 : k0_pay203 (F := F) = k0_pay84 := rfl
theorem again204 : k0_pay204 (F := F) = k0_pay85 := rfl
theorem again210 : k0_pay210 (F := F) = k0_pay91 := rfl
theorem again211 : k0_pay211 (F := F) = k0_pay92 := rfl
theorem again214 : k0_pay214 (F := F) = k0_pay95 := rfl
theorem again215 : k0_pay215 (F := F) = k0_pay96 := rfl
theorem again217 : k0_pay217 (F := F) = k0_pay98 := rfl
theorem again218 : k0_pay218 (F := F) = k0_pay99 := rfl
theorem again219 : k0_pay219 (F := F) = k0_pay100 := rfl
theorem again225 : k0_pay225 (F := F) = k0_pay106 := rfl
theorem again226 : k0_pay226 (F := F) = k0_pay107 := rfl
theorem again228 : k0_pay228 (F := F) = k0_pay109 := rfl
theorem again229 : k0_pay229 (F := F) = k0_pay110 := rfl
theorem again230 : k0_pay230 (F := F) = k0_pay111 := rfl
theorem again231 : k0_pay231 (F := F) = k0_pay112 := rfl
theorem again232 : k0_pay232 (F := F) = k0_pay113 := rfl
theorem again233 : k0_pay233 (F := F) = k0_pay114 := rfl
theorem again234 : k0_pay234 (F := F) = k0_pay115 := rfl
theorem again240 : k0_pay240 (F := F) = k0_pay121 := rfl
theorem again241 : k0_pay241 (F := F) = k0_pay122 := rfl
theorem again243 : k0_pay243 (F := F) = k0_pay124 := rfl
theorem again244 : k0_pay244 (F := F) = k0_pay125 := rfl
theorem again247 : k0_pay247 (F := F) = k0_pay128 := rfl
theorem again248 (a b c d) : k0_pay1 (k0_pay248 (F := F) a b c d) = k0_pay129 a b c d := rfl
theorem again2 : k0_pay2 (F := F) = k0_pay130 := rfl

end Cert.Proof.Proj

end
-- ==== Proof.Proj.PayA.lean ====
/- What branch A's stores hold, read at an index, from the projected rows `p` of a block; and the residual stream and its norm. -/
module

public import proofs.«01_k».proof.Proof.Proj.RefAt
public import proofs.«01_k».proof.Proof.Proj.Again
public import Idealize.ShloMosaic.Lib.Pointwise

@[expose] public section

set_option maxRecDepth 16384

noncomputable section

namespace Cert.Proof.Proj

open Cert.Kernel3Ideal Cert.Kernel3Ideal.Gen Idealize.ShloMosaic

/-- The residual stream after the previous layer. -/
theorem stream (a b c d e f) (r : Fin 256) (j : Fin 1024) :
    k0_pay15 (F := Ideal) (k0_pay12 a) (k0_pay13 b) (k0_pay14 c) d e f (ix2 r j)
      = a (ix2 r j) + ∑ x : Fin 1024, (c (ix2 r x) + d (ix2 r x) * ∑ k : Fin 512, b (ix2 r k) * e (ix3 0 k x)) * f (ix3 0 x j) := by
  unfold_payloads
  pointwise

/-- And its norm. -/
theorem norm (y : Fin 256 → Fin 1024 → EReal) (a b c d e f g) (hy : ∀ r j, k0_pay15 (F := Ideal) a b c d e f (ix2 r j) = y r j)
    (r : Fin 256) (j : Fin 1024) : k0_pay16 (F := Ideal) a b c d e f g (ix2 r j)
      = y r j * rr 1149239296#32 (∑ k : Fin 1024, y r k * y r k) * g (ix3 0 0 j) := by
  rw [k0_pay16]
  generalize k0_pay15 (F := Ideal) a b c d e f = x at hy
  rw [rr]
  pointwise
  simp only [hy]

theorem gelu_eq (x : EReal) : x * (Ideal.ofBits .f32 1056964608#32 * (1 + Ideal.tanh (Ideal.ofBits .f32 1061962282#32
    * (x + Ideal.ofBits .f32 1027024659#32 * (x * (x * x)))))) = gelu x := by
  rw [gelu, mul_assoc x x x]

variable (p : Fin 256 → ℕ → EReal)

theorem pay17_at (a b c d e f g w) (hp : ∀ (r : Fin 256) (i : Fin 512), ∑ x : Fin 1024, k0_pay16 (F := Ideal) a b c d e f g (ix2 r x) * w (ix3 0 i x) = p r (512 + i))
    (r : Fin 256) (i : Fin 512) : k0_pay17 (F := Ideal) a b c d e f g w (ix2 r i) = p r (512 + i) := by
  rw [← hp, k0_pay17]
  generalize k0_pay16 (F := Ideal) a b c d e f g = x
  pointwise

theorem pay18_at (a b c d e f g w) (hp : ∀ (r : Fin 256) (i : Fin 512), ∑ x : Fin 1024, k0_pay16 (F := Ideal) a b c d e f g (ix2 r x) * w (ix3 0 i x) = p r (512 + i))
    (r : Fin 256) (i : Fin 512) : k0_pay18 (F := Ideal) a b c d e f g w (ix2 r i)
      = p r (512 + i) + Ideal.ofBits .f32 1027024659#32 * (p r (512 + i) * (p r (512 + i) * p r (512 + i))) := by
  have h := pay17_at p a b c d e f g w hp
  rw [k0_pay18]
  generalize k0_pay17 (F := Ideal) a b c d e f g w = x at h
  pointwise
  simp only [h]

theorem pay19_at (a b c d) (ha : ∀ (r : Fin 256) (i : Fin 512), a (ix2 r i) = p r (512 + i))
    (hb : ∀ (r : Fin 256) (i : Fin 512), b (ix2 r i) = p r (512 + i) + Ideal.ofBits .f32 1027024659#32 * (p r (512 + i) * (p r (512 + i) * p r (512 + i))))
    (r : Fin 256) (j : Fin 512) : k0_pay19 (F := Ideal) a b c d (ix2 r j) = vn (p r) (fun k => c (ix3 0 0 k)) (fun k => d (ix3 0 0 k)) j := by
  rw [k0_pay19]
  pointwise
  simp only [ha, hb, gelu_eq]
  rfl

/-- The chunk of position `n`, by the kernel's words. -/
def chunkWord (n : BitVec 32) : BitVec 32 :=
  Scalar.select
      (IntOp.andi
        (IntOp.cmpi .ne (IntOp.subi (BitVec.setWidth 32 (IntOp.cmpi .sgt n 0#32)) (BitVec.setWidth 32 (IntOp.cmpi .slt n 0#32)))
          (Scalar.subi (Scalar.extui (Scalar.cmpi .sgt 64#32 0#32)) (Scalar.extui (Scalar.cmpi .slt 64#32 0#32))))
        (IntOp.cmpi .ne (IntOp.remsi .vector n 64#32) 0#32))
      (IntOp.subi (IntOp.divsi .vector n 64#32) 1#32)
      (IntOp.divsi .vector n 64#32)

/-- The chunk of a position: the same words here and in the reference. -/
theorem chunkWord_at (i : Fin 128) : chunkWord (BitVec.ofNat 32 i.val) = Ref.chunkOf (ix1 i) := by
  pointwise [Ref.chunkOf, Ref.chunkQuot, Ref.chunkSize, Ref.chunkIota]
  revert i
  decide +kernel

theorem sees_at (i x : Fin 128) : k0_pay7 k0_pay3 k0_pay4 k0_pay5 k0_pay6 (ix2 i x) = sees i x := by
  rw [sees, ← chunkWord_at, ← chunkWord_at]
  unfold_payloads
  pointwise
  rfl

theorem mix0 (w) (i x : Fin 128) : k0_pay8 (F := Ideal) k0_pay3 k0_pay4 k0_pay5 k0_pay6 w (ix2 i x) = mixw (w (ix4 0 0 i x)) i x := by
  rw [k0_pay8, mixw, ← sees_at]
  generalize k0_pay7 k0_pay3 k0_pay4 k0_pay5 k0_pay6 = s
  pointwise

theorem mix1 (w) (i x : Fin 128) : k0_pay9 (F := Ideal) k0_pay3 k0_pay4 k0_pay5 k0_pay6 w (ix2 i x) = mixw (w (ix4 0 0 i x)) i x := by
  rw [k0_pay9, mixw, ← sees_at]
  generalize k0_pay7 k0_pay3 k0_pay4 k0_pay5 k0_pay6 = s
  pointwise

theorem mix2 (w) (i x : Fin 128) : k0_pay10 (F := Ideal) k0_pay3 k0_pay4 k0_pay5 k0_pay6 w (ix2 i x) = mixw (w (ix4 0 0 i x)) i x := by
  rw [k0_pay10, mixw, ← sees_at]
  generalize k0_pay7 k0_pay3 k0_pay4 k0_pay5 k0_pay6 = s
  pointwise

theorem mix3 (w) (i x : Fin 128) : k0_pay11 (F := Ideal) k0_pay3 k0_pay4 k0_pay5 k0_pay6 w (ix2 i x) = mixw (w (ix4 0 0 i x)) i x := by
  rw [k0_pay11, mixw, ← sees_at]
  generalize k0_pay7 k0_pay3 k0_pay4 k0_pay5 k0_pay6 = s
  pointwise

section Mix
variable (m0 m1 m2 m3 : FVec Ideal S128x128 .bf16) (mix : Fin 4 → Fin 128 → Fin 128 → EReal)
  (h0 : ∀ i x, m0 (ix2 i x) = mix 0 i x) (h1 : ∀ i x, m1 (ix2 i x) = mix 1 i x)
  (h2 : ∀ i x, m2 (ix2 i x) = mix 2 i x) (h3 : ∀ i x, m3 (ix2 i x) = mix 3 i x)
  (v : Fin 256 → Fin 512 → EReal)
include h0 h1 h2 h3

/-- Four groups of 128 columns side by side, each mixed by its own weights. -/
theorem four (i : Fin 128) (j : Fin 512) (y : Fin 128 → Fin 512 → EReal) :
    (if h : j.val < 128 then ∑ x : Fin 128, m0 (ix2 i x) * y x j
      else if h : j.val - 128 < 128 then ∑ x : Fin 128, m1 (ix2 i x) * y x ⟨128 + (j.val - 128), by omega⟩
      else if h : j.val - 128 - 128 < 128 then ∑ x : Fin 128, m2 (ix2 i x) * y x ⟨256 + (j.val - 128 - 128), by omega⟩
      else ∑ x : Fin 128, m3 (ix2 i x) * y x ⟨384 + (j.val - 128 - 128 - 128), by omega⟩)
      = ∑ x : Fin 128, y x j * mix ⟨j.val / 128, by omega⟩ i x := by
  have hj := j.isLt
  simp only [h0, h1, h2, h3]
  split_ifs with a b c
  · rw [show (⟨j.val / 128, by omega⟩ : Fin 4) = 0 from Fin.ext (by show j.val / 128 = 0; omega)]
    exact Finset.sum_congr rfl fun x _ => mul_comm _ _
  · rw [show (⟨j.val / 128, by omega⟩ : Fin 4) = 1 from Fin.ext (by show j.val / 128 = 1; omega),
      show (⟨128 + (j.val - 128), by omega⟩ : Fin 512) = j from Fin.ext (by show 128 + (j.val - 128) = j.val; omega)]
    exact Finset.sum_congr rfl fun x _ => mul_comm _ _
  · rw [show (⟨j.val / 128, by omega⟩ : Fin 4) = 2 from Fin.ext (by show j.val / 128 = 2; omega),
      show (⟨256 + (j.val - 128 - 128), by omega⟩ : Fin 512) = j from Fin.ext (by show 256 + (j.val - 128 - 128) = j.val; omega)]
    exact Finset.sum_congr rfl fun x _ => mul_comm _ _
  · rw [show (⟨j.val / 128, by omega⟩ : Fin 4) = 3 from Fin.ext (by show j.val / 128 = 3; omega),
      show (⟨384 + (j.val - 128 - 128 - 128), by omega⟩ : Fin 512) = j from Fin.ext (by show 384 + (j.val - 128 - 128 - 128) = j.val; omega)]
    exact Finset.sum_congr rfl fun x _ => mul_comm _ _

theorem pay20_at (a b c d) (hv : ∀ r j, k0_pay19 (F := Ideal) a b c d (ix2 r j) = v r j) (i : Fin 128) (j : Fin 512) :
    k0_pay20 (F := Ideal) m0 m1 m2 m3 a b c d (ix2 i j) = ∑ x : Fin 128, v ⟨x.val, by omega⟩ j * mix ⟨j.val / 128, by omega⟩ i x := by
  rw [k0_pay20]
  generalize k0_pay19 (F := Ideal) a b c d = y at hv
  pointwise
  simp only [hv]
  exact four m0 m1 m2 m3 mix h0 h1 h2 h3 i j fun x k => v ⟨x.val, by omega⟩ k

theorem pay21_at (p : Fin 256 → ℕ → EReal) (h y z bi w) (hy : ∀ r j, y (ix2 r j) = v r j)
    (hz : ∀ (i : Fin 128) (j : Fin 512), z (ix2 i j) = ∑ x : Fin 128, v ⟨x.val, by omega⟩ j * mix ⟨j.val / 128, by omega⟩ i x)
    (hp : ∀ (r : Fin 256) (i : Fin 512), ∑ x : Fin 1024, h (ix2 r x) * w (ix3 0 i x) = p r i)
    (r : Fin 256) (j : Fin 512) :
    k0_pay21 (F := Ideal) m0 m1 m2 m3 h y z bi bi w (ix2 r j)
      = gelu (p r j) * (∑ x : Fin 128, v ⟨r.val / 128 * 128 + x.val, by omega⟩ j * mix ⟨j.val / 128, by omega⟩ ⟨r.val % 128, by omega⟩ x
          + bi (ix3 0 ⟨r.val % 128, by omega⟩ j)) := by
  have hf := fun i j => four m0 m1 m2 m3 mix h0 h1 h2 h3 i j fun x k => v ⟨128 + x.val, by omega⟩ k
  rw [k0_pay21]
  pointwise
  simp only [hy, hz, hp, gelu_eq]
  congr 1
  by_cases hr : r.val < 128
  · rw [dif_pos hr]
    have e1 : (⟨r.val % 128, by omega⟩ : Fin 128) = ⟨r.val, hr⟩ := Fin.ext (Nat.mod_eq_of_lt hr)
    have e2 : ∀ x : Fin 128, (⟨r.val / 128 * 128 + x.val, by omega⟩ : Fin 256) = ⟨x.val, by omega⟩ := fun x =>
      Fin.ext (by show r.val / 128 * 128 + x.val = x.val; omega)
    simp only [e1, e2]
  · rw [dif_neg hr]
    refine Eq.trans (congrArg (· + _) (hf ⟨r.val - 128, by omega⟩ j)) ?_
    have e1 : (⟨r.val % 128, by omega⟩ : Fin 128) = ⟨r.val - 128, by omega⟩ := Fin.ext (by show r.val % 128 = r.val - 128; omega)
    have e2 : ∀ x : Fin 128, (⟨r.val / 128 * 128 + x.val, by omega⟩ : Fin 256) = ⟨128 + x.val, by omega⟩ := fun x =>
      Fin.ext (by show r.val / 128 * 128 + x.val = 128 + x.val; omega)
    simp only [e1, e2]

end Mix

theorem sila (p : Fin 256 → ℕ → EReal) (h w) (hp : ∀ (r : Fin 256) (i : Fin 512), ∑ x : Fin 1024, h (ix2 r x) * w (ix3 0 i x) = p r i) (r : Fin 256) (i : Fin 512) :
    k0_pay22 (F := Ideal) h w (ix2 r i) = p r i * Ideal.logistic (p r i) := by
  rw [← hp]; unfold_payloads; pointwise

theorem pay23_at (p : Fin 256 → ℕ → EReal) (h a b w e c) (hp : ∀ (r : Fin 256) (i : Fin 1024), ∑ x : Fin 1024, h (ix2 r x) * e (ix3 0 i x) = p r i)
    (r : Fin 256) (j : Fin 1024) :
    k0_pay23 (F := Ideal) h a b w e c (ix2 r j) = Ideal.logistic (p r j + c (ix3 0 0 j)) * ∑ x : Fin 512, a (ix2 r x) * b (ix2 r x) * w (ix3 0 x j) := by
  rw [← hp]; unfold_payloads; pointwise

end Cert.Proof.Proj

end
-- ==== Proof.Proj.PayK.lean ====
/- What the keys', the queries', the values' and the gates' stores hold, read at an index, from the projected rows `p` of a block. -/
module

public import proofs.«01_k».proof.Proof.Proj.RefAt
public import proofs.«01_k».proof.Proof.Proj.Again
public import Idealize.ShloMosaic.Lib.Pointwise

@[expose] public section

set_option maxRecDepth 16384

noncomputable section

namespace Cert.Proof.Proj

open Cert.Kernel3Ideal Cert.Kernel3Ideal.Gen Idealize.ShloMosaic

theorem rot_lo (n : ℕ) (p c s : ℕ → EReal) (d : ℕ) (h : d < n) : rot n p c s d = p d * c d - p (n + d) * s d := if_pos h

theorem rot_hi (n : ℕ) (p c s : ℕ → EReal) (d : ℕ) : rot n p c s (n + d) = p d * s d + p (n + d) * c d := by
  rw [rot, if_neg (by omega), Nat.add_sub_cancel_left]

/-- A rotation done by a roll: the other half of the row, times the sines signed. -/
theorem rot_of_roll (f c s : ℕ → EReal) (j : ℕ) (hj : j < 128) :
    f j * (if j < 64 then c j else c (j - 64)) + f ((j + 128 - 64) % 128) * (if j < 64 then -s j else s (j - 64)) = rot 64 f c s j := by
  by_cases h : j < 64
  · rw [if_pos h, if_pos h, rot_lo _ _ _ _ _ h, mul_neg, ← sub_eq_add_neg, show (j + 128 - 64) % 128 = 64 + j by omega]
  · rw [if_neg h, if_neg h, rot, if_neg h, show (j + 128 - 64) % 128 = j - 64 by omega, show 64 + (j - 64) = j by omega, add_comm]

/-- The same for rows of 64 held twice side by side. -/
theorem rot_of_roll_twice (f c s : ℕ → EReal) (j : ℕ) (hj : j < 64) :
    f (j % 64) * (if j < 32 then c j else c (j - 32)) + f ((j + 128 - 32) % 128 % 64) * (if j < 32 then -s j else s (j - 32)) = rot 32 f c s j := by
  rw [show j % 64 = j by omega]
  by_cases h : j < 32
  · rw [if_pos h, if_pos h, rot_lo _ _ _ _ _ h, mul_neg, ← sub_eq_add_neg, show (j + 128 - 32) % 128 % 64 = 32 + j by omega]
  · rw [if_neg h, if_neg h, rot, if_neg h, show (j + 128 - 32) % 128 % 64 = j - 32 by omega, show 32 + (j - 32) = j by omega, add_comm]

variable (p : Fin 256 → ℕ → EReal) (g : ℕ → EReal) (co si : Fin 256 → ℕ → EReal)

/-! The keys. -/

theorem pay25_at (h w) (hp : ∀ (r : Fin 256) (i : Fin 512), ∑ x : Fin 1024, h (ix2 r x) * w (ix3 0 i x) = p r i) (r : Fin 256) (i : Fin 512) :
    k0_pay25 (F := Ideal) h w (ix2 r i) = p r i := by
  rw [← hp]; unfold_payloads; pointwise

section Keys
variable (bk : FVec Ideal S256x512 .f32) (hb : ∀ r i, bk (ix2 r i) = p r (Fin.val i))
  (gv : Vec Ideal S1x1x128 .f32) (hg : ∀ j, gv (ix3 0 0 j) = g (Fin.val j))
  (c d : Vec Ideal S256x128 .f32) (hc : ∀ r j, c (ix2 r j) = if (Fin.val j) < 64 then co r j else co r (j - 64))
  (hd : ∀ r j, d (ix2 r j) = if (Fin.val j) < 64 then -si r j else si r (j - 64))
include hb hg hc hd

theorem key0 (r : Fin 256) (j : Fin 128) : k0_pay27 (F := Ideal) (extractStridedSlice S256x128 ![0, 0] bk slices_S256x512_o0_0_S256x128) gv c d (ix2 r j) = rot 64 (headNorm (p r) g 0) (co r) (si r) j := by
  rw [← rot_of_roll _ _ _ _ j.isLt, headNorm, headNorm, rr]
  unfold_payloads
  pointwise
  simp only [hb, hg, hc, hd]

theorem key1 (r : Fin 256) (j : Fin 128) : k0_pay29 (F := Ideal) (k0_pay28 bk gv) c d (ix2 r j) = rot 64 (headNorm (p r) g 128) (co r) (si r) j := by
  rw [← rot_of_roll _ _ _ _ j.isLt, headNorm, headNorm, rr]
  unfold_payloads
  pointwise
  simp only [hb, hg, hc, hd]

theorem key2 (r : Fin 256) (j : Fin 128) : k0_pay30 (F := Ideal) bk gv c d (ix2 r j) = rot 64 (headNorm (p r) g 256) (co r) (si r) j := by
  rw [← rot_of_roll _ _ _ _ j.isLt, headNorm, headNorm, rr]
  unfold_payloads
  pointwise
  simp only [hb, hg, hc, hd]

theorem key3 (r : Fin 256) (j : Fin 128) : k0_pay33 (F := Ideal) (k0_pay31 bk) (k0_pay32 gv) c d (ix2 r j) = rot 64 (headNorm (p r) g 384) (co r) (si r) j := by
  rw [← rot_of_roll _ _ _ _ j.isLt, headNorm, headNorm, rr]
  unfold_payloads
  pointwise
  simp only [hb, hg, hc, hd]

end Keys

theorem key_i (h w c d) (hp : ∀ (r : Fin 256) (i : Fin 128), ∑ x : Fin 1024, h (ix2 r x) * w (ix3 0 i x) = p r (i % 64))
    (hc : ∀ r (j : Fin 128), j.val < 64 → c (ix2 r j) = if (Fin.val j) < 32 then co r j else co r (j - 32))
    (hd : ∀ r (j : Fin 128), j.val < 64 → d (ix2 r j) = if (Fin.val j) < 32 then -si r j else si r (j - 32)) (r : Fin 256) (j : Fin 64) :
    k0_pay34 (F := Ideal) h w c d (ix2 r j) = rot 32 (p r) (co r) (si r) j := by
  rw [← rot_of_roll_twice _ _ _ _ j.isLt]
  unfold_payloads
  pointwise
  simp only [hp]
  rw [hc _ _ (by exact j.isLt), hd _ _ (by exact j.isLt)]

/-! The queries, by columns. -/

theorem pay35_at (h w) (hp : ∀ (r : Fin 256) (i : Fin 512), ∑ x : Fin 1024, h (ix2 r x) * w (ix3 0 i x) = p r i) (i : Fin 512) (r : Fin 256) :
    k0_pay35 (F := Ideal) h w (ix2 i r) = p r i := by
  rw [← hp]; simp only [mul_comm (h _)]; unfold_payloads; pointwise

theorem pay71_at (h w) (hp : ∀ (r : Fin 256) (i : Fin 512), ∑ x : Fin 1024, h (ix2 r x) * w (ix3 0 i x) = p r i) (i : Fin 512) (r : Fin 256) :
    k0_pay71 (F := Ideal) h w (ix2 i r) = p r i := by
  rw [← hp]; simp only [mul_comm (h _)]; unfold_payloads; pointwise

section Queries
variable (h : FVec Ideal S256x1024 .bf16) (w : Vec Ideal S1x512x1024 .bf16)
  (hp : ∀ (r : Fin 256) (i : Fin 512), ∑ x : Fin 1024, h (ix2 r x) * w (ix3 0 i x) = p r i)
  (gv : Vec Ideal S1x128x1 .f32) (hg : ∀ j, gv (ix3 0 j 0) = g (Fin.val j))
  (c d : Vec Ideal S64x256 .f32) (hc : ∀ j r, c (ix2 j r) = co r (Fin.val j)) (hd : ∀ j r, d (ix2 j r) = si r (Fin.val j))
include hp hg hc hd

theorem query0l (j : Fin 64) (r : Fin 256) : k0_pay41 (F := Ideal) h w gv c d (ix4 0 0 j r)
    = rot 64 (headNorm (p r) g 0) (co r) (si r) j * Ideal.ofBits .f32 1035273459#32 := by
  rw [rot_lo _ _ _ _ _ j.isLt, headNorm, headNorm, rr]
  have hq := pay35_at p h w hp
  generalize e : k0_pay35 (F := Ideal) h w = qt at hq
  unfold_payloads
  simp only [← k0_pay35.eq_1, e]
  pointwise
  simp only [hq, hg, hc, hd]

theorem query0h (j : Fin 64) (r : Fin 256) : k0_pay43 (F := Ideal) (k0_pay42 h w gv c d) (ix4 0 0 j r)
    = rot 64 (headNorm (p r) g 0) (co r) (si r) (64 + j) * Ideal.ofBits .f32 1035273459#32 := by
  rw [rot_hi, headNorm, headNorm, rr]
  have hq := pay35_at p h w hp
  generalize e : k0_pay35 (F := Ideal) h w = qt at hq
  unfold_payloads
  simp only [← k0_pay35.eq_1, e]
  pointwise
  simp only [hq, hg, hc, hd]

theorem query1l (j : Fin 64) (r : Fin 256) : k0_pay49 (F := Ideal) (k0_pay35 h w) gv c d (ix4 0 0 j r)
    = rot 64 (headNorm (p r) g 128) (co r) (si r) j * Ideal.ofBits .f32 1035273459#32 := by
  rw [rot_lo _ _ _ _ _ j.isLt, headNorm, headNorm, rr]
  have hq := pay35_at p h w hp
  generalize e : k0_pay35 (F := Ideal) h w = qt at hq
  unfold_payloads
  pointwise
  simp only [hq, hg, hc, hd]

theorem query1h (j : Fin 64) (r : Fin 256) : k0_pay51 (F := Ideal) (k0_pay50 (k0_pay35 h w) gv c d) (ix4 0 0 j r)
    = rot 64 (headNorm (p r) g 128) (co r) (si r) (64 + j) * Ideal.ofBits .f32 1035273459#32 := by
  rw [rot_hi, headNorm, headNorm, rr]
  have hq := pay35_at p h w hp
  generalize e : k0_pay35 (F := Ideal) h w = qt at hq
  unfold_payloads
  pointwise
  simp only [hq, hg, hc, hd]

theorem query2l (j : Fin 64) (r : Fin 256) : k0_pay57 (F := Ideal) (k0_pay35 h w) gv c d (ix4 0 0 j r)
    = rot 64 (headNorm (p r) g 256) (co r) (si r) j * Ideal.ofBits .f32 1035273459#32 := by
  rw [rot_lo _ _ _ _ _ j.isLt, headNorm, headNorm, rr]
  have hq := pay35_at p h w hp
  generalize e : k0_pay35 (F := Ideal) h w = qt at hq
  unfold_payloads
  pointwise
  simp only [hq, hg, hc, hd]

theorem query2h (j : Fin 64) (r : Fin 256) : k0_pay59 (F := Ideal) (k0_pay58 (k0_pay35 h w) gv c d) (ix4 0 0 j r)
    = rot 64 (headNorm (p r) g 256) (co r) (si r) (64 + j) * Ideal.ofBits .f32 1035273459#32 := by
  rw [rot_hi, headNorm, headNorm, rr]
  have hq := pay35_at p h w hp
  generalize e : k0_pay35 (F := Ideal) h w = qt at hq
  unfold_payloads
  pointwise
  simp only [hq, hg, hc, hd]

theorem query3l (j : Fin 64) (r : Fin 256) : k0_pay65 (F := Ideal) (k0_pay35 h w) gv c d (ix4 0 0 j r)
    = rot 64 (headNorm (p r) g 384) (co r) (si r) j * Ideal.ofBits .f32 1035273459#32 := by
  rw [rot_lo _ _ _ _ _ j.isLt, headNorm, headNorm, rr]
  have hq := pay35_at p h w hp
  generalize e : k0_pay35 (F := Ideal) h w = qt at hq
  unfold_payloads
  pointwise
  simp only [hq, hg, hc, hd]

theorem query3h (j : Fin 64) (r : Fin 256) : k0_pay68 (F := Ideal) (k0_pay66 (k0_pay35 h w) gv c d) (k0_pay67 (F := Ideal)) (ix4 0 0 j r)
    = rot 64 (headNorm (p r) g 384) (co r) (si r) (64 + j) * Ideal.ofBits .f32 1035273459#32 := by
  rw [rot_hi, headNorm, headNorm, rr]
  have hq := pay35_at p h w hp
  generalize e : k0_pay35 (F := Ideal) h w = qt at hq
  unfold_payloads
  pointwise
  simp only [hq, hg, hc, hd]

end Queries

end Cert.Proof.Proj

end
-- ==== Proof.Proj.PayR.lean ====
/- What the values', the gates' and the indexer's stores hold, read at an index, from the projected rows `p` of a block. -/
module

public import proofs.«01_k».proof.Proof.Proj.PayK
public import proofs.«01_k».proof.Proof.Proj.Again
public import Idealize.ShloMosaic.Lib.Pointwise

@[expose] public section

set_option maxRecDepth 16384

noncomputable section

namespace Cert.Proof.Proj

open Cert.Kernel3Ideal Cert.Kernel3Ideal.Gen Idealize.ShloMosaic

variable (p : Fin 256 → ℕ → EReal) (co si : Fin 256 → ℕ → EReal)

theorem value (h w) (hp : ∀ (r : Fin 256) (i : Fin 512), ∑ x : Fin 1024, h (ix2 r x) * w (ix3 0 i x) = p r i) (i : Fin 512) (r : Fin 256) :
    k0_pay69 (F := Ideal) h w (ix4 0 0 i r) = p r i := by
  rw [← hp]; simp only [mul_comm (h _)]; unfold_payloads; pointwise

theorem gate (h w) (hp : ∀ (r : Fin 256) (i : Fin 512), ∑ x : Fin 1024, h (ix2 r x) * w (ix3 0 i x) = p r i) (i : Fin 512) (r : Fin 256) :
    k0_pay70 (F := Ideal) h w (ix4 0 0 i r) = p r i * Ideal.logistic (p r i) := by
  rw [← hp]; simp only [mul_comm (h _)]; unfold_payloads; pointwise

theorem weight (h w) (r : Fin 256) (i : Fin 16) :
    k0_pay130 (F := Ideal) h w (ix4 0 0 i r) = ∑ x : Fin 1024, h (ix2 r x) * w (ix3 0 i x) := by
  simp only [mul_comm (h _)]; unfold_payloads; pointwise

theorem sigB (h w c) (hp : ∀ (r : Fin 256) (i : Fin 1024), ∑ x : Fin 1024, h (ix2 r x) * w (ix3 0 i x) = p r i) (r : Fin 256) (j : Fin 1024) :
    k0_pay24 (F := Ideal) h w c (ix2 r j) = Ideal.logistic (p r j + c (ix3 0 0 j)) := by
  rw [← hp]; unfold_payloads; pointwise

section Indexer
variable (h : FVec Ideal S256x1024 .bf16) (w : Vec Ideal S1x512x1024 .bf16)
  (hp : ∀ (r : Fin 256) (i : Fin 512), ∑ x : Fin 1024, h (ix2 r x) * w (ix3 0 i x) = p r i)
  (c d : Vec Ideal S32x256 .f32) (hc : ∀ j r, c (ix2 j r) = co r (Fin.val j)) (hd : ∀ j r, d (ix2 j r) = si r (Fin.val j))
include hp hc hd

theorem indexer0l (j : Fin 32) (r : Fin 256) : k0_pay77 (F := Ideal) (k0_pay73 h w) (k0_pay74 h w) (k0_pay75 c) d (ix4 0 0 j r)
    = rot 32 (fun i => p r (0 + i)) (co r) (si r) j := by
  rw [rot_lo _ _ _ _ _ j.isLt]
  have hq := pay71_at p h w hp
  generalize e : k0_pay71 (F := Ideal) h w = qi at hq
  unfold_payloads
  simp only [← k0_pay71.eq_1, e]
  pointwise
  simp only [hq, hc, hd, Nat.zero_add]

theorem indexer0h (j : Fin 32) (r : Fin 256) : k0_pay78 (F := Ideal) (k0_pay73 h w) (k0_pay74 h w) (k0_pay75 c) d (ix4 0 0 j r)
    = rot 32 (fun i => p r (0 + i)) (co r) (si r) (32 + j) := by
  rw [rot_hi]
  have hq := pay71_at p h w hp
  generalize e : k0_pay71 (F := Ideal) h w = qi at hq
  unfold_payloads
  simp only [← k0_pay71.eq_1, e]
  pointwise
  simp only [hq, hc, hd, Nat.zero_add]

theorem indexer1l (j : Fin 32) (r : Fin 256) : k0_pay84 (k0_pay71 (F := Ideal) h w) c d (ix4 0 0 j r)
    = rot 32 (fun i => p r (64 + i)) (co r) (si r) j := by
  rw [rot_lo _ _ _ _ _ j.isLt]
  have hq := pay71_at p h w hp
  generalize k0_pay71 (F := Ideal) h w = qi at hq
  unfold_payloads
  pointwise
  simp only [hq, hc, hd]

theorem indexer1h (j : Fin 32) (r : Fin 256) : k0_pay85 (k0_pay71 (F := Ideal) h w) c d (ix4 0 0 j r)
    = rot 32 (fun i => p r (64 + i)) (co r) (si r) (32 + j) := by
  rw [rot_hi]
  have hq := pay71_at p h w hp
  generalize k0_pay71 (F := Ideal) h w = qi at hq
  unfold_payloads
  pointwise
  simp only [hq, hc, hd]

theorem indexer2l (j : Fin 32) (r : Fin 256) : k0_pay91 (k0_pay71 (F := Ideal) h w) c d (ix4 0 0 j r)
    = rot 32 (fun i => p r (128 + i)) (co r) (si r) j := by
  rw [rot_lo _ _ _ _ _ j.isLt]
  have hq := pay71_at p h w hp
  generalize k0_pay71 (F := Ideal) h w = qi at hq
  unfold_payloads
  pointwise
  simp only [hq, hc, hd]

theorem indexer2h (j : Fin 32) (r : Fin 256) : k0_pay92 (k0_pay71 (F := Ideal) h w) c d (ix4 0 0 j r)
    = rot 32 (fun i => p r (128 + i)) (co r) (si r) (32 + j) := by
  rw [rot_hi]
  have hq := pay71_at p h w hp
  generalize k0_pay71 (F := Ideal) h w = qi at hq
  unfold_payloads
  pointwise
  simp only [hq, hc, hd]

theorem indexer3l (j : Fin 32) (r : Fin 256) : k0_pay98 (k0_pay71 (F := Ideal) h w) c d (ix4 0 0 j r)
    = rot 32 (fun i => p r (192 + i)) (co r) (si r) j := by
  rw [rot_lo _ _ _ _ _ j.isLt]
  have hq := pay71_at p h w hp
  generalize k0_pay71 (F := Ideal) h w = qi at hq
  unfold_payloads
  pointwise
  simp only [hq, hc, hd]

theorem indexer3h (j : Fin 32) (r : Fin 256) : k0_pay100 (k0_pay95 (k0_pay71 (F := Ideal) h w)) (k0_pay96 c) (k0_pay99 (k0_pay71 (F := Ideal) h w) d) (ix4 0 0 j r)
    = rot 32 (fun i => p r (192 + i)) (co r) (si r) (32 + j) := by
  rw [rot_hi]
  have hq := pay71_at p h w hp
  generalize k0_pay71 (F := Ideal) h w = qi at hq
  unfold_payloads
  pointwise
  simp only [hq, hc, hd]

theorem indexer4l (j : Fin 32) (r : Fin 256) : k0_pay106 (k0_pay71 (F := Ideal) h w) c d (ix4 0 0 j r)
    = rot 32 (fun i => p r (256 + i)) (co r) (si r) j := by
  rw [rot_lo _ _ _ _ _ j.isLt]
  have hq := pay71_at p h w hp
  generalize k0_pay71 (F := Ideal) h w = qi at hq
  unfold_payloads
  pointwise
  simp only [hq, hc, hd]

theorem indexer4h (j : Fin 32) (r : Fin 256) : k0_pay107 (k0_pay71 (F := Ideal) h w) c d (ix4 0 0 j r)
    = rot 32 (fun i => p r (256 + i)) (co r) (si r) (32 + j) := by
  rw [rot_hi]
  have hq := pay71_at p h w hp
  generalize k0_pay71 (F := Ideal) h w = qi at hq
  unfold_payloads
  pointwise
  simp only [hq, hc, hd]

theorem indexer5l (j : Fin 32) (r : Fin 256) : k0_pay114 (k0_pay113 (k0_pay71 (F := Ideal) h w) c d) (ix4 0 0 j r)
    = rot 32 (fun i => p r (320 + i)) (co r) (si r) j := by
  rw [rot_lo _ _ _ _ _ j.isLt]
  have hq := pay71_at p h w hp
  generalize k0_pay71 (F := Ideal) h w = qi at hq
  unfold_payloads
  pointwise
  simp only [hq, hc, hd]

theorem indexer5h (j : Fin 32) (r : Fin 256) : k0_pay115 (k0_pay109 (k0_pay71 (F := Ideal) h w)) (k0_pay110 (k0_pay71 (F := Ideal) h w)) (k0_pay111 c) (k0_pay112 d) (ix4 0 0 j r)
    = rot 32 (fun i => p r (320 + i)) (co r) (si r) (32 + j) := by
  rw [rot_hi]
  have hq := pay71_at p h w hp
  generalize k0_pay71 (F := Ideal) h w = qi at hq
  unfold_payloads
  pointwise
  simp only [hq, hc, hd]

theorem indexer6l (j : Fin 32) (r : Fin 256) : k0_pay121 (k0_pay71 (F := Ideal) h w) c d (ix4 0 0 j r)
    = rot 32 (fun i => p r (384 + i)) (co r) (si r) j := by
  rw [rot_lo _ _ _ _ _ j.isLt]
  have hq := pay71_at p h w hp
  generalize k0_pay71 (F := Ideal) h w = qi at hq
  unfold_payloads
  pointwise
  simp only [hq, hc, hd]

theorem indexer6h (j : Fin 32) (r : Fin 256) : k0_pay122 (k0_pay71 (F := Ideal) h w) c d (ix4 0 0 j r)
    = rot 32 (fun i => p r (384 + i)) (co r) (si r) (32 + j) := by
  rw [rot_hi]
  have hq := pay71_at p h w hp
  generalize k0_pay71 (F := Ideal) h w = qi at hq
  unfold_payloads
  pointwise
  simp only [hq, hc, hd]

theorem indexer7l (j : Fin 32) (r : Fin 256) : k0_pay128 (k0_pay124 (k0_pay71 (F := Ideal) h w)) (k0_pay125 (k0_pay71 (F := Ideal) h w)) c d (ix4 0 0 j r)
    = rot 32 (fun i => p r (448 + i)) (co r) (si r) j := by
  rw [rot_lo _ _ _ _ _ j.isLt]
  have hq := pay71_at p h w hp
  generalize k0_pay71 (F := Ideal) h w = qi at hq
  unfold_payloads
  pointwise
  simp only [hq, hc, hd]

theorem indexer7h (j : Fin 32) (r : Fin 256) : k0_pay129 (k0_pay124 (k0_pay71 (F := Ideal) h w)) (k0_pay125 (k0_pay71 (F := Ideal) h w)) c d (ix4 0 0 j r)
    = rot 32 (fun i => p r (448 + i)) (co r) (si r) (32 + j) := by
  rw [rot_hi]
  have hq := pay71_at p h w hp
  generalize k0_pay71 (F := Ideal) h w = qi at hq
  unfold_payloads
  pointwise
  simp only [hq, hc, hd]

end Indexer

end Cert.Proof.Proj

end
-- ==== Proof.Proj.RefB.lean ====
/- The reference read at an index: the ten results, and what they share, as formulas over the normalized rows. -/
module

public import proofs.«01_k».proof.Proof.Proj.RefAt

@[expose] public section

set_option maxRecDepth 16384

noncomputable section

namespace Cert.Proof.Proj

open Cert.Reference3Ideal Cert.Reference3Ideal.Gen Idealize.ShloMosaic

variable (A : Args)

namespace Ref

theorem branchA_at (b : Fin 4) (s : Fin 4096) (j : Fin 1024) : branchA A (ix3 b s j) = ma A b s j := by
  rw [ma, P_eq A b s (4168 + j) (by omega)]
  pointwise [branchA]
  simp only [auPart_at, avCentred_at, azPart_at]
  refine congrArg (_ * ·) (Finset.sum_congr rfl fun x _ => congrArg (· * _) (congrArg₂ (· * ·) (congrArg₂ (· * ·) rfl (congrArg₂ (· + ·) (Finset.sum_congr rfl fun y _ => congrArg₂ (· * ·) rfl ?_) rfl)) rfl))
  rfl

theorem gM_at (r : Fin 16384) (j : Fin 1024) : gM A (ix2 r j) = ma A ⟨r.val / 4096, by omega⟩ ⟨r.val % 4096, by omega⟩ j := by
  rw [← branchA_at]; pointwise [gM]

end Ref

end Cert.Proof.Proj

end
-- ==== Proof.Proj.RefR.lean ====
/- The reference read at an index: the ten results, and what they share, as formulas over the normalized rows. -/
module

public import proofs.«01_k».proof.Proof.Proj.RefAt

@[expose] public section

set_option maxRecDepth 16384

noncomputable section

namespace Cert.Proof.Proj

open Cert.Reference3Ideal Cert.Reference3Ideal.Gen Idealize.ShloMosaic

variable (A : Args)

namespace Ref

/-- The indexer's queries, rotated. -/
def iqRot : FVec Ideal S4x4096x8x64 .f32 :=
  concatenate S4x4096x8x64 3 [⟨S4x4096x8x32, (subf (mulf (iqLo A) (broadcastInDim S4x4096x8x32 ![0, 1, 2, 3] bcast_S1x4096x1x32_S4x4096x8x32_0_1_2_3 (broadcastInDim S1x4096x1x32 ![1, 2, 3] bcast_S4096x1x32_S1x4096x1x32_1_2_3 cosR3))) (mulf (iqHi A) (broadcastInDim S4x4096x8x32 ![0, 1, 2, 3] bcast_S1x4096x1x32_S4x4096x8x32_0_1_2_3 (broadcastInDim S1x4096x1x32 ![1, 2, 3] bcast_S4096x1x32_S1x4096x1x32_1_2_3 sinR3))))⟩, ⟨S4x4096x8x32, (addf (mulf (iqLo A) (broadcastInDim S4x4096x8x32 ![0, 1, 2, 3] bcast_S1x4096x1x32_S4x4096x8x32_0_1_2_3 (broadcastInDim S1x4096x1x32 ![1, 2, 3] bcast_S4096x1x32_S1x4096x1x32_1_2_3 sinR3))) (mulf (iqHi A) (broadcastInDim S4x4096x8x32 ![0, 1, 2, 3] bcast_S1x4096x1x32_S4x4096x8x32_0_1_2_3 (broadcastInDim S1x4096x1x32 ![1, 2, 3] bcast_S4096x1x32_S1x4096x1x32_1_2_3 cosR3))))⟩] concatenates_S4x4096x8x32_S4x4096x8x32_S4x4096x8x64_d3

theorem gR_eq : gR A = truncf .bf16 (transpose S4x16x512x256 [0, 1, 3, 2] (shapeCast _ (shapeCast _ (iqRot A) shapeCasts_S4x4096x8x64_S4x4096x512) shapeCasts_S4x4096x512_S4x16x256x512) transposes_S4x16x256x512_S4x16x512x256_0_1_3_2) bitsLt_bf16_f32 := rfl

theorem iqRot_at (b : Fin 4) (s : Fin 4096) (h : Fin 8) (j : Fin 64) :
    iqRot A (ix4 b s h j) = rot 32 (fun k => P A b s (3584 + (h.val * 64 + k))) (ci s) (si s) j := by
  rw [← dite_eq_rot]
  pointwise [iqRot, cosR3, sinR3]
  simp only [iqLo_at, iqHi_at, ci_eq, si_eq]

theorem regroup (y : FVec Ideal S4x4096x8x64 .f32) (b : Fin 4) (n : Fin 16) (e : Fin 512) (p : Fin 256) :
    truncf (F := Ideal) .bf16 (transpose S4x16x512x256 [0, 1, 3, 2] (shapeCast _ (shapeCast _ y shapeCasts_S4x4096x8x64_S4x4096x512) shapeCasts_S4x4096x512_S4x16x256x512) transposes_S4x16x256x512_S4x16x512x256_0_1_3_2) bitsLt_bf16_f32 (ix4 b n e p)
      = y (ix4 b ⟨n.val * 256 + p.val, by omega⟩ ⟨e.val / 64, by omega⟩ ⟨e.val % 64, by omega⟩) := by
  pointwise

theorem gR_at (b : Fin 4) (n : Fin 16) (e : Fin 512) (p : Fin 256) : gR A (ix4 b n e p)
    = rot 32 (fun k => P A b ⟨n.val * 256 + p.val, by omega⟩ (3584 + (e.val / 64 * 64 + k)))
        (ci ⟨n.val * 256 + p.val, by omega⟩) (si ⟨n.val * 256 + p.val, by omega⟩) (e.val % 64) := by
  rw [gR_eq, regroup, iqRot_at]

end Ref

end Cert.Proof.Proj

end
-- ==== Proof.Proj.Tile.lean ====
/- What the body leaves in the ten result buffers, read at an index, in the reference's terms. -/
module

public import proofs.«01_k».proof.Proof.Proj.Reads
public import proofs.«01_k».proof.Proof.Proj.PayA
public import proofs.«01_k».proof.Proof.Proj.PayK
public import proofs.«01_k».proof.Proof.Proj.PayR
public import proofs.«01_k».proof.Proof.Proj.RefB
public import proofs.«01_k».proof.Proof.Proj.RefR
public import Idealize.ShloMosaic.Lib.Pipeline.ValueKit.Tiles

@[expose] public section

set_option maxRecDepth 16384

noncomputable section

namespace Cert.Proof.Proj

open Cert.Kernel3Ideal Cert.Kernel3Ideal.Gen Idealize.ShloMosaic

/-- A piece of a buffer of two axes, its indices by their places. -/
theorem tile2 {e : EltTy} {n0 n1 k0 k1 : ℕ} {i : Fin n0} {j : Fin n1} {v : Elt Ideal e} (o0 o1 : ℕ) (w : (⟨2, ![k0, k1]⟩ : Shape).Idx → Elt Ideal e)
    (h : ∀ (p : Fin k0) (q : Fin k1), i.val = o0 + p.val → j.val = o1 + q.val → w (ix2 p q) = v) :
    View.TileAt (S := ⟨2, ![n0, n1]⟩) (Val := Elt Ideal) (ix2 i j) ![o0, o1] ![k0, k1] w v := by
  intro x hx
  obtain ⟨p, q, rfl⟩ : ∃ (p : Fin k0) (q : Fin k1), x = ix2 p q := ⟨x 0, x 1, by
    funext a; match a with
    | ⟨0, _⟩ => rfl
    | ⟨1, _⟩ => rfl⟩
  exact h p q (hx 0) (hx 1)

/-- Of four axes, the piece of extent one on the first two. -/
theorem tile4 {e : EltTy} {n1 n2 n3 k2 k3 : ℕ} {i : Fin n1} {j : Fin n2} {k : Fin n3} {v : Elt Ideal e} (o1 o2 o3 : ℕ)
    (w : (⟨4, ![1, 1, k2, k3]⟩ : Shape).Idx → Elt Ideal e)
    (h : ∀ (p : Fin k2) (q : Fin k3), i.val = o1 → j.val = o2 + p.val → k.val = o3 + q.val → w (ix4 0 0 p q) = v) :
    View.TileAt (S := ⟨4, ![1, n1, n2, n3]⟩) (Val := Elt Ideal) (ix4 0 i j k) ![0, o1, o2, o3] ![1, 1, k2, k3] w v := by
  intro x hx
  obtain ⟨a, b, p, q, rfl⟩ : ∃ (a b : Fin 1) (p : Fin k2) (q : Fin k3), x = ix4 a b p q := ⟨x 0, x 1, x 2, x 3, by
    funext a; match a with
    | ⟨0, _⟩ => rfl
    | ⟨1, _⟩ => rfl
    | ⟨2, _⟩ => rfl
    | ⟨3, _⟩ => rfl⟩
  obtain rfl := Subsingleton.elim a 0
  obtain rfl := Subsingleton.elim b 0
  exact h p q (hx 1) (hx 2) (hx 3)

/-! The places of the two halves of the rows. -/

theorem hi2 (n : Fin 8) {r : Fin 512} {p : Fin 256} (h : r.val = 256 + p.val) : pos n r = s1 n p :=
  Fin.ext (by show n.val * 512 + r.val = n.val * 512 + (256 + p.val); omega)

theorem lo2 (n : Fin 8) {r : Fin 512} {p : Fin 256} (h : r.val = 0 + p.val) : pos n r = s0 n p :=
  Fin.ext (by show n.val * 512 + r.val = n.val * 512 + p.val; omega)

theorem hi4 (n : Fin 8) {t : Fin 2} {r q : Fin 256} (ht : t.val = 1) (h : r.val = 0 + q.val) {hl : t.val * 256 + r.val < 512} :
    pos n ⟨t.val * 256 + r.val, hl⟩ = s1 n q := hi2 n (by show t.val * 256 + r.val = _; omega)

theorem lo4 (n : Fin 8) {t : Fin 2} {r q : Fin 256} (ht : t.val = 0) (h : r.val = 0 + q.val) {hl : t.val * 256 + r.val < 512} :
    pos n ⟨t.val * 256 + r.val, hl⟩ = s0 n q := lo2 n (by show t.val * 256 + r.val = _; omega)

section Stores
variable {A : Args} {X : Blocks Ideal} {b : Fin 4} {n : Fin 8} (hX : Reads A X b n)
include hX

theorem wm0_at (i x : Fin 128) : wm0 X (ix2 i x) = mixw (A.a9 (ix4 1 0 i x)) i x := by rw [wm0, mix0, lx11_0 hX]

theorem wm1_at (i x : Fin 128) : wm1 X (ix2 i x) = mixw (A.a9 (ix4 1 1 i x)) i x := by rw [wm1, mix1, lx11_1 hX]

theorem wm2_at (i x : Fin 128) : wm2 X (ix2 i x) = mixw (A.a9 (ix4 1 2 i x)) i x := by rw [wm2, mix2, lx11_2 hX]

theorem wm3_at (i x : Fin 128) : wm3 X (ix2 i x) = mixw (A.a9 (ix4 1 3 i x)) i x := by rw [wm3, mix3, lx11_3 hX]

/-! The first 256 rows. -/

theorem stream0 (r : Fin 256) (j : Fin 1024) : k0_pay15 (F := Ideal) (xs0 X) (ys0 X) (ms0 X) (View.ld X.x3 r4) (View.ld X.x4 r6) (View.ld X.x5 r7) (ix2 r j) = Ref.residual A (ix3 b (s0 n r) j) := by
  rw [xs0, ys0, ms0]
  rw [stream, Ref.residual_at, lx0_0 hX]
  simp only [lx1_0 hX, lx2_0 hX, lx3_0 hX, lx4 hX, lx5 hX]

theorem h0_at (r : Fin 256) (k : Fin 1024) : h0 X (ix2 r k) = Ref.normed A (ix3 b (s0 n r) k) := by
  rw [h0]
  rw [norm (fun r j => Ref.residual A (ix3 b (s0 n r) j)) _ _ _ _ _ _ _ (stream0 hX) r k, Ref.normed_at, lx6 hX]

theorem pre0 (r : Fin 256) (i : Fin 512) : ∑ x : Fin 1024, k0_pay16 (F := Ideal) (xs0 X) (ys0 X) (ms0 X) (View.ld X.x3 r4) (View.ld X.x4 r6) (View.ld X.x5 r7) (View.ld X.x6 r8) (ix2 r x) * View.ld X.x7 r9 (ix3 0 i x)
    = P A b (s0 n r) (512 + i.val) := by
  have hn := h0_at hX
  rw [h0] at hn
  exact pAV hX _ _ hn r i

theorem vn0 (r : Fin 256) (j : Fin 512) : k0_pay19 (F := Ideal) (av0 X) (gi0 X) (View.ld X.x9 r10) (View.ld X.x10 r10) (ix2 r j)
    = vn (P A b (s0 n r)) (fun k => A.a7 (ix2 1 k)) (fun k => A.a8 (ix2 1 k)) j := by
  rw [av0, gi0]
  rw [pay19_at (fun r i => P A b (s0 n r) i) _ _ _ _ (pay17_at (fun r i => P A b (s0 n r) i) _ _ _ _ _ _ _ _ (pre0 hX))
    (pay18_at (fun r i => P A b (s0 n r) i) _ _ _ _ _ _ _ _ (pre0 hX)) r j]
  simp only [lx9 hX, lx10 hX]

set_option maxHeartbeats 1600000 in
theorem m0 (r : Fin 256) (j : Fin 1024) : k0_pay23 (F := Ideal) (h0 X) (k0_pay21 (wm0 X) (wm1 X) (wm2 X) (wm3 X) (h0 X) (k0_pay19 (av0 X) (gi0 X) (View.ld X.x9 r10) (View.ld X.x10 r10)) (k0_pay20 (wm0 X) (wm1 X) (wm2 X) (wm3 X) (av0 X) (gi0 X) (View.ld X.x9 r10) (View.ld X.x10 r10)) (View.ld X.x12 r11) (View.ld X.x12 r11) (View.ld X.x7 r12)) (k0_pay22 (h0 X) (View.ld X.x7 r13)) (View.ld X.x14 r6) (View.ld X.x7 r14) (View.ld X.x8 r15) (ix2 r j)
    = ma A b (s0 n r) j := by
  have hn := h0_at hX
  have hv := vn0 hX
  have hz := pay20_at (wm0 X) (wm1 X) (wm2 X) (wm3 X) (fun g i x => mixw (A.a9 (ix4 1 g i x)) i x) (wm0_at hX) (wm1_at hX) (wm2_at hX) (wm3_at hX)
    (fun r j => vn (P A b (s0 n r)) (fun k => A.a7 (ix2 1 k)) (fun k => A.a8 (ix2 1 k)) j) _ _ _ _ hv
  have hy := pay21_at (wm0 X) (wm1 X) (wm2 X) (wm3 X) (fun g i x => mixw (A.a9 (ix4 1 g i x)) i x) (wm0_at hX) (wm1_at hX) (wm2_at hX) (wm3_at hX)
    (fun r j => vn (P A b (s0 n r)) (fun k => A.a7 (ix2 1 k)) (fun k => A.a8 (ix2 1 k)) j) (fun r i => P A b (s0 n r) i) (h0 X) _ _ (View.ld X.x12 r11) (View.ld X.x7 r12)
    hv hz (pAU hX _ _ hn)
  have hs := sila (fun r i => P A b (s0 n r) (1024 + i)) (h0 X) (View.ld X.x7 r13) (pAZ hX _ _ hn)
  rw [pay23_at (fun r i => P A b (s0 n r) (4168 + i)) _ _ _ _ _ _ (pGA hX _ _ hn), ma, lx8_0 hX]
  have e : (⟨r.val % 128, by omega⟩ : Fin 128) = ⟨(s0 n r).val % 128, by omega⟩ := Fin.ext (by show r.val % 128 = (n.val * 512 + r.val) % 128; omega)
  have f : ∀ x : Fin 128, s0 n ⟨r.val / 128 * 128 + x.val, by omega⟩ = ⟨(s0 n r).val / 128 * 128 + x.val, by omega⟩ := fun x =>
    Fin.ext (by show n.val * 512 + (r.val / 128 * 128 + x.val) = (n.val * 512 + r.val) / 128 * 128 + x.val; omega)
  refine congrArg (_ * ·) (Finset.sum_congr rfl fun x _ => ?_)
  rw [hy, hs, lx14 hX, lx12 hX, ya, e]
  simp only [f]

theorem sig0 (r : Fin 256) (j : Fin 1024) : k0_pay24 (F := Ideal) (h0 X) (View.ld X.x7 r16) (View.ld X.x8 r17) (ix2 r j)
    = Ideal.logistic (P A b (s0 n r) (5192 + j.val) + A.a6 (ix3 1 1 j)) := by
  rw [sigB (fun r i => P A b (s0 n r) (5192 + i)) _ _ _ (pGB hX _ _ (h0_at hX)), lx8_1 hX]

theorem bk0_at (r : Fin 256) (i : Fin 512) : bk0 X (ix2 r i) = P A b (s0 n r) (2048 + i.val) := by
  rw [bk0]
  exact pay25_at (fun r i => P A b (s0 n r) (2048 + i)) _ _ (pBK hX _ _ (h0_at hX)) r i

theorem key0_0 (r : Fin 256) (j : Fin 128) : k0_pay27 (F := Ideal) (k0_pay26 (h0 X) (View.ld X.x7 r18)) (View.ld X.x13 r19) (View.ld X.x15 r20) (View.ld X.x16 r20) (ix2 r j)
    = rot 64 (headNorm (fun i => P A b (s0 n r) (2048 + i)) (gk A) 0) (cq (s0 n r)) (sq (s0 n r)) j := by
  exact key0 (fun r i => P A b (s0 n r) (2048 + i)) (gk A) (fun r => cq (s0 n r)) (fun r => sq (s0 n r)) (bk0 X) (bk0_at hX) _ (lx13 hX) _ _
    (lx15_0 hX) (lx16_0 hX) r j

theorem key0_1 (r : Fin 256) (j : Fin 128) : k0_pay29 (F := Ideal) (k0_pay28 (bk0 X) (View.ld X.x13 r19)) (View.ld X.x15 r20) (View.ld X.x16 r20) (ix2 r j)
    = rot 64 (headNorm (fun i => P A b (s0 n r) (2048 + i)) (gk A) 128) (cq (s0 n r)) (sq (s0 n r)) j := by
  exact key1 (fun r i => P A b (s0 n r) (2048 + i)) (gk A) (fun r => cq (s0 n r)) (fun r => sq (s0 n r)) (bk0 X) (bk0_at hX) _ (lx13 hX) _ _
    (lx15_0 hX) (lx16_0 hX) r j

theorem key0_2 (r : Fin 256) (j : Fin 128) : k0_pay30 (F := Ideal) (bk0 X) (View.ld X.x13 r19) (View.ld X.x15 r20) (View.ld X.x16 r20) (ix2 r j)
    = rot 64 (headNorm (fun i => P A b (s0 n r) (2048 + i)) (gk A) 256) (cq (s0 n r)) (sq (s0 n r)) j := by
  exact key2 (fun r i => P A b (s0 n r) (2048 + i)) (gk A) (fun r => cq (s0 n r)) (fun r => sq (s0 n r)) (bk0 X) (bk0_at hX) _ (lx13 hX) _ _
    (lx15_0 hX) (lx16_0 hX) r j

theorem key0_3 (r : Fin 256) (j : Fin 128) : k0_pay33 (F := Ideal) (k0_pay31 (bk0 X)) (k0_pay32 (View.ld X.x13 r19)) (View.ld X.x15 r20) (View.ld X.x16 r20) (ix2 r j)
    = rot 64 (headNorm (fun i => P A b (s0 n r) (2048 + i)) (gk A) 384) (cq (s0 n r)) (sq (s0 n r)) j := by
  exact key3 (fun r i => P A b (s0 n r) (2048 + i)) (gk A) (fun r => cq (s0 n r)) (fun r => sq (s0 n r)) (bk0 X) (bk0_at hX) _ (lx13 hX) _ _
    (lx15_0 hX) (lx16_0 hX) r j

theorem ik0 (r : Fin 256) (j : Fin 64) : k0_pay34 (F := Ideal) (h0 X) (View.ld X.x7 r25) (View.ld X.x17 r20) (View.ld X.x18 r20) (ix2 r j)
    = rot 32 (fun i => P A b (s0 n r) (4096 + i)) (ci (s0 n r)) (si (s0 n r)) j := by
  exact key_i (fun r i => P A b (s0 n r) (4096 + i)) (fun r => ci (s0 n r)) (fun r => si (s0 n r)) _ _ _ _ (pIK hX _ _ (h0_at hX))
    (lx17_0 hX) (lx18_0 hX) r j

theorem query0_0 (j : Fin 64) (r : Fin 256) : k0_pay41 (F := Ideal) (h0 X) (View.ld X.x19 r27) (View.ld X.x21 r28) (View.ld X.x22 r29) (View.ld X.x23 r29) (ix4 0 0 j r)
    = rot 64 (headNorm (fun i => P A b (s0 n r) (1536 + i)) (gq A) 0) (cq (s0 n r)) (sq (s0 n r)) (j.val) * Ideal.ofBits .f32 1035273459#32 := by
  exact query0l (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_1 (j : Fin 64) (r : Fin 256) : k0_pay43 (F := Ideal) (k0_pay42 (h0 X) (View.ld X.x19 r27) (View.ld X.x21 r28) (View.ld X.x22 r29) (View.ld X.x23 r29)) (ix4 0 0 j r)
    = rot 64 (headNorm (fun i => P A b (s0 n r) (1536 + i)) (gq A) 0) (cq (s0 n r)) (sq (s0 n r)) (64 + j.val) * Ideal.ofBits .f32 1035273459#32 := by
  exact query0h (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_2 (j : Fin 64) (r : Fin 256) : k0_pay49 (F := Ideal) (qt0 X) (View.ld X.x21 r28) (View.ld X.x22 r29) (View.ld X.x23 r29) (ix4 0 0 j r)
    = rot 64 (headNorm (fun i => P A b (s0 n r) (1536 + i)) (gq A) 128) (cq (s0 n r)) (sq (s0 n r)) (j.val) * Ideal.ofBits .f32 1035273459#32 := by
  rw [qt0]
  exact query1l (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_3 (j : Fin 64) (r : Fin 256) : k0_pay51 (F := Ideal) (k0_pay50 (qt0 X) (View.ld X.x21 r28) (View.ld X.x22 r29) (View.ld X.x23 r29)) (ix4 0 0 j r)
    = rot 64 (headNorm (fun i => P A b (s0 n r) (1536 + i)) (gq A) 128) (cq (s0 n r)) (sq (s0 n r)) (64 + j.val) * Ideal.ofBits .f32 1035273459#32 := by
  rw [qt0]
  exact query1h (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_4 (j : Fin 64) (r : Fin 256) : k0_pay57 (F := Ideal) (qt0 X) (View.ld X.x21 r28) (View.ld X.x22 r29) (View.ld X.x23 r29) (ix4 0 0 j r)
    = rot 64 (headNorm (fun i => P A b (s0 n r) (1536 + i)) (gq A) 256) (cq (s0 n r)) (sq (s0 n r)) (j.val) * Ideal.ofBits .f32 1035273459#32 := by
  rw [qt0]
  exact query2l (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_5 (j : Fin 64) (r : Fin 256) : k0_pay59 (F := Ideal) (k0_pay58 (qt0 X) (View.ld X.x21 r28) (View.ld X.x22 r29) (View.ld X.x23 r29)) (ix4 0 0 j r)
    = rot 64 (headNorm (fun i => P A b (s0 n r) (1536 + i)) (gq A) 256) (cq (s0 n r)) (sq (s0 n r)) (64 + j.val) * Ideal.ofBits .f32 1035273459#32 := by
  rw [qt0]
  exact query2h (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_6 (j : Fin 64) (r : Fin 256) : k0_pay65 (F := Ideal) (qt0 X) (View.ld X.x21 r28) (View.ld X.x22 r29) (View.ld X.x23 r29) (ix4 0 0 j r)
    = rot 64 (headNorm (fun i => P A b (s0 n r) (1536 + i)) (gq A) 384) (cq (s0 n r)) (sq (s0 n r)) (j.val) * Ideal.ofBits .f32 1035273459#32 := by
  rw [qt0]
  exact query3l (fun r i => P A b (s0 n r) (1536 + i)) (gq A) (fun r => cq (s0 n r)) (fun r => sq (s0 n r)) _ _ (pBQ hX _ _ (h0_at hX)) _ (lx21 hX) _ _
    (lx22_0 hX) (lx23_0 hX) j r

theorem query0_7 (j : Fin 64) (r : Fin 256) : k0_pay68 (F := Ideal) (k0_pay66 (qt0 X) (View.ld X.x21 r28) (View.ld X.x22 r29) (View.ld X.x23 r29)) (k0_pay67 (F := Ideal)) (ix4 0 0 j r)
    = rot 64 (headNorm (fun i => P A b (s0 n r) (1536 + i)) (gq A) 384) (cq (s0 n r)) (sq (s0 n r)) (64 + j.val) * Ideal.ofBits .f32 1035273459#32 := by
  rw [qt0]
  exact query3h (fun r i => P A b (s0 n r) (1536 + i)) (gq A) (fun r => cq (s0 n r)) (fun r => sq (s0 n r)) _ _ (pBQ hX _ _ (h0_at hX)) _ (lx21 hX) _ _
    (lx22_0 hX) (lx23_0 hX) j r

theorem value0 (i : Fin 512) (r : Fin 256) : k0_pay69 (F := Ideal) (h0 X) (View.ld X.x19 r38) (ix4 0 0 i r) = P A b (s0 n r) (2560 + i.val) := by
  exact value (fun r i => P A b (s0 n r) (2560 + i)) _ _ (pBV hX _ _ (h0_at hX)) i r

theorem gate0 (i : Fin 512) (r : Fin 256) : k0_pay70 (F := Ideal) (h0 X) (View.ld X.x19 r40) (ix4 0 0 i r)
    = P A b (s0 n r) (3072 + i.val) * Ideal.logistic (P A b (s0 n r) (3072 + i.val)) := by
  exact gate (fun r i => P A b (s0 n r) (3072 + i)) _ _ (pBZ hX _ _ (h0_at hX)) i r

theorem weight0 (i : Fin 16) (r : Fin 256) : k0_pay130 (F := Ideal) (h0 X) (View.ld X.x20 r59) (ix4 0 0 i r)
    = if i.val < 8 then P A b (s0 n r) (4160 + i.val) else 0 := by
  rw [weight]
  simp only [h0_at hX, lx20 hX]
  by_cases h : i.val < 8
  · simp only [if_pos h]; rfl
  · simp only [if_neg h, mul_zero, Finset.sum_const_zero]

theorem indexer0_0 (j : Fin 32) (r : Fin 256) : k0_pay77 (F := Ideal) (qa0 X) (qb0 X) (ca0 X) (View.ld X.x25 r42) (ix4 0 0 j r)
    = rot 32 (fun i => P A b (s0 n r) (3584 + (0 + i))) (ci (s0 n r)) (si (s0 n r)) (j.val) := by
  rw [qa0, qb0, ca0]
  exact indexer0l (fun r i => P A b (s0 n r) (3584 + i)) (fun r => ci (s0 n r)) (fun r => si (s0 n r)) _ _ (pIQ hX _ _ (h0_at hX)) _ _
    (lx24_0 hX) (lx25_0 hX) j r

theorem indexer0_1 (j : Fin 32) (r : Fin 256) : k0_pay78 (F := Ideal) (qa0 X) (qb0 X) (ca0 X) (View.ld X.x25 r42) (ix4 0 0 j r)
    = rot 32 (fun i => P A b (s0 n r) (3584 + (0 + i))) (ci (s0 n r)) (si (s0 n r)) (32 + j.val) := by
  rw [qa0, qb0, ca0]
  exact indexer0h (fun r i => P A b (s0 n r) (3584 + i)) (fun r => ci (s0 n r)) (fun r => si (s0 n r)) _ _ (pIQ hX _ _ (h0_at hX)) _ _
    (lx24_0 hX) (lx25_0 hX) j r

theorem indexer0_2 (j : Fin 32) (r : Fin 256) : k0_pay84 (F := Ideal) (qi0 X) (View.ld X.x24 r42) (View.ld X.x25 r42) (ix4 0 0 j r)
    = rot 32 (fun i => P A b (s0 n r) (3584 + (64 + i))) (ci (s0 n r)) (si (s0 n r)) (j.val) := by
  rw [qi0]
  exact indexer1l (fun r i => P A b (s0 n r) (3584 + i)) (fun r => ci (s0 n r)) (fun r => si (s0 n r)) _ _ (pIQ hX _ _ (h0_at hX)) _ _
    (lx24_0 hX) (lx25_0 hX) j r

theorem indexer0_3 (j : Fin 32) (r : Fin 256) : k0_pay85 (F := Ideal) (qi0 X) (View.ld X.x24 r42) (View.ld X.x25 r42) (ix4 0 0 j r)
    = rot 32 (fun i => P A b (s0 n r) (3584 + (64 + i))) (ci (s0 n r)) (si (s0 n r)) (32 + j.val) := by
  rw [qi0]
  exact indexer1h (fun r i => P A b (s0 n r) (3584 + i)) (fun r => ci (s0 n r)) (fun r => si (s0 n r)) _ _ (pIQ hX _ _ (h0_at hX)) _ _
    (lx24_0 hX) (lx25_0 hX) j r

theorem indexer0_4 (j : Fin 32) (r : Fin 256) : k0_pay91 (F := Ideal) (qi0 X) (View.ld X.x24 r42) (View.ld X.x25 r42) (ix4 0 0 j r)
    = rot 32 (fun i => P A b (s0 n r) (3584 + (128 + i))) (ci (s0 n r)) (si (s0 n r)) (j.val) := by
  rw [qi0]
  exact indexer2l (fun r i => P A b (s0 n r) (3584 + i)) (fun r => ci (s0 n r)) (fun r => si (s0 n r)) _ _ (pIQ hX _ _ (h0_at hX)) _ _
    (lx24_0 hX) (lx25_0 hX) j r

theorem indexer0_5 (j : Fin 32) (r : Fin 256) : k0_pay92 (F := Ideal) (qi0 X) (View.ld X.x24 r42) (View.ld X.x25 r42) (ix4 0 0 j r)
    = rot 32 (fun i => P A b (s0 n r) (3584 + (128 + i))) (ci (s0 n r)) (si (s0 n r)) (32 + j.val) := by
  rw [qi0]
  exact indexer2h (fun r i => P A b (s0 n r) (3584 + i)) (fun r => ci (s0 n r)) (fun r => si (s0 n r)) _ _ (pIQ hX _ _ (h0_at hX)) _ _
    (lx24_0 hX) (lx25_0 hX) j r

theorem indexer0_6 (j : Fin 32) (r : Fin 256) : k0_pay98 (F := Ideal) (qi0 X) (View.ld X.x24 r42) (View.ld X.x25 r42) (ix4 0 0 j r)
    = rot 32 (fun i => P A b (s0 n r) (3584 + (192 + i))) (ci (s0 n r)) (si (s0 n r)) (j.val) := by
  rw [qi0]
  exact indexer3l (fun r i => P A b (s0 n r) (3584 + i)) (fun r => ci (s0 n r)) (fun r => si (s0 n r)) _ _ (pIQ hX _ _ (h0_at hX)) _ _
    (lx24_0 hX) (lx25_0 hX) j r

theorem indexer0_7 (j : Fin 32) (r : Fin 256) : k0_pay100 (F := Ideal) (k0_pay95 (qi0 X)) (k0_pay96 (View.ld X.x24 r42)) (k0_pay99 (qi0 X) (View.ld X.x25 r42)) (ix4 0 0 j r)
    = rot 32 (fun i => P A b (s0 n r) (3584 + (192 + i))) (ci (s0 n r)) (si (s0 n r)) (32 + j.val) := by
  rw [qi0]
  exact indexer3h (fun r i => P A b (s0 n r) (3584 + i)) (fun r => ci (s0 n r)) (fun r => si (s0 n r)) _ _ (pIQ hX _ _ (h0_at hX)) _ _
    (lx24_0 hX) (lx25_0 hX) j r

theorem indexer0_8 (j : Fin 32) (r : Fin 256) : k0_pay106 (F := Ideal) (qi0 X) (View.ld X.x24 r42) (View.ld X.x25 r42) (ix4 0 0 j r)
    = rot 32 (fun i => P A b (s0 n r) (3584 + (256 + i))) (ci (s0 n r)) (si (s0 n r)) (j.val) := by
  rw [qi0]
  exact indexer4l (fun r i => P A b (s0 n r) (3584 + i)) (fun r => ci (s0 n r)) (fun r => si (s0 n r)) _ _ (pIQ hX _ _ (h0_at hX)) _ _
    (lx24_0 hX) (lx25_0 hX) j r

theorem indexer0_9 (j : Fin 32) (r : Fin 256) : k0_pay107 (F := Ideal) (qi0 X) (View.ld X.x24 r42) (View.ld X.x25 r42) (ix4 0 0 j r)
    = rot 32 (fun i => P A b (s0 n r) (3584 + (256 + i))) (ci (s0 n r)) (si (s0 n r)) (32 + j.val) := by
  rw [qi0]
  exact indexer4h (fun r i => P A b (s0 n r) (3584 + i)) (fun r => ci (s0 n r)) (fun r => si (s0 n r)) _ _ (pIQ hX _ _ (h0_at hX)) _ _
    (lx24_0 hX) (lx25_0 hX) j r

theorem indexer0_10 (j : Fin 32) (r : Fin 256) : k0_pay114 (F := Ideal) (k0_pay113 (qi0 X) (View.ld X.x24 r42) (View.ld X.x25 r42)) (ix4 0 0 j r)
    = rot 32 (fun i => P A b (s0 n r) (3584 + (320 + i))) (ci (s0 n r)) (si (s0 n r)) (j.val) := by
  rw [qi0]
  exact indexer5l (fun r i => P A b (s0 n r) (3584 + i)) (fun r => ci (s0 n r)) (fun r => si (s0 n r)) _ _ (pIQ hX _ _ (h0_at hX)) _ _
    (lx24_0 hX) (lx25_0 hX) j r

theorem indexer0_11 (j : Fin 32) (r : Fin 256) : k0_pay115 (F := Ideal) (k0_pay109 (qi0 X)) (k0_pay110 (qi0 X)) (k0_pay111 (View.ld X.x24 r42)) (k0_pay112 (View.ld X.x25 r42)) (ix4 0 0 j r)
    = rot 32 (fun i => P A b (s0 n r) (3584 + (320 + i))) (ci (s0 n r)) (si (s0 n r)) (32 + j.val) := by
  rw [qi0]
  exact indexer5h (fun r i => P A b (s0 n r) (3584 + i)) (fun r => ci (s0 n r)) (fun r => si (s0 n r)) _ _ (pIQ hX _ _ (h0_at hX)) _ _
    (lx24_0 hX) (lx25_0 hX) j r

theorem indexer0_12 (j : Fin 32) (r : Fin 256) : k0_pay121 (F := Ideal) (qi0 X) (View.ld X.x24 r42) (View.ld X.x25 r42) (ix4 0 0 j r)
    = rot 32 (fun i => P A b (s0 n r) (3584 + (384 + i))) (ci (s0 n r)) (si (s0 n r)) (j.val) := by
  rw [qi0]
  exact indexer6l (fun r i => P A b (s0 n r) (3584 + i)) (fun r => ci (s0 n r)) (fun r => si (s0 n r)) _ _ (pIQ hX _ _ (h0_at hX)) _ _
    (lx24_0 hX) (lx25_0 hX) j r

theorem indexer0_13 (j : Fin 32) (r : Fin 256) : k0_pay122 (F := Ideal) (qi0 X) (View.ld X.x24 r42) (View.ld X.x25 r42) (ix4 0 0 j r)
    = rot 32 (fun i => P A b (s0 n r) (3584 + (384 + i))) (ci (s0 n r)) (si (s0 n r)) (32 + j.val) := by
  rw [qi0]
  exact indexer6h (fun r i => P A b (s0 n r) (3584 + i)) (fun r => ci (s0 n r)) (fun r => si (s0 n r)) _ _ (pIQ hX _ _ (h0_at hX)) _ _
    (lx24_0 hX) (lx25_0 hX) j r

theorem indexer0_14 (j : Fin 32) (r : Fin 256) : k0_pay128 (F := Ideal) (qc0 X) (qd0 X) (View.ld X.x24 r42) (View.ld X.x25 r42) (ix4 0 0 j r)
    = rot 32 (fun i => P A b (s0 n r) (3584 + (448 + i))) (ci (s0 n r)) (si (s0 n r)) (j.val) := by
  rw [qc0, qd0, qi0]
  exact indexer7l (fun r i => P A b (s0 n r) (3584 + i)) (fun r => ci (s0 n r)) (fun r => si (s0 n r)) _ _ (pIQ hX _ _ (h0_at hX)) _ _
    (lx24_0 hX) (lx25_0 hX) j r

theorem indexer0_15 (j : Fin 32) (r : Fin 256) : k0_pay129 (F := Ideal) (qc0 X) (qd0 X) (View.ld X.x24 r42) (View.ld X.x25 r42) (ix4 0 0 j r)
    = rot 32 (fun i => P A b (s0 n r) (3584 + (448 + i))) (ci (s0 n r)) (si (s0 n r)) (32 + j.val) := by
  rw [qc0, qd0, qi0]
  exact indexer7h (fun r i => P A b (s0 n r) (3584 + i)) (fun r => ci (s0 n r)) (fun r => si (s0 n r)) _ _ (pIQ hX _ _ (h0_at hX)) _ _
    (lx24_0 hX) (lx25_0 hX) j r

/-! The second 256 rows. -/

theorem stream1 (r : Fin 256) (j : Fin 1024) : k0_pay15 (F := Ideal) (xs1 X) (ys1 X) (ms1 X) (View.ld X.x3 r61) (View.ld X.x4 r6) (View.ld X.x5 r7) (ix2 r j) = Ref.residual A (ix3 b (s1 n r) j) := by
  rw [xs1, ys1, ms1]
  rw [again131, again132, again133]
  rw [stream, Ref.residual_at, lx0_1 hX]
  simp only [lx1_1 hX, lx2_1 hX, lx3_1 hX, lx4 hX, lx5 hX]

theorem h1_at (r : Fin 256) (k : Fin 1024) : h1 X (ix2 r k) = Ref.normed A (ix3 b (s1 n r) k) := by
  rw [h1]
  rw [again135]
  rw [norm (fun r j => Ref.residual A (ix3 b (s1 n r) j)) _ _ _ _ _ _ _ (stream1 hX) r k, Ref.normed_at, lx6 hX]

theorem pre1 (r : Fin 256) (i : Fin 512) : ∑ x : Fin 1024, k0_pay16 (F := Ideal) (xs1 X) (ys1 X) (ms1 X) (View.ld X.x3 r61) (View.ld X.x4 r6) (View.ld X.x5 r7) (View.ld X.x6 r8) (ix2 r x) * View.ld X.x7 r9 (ix3 0 i x)
    = P A b (s1 n r) (512 + i.val) := by
  have hn := h1_at hX
  rw [h1] at hn
  rw [again135] at hn
  exact pAV hX _ _ hn r i

theorem vn1 (r : Fin 256) (j : Fin 512) : k0_pay19 (F := Ideal) (av1 X) (gi1 X) (View.ld X.x9 r10) (View.ld X.x10 r10) (ix2 r j)
    = vn (P A b (s1 n r)) (fun k => A.a7 (ix2 1 k)) (fun k => A.a8 (ix2 1 k)) j := by
  rw [av1, gi1]
  rw [again136, again137]
  rw [pay19_at (fun r i => P A b (s1 n r) i) _ _ _ _ (pay17_at (fun r i => P A b (s1 n r) i) _ _ _ _ _ _ _ _ (pre1 hX))
    (pay18_at (fun r i => P A b (s1 n r) i) _ _ _ _ _ _ _ _ (pre1 hX)) r j]
  simp only [lx9 hX, lx10 hX]

set_option maxHeartbeats 1600000 in
theorem m1 (r : Fin 256) (j : Fin 1024) : k0_pay142 (F := Ideal) (h1 X) (k0_pay140 (wm0 X) (wm1 X) (wm2 X) (wm3 X) (h1 X) (k0_pay138 (av1 X) (gi1 X) (View.ld X.x9 r10) (View.ld X.x10 r10)) (k0_pay139 (wm0 X) (wm1 X) (wm2 X) (wm3 X) (av1 X) (gi1 X) (View.ld X.x9 r10) (View.ld X.x10 r10)) (View.ld X.x12 r11) (View.ld X.x12 r11) (View.ld X.x7 r12)) (k0_pay141 (h1 X) (View.ld X.x7 r13)) (View.ld X.x14 r6) (View.ld X.x7 r14) (View.ld X.x8 r15) (ix2 r j)
    = ma A b (s1 n r) j := by
  rw [again142, again140, again138, again139, again141]
  have hn := h1_at hX
  have hv := vn1 hX
  have hz := pay20_at (wm0 X) (wm1 X) (wm2 X) (wm3 X) (fun g i x => mixw (A.a9 (ix4 1 g i x)) i x) (wm0_at hX) (wm1_at hX) (wm2_at hX) (wm3_at hX)
    (fun r j => vn (P A b (s1 n r)) (fun k => A.a7 (ix2 1 k)) (fun k => A.a8 (ix2 1 k)) j) _ _ _ _ hv
  have hy := pay21_at (wm0 X) (wm1 X) (wm2 X) (wm3 X) (fun g i x => mixw (A.a9 (ix4 1 g i x)) i x) (wm0_at hX) (wm1_at hX) (wm2_at hX) (wm3_at hX)
    (fun r j => vn (P A b (s1 n r)) (fun k => A.a7 (ix2 1 k)) (fun k => A.a8 (ix2 1 k)) j) (fun r i => P A b (s1 n r) i) (h1 X) _ _ (View.ld X.x12 r11) (View.ld X.x7 r12)
    hv hz (pAU hX _ _ hn)
  have hs := sila (fun r i => P A b (s1 n r) (1024 + i)) (h1 X) (View.ld X.x7 r13) (pAZ hX _ _ hn)
  rw [pay23_at (fun r i => P A b (s1 n r) (4168 + i)) _ _ _ _ _ _ (pGA hX _ _ hn), ma, lx8_0 hX]
  have e : (⟨r.val % 128, by omega⟩ : Fin 128) = ⟨(s1 n r).val % 128, by omega⟩ := Fin.ext (by show r.val % 128 = (n.val * 512 + (256 + r.val)) % 128; omega)
  have f : ∀ x : Fin 128, s1 n ⟨r.val / 128 * 128 + x.val, by omega⟩ = ⟨(s1 n r).val / 128 * 128 + x.val, by omega⟩ := fun x =>
    Fin.ext (by show n.val * 512 + (256 + (r.val / 128 * 128 + x.val)) = (n.val * 512 + (256 + r.val)) / 128 * 128 + x.val; omega)
  refine congrArg (_ * ·) (Finset.sum_congr rfl fun x _ => ?_)
  rw [hy, hs, lx14 hX, lx12 hX, ya, e]
  simp only [f]

theorem sig1 (r : Fin 256) (j : Fin 1024) : k0_pay143 (F := Ideal) (h1 X) (View.ld X.x7 r16) (View.ld X.x8 r17) (ix2 r j)
    = Ideal.logistic (P A b (s1 n r) (5192 + j.val) + A.a6 (ix3 1 1 j)) := by
  rw [again143]
  rw [sigB (fun r i => P A b (s1 n r) (5192 + i)) _ _ _ (pGB hX _ _ (h1_at hX)), lx8_1 hX]

theorem bk1_at (r : Fin 256) (i : Fin 512) : bk1 X (ix2 r i) = P A b (s1 n r) (2048 + i.val) := by
  rw [bk1]
  rw [again144]
  exact pay25_at (fun r i => P A b (s1 n r) (2048 + i)) _ _ (pBK hX _ _ (h1_at hX)) r i

theorem key1_0 (r : Fin 256) (j : Fin 128) : k0_pay146 (F := Ideal) (k0_pay145 (h1 X) (View.ld X.x7 r18)) (View.ld X.x13 r19) (View.ld X.x15 r63) (View.ld X.x16 r63) (ix2 r j)
    = rot 64 (headNorm (fun i => P A b (s1 n r) (2048 + i)) (gk A) 0) (cq (s1 n r)) (sq (s1 n r)) j := by
  rw [again146, again145]
  exact key0 (fun r i => P A b (s1 n r) (2048 + i)) (gk A) (fun r => cq (s1 n r)) (fun r => sq (s1 n r)) (bk1 X) (bk1_at hX) _ (lx13 hX) _ _
    (lx15_1 hX) (lx16_1 hX) r j

theorem key1_1 (r : Fin 256) (j : Fin 128) : k0_pay148 (F := Ideal) (k0_pay147 (bk1 X) (View.ld X.x13 r19)) (View.ld X.x15 r63) (View.ld X.x16 r63) (ix2 r j)
    = rot 64 (headNorm (fun i => P A b (s1 n r) (2048 + i)) (gk A) 128) (cq (s1 n r)) (sq (s1 n r)) j := by
  rw [again148, again147]
  exact key1 (fun r i => P A b (s1 n r) (2048 + i)) (gk A) (fun r => cq (s1 n r)) (fun r => sq (s1 n r)) (bk1 X) (bk1_at hX) _ (lx13 hX) _ _
    (lx15_1 hX) (lx16_1 hX) r j

theorem key1_2 (r : Fin 256) (j : Fin 128) : k0_pay149 (F := Ideal) (bk1 X) (View.ld X.x13 r19) (View.ld X.x15 r63) (View.ld X.x16 r63) (ix2 r j)
    = rot 64 (headNorm (fun i => P A b (s1 n r) (2048 + i)) (gk A) 256) (cq (s1 n r)) (sq (s1 n r)) j := by
  rw [again149]
  exact key2 (fun r i => P A b (s1 n r) (2048 + i)) (gk A) (fun r => cq (s1 n r)) (fun r => sq (s1 n r)) (bk1 X) (bk1_at hX) _ (lx13 hX) _ _
    (lx15_1 hX) (lx16_1 hX) r j

theorem key1_3 (r : Fin 256) (j : Fin 128) : k0_pay152 (F := Ideal) (k0_pay150 (bk1 X)) (k0_pay151 (View.ld X.x13 r19)) (View.ld X.x15 r63) (View.ld X.x16 r63) (ix2 r j)
    = rot 64 (headNorm (fun i => P A b (s1 n r) (2048 + i)) (gk A) 384) (cq (s1 n r)) (sq (s1 n r)) j := by
  rw [again152, again150, again151]
  exact key3 (fun r i => P A b (s1 n r) (2048 + i)) (gk A) (fun r => cq (s1 n r)) (fun r => sq (s1 n r)) (bk1 X) (bk1_at hX) _ (lx13 hX) _ _
    (lx15_1 hX) (lx16_1 hX) r j

theorem ik1 (r : Fin 256) (j : Fin 64) : k0_pay153 (F := Ideal) (h1 X) (View.ld X.x7 r25) (View.ld X.x17 r63) (View.ld X.x18 r63) (ix2 r j)
    = rot 32 (fun i => P A b (s1 n r) (4096 + i)) (ci (s1 n r)) (si (s1 n r)) j := by
  rw [again153]
  exact key_i (fun r i => P A b (s1 n r) (4096 + i)) (fun r => ci (s1 n r)) (fun r => si (s1 n r)) _ _ _ _ (pIK hX _ _ (h1_at hX))
    (lx17_1 hX) (lx18_1 hX) r j

theorem query1_0 (j : Fin 64) (r : Fin 256) : k0_pay160 (F := Ideal) (h1 X) (View.ld X.x19 r27) (View.ld X.x21 r28) (View.ld X.x22 r69) (View.ld X.x23 r69) (ix4 0 0 j r)
    = rot 64 (headNorm (fun i => P A b (s1 n r) (1536 + i)) (gq A) 0) (cq (s1 n r)) (sq (s1 n r)) (j.val) * Ideal.ofBits .f32 1035273459#32 := by
  rw [again160]
  exact query0l (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_1 (j : Fin 64) (r : Fin 256) : k0_pay162 (F := Ideal) (k0_pay161 (h1 X) (View.ld X.x19 r27) (View.ld X.x21 r28) (View.ld X.x22 r69) (View.ld X.x23 r69)) (ix4 0 0 j r)
    = rot 64 (headNorm (fun i => P A b (s1 n r) (1536 + i)) (gq A) 0) (cq (s1 n r)) (sq (s1 n r)) (64 + j.val) * Ideal.ofBits .f32 1035273459#32 := by
  rw [again162, again161]
  exact query0h (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_2 (j : Fin 64) (r : Fin 256) : k0_pay168 (F := Ideal) (qt1 X) (View.ld X.x21 r28) (View.ld X.x22 r69) (View.ld X.x23 r69) (ix4 0 0 j r)
    = rot 64 (headNorm (fun i => P A b (s1 n r) (1536 + i)) (gq A) 128) (cq (s1 n r)) (sq (s1 n r)) (j.val) * Ideal.ofBits .f32 1035273459#32 := by
  rw [again168]
  rw [qt1]
  rw [again154]
  exact query1l (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_3 (j : Fin 64) (r : Fin 256) : k0_pay170 (F := Ideal) (k0_pay169 (qt1 X) (View.ld X.x21 r28) (View.ld X.x22 r69) (View.ld X.x23 r69)) (ix4 0 0 j r)
    = rot 64 (headNorm (fun i => P A b (s1 n r) (1536 + i)) (gq A) 128) (cq (s1 n r)) (sq (s1 n r)) (64 + j.val) * Ideal.ofBits .f32 1035273459#32 := by
  rw [again170, again169]
  rw [qt1]
  rw [again154]
  exact query1h (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_4 (j : Fin 64) (r : Fin 256) : k0_pay176 (F := Ideal) (qt1 X) (View.ld X.x21 r28) (View.ld X.x22 r69) (View.ld X.x23 r69) (ix4 0 0 j r)
    = rot 64 (headNorm (fun i => P A b (s1 n r) (1536 + i)) (gq A) 256) (cq (s1 n r)) (sq (s1 n r)) (j.val) * Ideal.ofBits .f32 1035273459#32 := by
  rw [again176]
  rw [qt1]
  rw [again154]
  exact query2l (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_5 (j : Fin 64) (r : Fin 256) : k0_pay178 (F := Ideal) (k0_pay177 (qt1 X) (View.ld X.x21 r28) (View.ld X.x22 r69) (View.ld X.x23 r69)) (ix4 0 0 j r)
    = rot 64 (headNorm (fun i => P A b (s1 n r) (1536 + i)) (gq A) 256) (cq (s1 n r)) (sq (s1 n r)) (64 + j.val) * Ideal.ofBits .f32 1035273459#32 := by
  rw [again178, again177]
  rw [qt1]
  rw [again154]
  exact query2h (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_6 (j : Fin 64) (r : Fin 256) : k0_pay184 (F := Ideal) (qt1 X) (View.ld X.x21 r28) (View.ld X.x22 r69) (View.ld X.x23 r69) (ix4 0 0 j r)
    = rot 64 (headNorm (fun i => P A b (s1 n r) (1536 + i)) (gq A) 384) (cq (s1 n r)) (sq (s1 n r)) (j.val) * Ideal.ofBits .f32 1035273459#32 := by
  rw [again184]
  rw [qt1]
  rw [again154]
  exact query3l (fun r i => P A b (s1 n r) (1536 + i)) (gq A) (fun r => cq (s1 n r)) (fun r => sq (s1 n r)) _ _ (pBQ hX _ _ (h1_at hX)) _ (lx21 hX) _ _
    (lx22_1 hX) (lx23_1 hX) j r

theorem query1_7 (j : Fin 64) (r : Fin 256) : k0_pay187 (F := Ideal) (k0_pay185 (qt1 X) (View.ld X.x21 r28) (View.ld X.x22 r69) (View.ld X.x23 r69)) (k0_pay186 (F := Ideal)) (ix4 0 0 j r)
    = rot 64 (headNorm (fun i => P A b (s1 n r) (1536 + i)) (gq A) 384) (cq (s1 n r)) (sq (s1 n r)) (64 + j.val) * Ideal.ofBits .f32 1035273459#32 := by
  rw [again187, again185, again186]
  rw [qt1]
  rw [again154]
  exact query3h (fun r i => P A b (s1 n r) (1536 + i)) (gq A) (fun r => cq (s1 n r)) (fun r => sq (s1 n r)) _ _ (pBQ hX _ _ (h1_at hX)) _ (lx21 hX) _ _
    (lx22_1 hX) (lx23_1 hX) j r

theorem value1 (i : Fin 512) (r : Fin 256) : k0_pay188 (F := Ideal) (h1 X) (View.ld X.x19 r38) (ix4 0 0 i r) = P A b (s1 n r) (2560 + i.val) := by
  rw [again188]
  exact value (fun r i => P A b (s1 n r) (2560 + i)) _ _ (pBV hX _ _ (h1_at hX)) i r

theorem gate1 (i : Fin 512) (r : Fin 256) : k0_pay189 (F := Ideal) (h1 X) (View.ld X.x19 r40) (ix4 0 0 i r)
    = P A b (s1 n r) (3072 + i.val) * Ideal.logistic (P A b (s1 n r) (3072 + i.val)) := by
  rw [again189]
  exact gate (fun r i => P A b (s1 n r) (3072 + i)) _ _ (pBZ hX _ _ (h1_at hX)) i r

theorem weight1 (i : Fin 16) (r : Fin 256) : k0_pay2 (F := Ideal) (h1 X) (View.ld X.x20 r59) (ix4 0 0 i r)
    = if i.val < 8 then P A b (s1 n r) (4160 + i.val) else 0 := by
  rw [again2]
  rw [weight]
  simp only [h1_at hX, lx20 hX]
  by_cases h : i.val < 8
  · simp only [if_pos h]; rfl
  · simp only [if_neg h, mul_zero, Finset.sum_const_zero]

theorem indexer1_0 (j : Fin 32) (r : Fin 256) : k0_pay196 (F := Ideal) (qa1 X) (qb1 X) (ca1 X) (View.ld X.x25 r79) (ix4 0 0 j r)
    = rot 32 (fun i => P A b (s1 n r) (3584 + (0 + i))) (ci (s1 n r)) (si (s1 n r)) (j.val) := by
  rw [again196]
  rw [qa1, qb1, ca1]
  rw [again192, again193, again194]
  exact indexer0l (fun r i => P A b (s1 n r) (3584 + i)) (fun r => ci (s1 n r)) (fun r => si (s1 n r)) _ _ (pIQ hX _ _ (h1_at hX)) _ _
    (lx24_1 hX) (lx25_1 hX) j r

theorem indexer1_1 (j : Fin 32) (r : Fin 256) : k0_pay197 (F := Ideal) (qa1 X) (qb1 X) (ca1 X) (View.ld X.x25 r79) (ix4 0 0 j r)
    = rot 32 (fun i => P A b (s1 n r) (3584 + (0 + i))) (ci (s1 n r)) (si (s1 n r)) (32 + j.val) := by
  rw [again197]
  rw [qa1, qb1, ca1]
  rw [again192, again193, again194]
  exact indexer0h (fun r i => P A b (s1 n r) (3584 + i)) (fun r => ci (s1 n r)) (fun r => si (s1 n r)) _ _ (pIQ hX _ _ (h1_at hX)) _ _
    (lx24_1 hX) (lx25_1 hX) j r

theorem indexer1_2 (j : Fin 32) (r : Fin 256) : k0_pay203 (F := Ideal) (qi1 X) (View.ld X.x24 r79) (View.ld X.x25 r79) (ix4 0 0 j r)
    = rot 32 (fun i => P A b (s1 n r) (3584 + (64 + i))) (ci (s1 n r)) (si (s1 n r)) (j.val) := by
  rw [again203]
  rw [qi1]
  rw [again190]
  exact indexer1l (fun r i => P A b (s1 n r) (3584 + i)) (fun r => ci (s1 n r)) (fun r => si (s1 n r)) _ _ (pIQ hX _ _ (h1_at hX)) _ _
    (lx24_1 hX) (lx25_1 hX) j r

theorem indexer1_3 (j : Fin 32) (r : Fin 256) : k0_pay204 (F := Ideal) (qi1 X) (View.ld X.x24 r79) (View.ld X.x25 r79) (ix4 0 0 j r)
    = rot 32 (fun i => P A b (s1 n r) (3584 + (64 + i))) (ci (s1 n r)) (si (s1 n r)) (32 + j.val) := by
  rw [again204]
  rw [qi1]
  rw [again190]
  exact indexer1h (fun r i => P A b (s1 n r) (3584 + i)) (fun r => ci (s1 n r)) (fun r => si (s1 n r)) _ _ (pIQ hX _ _ (h1_at hX)) _ _
    (lx24_1 hX) (lx25_1 hX) j r

theorem indexer1_4 (j : Fin 32) (r : Fin 256) : k0_pay210 (F := Ideal) (qi1 X) (View.ld X.x24 r79) (View.ld X.x25 r79) (ix4 0 0 j r)
    = rot 32 (fun i => P A b (s1 n r) (3584 + (128 + i))) (ci (s1 n r)) (si (s1 n r)) (j.val) := by
  rw [again210]
  rw [qi1]
  rw [again190]
  exact indexer2l (fun r i => P A b (s1 n r) (3584 + i)) (fun r => ci (s1 n r)) (fun r => si (s1 n r)) _ _ (pIQ hX _ _ (h1_at hX)) _ _
    (lx24_1 hX) (lx25_1 hX) j r

theorem indexer1_5 (j : Fin 32) (r : Fin 256) : k0_pay211 (F := Ideal) (qi1 X) (View.ld X.x24 r79) (View.ld X.x25 r79) (ix4 0 0 j r)
    = rot 32 (fun i => P A b (s1 n r) (3584 + (128 + i))) (ci (s1 n r)) (si (s1 n r)) (32 + j.val) := by
  rw [again211]
  rw [qi1]
  rw [again190]
  exact indexer2h (fun r i => P A b (s1 n r) (3584 + i)) (fun r => ci (s1 n r)) (fun r => si (s1 n r)) _ _ (pIQ hX _ _ (h1_at hX)) _ _
    (lx24_1 hX) (lx25_1 hX) j r

theorem indexer1_6 (j : Fin 32) (r : Fin 256) : k0_pay217 (F := Ideal) (qi1 X) (View.ld X.x24 r79) (View.ld X.x25 r79) (ix4 0 0 j r)
    = rot 32 (fun i => P A b (s1 n r) (3584 + (192 + i))) (ci (s1 n r)) (si (s1 n r)) (j.val) := by
  rw [again217]
  rw [qi1]
  rw [again190]
  exact indexer3l (fun r i => P A b (s1 n r) (3584 + i)) (fun r => ci (s1 n r)) (fun r => si (s1 n r)) _ _ (pIQ hX _ _ (h1_at hX)) _ _
    (lx24_1 hX) (lx25_1 hX) j r

theorem indexer1_7 (j : Fin 32) (r : Fin 256) : k0_pay219 (F := Ideal) (k0_pay214 (qi1 X)) (k0_pay215 (View.ld X.x24 r79)) (k0_pay218 (qi1 X) (View.ld X.x25 r79)) (ix4 0 0 j r)
    = rot 32 (fun i => P A b (s1 n r) (3584 + (192 + i))) (ci (s1 n r)) (si (s1 n r)) (32 + j.val) := by
  rw [again219, again214, again215, again218]
  rw [qi1]
  rw [again190]
  exact indexer3h (fun r i => P A b (s1 n r) (3584 + i)) (fun r => ci (s1 n r)) (fun r => si (s1 n r)) _ _ (pIQ hX _ _ (h1_at hX)) _ _
    (lx24_1 hX) (lx25_1 hX) j r

theorem indexer1_8 (j : Fin 32) (r : Fin 256) : k0_pay225 (F := Ideal) (qi1 X) (View.ld X.x24 r79) (View.ld X.x25 r79) (ix4 0 0 j r)
    = rot 32 (fun i => P A b (s1 n r) (3584 + (256 + i))) (ci (s1 n r)) (si (s1 n r)) (j.val) := by
  rw [again225]
  rw [qi1]
  rw [again190]
  exact indexer4l (fun r i => P A b (s1 n r) (3584 + i)) (fun r => ci (s1 n r)) (fun r => si (s1 n r)) _ _ (pIQ hX _ _ (h1_at hX)) _ _
    (lx24_1 hX) (lx25_1 hX) j r

theorem indexer1_9 (j : Fin 32) (r : Fin 256) : k0_pay226 (F := Ideal) (qi1 X) (View.ld X.x24 r79) (View.ld X.x25 r79) (ix4 0 0 j r)
    = rot 32 (fun i => P A b (s1 n r) (3584 + (256 + i))) (ci (s1 n r)) (si (s1 n r)) (32 + j.val) := by
  rw [again226]
  rw [qi1]
  rw [again190]
  exact indexer4h (fun r i => P A b (s1 n r) (3584 + i)) (fun r => ci (s1 n r)) (fun r => si (s1 n r)) _ _ (pIQ hX _ _ (h1_at hX)) _ _
    (lx24_1 hX) (lx25_1 hX) j r

theorem indexer1_10 (j : Fin 32) (r : Fin 256) : k0_pay233 (F := Ideal) (k0_pay232 (qi1 X) (View.ld X.x24 r79) (View.ld X.x25 r79)) (ix4 0 0 j r)
    = rot 32 (fun i => P A b (s1 n r) (3584 + (320 + i))) (ci (s1 n r)) (si (s1 n r)) (j.val) := by
  rw [again233, again232]
  rw [qi1]
  rw [again190]
  exact indexer5l (fun r i => P A b (s1 n r) (3584 + i)) (fun r => ci (s1 n r)) (fun r => si (s1 n r)) _ _ (pIQ hX _ _ (h1_at hX)) _ _
    (lx24_1 hX) (lx25_1 hX) j r

theorem indexer1_11 (j : Fin 32) (r : Fin 256) : k0_pay234 (F := Ideal) (k0_pay228 (qi1 X)) (k0_pay229 (qi1 X)) (k0_pay230 (View.ld X.x24 r79)) (k0_pay231 (View.ld X.x25 r79)) (ix4 0 0 j r)
    = rot 32 (fun i => P A b (s1 n r) (3584 + (320 + i))) (ci (s1 n r)) (si (s1 n r)) (32 + j.val) := by
  rw [again234, again228, again229, again230, again231]
  rw [qi1]
  rw [again190]
  exact indexer5h (fun r i => P A b (s1 n r) (3584 + i)) (fun r => ci (s1 n r)) (fun r => si (s1 n r)) _ _ (pIQ hX _ _ (h1_at hX)) _ _
    (lx24_1 hX) (lx25_1 hX) j r

theorem indexer1_12 (j : Fin 32) (r : Fin 256) : k0_pay240 (F := Ideal) (qi1 X) (View.ld X.x24 r79) (View.ld X.x25 r79) (ix4 0 0 j r)
    = rot 32 (fun i => P A b (s1 n r) (3584 + (384 + i))) (ci (s1 n r)) (si (s1 n r)) (j.val) := by
  rw [again240]
  rw [qi1]
  rw [again190]
  exact indexer6l (fun r i => P A b (s1 n r) (3584 + i)) (fun r => ci (s1 n r)) (fun r => si (s1 n r)) _ _ (pIQ hX _ _ (h1_at hX)) _ _
    (lx24_1 hX) (lx25_1 hX) j r

theorem indexer1_13 (j : Fin 32) (r : Fin 256) : k0_pay241 (F := Ideal) (qi1 X) (View.ld X.x24 r79) (View.ld X.x25 r79) (ix4 0 0 j r)
    = rot 32 (fun i => P A b (s1 n r) (3584 + (384 + i))) (ci (s1 n r)) (si (s1 n r)) (32 + j.val) := by
  rw [again241]
  rw [qi1]
  rw [again190]
  exact indexer6h (fun r i => P A b (s1 n r) (3584 + i)) (fun r => ci (s1 n r)) (fun r => si (s1 n r)) _ _ (pIQ hX _ _ (h1_at hX)) _ _
    (lx24_1 hX) (lx25_1 hX) j r

theorem indexer1_14 (j : Fin 32) (r : Fin 256) : k0_pay247 (F := Ideal) (qc1 X) (qd1 X) (View.ld X.x24 r79) (View.ld X.x25 r79) (ix4 0 0 j r)
    = rot 32 (fun i => P A b (s1 n r) (3584 + (448 + i))) (ci (s1 n r)) (si (s1 n r)) (j.val) := by
  rw [again247]
  rw [qc1, qd1, qi1]
  rw [again243, again244, again190]
  exact indexer7l (fun r i => P A b (s1 n r) (3584 + i)) (fun r => ci (s1 n r)) (fun r => si (s1 n r)) _ _ (pIQ hX _ _ (h1_at hX)) _ _
    (lx24_1 hX) (lx25_1 hX) j r

theorem indexer1_15 (j : Fin 32) (r : Fin 256) : k0_pay1 (F := Ideal) (k0_pay248 (qc1 X) (qd1 X) (View.ld X.x24 r79) (View.ld X.x25 r79)) (ix4 0 0 j r)
    = rot 32 (fun i => P A b (s1 n r) (3584 + (448 + i))) (ci (s1 n r)) (si (s1 n r)) (32 + j.val) := by
  rw [again248]
  rw [qc1, qd1, qi1]
  rw [again243, again244, again190]
  exact indexer7h (fun r i => P A b (s1 n r) (3584 + i)) (fun r => ci (s1 n r)) (fun r => si (s1 n r)) _ _ (pIQ hX _ _ (h1_at hX)) _ _
    (lx24_1 hX) (lx25_1 hX) j r

/-! The buffers, at an index. -/

theorem outX_at (r : Fin 512) (j : Fin 1024) : outX X (ix2 r j) = Ref.residual A (ix3 b (pos n r) j) := by
  rw [outX]
  refine View.canon_eq_of_allAt _ _ _ (fill_outX _ _ _) ?_
  refine View.allAt_cons_unit _ _ _ _ _ (tile2 _ _ _ fun p q hr hj => ?_) ?_
  · rw [hi2 n hr, show j = q from Fin.ext (by omega)]
    exact stream1 hX p q
  refine View.allAt_cons_unit _ _ _ _ _ (tile2 _ _ _ fun p q hr hj => ?_) ?_
  · rw [lo2 n hr, show j = q from Fin.ext (by omega)]
    exact stream0 hX p q
  exact View.allAt_nil _ _

theorem outM_at (r : Fin 512) (j : Fin 1024) : outM X (ix2 r j) = ma A b (pos n r) j := by
  rw [outM]
  refine View.canon_eq_of_allAt _ _ _ (fill_outM _ _ _) ?_
  refine View.allAt_cons_unit _ _ _ _ _ (tile2 _ _ _ fun p q hr hj => ?_) ?_
  · rw [hi2 n hr, show j = q from Fin.ext (by omega)]
    exact m1 hX p q
  refine View.allAt_cons_unit _ _ _ _ _ (tile2 _ _ _ fun p q hr hj => ?_) ?_
  · rw [lo2 n hr, show j = q from Fin.ext (by omega)]
    exact m0 hX p q
  exact View.allAt_nil _ _

theorem outS_at (r : Fin 512) (j : Fin 1024) : outS X (ix2 r j) = Ideal.logistic (P A b (pos n r) (5192 + j.val) + A.a6 (ix3 1 1 j)) := by
  rw [outS]
  refine View.canon_eq_of_allAt _ _ _ (fill_outS _ _ _) ?_
  refine View.allAt_cons_unit _ _ _ _ _ (tile2 _ _ _ fun p q hr hj => ?_) ?_
  · rw [hi2 n hr, show j = q from Fin.ext (by omega)]
    exact sig1 hX p q
  refine View.allAt_cons_unit _ _ _ _ _ (tile2 _ _ _ fun p q hr hj => ?_) ?_
  · rw [lo2 n hr, show j = q from Fin.ext (by omega)]
    exact sig0 hX p q
  exact View.allAt_nil _ _

theorem outK_at (r : Fin 512) (j : Fin 512) : outK X (ix2 r j) = rot 64 (headNorm (fun i => P A b (pos n r) (2048 + i)) (gk A) (j.val / 128 * 128)) (cq (pos n r)) (sq (pos n r)) (j.val % 128) := by
  rw [outK]
  refine View.canon_eq_of_allAt _ _ _ (fill_outK _ _ _ _ _ _ _ _ _) ?_
  refine View.allAt_cons_unit _ _ _ _ _ (tile2 _ _ _ fun p q hr hj => ?_) ?_
  · rw [hi2 n hr, show j.val / 128 * 128 = 384 by omega, show j.val % 128 = q.val by omega]
    exact key1_3 hX p q
  refine View.allAt_cons_unit _ _ _ _ _ (tile2 _ _ _ fun p q hr hj => ?_) ?_
  · rw [hi2 n hr, show j.val / 128 * 128 = 256 by omega, show j.val % 128 = q.val by omega]
    exact key1_2 hX p q
  refine View.allAt_cons_unit _ _ _ _ _ (tile2 _ _ _ fun p q hr hj => ?_) ?_
  · rw [hi2 n hr, show j.val / 128 * 128 = 128 by omega, show j.val % 128 = q.val by omega]
    exact key1_1 hX p q
  refine View.allAt_cons_unit _ _ _ _ _ (tile2 _ _ _ fun p q hr hj => ?_) ?_
  · rw [hi2 n hr, show j.val / 128 * 128 = 0 by omega, show j.val % 128 = q.val by omega]
    exact key1_0 hX p q
  refine View.allAt_cons_unit _ _ _ _ _ (tile2 _ _ _ fun p q hr hj => ?_) ?_
  · rw [lo2 n hr, show j.val / 128 * 128 = 384 by omega, show j.val % 128 = q.val by omega]
    exact key0_3 hX p q
  refine View.allAt_cons_unit _ _ _ _ _ (tile2 _ _ _ fun p q hr hj => ?_) ?_
  · rw [lo2 n hr, show j.val / 128 * 128 = 256 by omega, show j.val % 128 = q.val by omega]
    exact key0_2 hX p q
  refine View.allAt_cons_unit _ _ _ _ _ (tile2 _ _ _ fun p q hr hj => ?_) ?_
  · rw [lo2 n hr, show j.val / 128 * 128 = 128 by omega, show j.val % 128 = q.val by omega]
    exact key0_1 hX p q
  refine View.allAt_cons_unit _ _ _ _ _ (tile2 _ _ _ fun p q hr hj => ?_) ?_
  · rw [lo2 n hr, show j.val / 128 * 128 = 0 by omega, show j.val % 128 = q.val by omega]
    exact key0_0 hX p q
  exact View.allAt_nil _ _

theorem outI_at (r : Fin 512) (j : Fin 64) : outI X (ix2 r j) = rot 32 (fun i => P A b (pos n r) (4096 + i)) (ci (pos n r)) (si (pos n r)) j := by
  rw [outI]
  refine View.canon_eq_of_allAt _ _ _ (fill_outI _ _ _) ?_
  refine View.allAt_cons_unit _ _ _ _ _ (tile2 _ _ _ fun p q hr hj => ?_) ?_
  · rw [hi2 n hr, show j.val = q.val by omega]
    exact ik1 hX p q
  refine View.allAt_cons_unit _ _ _ _ _ (tile2 _ _ _ fun p q hr hj => ?_) ?_
  · rw [lo2 n hr, show j.val = q.val by omega]
    exact ik0 hX p q
  exact View.allAt_nil _ _

theorem outQ_at (t : Fin 2) (e : Fin 512) (r : Fin 256) : outQ X (ix4 0 t e r) = rot 64 (headNorm (fun i => P A b (pos n ⟨t.val * 256 + r.val, by omega⟩) (1536 + i)) (gq A) (e.val / 128 * 128)) (cq (pos n ⟨t.val * 256 + r.val, by omega⟩)) (sq (pos n ⟨t.val * 256 + r.val, by omega⟩)) (e.val % 128) * Ideal.ofBits .f32 1035273459#32 := by
  rw [outQ]
  refine View.canon_eq_of_allAt _ _ _ (fill_outQ _ _ _ _ _ _ _ _ _ _ _ _ _ _ _ _ _) ?_
  refine View.allAt_cons_unit _ _ _ _ _ (tile4 _ _ _ _ fun p q ht he hr => ?_) ?_
  · rw [hi4 n ht hr, show e.val / 128 * 128 = 384 by omega, show e.val % 128 = 64 + p.val by omega]
    exact query1_7 hX p q
  refine View.allAt_cons_unit _ _ _ _ _ (tile4 _ _ _ _ fun p q ht he hr => ?_) ?_
  · rw [hi4 n ht hr, show e.val / 128 * 128 = 384 by omega, show e.val % 128 = p.val by omega]
    exact query1_6 hX p q
  refine View.allAt_cons_unit _ _ _ _ _ (tile4 _ _ _ _ fun p q ht he hr => ?_) ?_
  · rw [hi4 n ht hr, show e.val / 128 * 128 = 256 by omega, show e.val % 128 = 64 + p.val by omega]
    exact query1_5 hX p q
  refine View.allAt_cons_unit _ _ _ _ _ (tile4 _ _ _ _ fun p q ht he hr => ?_) ?_
  · rw [hi4 n ht hr, show e.val / 128 * 128 = 256 by omega, show e.val % 128 = p.val by omega]
    exact query1_4 hX p q
  refine View.allAt_cons_unit _ _ _ _ _ (tile4 _ _ _ _ fun p q ht he hr => ?_) ?_
  · rw [hi4 n ht hr, show e.val / 128 * 128 = 128 by omega, show e.val % 128 = 64 + p.val by omega]
    exact query1_3 hX p q
  refine View.allAt_cons_unit _ _ _ _ _ (tile4 _ _ _ _ fun p q ht he hr => ?_) ?_
  · rw [hi4 n ht hr, show e.val / 128 * 128 = 128 by omega, show e.val % 128 = p.val by omega]
    exact query1_2 hX p q
  refine View.allAt_cons_unit _ _ _ _ _ (tile4 _ _ _ _ fun p q ht he hr => ?_) ?_
  · rw [hi4 n ht hr, show e.val / 128 * 128 = 0 by omega, show e.val % 128 = 64 + p.val by omega]
    exact query1_1 hX p q
  refine View.allAt_cons_unit _ _ _ _ _ (tile4 _ _ _ _ fun p q ht he hr => ?_) ?_
  · rw [hi4 n ht hr, show e.val / 128 * 128 = 0 by omega, show e.val % 128 = p.val by omega]
    exact query1_0 hX p q
  refine View.allAt_cons_unit _ _ _ _ _ (tile4 _ _ _ _ fun p q ht he hr => ?_) ?_
  · rw [lo4 n ht hr, show e.val / 128 * 128 = 384 by omega, show e.val % 128 = 64 + p.val by omega]
    exact query0_7 hX p q
  refine View.allAt_cons_unit _ _ _ _ _ (tile4 _ _ _ _ fun p q ht he hr => ?_) ?_
  · rw [lo4 n ht hr, show e.val / 128 * 128 = 384 by omega, show e.val % 128 = p.val by omega]
    exact query0_6 hX p q
  refine View.allAt_cons_unit _ _ _ _ _ (tile4 _ _ _ _ fun p q ht he hr => ?_) ?_
  · rw [lo4 n ht hr, show e.val / 128 * 128 = 256 by omega, show e.val % 128 = 64 + p.val by omega]
    exact query0_5 hX p q
  refine View.allAt_cons_unit _ _ _ _ _ (tile4 _ _ _ _ fun p q ht he hr => ?_) ?_
  · rw [lo4 n ht hr, show e.val / 128 * 128 = 256 by omega, show e.val % 128 = p.val by omega]
    exact query0_4 hX p q
  refine View.allAt_cons_unit _ _ _ _ _ (tile4 _ _ _ _ fun p q ht he hr => ?_) ?_
  · rw [lo4 n ht hr, show e.val / 128 * 128 = 128 by omega, show e.val % 128 = 64 + p.val by omega]
    exact query0_3 hX p q
  refine View.allAt_cons_unit _ _ _ _ _ (tile4 _ _ _ _ fun p q ht he hr => ?_) ?_
  · rw [lo4 n ht hr, show e.val / 128 * 128 = 128 by omega, show e.val % 128 = p.val by omega]
    exact query0_2 hX p q
  refine View.allAt_cons_unit _ _ _ _ _ (tile4 _ _ _ _ fun p q ht he hr => ?_) ?_
  · rw [lo4 n ht hr, show e.val / 128 * 128 = 0 by omega, show e.val % 128 = 64 + p.val by omega]
    exact query0_1 hX p q
  refine View.allAt_cons_unit _ _ _ _ _ (tile4 _ _ _ _ fun p q ht he hr => ?_) ?_
  · rw [lo4 n ht hr, show e.val / 128 * 128 = 0 by omega, show e.val % 128 = p.val by omega]
    exact query0_0 hX p q
  exact View.allAt_nil _ _

theorem outV_at (t : Fin 2) (e : Fin 512) (r : Fin 256) : outV X (ix4 0 t e r) = P A b (pos n ⟨t.val * 256 + r.val, by omega⟩) (2560 + e.val) := by
  rw [outV]
  refine View.canon_eq_of_allAt _ _ _ (fill_outV _ _ _) ?_
  refine View.allAt_cons_unit _ _ _ _ _ (tile4 _ _ _ _ fun p q ht he hr => ?_) ?_
  · rw [hi4 n ht hr, show e.val = p.val by omega]
    exact value1 hX p q
  refine View.allAt_cons_unit _ _ _ _ _ (tile4 _ _ _ _ fun p q ht he hr => ?_) ?_
  · rw [lo4 n ht hr, show e.val = p.val by omega]
    exact value0 hX p q
  exact View.allAt_nil _ _

theorem outZ_at (t : Fin 2) (e : Fin 512) (r : Fin 256) : outZ X (ix4 0 t e r) = P A b (pos n ⟨t.val * 256 + r.val, by omega⟩) (3072 + e.val) * Ideal.logistic (P A b (pos n ⟨t.val * 256 + r.val, by omega⟩) (3072 + e.val)) := by
  rw [outZ]
  refine View.canon_eq_of_allAt _ _ _ (fill_outZ _ _ _) ?_
  refine View.allAt_cons_unit _ _ _ _ _ (tile4 _ _ _ _ fun p q ht he hr => ?_) ?_
  · rw [hi4 n ht hr, show e.val = p.val by omega]
    exact gate1 hX p q
  refine View.allAt_cons_unit _ _ _ _ _ (tile4 _ _ _ _ fun p q ht he hr => ?_) ?_
  · rw [lo4 n ht hr, show e.val = p.val by omega]
    exact gate0 hX p q
  exact View.allAt_nil _ _

theorem outR_at (t : Fin 2) (e : Fin 512) (r : Fin 256) : outR X (ix4 0 t e r) = rot 32 (fun i => P A b (pos n ⟨t.val * 256 + r.val, by omega⟩) (3584 + (e.val / 64 * 64 + i))) (ci (pos n ⟨t.val * 256 + r.val, by omega⟩)) (si (pos n ⟨t.val * 256 + r.val, by omega⟩)) (e.val % 64) := by
  rw [outR]
  refine View.canon_eq_of_allAt _ _ _ (fill_outR _ _ _ _ _ _ _ _ _ _ _ _ _ _ _ _ _ _ _ _ _ _ _ _ _ _ _ _ _ _ _ _ _) ?_
  refine View.allAt_cons_unit _ _ _ _ _ (tile4 _ _ _ _ fun p q ht he hr => ?_) ?_
  · rw [hi4 n ht hr, show e.val / 64 * 64 = 448 by omega, show e.val % 64 = 32 + p.val by omega]
    exact indexer1_15 hX p q
  refine View.allAt_cons_unit _ _ _ _ _ (tile4 _ _ _ _ fun p q ht he hr => ?_) ?_
  · rw [hi4 n ht hr, show e.val / 64 * 64 = 448 by omega, show e.val % 64 = p.val by omega]
    exact indexer1_14 hX p q
  refine View.allAt_cons_unit _ _ _ _ _ (tile4 _ _ _ _ fun p q ht he hr => ?_) ?_
  · rw [hi4 n ht hr, show e.val / 64 * 64 = 384 by omega, show e.val % 64 = 32 + p.val by omega]
    exact indexer1_13 hX p q
  refine View.allAt_cons_unit _ _ _ _ _ (tile4 _ _ _ _ fun p q ht he hr => ?_) ?_
  · rw [hi4 n ht hr, show e.val / 64 * 64 = 384 by omega, show e.val % 64 = p.val by omega]
    exact indexer1_12 hX p q
  refine View.allAt_cons_unit _ _ _ _ _ (tile4 _ _ _ _ fun p q ht he hr => ?_) ?_
  · rw [hi4 n ht hr, show e.val / 64 * 64 = 320 by omega, show e.val % 64 = 32 + p.val by omega]
    exact indexer1_11 hX p q
  refine View.allAt_cons_unit _ _ _ _ _ (tile4 _ _ _ _ fun p q ht he hr => ?_) ?_
  · rw [hi4 n ht hr, show e.val / 64 * 64 = 320 by omega, show e.val % 64 = p.val by omega]
    exact indexer1_10 hX p q
  refine View.allAt_cons_unit _ _ _ _ _ (tile4 _ _ _ _ fun p q ht he hr => ?_) ?_
  · rw [hi4 n ht hr, show e.val / 64 * 64 = 256 by omega, show e.val % 64 = 32 + p.val by omega]
    exact indexer1_9 hX p q
  refine View.allAt_cons_unit _ _ _ _ _ (tile4 _ _ _ _ fun p q ht he hr => ?_) ?_
  · rw [hi4 n ht hr, show e.val / 64 * 64 = 256 by omega, show e.val % 64 = p.val by omega]
    exact indexer1_8 hX p q
  refine View.allAt_cons_unit _ _ _ _ _ (tile4 _ _ _ _ fun p q ht he hr => ?_) ?_
  · rw [hi4 n ht hr, show e.val / 64 * 64 = 192 by omega, show e.val % 64 = 32 + p.val by omega]
    exact indexer1_7 hX p q
  refine View.allAt_cons_unit _ _ _ _ _ (tile4 _ _ _ _ fun p q ht he hr => ?_) ?_
  · rw [hi4 n ht hr, show e.val / 64 * 64 = 192 by omega, show e.val % 64 = p.val by omega]
    exact indexer1_6 hX p q
  refine View.allAt_cons_unit _ _ _ _ _ (tile4 _ _ _ _ fun p q ht he hr => ?_) ?_
  · rw [hi4 n ht hr, show e.val / 64 * 64 = 128 by omega, show e.val % 64 = 32 + p.val by omega]
    exact indexer1_5 hX p q
  refine View.allAt_cons_unit _ _ _ _ _ (tile4 _ _ _ _ fun p q ht he hr => ?_) ?_
  · rw [hi4 n ht hr, show e.val / 64 * 64 = 128 by omega, show e.val % 64 = p.val by omega]
    exact indexer1_4 hX p q
  refine View.allAt_cons_unit _ _ _ _ _ (tile4 _ _ _ _ fun p q ht he hr => ?_) ?_
  · rw [hi4 n ht hr, show e.val / 64 * 64 = 64 by omega, show e.val % 64 = 32 + p.val by omega]
    exact indexer1_3 hX p q
  refine View.allAt_cons_unit _ _ _ _ _ (tile4 _ _ _ _ fun p q ht he hr => ?_) ?_
  · rw [hi4 n ht hr, show e.val / 64 * 64 = 64 by omega, show e.val % 64 = p.val by omega]
    exact indexer1_2 hX p q
  refine View.allAt_cons_unit _ _ _ _ _ (tile4 _ _ _ _ fun p q ht he hr => ?_) ?_
  · rw [hi4 n ht hr, show e.val / 64 * 64 = 0 by omega, show e.val % 64 = 32 + p.val by omega]
    exact indexer1_1 hX p q
  refine View.allAt_cons_unit _ _ _ _ _ (tile4 _ _ _ _ fun p q ht he hr => ?_) ?_
  · rw [hi4 n ht hr, show e.val / 64 * 64 = 0 by omega, show e.val % 64 = p.val by omega]
    exact indexer1_0 hX p q
  refine View.allAt_cons_unit _ _ _ _ _ (tile4 _ _ _ _ fun p q ht he hr => ?_) ?_
  · rw [lo4 n ht hr, show e.val / 64 * 64 = 448 by omega, show e.val % 64 = 32 + p.val by omega]
    exact indexer0_15 hX p q
  refine View.allAt_cons_unit _ _ _ _ _ (tile4 _ _ _ _ fun p q ht he hr => ?_) ?_
  · rw [lo4 n ht hr, show e.val / 64 * 64 = 448 by omega, show e.val % 64 = p.val by omega]
    exact indexer0_14 hX p q
  refine View.allAt_cons_unit _ _ _ _ _ (tile4 _ _ _ _ fun p q ht he hr => ?_) ?_
  · rw [lo4 n ht hr, show e.val / 64 * 64 = 384 by omega, show e.val % 64 = 32 + p.val by omega]
    exact indexer0_13 hX p q
  refine View.allAt_cons_unit _ _ _ _ _ (tile4 _ _ _ _ fun p q ht he hr => ?_) ?_
  · rw [lo4 n ht hr, show e.val / 64 * 64 = 384 by omega, show e.val % 64 = p.val by omega]
    exact indexer0_12 hX p q
  refine View.allAt_cons_unit _ _ _ _ _ (tile4 _ _ _ _ fun p q ht he hr => ?_) ?_
  · rw [lo4 n ht hr, show e.val / 64 * 64 = 320 by omega, show e.val % 64 = 32 + p.val by omega]
    exact indexer0_11 hX p q
  refine View.allAt_cons_unit _ _ _ _ _ (tile4 _ _ _ _ fun p q ht he hr => ?_) ?_
  · rw [lo4 n ht hr, show e.val / 64 * 64 = 320 by omega, show e.val % 64 = p.val by omega]
    exact indexer0_10 hX p q
  refine View.allAt_cons_unit _ _ _ _ _ (tile4 _ _ _ _ fun p q ht he hr => ?_) ?_
  · rw [lo4 n ht hr, show e.val / 64 * 64 = 256 by omega, show e.val % 64 = 32 + p.val by omega]
    exact indexer0_9 hX p q
  refine View.allAt_cons_unit _ _ _ _ _ (tile4 _ _ _ _ fun p q ht he hr => ?_) ?_
  · rw [lo4 n ht hr, show e.val / 64 * 64 = 256 by omega, show e.val % 64 = p.val by omega]
    exact indexer0_8 hX p q
  refine View.allAt_cons_unit _ _ _ _ _ (tile4 _ _ _ _ fun p q ht he hr => ?_) ?_
  · rw [lo4 n ht hr, show e.val / 64 * 64 = 192 by omega, show e.val % 64 = 32 + p.val by omega]
    exact indexer0_7 hX p q
  refine View.allAt_cons_unit _ _ _ _ _ (tile4 _ _ _ _ fun p q ht he hr => ?_) ?_
  · rw [lo4 n ht hr, show e.val / 64 * 64 = 192 by omega, show e.val % 64 = p.val by omega]
    exact indexer0_6 hX p q
  refine View.allAt_cons_unit _ _ _ _ _ (tile4 _ _ _ _ fun p q ht he hr => ?_) ?_
  · rw [lo4 n ht hr, show e.val / 64 * 64 = 128 by omega, show e.val % 64 = 32 + p.val by omega]
    exact indexer0_5 hX p q
  refine View.allAt_cons_unit _ _ _ _ _ (tile4 _ _ _ _ fun p q ht he hr => ?_) ?_
  · rw [lo4 n ht hr, show e.val / 64 * 64 = 128 by omega, show e.val % 64 = p.val by omega]
    exact indexer0_4 hX p q
  refine View.allAt_cons_unit _ _ _ _ _ (tile4 _ _ _ _ fun p q ht he hr => ?_) ?_
  · rw [lo4 n ht hr, show e.val / 64 * 64 = 64 by omega, show e.val % 64 = 32 + p.val by omega]
    exact indexer0_3 hX p q
  refine View.allAt_cons_unit _ _ _ _ _ (tile4 _ _ _ _ fun p q ht he hr => ?_) ?_
  · rw [lo4 n ht hr, show e.val / 64 * 64 = 64 by omega, show e.val % 64 = p.val by omega]
    exact indexer0_2 hX p q
  refine View.allAt_cons_unit _ _ _ _ _ (tile4 _ _ _ _ fun p q ht he hr => ?_) ?_
  · rw [lo4 n ht hr, show e.val / 64 * 64 = 0 by omega, show e.val % 64 = 32 + p.val by omega]
    exact indexer0_1 hX p q
  refine View.allAt_cons_unit _ _ _ _ _ (tile4 _ _ _ _ fun p q ht he hr => ?_) ?_
  · rw [lo4 n ht hr, show e.val / 64 * 64 = 0 by omega, show e.val % 64 = p.val by omega]
    exact indexer0_0 hX p q
  exact View.allAt_nil _ _

theorem outW_at (t : Fin 2) (e : Fin 16) (r : Fin 256) : outW X (ix4 0 t e r) = if e.val < 8 then P A b (pos n ⟨t.val * 256 + r.val, by omega⟩) (4160 + e.val) else 0 := by
  rw [outW]
  refine View.canon_eq_of_allAt _ _ _ (fill_outW _ _ _) ?_
  refine View.allAt_cons_unit _ _ _ _ _ (tile4 _ _ _ _ fun p q ht he hr => ?_) ?_
  · rw [hi4 n ht hr, show e.val = p.val by omega]
    exact weight1 hX p q
  refine View.allAt_cons_unit _ _ _ _ _ (tile4 _ _ _ _ fun p q ht he hr => ?_) ?_
  · rw [lo4 n ht hr, show e.val = p.val by omega]
    exact weight0 hX p q
  exact View.allAt_nil _ _

end Stores

end Cert.Proof.Proj

end
-- ==== Proof.Proj.Agree.lean ====
/- Each block of the ten results agrees with the reference there. -/
module

public import proofs.«01_k».proof.Proof.Proj.Holds
public import proofs.«01_k».proof.Proof.Proj.Tile
public import proofs.«01_k».proof.Proof.Proj.RefAt
public import proofs.«01_k».proof.Proof.Proj.RefB
public import proofs.«01_k».proof.Proof.Proj.RefR

@[expose] public section

set_option maxRecDepth 16384

noncomputable section

namespace Cert.Proof.Proj

open Cert.Kernel3Ideal Cert.Kernel3Ideal.Gen Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem agree26 (c : Dev nD) (t : Fin cfg0.N) (r : Fin 512) (j : Fin 1024) : outX (blocks m c t) (ix2 r j) = Ref.gX (args m c) (ix2 (row t r) j) := by
  generalize hA : args m c = A
  generalize hX : blocks m c t = X
  have h : Reads A X (bt t) (nt t) := hA ▸ hX ▸ reads m c t
  rw [outX_at h, Ref.gX_at]
  simp only [row_batch, row_pos]

theorem agree27 (c : Dev nD) (t : Fin cfg0.N) (r : Fin 512) (j : Fin 1024) : outM (blocks m c t) (ix2 r j) = Ref.gM (args m c) (ix2 (row t r) j) := by
  generalize hA : args m c = A
  generalize hX : blocks m c t = X
  have h : Reads A X (bt t) (nt t) := hA ▸ hX ▸ reads m c t
  rw [outM_at h, Ref.gM_at]
  simp only [row_batch, row_pos]

theorem agree28 (c : Dev nD) (t : Fin cfg0.N) (r : Fin 512) (j : Fin 1024) : outS (blocks m c t) (ix2 r j) = Ref.gS (args m c) (ix2 (row t r) j) := by
  generalize hA : args m c = A
  generalize hX : blocks m c t = X
  have h : Reads A X (bt t) (nt t) := hA ▸ hX ▸ reads m c t
  rw [outS_at h, Ref.gS_at]
  simp only [row_batch, row_pos]

theorem agree29 (c : Dev nD) (t : Fin cfg0.N) (r : Fin 512) (j : Fin 512) : outK (blocks m c t) (ix2 r j) = Ref.gK (args m c) (ix2 (row t r) j) := by
  generalize hA : args m c = A
  generalize hX : blocks m c t = X
  have h : Reads A X (bt t) (nt t) := hA ▸ hX ▸ reads m c t
  rw [outK_at h, Ref.gK_at]
  simp only [row_batch, row_pos]

theorem agree30 (c : Dev nD) (t : Fin cfg0.N) (r : Fin 512) (j : Fin 64) : outI (blocks m c t) (ix2 r j) = Ref.gI (args m c) (ix2 (row t r) j) := by
  generalize hA : args m c = A
  generalize hX : blocks m c t = X
  have h : Reads A X (bt t) (nt t) := hA ▸ hX ▸ reads m c t
  rw [outI_at h, Ref.gI_at]
  simp only [row_batch, row_pos]

theorem agree31 (c : Dev nD) (t : Fin cfg0.N) (q : Fin 2) (e : Fin 512) (p : Fin 256) : outQ (blocks m c t) (ix4 0 q e p) = Ref.gQ (args m c) (ix4 (bt t) (piece t q) e p) := by
  generalize hA : args m c = A
  generalize hX : blocks m c t = X
  have h : Reads A X (bt t) (nt t) := hA ▸ hX ▸ reads m c t
  have e' : (⟨(piece t q).val * 256 + p.val, by omega⟩ : Fin 4096) = pos (nt t) ⟨q.val * 256 + p.val, by omega⟩ := piece_pos t q p _ _
  rw [outQ_at h, Ref.gQ_at]
  simp only [e']

theorem agree32 (c : Dev nD) (t : Fin cfg0.N) (q : Fin 2) (e : Fin 512) (p : Fin 256) : outV (blocks m c t) (ix4 0 q e p) = Ref.gV (args m c) (ix4 (bt t) (piece t q) e p) := by
  generalize hA : args m c = A
  generalize hX : blocks m c t = X
  have h : Reads A X (bt t) (nt t) := hA ▸ hX ▸ reads m c t
  have e' : (⟨(piece t q).val * 256 + p.val, by omega⟩ : Fin 4096) = pos (nt t) ⟨q.val * 256 + p.val, by omega⟩ := piece_pos t q p _ _
  rw [outV_at h, Ref.gV_at]
  simp only [e']

theorem agree33 (c : Dev nD) (t : Fin cfg0.N) (q : Fin 2) (e : Fin 512) (p : Fin 256) : outZ (blocks m c t) (ix4 0 q e p) = Ref.gZ (args m c) (ix4 (bt t) (piece t q) e p) := by
  generalize hA : args m c = A
  generalize hX : blocks m c t = X
  have h : Reads A X (bt t) (nt t) := hA ▸ hX ▸ reads m c t
  have e' : (⟨(piece t q).val * 256 + p.val, by omega⟩ : Fin 4096) = pos (nt t) ⟨q.val * 256 + p.val, by omega⟩ := piece_pos t q p _ _
  rw [outZ_at h, Ref.gZ_at]
  simp only [e']

theorem agree34 (c : Dev nD) (t : Fin cfg0.N) (q : Fin 2) (e : Fin 512) (p : Fin 256) : outR (blocks m c t) (ix4 0 q e p) = Ref.gR (args m c) (ix4 (bt t) (piece t q) e p) := by
  generalize hA : args m c = A
  generalize hX : blocks m c t = X
  have h : Reads A X (bt t) (nt t) := hA ▸ hX ▸ reads m c t
  have e' : (⟨(piece t q).val * 256 + p.val, by omega⟩ : Fin 4096) = pos (nt t) ⟨q.val * 256 + p.val, by omega⟩ := piece_pos t q p _ _
  rw [outR_at h, Ref.gR_at]
  simp only [e']

theorem agree35 (c : Dev nD) (t : Fin cfg0.N) (q : Fin 2) (e : Fin 16) (p : Fin 256) : outW (blocks m c t) (ix4 0 q e p) = Ref.gW (args m c) (ix4 (bt t) (piece t q) e p) := by
  generalize hA : args m c = A
  generalize hX : blocks m c t = X
  have h : Reads A X (bt t) (nt t) := hA ▸ hX ▸ reads m c t
  have e' : (⟨(piece t q).val * 256 + p.val, by omega⟩ : Fin 4096) = pos (nt t) ⟨q.val * 256 + p.val, by omega⟩ := piece_pos t q p _ _
  rw [outW_at h, Ref.gW_at]
  simp only [e']

end Cert.Proof.Proj

end
-- ==== Proof.Proj.Step.lean ====
/- One block of 512 rows of the call that closes a layer and projects the next one: the body runs, and leaves in its ten
   result buffers what Proof/Proj/Body.lean says. Over any float values. -/
module

public import proofs.«01_k».proof.Proof.Proj.Body
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body on whole buffers, the inputs' at the blocks `X` and the results' at anything, ends with the inputs' as they were and the
    results' at the ten contents above. -/
theorem body_run (c : Dev nD) (E : Set ℕ) (i : grid0.Coords)
    (arg1 : Memref sig .tc .vmem S512x1024 .f32) (harg1 : arg1.IsWhole)
    (arg2 : Memref sig .tc .vmem S512x512 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1x512x1024 .bf16) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x4224x1024 .bf16) (harg8 : arg8.IsWhole)
    (arg9 : Memref sig .tc .vmem S1x2x1024 .f32) (harg9 : arg9.IsWhole)
    (arg10 : Memref sig .tc .vmem S1x1x512 .f32) (harg10 : arg10.IsWhole)
    (arg11 : Memref sig .tc .vmem S1x1x512 .f32) (harg11 : arg11.IsWhole)
    (arg12 : Memref sig .tc .vmem S1x4x128x128 .f32) (harg12 : arg12.IsWhole)
    (arg13 : Memref sig .tc .vmem S1x128x512 .f32) (harg13 : arg13.IsWhole)
    (arg14 : Memref sig .tc .vmem S1x1x128 .f32) (harg14 : arg14.IsWhole)
    (arg15 : Memref sig .tc .vmem S1x512x1024 .bf16) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S512x128 .f32) (harg18 : arg18.IsWhole)
    (arg19 : Memref sig .tc .vmem S512x128 .f32) (harg19 : arg19.IsWhole)
    (arg20 : Memref sig .tc .vmem S1x2048x1024 .bf16) (harg20 : arg20.IsWhole)
    (arg21 : Memref sig .tc .vmem S1x16x1024 .bf16) (harg21 : arg21.IsWhole)
    (arg22 : Memref sig .tc .vmem S1x128x1 .f32) (harg22 : arg22.IsWhole)
    (arg23 : Memref sig .tc .vmem S64x512 .f32) (harg23 : arg23.IsWhole)
    (arg24 : Memref sig .tc .vmem S64x512 .f32) (harg24 : arg24.IsWhole)
    (arg25 : Memref sig .tc .vmem S32x512 .f32) (harg25 : arg25.IsWhole)
    (arg26 : Memref sig .tc .vmem S32x512 .f32) (harg26 : arg26.IsWhole)
    (arg27 : Memref sig .tc .vmem S512x1024 .f32) (harg27 : arg27.IsWhole)
    (arg28 : Memref sig .tc .vmem S512x1024 .bf16) (harg28 : arg28.IsWhole)
    (arg29 : Memref sig .tc .vmem S512x1024 .bf16) (harg29 : arg29.IsWhole)
    (arg30 : Memref sig .tc .vmem S512x512 .bf16) (harg30 : arg30.IsWhole)
    (arg31 : Memref sig .tc .vmem S512x64 .bf16) (harg31 : arg31.IsWhole)
    (arg32 : Memref sig .tc .vmem S1x2x512x256 .bf16) (harg32 : arg32.IsWhole)
    (arg33 : Memref sig .tc .vmem S1x2x512x256 .bf16) (harg33 : arg33.IsWhole)
    (arg34 : Memref sig .tc .vmem S1x2x512x256 .bf16) (harg34 : arg34.IsWhole)
    (arg35 : Memref sig .tc .vmem S1x2x512x256 .bf16) (harg35 : arg35.IsWhole)
    (arg36 : Memref sig .tc .vmem S1x2x16x256 .f32) (harg36 : arg36.IsWhole)
    (X : Blocks F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare X.x24 ∗ owns (c : Thread nD τ) arg26 fullShare X.x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare X.x24 ∗ owns (c : Thread nD τ) arg26 fullShare X.x25 ∗ owns (c : Thread nD τ) arg27 fullShare (outX X) ∗ owns (c : Thread nD τ) arg28 fullShare (outM X) ∗ owns (c : Thread nD τ) arg29 fullShare (outS X) ∗ owns (c : Thread nD τ) arg30 fullShare (outK X) ∗ owns (c : Thread nD τ) arg31 fullShare (outI X) ∗ owns (c : Thread nD τ) arg32 fullShare (outQ X) ∗ owns (c : Thread nD τ) arg33 fullShare (outV X) ∗ owns (c : Thread nD τ) arg34 fullShare (outZ X) ∗ owns (c : Thread nD τ) arg35 fullShare (outR X) ∗ owns (c : Thread nD τ) arg36 fullShare (outW X)) -∗ K ⟨⟩))
      ⊢ wp frame (wpE (defs₀ (F := F)) Variants.none c none) E (cc0_out_proj_then_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  obtain ⟨x0, x1, x2, x3, x4, x5, x6, x7, x8, x9, x10, x11, x12, x13, x14, x15, x16, x17, x18, x19, x20, x21, x22, x23, x24, x25⟩ := X
  simp only [cc0_out_proj_then_proj_eq_skeleton]; unfold cc0_out_proj_then_proj_skel
  simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (fill_outX _ _)).trans ?_
    rfl
  isplitl [H27]
  · iexists _; isplitr
    swap; · iexact H27
    ipureintro
    refine (View.read_writes_eq_canon _ _ _ (fill_outM _ _)).trans ?_
    rfl
  isplitl [H28]
  · iexists _; isplitr
    swap; · iexact H28
    ipureintro
    refine (View.read_writes_eq_canon _ _ _ (fill_outS _ _)).trans ?_
    rfl
  isplitl [H29]
  · iexists _; isplitr
    swap; · iexact H29
    ipureintro
    refine (View.read_writes_eq_canon _ _ _ (fill_outK _ _ _ _ _ _ _ _)).trans ?_
    rfl
  isplitl [H30]
  · iexists _; isplitr
    swap; · iexact H30
    ipureintro
    refine (View.read_writes_eq_canon _ _ _ (fill_outI _ _)).trans ?_
    rfl
  isplitl [H31]
  · iexists _; isplitr
    swap; · iexact H31
    ipureintro
    refine (View.read_writes_eq_canon _ _ _ (fill_outQ _ _ _ _ _ _ _ _ _ _ _ _ _ _ _ _)).trans ?_
    rfl
  isplitl [H32]
  · iexists _; isplitr
    swap; · iexact H32
    ipureintro
    refine (View.read_writes_eq_canon _ _ _ (fill_outV _ _)).trans ?_
    rfl
  isplitl [H33]
  · iexists _; isplitr
    swap; · iexact H33
    ipureintro
    refine (View.read_writes_eq_canon _ _ _ (fill_outZ _ _)).trans ?_
    rfl
  isplitl [H34]
  · iexists _; isplitr
    swap; · iexact H34
    ipureintro
    refine (View.read_writes_eq_canon _ _ _ (fill_outR _ _ _ _ _ _ _ _ _ _ _ _ _ _ _ _ _ _ _ _ _ _ _ _ _ _ _ _ _ _ _ _)).trans ?_
    rfl
  iexists _; isplitr
  swap; · iexact H35
  ipureintro
  refine (View.read_writes_eq_canon _ _ _ (fill_outW _ _)).trans ?_
  rfl

end Cert.Proof.Proj

end
-- ==== Proof.Proj.Run.lean ====
/- The call that closes a layer and projects the next one, run: its pipeline ends with the arguments as they were and every result array at
   what the points of the grid wrote into it. Over any float values. -/
module

public import proofs.«01_k».proof.Proof.Proj.Step
public import proofs.«01_k».proof.Proof.Proj.Inputs
public import Idealize.ShloMosaic.Lib.Claim

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem host_fresh : (hostOps0 : List (HloOp τ sig (Elt F))).Forall fun op => op.fresh = ∅ := by
  simp only [List.Forall]; repeat' constructor

set_option maxHeartbeats 1600000 in
/-- The program is the host's operations and then the pipeline. -/
theorem prefix_main (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15]

theorem ne_of_mem_of_not_mem {b y : Ref sig .tc} {l : List (Ref sig .tc)} (hb : b ∈ l) (hy : y ∉ l) : b ≠ y := fun e => hy (e ▸ hb)

set_option maxHeartbeats 1600000 in
/-- The host writes none of the arguments. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, StableHlo.unaryIndexed_writes, StableHlo.nary_writes, Finset.mem_singleton]
    repeat' apply And.intro
    all_goals exact StableHlo.devRef_ne_of_ne (ne_of_mem_of_not_mem hb (by decide))))

/-- The pipeline's data on a core: each input's buffer stays at its block, each result's goes to what the body leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => outX (blocks m c t)
    | ⟨27, _⟩ => outM (blocks m c t)
    | ⟨28, _⟩ => outS (blocks m c t)
    | ⟨29, _⟩ => outK (blocks m c t)
    | ⟨30, _⟩ => outI (blocks m c t)
    | ⟨31, _⟩ => outQ (blocks m c t)
    | ⟨32, _⟩ => outV (blocks m c t)
    | ⟨33, _⟩ => outZ (blocks m c t)
    | ⟨34, _⟩ => outR (blocks m c t)
    | ⟨35, _⟩ => outW (blocks m c t)
    | ⟨_ + 36, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = outX (blocks m c t) := by dsimp only [dats]
theorem after_27 (c : Dev nD) (t : Fin cfg0.N) : (dats m 0 c).after 27 t = outM (blocks m c t) := by dsimp only [dats]
theorem after_28 (c : Dev nD) (t : Fin cfg0.N) : (dats m 0 c).after 28 t = outS (blocks m c t) := by dsimp only [dats]
theorem after_29 (c : Dev nD) (t : Fin cfg0.N) : (dats m 0 c).after 29 t = outK (blocks m c t) := by dsimp only [dats]
theorem after_30 (c : Dev nD) (t : Fin cfg0.N) : (dats m 0 c).after 30 t = outI (blocks m c t) := by dsimp only [dats]
theorem after_31 (c : Dev nD) (t : Fin cfg0.N) : (dats m 0 c).after 31 t = outQ (blocks m c t) := by dsimp only [dats]
theorem after_32 (c : Dev nD) (t : Fin cfg0.N) : (dats m 0 c).after 32 t = outV (blocks m c t) := by dsimp only [dats]
theorem after_33 (c : Dev nD) (t : Fin cfg0.N) : (dats m 0 c).after 33 t = outZ (blocks m c t) := by dsimp only [dats]
theorem after_34 (c : Dev nD) (t : Fin cfg0.N) : (dats m 0 c).after 34 t = outR (blocks m c t) := by dsimp only [dats]
theorem after_35 (c : Dev nD) (t : Fin cfg0.N) : (dats m 0 c).after 35 t = outW (blocks m c t) := by dsimp only [dats]

/-! An input's buffer holds its block when the body runs. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  ((dats m 0 c).before_in_eq_fetched 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]; try rfl) t d).trans
    (by unfold Dat.fetched Dat.blockOf iblk; rw [A_eq]; try rfl)
theorem before_19 (c : Dev nD) (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]; try rfl) t d).trans
    (by unfold Dat.fetched Dat.blockOf iblk; rw [A_eq]; try rfl)
theorem before_20 (c : Dev nD) (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]; try rfl) t d).trans
    (by unfold Dat.fetched Dat.blockOf iblk; rw [A_eq]; try rfl)
theorem before_21 (c : Dev nD) (t : Fin cfg0.N) (d) : (dats m 0 c).before 21 t d = iblk m c 21 t :=
  ((dats m 0 c).before_in_eq_fetched 21 rfl (fun _ => rfl) (fun _ _ _ => rfl) (fun t => by rw [after_21]; unfold Dat.blockOf iblk; rw [A_eq]; try rfl) t d).trans
    (by unfold Dat.fetched Dat.blockOf iblk; rw [A_eq]; try rfl)
theorem before_22 (c : Dev nD) (t : Fin cfg0.N) (d) : (dats m 0 c).before 22 t d = iblk m c 22 t :=
  ((dats m 0 c).before_in_eq_fetched 22 rfl (fun _ => rfl) (fun _ _ _ => rfl) (fun t => by rw [after_22]; unfold Dat.blockOf iblk; rw [A_eq]; try rfl) t d).trans
    (by unfold Dat.fetched Dat.blockOf iblk; rw [A_eq]; try rfl)
theorem before_23 (c : Dev nD) (t : Fin cfg0.N) (d) : (dats m 0 c).before 23 t d = iblk m c 23 t :=
  ((dats m 0 c).before_in_eq_fetched 23 rfl (fun _ => rfl) (fun _ _ _ => rfl) (fun t => by rw [after_23]; unfold Dat.blockOf iblk; rw [A_eq]; try rfl) t d).trans
    (by unfold Dat.fetched Dat.blockOf iblk; rw [A_eq]; try rfl)
theorem before_24 (c : Dev nD) (t : Fin cfg0.N) (d) : (dats m 0 c).before 24 t d = iblk m c 24 t :=
  ((dats m 0 c).before_in_eq_fetched 24 rfl (fun _ => rfl) (fun _ _ _ => rfl) (fun t => by rw [after_24]; unfold Dat.blockOf iblk; rw [A_eq]; try rfl) t d).trans
    (by unfold Dat.fetched Dat.blockOf iblk; rw [A_eq]; try rfl)
theorem before_25 (c : Dev nD) (t : Fin cfg0.N) (d) : (dats m 0 c).before 25 t d = iblk m c 25 t :=
  ((dats m 0 c).before_in_eq_fetched 25 rfl (fun _ => rfl) (fun _ _ _ => rfl) (fun t => by rw [after_25]; unfold Dat.blockOf iblk; rw [A_eq]; try rfl) t d).trans
    (by unfold Dat.fetched Dat.blockOf iblk; rw [A_eq]; try rfl)

/-- The buffers when the body is called at a point, and when it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 4000000 in
/-- The body at a point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (body_run c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

theorem row_at (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
set_option maxHeartbeats 1600000 in
/-- From any memory with zero counters every execution ends, with the arrays at what the pipeline's data say and the counters at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := prefix_main m Variants.none) (hA := A_eq m) (hΦ := fun _ _ => rfl)

set_option maxHeartbeats 2160000 in
/-- The arguments end as they were. -/
theorem args_kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_arg m c main_arg0 (by decide)),
    ((h c).2 main_arg1 (Pipeline.mem_restRefs_of main_arg1 (by decide) (by decide))).trans (V_arg m c main_arg1 (by decide)),
    ((h c).2 main_arg2 (Pipeline.mem_restRefs_of main_arg2 (by decide) (by decide))).trans (V_arg m c main_arg2 (by decide)),
    ((h c).2 main_arg3 (Pipeline.mem_restRefs_of main_arg3 (by decide) (by decide))).trans (V_arg m c main_arg3 (by decide)),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide)),
    ((h c).1 8).trans (((dats m 0 c).arrAt_in 8 rfl _).trans ((A_eq m c 8).trans (V_arg m c main_arg6 (by decide)))),
    ((h c).2 main_arg7 (Pipeline.mem_restRefs_of main_arg7 (by decide) (by decide))).trans (V_arg m c main_arg7 (by decide)),
    ((h c).2 main_arg8 (Pipeline.mem_restRefs_of main_arg8 (by decide) (by decide))).trans (V_arg m c main_arg8 (by decide)),
    ((h c).1 11).trans (((dats m 0 c).arrAt_in 11 rfl _).trans ((A_eq m c 11).trans (V_arg m c main_arg9 (by decide)))),
    ((h c).2 main_arg10 (Pipeline.mem_restRefs_of main_arg10 (by decide) (by decide))).trans (V_arg m c main_arg10 (by decide)),
    ((h c).2 main_arg11 (Pipeline.mem_restRefs_of main_arg11 (by decide) (by decide))).trans (V_arg m c main_arg11 (by decide)),
    ((h c).2 main_arg12 (Pipeline.mem_restRefs_of main_arg12 (by decide) (by decide))).trans (V_arg m c main_arg12 (by decide)),
    ((h c).2 main_arg13 (Pipeline.mem_restRefs_of main_arg13 (by decide) (by decide))).trans (V_arg m c main_arg13 (by decide)),
    ((h c).2 main_arg14 (Pipeline.mem_restRefs_of main_arg14 (by decide) (by decide))).trans (V_arg m c main_arg14 (by decide)),
    ((h c).2 main_arg15 (Pipeline.mem_restRefs_of main_arg15 (by decide) (by decide))).trans (V_arg m c main_arg15 (by decide))⟩

/-- The frame: the arguments end as they were, and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => args_kept m h.1 c, h.2⟩) (run_all m ρ)

end Cert.Proof.Proj

end
-- ==== Proof.Proj.Results.lean ====
/- What the run leaves in the result arrays. -/
module

public import proofs.«01_k».proof.Proof.Proj.Run
public import Idealize.ShloMosaic.Lib.Claim

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The results end at what the points of the grid wrote. -/
theorem run_arrays : θ_run defs (onTc (τ := τ) (main (F := F))) ⟨m, fun _ => 0, ρ⟩ (fun r => ∀ c : Dev nD,
      (r.2.mem ((c.tc : Thread nD τ).loc main_v77_0) = (dats m 0 c).arrAt 26 cfg0.N
      ∧ r.2.mem ((c.tc : Thread nD τ).loc main_v77_1) = (dats m 0 c).arrAt 27 cfg0.N
      ∧ r.2.mem ((c.tc : Thread nD τ).loc main_v77_2) = (dats m 0 c).arrAt 28 cfg0.N
      ∧ r.2.mem ((c.tc : Thread nD τ).loc main_v77_3) = (dats m 0 c).arrAt 29 cfg0.N
      ∧ r.2.mem ((c.tc : Thread nD τ).loc main_v77_4) = (dats m 0 c).arrAt 30 cfg0.N
      ∧ r.2.mem ((c.tc : Thread nD τ).loc main_v77_5) = (dats m 0 c).arrAt 31 cfg0.N
      ∧ r.2.mem ((c.tc : Thread nD τ).loc main_v77_6) = (dats m 0 c).arrAt 32 cfg0.N
      ∧ r.2.mem ((c.tc : Thread nD τ).loc main_v77_7) = (dats m 0 c).arrAt 33 cfg0.N
      ∧ r.2.mem ((c.tc : Thread nD τ).loc main_v77_8) = (dats m 0 c).arrAt 34 cfg0.N
      ∧ r.2.mem ((c.tc : Thread nD τ).loc main_v77_9) = (dats m 0 c).arrAt 35 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨⟨(h.1 c).1 26, (h.1 c).1 27, (h.1 c).1 28, (h.1 c).1 29, (h.1 c).1 30, (h.1 c).1 31, (h.1 c).1 32, (h.1 c).1 33, (h.1 c).1 34, (h.1 c).1 35⟩, args_kept m h.1 c⟩) (run_all m ρ)

end Cert.Proof.Proj

end
-- ==== Proof.Proj.Final.lean ====
/- What the call that closes a layer and projects the next one computes: its ten results are the reference's. -/
module

public import proofs.«01_k».proof.Proof.Proj.Give
public import proofs.«01_k».proof.Proof.Proj.Agree
public import proofs.«01_k».proof.Proof.Proj.Results

@[expose] public section

set_option maxRecDepth 16384

noncomputable section

namespace Cert.Proof.Proj

open Cert.Kernel3Ideal Cert.Kernel3Ideal.Gen Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

theorem flushed26 (c : Dev nD) (t : Fin cfg0.N) : (dats m 0 c).flushed 26 t = ((cfg0.win 26).blk t).view.read (Elt Ideal) (Ref.gX (args m c)) := by
  show (cfg0.win 26).cut (grid0.coords t) ((dats m 0 c).after 26 t) = _
  rw [after_26]
  exact cut26 t _ _ (agree26 m c t)

theorem final26 (c : Dev nD) : (dats m 0 c).arrAt 26 cfg0.N = Ref.gX (args m c) :=
  (dats m 0 c).arrAt_eq_of_cover 26 _ (fun t _ => flushed26 m c t) covered26

theorem flushed27 (c : Dev nD) (t : Fin cfg0.N) : (dats m 0 c).flushed 27 t = ((cfg0.win 27).blk t).view.read (Elt Ideal) (Ref.gM (args m c)) := by
  show (cfg0.win 27).cut (grid0.coords t) ((dats m 0 c).after 27 t) = _
  rw [after_27]
  exact cut27 t _ _ (agree27 m c t)

theorem final27 (c : Dev nD) : (dats m 0 c).arrAt 27 cfg0.N = Ref.gM (args m c) :=
  (dats m 0 c).arrAt_eq_of_cover 27 _ (fun t _ => flushed27 m c t) covered27

theorem flushed28 (c : Dev nD) (t : Fin cfg0.N) : (dats m 0 c).flushed 28 t = ((cfg0.win 28).blk t).view.read (Elt Ideal) (Ref.gS (args m c)) := by
  show (cfg0.win 28).cut (grid0.coords t) ((dats m 0 c).after 28 t) = _
  rw [after_28]
  exact cut28 t _ _ (agree28 m c t)

theorem final28 (c : Dev nD) : (dats m 0 c).arrAt 28 cfg0.N = Ref.gS (args m c) :=
  (dats m 0 c).arrAt_eq_of_cover 28 _ (fun t _ => flushed28 m c t) covered28

theorem flushed29 (c : Dev nD) (t : Fin cfg0.N) : (dats m 0 c).flushed 29 t = ((cfg0.win 29).blk t).view.read (Elt Ideal) (Ref.gK (args m c)) := by
  show (cfg0.win 29).cut (grid0.coords t) ((dats m 0 c).after 29 t) = _
  rw [after_29]
  exact cut29 t _ _ (agree29 m c t)

theorem final29 (c : Dev nD) : (dats m 0 c).arrAt 29 cfg0.N = Ref.gK (args m c) :=
  (dats m 0 c).arrAt_eq_of_cover 29 _ (fun t _ => flushed29 m c t) covered29

theorem flushed30 (c : Dev nD) (t : Fin cfg0.N) : (dats m 0 c).flushed 30 t = ((cfg0.win 30).blk t).view.read (Elt Ideal) (Ref.gI (args m c)) := by
  show (cfg0.win 30).cut (grid0.coords t) ((dats m 0 c).after 30 t) = _
  rw [after_30]
  exact cut30 t _ _ (agree30 m c t)

theorem final30 (c : Dev nD) : (dats m 0 c).arrAt 30 cfg0.N = Ref.gI (args m c) :=
  (dats m 0 c).arrAt_eq_of_cover 30 _ (fun t _ => flushed30 m c t) covered30

theorem flushed31 (c : Dev nD) (t : Fin cfg0.N) : (dats m 0 c).flushed 31 t = ((cfg0.win 31).blk t).view.read (Elt Ideal) (Ref.gQ (args m c)) := by
  show (cfg0.win 31).cut (grid0.coords t) ((dats m 0 c).after 31 t) = _
  rw [after_31]
  exact cut31 t _ _ (agree31 m c t)

theorem final31 (c : Dev nD) : (dats m 0 c).arrAt 31 cfg0.N = Ref.gQ (args m c) :=
  (dats m 0 c).arrAt_eq_of_cover 31 _ (fun t _ => flushed31 m c t) covered31

theorem flushed32 (c : Dev nD) (t : Fin cfg0.N) : (dats m 0 c).flushed 32 t = ((cfg0.win 32).blk t).view.read (Elt Ideal) (Ref.gV (args m c)) := by
  show (cfg0.win 32).cut (grid0.coords t) ((dats m 0 c).after 32 t) = _
  rw [after_32]
  exact cut32 t _ _ (agree32 m c t)

theorem final32 (c : Dev nD) : (dats m 0 c).arrAt 32 cfg0.N = Ref.gV (args m c) :=
  (dats m 0 c).arrAt_eq_of_cover 32 _ (fun t _ => flushed32 m c t) covered32

theorem flushed33 (c : Dev nD) (t : Fin cfg0.N) : (dats m 0 c).flushed 33 t = ((cfg0.win 33).blk t).view.read (Elt Ideal) (Ref.gZ (args m c)) := by
  show (cfg0.win 33).cut (grid0.coords t) ((dats m 0 c).after 33 t) = _
  rw [after_33]
  exact cut33 t _ _ (agree33 m c t)

theorem final33 (c : Dev nD) : (dats m 0 c).arrAt 33 cfg0.N = Ref.gZ (args m c) :=
  (dats m 0 c).arrAt_eq_of_cover 33 _ (fun t _ => flushed33 m c t) covered33

theorem flushed34 (c : Dev nD) (t : Fin cfg0.N) : (dats m 0 c).flushed 34 t = ((cfg0.win 34).blk t).view.read (Elt Ideal) (Ref.gR (args m c)) := by
  show (cfg0.win 34).cut (grid0.coords t) ((dats m 0 c).after 34 t) = _
  rw [after_34]
  exact cut34 t _ _ (agree34 m c t)

theorem final34 (c : Dev nD) : (dats m 0 c).arrAt 34 cfg0.N = Ref.gR (args m c) :=
  (dats m 0 c).arrAt_eq_of_cover 34 _ (fun t _ => flushed34 m c t) covered34

theorem flushed35 (c : Dev nD) (t : Fin cfg0.N) : (dats m 0 c).flushed 35 t = ((cfg0.win 35).blk t).view.read (Elt Ideal) (Ref.gW (args m c)) := by
  show (cfg0.win 35).cut (grid0.coords t) ((dats m 0 c).after 35 t) = _
  rw [after_35]
  exact cut35 t _ _ (agree35 m c t)

theorem final35 (c : Dev nD) : (dats m 0 c).arrAt 35 cfg0.N = Ref.gW (args m c) :=
  (dats m 0 c).arrAt_eq_of_cover 35 _ (fun t _ => flushed35 m c t) covered35

set_option maxHeartbeats 4000000 in
/-- The run of the kernel with its results at the reference's values. -/
theorem run : θ_run defs (onTc (τ := τ) (main (F := Ideal))) ⟨m, fun _ => 0, ρ⟩ (fun r => ∀ c : Dev nD,
      r.2.mem ((c.tc : Thread nD τ).loc main_v77_0) = Ref.gX (args m c)
      ∧ r.2.mem ((c.tc : Thread nD τ).loc main_v77_1) = Ref.gM (args m c)
      ∧ r.2.mem ((c.tc : Thread nD τ).loc main_v77_2) = Ref.gS (args m c)
      ∧ r.2.mem ((c.tc : Thread nD τ).loc main_v77_3) = Ref.gK (args m c)
      ∧ r.2.mem ((c.tc : Thread nD τ).loc main_v77_4) = Ref.gI (args m c)
      ∧ r.2.mem ((c.tc : Thread nD τ).loc main_v77_5) = Ref.gQ (args m c)
      ∧ r.2.mem ((c.tc : Thread nD τ).loc main_v77_6) = Ref.gV (args m c)
      ∧ r.2.mem ((c.tc : Thread nD τ).loc main_v77_7) = Ref.gZ (args m c)
      ∧ r.2.mem ((c.tc : Thread nD τ).loc main_v77_8) = Ref.gR (args m c)
      ∧ r.2.mem ((c.tc : Thread nD τ).loc main_v77_9) = Ref.gW (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.1.trans (final26 m c), (h c).1.2.1.trans (final27 m c), (h c).1.2.2.1.trans (final28 m c), (h c).1.2.2.2.1.trans (final29 m c), (h c).1.2.2.2.2.1.trans (final30 m c), (h c).1.2.2.2.2.2.1.trans (final31 m c), (h c).1.2.2.2.2.2.2.1.trans (final32 m c), (h c).1.2.2.2.2.2.2.2.1.trans (final33 m c), (h c).1.2.2.2.2.2.2.2.2.1.trans (final34 m c), (h c).1.2.2.2.2.2.2.2.2.2.trans (final35 m c), (h c).2⟩) (run_arrays m ρ)

end Cert.Proof.Proj

end
-- ==== Proof.Proj.RefRun.lean ====
/- The reference's ten results after its run, as the functions of its arguments that the reading of the kernel names. -/
module

public import proofs.«01_k».proof.Proof.Proj.Ref
public import proofs.«01_k».proof.Proof.Gen.Reference3Ideal.Run

@[expose] public section

set_option maxRecDepth 16384

noncomputable section

namespace Cert.Proof.Proj

open Cert.Reference3Ideal Cert.Reference3Ideal.Gen Idealize.ShloMosaic Idealize.ShloMosaic.TcCoe Idealize.SL Idealize.SL.Sem

variable (m : (ℓ : Loc nD τ sig) → Buf (Elt Ideal) ℓ) (ρ : Dev nD → PrngReg)

/-- The arguments' contents at the launch. -/
def refArgs (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

set_option maxHeartbeats 8000000 in
theorem ref_run : θ_run defs (onTc (τ := τ) (main (F := Ideal))) ⟨m, fun _ => 0, ρ⟩ (fun r => ∀ c : Dev nD,
      r.2.mem ((c.tc : Thread nD τ).loc main_v328) = Ref.gX (refArgs m c)
      ∧ r.2.mem ((c.tc : Thread nD τ).loc main_v330) = Ref.gM (refArgs m c)
      ∧ r.2.mem ((c.tc : Thread nD τ).loc main_v332) = Ref.gS (refArgs m c)
      ∧ r.2.mem ((c.tc : Thread nD τ).loc main_v334) = Ref.gK (refArgs m c)
      ∧ r.2.mem ((c.tc : Thread nD τ).loc main_v336) = Ref.gI (refArgs m c)
      ∧ r.2.mem ((c.tc : Thread nD τ).loc main_v340) = Ref.gQ (refArgs m c)
      ∧ r.2.mem ((c.tc : Thread nD τ).loc main_v343) = Ref.gV (refArgs m c)
      ∧ r.2.mem ((c.tc : Thread nD τ).loc main_v347) = Ref.gZ (refArgs m c)
      ∧ r.2.mem ((c.tc : Thread nD τ).loc main_v351) = Ref.gR (refArgs m c)
      ∧ r.2.mem ((c.tc : Thread nD τ).loc main_v353) = Ref.gW (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩) (Cert.Reference3Ideal.Value.run m ρ)
  all_goals rfl

end Cert.Proof.Proj

end
-- ==== Proof.Proj.Claims.lean ====
/- The claims about the call that closes a layer and projects the next one: it runs at either values, and its ten results are the
   reference's. -/
module

public import proofs.«01_k».proof.Defs
public import proofs.«01_k».proof.Proof.Proj.Same
public import proofs.«01_k».proof.Proof.Proj.Final
public import proofs.«01_k».proof.Proof.Proj.RefRun
public import Idealize.ShloMosaic.Adequacy
public import Idealize.ShloMosaic.Init

@[expose] public section

set_option maxRecDepth 16384

noncomputable section

namespace Cert.Proof.Proj

open Idealize.ShloMosaic Idealize.ShloMosaic.TcCoe Idealize.SL.Sem

set_option maxHeartbeats 4000000 in
/-- At the bit-exact values it runs, leaves its arguments unchanged and its counters at zero: its text is the ideal program's, run at
    `Bits`. -/
theorem frame_kernel3 : Cert.quiescent_Kernel3 := by
  intro m ρ _
  rw [defs_same]
  exact frame_run (F := Bits) m ρ

/-- The same at the ideal values. -/
theorem frame_kernel3Ideal : Cert.quiescent_Kernel3Ideal := fun m ρ _ => frame_run (F := Ideal) m ρ

/-- Its reference runs, leaves its arguments unchanged and its counters at zero. -/
theorem frame_reference3Ideal : Cert.quiescent_Reference3Ideal := fun m ρ _ =>
  (θ_run _ _ _).mono (fun r h => ⟨fun c => (h c).2.2.2.2.2.2.2.2.2.2, sem_eq_zero_of_no_sems (by decide) r.2⟩) (Cert.Reference3Ideal.Value.run m ρ)

set_option maxHeartbeats 8000000 in
/-- At the ideal values the call and its reference end with equal results. -/
theorem algebraic3 : Cert.algebraic_Kernel3Ideal_Reference3Ideal := by
  intro m g m' g' _ hargs
  have e : ∀ c, refArgs m' c = args m c := fun c => by
    obtain ⟨h0, h1, h2, h3, h4, h5, h6, h7, h8, h9, h10, h11, h12, h13, h14, h15⟩ := hargs c
    unfold refArgs args
    rw [h0, h1, h2, h3, h4, h5, h6, h7, h8, h9, h10, h11, h12, h13, h14, h15]
  refine ⟨_, _, _, _, _, _, _, _, _, _, run m g, (θ_run _ _ _).mono (fun r h c => ?_) (ref_run m' g')⟩
  have h := h c
  rw [e c] at h
  exact h

end Cert.Proof.Proj

end
-- ==== Proof.lean ====
module

public import proofs.«01_k».proof.Defs
public import proofs.«01_k».proof.Proof.Gen.Kernel
public import proofs.«01_k».proof.Proof.Keep.Frame
public import proofs.«01_k».proof.Proof.Keep.Same
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Project.Out
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Proj.Claims
public import Idealize.ShloMosaic.Adequacy
public import Idealize.ShloMosaic.Init

@[expose] public section

noncomputable section

namespace Cert.Proof

open Idealize.ShloMosaic Idealize.ShloMosaic.TcCoe Idealize.SL.Sem

/-- The attention kernel at the bit-exact values runs, leaves its arguments unchanged and its counters at zero: its text is the ideal
    program's, run at `Bits`. -/
theorem frame_kernel : Cert.quiescent_Kernel := by
  intro m ρ _
  rw [Keep.defs_eq]
  exact Keep.frame_run (F := Bits) m ρ

/-- The same at the ideal values. -/
theorem frame_kernelIdeal : Cert.quiescent_KernelIdeal := fun m ρ _ => Keep.frame_run (F := Ideal) m ρ

/-- The call that closes the last layer, at the bit-exact values: it runs, leaves its arguments unchanged and its counters at zero. -/
theorem frame_kernel2 : Cert.quiescent_Kernel2 := fun m ρ _ => Cert.Kernel2.Gen.frame m ρ

/-- The same at the ideal values. -/
theorem frame_kernel2Ideal : Cert.quiescent_Kernel2Ideal := fun m ρ _ => Cert.Kernel2Ideal.Gen.frame m ρ

/-- Its reference runs, leaves its arguments unchanged and its counters at zero. -/
theorem frame_reference2Ideal : Cert.quiescent_Reference2Ideal := fun m ρ _ =>
  (θ_run _ _ _).mono (fun r h => ⟨fun c => (h c).2, sem_eq_zero_of_no_sems (by decide) r.2⟩) (Cert.Reference2Ideal.Value.run m ρ)

/-- At the ideal values the call and its reference end with equal results. -/
theorem algebraic2 : Cert.algebraic_Kernel2Ideal_Reference2Ideal := by
  intro m g m' g' _ hargs
  refine ⟨_, Out.run m g, (θ_run _ _ _).mono (fun r h c => ⟨(h c).1.trans ?_, (h c).2⟩) (Cert.Reference2Ideal.Value.run m' g')⟩
  obtain ⟨h0, h1, h2, h3, h4, h5⟩ := hargs c
  rw [h0, h1, h2, h3, h4, h5]
  rfl

/-- `Cert.Claim`: the programs' stated facts, the frames, the idealizations, which rewrite nothing, and the equal results. -/
theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    frame_kernel, frame_kernelIdeal, frame_kernel2, frame_kernel2Ideal, frame_reference2Ideal,
    Proj.frame_kernel3, Proj.frame_kernel3Ideal, Proj.frame_reference3Ideal,
    trivial, trivial, algebraic2, trivial, Proj.algebraic3⟩

end Cert.Proof

end
